-- ==== Defs.lean ====
def Pre_Kernel [hPre_indices_in_range : Cert.Pre_indices_in_range.Facts] (m : (ℓ : Loc Cert.Kernel.nD Cert.Kernel.τ Cert.Kernel.sig) → Buf (Elt Bits) ℓ) : Prop :=
  ∀ c : Dev Cert.Kernel.nD,
    (Cert.Pre_indices_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_indices_in_range : Cert.Pre_indices_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_indices_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_indices_in_range [hPre_indices_in_range : Cert.Pre_indices_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepReferenceIdeal (m : (ℓ : Loc Cert.PrepReferenceIdeal.nD Cert.PrepReferenceIdeal.τ Cert.PrepReferenceIdeal.sig) → Buf (Elt Ideal) ℓ) : Prop :=
  True

def quiescent_Kernel [hKernel : Cert.Kernel.Facts] [hPre_indices_in_range : Cert.Pre_indices_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_indices_in_range [hReferenceIdeal : Cert.ReferenceIdeal.Facts] [hPre_indices_in_range : Cert.Pre_indices_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_indices_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0))
      ∧ r.2.sem = fun _ => 0)

def quiescent_PrepReferenceIdeal [hPrepReferenceIdeal : Cert.PrepReferenceIdeal.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Prep_PrepIdeal : Prop :=
  True

def algebraic_PrepIdeal_PrepReferenceIdeal [hPrepIdeal : Cert.PrepIdeal.Facts] [hPrepReferenceIdeal : Cert.PrepReferenceIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepReferenceIdeal.nD Cert.PrepReferenceIdeal.τ Cert.PrepReferenceIdeal.sig) → Buf (Elt Ideal) ℓ) (g' : Dev Cert.PrepReferenceIdeal.nD → PrngReg), Pre_PrepIdeal m →
    (∀ c : Dev Cert.PrepIdeal.nD,
      m' ((c.tc : Thread Cert.PrepReferenceIdeal.nD Cert.PrepReferenceIdeal.τ).loc Cert.PrepReferenceIdeal.main_arg0) = m ((c.tc : Thread Cert.PrepIdeal.nD Cert.PrepIdeal.τ).loc Cert.PrepIdeal.main_arg0)) →
    ∃ (v0 : (c : Dev Cert.PrepIdeal.nD) → Buf (Elt Ideal) ((c.tc : Thread Cert.PrepIdeal.nD Cert.PrepIdeal.τ).loc Cert.PrepIdeal.main_v1_0)) (v1 : (c : Dev Cert.PrepIdeal.nD) → Buf (Elt Ideal) ((c.tc : Thread Cert.PrepIdeal.nD Cert.PrepIdeal.τ).loc Cert.PrepIdeal.main_v1_1)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v1_0) = v0 c
          ∧ r.2.mem ((c.tc : Thread Cert.PrepIdeal.nD Cert.PrepIdeal.τ).loc Cert.PrepIdeal.main_v1_1) = v1 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0))
      ∧ θ_run (Cert.PrepReferenceIdeal.defs (F := Ideal)) (onTc (τ := Cert.PrepReferenceIdeal.τ) (Cert.PrepReferenceIdeal.main (F := Ideal))) ⟨m', fun _ => 0, g'⟩ (fun r => ∀ c : Dev Cert.PrepReferenceIdeal.nD,
          r.2.mem ((c.tc : Thread Cert.PrepReferenceIdeal.nD Cert.PrepReferenceIdeal.τ).loc Cert.PrepReferenceIdeal.main_v143) = v0 c
          ∧ r.2.mem ((c.tc : Thread Cert.PrepReferenceIdeal.nD Cert.PrepReferenceIdeal.τ).loc Cert.PrepReferenceIdeal.main_v147) = v1 c
          ∧ r.2.mem ((c.tc : Thread Cert.PrepReferenceIdeal.nD Cert.PrepReferenceIdeal.τ).loc Cert.PrepReferenceIdeal.main_arg0) = m' ((c.tc : Thread Cert.PrepReferenceIdeal.nD Cert.PrepReferenceIdeal.τ).loc Cert.PrepReferenceIdeal.main_arg0))

def Claim : Prop :=
  ∃ (hKernel : Cert.Kernel.Facts) (hKernelIdeal : Cert.KernelIdeal.Facts) (hReferenceIdeal : Cert.ReferenceIdeal.Facts) (hPrep : Cert.Prep.Facts) (hPrepIdeal : Cert.PrepIdeal.Facts) (hPrepReferenceIdeal : Cert.PrepReferenceIdeal.Facts) (hPre_indices_in_range : Cert.Pre_indices_in_range.Facts),
    quiescent_Kernel (hKernel := hKernel) (hPre_indices_in_range := hPre_indices_in_range)
    ∧ quiescent_KernelIdeal (hKernelIdeal := hKernelIdeal) (hPre_indices_in_range := hPre_indices_in_range)
    ∧ quiescent_ReferenceIdeal (hReferenceIdeal := hReferenceIdeal)
    ∧ quiescent_ReferenceIdeal_pre_indices_in_range (hReferenceIdeal := hReferenceIdeal) (hPre_indices_in_range := hPre_indices_in_range)
    ∧ quiescent_Prep (hPrep := hPrep)
    ∧ quiescent_PrepIdeal (hPrepIdeal := hPrepIdeal)
    ∧ quiescent_PrepReferenceIdeal (hPrepReferenceIdeal := hPrepReferenceIdeal)
    ∧ preserves_Kernel_KernelIdeal
    ∧ algebraic_KernelIdeal_ReferenceIdeal (hKernelIdeal := hKernelIdeal) (hReferenceIdeal := hReferenceIdeal) (hPre_indices_in_range := hPre_indices_in_range)
    ∧ preserves_Prep_PrepIdeal
    ∧ algebraic_PrepIdeal_PrepReferenceIdeal (hPrepIdeal := hPrepIdeal) (hPrepReferenceIdeal := hPrepReferenceIdeal)
-- ==== Pre_indices_in_range.lean ====
abbrev S153600x128 : Shape := ⟨2, ![153600, 128]⟩
abbrev S3x1048576 : Shape := ⟨2, ![3, 1048576]⟩
abbrev S16x1048576 : Shape := ⟨2, ![16, 1048576]⟩
abbrev S_ : Shape := ⟨0, ![]⟩

class Facts : Prop where
  bcast_S_S3x1048576 : S_.BroadcastsInDim S3x1048576 (![] : Fin 0 → Fin S3x1048576.rank)
  reducesTo_S3x1048576_S_d0_1 : S3x1048576.ReducesTo [0, 1] S_
  h_S_ : 0 < S_.numel

variable [Facts]

def fn {F : FTy → Type} [FloatOps F] (main_arg0 : FVec F S153600x128 .f32) (main_arg1 : FVec F S153600x128 .f32) (main_arg2 : FVec F S153600x128 .f32) (main_arg3 : IVec S3x1048576 32) (main_arg4 : FVec F S16x1048576 .bf16) : IVec S_ 1 :=
  let main_c : IVec S_ 32 := constantI S_ 32 0#32
  let main_v0 : IVec S3x1048576 32 := broadcastInDim S3x1048576 ![] bcast_S_S3x1048576 main_c
  let main_v1 : IVec S3x1048576 1 := cmpi .sge main_arg3 main_v0
  let main_c_0 : IVec S_ 32 := constantI S_ 32 153600#32
  let main_v2 : IVec S3x1048576 32 := broadcastInDim S3x1048576 ![] bcast_S_S3x1048576 main_c_0
  let main_v3 : IVec S3x1048576 1 := cmpi .slt main_arg3 main_v2
  let main_v4 : IVec S3x1048576 1 := andi main_v1 main_v3
  let main_c_1 : IVec S_ 1 := constantI S_ 1 1#1
  let main_v5 : IVec S_ 1 := (fun x v => Host.reduce IntOp.andi x v reducesTo_S3x1048576_S_d0_1 h_S_) main_v4 main_c_1
  main_v5
-- ==== Kernel.lean ====
abbrev S153600x128 : Shape := ⟨2, ![153600, 128]⟩
abbrev S3x1048576 : Shape := ⟨2, ![3, 1048576]⟩
abbrev S16x1048576 : Shape := ⟨2, ![16, 1048576]⟩
abbrev S16x384 : Shape := ⟨2, ![16, 384]⟩
abbrev S128x32 : Shape := ⟨2, ![128, 32]⟩
abbrev S393216x128 : Shape := ⟨2, ![393216, 128]⟩
abbrev S2x1x256 : Shape := ⟨3, ![2, 1, 256]⟩
abbrev S2 : Shape := ⟨1, ![2]⟩
abbrev S2x256x128 : Shape := ⟨3, ![2, 256, 128]⟩
abbrev S1x1x256 : Shape := ⟨3, ![1, 1, 256]⟩
abbrev S1x256 : Shape := ⟨2, ![1, 256]⟩
abbrev S1 : Shape := ⟨1, ![1]⟩
abbrev S_ : Shape := ⟨0, ![]⟩
abbrev S1x256x128 : Shape := ⟨3, ![1, 256, 128]⟩
abbrev S256x128 : Shape := ⟨2, ![256, 128]⟩
abbrev S256 : Shape := ⟨1, ![256]⟩
abbrev S3x131072x128 : Shape := ⟨3, ![3, 131072, 128]⟩
abbrev S32x1048576 : Shape := ⟨2, ![32, 1048576]⟩
abbrev S16x2048 : Shape := ⟨2, ![16, 2048]⟩
abbrev S3x2048x128 : Shape := ⟨3, ![3, 2048, 128]⟩
abbrev S32x2048 : Shape := ⟨2, ![32, 2048]⟩
abbrev S2048x16 : Shape := ⟨2, ![2048, 16]⟩
abbrev S2048x384 : Shape := ⟨2, ![2048, 384]⟩
abbrev S1x2048x128 : Shape := ⟨3, ![1, 2048, 128]⟩
abbrev S2048x128 : Shape := ⟨2, ![2048, 128]⟩
abbrev S1048576x32 : Shape := ⟨2, ![1048576, 32]⟩

abbrev nBuf : Table → Nat
  | .hbm => 32
  | .local .tc .vmem => 64
  | .local .scVector .vmem => 48
  | _ => 0

abbrev bufTy : (tb : Table) → Fin (nBuf tb) → BufTy
  | .hbm, ⟨0, _⟩ => ⟨S153600x128, .f32⟩
  | .hbm, ⟨1, _⟩ => ⟨S153600x128, .f32⟩
  | .hbm, ⟨2, _⟩ => ⟨S153600x128, .f32⟩
  | .hbm, ⟨3, _⟩ => ⟨S3x1048576, .i32⟩
  | .hbm, ⟨4, _⟩ => ⟨S16x1048576, .bf16⟩
  | .hbm, ⟨5, _⟩ => ⟨S16x384, .bf16⟩
  | .hbm, ⟨6, _⟩ => ⟨S128x32, .bf16⟩
  | .hbm, ⟨7, _⟩ => ⟨S393216x128, .f32⟩
  | .hbm, ⟨8, _⟩ => ⟨S3x131072x128, .f32⟩
  | .hbm, ⟨9, _⟩ => ⟨S32x1048576, .f32⟩
  | .hbm, ⟨10, _⟩ => ⟨S393216x128, .f32⟩
  | .hbm, ⟨11, _⟩ => ⟨S3x131072x128, .f32⟩
  | .hbm, ⟨12, _⟩ => ⟨S32x1048576, .f32⟩
  | .hbm, ⟨13, _⟩ => ⟨S393216x128, .f32⟩
  | .hbm, ⟨14, _⟩ => ⟨S3x131072x128, .f32⟩
  | .hbm, ⟨15, _⟩ => ⟨S32x1048576, .f32⟩
  | .hbm, ⟨16, _⟩ => ⟨S393216x128, .f32⟩
  | .hbm, ⟨17, _⟩ => ⟨S3x131072x128, .f32⟩
  | .hbm, ⟨18, _⟩ => ⟨S32x1048576, .f32⟩
  | .hbm, ⟨19, _⟩ => ⟨S393216x128, .f32⟩
  | .hbm, ⟨20, _⟩ => ⟨S3x131072x128, .f32⟩
  | .hbm, ⟨21, _⟩ => ⟨S32x1048576, .f32⟩
  | .hbm, ⟨22, _⟩ => ⟨S393216x128, .f32⟩
  | .hbm, ⟨23, _⟩ => ⟨S3x131072x128, .f32⟩
  | .hbm, ⟨24, _⟩ => ⟨S32x1048576, .f32⟩
  | .hbm, ⟨25, _⟩ => ⟨S393216x128, .f32⟩
  | .hbm, ⟨26, _⟩ => ⟨S3x131072x128, .f32⟩
  | .hbm, ⟨27, _⟩ => ⟨S32x1048576, .f32⟩
  | .hbm, ⟨28, _⟩ => ⟨S393216x128, .f32⟩
  | .hbm, ⟨29, _⟩ => ⟨S3x131072x128, .f32⟩
  | .hbm, ⟨30, _⟩ => ⟨S32x1048576, .f32⟩
  | .hbm, ⟨31, _⟩ => ⟨S1048576x32, .f32⟩
  | .local .tc .vmem, ⟨0, _⟩ => ⟨S16x2048, .bf16⟩
  | .local .tc .vmem, ⟨1, _⟩ => ⟨S16x2048, .bf16⟩
  | .local .tc .vmem, ⟨2, _⟩ => ⟨S3x2048x128, .f32⟩
  | .local .tc .vmem, ⟨3, _⟩ => ⟨S3x2048x128, .f32⟩
  | .local .tc .vmem, ⟨4, _⟩ => ⟨S16x384, .bf16⟩
  | .local .tc .vmem, ⟨5, _⟩ => ⟨S128x32, .bf16⟩
  | .local .tc .vmem, ⟨6, _⟩ => ⟨S32x2048, .f32⟩
  | .local .tc .vmem, ⟨7, _⟩ => ⟨S32x2048, .f32⟩
  | .local .tc .vmem, ⟨8, _⟩ => ⟨S16x2048, .bf16⟩
  | .local .tc .vmem, ⟨9, _⟩ => ⟨S16x2048, .bf16⟩
  | .local .tc .vmem, ⟨10, _⟩ => ⟨S3x2048x128, .f32⟩
  | .local .tc .vmem, ⟨11, _⟩ => ⟨S3x2048x128, .f32⟩
  | .local .tc .vmem, ⟨12, _⟩ => ⟨S16x384, .bf16⟩
  | .local .tc .vmem, ⟨13, _⟩ => ⟨S128x32, .bf16⟩
  | .local .tc .vmem, ⟨14, _⟩ => ⟨S32x2048, .f32⟩
  | .local .tc .vmem, ⟨15, _⟩ => ⟨S32x2048, .f32⟩
  | .local .tc .vmem, ⟨16, _⟩ => ⟨S16x2048, .bf16⟩
  | .local .tc .vmem, ⟨17, _⟩ => ⟨S16x2048, .bf16⟩
  | .local .tc .vmem, ⟨18, _⟩ => ⟨S3x2048x128, .f32⟩
  | .local .tc .vmem, ⟨19, _⟩ => ⟨S3x2048x128, .f32⟩
  | .local .tc .vmem, ⟨20, _⟩ => ⟨S16x384, .bf16⟩
  | .local .tc .vmem, ⟨21, _⟩ => ⟨S128x32, .bf16⟩
  | .local .tc .vmem, ⟨22, _⟩ => ⟨S32x2048, .f32⟩
  | .local .tc .vmem, ⟨23, _⟩ => ⟨S32x2048, .f32⟩
  | .local .tc .vmem, ⟨24, _⟩ => ⟨S16x2048, .bf16⟩
  | .local .tc .vmem, ⟨25, _⟩ => ⟨S16x2048, .bf16⟩
  | .local .tc .vmem, ⟨26, _⟩ => ⟨S3x2048x128, .f32⟩
  | .local .tc .vmem, ⟨27, _⟩ => ⟨S3x2048x128, .f32⟩
  | .local .tc .vmem, ⟨28, _⟩ => ⟨S16x384, .bf16⟩
  | .local .tc .vmem, ⟨29, _⟩ => ⟨S128x32, .bf16⟩
  | .local .tc .vmem, ⟨30, _⟩ => ⟨S32x2048, .f32⟩
  | .local .tc .vmem, ⟨31, _⟩ => ⟨S32x2048, .f32⟩
  | .local .tc .vmem, ⟨32, _⟩ => ⟨S16x2048, .bf16⟩
  | .local .tc .vmem, ⟨33, _⟩ => ⟨S16x2048, .bf16⟩
  | .local .tc .vmem, ⟨34, _⟩ => ⟨S3x2048x128, .f32⟩
  | .local .tc .vmem, ⟨35, _⟩ => ⟨S3x2048x128, .f32⟩
  | .local .tc .vmem, ⟨36, _⟩ => ⟨S16x384, .bf16⟩
  | .local .tc .vmem, ⟨37, _⟩ => ⟨S128x32, .bf16⟩
  | .local .tc .vmem, ⟨38, _⟩ => ⟨S32x2048, .f32⟩
  | .local .tc .vmem, ⟨39, _⟩ => ⟨S32x2048, .f32⟩
  | .local .tc .vmem, ⟨40, _⟩ => ⟨S16x2048, .bf16⟩
  | .local .tc .vmem, ⟨41, _⟩ => ⟨S16x2048, .bf16⟩
  | .local .tc .vmem, ⟨42, _⟩ => ⟨S3x2048x128, .f32⟩
  | .local .tc .vmem, ⟨43, _⟩ => ⟨S3x2048x128, .f32⟩
  | .local .tc .vmem, ⟨44, _⟩ => ⟨S16x384, .bf16⟩
  | .local .tc .vmem, ⟨45, _⟩ => ⟨S128x32, .bf16⟩
  | .local .tc .vmem, ⟨46, _⟩ => ⟨S32x2048, .f32⟩
  | .local .tc .vmem, ⟨47, _⟩ => ⟨S32x2048, .f32⟩
  | .local .tc .vmem, ⟨48, _⟩ => ⟨S16x2048, .bf16⟩
  | .local .tc .vmem, ⟨49, _⟩ => ⟨S16x2048, .bf16⟩
  | .local .tc .vmem, ⟨50, _⟩ => ⟨S3x2048x128, .f32⟩
  | .local .tc .vmem, ⟨51, _⟩ => ⟨S3x2048x128, .f32⟩
  | .local .tc .vmem, ⟨52, _⟩ => ⟨S16x384, .bf16⟩
  | .local .tc .vmem, ⟨53, _⟩ => ⟨S128x32, .bf16⟩
  | .local .tc .vmem, ⟨54, _⟩ => ⟨S32x2048, .f32⟩
  | .local .tc .vmem, ⟨55, _⟩ => ⟨S32x2048, .f32⟩
  | .local .tc .vmem, ⟨56, _⟩ => ⟨S16x2048, .bf16⟩
  | .local .tc .vmem, ⟨57, _⟩ => ⟨S16x2048, .bf16⟩
  | .local .tc .vmem, ⟨58, _⟩ => ⟨S3x2048x128, .f32⟩
  | .local .tc .vmem, ⟨59, _⟩ => ⟨S3x2048x128, .f32⟩
  | .local .tc .vmem, ⟨60, _⟩ => ⟨S16x384, .bf16⟩
  | .local .tc .vmem, ⟨61, _⟩ => ⟨S128x32, .bf16⟩
  | .local .tc .vmem, ⟨62, _⟩ => ⟨S32x2048, .f32⟩
  | .local .tc .vmem, ⟨63, _⟩ => ⟨S32x2048, .f32⟩
  | .local .scVector .vmem, ⟨0, _⟩ => ⟨S2x1x256, .i32⟩
  | .local .scVector .vmem, ⟨1, _⟩ => ⟨S2x256x128, .f32⟩
  | .local .scVector .vmem, ⟨2, _⟩ => ⟨S2x1x256, .i32⟩
  | .local .scVector .vmem, ⟨3, _⟩ => ⟨S2x256x128, .f32⟩
  | .local .scVector .vmem, ⟨4, _⟩ => ⟨S2x1x256, .i32⟩
  | .local .scVector .vmem, ⟨5, _⟩ => ⟨S2x256x128, .f32⟩
  | .local .scVector .vmem, ⟨6, _⟩ => ⟨S2x1x256, .i32⟩
  | .local .scVector .vmem, ⟨7, _⟩ => ⟨S2x256x128, .f32⟩
  | .local .scVector .vmem, ⟨8, _⟩ => ⟨S2x1x256, .i32⟩
  | .local .scVector .vmem, ⟨9, _⟩ => ⟨S2x256x128, .f32⟩
  | .local .scVector .vmem, ⟨10, _⟩ => ⟨S2x1x256, .i32⟩
  | .local .scVector .vmem, ⟨11, _⟩ => ⟨S2x256x128, .f32⟩
  | .local .scVector .vmem, ⟨12, _⟩ => ⟨S2x1x256, .i32⟩
  | .local .scVector .vmem, ⟨13, _⟩ => ⟨S2x256x128, .f32⟩
  | .local .scVector .vmem, ⟨14, _⟩ => ⟨S2x1x256, .i32⟩
  | .local .scVector .vmem, ⟨15, _⟩ => ⟨S2x256x128, .f32⟩
  | .local .scVector .vmem, ⟨16, _⟩ => ⟨S2x1x256, .i32⟩
  | .local .scVector .vmem, ⟨17, _⟩ => ⟨S2x256x128, .f32⟩
  | .local .scVector .vmem, ⟨18, _⟩ => ⟨S2x1x256, .i32⟩
  | .local .scVector .vmem, ⟨19, _⟩ => ⟨S2x256x128, .f32⟩
  | .local .scVector .vmem, ⟨20, _⟩ => ⟨S2x1x256, .i32⟩
  | .local .scVector .vmem, ⟨21, _⟩ => ⟨S2x256x128, .f32⟩
  | .local .scVector .vmem, ⟨22, _⟩ => ⟨S2x1x256, .i32⟩
  | .local .scVector .vmem, ⟨23, _⟩ => ⟨S2x256x128, .f32⟩
  | .local .scVector .vmem, ⟨24, _⟩ => ⟨S2x1x256, .i32⟩
  | .local .scVector .vmem, ⟨25, _⟩ => ⟨S2x256x128, .f32⟩
  | .local .scVector .vmem, ⟨26, _⟩ => ⟨S2x1x256, .i32⟩
  | .local .scVector .vmem, ⟨27, _⟩ => ⟨S2x256x128, .f32⟩
  | .local .scVector .vmem, ⟨28, _⟩ => ⟨S2x1x256, .i32⟩
  | .local .scVector .vmem, ⟨29, _⟩ => ⟨S2x256x128, .f32⟩
  | .local .scVector .vmem, ⟨30, _⟩ => ⟨S2x1x256, .i32⟩
  | .local .scVector .vmem, ⟨31, _⟩ => ⟨S2x256x128, .f32⟩
  | .local .scVector .vmem, ⟨32, _⟩ => ⟨S2x1x256, .i32⟩
  | .local .scVector .vmem, ⟨33, _⟩ => ⟨S2x256x128, .f32⟩
  | .local .scVector .vmem, ⟨34, _⟩ => ⟨S2x1x256, .i32⟩
  | .local .scVector .vmem, ⟨35, _⟩ => ⟨S2x256x128, .f32⟩
  | .local .scVector .vmem, ⟨36, _⟩ => ⟨S2x1x256, .i32⟩
  | .local .scVector .vmem, ⟨37, _⟩ => ⟨S2x256x128, .f32⟩
  | .local .scVector .vmem, ⟨38, _⟩ => ⟨S2x1x256, .i32⟩
  | .local .scVector .vmem, ⟨39, _⟩ => ⟨S2x256x128, .f32⟩
  | .local .scVector .vmem, ⟨40, _⟩ => ⟨S2x1x256, .i32⟩
  | .local .scVector .vmem, ⟨41, _⟩ => ⟨S2x256x128, .f32⟩
  | .local .scVector .vmem, ⟨42, _⟩ => ⟨S2x1x256, .i32⟩
  | .local .scVector .vmem, ⟨43, _⟩ => ⟨S2x256x128, .f32⟩
  | .local .scVector .vmem, ⟨44, _⟩ => ⟨S2x1x256, .i32⟩
  | .local .scVector .vmem, ⟨45, _⟩ => ⟨S2x256x128, .f32⟩
  | .local .scVector .vmem, ⟨46, _⟩ => ⟨S2x1x256, .i32⟩
  | .local .scVector .vmem, ⟨47, _⟩ => ⟨S2x256x128, .f32⟩
  | _, _ => ⟨S153600x128, .f32⟩

abbrev dmaSemScopedAt0_0 (i : Nat) : Bool := match i % 128 with
  | 0 => false
  | 1 => false
  | 2 => false
  | 3 => false
  | 4 => false
  | 5 => false
  | 6 => false
  | 7 => false
  | 8 => false
  | 9 => false
  | 10 => false
  | 11 => false
  | 12 => false
  | 13 => false
  | 14 => false
  | 15 => true
  | 16 => true
  | 17 => true
  | 18 => true
  | 19 => true
  | 20 => true
  | 21 => true
  | 22 => true
  | 23 => false
  | 24 => false
  | 25 => false
  | 26 => false
  | 27 => false
  | 28 => false
  | 29 => false
  | 30 => false
  | 31 => false
  | 32 => false
  | 33 => false
  | 34 => false
  | 35 => false
  | 36 => false
  | 37 => false
  | 38 => true
  | 39 => true
  | 40 => true
  | 41 => true
  | 42 => true
  | 43 => true
  | 44 => true
  | 45 => true
  | 46 => false
  | 47 => false
  | 48 => false
  | 49 => false
  | 50 => false
  | 51 => false
  | 52 => false
  | 53 => false
  | 54 => false
  | 55 => false
  | 56 => false
  | 57 => false
  | 58 => false
  | 59 => false
  | 60 => false
  | 61 => true
  | 62 => true
  | 63 => true
  | 64 => true
  | 65 => true
  | 66 => true
  | 67 => true
  | 68 => true
  | 69 => false
  | 70 => false
  | 71 => false
  | 72 => false
  | 73 => false
  | 74 => false
  | 75 => false
  | 76 => false
  | 77 => false
  | 78 => false
  | 79 => false
  | 80 => false
  | 81 => false
  | 82 => false
  | 83 => false
  | 84 => true
  | 85 => true
  | 86 => true
  | 87 => true
  | 88 => true
  | 89 => true
  | 90 => true
  | 91 => true
  | 92 => false
  | 93 => false
  | 94 => false
  | 95 => false
  | 96 => false
  | 97 => false
  | 98 => false
  | 99 => false
  | 100 => false
  | 101 => false
  | 102 => false
  | 103 => false
  | 104 => false
  | 105 => false
  | 106 => false
  | 107 => true
  | 108 => true
  | 109 => true
  | 110 => true
  | 111 => true
  | 112 => true
  | 113 => true
  | 114 => true
  | 115 => false
  | 116 => false
  | 117 => false
  | 118 => false
  | 119 => false
  | 120 => false
  | 121 => false
  | 122 => false
  | 123 => false
  | 124 => false
  | 125 => false
  | 126 => false
  | 127 => false
  | _ => false

abbrev dmaSemScopedAt0_1 (i : Nat) : Bool := match i % 128 with
  | 0 => false
  | 1 => false
  | 2 => true
  | 3 => true
  | 4 => true
  | 5 => true
  | 6 => true
  | 7 => true
  | 8 => true
  | 9 => true
  | 10 => false
  | 11 => false
  | 12 => false
  | 13 => false
  | 14 => false
  | 15 => false
  | 16 => false
  | 17 => false
  | 18 => false
  | 19 => false
  | 20 => false
  | 21 => false
  | 22 => false
  | 23 => false
  | 24 => false
  | 25 => true
  | 26 => true
  | 27 => true
  | 28 => true
  | 29 => true
  | 30 => true
  | 31 => true
  | 32 => true
  | 33 => false
  | 34 => false
  | 35 => false
  | 36 => false
  | 37 => false
  | 38 => false
  | 39 => false
  | 40 => false
  | 41 => false
  | 42 => false
  | 43 => false
  | 44 => false
  | 45 => false
  | 46 => false
  | 47 => false
  | 48 => true
  | 49 => true
  | 50 => true
  | 51 => true
  | 52 => true
  | 53 => true
  | 54 => true
  | 55 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 184 → Bool
  | ⟨i, _⟩ => dmaSemScopedAt i

abbrev sig : RefSig :=
  ofTables nBuf rfl bufTy 4 184 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_v0_scv : Ref sig .scVector := ⟨.hbm, 7, rfl⟩
abbrev main_v3_scv : Ref sig .scVector := ⟨.hbm, 10, rfl⟩
abbrev main_v6_scv : Ref sig .scVector := ⟨.hbm, 13, rfl⟩
abbrev main_v9_scv : Ref sig .scVector := ⟨.hbm, 16, rfl⟩
abbrev main_v12_scv : Ref sig .scVector := ⟨.hbm, 19, rfl⟩
abbrev main_v15_scv : Ref sig .scVector := ⟨.hbm, 22, rfl⟩
abbrev main_v18_scv : Ref sig .scVector := ⟨.hbm, 25, rfl⟩
abbrev main_v21_scv : Ref sig .scVector := ⟨.hbm, 28, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg4_1 : Ref sig .tc := ⟨.vmem, 7, rfl⟩
abbrev cc3_stg0_0 : Ref sig .tc := ⟨.vmem, 8, rfl⟩
abbrev cc3_stg0_1 : Ref sig .tc := ⟨.vmem, 9, rfl⟩
abbrev cc3_stg1_0 : Ref sig .tc := ⟨.vmem, 10, rfl⟩
abbrev cc3_stg1_1 : Ref sig .tc := ⟨.vmem, 11, rfl⟩
abbrev cc3_stg2_0 : Ref sig .tc := ⟨.vmem, 12, rfl⟩
abbrev cc3_stg3_0 : Ref sig .tc := ⟨.vmem, 13, rfl⟩
abbrev cc3_stg4_0 : Ref sig .tc := ⟨.vmem, 14, rfl⟩
abbrev cc3_stg4_1 : Ref sig .tc := ⟨.vmem, 15, rfl⟩
abbrev cc5_stg0_0 : Ref sig .tc := ⟨.vmem, 16, rfl⟩
abbrev cc5_stg0_1 : Ref sig .tc := ⟨.vmem, 17, rfl⟩
abbrev cc5_stg1_0 : Ref sig .tc := ⟨.vmem, 18, rfl⟩
abbrev cc5_stg1_1 : Ref sig .tc := ⟨.vmem, 19, rfl⟩
abbrev cc5_stg2_0 : Ref sig .tc := ⟨.vmem, 20, rfl⟩
abbrev cc5_stg3_0 : Ref sig .tc := ⟨.vmem, 21, rfl⟩
abbrev cc5_stg4_0 : Ref sig .tc := ⟨.vmem, 22, rfl⟩
abbrev cc5_stg4_1 : Ref sig .tc := ⟨.vmem, 23, rfl⟩
abbrev cc7_stg0_0 : Ref sig .tc := ⟨.vmem, 24, rfl⟩
abbrev cc7_stg0_1 : Ref sig .tc := ⟨.vmem, 25, rfl⟩
abbrev cc7_stg1_0 : Ref sig .tc := ⟨.vmem, 26, rfl⟩
abbrev cc7_stg1_1 : Ref sig .tc := ⟨.vmem, 27, rfl⟩
abbrev cc7_stg2_0 : Ref sig .tc := ⟨.vmem, 28, rfl⟩
abbrev cc7_stg3_0 : Ref sig .tc := ⟨.vmem, 29, rfl⟩
abbrev cc7_stg4_0 : Ref sig .tc := ⟨.vmem, 30, rfl⟩
abbrev cc7_stg4_1 : Ref sig .tc := ⟨.vmem, 31, rfl⟩
abbrev cc9_stg0_0 : Ref sig .tc := ⟨.vmem, 32, rfl⟩
abbrev cc9_stg0_1 : Ref sig .tc := ⟨.vmem, 33, rfl⟩
abbrev cc9_stg1_0 : Ref sig .tc := ⟨.vmem, 34, rfl⟩
abbrev cc9_stg1_1 : Ref sig .tc := ⟨.vmem, 35, rfl⟩
abbrev cc9_stg2_0 : Ref sig .tc := ⟨.vmem, 36, rfl⟩
abbrev cc9_stg3_0 : Ref sig .tc := ⟨.vmem, 37, rfl⟩
abbrev cc9_stg4_0 : Ref sig .tc := ⟨.vmem, 38, rfl⟩
abbrev cc9_stg4_1 : Ref sig .tc := ⟨.vmem, 39, rfl⟩
abbrev cc11_stg0_0 : Ref sig .tc := ⟨.vmem, 40, rfl⟩
abbrev cc11_stg0_1 : Ref sig .tc := ⟨.vmem, 41, rfl⟩
abbrev cc11_stg1_0 : Ref sig .tc := ⟨.vmem, 42, rfl⟩
abbrev cc11_stg1_1 : Ref sig .tc := ⟨.vmem, 43, rfl⟩
abbrev cc11_stg2_0 : Ref sig .tc := ⟨.vmem, 44, rfl⟩
abbrev cc11_stg3_0 : Ref sig .tc := ⟨.vmem, 45, rfl⟩
abbrev cc11_stg4_0 : Ref sig .tc := ⟨.vmem, 46, rfl⟩
abbrev cc11_stg4_1 : Ref sig .tc := ⟨.vmem, 47, rfl⟩
abbrev cc13_stg0_0 : Ref sig .tc := ⟨.vmem, 48, rfl⟩
abbrev cc13_stg0_1 : Ref sig .tc := ⟨.vmem, 49, rfl⟩
abbrev cc13_stg1_0 : Ref sig .tc := ⟨.vmem, 50, rfl⟩
abbrev cc13_stg1_1 : Ref sig .tc := ⟨.vmem, 51, rfl⟩
abbrev cc13_stg2_0 : Ref sig .tc := ⟨.vmem, 52, rfl⟩
abbrev cc13_stg3_0 : Ref sig .tc := ⟨.vmem, 53, rfl⟩
abbrev cc13_stg4_0 : Ref sig .tc := ⟨.vmem, 54, rfl⟩
abbrev cc13_stg4_1 : Ref sig .tc := ⟨.vmem, 55, rfl⟩
abbrev cc15_stg0_0 : Ref sig .tc := ⟨.vmem, 56, rfl⟩
abbrev cc15_stg0_1 : Ref sig .tc := ⟨.vmem, 57, rfl⟩
abbrev cc15_stg1_0 : Ref sig .tc := ⟨.vmem, 58, rfl⟩
abbrev cc15_stg1_1 : Ref sig .tc := ⟨.vmem, 59, rfl⟩
abbrev cc15_stg2_0 : Ref sig .tc := ⟨.vmem, 60, rfl⟩
abbrev cc15_stg3_0 : Ref sig .tc := ⟨.vmem, 61, rfl⟩
abbrev cc15_stg4_0 : Ref sig .tc := ⟨.vmem, 62, rfl⟩
abbrev cc15_stg4_1 : Ref sig .tc := ⟨.vmem, 63, rfl⟩
abbrev cc0_scoped0 : Ref sig .scVector := ⟨.vmem, 0, rfl⟩
abbrev cc0_scoped2 : Ref sig .scVector := ⟨.vmem, 1, rfl⟩
abbrev cc0_scoped5 : Ref sig .scVector := ⟨.vmem, 2, rfl⟩
abbrev cc0_scoped7 : Ref sig .scVector := ⟨.vmem, 3, rfl⟩
abbrev cc0_scoped10 : Ref sig .scVector := ⟨.vmem, 4, rfl⟩
abbrev cc0_scoped12 : Ref sig .scVector := ⟨.vmem, 5, rfl⟩
abbrev cc2_scoped0 : Ref sig .scVector := ⟨.vmem, 6, rfl⟩
abbrev cc2_scoped2 : Ref sig .scVector := ⟨.vmem, 7, rfl⟩
abbrev cc2_scoped5 : Ref sig .scVector := ⟨.vmem, 8, rfl⟩
abbrev cc2_scoped7 : Ref sig .scVector := ⟨.vmem, 9, rfl⟩
abbrev cc2_scoped10 : Ref sig .scVector := ⟨.vmem, 10, rfl⟩
abbrev cc2_scoped12 : Ref sig .scVector := ⟨.vmem, 11, rfl⟩
abbrev cc4_scoped0 : Ref sig .scVector := ⟨.vmem, 12, rfl⟩
abbrev cc4_scoped2 : Ref sig .scVector := ⟨.vmem, 13, rfl⟩
abbrev cc4_scoped5 : Ref sig .scVector := ⟨.vmem, 14, rfl⟩
abbrev cc4_scoped7 : Ref sig .scVector := ⟨.vmem, 15, rfl⟩
abbrev cc4_scoped10 : Ref sig .scVector := ⟨.vmem, 16, rfl⟩
abbrev cc4_scoped12 : Ref sig .scVector := ⟨.vmem, 17, rfl⟩
abbrev cc6_scoped0 : Ref sig .scVector := ⟨.vmem, 18, rfl⟩
abbrev cc6_scoped2 : Ref sig .scVector := ⟨.vmem, 19, rfl⟩
abbrev cc6_scoped5 : Ref sig .scVector := ⟨.vmem, 20, rfl⟩
abbrev cc6_scoped7 : Ref sig .scVector := ⟨.vmem, 21, rfl⟩
abbrev cc6_scoped10 : Ref sig .scVector := ⟨.vmem, 22, rfl⟩
abbrev cc6_scoped12 : Ref sig .scVector := ⟨.vmem, 23, rfl⟩
abbrev cc8_scoped0 : Ref sig .scVector := ⟨.vmem, 24, rfl⟩
abbrev cc8_scoped2 : Ref sig .scVector := ⟨.vmem, 25, rfl⟩
abbrev cc8_scoped5 : Ref sig .scVector := ⟨.vmem, 26, rfl⟩
abbrev cc8_scoped7 : Ref sig .scVector := ⟨.vmem, 27, rfl⟩
abbrev cc8_scoped10 : Ref sig .scVector := ⟨.vmem, 28, rfl⟩
abbrev cc8_scoped12 : Ref sig .scVector := ⟨.vmem, 29, rfl⟩
abbrev cc10_scoped0 : Ref sig .scVector := ⟨.vmem, 30, rfl⟩
abbrev cc10_scoped2 : Ref sig .scVector := ⟨.vmem, 31, rfl⟩
abbrev cc10_scoped5 : Ref sig .scVector := ⟨.vmem, 32, rfl⟩
abbrev cc10_scoped7 : Ref sig .scVector := ⟨.vmem, 33, rfl⟩
abbrev cc10_scoped10 : Ref sig .scVector := ⟨.vmem, 34, rfl⟩
abbrev cc10_scoped12 : Ref sig .scVector := ⟨.vmem, 35, rfl⟩
abbrev cc12_scoped0 : Ref sig .scVector := ⟨.vmem, 36, rfl⟩
abbrev cc12_scoped2 : Ref sig .scVector := ⟨.vmem, 37, rfl⟩
abbrev cc12_scoped5 : Ref sig .scVector := ⟨.vmem, 38, rfl⟩
abbrev cc12_scoped7 : Ref sig .scVector := ⟨.vmem, 39, rfl⟩
abbrev cc12_scoped10 : Ref sig .scVector := ⟨.vmem, 40, rfl⟩
abbrev cc12_scoped12 : Ref sig .scVector := ⟨.vmem, 41, rfl⟩
abbrev cc14_scoped0 : Ref sig .scVector := ⟨.vmem, 42, rfl⟩
abbrev cc14_scoped2 : Ref sig .scVector := ⟨.vmem, 43, rfl⟩
abbrev cc14_scoped5 : Ref sig .scVector := ⟨.vmem, 44, rfl⟩
abbrev cc14_scoped7 : Ref sig .scVector := ⟨.vmem, 45, rfl⟩
abbrev cc14_scoped10 : Ref sig .scVector := ⟨.vmem, 46, rfl⟩
abbrev cc14_scoped12 : Ref sig .scVector := ⟨.vmem, 47, rfl⟩
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem3_0 : DmaSem sig := 20
abbrev cc1_sem4_0 : DmaSem sig := 21
abbrev cc1_sem4_1 : DmaSem sig := 22
abbrev cc3_sem0_0 : DmaSem sig := 38
abbrev cc3_sem0_1 : DmaSem sig := 39
abbrev cc3_sem1_0 : DmaSem sig := 40
abbrev cc3_sem1_1 : DmaSem sig := 41
abbrev cc3_sem2_0 : DmaSem sig := 42
abbrev cc3_sem3_0 : DmaSem sig := 43
abbrev cc3_sem4_0 : DmaSem sig := 44
abbrev cc3_sem4_1 : DmaSem sig := 45
abbrev cc5_sem0_0 : DmaSem sig := 61
abbrev cc5_sem0_1 : DmaSem sig := 62
abbrev cc5_sem1_0 : DmaSem sig := 63
abbrev cc5_sem1_1 : DmaSem sig := 64
abbrev cc5_sem2_0 : DmaSem sig := 65
abbrev cc5_sem3_0 : DmaSem sig := 66
abbrev cc5_sem4_0 : DmaSem sig := 67
abbrev cc5_sem4_1 : DmaSem sig := 68
abbrev cc7_sem0_0 : DmaSem sig := 84
abbrev cc7_sem0_1 : DmaSem sig := 85
abbrev cc7_sem1_0 : DmaSem sig := 86
abbrev cc7_sem1_1 : DmaSem sig := 87
abbrev cc7_sem2_0 : DmaSem sig := 88
abbrev cc7_sem3_0 : DmaSem sig := 89
abbrev cc7_sem4_0 : DmaSem sig := 90
abbrev cc7_sem4_1 : DmaSem sig := 91
abbrev cc9_sem0_0 : DmaSem sig := 107
abbrev cc9_sem0_1 : DmaSem sig := 108
abbrev cc9_sem1_0 : DmaSem sig := 109
abbrev cc9_sem1_1 : DmaSem sig := 110
abbrev cc9_sem2_0 : DmaSem sig := 111
abbrev cc9_sem3_0 : DmaSem sig := 112
abbrev cc9_sem4_0 : DmaSem sig := 113
abbrev cc9_sem4_1 : DmaSem sig := 114
abbrev cc11_sem0_0 : DmaSem sig := 130
abbrev cc11_sem0_1 : DmaSem sig := 131
abbrev cc11_sem1_0 : DmaSem sig := 132
abbrev cc11_sem1_1 : DmaSem sig := 133
abbrev cc11_sem2_0 : DmaSem sig := 134
abbrev cc11_sem3_0 : DmaSem sig := 135
abbrev cc11_sem4_0 : DmaSem sig := 136
abbrev cc11_sem4_1 : DmaSem sig := 137
abbrev cc13_sem0_0 : DmaSem sig := 153
abbrev cc13_sem0_1 : DmaSem sig := 154
abbrev cc13_sem1_0 : DmaSem sig := 155
abbrev cc13_sem1_1 : DmaSem sig := 156
abbrev cc13_sem2_0 : DmaSem sig := 157
abbrev cc13_sem3_0 : DmaSem sig := 158
abbrev cc13_sem4_0 : DmaSem sig := 159
abbrev cc13_sem4_1 : DmaSem sig := 160
abbrev cc15_sem0_0 : DmaSem sig := 176
abbrev cc15_sem0_1 : DmaSem sig := 177
abbrev cc15_sem1_0 : DmaSem sig := 178
abbrev cc15_sem1_1 : DmaSem sig := 179
abbrev cc15_sem2_0 : DmaSem sig := 180
abbrev cc15_sem3_0 : DmaSem sig := 181
abbrev cc15_sem4_0 : DmaSem sig := 182
abbrev cc15_sem4_1 : DmaSem sig := 183
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_22_r0 : BitVec 32 := 0#32
  let c2_i32_r0 : BitVec 32 := 2#32
  let v31_r0 : BitVec 32 := Scalar.remui c0_i32_22_r0 c2_i32_r0
  let c0_i32_24_r0 : BitVec 32 := 0#32
  let c0_i32_25_r0 : BitVec 32 := 0#32
  ![v31_r0.toNat, 0, 0]
def k0_off2 (i : grid0.Coords) : Fin 2 → Nat :=
  let c0_i32_26_r0 : BitVec 32 := 0#32
  let c256_i32_r0 : BitVec 32 := 256#32
  let c0_i32_23_r0 : BitVec 32 := 0#32
  let c0_i32_10_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v17_r0 : BitVec 32 := Scalar.addi c0_i32_10_r0 v4
  let v32_r0 : BitVec 32 := Scalar.addi c0_i32_23_r0 v17_r0
  let v33_r0 : BitVec 32 := Scalar.muli c256_i32_r0 v32_r0
  ![0, v33_r0.toNat]
def k0_off3 : Fin 1 → Nat :=
  let c0_i32_22_r0 : BitVec 32 := 0#32
  let c2_i32_r0 : BitVec 32 := 2#32
  let v31_r0 : BitVec 32 := Scalar.remui c0_i32_22_r0 c2_i32_r0
  ![v31_r0.toNat]
@[reducible] def k0_t1_loop : Scf.Loop 32 :=
  let c0_i32_36_r0 : BitVec 32 := 0#32
  let c16_i32_37_r0 : BitVec 32 := 16#32
  let v43_r0 : BitVec 32 := Scalar.addi c0_i32_36_r0 c16_i32_37_r0
  let c1_i32_38_r0 : BitVec 32 := 1#32
  ⟨c0_i32_36_r0, v43_r0, c1_i32_38_r0⟩
def k0_off4 (arg8_r0 : BitVec 32) : Fin 3 → Nat :=
  let c2_i32_116_r0 : BitVec 32 := 2#32
  let v162_r0 : BitVec 32 := Scalar.remui arg8_r0 c2_i32_116_r0
  let c0_i32_119_r0 : BitVec 32 := 0#32
  let c0_i32_120_r0 : BitVec 32 := 0#32
  ![v162_r0.toNat, 0, 0]
def k0_cond1 (i : grid0.Coords) (k0_t1 : Fin k0_t1_loop.trips) (arg12_r0 : BitVec 32) : BitVec 1 :=
  let c0_i32_79_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v78_r0 : BitVec 32 := Scalar.addi arg12_r0 v4
  let v94_r0 : BitVec 32 := Scalar.addi c0_i32_79_r0 v78_r0
  let c0_i32_80_r0 : BitVec 32 := 0#32
  let true_72_r0 : BitVec 1 := 1#1
  let c1_i32_71_r0 : BitVec 32 := 1#32
  let v84_r0 : BitVec 32 := Scalar.addi arg12_r0 c1_i32_71_r0
  let v85_r0 : BitVec 32 := Scalar.select true_72_r0 v84_r0 arg12_r0
  let c16_i32_73_r0 : BitVec 32 := 16#32
  let v86_r0 : BitVec 1 := Scalar.cmpi .eq v85_r0 c16_i32_73_r0
  let c0_i32_74_r0 : BitVec 32 := 0#32
  let v87_r0 : BitVec 32 := Scalar.select v86_r0 c0_i32_74_r0 v85_r0
  let v88_r0 : BitVec 32 := Scalar.addi v87_r0 v4
  let v95_r0 : BitVec 32 := Scalar.addi c0_i32_80_r0 v88_r0
  let v96_r0 : BitVec 1 := Scalar.cmpi .ne v94_r0 v95_r0
  let c0_i32_36_r0 : BitVec 32 := 0#32
  let c1_i32_38_r0 : BitVec 32 := 1#32
  let arg7_r0 : BitVec 32 := Scf.iv c0_i32_36_r0 c1_i32_38_r0 k0_t1
  let c15_i32_81_r0 : BitVec 32 := 15#32
  let v97_r0 : BitVec 1 := Scalar.cmpi .sge arg7_r0 c15_i32_81_r0
  let true_82_r0 : BitVec 1 := 1#1
  let v98_r0 : BitVec 1 := Scalar.xori v97_r0 true_82_r0
  let v99_r0 : BitVec 1 := Scalar.andi v96_r0 v98_r0
  let true_83_r0 : BitVec 1 := 1#1
  let v100_r0 : BitVec 1 := Scalar.andi v99_r0 true_83_r0
  let v101_r0 : BitVec 32 := Scalar.extui v100_r0
  let c0_i32_84_r0 : BitVec 32 := 0#32
  let v102_r0 : BitVec 1 := Scalar.cmpi .ne v101_r0 c0_i32_84_r0
  v102_r0

def k0_off5 (i : grid0.Coords) (arg12_r0 : BitVec 32) : Fin 2 → Nat :=
  let c0_i32_121_r0 : BitVec 32 := 0#32
  let c256_i32_118_r0 : BitVec 32 := 256#32
  let c0_i32_117_r0 : BitVec 32 := 0#32
  let true_72_r0 : BitVec 1 := 1#1
  let c1_i32_71_r0 : BitVec 32 := 1#32
  let v84_r0 : BitVec 32 := Scalar.addi arg12_r0 c1_i32_71_r0
  let v85_r0 : BitVec 32 := Scalar.select true_72_r0 v84_r0 arg12_r0
  let c16_i32_73_r0 : BitVec 32 := 16#32
  let v86_r0 : BitVec 1 := Scalar.cmpi .eq v85_r0 c16_i32_73_r0
  let c0_i32_74_r0 : BitVec 32 := 0#32
  let v87_r0 : BitVec 32 := Scalar.select v86_r0 c0_i32_74_r0 v85_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v88_r0 : BitVec 32 := Scalar.addi v87_r0 v4
  let v163_r0 : BitVec 32 := Scalar.addi c0_i32_117_r0 v88_r0
  let v164_r0 : BitVec 32 := Scalar.muli c256_i32_118_r0 v163_r0
  ![0, v164_r0.toNat]
def k0_off6 (arg8_r0 : BitVec 32) : Fin 1 → Nat :=
  let c2_i32_116_r0 : BitVec 32 := 2#32
  let v162_r0 : BitVec 32 := Scalar.remui arg8_r0 c2_i32_116_r0
  ![v162_r0.toNat]
def k0_off7 (arg9_r0 : BitVec 32) : Fin 3 → Nat :=
  let c2_i32_118_r0 : BitVec 32 := 2#32
  let v164_r0 : BitVec 32 := Scalar.remui arg9_r0 c2_i32_118_r0
  let c0_i32_119_r0 : BitVec 32 := 0#32
  let c0_i32_120_r0 : BitVec 32 := 0#32
  ![v164_r0.toNat, 0, 0]
def k0_cond2 (i : grid0.Coords) (k0_t1 : Fin k0_t1_loop.trips) (arg12_r0 : BitVec 32) : BitVec 1 :=
  let c0_i32_79_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v78_r0 : BitVec 32 := Scalar.addi arg12_r0 v4
  let v94_r0 : BitVec 32 := Scalar.addi c0_i32_79_r0 v78_r0
  let c0_i32_91_r0 : BitVec 32 := 0#32
  let true_68_r0 : BitVec 1 := 1#1
  let c1_i32_67_r0 : BitVec 32 := 1#32
  let v79_r0 : BitVec 32 := Scalar.subi arg12_r0 c1_i32_67_r0
  let v80_r0 : BitVec 32 := Scalar.select true_68_r0 v79_r0 arg12_r0
  let c_m1_i32_69_r0 : BitVec 32 := 4294967295#32
  let v81_r0 : BitVec 1 := Scalar.cmpi .eq v80_r0 c_m1_i32_69_r0
  let c15_i32_70_r0 : BitVec 32 := 15#32
  let v82_r0 : BitVec 32 := Scalar.select v81_r0 c15_i32_70_r0 v80_r0
  let v83_r0 : BitVec 32 := Scalar.addi v82_r0 v4
  let v112_r0 : BitVec 32 := Scalar.addi c0_i32_91_r0 v83_r0
  let v113_r0 : BitVec 1 := Scalar.cmpi .ne v94_r0 v112_r0
  let c0_i32_36_r0 : BitVec 32 := 0#32
  let c1_i32_38_r0 : BitVec 32 := 1#32
  let arg7_r0 : BitVec 32 := Scf.iv c0_i32_36_r0 c1_i32_38_r0 k0_t1
  let c0_i32_65_r0 : BitVec 32 := 0#32
  let v76_r0 : BitVec 1 := Scalar.cmpi .eq arg7_r0 c0_i32_65_r0
  let v114_r0 : BitVec 1 := Scalar.ori v113_r0 v76_r0
  let c0_i32_92_r0 : BitVec 32 := 0#32
  let v115_r0 : BitVec 1 := Scalar.cmpi .sge arg7_r0 c0_i32_92_r0
  let v116_r0 : BitVec 1 := Scalar.andi v114_r0 v115_r0
  let v117_r0 : BitVec 32 := Scalar.extui v116_r0
  let c0_i32_93_r0 : BitVec 32 := 0#32
  let v118_r0 : BitVec 1 := Scalar.cmpi .ne v117_r0 c0_i32_93_r0
  v118_r0

def k0_off8 (i : grid0.Coords) (arg12_r0 : BitVec 32) : Fin 2 → Nat :=
  let c0_i32_121_r0 : BitVec 32 := 0#32
  let c256_i32_117_r0 : BitVec 32 := 256#32
  let c0_i32_116_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v78_r0 : BitVec 32 := Scalar.addi arg12_r0 v4
  let v162_r0 : BitVec 32 := Scalar.addi c0_i32_116_r0 v78_r0
  let v163_r0 : BitVec 32 := Scalar.muli c256_i32_117_r0 v162_r0
  ![0, v163_r0.toNat]
def k0_off9 (arg9_r0 : BitVec 32) : Fin 1 → Nat :=
  let c2_i32_118_r0 : BitVec 32 := 2#32
  let v164_r0 : BitVec 32 := Scalar.remui arg9_r0 c2_i32_118_r0
  ![v164_r0.toNat]
def k0_off10 (arg10_r0 : BitVec 32) : Fin 3 → Nat :=
  let c2_i32_98_r0 : BitVec 32 := 2#32
  let v127_r0 : BitVec 32 := Scalar.remui arg10_r0 c2_i32_98_r0
  let c0_i32_116_r1 : BitVec 32 := 0#32
  let c0_i32_117_r1 : BitVec 32 := 0#32
  ![v127_r0.toNat, 0, 0]

def k0_chk2 (arg10_r0 : BitVec 32) : Prop :=
  (∀ a, (k0_off10 arg10_r0) a + S1x256x128.size a ≤ S2x256x128.size a)
theorem k0_off10_inb : ∀ (arg10_r0 : BitVec 32) (k0_hw2 : k0_chk2 arg10_r0), ∀ a, (k0_off10 arg10_r0) a + S1x256x128.size a ≤ S2x256x128.size a := fun arg10_r0 k0_hw2 => k0_hw2

def k0_off11 (arg9_r0 : BitVec 32) : Fin 3 → Nat :=
  let c2_i32_97_r0 : BitVec 32 := 2#32
  let v126_r0 : BitVec 32 := Scalar.remui arg9_r0 c2_i32_97_r0
  let c0_i32_118_r1 : BitVec 32 := 0#32
  let c0_i32_119_r1 : BitVec 32 := 0#32
  ![v126_r0.toNat, 0, 0]

def k0_chk3 (arg9_r0 : BitVec 32) : Prop :=
  (∀ a, (k0_off11 arg9_r0) a + S1x1x256.size a ≤ S2x1x256.size a)
theorem k0_off11_inb : ∀ (arg9_r0 : BitVec 32) (k0_hw3 : k0_chk3 arg9_r0), ∀ a, (k0_off11 arg9_r0) a + S1x1x256.size a ≤ S2x1x256.size a := fun arg9_r0 k0_hw3 => k0_hw3

def k0_off12 (arg10_r0 : BitVec 32) : Fin 3 → Nat :=
  let c2_i32_116_r0 : BitVec 32 := 2#32
  let v162_r0 : BitVec 32 := Scalar.remui arg10_r0 c2_i32_116_r0
  let c0_i32_119_r0 : BitVec 32 := 0#32
  let c0_i32_120_r0 : BitVec 32 := 0#32
  ![v162_r0.toNat, 0, 0]
def k0_cond5 (i : grid0.Coords) (k0_t1 : Fin k0_t1_loop.trips) (arg12_r0 : BitVec 32) : BitVec 1 :=
  let c0_i32_87_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v78_r0 : BitVec 32 := Scalar.addi arg12_r0 v4
  let v106_r0 : BitVec 32 := Scalar.addi c0_i32_87_r0 v78_r0
  let c0_i32_88_r0 : BitVec 32 := 0#32
  let true_72_r0 : BitVec 1 := 1#1
  let c1_i32_71_r0 : BitVec 32 := 1#32
  let v84_r0 : BitVec 32 := Scalar.addi arg12_r0 c1_i32_71_r0
  let v85_r0 : BitVec 32 := Scalar.select true_72_r0 v84_r0 arg12_r0
  let c16_i32_73_r0 : BitVec 32 := 16#32
  let v86_r0 : BitVec 1 := Scalar.cmpi .eq v85_r0 c16_i32_73_r0
  let c0_i32_74_r0 : BitVec 32 := 0#32
  let v87_r0 : BitVec 32 := Scalar.select v86_r0 c0_i32_74_r0 v85_r0
  let v88_r0 : BitVec 32 := Scalar.addi v87_r0 v4
  let v107_r0 : BitVec 32 := Scalar.addi c0_i32_88_r0 v88_r0
  let v133_r0 : BitVec 1 := Scalar.cmpi .ne v106_r0 v107_r0
  let c0_i32_36_r0 : BitVec 32 := 0#32
  let c1_i32_38_r0 : BitVec 32 := 1#32
  let arg7_r0 : BitVec 32 := Scf.iv c0_i32_36_r0 c1_i32_38_r0 k0_t1
  let c15_i32_66_r0 : BitVec 32 := 15#32
  let v77_r0 : BitVec 1 := Scalar.cmpi .eq arg7_r0 c15_i32_66_r0
  let v134_r0 : BitVec 1 := Scalar.ori v133_r0 v77_r0
  let v135_r0 : BitVec 32 := Scalar.extui v134_r0
  let c0_i32_101_r0 : BitVec 32 := 0#32
  let v136_r0 : BitVec 1 := Scalar.cmpi .ne v135_r0 c0_i32_101_r0
  v136_r0

def k0_off13 (i : grid0.Coords) (arg12_r0 : BitVec 32) : Fin 2 → Nat :=
  let c256_i32_118_r0 : BitVec 32 := 256#32
  let c0_i32_117_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v78_r0 : BitVec 32 := Scalar.addi arg12_r0 v4
  let v163_r0 : BitVec 32 := Scalar.addi c0_i32_117_r0 v78_r0
  let v164_r0 : BitVec 32 := Scalar.muli c256_i32_118_r0 v163_r0
  let c0_i32_121_r0 : BitVec 32 := 0#32
  ![v164_r0.toNat, 0]
def k0_off14 (arg10_r0 : BitVec 32) : Fin 1 → Nat :=
  let c2_i32_116_r0 : BitVec 32 := 2#32
  let v162_r0 : BitVec 32 := Scalar.remui arg10_r0 c2_i32_116_r0
  ![v162_r0.toNat]
def k0_off15 (arg11_r0 : BitVec 32) : Fin 3 → Nat :=
  let c2_i32_116_r0 : BitVec 32 := 2#32
  let v162_r0 : BitVec 32 := Scalar.remui arg11_r0 c2_i32_116_r0
  let c0_i32_119_r0 : BitVec 32 := 0#32
  let c0_i32_120_r0 : BitVec 32 := 0#32
  ![v162_r0.toNat, 0, 0]
def k0_cond7 (i : grid0.Coords) (k0_t1 : Fin k0_t1_loop.trips) (arg12_r0 : BitVec 32) : BitVec 1 :=
  let c0_i32_87_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v78_r0 : BitVec 32 := Scalar.addi arg12_r0 v4
  let v106_r0 : BitVec 32 := Scalar.addi c0_i32_87_r0 v78_r0
  let c0_i32_94_r0 : BitVec 32 := 0#32
  let true_68_r0 : BitVec 1 := 1#1
  let c1_i32_67_r0 : BitVec 32 := 1#32
  let v79_r0 : BitVec 32 := Scalar.subi arg12_r0 c1_i32_67_r0
  let v80_r0 : BitVec 32 := Scalar.select true_68_r0 v79_r0 arg12_r0
  let c_m1_i32_69_r0 : BitVec 32 := 4294967295#32
  let v81_r0 : BitVec 1 := Scalar.cmpi .eq v80_r0 c_m1_i32_69_r0
  let c15_i32_70_r0 : BitVec 32 := 15#32
  let v82_r0 : BitVec 32 := Scalar.select v81_r0 c15_i32_70_r0 v80_r0
  let v83_r0 : BitVec 32 := Scalar.addi v82_r0 v4
  let v119_r0 : BitVec 32 := Scalar.addi c0_i32_94_r0 v83_r0
  let v146_r0 : BitVec 1 := Scalar.cmpi .ne v106_r0 v119_r0
  let c0_i32_36_r0 : BitVec 32 := 0#32
  let c1_i32_38_r0 : BitVec 32 := 1#32
  let arg7_r0 : BitVec 32 := Scf.iv c0_i32_36_r0 c1_i32_38_r0 k0_t1
  let c0_i32_65_r0 : BitVec 32 := 0#32
  let v76_r0 : BitVec 1 := Scalar.cmpi .eq arg7_r0 c0_i32_65_r0
  let true_107_r0 : BitVec 1 := 1#1
  let v147_r0 : BitVec 1 := Scalar.xori v76_r0 true_107_r0
  let v148_r0 : BitVec 1 := Scalar.andi v146_r0 v147_r0
  let v149_r0 : BitVec 32 := Scalar.extui v148_r0
  let c0_i32_108_r0 : BitVec 32 := 0#32
  let v150_r0 : BitVec 1 := Scalar.cmpi .ne v149_r0 c0_i32_108_r0
  v150_r0

def k0_off16 (i : grid0.Coords) (arg12_r0 : BitVec 32) : Fin 2 → Nat :=
  let c256_i32_118_r0 : BitVec 32 := 256#32
  let c0_i32_117_r0 : BitVec 32 := 0#32
  let true_68_r0 : BitVec 1 := 1#1
  let c1_i32_67_r0 : BitVec 32 := 1#32
  let v79_r0 : BitVec 32 := Scalar.subi arg12_r0 c1_i32_67_r0
  let v80_r0 : BitVec 32 := Scalar.select true_68_r0 v79_r0 arg12_r0
  let c_m1_i32_69_r0 : BitVec 32 := 4294967295#32
  let v81_r0 : BitVec 1 := Scalar.cmpi .eq v80_r0 c_m1_i32_69_r0
  let c15_i32_70_r0 : BitVec 32 := 15#32
  let v82_r0 : BitVec 32 := Scalar.select v81_r0 c15_i32_70_r0 v80_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v83_r0 : BitVec 32 := Scalar.addi v82_r0 v4
  let v163_r0 : BitVec 32 := Scalar.addi c0_i32_117_r0 v83_r0
  let v164_r0 : BitVec 32 := Scalar.muli c256_i32_118_r0 v163_r0
  let c0_i32_121_r0 : BitVec 32 := 0#32
  ![v164_r0.toNat, 0]
def k0_off17 (arg11_r0 : BitVec 32) : Fin 1 → Nat :=
  let c2_i32_116_r0 : BitVec 32 := 2#32
  let v162_r0 : BitVec 32 := Scalar.remui arg11_r0 c2_i32_116_r0
  ![v162_r0.toNat]

def k0_chk1 (i : grid0.Coords) (k0_t1 : Fin k0_t1_loop.trips) (arg8_r0 : BitVec 32) (arg9_r0 : BitVec 32) (arg10_r0 : BitVec 32) (arg11_r0 : BitVec 32) (arg12_r0 : BitVec 32) : Prop :=
  (∀ (k0_h1 : k0_cond1 i k0_t1 arg12_r0 = 1#1), ∀ a, (k0_off4 arg8_r0) a + S1x1x256.size a ≤ S2x1x256.size a) ∧
  (∀ (k0_h1 : k0_cond1 i k0_t1 arg12_r0 = 1#1), ∀ a, (k0_off5 i arg12_r0) a + S1x256.size a ≤ S3x1048576.size a) ∧
  (∀ (k0_h1 : k0_cond1 i k0_t1 arg12_r0 = 1#1), ∀ a, (k0_off6 arg8_r0) a + S1.size a ≤ S2.size a) ∧
  (∀ (k0_h2 : k0_cond2 i k0_t1 arg12_r0 = 1#1), ∀ a, (k0_off7 arg9_r0) a + S1x1x256.size a ≤ S2x1x256.size a) ∧
  (∀ (k0_h2 : k0_cond2 i k0_t1 arg12_r0 = 1#1), ∀ a, (k0_off8 i arg12_r0) a + S1x256.size a ≤ S3x1048576.size a) ∧
  (∀ (k0_h2 : k0_cond2 i k0_t1 arg12_r0 = 1#1), ∀ a, (k0_off9 arg9_r0) a + S1.size a ≤ S2.size a) ∧
  (∀ (k0_h5 : k0_cond5 i k0_t1 arg12_r0 = 1#1), ∀ a, (k0_off12 arg10_r0) a + S1x256x128.size a ≤ S2x256x128.size a) ∧
  (∀ (k0_h5 : k0_cond5 i k0_t1 arg12_r0 = 1#1), ∀ a, (k0_off13 i arg12_r0) a + S256x128.size a ≤ S393216x128.size a) ∧
  (∀ (k0_h5 : k0_cond5 i k0_t1 arg12_r0 = 1#1), ∀ a, (k0_off14 arg10_r0) a + S1.size a ≤ S2.size a) ∧
  (∀ (k0_h7 : k0_cond7 i k0_t1 arg12_r0 = 1#1), ∀ a, (k0_off15 arg11_r0) a + S1x256x128.size a ≤ S2x256x128.size a) ∧
  (∀ (k0_h7 : k0_cond7 i k0_t1 arg12_r0 = 1#1), ∀ a, (k0_off16 i arg12_r0) a + S256x128.size a ≤ S393216x128.size a) ∧
  (∀ (k0_h7 : k0_cond7 i k0_t1 arg12_r0 = 1#1), ∀ a, (k0_off17 arg11_r0) a + S1.size a ≤ S2.size a)
theorem k0_off4_inb : ∀ (i : grid0.Coords) (k0_t1 : Fin k0_t1_loop.trips) (arg8_r0 : BitVec 32) (arg9_r0 : BitVec 32) (arg10_r0 : BitVec 32) (arg11_r0 : BitVec 32) (arg12_r0 : BitVec 32) (k0_hw1 : k0_chk1 i k0_t1 arg8_r0 arg9_r0 arg10_r0 arg11_r0 arg12_r0), ∀ (k0_h1 : k0_cond1 i k0_t1 arg12_r0 = 1#1), ∀ a, (k0_off4 arg8_r0) a + S1x1x256.size a ≤ S2x1x256.size a := fun i k0_t1 arg8_r0 arg9_r0 arg10_r0 arg11_r0 arg12_r0 k0_hw1 k0_h1 => k0_hw1.1 k0_h1
theorem k0_off5_inb : ∀ (i : grid0.Coords) (k0_t1 : Fin k0_t1_loop.trips) (arg8_r0 : BitVec 32) (arg9_r0 : BitVec 32) (arg10_r0 : BitVec 32) (arg11_r0 : BitVec 32) (arg12_r0 : BitVec 32) (k0_hw1 : k0_chk1 i k0_t1 arg8_r0 arg9_r0 arg10_r0 arg11_r0 arg12_r0), ∀ (k0_h1 : k0_cond1 i k0_t1 arg12_r0 = 1#1), ∀ a, (k0_off5 i arg12_r0) a + S1x256.size a ≤ S3x1048576.size a := fun i k0_t1 arg8_r0 arg9_r0 arg10_r0 arg11_r0 arg12_r0 k0_hw1 k0_h1 => k0_hw1.2.1 k0_h1
theorem k0_off6_inb : ∀ (i : grid0.Coords) (k0_t1 : Fin k0_t1_loop.trips) (arg8_r0 : BitVec 32) (arg9_r0 : BitVec 32) (arg10_r0 : BitVec 32) (arg11_r0 : BitVec 32) (arg12_r0 : BitVec 32) (k0_hw1 : k0_chk1 i k0_t1 arg8_r0 arg9_r0 arg10_r0 arg11_r0 arg12_r0), ∀ (k0_h1 : k0_cond1 i k0_t1 arg12_r0 = 1#1), ∀ a, (k0_off6 arg8_r0) a + S1.size a ≤ S2.size a := fun i k0_t1 arg8_r0 arg9_r0 arg10_r0 arg11_r0 arg12_r0 k0_hw1 k0_h1 => k0_hw1.2.2.1 k0_h1
theorem k0_off7_inb : ∀ (i : grid0.Coords) (k0_t1 : Fin k0_t1_loop.trips) (arg8_r0 : BitVec 32) (arg9_r0 : BitVec 32) (arg10_r0 : BitVec 32) (arg11_r0 : BitVec 32) (arg12_r0 : BitVec 32) (k0_hw1 : k0_chk1 i k0_t1 arg8_r0 arg9_r0 arg10_r0 arg11_r0 arg12_r0), ∀ (k0_h2 : k0_cond2 i k0_t1 arg12_r0 = 1#1), ∀ a, (k0_off7 arg9_r0) a + S1x1x256.size a ≤ S2x1x256.size a := fun i k0_t1 arg8_r0 arg9_r0 arg10_r0 arg11_r0 arg12_r0 k0_hw1 k0_h2 => k0_hw1.2.2.2.1 k0_h2
theorem k0_off8_inb : ∀ (i : grid0.Coords) (k0_t1 : Fin k0_t1_loop.trips) (arg8_r0 : BitVec 32) (arg9_r0 : BitVec 32) (arg10_r0 : BitVec 32) (arg11_r0 : BitVec 32) (arg12_r0 : BitVec 32) (k0_hw1 : k0_chk1 i k0_t1 arg8_r0 arg9_r0 arg10_r0 arg11_r0 arg12_r0), ∀ (k0_h2 : k0_cond2 i k0_t1 arg12_r0 = 1#1), ∀ a, (k0_off8 i arg12_r0) a + S1x256.size a ≤ S3x1048576.size a := fun i k0_t1 arg8_r0 arg9_r0 arg10_r0 arg11_r0 arg12_r0 k0_hw1 k0_h2 => k0_hw1.2.2.2.2.1 k0_h2
theorem k0_off9_inb : ∀ (i : grid0.Coords) (k0_t1 : Fin k0_t1_loop.trips) (arg8_r0 : BitVec 32) (arg9_r0 : BitVec 32) (arg10_r0 : BitVec 32) (arg11_r0 : BitVec 32) (arg12_r0 : BitVec 32) (k0_hw1 : k0_chk1 i k0_t1 arg8_r0 arg9_r0 arg10_r0 arg11_r0 arg12_r0), ∀ (k0_h2 : k0_cond2 i k0_t1 arg12_r0 = 1#1), ∀ a, (k0_off9 arg9_r0) a + S1.size a ≤ S2.size a := fun i k0_t1 arg8_r0 arg9_r0 arg10_r0 arg11_r0 arg12_r0 k0_hw1 k0_h2 => k0_hw1.2.2.2.2.2.1 k0_h2
theorem k0_off12_inb : ∀ (i : grid0.Coords) (k0_t1 : Fin k0_t1_loop.trips) (arg8_r0 : BitVec 32) (arg9_r0 : BitVec 32) (arg10_r0 : BitVec 32) (arg11_r0 : BitVec 32) (arg12_r0 : BitVec 32) (k0_hw1 : k0_chk1 i k0_t1 arg8_r0 arg9_r0 arg10_r0 arg11_r0 arg12_r0), ∀ (k0_h5 : k0_cond5 i k0_t1 arg12_r0 = 1#1), ∀ a, (k0_off12 arg10_r0) a + S1x256x128.size a ≤ S2x256x128.size a := fun i k0_t1 arg8_r0 arg9_r0 arg10_r0 arg11_r0 arg12_r0 k0_hw1 k0_h5 => k0_hw1.2.2.2.2.2.2.1 k0_h5
theorem k0_off13_inb : ∀ (i : grid0.Coords) (k0_t1 : Fin k0_t1_loop.trips) (arg8_r0 : BitVec 32) (arg9_r0 : BitVec 32) (arg10_r0 : BitVec 32) (arg11_r0 : BitVec 32) (arg12_r0 : BitVec 32) (k0_hw1 : k0_chk1 i k0_t1 arg8_r0 arg9_r0 arg10_r0 arg11_r0 arg12_r0), ∀ (k0_h5 : k0_cond5 i k0_t1 arg12_r0 = 1#1), ∀ a, (k0_off13 i arg12_r0) a + S256x128.size a ≤ S393216x128.size a := fun i k0_t1 arg8_r0 arg9_r0 arg10_r0 arg11_r0 arg12_r0 k0_hw1 k0_h5 => k0_hw1.2.2.2.2.2.2.2.1 k0_h5
theorem k0_off14_inb : ∀ (i : grid0.Coords) (k0_t1 : Fin k0_t1_loop.trips) (arg8_r0 : BitVec 32) (arg9_r0 : BitVec 32) (arg10_r0 : BitVec 32) (arg11_r0 : BitVec 32) (arg12_r0 : BitVec 32) (k0_hw1 : k0_chk1 i k0_t1 arg8_r0 arg9_r0 arg10_r0 arg11_r0 arg12_r0), ∀ (k0_h5 : k0_cond5 i k0_t1 arg12_r0 = 1#1), ∀ a, (k0_off14 arg10_r0) a + S1.size a ≤ S2.size a := fun i k0_t1 arg8_r0 arg9_r0 arg10_r0 arg11_r0 arg12_r0 k0_hw1 k0_h5 => k0_hw1.2.2.2.2.2.2.2.2.1 k0_h5
theorem k0_off15_inb : ∀ (i : grid0.Coords) (k0_t1 : Fin k0_t1_loop.trips) (arg8_r0 : BitVec 32) (arg9_r0 : BitVec 32) (arg10_r0 : BitVec 32) (arg11_r0 : BitVec 32) (arg12_r0 : BitVec 32) (k0_hw1 : k0_chk1 i k0_t1 arg8_r0 arg9_r0 arg10_r0 arg11_r0 arg12_r0), ∀ (k0_h7 : k0_cond7 i k0_t1 arg12_r0 = 1#1), ∀ a, (k0_off15 arg11_r0) a + S1x256x128.size a ≤ S2x256x128.size a := fun i k0_t1 arg8_r0 arg9_r0 arg10_r0 arg11_r0 arg12_r0 k0_hw1 k0_h7 => k0_hw1.2.2.2.2.2.2.2.2.2.1 k0_h7
theorem k0_off16_inb : ∀ (i : grid0.Coords) (k0_t1 : Fin k0_t1_loop.trips) (arg8_r0 : BitVec 32) (arg9_r0 : BitVec 32) (arg10_r0 : BitVec 32) (arg11_r0 : BitVec 32) (arg12_r0 : BitVec 32) (k0_hw1 : k0_chk1 i k0_t1 arg8_r0 arg9_r0 arg10_r0 arg11_r0 arg12_r0), ∀ (k0_h7 : k0_cond7 i k0_t1 arg12_r0 = 1#1), ∀ a, (k0_off16 i arg12_r0) a + S256x128.size a ≤ S393216x128.size a := fun i k0_t1 arg8_r0 arg9_r0 arg10_r0 arg11_r0 arg12_r0 k0_hw1 k0_h7 => k0_hw1.2.2.2.2.2.2.2.2.2.2.1 k0_h7
theorem k0_off17_inb : ∀ (i : grid0.Coords) (k0_t1 : Fin k0_t1_loop.trips) (arg8_r0 : BitVec 32) (arg9_r0 : BitVec 32) (arg10_r0 : BitVec 32) (arg11_r0 : BitVec 32) (arg12_r0 : BitVec 32) (k0_hw1 : k0_chk1 i k0_t1 arg8_r0 arg9_r0 arg10_r0 arg11_r0 arg12_r0), ∀ (k0_h7 : k0_cond7 i k0_t1 arg12_r0 = 1#1), ∀ a, (k0_off17 arg11_r0) a + S1.size a ≤ S2.size a := fun i k0_t1 arg8_r0 arg9_r0 arg10_r0 arg11_r0 arg12_r0 k0_hw1 k0_h7 => k0_hw1.2.2.2.2.2.2.2.2.2.2.2 k0_h7

def k0_off18 (v44_3_r0 : BitVec 32) : Fin 3 → Nat :=
  let c2_i32_56_r0 : BitVec 32 := 2#32
  let v65_r0 : BitVec 32 := Scalar.remui v44_3_r0 c2_i32_56_r0
  let c0_i32_59_r0 : BitVec 32 := 0#32
  let c0_i32_60_r0 : BitVec 32 := 0#32
  ![v65_r0.toNat, 0, 0]

def k0_off19 (i : grid0.Coords) (v44_4_r0 : BitVec 32) : Fin 2 → Nat :=
  let c256_i32_58_r0 : BitVec 32 := 256#32
  let c0_i32_57_r0 : BitVec 32 := 0#32
  let true_41_r0 : BitVec 1 := 1#1
  let c1_i32_40_r0 : BitVec 32 := 1#32
  let v45_r0 : BitVec 32 := Scalar.subi v44_4_r0 c1_i32_40_r0
  let v46_r0 : BitVec 32 := Scalar.select true_41_r0 v45_r0 v44_4_r0
  let c_m1_i32_42_r0 : BitVec 32 := 4294967295#32
  let v47_r0 : BitVec 1 := Scalar.cmpi .eq v46_r0 c_m1_i32_42_r0
  let c15_i32_43_r0 : BitVec 32 := 15#32
  let v48_r0 : BitVec 32 := Scalar.select v47_r0 c15_i32_43_r0 v46_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v49_r0 : BitVec 32 := Scalar.addi v48_r0 v4
  let v66_r0 : BitVec 32 := Scalar.addi c0_i32_57_r0 v49_r0
  let v67_r0 : BitVec 32 := Scalar.muli c256_i32_58_r0 v66_r0
  let c0_i32_61_r0 : BitVec 32 := 0#32
  ![v67_r0.toNat, 0]

def k0_chk5 (i : grid0.Coords) (v44_4_r0 : BitVec 32) : Prop :=
  (∀ a, (k0_off19 i v44_4_r0) a + S256x128.size a ≤ S393216x128.size a)
theorem k0_off19_inb : ∀ (i : grid0.Coords) (v44_4_r0 : BitVec 32) (k0_hw5 : k0_chk5 i v44_4_r0), ∀ a, (k0_off19 i v44_4_r0) a + S256x128.size a ≤ S393216x128.size a := fun i v44_4_r0 k0_hw5 => k0_hw5

def k0_off20 (v44_3_r0 : BitVec 32) : Fin 1 → Nat :=
  let c2_i32_56_r0 : BitVec 32 := 2#32
  let v65_r0 : BitVec 32 := Scalar.remui v44_3_r0 c2_i32_56_r0
  ![v65_r0.toNat]
def k0_off21 (v44_3_r0 : BitVec 32) : Fin 3 → Nat :=
  let c2_i32_56_r0 : BitVec 32 := 2#32
  let v65_r0 : BitVec 32 := Scalar.remui v44_3_r0 c2_i32_56_r0
  let c0_i32_63_r0 : BitVec 32 := 0#32
  let c0_i32_64_r0 : BitVec 32 := 0#32
  ![v65_r0.toNat, 0, 0]

def k0_chk4 (v44_3_r0 : BitVec 32) : Prop :=
  (∀ a, (k0_off18 v44_3_r0) a + S1x256x128.size a ≤ S2x256x128.size a) ∧
  (∀ a, (k0_off20 v44_3_r0) a + S1.size a ≤ S2.size a) ∧
  (∀ a, (k0_off21 v44_3_r0) a + S1x256x128.size a ≤ S2x256x128.size a)
theorem k0_off18_inb : ∀ (v44_3_r0 : BitVec 32) (k0_hw4 : k0_chk4 v44_3_r0), ∀ a, (k0_off18 v44_3_r0) a + S1x256x128.size a ≤ S2x256x128.size a := fun v44_3_r0 k0_hw4 => k0_hw4.1
theorem k0_off20_inb : ∀ (v44_3_r0 : BitVec 32) (k0_hw4 : k0_chk4 v44_3_r0), ∀ a, (k0_off20 v44_3_r0) a + S1.size a ≤ S2.size a := fun v44_3_r0 k0_hw4 => k0_hw4.2.1
theorem k0_off21_inb : ∀ (v44_3_r0 : BitVec 32) (k0_hw4 : k0_chk4 v44_3_r0), ∀ a, (k0_off21 v44_3_r0) a + S1x256x128.size a ≤ S2x256x128.size a := fun v44_3_r0 k0_hw4 => k0_hw4.2.2

def k0_off22 : Fin 3 → Nat :=
  let c0_i32_22_r2 : BitVec 32 := 0#32
  let c2_i32_r2 : BitVec 32 := 2#32
  let v31_r2 : BitVec 32 := Scalar.remui c0_i32_22_r2 c2_i32_r2
  let c0_i32_24_r2 : BitVec 32 := 0#32
  let c0_i32_25_r2 : BitVec 32 := 0#32
  ![v31_r2.toNat, 0, 0]
def k0_off23 (i : grid0.Coords) : Fin 2 → Nat :=
  let c1_i32_26_r2 : BitVec 32 := 1#32
  let c256_i32_r2 : BitVec 32 := 256#32
  let c0_i32_23_r2 : BitVec 32 := 0#32
  let c0_i32_10_r2 : BitVec 32 := 0#32
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v17_r2 : BitVec 32 := Scalar.addi c0_i32_10_r2 v9
  let v32_r2 : BitVec 32 := Scalar.addi c0_i32_23_r2 v17_r2
  let v33_r2 : BitVec 32 := Scalar.muli c256_i32_r2 v32_r2
  ![1, v33_r2.toNat]
def k0_off24 : Fin 1 → Nat :=
  let c0_i32_22_r2 : BitVec 32 := 0#32
  let c2_i32_r2 : BitVec 32 := 2#32
  let v31_r2 : BitVec 32 := Scalar.remui c0_i32_22_r2 c2_i32_r2
  ![v31_r2.toNat]
@[reducible] def k0_t2_loop : Scf.Loop 32 :=
  let c0_i32_36_r2 : BitVec 32 := 0#32
  let c16_i32_37_r2 : BitVec 32 := 16#32
  let v43_r2 : BitVec 32 := Scalar.addi c0_i32_36_r2 c16_i32_37_r2
  let c1_i32_38_r2 : BitVec 32 := 1#32
  ⟨c0_i32_36_r2, v43_r2, c1_i32_38_r2⟩
def k0_off25 (arg8_r2 : BitVec 32) : Fin 3 → Nat :=
  let c2_i32_115_r2 : BitVec 32 := 2#32
  let v162_r2 : BitVec 32 := Scalar.remui arg8_r2 c2_i32_115_r2
  let c0_i32_118_r2 : BitVec 32 := 0#32
  let c0_i32_119_r2 : BitVec 32 := 0#32
  ![v162_r2.toNat, 0, 0]
def k0_cond8 (i : grid0.Coords) (k0_t2 : Fin k0_t2_loop.trips) (arg12_r2 : BitVec 32) : BitVec 1 :=
  let c0_i32_78_r2 : BitVec 32 := 0#32
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v78_r2 : BitVec 32 := Scalar.addi arg12_r2 v9
  let v94_r2 : BitVec 32 := Scalar.addi c0_i32_78_r2 v78_r2
  let c0_i32_79_r2 : BitVec 32 := 0#32
  let true_71_r2 : BitVec 1 := 1#1
  let c1_i32_70_r2 : BitVec 32 := 1#32
  let v84_r2 : BitVec 32 := Scalar.addi arg12_r2 c1_i32_70_r2
  let v85_r2 : BitVec 32 := Scalar.select true_71_r2 v84_r2 arg12_r2
  let c16_i32_72_r2 : BitVec 32 := 16#32
  let v86_r2 : BitVec 1 := Scalar.cmpi .eq v85_r2 c16_i32_72_r2
  let c0_i32_73_r2 : BitVec 32 := 0#32
  let v87_r2 : BitVec 32 := Scalar.select v86_r2 c0_i32_73_r2 v85_r2
  let v88_r2 : BitVec 32 := Scalar.addi v87_r2 v9
  let v95_r2 : BitVec 32 := Scalar.addi c0_i32_79_r2 v88_r2
  let v96_r2 : BitVec 1 := Scalar.cmpi .ne v94_r2 v95_r2
  let c0_i32_36_r2 : BitVec 32 := 0#32
  let c1_i32_38_r2 : BitVec 32 := 1#32
  let arg7_r2 : BitVec 32 := Scf.iv c0_i32_36_r2 c1_i32_38_r2 k0_t2
  let c15_i32_80_r2 : BitVec 32 := 15#32
  let v97_r2 : BitVec 1 := Scalar.cmpi .sge arg7_r2 c15_i32_80_r2
  let true_81_r2 : BitVec 1 := 1#1
  let v98_r2 : BitVec 1 := Scalar.xori v97_r2 true_81_r2
  let v99_r2 : BitVec 1 := Scalar.andi v96_r2 v98_r2
  let true_82_r2 : BitVec 1 := 1#1
  let v100_r2 : BitVec 1 := Scalar.andi v99_r2 true_82_r2
  let v101_r2 : BitVec 32 := Scalar.extui v100_r2
  let c0_i32_83_r2 : BitVec 32 := 0#32
  let v102_r2 : BitVec 1 := Scalar.cmpi .ne v101_r2 c0_i32_83_r2
  v102_r2

def k0_off26 (i : grid0.Coords) (arg12_r2 : BitVec 32) : Fin 2 → Nat :=
  let c1_i32_120_r2 : BitVec 32 := 1#32
  let c256_i32_117_r2 : BitVec 32 := 256#32
  let c0_i32_116_r2 : BitVec 32 := 0#32
  let true_71_r2 : BitVec 1 := 1#1
  let c1_i32_70_r2 : BitVec 32 := 1#32
  let v84_r2 : BitVec 32 := Scalar.addi arg12_r2 c1_i32_70_r2
  let v85_r2 : BitVec 32 := Scalar.select true_71_r2 v84_r2 arg12_r2
  let c16_i32_72_r2 : BitVec 32 := 16#32
  let v86_r2 : BitVec 1 := Scalar.cmpi .eq v85_r2 c16_i32_72_r2
  let c0_i32_73_r2 : BitVec 32 := 0#32
  let v87_r2 : BitVec 32 := Scalar.select v86_r2 c0_i32_73_r2 v85_r2
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v88_r2 : BitVec 32 := Scalar.addi v87_r2 v9
  let v163_r2 : BitVec 32 := Scalar.addi c0_i32_116_r2 v88_r2
  let v164_r2 : BitVec 32 := Scalar.muli c256_i32_117_r2 v163_r2
  ![1, v164_r2.toNat]
def k0_off27 (arg8_r2 : BitVec 32) : Fin 1 → Nat :=
  let c2_i32_115_r2 : BitVec 32 := 2#32
  let v162_r2 : BitVec 32 := Scalar.remui arg8_r2 c2_i32_115_r2
  ![v162_r2.toNat]
def k0_off28 (arg9_r2 : BitVec 32) : Fin 3 → Nat :=
  let c2_i32_117_r2 : BitVec 32 := 2#32
  let v164_r2 : BitVec 32 := Scalar.remui arg9_r2 c2_i32_117_r2
  let c0_i32_118_r2 : BitVec 32 := 0#32
  let c0_i32_119_r2 : BitVec 32 := 0#32
  ![v164_r2.toNat, 0, 0]
def k0_cond9 (i : grid0.Coords) (k0_t2 : Fin k0_t2_loop.trips) (arg12_r2 : BitVec 32) : BitVec 1 :=
  let c0_i32_78_r2 : BitVec 32 := 0#32
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v78_r2 : BitVec 32 := Scalar.addi arg12_r2 v9
  let v94_r2 : BitVec 32 := Scalar.addi c0_i32_78_r2 v78_r2
  let c0_i32_90_r2 : BitVec 32 := 0#32
  let true_67_r2 : BitVec 1 := 1#1
  let c1_i32_66_r2 : BitVec 32 := 1#32
  let v79_r2 : BitVec 32 := Scalar.subi arg12_r2 c1_i32_66_r2
  let v80_r2 : BitVec 32 := Scalar.select true_67_r2 v79_r2 arg12_r2
  let c_m1_i32_68_r2 : BitVec 32 := 4294967295#32
  let v81_r2 : BitVec 1 := Scalar.cmpi .eq v80_r2 c_m1_i32_68_r2
  let c15_i32_69_r2 : BitVec 32 := 15#32
  let v82_r2 : BitVec 32 := Scalar.select v81_r2 c15_i32_69_r2 v80_r2
  let v83_r2 : BitVec 32 := Scalar.addi v82_r2 v9
  let v112_r2 : BitVec 32 := Scalar.addi c0_i32_90_r2 v83_r2
  let v113_r2 : BitVec 1 := Scalar.cmpi .ne v94_r2 v112_r2
  let c0_i32_36_r2 : BitVec 32 := 0#32
  let c1_i32_38_r2 : BitVec 32 := 1#32
  let arg7_r2 : BitVec 32 := Scf.iv c0_i32_36_r2 c1_i32_38_r2 k0_t2
  let c0_i32_64_r2 : BitVec 32 := 0#32
  let v76_r2 : BitVec 1 := Scalar.cmpi .eq arg7_r2 c0_i32_64_r2
  let v114_r2 : BitVec 1 := Scalar.ori v113_r2 v76_r2
  let c0_i32_91_r2 : BitVec 32 := 0#32
  let v115_r2 : BitVec 1 := Scalar.cmpi .sge arg7_r2 c0_i32_91_r2
  let v116_r2 : BitVec 1 := Scalar.andi v114_r2 v115_r2
  let v117_r2 : BitVec 32 := Scalar.extui v116_r2
  let c0_i32_92_r2 : BitVec 32 := 0#32
  let v118_r2 : BitVec 1 := Scalar.cmpi .ne v117_r2 c0_i32_92_r2
  v118_r2

def k0_off29 (i : grid0.Coords) (arg12_r2 : BitVec 32) : Fin 2 → Nat :=
  let c1_i32_120_r2 : BitVec 32 := 1#32
  let c256_i32_116_r2 : BitVec 32 := 256#32
  let c0_i32_115_r2 : BitVec 32 := 0#32
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v78_r2 : BitVec 32 := Scalar.addi arg12_r2 v9
  let v162_r2 : BitVec 32 := Scalar.addi c0_i32_115_r2 v78_r2
  let v163_r2 : BitVec 32 := Scalar.muli c256_i32_116_r2 v162_r2
  ![1, v163_r2.toNat]
def k0_off30 (arg9_r2 : BitVec 32) : Fin 1 → Nat :=
  let c2_i32_117_r2 : BitVec 32 := 2#32
  let v164_r2 : BitVec 32 := Scalar.remui arg9_r2 c2_i32_117_r2
  ![v164_r2.toNat]
def k0_off31 (arg10_r2 : BitVec 32) : Fin 3 → Nat :=
  let c2_i32_97_r2 : BitVec 32 := 2#32
  let v127_r2 : BitVec 32 := Scalar.remui arg10_r2 c2_i32_97_r2
  let c0_i32_115_r3 : BitVec 32 := 0#32
  let c0_i32_116_r3 : BitVec 32 := 0#32
  ![v127_r2.toNat, 0, 0]

def k0_chk7 (arg10_r2 : BitVec 32) : Prop :=
  (∀ a, (k0_off31 arg10_r2) a + S1x256x128.size a ≤ S2x256x128.size a)
theorem k0_off31_inb : ∀ (arg10_r2 : BitVec 32) (k0_hw7 : k0_chk7 arg10_r2), ∀ a, (k0_off31 arg10_r2) a + S1x256x128.size a ≤ S2x256x128.size a := fun arg10_r2 k0_hw7 => k0_hw7

def k0_off32 (arg9_r2 : BitVec 32) : Fin 3 → Nat :=
  let c2_i32_96_r2 : BitVec 32 := 2#32
  let v126_r2 : BitVec 32 := Scalar.remui arg9_r2 c2_i32_96_r2
  let c0_i32_117_r3 : BitVec 32 := 0#32
  let c0_i32_118_r3 : BitVec 32 := 0#32
  ![v126_r2.toNat, 0, 0]

def k0_chk8 (arg9_r2 : BitVec 32) : Prop :=
  (∀ a, (k0_off32 arg9_r2) a + S1x1x256.size a ≤ S2x1x256.size a)
theorem k0_off32_inb : ∀ (arg9_r2 : BitVec 32) (k0_hw8 : k0_chk8 arg9_r2), ∀ a, (k0_off32 arg9_r2) a + S1x1x256.size a ≤ S2x1x256.size a := fun arg9_r2 k0_hw8 => k0_hw8

def k0_off33 (arg10_r2 : BitVec 32) : Fin 3 → Nat :=
  let c2_i32_115_r2 : BitVec 32 := 2#32
  let v162_r2 : BitVec 32 := Scalar.remui arg10_r2 c2_i32_115_r2
  let c0_i32_118_r2 : BitVec 32 := 0#32
  let c0_i32_119_r2 : BitVec 32 := 0#32
  ![v162_r2.toNat, 0, 0]
def k0_cond12 (i : grid0.Coords) (k0_t2 : Fin k0_t2_loop.trips) (arg12_r2 : BitVec 32) : BitVec 1 :=
  let c512_i32_86_r2 : BitVec 32 := 512#32
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v78_r2 : BitVec 32 := Scalar.addi arg12_r2 v9
  let v106_r2 : BitVec 32 := Scalar.addi c512_i32_86_r2 v78_r2
  let c512_i32_87_r2 : BitVec 32 := 512#32
  let true_71_r2 : BitVec 1 := 1#1
  let c1_i32_70_r2 : BitVec 32 := 1#32
  let v84_r2 : BitVec 32 := Scalar.addi arg12_r2 c1_i32_70_r2
  let v85_r2 : BitVec 32 := Scalar.select true_71_r2 v84_r2 arg12_r2
  let c16_i32_72_r2 : BitVec 32 := 16#32
  let v86_r2 : BitVec 1 := Scalar.cmpi .eq v85_r2 c16_i32_72_r2
  let c0_i32_73_r2 : BitVec 32 := 0#32
  let v87_r2 : BitVec 32 := Scalar.select v86_r2 c0_i32_73_r2 v85_r2
  let v88_r2 : BitVec 32 := Scalar.addi v87_r2 v9
  let v107_r2 : BitVec 32 := Scalar.addi c512_i32_87_r2 v88_r2
  let v133_r2 : BitVec 1 := Scalar.cmpi .ne v106_r2 v107_r2
  let c0_i32_36_r2 : BitVec 32 := 0#32
  let c1_i32_38_r2 : BitVec 32 := 1#32
  let arg7_r2 : BitVec 32 := Scf.iv c0_i32_36_r2 c1_i32_38_r2 k0_t2
  let c15_i32_65_r2 : BitVec 32 := 15#32
  let v77_r2 : BitVec 1 := Scalar.cmpi .eq arg7_r2 c15_i32_65_r2
  let v134_r2 : BitVec 1 := Scalar.ori v133_r2 v77_r2
  let v135_r2 : BitVec 32 := Scalar.extui v134_r2
  let c0_i32_100_r2 : BitVec 32 := 0#32
  let v136_r2 : BitVec 1 := Scalar.cmpi .ne v135_r2 c0_i32_100_r2
  v136_r2

def k0_off34 (i : grid0.Coords) (arg12_r2 : BitVec 32) : Fin 2 → Nat :=
  let c256_i32_117_r2 : BitVec 32 := 256#32
  let c512_i32_116_r2 : BitVec 32 := 512#32
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v78_r2 : BitVec 32 := Scalar.addi arg12_r2 v9
  let v163_r2 : BitVec 32 := Scalar.addi c512_i32_116_r2 v78_r2
  let v164_r2 : BitVec 32 := Scalar.muli c256_i32_117_r2 v163_r2
  let c0_i32_120_r2 : BitVec 32 := 0#32
  ![v164_r2.toNat, 0]
def k0_off35 (arg10_r2 : BitVec 32) : Fin 1 → Nat :=
  let c2_i32_115_r2 : BitVec 32 := 2#32
  let v162_r2 : BitVec 32 := Scalar.remui arg10_r2 c2_i32_115_r2
  ![v162_r2.toNat]
def k0_off36 (arg11_r2 : BitVec 32) : Fin 3 → Nat :=
  let c2_i32_115_r2 : BitVec 32 := 2#32
  let v162_r2 : BitVec 32 := Scalar.remui arg11_r2 c2_i32_115_r2
  let c0_i32_118_r2 : BitVec 32 := 0#32
  let c0_i32_119_r2 : BitVec 32 := 0#32
  ![v162_r2.toNat, 0, 0]
def k0_cond14 (i : grid0.Coords) (k0_t2 : Fin k0_t2_loop.trips) (arg12_r2 : BitVec 32) : BitVec 1 :=
  let c512_i32_86_r2 : BitVec 32 := 512#32
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v78_r2 : BitVec 32 := Scalar.addi arg12_r2 v9
  let v106_r2 : BitVec 32 := Scalar.addi c512_i32_86_r2 v78_r2
  let c512_i32_93_r2 : BitVec 32 := 512#32
  let true_67_r2 : BitVec 1 := 1#1
  let c1_i32_66_r2 : BitVec 32 := 1#32
  let v79_r2 : BitVec 32 := Scalar.subi arg12_r2 c1_i32_66_r2
  let v80_r2 : BitVec 32 := Scalar.select true_67_r2 v79_r2 arg12_r2
  let c_m1_i32_68_r2 : BitVec 32 := 4294967295#32
  let v81_r2 : BitVec 1 := Scalar.cmpi .eq v80_r2 c_m1_i32_68_r2
  let c15_i32_69_r2 : BitVec 32 := 15#32
  let v82_r2 : BitVec 32 := Scalar.select v81_r2 c15_i32_69_r2 v80_r2
  let v83_r2 : BitVec 32 := Scalar.addi v82_r2 v9
  let v119_r2 : BitVec 32 := Scalar.addi c512_i32_93_r2 v83_r2
  let v146_r2 : BitVec 1 := Scalar.cmpi .ne v106_r2 v119_r2
  let c0_i32_36_r2 : BitVec 32 := 0#32
  let c1_i32_38_r2 : BitVec 32 := 1#32
  let arg7_r2 : BitVec 32 := Scf.iv c0_i32_36_r2 c1_i32_38_r2 k0_t2
  let c0_i32_64_r2 : BitVec 32 := 0#32
  let v76_r2 : BitVec 1 := Scalar.cmpi .eq arg7_r2 c0_i32_64_r2
  let true_106_r2 : BitVec 1 := 1#1
  let v147_r2 : BitVec 1 := Scalar.xori v76_r2 true_106_r2
  let v148_r2 : BitVec 1 := Scalar.andi v146_r2 v147_r2
  let v149_r2 : BitVec 32 := Scalar.extui v148_r2
  let c0_i32_107_r2 : BitVec 32 := 0#32
  let v150_r2 : BitVec 1 := Scalar.cmpi .ne v149_r2 c0_i32_107_r2
  v150_r2

def k0_off37 (i : grid0.Coords) (arg12_r2 : BitVec 32) : Fin 2 → Nat :=
  let c256_i32_117_r2 : BitVec 32 := 256#32
  let c512_i32_116_r2 : BitVec 32 := 512#32
  let true_67_r2 : BitVec 1 := 1#1
  let c1_i32_66_r2 : BitVec 32 := 1#32
  let v79_r2 : BitVec 32 := Scalar.subi arg12_r2 c1_i32_66_r2
  let v80_r2 : BitVec 32 := Scalar.select true_67_r2 v79_r2 arg12_r2
  let c_m1_i32_68_r2 : BitVec 32 := 4294967295#32
  let v81_r2 : BitVec 1 := Scalar.cmpi .eq v80_r2 c_m1_i32_68_r2
  let c15_i32_69_r2 : BitVec 32 := 15#32
  let v82_r2 : BitVec 32 := Scalar.select v81_r2 c15_i32_69_r2 v80_r2
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v83_r2 : BitVec 32 := Scalar.addi v82_r2 v9
  let v163_r2 : BitVec 32 := Scalar.addi c512_i32_116_r2 v83_r2
  let v164_r2 : BitVec 32 := Scalar.muli c256_i32_117_r2 v163_r2
  let c0_i32_120_r2 : BitVec 32 := 0#32
  ![v164_r2.toNat, 0]
def k0_off38 (arg11_r2 : BitVec 32) : Fin 1 → Nat :=
  let c2_i32_115_r2 : BitVec 32 := 2#32
  let v162_r2 : BitVec 32 := Scalar.remui arg11_r2 c2_i32_115_r2
  ![v162_r2.toNat]

def k0_chk6 (i : grid0.Coords) (k0_t2 : Fin k0_t2_loop.trips) (arg8_r2 : BitVec 32) (arg9_r2 : BitVec 32) (arg10_r2 : BitVec 32) (arg11_r2 : BitVec 32) (arg12_r2 : BitVec 32) : Prop :=
  (∀ (k0_h8 : k0_cond8 i k0_t2 arg12_r2 = 1#1), ∀ a, (k0_off25 arg8_r2) a + S1x1x256.size a ≤ S2x1x256.size a) ∧
  (∀ (k0_h8 : k0_cond8 i k0_t2 arg12_r2 = 1#1), ∀ a, (k0_off26 i arg12_r2) a + S1x256.size a ≤ S3x1048576.size a) ∧
  (∀ (k0_h8 : k0_cond8 i k0_t2 arg12_r2 = 1#1), ∀ a, (k0_off27 arg8_r2) a + S1.size a ≤ S2.size a) ∧
  (∀ (k0_h9 : k0_cond9 i k0_t2 arg12_r2 = 1#1), ∀ a, (k0_off28 arg9_r2) a + S1x1x256.size a ≤ S2x1x256.size a) ∧
  (∀ (k0_h9 : k0_cond9 i k0_t2 arg12_r2 = 1#1), ∀ a, (k0_off29 i arg12_r2) a + S1x256.size a ≤ S3x1048576.size a) ∧
  (∀ (k0_h9 : k0_cond9 i k0_t2 arg12_r2 = 1#1), ∀ a, (k0_off30 arg9_r2) a + S1.size a ≤ S2.size a) ∧
  (∀ (k0_h12 : k0_cond12 i k0_t2 arg12_r2 = 1#1), ∀ a, (k0_off33 arg10_r2) a + S1x256x128.size a ≤ S2x256x128.size a) ∧
  (∀ (k0_h12 : k0_cond12 i k0_t2 arg12_r2 = 1#1), ∀ a, (k0_off34 i arg12_r2) a + S256x128.size a ≤ S393216x128.size a) ∧
  (∀ (k0_h12 : k0_cond12 i k0_t2 arg12_r2 = 1#1), ∀ a, (k0_off35 arg10_r2) a + S1.size a ≤ S2.size a) ∧
  (∀ (k0_h14 : k0_cond14 i k0_t2 arg12_r2 = 1#1), ∀ a, (k0_off36 arg11_r2) a + S1x256x128.size a ≤ S2x256x128.size a) ∧
  (∀ (k0_h14 : k0_cond14 i k0_t2 arg12_r2 = 1#1), ∀ a, (k0_off37 i arg12_r2) a + S256x128.size a ≤ S393216x128.size a) ∧
  (∀ (k0_h14 : k0_cond14 i k0_t2 arg12_r2 = 1#1), ∀ a, (k0_off38 arg11_r2) a + S1.size a ≤ S2.size a)
theorem k0_off25_inb : ∀ (i : grid0.Coords) (k0_t2 : Fin k0_t2_loop.trips) (arg8_r2 : BitVec 32) (arg9_r2 : BitVec 32) (arg10_r2 : BitVec 32) (arg11_r2 : BitVec 32) (arg12_r2 : BitVec 32) (k0_hw6 : k0_chk6 i k0_t2 arg8_r2 arg9_r2 arg10_r2 arg11_r2 arg12_r2), ∀ (k0_h8 : k0_cond8 i k0_t2 arg12_r2 = 1#1), ∀ a, (k0_off25 arg8_r2) a + S1x1x256.size a ≤ S2x1x256.size a := fun i k0_t2 arg8_r2 arg9_r2 arg10_r2 arg11_r2 arg12_r2 k0_hw6 k0_h8 => k0_hw6.1 k0_h8
theorem k0_off26_inb : ∀ (i : grid0.Coords) (k0_t2 : Fin k0_t2_loop.trips) (arg8_r2 : BitVec 32) (arg9_r2 : BitVec 32) (arg10_r2 : BitVec 32) (arg11_r2 : BitVec 32) (arg12_r2 : BitVec 32) (k0_hw6 : k0_chk6 i k0_t2 arg8_r2 arg9_r2 arg10_r2 arg11_r2 arg12_r2), ∀ (k0_h8 : k0_cond8 i k0_t2 arg12_r2 = 1#1), ∀ a, (k0_off26 i arg12_r2) a + S1x256.size a ≤ S3x1048576.size a := fun i k0_t2 arg8_r2 arg9_r2 arg10_r2 arg11_r2 arg12_r2 k0_hw6 k0_h8 => k0_hw6.2.1 k0_h8
theorem k0_off27_inb : ∀ (i : grid0.Coords) (k0_t2 : Fin k0_t2_loop.trips) (arg8_r2 : BitVec 32) (arg9_r2 : BitVec 32) (arg10_r2 : BitVec 32) (arg11_r2 : BitVec 32) (arg12_r2 : BitVec 32) (k0_hw6 : k0_chk6 i k0_t2 arg8_r2 arg9_r2 arg10_r2 arg11_r2 arg12_r2), ∀ (k0_h8 : k0_cond8 i k0_t2 arg12_r2 = 1#1), ∀ a, (k0_off27 arg8_r2) a + S1.size a ≤ S2.size a := fun i k0_t2 arg8_r2 arg9_r2 arg10_r2 arg11_r2 arg12_r2 k0_hw6 k0_h8 => k0_hw6.2.2.1 k0_h8
theorem k0_off28_inb : ∀ (i : grid0.Coords) (k0_t2 : Fin k0_t2_loop.trips) (arg8_r2 : BitVec 32) (arg9_r2 : BitVec 32) (arg10_r2 : BitVec 32) (arg11_r2 : BitVec 32) (arg12_r2 : BitVec 32) (k0_hw6 : k0_chk6 i k0_t2 arg8_r2 arg9_r2 arg10_r2 arg11_r2 arg12_r2), ∀ (k0_h9 : k0_cond9 i k0_t2 arg12_r2 = 1#1), ∀ a, (k0_off28 arg9_r2) a + S1x1x256.size a ≤ S2x1x256.size a := fun i k0_t2 arg8_r2 arg9_r2 arg10_r2 arg11_r2 arg12_r2 k0_hw6 k0_h9 => k0_hw6.2.2.2.1 k0_h9
theorem k0_off29_inb : ∀ (i : grid0.Coords) (k0_t2 : Fin k0_t2_loop.trips) (arg8_r2 : BitVec 32) (arg9_r2 : BitVec 32) (arg10_r2 : BitVec 32) (arg11_r2 : BitVec 32) (arg12_r2 : BitVec 32) (k0_hw6 : k0_chk6 i k0_t2 arg8_r2 arg9_r2 arg10_r2 arg11_r2 arg12_r2), ∀ (k0_h9 : k0_cond9 i k0_t2 arg12_r2 = 1#1), ∀ a, (k0_off29 i arg12_r2) a + S1x256.size a ≤ S3x1048576.size a := fun i k0_t2 arg8_r2 arg9_r2 arg10_r2 arg11_r2 arg12_r2 k0_hw6 k0_h9 => k0_hw6.2.2.2.2.1 k0_h9
theorem k0_off30_inb : ∀ (i : grid0.Coords) (k0_t2 : Fin k0_t2_loop.trips) (arg8_r2 : BitVec 32) (arg9_r2 : BitVec 32) (arg10_r2 : BitVec 32) (arg11_r2 : BitVec 32) (arg12_r2 : BitVec 32) (k0_hw6 : k0_chk6 i k0_t2 arg8_r2 arg9_r2 arg10_r2 arg11_r2 arg12_r2), ∀ (k0_h9 : k0_cond9 i k0_t2 arg12_r2 = 1#1), ∀ a, (k0_off30 arg9_r2) a + S1.size a ≤ S2.size a := fun i k0_t2 arg8_r2 arg9_r2 arg10_r2 arg11_r2 arg12_r2 k0_hw6 k0_h9 => k0_hw6.2.2.2.2.2.1 k0_h9
theorem k0_off33_inb : ∀ (i : grid0.Coords) (k0_t2 : Fin k0_t2_loop.trips) (arg8_r2 : BitVec 32) (arg9_r2 : BitVec 32) (arg10_r2 : BitVec 32) (arg11_r2 : BitVec 32) (arg12_r2 : BitVec 32) (k0_hw6 : k0_chk6 i k0_t2 arg8_r2 arg9_r2 arg10_r2 arg11_r2 arg12_r2), ∀ (k0_h12 : k0_cond12 i k0_t2 arg12_r2 = 1#1), ∀ a, (k0_off33 arg10_r2) a + S1x256x128.size a ≤ S2x256x128.size a := fun i k0_t2 arg8_r2 arg9_r2 arg10_r2 arg11_r2 arg12_r2 k0_hw6 k0_h12 => k0_hw6.2.2.2.2.2.2.1 k0_h12
theorem k0_off34_inb : ∀ (i : grid0.Coords) (k0_t2 : Fin k0_t2_loop.trips) (arg8_r2 : BitVec 32) (arg9_r2 : BitVec 32) (arg10_r2 : BitVec 32) (arg11_r2 : BitVec 32) (arg12_r2 : BitVec 32) (k0_hw6 : k0_chk6 i k0_t2 arg8_r2 arg9_r2 arg10_r2 arg11_r2 arg12_r2), ∀ (k0_h12 : k0_cond12 i k0_t2 arg12_r2 = 1#1), ∀ a, (k0_off34 i arg12_r2) a + S256x128.size a ≤ S393216x128.size a := fun i k0_t2 arg8_r2 arg9_r2 arg10_r2 arg11_r2 arg12_r2 k0_hw6 k0_h12 => k0_hw6.2.2.2.2.2.2.2.1 k0_h12
theorem k0_off35_inb : ∀ (i : grid0.Coords) (k0_t2 : Fin k0_t2_loop.trips) (arg8_r2 : BitVec 32) (arg9_r2 : BitVec 32) (arg10_r2 : BitVec 32) (arg11_r2 : BitVec 32) (arg12_r2 : BitVec 32) (k0_hw6 : k0_chk6 i k0_t2 arg8_r2 arg9_r2 arg10_r2 arg11_r2 arg12_r2), ∀ (k0_h12 : k0_cond12 i k0_t2 arg12_r2 = 1#1), ∀ a, (k0_off35 arg10_r2) a + S1.size a ≤ S2.size a := fun i k0_t2 arg8_r2 arg9_r2 arg10_r2 arg11_r2 arg12_r2 k0_hw6 k0_h12 => k0_hw6.2.2.2.2.2.2.2.2.1 k0_h12
theorem k0_off36_inb : ∀ (i : grid0.Coords) (k0_t2 : Fin k0_t2_loop.trips) (arg8_r2 : BitVec 32) (arg9_r2 : BitVec 32) (arg10_r2 : BitVec 32) (arg11_r2 : BitVec 32) (arg12_r2 : BitVec 32) (k0_hw6 : k0_chk6 i k0_t2 arg8_r2 arg9_r2 arg10_r2 arg11_r2 arg12_r2), ∀ (k0_h14 : k0_cond14 i k0_t2 arg12_r2 = 1#1), ∀ a, (k0_off36 arg11_r2) a + S1x256x128.size a ≤ S2x256x128.size a := fun i k0_t2 arg8_r2 arg9_r2 arg10_r2 arg11_r2 arg12_r2 k0_hw6 k0_h14 => k0_hw6.2.2.2.2.2.2.2.2.2.1 k0_h14
theorem k0_off37_inb : ∀ (i : grid0.Coords) (k0_t2 : Fin k0_t2_loop.trips) (arg8_r2 : BitVec 32) (arg9_r2 : BitVec 32) (arg10_r2 : BitVec 32) (arg11_r2 : BitVec 32) (arg12_r2 : BitVec 32) (k0_hw6 : k0_chk6 i k0_t2 arg8_r2 arg9_r2 arg10_r2 arg11_r2 arg12_r2), ∀ (k0_h14 : k0_cond14 i k0_t2 arg12_r2 = 1#1), ∀ a, (k0_off37 i arg12_r2) a + S256x128.size a ≤ S393216x128.size a := fun i k0_t2 arg8_r2 arg9_r2 arg10_r2 arg11_r2 arg12_r2 k0_hw6 k0_h14 => k0_hw6.2.2.2.2.2.2.2.2.2.2.1 k0_h14
theorem k0_off38_inb : ∀ (i : grid0.Coords) (k0_t2 : Fin k0_t2_loop.trips) (arg8_r2 : BitVec 32) (arg9_r2 : BitVec 32) (arg10_r2 : BitVec 32) (arg11_r2 : BitVec 32) (arg12_r2 : BitVec 32) (k0_hw6 : k0_chk6 i k0_t2 arg8_r2 arg9_r2 arg10_r2 arg11_r2 arg12_r2), ∀ (k0_h14 : k0_cond14 i k0_t2 arg12_r2 = 1#1), ∀ a, (k0_off38 arg11_r2) a + S1.size a ≤ S2.size a := fun i k0_t2 arg8_r2 arg9_r2 arg10_r2 arg11_r2 arg12_r2 k0_hw6 k0_h14 => k0_hw6.2.2.2.2.2.2.2.2.2.2.2 k0_h14

def k0_off39 (v44_3_r2 : BitVec 32) : Fin 3 → Nat :=
  let c2_i32_56_r2 : BitVec 32 := 2#32
  let v65_r2 : BitVec 32 := Scalar.remui v44_3_r2 c2_i32_56_r2
  let c0_i32_58_r2 : BitVec 32 := 0#32
  let c0_i32_59_r2 : BitVec 32 := 0#32
  ![v65_r2.toNat, 0, 0]

def k0_off40 (i : grid0.Coords) (v44_4_r2 : BitVec 32) : Fin 2 → Nat :=
  let c256_i32_57_r2 : BitVec 32 := 256#32
  let c512_i32_r2 : BitVec 32 := 512#32
  let true_41_r2 : BitVec 1 := 1#1
  let c1_i32_40_r2 : BitVec 32 := 1#32
  let v45_r2 : BitVec 32 := Scalar.subi v44_4_r2 c1_i32_40_r2
  let v46_r2 : BitVec 32 := Scalar.select true_41_r2 v45_r2 v44_4_r2
  let c_m1_i32_42_r2 : BitVec 32 := 4294967295#32
  let v47_r2 : BitVec 1 := Scalar.cmpi .eq v46_r2 c_m1_i32_42_r2
  let c15_i32_43_r2 : BitVec 32 := 15#32
  let v48_r2 : BitVec 32 := Scalar.select v47_r2 c15_i32_43_r2 v46_r2
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v49_r2 : BitVec 32 := Scalar.addi v48_r2 v9
  let v66_r2 : BitVec 32 := Scalar.addi c512_i32_r2 v49_r2
  let v67_r2 : BitVec 32 := Scalar.muli c256_i32_57_r2 v66_r2
  let c0_i32_60_r2 : BitVec 32 := 0#32
  ![v67_r2.toNat, 0]

def k0_chk10 (i : grid0.Coords) (v44_4_r2 : BitVec 32) : Prop :=
  (∀ a, (k0_off40 i v44_4_r2) a + S256x128.size a ≤ S393216x128.size a)
theorem k0_off40_inb : ∀ (i : grid0.Coords) (v44_4_r2 : BitVec 32) (k0_hw10 : k0_chk10 i v44_4_r2), ∀ a, (k0_off40 i v44_4_r2) a + S256x128.size a ≤ S393216x128.size a := fun i v44_4_r2 k0_hw10 => k0_hw10

def k0_off41 (v44_3_r2 : BitVec 32) : Fin 1 → Nat :=
  let c2_i32_56_r2 : BitVec 32 := 2#32
  let v65_r2 : BitVec 32 := Scalar.remui v44_3_r2 c2_i32_56_r2
  ![v65_r2.toNat]
def k0_off42 (v44_3_r2 : BitVec 32) : Fin 3 → Nat :=
  let c2_i32_56_r2 : BitVec 32 := 2#32
  let v65_r2 : BitVec 32 := Scalar.remui v44_3_r2 c2_i32_56_r2
  let c0_i32_62_r2 : BitVec 32 := 0#32
  let c0_i32_63_r2 : BitVec 32 := 0#32
  ![v65_r2.toNat, 0, 0]

def k0_chk9 (v44_3_r2 : BitVec 32) : Prop :=
  (∀ a, (k0_off39 v44_3_r2) a + S1x256x128.size a ≤ S2x256x128.size a) ∧
  (∀ a, (k0_off41 v44_3_r2) a + S1.size a ≤ S2.size a) ∧
  (∀ a, (k0_off42 v44_3_r2) a + S1x256x128.size a ≤ S2x256x128.size a)
theorem k0_off39_inb : ∀ (v44_3_r2 : BitVec 32) (k0_hw9 : k0_chk9 v44_3_r2), ∀ a, (k0_off39 v44_3_r2) a + S1x256x128.size a ≤ S2x256x128.size a := fun v44_3_r2 k0_hw9 => k0_hw9.1
theorem k0_off41_inb : ∀ (v44_3_r2 : BitVec 32) (k0_hw9 : k0_chk9 v44_3_r2), ∀ a, (k0_off41 v44_3_r2) a + S1.size a ≤ S2.size a := fun v44_3_r2 k0_hw9 => k0_hw9.2.1
theorem k0_off42_inb : ∀ (v44_3_r2 : BitVec 32) (k0_hw9 : k0_chk9 v44_3_r2), ∀ a, (k0_off42 v44_3_r2) a + S1x256x128.size a ≤ S2x256x128.size a := fun v44_3_r2 k0_hw9 => k0_hw9.2.2

def k0_off43 : Fin 3 → Nat :=
  let c0_i32_22_r4 : BitVec 32 := 0#32
  let c2_i32_r4 : BitVec 32 := 2#32
  let v31_r4 : BitVec 32 := Scalar.remui c0_i32_22_r4 c2_i32_r4
  let c0_i32_24_r4 : BitVec 32 := 0#32
  let c0_i32_25_r4 : BitVec 32 := 0#32
  ![v31_r4.toNat, 0, 0]
def k0_off44 (i : grid0.Coords) : Fin 2 → Nat :=
  let c2_i32_26_r4 : BitVec 32 := 2#32
  let c256_i32_r4 : BitVec 32 := 256#32
  let c0_i32_23_r4 : BitVec 32 := 0#32
  let c0_i32_10_r4 : BitVec 32 := 0#32
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v17_r4 : BitVec 32 := Scalar.addi c0_i32_10_r4 v14
  let v32_r4 : BitVec 32 := Scalar.addi c0_i32_23_r4 v17_r4
  let v33_r4 : BitVec 32 := Scalar.muli c256_i32_r4 v32_r4
  ![2, v33_r4.toNat]
def k0_off45 : Fin 1 → Nat :=
  let c0_i32_22_r4 : BitVec 32 := 0#32
  let c2_i32_r4 : BitVec 32 := 2#32
  let v31_r4 : BitVec 32 := Scalar.remui c0_i32_22_r4 c2_i32_r4
  ![v31_r4.toNat]
@[reducible] def k0_t3_loop : Scf.Loop 32 :=
  let c0_i32_36_r4 : BitVec 32 := 0#32
  let c16_i32_37_r4 : BitVec 32 := 16#32
  let v43_r4 : BitVec 32 := Scalar.addi c0_i32_36_r4 c16_i32_37_r4
  let c1_i32_38_r4 : BitVec 32 := 1#32
  ⟨c0_i32_36_r4, v43_r4, c1_i32_38_r4⟩
def k0_off46 (arg8_r4 : BitVec 32) : Fin 3 → Nat :=
  let c2_i32_115_r4 : BitVec 32 := 2#32
  let v162_r4 : BitVec 32 := Scalar.remui arg8_r4 c2_i32_115_r4
  let c0_i32_118_r4 : BitVec 32 := 0#32
  let c0_i32_119_r4 : BitVec 32 := 0#32
  ![v162_r4.toNat, 0, 0]
def k0_cond15 (i : grid0.Coords) (k0_t3 : Fin k0_t3_loop.trips) (arg12_r4 : BitVec 32) : BitVec 1 :=
  let c0_i32_78_r4 : BitVec 32 := 0#32
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v78_r4 : BitVec 32 := Scalar.addi arg12_r4 v14
  let v94_r4 : BitVec 32 := Scalar.addi c0_i32_78_r4 v78_r4
  let c0_i32_79_r4 : BitVec 32 := 0#32
  let true_71_r4 : BitVec 1 := 1#1
  let c1_i32_70_r4 : BitVec 32 := 1#32
  let v84_r4 : BitVec 32 := Scalar.addi arg12_r4 c1_i32_70_r4
  let v85_r4 : BitVec 32 := Scalar.select true_71_r4 v84_r4 arg12_r4
  let c16_i32_72_r4 : BitVec 32 := 16#32
  let v86_r4 : BitVec 1 := Scalar.cmpi .eq v85_r4 c16_i32_72_r4
  let c0_i32_73_r4 : BitVec 32 := 0#32
  let v87_r4 : BitVec 32 := Scalar.select v86_r4 c0_i32_73_r4 v85_r4
  let v88_r4 : BitVec 32 := Scalar.addi v87_r4 v14
  let v95_r4 : BitVec 32 := Scalar.addi c0_i32_79_r4 v88_r4
  let v96_r4 : BitVec 1 := Scalar.cmpi .ne v94_r4 v95_r4
  let c0_i32_36_r4 : BitVec 32 := 0#32
  let c1_i32_38_r4 : BitVec 32 := 1#32
  let arg7_r4 : BitVec 32 := Scf.iv c0_i32_36_r4 c1_i32_38_r4 k0_t3
  let c15_i32_80_r4 : BitVec 32 := 15#32
  let v97_r4 : BitVec 1 := Scalar.cmpi .sge arg7_r4 c15_i32_80_r4
  let true_81_r4 : BitVec 1 := 1#1
  let v98_r4 : BitVec 1 := Scalar.xori v97_r4 true_81_r4
  let v99_r4 : BitVec 1 := Scalar.andi v96_r4 v98_r4
  let true_82_r4 : BitVec 1 := 1#1
  let v100_r4 : BitVec 1 := Scalar.andi v99_r4 true_82_r4
  let v101_r4 : BitVec 32 := Scalar.extui v100_r4
  let c0_i32_83_r4 : BitVec 32 := 0#32
  let v102_r4 : BitVec 1 := Scalar.cmpi .ne v101_r4 c0_i32_83_r4
  v102_r4

def k0_off47 (i : grid0.Coords) (arg12_r4 : BitVec 32) : Fin 2 → Nat :=
  let c2_i32_120_r4 : BitVec 32 := 2#32
  let c256_i32_117_r4 : BitVec 32 := 256#32
  let c0_i32_116_r4 : BitVec 32 := 0#32
  let true_71_r4 : BitVec 1 := 1#1
  let c1_i32_70_r4 : BitVec 32 := 1#32
  let v84_r4 : BitVec 32 := Scalar.addi arg12_r4 c1_i32_70_r4
  let v85_r4 : BitVec 32 := Scalar.select true_71_r4 v84_r4 arg12_r4
  let c16_i32_72_r4 : BitVec 32 := 16#32
  let v86_r4 : BitVec 1 := Scalar.cmpi .eq v85_r4 c16_i32_72_r4
  let c0_i32_73_r4 : BitVec 32 := 0#32
  let v87_r4 : BitVec 32 := Scalar.select v86_r4 c0_i32_73_r4 v85_r4
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v88_r4 : BitVec 32 := Scalar.addi v87_r4 v14
  let v163_r4 : BitVec 32 := Scalar.addi c0_i32_116_r4 v88_r4
  let v164_r4 : BitVec 32 := Scalar.muli c256_i32_117_r4 v163_r4
  ![2, v164_r4.toNat]
def k0_off48 (arg8_r4 : BitVec 32) : Fin 1 → Nat :=
  let c2_i32_115_r4 : BitVec 32 := 2#32
  let v162_r4 : BitVec 32 := Scalar.remui arg8_r4 c2_i32_115_r4
  ![v162_r4.toNat]
def k0_off49 (arg9_r4 : BitVec 32) : Fin 3 → Nat :=
  let c2_i32_117_r4 : BitVec 32 := 2#32
  let v164_r4 : BitVec 32 := Scalar.remui arg9_r4 c2_i32_117_r4
  let c0_i32_118_r4 : BitVec 32 := 0#32
  let c0_i32_119_r4 : BitVec 32 := 0#32
  ![v164_r4.toNat, 0, 0]
def k0_cond16 (i : grid0.Coords) (k0_t3 : Fin k0_t3_loop.trips) (arg12_r4 : BitVec 32) : BitVec 1 :=
  let c0_i32_78_r4 : BitVec 32 := 0#32
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v78_r4 : BitVec 32 := Scalar.addi arg12_r4 v14
  let v94_r4 : BitVec 32 := Scalar.addi c0_i32_78_r4 v78_r4
  let c0_i32_90_r4 : BitVec 32 := 0#32
  let true_67_r4 : BitVec 1 := 1#1
  let c1_i32_66_r4 : BitVec 32 := 1#32
  let v79_r4 : BitVec 32 := Scalar.subi arg12_r4 c1_i32_66_r4
  let v80_r4 : BitVec 32 := Scalar.select true_67_r4 v79_r4 arg12_r4
  let c_m1_i32_68_r4 : BitVec 32 := 4294967295#32
  let v81_r4 : BitVec 1 := Scalar.cmpi .eq v80_r4 c_m1_i32_68_r4
  let c15_i32_69_r4 : BitVec 32 := 15#32
  let v82_r4 : BitVec 32 := Scalar.select v81_r4 c15_i32_69_r4 v80_r4
  let v83_r4 : BitVec 32 := Scalar.addi v82_r4 v14
  let v112_r4 : BitVec 32 := Scalar.addi c0_i32_90_r4 v83_r4
  let v113_r4 : BitVec 1 := Scalar.cmpi .ne v94_r4 v112_r4
  let c0_i32_36_r4 : BitVec 32 := 0#32
  let c1_i32_38_r4 : BitVec 32 := 1#32
  let arg7_r4 : BitVec 32 := Scf.iv c0_i32_36_r4 c1_i32_38_r4 k0_t3
  let c0_i32_64_r4 : BitVec 32 := 0#32
  let v76_r4 : BitVec 1 := Scalar.cmpi .eq arg7_r4 c0_i32_64_r4
  let v114_r4 : BitVec 1 := Scalar.ori v113_r4 v76_r4
  let c0_i32_91_r4 : BitVec 32 := 0#32
  let v115_r4 : BitVec 1 := Scalar.cmpi .sge arg7_r4 c0_i32_91_r4
  let v116_r4 : BitVec 1 := Scalar.andi v114_r4 v115_r4
  let v117_r4 : BitVec 32 := Scalar.extui v116_r4
  let c0_i32_92_r4 : BitVec 32 := 0#32
  let v118_r4 : BitVec 1 := Scalar.cmpi .ne v117_r4 c0_i32_92_r4
  v118_r4

def k0_off50 (i : grid0.Coords) (arg12_r4 : BitVec 32) : Fin 2 → Nat :=
  let c2_i32_120_r4 : BitVec 32 := 2#32
  let c256_i32_116_r4 : BitVec 32 := 256#32
  let c0_i32_115_r4 : BitVec 32 := 0#32
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v78_r4 : BitVec 32 := Scalar.addi arg12_r4 v14
  let v162_r4 : BitVec 32 := Scalar.addi c0_i32_115_r4 v78_r4
  let v163_r4 : BitVec 32 := Scalar.muli c256_i32_116_r4 v162_r4
  ![2, v163_r4.toNat]
def k0_off51 (arg9_r4 : BitVec 32) : Fin 1 → Nat :=
  let c2_i32_117_r4 : BitVec 32 := 2#32
  let v164_r4 : BitVec 32 := Scalar.remui arg9_r4 c2_i32_117_r4
  ![v164_r4.toNat]
def k0_off52 (arg10_r4 : BitVec 32) : Fin 3 → Nat :=
  let c2_i32_97_r4 : BitVec 32 := 2#32
  let v127_r4 : BitVec 32 := Scalar.remui arg10_r4 c2_i32_97_r4
  let c0_i32_115_r5 : BitVec 32 := 0#32
  let c0_i32_116_r5 : BitVec 32 := 0#32
  ![v127_r4.toNat, 0, 0]

def k0_chk12 (arg10_r4 : BitVec 32) : Prop :=
  (∀ a, (k0_off52 arg10_r4) a + S1x256x128.size a ≤ S2x256x128.size a)
theorem k0_off52_inb : ∀ (arg10_r4 : BitVec 32) (k0_hw12 : k0_chk12 arg10_r4), ∀ a, (k0_off52 arg10_r4) a + S1x256x128.size a ≤ S2x256x128.size a := fun arg10_r4 k0_hw12 => k0_hw12

def k0_off53 (arg9_r4 : BitVec 32) : Fin 3 → Nat :=
  let c2_i32_96_r4 : BitVec 32 := 2#32
  let v126_r4 : BitVec 32 := Scalar.remui arg9_r4 c2_i32_96_r4
  let c0_i32_117_r5 : BitVec 32 := 0#32
  let c0_i32_118_r5 : BitVec 32 := 0#32
  ![v126_r4.toNat, 0, 0]

def k0_chk13 (arg9_r4 : BitVec 32) : Prop :=
  (∀ a, (k0_off53 arg9_r4) a + S1x1x256.size a ≤ S2x1x256.size a)
theorem k0_off53_inb : ∀ (arg9_r4 : BitVec 32) (k0_hw13 : k0_chk13 arg9_r4), ∀ a, (k0_off53 arg9_r4) a + S1x1x256.size a ≤ S2x1x256.size a := fun arg9_r4 k0_hw13 => k0_hw13

def k0_off54 (arg10_r4 : BitVec 32) : Fin 3 → Nat :=
  let c2_i32_115_r4 : BitVec 32 := 2#32
  let v162_r4 : BitVec 32 := Scalar.remui arg10_r4 c2_i32_115_r4
  let c0_i32_118_r4 : BitVec 32 := 0#32
  let c0_i32_119_r4 : BitVec 32 := 0#32
  ![v162_r4.toNat, 0, 0]
def k0_cond19 (i : grid0.Coords) (k0_t3 : Fin k0_t3_loop.trips) (arg12_r4 : BitVec 32) : BitVec 1 :=
  let c1024_i32_86_r4 : BitVec 32 := 1024#32
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v78_r4 : BitVec 32 := Scalar.addi arg12_r4 v14
  let v106_r4 : BitVec 32 := Scalar.addi c1024_i32_86_r4 v78_r4
  let c1024_i32_87_r4 : BitVec 32 := 1024#32
  let true_71_r4 : BitVec 1 := 1#1
  let c1_i32_70_r4 : BitVec 32 := 1#32
  let v84_r4 : BitVec 32 := Scalar.addi arg12_r4 c1_i32_70_r4
  let v85_r4 : BitVec 32 := Scalar.select true_71_r4 v84_r4 arg12_r4
  let c16_i32_72_r4 : BitVec 32 := 16#32
  let v86_r4 : BitVec 1 := Scalar.cmpi .eq v85_r4 c16_i32_72_r4
  let c0_i32_73_r4 : BitVec 32 := 0#32
  let v87_r4 : BitVec 32 := Scalar.select v86_r4 c0_i32_73_r4 v85_r4
  let v88_r4 : BitVec 32 := Scalar.addi v87_r4 v14
  let v107_r4 : BitVec 32 := Scalar.addi c1024_i32_87_r4 v88_r4
  let v133_r4 : BitVec 1 := Scalar.cmpi .ne v106_r4 v107_r4
  let c0_i32_36_r4 : BitVec 32 := 0#32
  let c1_i32_38_r4 : BitVec 32 := 1#32
  let arg7_r4 : BitVec 32 := Scf.iv c0_i32_36_r4 c1_i32_38_r4 k0_t3
  let c15_i32_65_r4 : BitVec 32 := 15#32
  let v77_r4 : BitVec 1 := Scalar.cmpi .eq arg7_r4 c15_i32_65_r4
  let v134_r4 : BitVec 1 := Scalar.ori v133_r4 v77_r4
  let v135_r4 : BitVec 32 := Scalar.extui v134_r4
  let c0_i32_100_r4 : BitVec 32 := 0#32
  let v136_r4 : BitVec 1 := Scalar.cmpi .ne v135_r4 c0_i32_100_r4
  v136_r4

def k0_off55 (i : grid0.Coords) (arg12_r4 : BitVec 32) : Fin 2 → Nat :=
  let c256_i32_117_r4 : BitVec 32 := 256#32
  let c1024_i32_116_r4 : BitVec 32 := 1024#32
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v78_r4 : BitVec 32 := Scalar.addi arg12_r4 v14
  let v163_r4 : BitVec 32 := Scalar.addi c1024_i32_116_r4 v78_r4
  let v164_r4 : BitVec 32 := Scalar.muli c256_i32_117_r4 v163_r4
  let c0_i32_120_r4 : BitVec 32 := 0#32
  ![v164_r4.toNat, 0]
def k0_off56 (arg10_r4 : BitVec 32) : Fin 1 → Nat :=
  let c2_i32_115_r4 : BitVec 32 := 2#32
  let v162_r4 : BitVec 32 := Scalar.remui arg10_r4 c2_i32_115_r4
  ![v162_r4.toNat]
def k0_off57 (arg11_r4 : BitVec 32) : Fin 3 → Nat :=
  let c2_i32_115_r4 : BitVec 32 := 2#32
  let v162_r4 : BitVec 32 := Scalar.remui arg11_r4 c2_i32_115_r4
  let c0_i32_118_r4 : BitVec 32 := 0#32
  let c0_i32_119_r4 : BitVec 32 := 0#32
  ![v162_r4.toNat, 0, 0]
def k0_cond21 (i : grid0.Coords) (k0_t3 : Fin k0_t3_loop.trips) (arg12_r4 : BitVec 32) : BitVec 1 :=
  let c1024_i32_86_r4 : BitVec 32 := 1024#32
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v78_r4 : BitVec 32 := Scalar.addi arg12_r4 v14
  let v106_r4 : BitVec 32 := Scalar.addi c1024_i32_86_r4 v78_r4
  let c1024_i32_93_r4 : BitVec 32 := 1024#32
  let true_67_r4 : BitVec 1 := 1#1
  let c1_i32_66_r4 : BitVec 32 := 1#32
  let v79_r4 : BitVec 32 := Scalar.subi arg12_r4 c1_i32_66_r4
  let v80_r4 : BitVec 32 := Scalar.select true_67_r4 v79_r4 arg12_r4
  let c_m1_i32_68_r4 : BitVec 32 := 4294967295#32
  let v81_r4 : BitVec 1 := Scalar.cmpi .eq v80_r4 c_m1_i32_68_r4
  let c15_i32_69_r4 : BitVec 32 := 15#32
  let v82_r4 : BitVec 32 := Scalar.select v81_r4 c15_i32_69_r4 v80_r4
  let v83_r4 : BitVec 32 := Scalar.addi v82_r4 v14
  let v119_r4 : BitVec 32 := Scalar.addi c1024_i32_93_r4 v83_r4
  let v146_r4 : BitVec 1 := Scalar.cmpi .ne v106_r4 v119_r4
  let c0_i32_36_r4 : BitVec 32 := 0#32
  let c1_i32_38_r4 : BitVec 32 := 1#32
  let arg7_r4 : BitVec 32 := Scf.iv c0_i32_36_r4 c1_i32_38_r4 k0_t3
  let c0_i32_64_r4 : BitVec 32 := 0#32
  let v76_r4 : BitVec 1 := Scalar.cmpi .eq arg7_r4 c0_i32_64_r4
  let true_106_r4 : BitVec 1 := 1#1
  let v147_r4 : BitVec 1 := Scalar.xori v76_r4 true_106_r4
  let v148_r4 : BitVec 1 := Scalar.andi v146_r4 v147_r4
  let v149_r4 : BitVec 32 := Scalar.extui v148_r4
  let c0_i32_107_r4 : BitVec 32 := 0#32
  let v150_r4 : BitVec 1 := Scalar.cmpi .ne v149_r4 c0_i32_107_r4
  v150_r4

def k0_off58 (i : grid0.Coords) (arg12_r4 : BitVec 32) : Fin 2 → Nat :=
  let c256_i32_117_r4 : BitVec 32 := 256#32
  let c1024_i32_116_r4 : BitVec 32 := 1024#32
  let true_67_r4 : BitVec 1 := 1#1
  let c1_i32_66_r4 : BitVec 32 := 1#32
  let v79_r4 : BitVec 32 := Scalar.subi arg12_r4 c1_i32_66_r4
  let v80_r4 : BitVec 32 := Scalar.select true_67_r4 v79_r4 arg12_r4
  let c_m1_i32_68_r4 : BitVec 32 := 4294967295#32
  let v81_r4 : BitVec 1 := Scalar.cmpi .eq v80_r4 c_m1_i32_68_r4
  let c15_i32_69_r4 : BitVec 32 := 15#32
  let v82_r4 : BitVec 32 := Scalar.select v81_r4 c15_i32_69_r4 v80_r4
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v83_r4 : BitVec 32 := Scalar.addi v82_r4 v14
  let v163_r4 : BitVec 32 := Scalar.addi c1024_i32_116_r4 v83_r4
  let v164_r4 : BitVec 32 := Scalar.muli c256_i32_117_r4 v163_r4
  let c0_i32_120_r4 : BitVec 32 := 0#32
  ![v164_r4.toNat, 0]
def k0_off59 (arg11_r4 : BitVec 32) : Fin 1 → Nat :=
  let c2_i32_115_r4 : BitVec 32 := 2#32
  let v162_r4 : BitVec 32 := Scalar.remui arg11_r4 c2_i32_115_r4
  ![v162_r4.toNat]

def k0_chk11 (i : grid0.Coords) (k0_t3 : Fin k0_t3_loop.trips) (arg8_r4 : BitVec 32) (arg9_r4 : BitVec 32) (arg10_r4 : BitVec 32) (arg11_r4 : BitVec 32) (arg12_r4 : BitVec 32) : Prop :=
  (∀ (k0_h15 : k0_cond15 i k0_t3 arg12_r4 = 1#1), ∀ a, (k0_off46 arg8_r4) a + S1x1x256.size a ≤ S2x1x256.size a) ∧
  (∀ (k0_h15 : k0_cond15 i k0_t3 arg12_r4 = 1#1), ∀ a, (k0_off47 i arg12_r4) a + S1x256.size a ≤ S3x1048576.size a) ∧
  (∀ (k0_h15 : k0_cond15 i k0_t3 arg12_r4 = 1#1), ∀ a, (k0_off48 arg8_r4) a + S1.size a ≤ S2.size a) ∧
  (∀ (k0_h16 : k0_cond16 i k0_t3 arg12_r4 = 1#1), ∀ a, (k0_off49 arg9_r4) a + S1x1x256.size a ≤ S2x1x256.size a) ∧
  (∀ (k0_h16 : k0_cond16 i k0_t3 arg12_r4 = 1#1), ∀ a, (k0_off50 i arg12_r4) a + S1x256.size a ≤ S3x1048576.size a) ∧
  (∀ (k0_h16 : k0_cond16 i k0_t3 arg12_r4 = 1#1), ∀ a, (k0_off51 arg9_r4) a + S1.size a ≤ S2.size a) ∧
  (∀ (k0_h19 : k0_cond19 i k0_t3 arg12_r4 = 1#1), ∀ a, (k0_off54 arg10_r4) a + S1x256x128.size a ≤ S2x256x128.size a) ∧
  (∀ (k0_h19 : k0_cond19 i k0_t3 arg12_r4 = 1#1), ∀ a, (k0_off55 i arg12_r4) a + S256x128.size a ≤ S393216x128.size a) ∧
  (∀ (k0_h19 : k0_cond19 i k0_t3 arg12_r4 = 1#1), ∀ a, (k0_off56 arg10_r4) a + S1.size a ≤ S2.size a) ∧
  (∀ (k0_h21 : k0_cond21 i k0_t3 arg12_r4 = 1#1), ∀ a, (k0_off57 arg11_r4) a + S1x256x128.size a ≤ S2x256x128.size a) ∧
  (∀ (k0_h21 : k0_cond21 i k0_t3 arg12_r4 = 1#1), ∀ a, (k0_off58 i arg12_r4) a + S256x128.size a ≤ S393216x128.size a) ∧
  (∀ (k0_h21 : k0_cond21 i k0_t3 arg12_r4 = 1#1), ∀ a, (k0_off59 arg11_r4) a + S1.size a ≤ S2.size a)
theorem k0_off46_inb : ∀ (i : grid0.Coords) (k0_t3 : Fin k0_t3_loop.trips) (arg8_r4 : BitVec 32) (arg9_r4 : BitVec 32) (arg10_r4 : BitVec 32) (arg11_r4 : BitVec 32) (arg12_r4 : BitVec 32) (k0_hw11 : k0_chk11 i k0_t3 arg8_r4 arg9_r4 arg10_r4 arg11_r4 arg12_r4), ∀ (k0_h15 : k0_cond15 i k0_t3 arg12_r4 = 1#1), ∀ a, (k0_off46 arg8_r4) a + S1x1x256.size a ≤ S2x1x256.size a := fun i k0_t3 arg8_r4 arg9_r4 arg10_r4 arg11_r4 arg12_r4 k0_hw11 k0_h15 => k0_hw11.1 k0_h15
theorem k0_off47_inb : ∀ (i : grid0.Coords) (k0_t3 : Fin k0_t3_loop.trips) (arg8_r4 : BitVec 32) (arg9_r4 : BitVec 32) (arg10_r4 : BitVec 32) (arg11_r4 : BitVec 32) (arg12_r4 : BitVec 32) (k0_hw11 : k0_chk11 i k0_t3 arg8_r4 arg9_r4 arg10_r4 arg11_r4 arg12_r4), ∀ (k0_h15 : k0_cond15 i k0_t3 arg12_r4 = 1#1), ∀ a, (k0_off47 i arg12_r4) a + S1x256.size a ≤ S3x1048576.size a := fun i k0_t3 arg8_r4 arg9_r4 arg10_r4 arg11_r4 arg12_r4 k0_hw11 k0_h15 => k0_hw11.2.1 k0_h15
theorem k0_off48_inb : ∀ (i : grid0.Coords) (k0_t3 : Fin k0_t3_loop.trips) (arg8_r4 : BitVec 32) (arg9_r4 : BitVec 32) (arg10_r4 : BitVec 32) (arg11_r4 : BitVec 32) (arg12_r4 : BitVec 32) (k0_hw11 : k0_chk11 i k0_t3 arg8_r4 arg9_r4 arg10_r4 arg11_r4 arg12_r4), ∀ (k0_h15 : k0_cond15 i k0_t3 arg12_r4 = 1#1), ∀ a, (k0_off48 arg8_r4) a + S1.size a ≤ S2.size a := fun i k0_t3 arg8_r4 arg9_r4 arg10_r4 arg11_r4 arg12_r4 k0_hw11 k0_h15 => k0_hw11.2.2.1 k0_h15
theorem k0_off49_inb : ∀ (i : grid0.Coords) (k0_t3 : Fin k0_t3_loop.trips) (arg8_r4 : BitVec 32) (arg9_r4 : BitVec 32) (arg10_r4 : BitVec 32) (arg11_r4 : BitVec 32) (arg12_r4 : BitVec 32) (k0_hw11 : k0_chk11 i k0_t3 arg8_r4 arg9_r4 arg10_r4 arg11_r4 arg12_r4), ∀ (k0_h16 : k0_cond16 i k0_t3 arg12_r4 = 1#1), ∀ a, (k0_off49 arg9_r4) a + S1x1x256.size a ≤ S2x1x256.size a := fun i k0_t3 arg8_r4 arg9_r4 arg10_r4 arg11_r4 arg12_r4 k0_hw11 k0_h16 => k0_hw11.2.2.2.1 k0_h16
theorem k0_off50_inb : ∀ (i : grid0.Coords) (k0_t3 : Fin k0_t3_loop.trips) (arg8_r4 : BitVec 32) (arg9_r4 : BitVec 32) (arg10_r4 : BitVec 32) (arg11_r4 : BitVec 32) (arg12_r4 : BitVec 32) (k0_hw11 : k0_chk11 i k0_t3 arg8_r4 arg9_r4 arg10_r4 arg11_r4 arg12_r4), ∀ (k0_h16 : k0_cond16 i k0_t3 arg12_r4 = 1#1), ∀ a, (k0_off50 i arg12_r4) a + S1x256.size a ≤ S3x1048576.size a := fun i k0_t3 arg8_r4 arg9_r4 arg10_r4 arg11_r4 arg12_r4 k0_hw11 k0_h16 => k0_hw11.2.2.2.2.1 k0_h16
theorem k0_off51_inb : ∀ (i : grid0.Coords) (k0_t3 : Fin k0_t3_loop.trips) (arg8_r4 : BitVec 32) (arg9_r4 : BitVec 32) (arg10_r4 : BitVec 32) (arg11_r4 : BitVec 32) (arg12_r4 : BitVec 32) (k0_hw11 : k0_chk11 i k0_t3 arg8_r4 arg9_r4 arg10_r4 arg11_r4 arg12_r4), ∀ (k0_h16 : k0_cond16 i k0_t3 arg12_r4 = 1#1), ∀ a, (k0_off51 arg9_r4) a + S1.size a ≤ S2.size a := fun i k0_t3 arg8_r4 arg9_r4 arg10_r4 arg11_r4 arg12_r4 k0_hw11 k0_h16 => k0_hw11.2.2.2.2.2.1 k0_h16
theorem k0_off54_inb : ∀ (i : grid0.Coords) (k0_t3 : Fin k0_t3_loop.trips) (arg8_r4 : BitVec 32) (arg9_r4 : BitVec 32) (arg10_r4 : BitVec 32) (arg11_r4 : BitVec 32) (arg12_r4 : BitVec 32) (k0_hw11 : k0_chk11 i k0_t3 arg8_r4 arg9_r4 arg10_r4 arg11_r4 arg12_r4), ∀ (k0_h19 : k0_cond19 i k0_t3 arg12_r4 = 1#1), ∀ a, (k0_off54 arg10_r4) a + S1x256x128.size a ≤ S2x256x128.size a := fun i k0_t3 arg8_r4 arg9_r4 arg10_r4 arg11_r4 arg12_r4 k0_hw11 k0_h19 => k0_hw11.2.2.2.2.2.2.1 k0_h19
theorem k0_off55_inb : ∀ (i : grid0.Coords) (k0_t3 : Fin k0_t3_loop.trips) (arg8_r4 : BitVec 32) (arg9_r4 : BitVec 32) (arg10_r4 : BitVec 32) (arg11_r4 : BitVec 32) (arg12_r4 : BitVec 32) (k0_hw11 : k0_chk11 i k0_t3 arg8_r4 arg9_r4 arg10_r4 arg11_r4 arg12_r4), ∀ (k0_h19 : k0_cond19 i k0_t3 arg12_r4 = 1#1), ∀ a, (k0_off55 i arg12_r4) a + S256x128.size a ≤ S393216x128.size a := fun i k0_t3 arg8_r4 arg9_r4 arg10_r4 arg11_r4 arg12_r4 k0_hw11 k0_h19 => k0_hw11.2.2.2.2.2.2.2.1 k0_h19
theorem k0_off56_inb : ∀ (i : grid0.Coords) (k0_t3 : Fin k0_t3_loop.trips) (arg8_r4 : BitVec 32) (arg9_r4 : BitVec 32) (arg10_r4 : BitVec 32) (arg11_r4 : BitVec 32) (arg12_r4 : BitVec 32) (k0_hw11 : k0_chk11 i k0_t3 arg8_r4 arg9_r4 arg10_r4 arg11_r4 arg12_r4), ∀ (k0_h19 : k0_cond19 i k0_t3 arg12_r4 = 1#1), ∀ a, (k0_off56 arg10_r4) a + S1.size a ≤ S2.size a := fun i k0_t3 arg8_r4 arg9_r4 arg10_r4 arg11_r4 arg12_r4 k0_hw11 k0_h19 => k0_hw11.2.2.2.2.2.2.2.2.1 k0_h19
theorem k0_off57_inb : ∀ (i : grid0.Coords) (k0_t3 : Fin k0_t3_loop.trips) (arg8_r4 : BitVec 32) (arg9_r4 : BitVec 32) (arg10_r4 : BitVec 32) (arg11_r4 : BitVec 32) (arg12_r4 : BitVec 32) (k0_hw11 : k0_chk11 i k0_t3 arg8_r4 arg9_r4 arg10_r4 arg11_r4 arg12_r4), ∀ (k0_h21 : k0_cond21 i k0_t3 arg12_r4 = 1#1), ∀ a, (k0_off57 arg11_r4) a + S1x256x128.size a ≤ S2x256x128.size a := fun i k0_t3 arg8_r4 arg9_r4 arg10_r4 arg11_r4 arg12_r4 k0_hw11 k0_h21 => k0_hw11.2.2.2.2.2.2.2.2.2.1 k0_h21
theorem k0_off58_inb : ∀ (i : grid0.Coords) (k0_t3 : Fin k0_t3_loop.trips) (arg8_r4 : BitVec 32) (arg9_r4 : BitVec 32) (arg10_r4 : BitVec 32) (arg11_r4 : BitVec 32) (arg12_r4 : BitVec 32) (k0_hw11 : k0_chk11 i k0_t3 arg8_r4 arg9_r4 arg10_r4 arg11_r4 arg12_r4), ∀ (k0_h21 : k0_cond21 i k0_t3 arg12_r4 = 1#1), ∀ a, (k0_off58 i arg12_r4) a + S256x128.size a ≤ S393216x128.size a := fun i k0_t3 arg8_r4 arg9_r4 arg10_r4 arg11_r4 arg12_r4 k0_hw11 k0_h21 => k0_hw11.2.2.2.2.2.2.2.2.2.2.1 k0_h21
theorem k0_off59_inb : ∀ (i : grid0.Coords) (k0_t3 : Fin k0_t3_loop.trips) (arg8_r4 : BitVec 32) (arg9_r4 : BitVec 32) (arg10_r4 : BitVec 32) (arg11_r4 : BitVec 32) (arg12_r4 : BitVec 32) (k0_hw11 : k0_chk11 i k0_t3 arg8_r4 arg9_r4 arg10_r4 arg11_r4 arg12_r4), ∀ (k0_h21 : k0_cond21 i k0_t3 arg12_r4 = 1#1), ∀ a, (k0_off59 arg11_r4) a + S1.size a ≤ S2.size a := fun i k0_t3 arg8_r4 arg9_r4 arg10_r4 arg11_r4 arg12_r4 k0_hw11 k0_h21 => k0_hw11.2.2.2.2.2.2.2.2.2.2.2 k0_h21

def k0_off60 (v44_3_r4 : BitVec 32) : Fin 3 → Nat :=
  let c2_i32_56_r4 : BitVec 32 := 2#32
  let v65_r4 : BitVec 32 := Scalar.remui v44_3_r4 c2_i32_56_r4
  let c0_i32_58_r4 : BitVec 32 := 0#32
  let c0_i32_59_r4 : BitVec 32 := 0#32
  ![v65_r4.toNat, 0, 0]

def k0_off61 (i : grid0.Coords) (v44_4_r4 : BitVec 32) : Fin 2 → Nat :=
  let c256_i32_57_r4 : BitVec 32 := 256#32
  let c1024_i32_r4 : BitVec 32 := 1024#32
  let true_41_r4 : BitVec 1 := 1#1
  let c1_i32_40_r4 : BitVec 32 := 1#32
  let v45_r4 : BitVec 32 := Scalar.subi v44_4_r4 c1_i32_40_r4
  let v46_r4 : BitVec 32 := Scalar.select true_41_r4 v45_r4 v44_4_r4
  let c_m1_i32_42_r4 : BitVec 32 := 4294967295#32
  let v47_r4 : BitVec 1 := Scalar.cmpi .eq v46_r4 c_m1_i32_42_r4
  let c15_i32_43_r4 : BitVec 32 := 15#32
  let v48_r4 : BitVec 32 := Scalar.select v47_r4 c15_i32_43_r4 v46_r4
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v49_r4 : BitVec 32 := Scalar.addi v48_r4 v14
  let v66_r4 : BitVec 32 := Scalar.addi c1024_i32_r4 v49_r4
  let v67_r4 : BitVec 32 := Scalar.muli c256_i32_57_r4 v66_r4
  let c0_i32_60_r4 : BitVec 32 := 0#32
  ![v67_r4.toNat, 0]

def k0_chk15 (i : grid0.Coords) (v44_4_r4 : BitVec 32) : Prop :=
  (∀ a, (k0_off61 i v44_4_r4) a + S256x128.size a ≤ S393216x128.size a)
theorem k0_off61_inb : ∀ (i : grid0.Coords) (v44_4_r4 : BitVec 32) (k0_hw15 : k0_chk15 i v44_4_r4), ∀ a, (k0_off61 i v44_4_r4) a + S256x128.size a ≤ S393216x128.size a := fun i v44_4_r4 k0_hw15 => k0_hw15

def k0_off62 (v44_3_r4 : BitVec 32) : Fin 1 → Nat :=
  let c2_i32_56_r4 : BitVec 32 := 2#32
  let v65_r4 : BitVec 32 := Scalar.remui v44_3_r4 c2_i32_56_r4
  ![v65_r4.toNat]
def k0_off63 (v44_3_r4 : BitVec 32) : Fin 3 → Nat :=
  let c2_i32_56_r4 : BitVec 32 := 2#32
  let v65_r4 : BitVec 32 := Scalar.remui v44_3_r4 c2_i32_56_r4
  let c0_i32_62_r4 : BitVec 32 := 0#32
  let c0_i32_63_r4 : BitVec 32 := 0#32
  ![v65_r4.toNat, 0, 0]

def k0_chk14 (v44_3_r4 : BitVec 32) : Prop :=
  (∀ a, (k0_off60 v44_3_r4) a + S1x256x128.size a ≤ S2x256x128.size a) ∧
  (∀ a, (k0_off62 v44_3_r4) a + S1.size a ≤ S2.size a) ∧
  (∀ a, (k0_off63 v44_3_r4) a + S1x256x128.size a ≤ S2x256x128.size a)
theorem k0_off60_inb : ∀ (v44_3_r4 : BitVec 32) (k0_hw14 : k0_chk14 v44_3_r4), ∀ a, (k0_off60 v44_3_r4) a + S1x256x128.size a ≤ S2x256x128.size a := fun v44_3_r4 k0_hw14 => k0_hw14.1
theorem k0_off62_inb : ∀ (v44_3_r4 : BitVec 32) (k0_hw14 : k0_chk14 v44_3_r4), ∀ a, (k0_off62 v44_3_r4) a + S1.size a ≤ S2.size a := fun v44_3_r4 k0_hw14 => k0_hw14.2.1
theorem k0_off63_inb : ∀ (v44_3_r4 : BitVec 32) (k0_hw14 : k0_chk14 v44_3_r4), ∀ a, (k0_off63 v44_3_r4) a + S1x256x128.size a ≤ S2x256x128.size a := fun v44_3_r4 k0_hw14 => k0_hw14.2.2

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage1_0 : Fin 2 → Memref sig .tc .vmem S16x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3x2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x384 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x32 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S32x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![2, 16], ![false, false]⟩

def k2_off1 : Fin 3 → Nat :=
  let c0_i32_22_r0 : BitVec 32 := 0#32
  let c2_i32_r0 : BitVec 32 := 2#32
  let v31_r0 : BitVec 32 := Scalar.remui c0_i32_22_r0 c2_i32_r0
  let c0_i32_23_r0 : BitVec 32 := 0#32
  let c0_i32_24_r0 : BitVec 32 := 0#32
  ![v31_r0.toNat, 0, 0]
def k2_off2 (i : grid2.Coords) : Fin 2 → Nat :=
  let c0_i32_25_r0 : BitVec 32 := 0#32
  let c256_i32_r0 : BitVec 32 := 256#32
  let c512_i32_r0 : BitVec 32 := 512#32
  let c0_i32_10_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v17_r0 : BitVec 32 := Scalar.addi c0_i32_10_r0 v4
  let v32_r0 : BitVec 32 := Scalar.addi c512_i32_r0 v17_r0
  let v33_r0 : BitVec 32 := Scalar.muli c256_i32_r0 v32_r0
  ![0, v33_r0.toNat]
def k2_off3 : Fin 1 → Nat :=
  let c0_i32_22_r0 : BitVec 32 := 0#32
  let c2_i32_r0 : BitVec 32 := 2#32
  let v31_r0 : BitVec 32 := Scalar.remui c0_i32_22_r0 c2_i32_r0
  ![v31_r0.toNat]
@[reducible] def k2_t1_loop : Scf.Loop 32 :=
  let c0_i32_35_r0 : BitVec 32 := 0#32
  let c16_i32_36_r0 : BitVec 32 := 16#32
  let v43_r0 : BitVec 32 := Scalar.addi c0_i32_35_r0 c16_i32_36_r0
  let c1_i32_37_r0 : BitVec 32 := 1#32
  ⟨c0_i32_35_r0, v43_r0, c1_i32_37_r0⟩
def k2_off4 (arg8_r0 : BitVec 32) : Fin 3 → Nat :=
  let c2_i32_115_r0 : BitVec 32 := 2#32
  let v162_r0 : BitVec 32 := Scalar.remui arg8_r0 c2_i32_115_r0
  let c0_i32_118_r0 : BitVec 32 := 0#32
  let c0_i32_119_r0 : BitVec 32 := 0#32
  ![v162_r0.toNat, 0, 0]
def k2_cond1 (i : grid2.Coords) (k2_t1 : Fin k2_t1_loop.trips) (arg12_r0 : BitVec 32) : BitVec 1 :=
  let c512_i32_78_r0 : BitVec 32 := 512#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v78_r0 : BitVec 32 := Scalar.addi arg12_r0 v4
  let v94_r0 : BitVec 32 := Scalar.addi c512_i32_78_r0 v78_r0
  let c512_i32_79_r0 : BitVec 32 := 512#32
  let true_71_r0 : BitVec 1 := 1#1
  let c1_i32_70_r0 : BitVec 32 := 1#32
  let v84_r0 : BitVec 32 := Scalar.addi arg12_r0 c1_i32_70_r0
  let v85_r0 : BitVec 32 := Scalar.select true_71_r0 v84_r0 arg12_r0
  let c16_i32_72_r0 : BitVec 32 := 16#32
  let v86_r0 : BitVec 1 := Scalar.cmpi .eq v85_r0 c16_i32_72_r0
  let c0_i32_73_r0 : BitVec 32 := 0#32
  let v87_r0 : BitVec 32 := Scalar.select v86_r0 c0_i32_73_r0 v85_r0
  let v88_r0 : BitVec 32 := Scalar.addi v87_r0 v4
  let v95_r0 : BitVec 32 := Scalar.addi c512_i32_79_r0 v88_r0
  let v96_r0 : BitVec 1 := Scalar.cmpi .ne v94_r0 v95_r0
  let c0_i32_35_r0 : BitVec 32 := 0#32
  let c1_i32_37_r0 : BitVec 32 := 1#32
  let arg7_r0 : BitVec 32 := Scf.iv c0_i32_35_r0 c1_i32_37_r0 k2_t1
  let c15_i32_80_r0 : BitVec 32 := 15#32
  let v97_r0 : BitVec 1 := Scalar.cmpi .sge arg7_r0 c15_i32_80_r0
  let true_81_r0 : BitVec 1 := 1#1
  let v98_r0 : BitVec 1 := Scalar.xori v97_r0 true_81_r0
  let v99_r0 : BitVec 1 := Scalar.andi v96_r0 v98_r0
  let true_82_r0 : BitVec 1 := 1#1
  let v100_r0 : BitVec 1 := Scalar.andi v99_r0 true_82_r0
  let v101_r0 : BitVec 32 := Scalar.extui v100_r0
  let c0_i32_83_r0 : BitVec 32 := 0#32
  let v102_r0 : BitVec 1 := Scalar.cmpi .ne v101_r0 c0_i32_83_r0
  v102_r0

def k2_off5 (i : grid2.Coords) (arg12_r0 : BitVec 32) : Fin 2 → Nat :=
  let c0_i32_120_r0 : BitVec 32 := 0#32
  let c256_i32_117_r0 : BitVec 32 := 256#32
  let c512_i32_116_r0 : BitVec 32 := 512#32
  let true_71_r0 : BitVec 1 := 1#1
  let c1_i32_70_r0 : BitVec 32 := 1#32
  let v84_r0 : BitVec 32 := Scalar.addi arg12_r0 c1_i32_70_r0
  let v85_r0 : BitVec 32 := Scalar.select true_71_r0 v84_r0 arg12_r0
  let c16_i32_72_r0 : BitVec 32 := 16#32
  let v86_r0 : BitVec 1 := Scalar.cmpi .eq v85_r0 c16_i32_72_r0
  let c0_i32_73_r0 : BitVec 32 := 0#32
  let v87_r0 : BitVec 32 := Scalar.select v86_r0 c0_i32_73_r0 v85_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v88_r0 : BitVec 32 := Scalar.addi v87_r0 v4
  let v163_r0 : BitVec 32 := Scalar.addi c512_i32_116_r0 v88_r0
  let v164_r0 : BitVec 32 := Scalar.muli c256_i32_117_r0 v163_r0
  ![0, v164_r0.toNat]
def k2_off6 (arg8_r0 : BitVec 32) : Fin 1 → Nat :=
  let c2_i32_115_r0 : BitVec 32 := 2#32
  let v162_r0 : BitVec 32 := Scalar.remui arg8_r0 c2_i32_115_r0
  ![v162_r0.toNat]
def k2_off7 (arg9_r0 : BitVec 32) : Fin 3 → Nat :=
  let c2_i32_117_r0 : BitVec 32 := 2#32
  let v164_r0 : BitVec 32 := Scalar.remui arg9_r0 c2_i32_117_r0
  let c0_i32_118_r0 : BitVec 32 := 0#32
  let c0_i32_119_r0 : BitVec 32 := 0#32
  ![v164_r0.toNat, 0, 0]
def k2_cond2 (i : grid2.Coords) (k2_t1 : Fin k2_t1_loop.trips) (arg12_r0 : BitVec 32) : BitVec 1 :=
  let c512_i32_78_r0 : BitVec 32 := 512#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v78_r0 : BitVec 32 := Scalar.addi arg12_r0 v4
  let v94_r0 : BitVec 32 := Scalar.addi c512_i32_78_r0 v78_r0
  let c512_i32_90_r0 : BitVec 32 := 512#32
  let true_67_r0 : BitVec 1 := 1#1
  let c1_i32_66_r0 : BitVec 32 := 1#32
  let v79_r0 : BitVec 32 := Scalar.subi arg12_r0 c1_i32_66_r0
  let v80_r0 : BitVec 32 := Scalar.select true_67_r0 v79_r0 arg12_r0
  let c_m1_i32_68_r0 : BitVec 32 := 4294967295#32
  let v81_r0 : BitVec 1 := Scalar.cmpi .eq v80_r0 c_m1_i32_68_r0
  let c15_i32_69_r0 : BitVec 32 := 15#32
  let v82_r0 : BitVec 32 := Scalar.select v81_r0 c15_i32_69_r0 v80_r0
  let v83_r0 : BitVec 32 := Scalar.addi v82_r0 v4
  let v112_r0 : BitVec 32 := Scalar.addi c512_i32_90_r0 v83_r0
  let v113_r0 : BitVec 1 := Scalar.cmpi .ne v94_r0 v112_r0
  let c0_i32_35_r0 : BitVec 32 := 0#32
  let c1_i32_37_r0 : BitVec 32 := 1#32
  let arg7_r0 : BitVec 32 := Scf.iv c0_i32_35_r0 c1_i32_37_r0 k2_t1
  let c0_i32_64_r0 : BitVec 32 := 0#32
  let v76_r0 : BitVec 1 := Scalar.cmpi .eq arg7_r0 c0_i32_64_r0
  let v114_r0 : BitVec 1 := Scalar.ori v113_r0 v76_r0
  let c0_i32_91_r0 : BitVec 32 := 0#32
  let v115_r0 : BitVec 1 := Scalar.cmpi .sge arg7_r0 c0_i32_91_r0
  let v116_r0 : BitVec 1 := Scalar.andi v114_r0 v115_r0
  let v117_r0 : BitVec 32 := Scalar.extui v116_r0
  let c0_i32_92_r0 : BitVec 32 := 0#32
  let v118_r0 : BitVec 1 := Scalar.cmpi .ne v117_r0 c0_i32_92_r0
  v118_r0

def k2_off8 (i : grid2.Coords) (arg12_r0 : BitVec 32) : Fin 2 → Nat :=
  let c0_i32_120_r0 : BitVec 32 := 0#32
  let c256_i32_116_r0 : BitVec 32 := 256#32
  let c512_i32_115_r0 : BitVec 32 := 512#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v78_r0 : BitVec 32 := Scalar.addi arg12_r0 v4
  let v162_r0 : BitVec 32 := Scalar.addi c512_i32_115_r0 v78_r0
  let v163_r0 : BitVec 32 := Scalar.muli c256_i32_116_r0 v162_r0
  ![0, v163_r0.toNat]
def k2_off9 (arg9_r0 : BitVec 32) : Fin 1 → Nat :=
  let c2_i32_117_r0 : BitVec 32 := 2#32
  let v164_r0 : BitVec 32 := Scalar.remui arg9_r0 c2_i32_117_r0
  ![v164_r0.toNat]
def k2_off10 (arg10_r0 : BitVec 32) : Fin 3 → Nat :=
  let c2_i32_97_r0 : BitVec 32 := 2#32
  let v127_r0 : BitVec 32 := Scalar.remui arg10_r0 c2_i32_97_r0
  let c0_i32_115_r1 : BitVec 32 := 0#32
  let c0_i32_116_r1 : BitVec 32 := 0#32
  ![v127_r0.toNat, 0, 0]

def k2_chk2 (arg10_r0 : BitVec 32) : Prop :=
  (∀ a, (k2_off10 arg10_r0) a + S1x256x128.size a ≤ S2x256x128.size a)
theorem k2_off10_inb : ∀ (arg10_r0 : BitVec 32) (k2_hw2 : k2_chk2 arg10_r0), ∀ a, (k2_off10 arg10_r0) a + S1x256x128.size a ≤ S2x256x128.size a := fun arg10_r0 k2_hw2 => k2_hw2

def k2_off11 (arg9_r0 : BitVec 32) : Fin 3 → Nat :=
  let c2_i32_96_r0 : BitVec 32 := 2#32
  let v126_r0 : BitVec 32 := Scalar.remui arg9_r0 c2_i32_96_r0
  let c0_i32_117_r1 : BitVec 32 := 0#32
  let c0_i32_118_r1 : BitVec 32 := 0#32
  ![v126_r0.toNat, 0, 0]

def k2_chk3 (arg9_r0 : BitVec 32) : Prop :=
  (∀ a, (k2_off11 arg9_r0) a + S1x1x256.size a ≤ S2x1x256.size a)
theorem k2_off11_inb : ∀ (arg9_r0 : BitVec 32) (k2_hw3 : k2_chk3 arg9_r0), ∀ a, (k2_off11 arg9_r0) a + S1x1x256.size a ≤ S2x1x256.size a := fun arg9_r0 k2_hw3 => k2_hw3

def k2_off12 (arg10_r0 : BitVec 32) : Fin 3 → Nat :=
  let c2_i32_115_r0 : BitVec 32 := 2#32
  let v162_r0 : BitVec 32 := Scalar.remui arg10_r0 c2_i32_115_r0
  let c0_i32_118_r0 : BitVec 32 := 0#32
  let c0_i32_119_r0 : BitVec 32 := 0#32
  ![v162_r0.toNat, 0, 0]
def k2_cond5 (i : grid2.Coords) (k2_t1 : Fin k2_t1_loop.trips) (arg12_r0 : BitVec 32) : BitVec 1 :=
  let c0_i32_86_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v78_r0 : BitVec 32 := Scalar.addi arg12_r0 v4
  let v106_r0 : BitVec 32 := Scalar.addi c0_i32_86_r0 v78_r0
  let c0_i32_87_r0 : BitVec 32 := 0#32
  let true_71_r0 : BitVec 1 := 1#1
  let c1_i32_70_r0 : BitVec 32 := 1#32
  let v84_r0 : BitVec 32 := Scalar.addi arg12_r0 c1_i32_70_r0
  let v85_r0 : BitVec 32 := Scalar.select true_71_r0 v84_r0 arg12_r0
  let c16_i32_72_r0 : BitVec 32 := 16#32
  let v86_r0 : BitVec 1 := Scalar.cmpi .eq v85_r0 c16_i32_72_r0
  let c0_i32_73_r0 : BitVec 32 := 0#32
  let v87_r0 : BitVec 32 := Scalar.select v86_r0 c0_i32_73_r0 v85_r0
  let v88_r0 : BitVec 32 := Scalar.addi v87_r0 v4
  let v107_r0 : BitVec 32 := Scalar.addi c0_i32_87_r0 v88_r0
  let v133_r0 : BitVec 1 := Scalar.cmpi .ne v106_r0 v107_r0
  let c0_i32_35_r0 : BitVec 32 := 0#32
  let c1_i32_37_r0 : BitVec 32 := 1#32
  let arg7_r0 : BitVec 32 := Scf.iv c0_i32_35_r0 c1_i32_37_r0 k2_t1
  let c15_i32_65_r0 : BitVec 32 := 15#32
  let v77_r0 : BitVec 1 := Scalar.cmpi .eq arg7_r0 c15_i32_65_r0
  let v134_r0 : BitVec 1 := Scalar.ori v133_r0 v77_r0
  let v135_r0 : BitVec 32 := Scalar.extui v134_r0
  let c0_i32_100_r0 : BitVec 32 := 0#32
  let v136_r0 : BitVec 1 := Scalar.cmpi .ne v135_r0 c0_i32_100_r0
  v136_r0

def k2_off13 (i : grid2.Coords) (arg12_r0 : BitVec 32) : Fin 2 → Nat :=
  let c256_i32_117_r0 : BitVec 32 := 256#32
  let c0_i32_116_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v78_r0 : BitVec 32 := Scalar.addi arg12_r0 v4
  let v163_r0 : BitVec 32 := Scalar.addi c0_i32_116_r0 v78_r0
  let v164_r0 : BitVec 32 := Scalar.muli c256_i32_117_r0 v163_r0
  let c0_i32_120_r0 : BitVec 32 := 0#32
  ![v164_r0.toNat, 0]
def k2_off14 (arg10_r0 : BitVec 32) : Fin 1 → Nat :=
  let c2_i32_115_r0 : BitVec 32 := 2#32
  let v162_r0 : BitVec 32 := Scalar.remui arg10_r0 c2_i32_115_r0
  ![v162_r0.toNat]
def k2_off15 (arg11_r0 : BitVec 32) : Fin 3 → Nat :=
  let c2_i32_115_r0 : BitVec 32 := 2#32
  let v162_r0 : BitVec 32 := Scalar.remui arg11_r0 c2_i32_115_r0
  let c0_i32_118_r0 : BitVec 32 := 0#32
  let c0_i32_119_r0 : BitVec 32 := 0#32
  ![v162_r0.toNat, 0, 0]
def k2_cond7 (i : grid2.Coords) (k2_t1 : Fin k2_t1_loop.trips) (arg12_r0 : BitVec 32) : BitVec 1 :=
  let c0_i32_86_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v78_r0 : BitVec 32 := Scalar.addi arg12_r0 v4
  let v106_r0 : BitVec 32 := Scalar.addi c0_i32_86_r0 v78_r0
  let c0_i32_93_r0 : BitVec 32 := 0#32
  let true_67_r0 : BitVec 1 := 1#1
  let c1_i32_66_r0 : BitVec 32 := 1#32
  let v79_r0 : BitVec 32 := Scalar.subi arg12_r0 c1_i32_66_r0
  let v80_r0 : BitVec 32 := Scalar.select true_67_r0 v79_r0 arg12_r0
  let c_m1_i32_68_r0 : BitVec 32 := 4294967295#32
  let v81_r0 : BitVec 1 := Scalar.cmpi .eq v80_r0 c_m1_i32_68_r0
  let c15_i32_69_r0 : BitVec 32 := 15#32
  let v82_r0 : BitVec 32 := Scalar.select v81_r0 c15_i32_69_r0 v80_r0
  let v83_r0 : BitVec 32 := Scalar.addi v82_r0 v4
  let v119_r0 : BitVec 32 := Scalar.addi c0_i32_93_r0 v83_r0
  let v146_r0 : BitVec 1 := Scalar.cmpi .ne v106_r0 v119_r0
  let c0_i32_35_r0 : BitVec 32 := 0#32
  let c1_i32_37_r0 : BitVec 32 := 1#32
  let arg7_r0 : BitVec 32 := Scf.iv c0_i32_35_r0 c1_i32_37_r0 k2_t1
  let c0_i32_64_r0 : BitVec 32 := 0#32
  let v76_r0 : BitVec 1 := Scalar.cmpi .eq arg7_r0 c0_i32_64_r0
  let true_106_r0 : BitVec 1 := 1#1
  let v147_r0 : BitVec 1 := Scalar.xori v76_r0 true_106_r0
  let v148_r0 : BitVec 1 := Scalar.andi v146_r0 v147_r0
  let v149_r0 : BitVec 32 := Scalar.extui v148_r0
  let c0_i32_107_r0 : BitVec 32 := 0#32
  let v150_r0 : BitVec 1 := Scalar.cmpi .ne v149_r0 c0_i32_107_r0
  v150_r0

def k2_off16 (i : grid2.Coords) (arg12_r0 : BitVec 32) : Fin 2 → Nat :=
  let c256_i32_117_r0 : BitVec 32 := 256#32
  let c0_i32_116_r0 : BitVec 32 := 0#32
  let true_67_r0 : BitVec 1 := 1#1
  let c1_i32_66_r0 : BitVec 32 := 1#32
  let v79_r0 : BitVec 32 := Scalar.subi arg12_r0 c1_i32_66_r0
  let v80_r0 : BitVec 32 := Scalar.select true_67_r0 v79_r0 arg12_r0
  let c_m1_i32_68_r0 : BitVec 32 := 4294967295#32
  let v81_r0 : BitVec 1 := Scalar.cmpi .eq v80_r0 c_m1_i32_68_r0
  let c15_i32_69_r0 : BitVec 32 := 15#32
  let v82_r0 : BitVec 32 := Scalar.select v81_r0 c15_i32_69_r0 v80_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v83_r0 : BitVec 32 := Scalar.addi v82_r0 v4
  let v163_r0 : BitVec 32 := Scalar.addi c0_i32_116_r0 v83_r0
  let v164_r0 : BitVec 32 := Scalar.muli c256_i32_117_r0 v163_r0
  let c0_i32_120_r0 : BitVec 32 := 0#32
  ![v164_r0.toNat, 0]
def k2_off17 (arg11_r0 : BitVec 32) : Fin 1 → Nat :=
  let c2_i32_115_r0 : BitVec 32 := 2#32
  let v162_r0 : BitVec 32 := Scalar.remui arg11_r0 c2_i32_115_r0
  ![v162_r0.toNat]

def k2_chk1 (i : grid2.Coords) (k2_t1 : Fin k2_t1_loop.trips) (arg8_r0 : BitVec 32) (arg9_r0 : BitVec 32) (arg10_r0 : BitVec 32) (arg11_r0 : BitVec 32) (arg12_r0 : BitVec 32) : Prop :=
  (∀ (k2_h1 : k2_cond1 i k2_t1 arg12_r0 = 1#1), ∀ a, (k2_off4 arg8_r0) a + S1x1x256.size a ≤ S2x1x256.size a) ∧
  (∀ (k2_h1 : k2_cond1 i k2_t1 arg12_r0 = 1#1), ∀ a, (k2_off5 i arg12_r0) a + S1x256.size a ≤ S3x1048576.size a) ∧
  (∀ (k2_h1 : k2_cond1 i k2_t1 arg12_r0 = 1#1), ∀ a, (k2_off6 arg8_r0) a + S1.size a ≤ S2.size a) ∧
  (∀ (k2_h2 : k2_cond2 i k2_t1 arg12_r0 = 1#1), ∀ a, (k2_off7 arg9_r0) a + S1x1x256.size a ≤ S2x1x256.size a) ∧
  (∀ (k2_h2 : k2_cond2 i k2_t1 arg12_r0 = 1#1), ∀ a, (k2_off8 i arg12_r0) a + S1x256.size a ≤ S3x1048576.size a) ∧
  (∀ (k2_h2 : k2_cond2 i k2_t1 arg12_r0 = 1#1), ∀ a, (k2_off9 arg9_r0) a + S1.size a ≤ S2.size a) ∧
  (∀ (k2_h5 : k2_cond5 i k2_t1 arg12_r0 = 1#1), ∀ a, (k2_off12 arg10_r0) a + S1x256x128.size a ≤ S2x256x128.size a) ∧
  (∀ (k2_h5 : k2_cond5 i k2_t1 arg12_r0 = 1#1), ∀ a, (k2_off13 i arg12_r0) a + S256x128.size a ≤ S393216x128.size a) ∧
  (∀ (k2_h5 : k2_cond5 i k2_t1 arg12_r0 = 1#1), ∀ a, (k2_off14 arg10_r0) a + S1.size a ≤ S2.size a) ∧
  (∀ (k2_h7 : k2_cond7 i k2_t1 arg12_r0 = 1#1), ∀ a, (k2_off15 arg11_r0) a + S1x256x128.size a ≤ S2x256x128.size a) ∧
  (∀ (k2_h7 : k2_cond7 i k2_t1 arg12_r0 = 1#1), ∀ a, (k2_off16 i arg12_r0) a + S256x128.size a ≤ S393216x128.size a) ∧
  (∀ (k2_h7 : k2_cond7 i k2_t1 arg12_r0 = 1#1), ∀ a, (k2_off17 arg11_r0) a + S1.size a ≤ S2.size a)
theorem k2_off4_inb : ∀ (i : grid2.Coords) (k2_t1 : Fin k2_t1_loop.trips) (arg8_r0 : BitVec 32) (arg9_r0 : BitVec 32) (arg10_r0 : BitVec 32) (arg11_r0 : BitVec 32) (arg12_r0 : BitVec 32) (k2_hw1 : k2_chk1 i k2_t1 arg8_r0 arg9_r0 arg10_r0 arg11_r0 arg12_r0), ∀ (k2_h1 : k2_cond1 i k2_t1 arg12_r0 = 1#1), ∀ a, (k2_off4 arg8_r0) a + S1x1x256.size a ≤ S2x1x256.size a := fun i k2_t1 arg8_r0 arg9_r0 arg10_r0 arg11_r0 arg12_r0 k2_hw1 k2_h1 => k2_hw1.1 k2_h1
theorem k2_off5_inb : ∀ (i : grid2.Coords) (k2_t1 : Fin k2_t1_loop.trips) (arg8_r0 : BitVec 32) (arg9_r0 : BitVec 32) (arg10_r0 : BitVec 32) (arg11_r0 : BitVec 32) (arg12_r0 : BitVec 32) (k2_hw1 : k2_chk1 i k2_t1 arg8_r0 arg9_r0 arg10_r0 arg11_r0 arg12_r0), ∀ (k2_h1 : k2_cond1 i k2_t1 arg12_r0 = 1#1), ∀ a, (k2_off5 i arg12_r0) a + S1x256.size a ≤ S3x1048576.size a := fun i k2_t1 arg8_r0 arg9_r0 arg10_r0 arg11_r0 arg12_r0 k2_hw1 k2_h1 => k2_hw1.2.1 k2_h1
theorem k2_off6_inb : ∀ (i : grid2.Coords) (k2_t1 : Fin k2_t1_loop.trips) (arg8_r0 : BitVec 32) (arg9_r0 : BitVec 32) (arg10_r0 : BitVec 32) (arg11_r0 : BitVec 32) (arg12_r0 : BitVec 32) (k2_hw1 : k2_chk1 i k2_t1 arg8_r0 arg9_r0 arg10_r0 arg11_r0 arg12_r0), ∀ (k2_h1 : k2_cond1 i k2_t1 arg12_r0 = 1#1), ∀ a, (k2_off6 arg8_r0) a + S1.size a ≤ S2.size a := fun i k2_t1 arg8_r0 arg9_r0 arg10_r0 arg11_r0 arg12_r0 k2_hw1 k2_h1 => k2_hw1.2.2.1 k2_h1
theorem k2_off7_inb : ∀ (i : grid2.Coords) (k2_t1 : Fin k2_t1_loop.trips) (arg8_r0 : BitVec 32) (arg9_r0 : BitVec 32) (arg10_r0 : BitVec 32) (arg11_r0 : BitVec 32) (arg12_r0 : BitVec 32) (k2_hw1 : k2_chk1 i k2_t1 arg8_r0 arg9_r0 arg10_r0 arg11_r0 arg12_r0), ∀ (k2_h2 : k2_cond2 i k2_t1 arg12_r0 = 1#1), ∀ a, (k2_off7 arg9_r0) a + S1x1x256.size a ≤ S2x1x256.size a := fun i k2_t1 arg8_r0 arg9_r0 arg10_r0 arg11_r0 arg12_r0 k2_hw1 k2_h2 => k2_hw1.2.2.2.1 k2_h2
theorem k2_off8_inb : ∀ (i : grid2.Coords) (k2_t1 : Fin k2_t1_loop.trips) (arg8_r0 : BitVec 32) (arg9_r0 : BitVec 32) (arg10_r0 : BitVec 32) (arg11_r0 : BitVec 32) (arg12_r0 : BitVec 32) (k2_hw1 : k2_chk1 i k2_t1 arg8_r0 arg9_r0 arg10_r0 arg11_r0 arg12_r0), ∀ (k2_h2 : k2_cond2 i k2_t1 arg12_r0 = 1#1), ∀ a, (k2_off8 i arg12_r0) a + S1x256.size a ≤ S3x1048576.size a := fun i k2_t1 arg8_r0 arg9_r0 arg10_r0 arg11_r0 arg12_r0 k2_hw1 k2_h2 => k2_hw1.2.2.2.2.1 k2_h2
theorem k2_off9_inb : ∀ (i : grid2.Coords) (k2_t1 : Fin k2_t1_loop.trips) (arg8_r0 : BitVec 32) (arg9_r0 : BitVec 32) (arg10_r0 : BitVec 32) (arg11_r0 : BitVec 32) (arg12_r0 : BitVec 32) (k2_hw1 : k2_chk1 i k2_t1 arg8_r0 arg9_r0 arg10_r0 arg11_r0 arg12_r0), ∀ (k2_h2 : k2_cond2 i k2_t1 arg12_r0 = 1#1), ∀ a, (k2_off9 arg9_r0) a + S1.size a ≤ S2.size a := fun i k2_t1 arg8_r0 arg9_r0 arg10_r0 arg11_r0 arg12_r0 k2_hw1 k2_h2 => k2_hw1.2.2.2.2.2.1 k2_h2
theorem k2_off12_inb : ∀ (i : grid2.Coords) (k2_t1 : Fin k2_t1_loop.trips) (arg8_r0 : BitVec 32) (arg9_r0 : BitVec 32) (arg10_r0 : BitVec 32) (arg11_r0 : BitVec 32) (arg12_r0 : BitVec 32) (k2_hw1 : k2_chk1 i k2_t1 arg8_r0 arg9_r0 arg10_r0 arg11_r0 arg12_r0), ∀ (k2_h5 : k2_cond5 i k2_t1 arg12_r0 = 1#1), ∀ a, (k2_off12 arg10_r0) a + S1x256x128.size a ≤ S2x256x128.size a := fun i k2_t1 arg8_r0 arg9_r0 arg10_r0 arg11_r0 arg12_r0 k2_hw1 k2_h5 => k2_hw1.2.2.2.2.2.2.1 k2_h5
theorem k2_off13_inb : ∀ (i : grid2.Coords) (k2_t1 : Fin k2_t1_loop.trips) (arg8_r0 : BitVec 32) (arg9_r0 : BitVec 32) (arg10_r0 : BitVec 32) (arg11_r0 : BitVec 32) (arg12_r0 : BitVec 32) (k2_hw1 : k2_chk1 i k2_t1 arg8_r0 arg9_r0 arg10_r0 arg11_r0 arg12_r0), ∀ (k2_h5 : k2_cond5 i k2_t1 arg12_r0 = 1#1), ∀ a, (k2_off13 i arg12_r0) a + S256x128.size a ≤ S393216x128.size a := fun i k2_t1 arg8_r0 arg9_r0 arg10_r0 arg11_r0 arg12_r0 k2_hw1 k2_h5 => k2_hw1.2.2.2.2.2.2.2.1 k2_h5
theorem k2_off14_inb : ∀ (i : grid2.Coords) (k2_t1 : Fin k2_t1_loop.trips) (arg8_r0 : BitVec 32) (arg9_r0 : BitVec 32) (arg10_r0 : BitVec 32) (arg11_r0 : BitVec 32) (arg12_r0 : BitVec 32) (k2_hw1 : k2_chk1 i k2_t1 arg8_r0 arg9_r0 arg10_r0 arg11_r0 arg12_r0), ∀ (k2_h5 : k2_cond5 i k2_t1 arg12_r0 = 1#1), ∀ a, (k2_off14 arg10_r0) a + S1.size a ≤ S2.size a := fun i k2_t1 arg8_r0 arg9_r0 arg10_r0 arg11_r0 arg12_r0 k2_hw1 k2_h5 => k2_hw1.2.2.2.2.2.2.2.2.1 k2_h5
theorem k2_off15_inb : ∀ (i : grid2.Coords) (k2_t1 : Fin k2_t1_loop.trips) (arg8_r0 : BitVec 32) (arg9_r0 : BitVec 32) (arg10_r0 : BitVec 32) (arg11_r0 : BitVec 32) (arg12_r0 : BitVec 32) (k2_hw1 : k2_chk1 i k2_t1 arg8_r0 arg9_r0 arg10_r0 arg11_r0 arg12_r0), ∀ (k2_h7 : k2_cond7 i k2_t1 arg12_r0 = 1#1), ∀ a, (k2_off15 arg11_r0) a + S1x256x128.size a ≤ S2x256x128.size a := fun i k2_t1 arg8_r0 arg9_r0 arg10_r0 arg11_r0 arg12_r0 k2_hw1 k2_h7 => k2_hw1.2.2.2.2.2.2.2.2.2.1 k2_h7
theorem k2_off16_inb : ∀ (i : grid2.Coords) (k2_t1 : Fin k2_t1_loop.trips) (arg8_r0 : BitVec 32) (arg9_r0 : BitVec 32) (arg10_r0 : BitVec 32) (arg11_r0 : BitVec 32) (arg12_r0 : BitVec 32) (k2_hw1 : k2_chk1 i k2_t1 arg8_r0 arg9_r0 arg10_r0 arg11_r0 arg12_r0), ∀ (k2_h7 : k2_cond7 i k2_t1 arg12_r0 = 1#1), ∀ a, (k2_off16 i arg12_r0) a + S256x128.size a ≤ S393216x128.size a := fun i k2_t1 arg8_r0 arg9_r0 arg10_r0 arg11_r0 arg12_r0 k2_hw1 k2_h7 => k2_hw1.2.2.2.2.2.2.2.2.2.2.1 k2_h7
theorem k2_off17_inb : ∀ (i : grid2.Coords) (k2_t1 : Fin k2_t1_loop.trips) (arg8_r0 : BitVec 32) (arg9_r0 : BitVec 32) (arg10_r0 : BitVec 32) (arg11_r0 : BitVec 32) (arg12_r0 : BitVec 32) (k2_hw1 : k2_chk1 i k2_t1 arg8_r0 arg9_r0 arg10_r0 arg11_r0 arg12_r0), ∀ (k2_h7 : k2_cond7 i k2_t1 arg12_r0 = 1#1), ∀ a, (k2_off17 arg11_r0) a + S1.size a ≤ S2.size a := fun i k2_t1 arg8_r0 arg9_r0 arg10_r0 arg11_r0 arg12_r0 k2_hw1 k2_h7 => k2_hw1.2.2.2.2.2.2.2.2.2.2.2 k2_h7

def k2_off18 (v44_3_r0 : BitVec 32) : Fin 3 → Nat :=
  let c2_i32_55_r0 : BitVec 32 := 2#32
  let v65_r0 : BitVec 32 := Scalar.remui v44_3_r0 c2_i32_55_r0
  let c0_i32_58_r0 : BitVec 32 := 0#32
  let c0_i32_59_r0 : BitVec 32 := 0#32
  ![v65_r0.toNat, 0, 0]

def k2_off19 (i : grid2.Coords) (v44_4_r0 : BitVec 32) : Fin 2 → Nat :=
  let c256_i32_57_r0 : BitVec 32 := 256#32
  let c0_i32_56_r0 : BitVec 32 := 0#32
  let true_40_r0 : BitVec 1 := 1#1
  let c1_i32_39_r0 : BitVec 32 := 1#32
  let v45_r0 : BitVec 32 := Scalar.subi v44_4_r0 c1_i32_39_r0
  let v46_r0 : BitVec 32 := Scalar.select true_40_r0 v45_r0 v44_4_r0
  let c_m1_i32_41_r0 : BitVec 32 := 4294967295#32
  let v47_r0 : BitVec 1 := Scalar.cmpi .eq v46_r0 c_m1_i32_41_r0
  let c15_i32_42_r0 : BitVec 32 := 15#32
  let v48_r0 : BitVec 32 := Scalar.select v47_r0 c15_i32_42_r0 v46_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v49_r0 : BitVec 32 := Scalar.addi v48_r0 v4
  let v66_r0 : BitVec 32 := Scalar.addi c0_i32_56_r0 v49_r0
  let v67_r0 : BitVec 32 := Scalar.muli c256_i32_57_r0 v66_r0
  let c0_i32_60_r0 : BitVec 32 := 0#32
  ![v67_r0.toNat, 0]

def k2_chk5 (i : grid2.Coords) (v44_4_r0 : BitVec 32) : Prop :=
  (∀ a, (k2_off19 i v44_4_r0) a + S256x128.size a ≤ S393216x128.size a)
theorem k2_off19_inb : ∀ (i : grid2.Coords) (v44_4_r0 : BitVec 32) (k2_hw5 : k2_chk5 i v44_4_r0), ∀ a, (k2_off19 i v44_4_r0) a + S256x128.size a ≤ S393216x128.size a := fun i v44_4_r0 k2_hw5 => k2_hw5

def k2_off20 (v44_3_r0 : BitVec 32) : Fin 1 → Nat :=
  let c2_i32_55_r0 : BitVec 32 := 2#32
  let v65_r0 : BitVec 32 := Scalar.remui v44_3_r0 c2_i32_55_r0
  ![v65_r0.toNat]
def k2_off21 (v44_3_r0 : BitVec 32) : Fin 3 → Nat :=
  let c2_i32_55_r0 : BitVec 32 := 2#32
  let v65_r0 : BitVec 32 := Scalar.remui v44_3_r0 c2_i32_55_r0
  let c0_i32_62_r0 : BitVec 32 := 0#32
  let c0_i32_63_r0 : BitVec 32 := 0#32
  ![v65_r0.toNat, 0, 0]

def k2_chk4 (v44_3_r0 : BitVec 32) : Prop :=
  (∀ a, (k2_off18 v44_3_r0) a + S1x256x128.size a ≤ S2x256x128.size a) ∧
  (∀ a, (k2_off20 v44_3_r0) a + S1.size a ≤ S2.size a) ∧
  (∀ a, (k2_off21 v44_3_r0) a + S1x256x128.size a ≤ S2x256x128.size a)
theorem k2_off18_inb : ∀ (v44_3_r0 : BitVec 32) (k2_hw4 : k2_chk4 v44_3_r0), ∀ a, (k2_off18 v44_3_r0) a + S1x256x128.size a ≤ S2x256x128.size a := fun v44_3_r0 k2_hw4 => k2_hw4.1
theorem k2_off20_inb : ∀ (v44_3_r0 : BitVec 32) (k2_hw4 : k2_chk4 v44_3_r0), ∀ a, (k2_off20 v44_3_r0) a + S1.size a ≤ S2.size a := fun v44_3_r0 k2_hw4 => k2_hw4.2.1
theorem k2_off21_inb : ∀ (v44_3_r0 : BitVec 32) (k2_hw4 : k2_chk4 v44_3_r0), ∀ a, (k2_off21 v44_3_r0) a + S1x256x128.size a ≤ S2x256x128.size a := fun v44_3_r0 k2_hw4 => k2_hw4.2.2

def k2_off22 : Fin 3 → Nat :=
  let c0_i32_22_r2 : BitVec 32 := 0#32
  let c2_i32_r2 : BitVec 32 := 2#32
  let v31_r2 : BitVec 32 := Scalar.remui c0_i32_22_r2 c2_i32_r2
  let c0_i32_23_r2 : BitVec 32 := 0#32
  let c0_i32_24_r2 : BitVec 32 := 0#32
  ![v31_r2.toNat, 0, 0]
def k2_off23 (i : grid2.Coords) : Fin 2 → Nat :=
  let c1_i32_25_r2 : BitVec 32 := 1#32
  let c256_i32_r2 : BitVec 32 := 256#32
  let c512_i32_r2 : BitVec 32 := 512#32
  let c0_i32_10_r2 : BitVec 32 := 0#32
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v17_r2 : BitVec 32 := Scalar.addi c0_i32_10_r2 v9
  let v32_r2 : BitVec 32 := Scalar.addi c512_i32_r2 v17_r2
  let v33_r2 : BitVec 32 := Scalar.muli c256_i32_r2 v32_r2
  ![1, v33_r2.toNat]
def k2_off24 : Fin 1 → Nat :=
  let c0_i32_22_r2 : BitVec 32 := 0#32
  let c2_i32_r2 : BitVec 32 := 2#32
  let v31_r2 : BitVec 32 := Scalar.remui c0_i32_22_r2 c2_i32_r2
  ![v31_r2.toNat]
@[reducible] def k2_t2_loop : Scf.Loop 32 :=
  let c0_i32_35_r2 : BitVec 32 := 0#32
  let c16_i32_36_r2 : BitVec 32 := 16#32
  let v43_r2 : BitVec 32 := Scalar.addi c0_i32_35_r2 c16_i32_36_r2
  let c1_i32_37_r2 : BitVec 32 := 1#32
  ⟨c0_i32_35_r2, v43_r2, c1_i32_37_r2⟩
def k2_off25 (arg8_r2 : BitVec 32) : Fin 3 → Nat :=
  let c2_i32_115_r2 : BitVec 32 := 2#32
  let v162_r2 : BitVec 32 := Scalar.remui arg8_r2 c2_i32_115_r2
  let c0_i32_118_r2 : BitVec 32 := 0#32
  let c0_i32_119_r2 : BitVec 32 := 0#32
  ![v162_r2.toNat, 0, 0]
def k2_cond8 (i : grid2.Coords) (k2_t2 : Fin k2_t2_loop.trips) (arg12_r2 : BitVec 32) : BitVec 1 :=
  let c512_i32_78_r2 : BitVec 32 := 512#32
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v78_r2 : BitVec 32 := Scalar.addi arg12_r2 v9
  let v94_r2 : BitVec 32 := Scalar.addi c512_i32_78_r2 v78_r2
  let c512_i32_79_r2 : BitVec 32 := 512#32
  let true_71_r2 : BitVec 1 := 1#1
  let c1_i32_70_r2 : BitVec 32 := 1#32
  let v84_r2 : BitVec 32 := Scalar.addi arg12_r2 c1_i32_70_r2
  let v85_r2 : BitVec 32 := Scalar.select true_71_r2 v84_r2 arg12_r2
  let c16_i32_72_r2 : BitVec 32 := 16#32
  let v86_r2 : BitVec 1 := Scalar.cmpi .eq v85_r2 c16_i32_72_r2
  let c0_i32_73_r2 : BitVec 32 := 0#32
  let v87_r2 : BitVec 32 := Scalar.select v86_r2 c0_i32_73_r2 v85_r2
  let v88_r2 : BitVec 32 := Scalar.addi v87_r2 v9
  let v95_r2 : BitVec 32 := Scalar.addi c512_i32_79_r2 v88_r2
  let v96_r2 : BitVec 1 := Scalar.cmpi .ne v94_r2 v95_r2
  let c0_i32_35_r2 : BitVec 32 := 0#32
  let c1_i32_37_r2 : BitVec 32 := 1#32
  let arg7_r2 : BitVec 32 := Scf.iv c0_i32_35_r2 c1_i32_37_r2 k2_t2
  let c15_i32_80_r2 : BitVec 32 := 15#32
  let v97_r2 : BitVec 1 := Scalar.cmpi .sge arg7_r2 c15_i32_80_r2
  let true_81_r2 : BitVec 1 := 1#1
  let v98_r2 : BitVec 1 := Scalar.xori v97_r2 true_81_r2
  let v99_r2 : BitVec 1 := Scalar.andi v96_r2 v98_r2
  let true_82_r2 : BitVec 1 := 1#1
  let v100_r2 : BitVec 1 := Scalar.andi v99_r2 true_82_r2
  let v101_r2 : BitVec 32 := Scalar.extui v100_r2
  let c0_i32_83_r2 : BitVec 32 := 0#32
  let v102_r2 : BitVec 1 := Scalar.cmpi .ne v101_r2 c0_i32_83_r2
  v102_r2

def k2_off26 (i : grid2.Coords) (arg12_r2 : BitVec 32) : Fin 2 → Nat :=
  let c1_i32_120_r2 : BitVec 32 := 1#32
  let c256_i32_117_r2 : BitVec 32 := 256#32
  let c512_i32_116_r2 : BitVec 32 := 512#32
  let true_71_r2 : BitVec 1 := 1#1
  let c1_i32_70_r2 : BitVec 32 := 1#32
  let v84_r2 : BitVec 32 := Scalar.addi arg12_r2 c1_i32_70_r2
  let v85_r2 : BitVec 32 := Scalar.select true_71_r2 v84_r2 arg12_r2
  let c16_i32_72_r2 : BitVec 32 := 16#32
  let v86_r2 : BitVec 1 := Scalar.cmpi .eq v85_r2 c16_i32_72_r2
  let c0_i32_73_r2 : BitVec 32 := 0#32
  let v87_r2 : BitVec 32 := Scalar.select v86_r2 c0_i32_73_r2 v85_r2
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v88_r2 : BitVec 32 := Scalar.addi v87_r2 v9
  let v163_r2 : BitVec 32 := Scalar.addi c512_i32_116_r2 v88_r2
  let v164_r2 : BitVec 32 := Scalar.muli c256_i32_117_r2 v163_r2
  ![1, v164_r2.toNat]
def k2_off27 (arg8_r2 : BitVec 32) : Fin 1 → Nat :=
  let c2_i32_115_r2 : BitVec 32 := 2#32
  let v162_r2 : BitVec 32 := Scalar.remui arg8_r2 c2_i32_115_r2
  ![v162_r2.toNat]
def k2_off28 (arg9_r2 : BitVec 32) : Fin 3 → Nat :=
  let c2_i32_117_r2 : BitVec 32 := 2#32
  let v164_r2 : BitVec 32 := Scalar.remui arg9_r2 c2_i32_117_r2
  let c0_i32_118_r2 : BitVec 32 := 0#32
  let c0_i32_119_r2 : BitVec 32 := 0#32
  ![v164_r2.toNat, 0, 0]
def k2_cond9 (i : grid2.Coords) (k2_t2 : Fin k2_t2_loop.trips) (arg12_r2 : BitVec 32) : BitVec 1 :=
  let c512_i32_78_r2 : BitVec 32 := 512#32
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v78_r2 : BitVec 32 := Scalar.addi arg12_r2 v9
  let v94_r2 : BitVec 32 := Scalar.addi c512_i32_78_r2 v78_r2
  let c512_i32_90_r2 : BitVec 32 := 512#32
  let true_67_r2 : BitVec 1 := 1#1
  let c1_i32_66_r2 : BitVec 32 := 1#32
  let v79_r2 : BitVec 32 := Scalar.subi arg12_r2 c1_i32_66_r2
  let v80_r2 : BitVec 32 := Scalar.select true_67_r2 v79_r2 arg12_r2
  let c_m1_i32_68_r2 : BitVec 32 := 4294967295#32
  let v81_r2 : BitVec 1 := Scalar.cmpi .eq v80_r2 c_m1_i32_68_r2
  let c15_i32_69_r2 : BitVec 32 := 15#32
  let v82_r2 : BitVec 32 := Scalar.select v81_r2 c15_i32_69_r2 v80_r2
  let v83_r2 : BitVec 32 := Scalar.addi v82_r2 v9
  let v112_r2 : BitVec 32 := Scalar.addi c512_i32_90_r2 v83_r2
  let v113_r2 : BitVec 1 := Scalar.cmpi .ne v94_r2 v112_r2
  let c0_i32_35_r2 : BitVec 32 := 0#32
  let c1_i32_37_r2 : BitVec 32 := 1#32
  let arg7_r2 : BitVec 32 := Scf.iv c0_i32_35_r2 c1_i32_37_r2 k2_t2
  let c0_i32_64_r2 : BitVec 32 := 0#32
  let v76_r2 : BitVec 1 := Scalar.cmpi .eq arg7_r2 c0_i32_64_r2
  let v114_r2 : BitVec 1 := Scalar.ori v113_r2 v76_r2
  let c0_i32_91_r2 : BitVec 32 := 0#32
  let v115_r2 : BitVec 1 := Scalar.cmpi .sge arg7_r2 c0_i32_91_r2
  let v116_r2 : BitVec 1 := Scalar.andi v114_r2 v115_r2
  let v117_r2 : BitVec 32 := Scalar.extui v116_r2
  let c0_i32_92_r2 : BitVec 32 := 0#32
  let v118_r2 : BitVec 1 := Scalar.cmpi .ne v117_r2 c0_i32_92_r2
  v118_r2

def k2_off29 (i : grid2.Coords) (arg12_r2 : BitVec 32) : Fin 2 → Nat :=
  let c1_i32_120_r2 : BitVec 32 := 1#32
  let c256_i32_116_r2 : BitVec 32 := 256#32
  let c512_i32_115_r2 : BitVec 32 := 512#32
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v78_r2 : BitVec 32 := Scalar.addi arg12_r2 v9
  let v162_r2 : BitVec 32 := Scalar.addi c512_i32_115_r2 v78_r2
  let v163_r2 : BitVec 32 := Scalar.muli c256_i32_116_r2 v162_r2
  ![1, v163_r2.toNat]
def k2_off30 (arg9_r2 : BitVec 32) : Fin 1 → Nat :=
  let c2_i32_117_r2 : BitVec 32 := 2#32
  let v164_r2 : BitVec 32 := Scalar.remui arg9_r2 c2_i32_117_r2
  ![v164_r2.toNat]
def k2_off31 (arg10_r2 : BitVec 32) : Fin 3 → Nat :=
  let c2_i32_97_r2 : BitVec 32 := 2#32
  let v127_r2 : BitVec 32 := Scalar.remui arg10_r2 c2_i32_97_r2
  let c0_i32_115_r3 : BitVec 32 := 0#32
  let c0_i32_116_r3 : BitVec 32 := 0#32
  ![v127_r2.toNat, 0, 0]

def k2_chk7 (arg10_r2 : BitVec 32) : Prop :=
  (∀ a, (k2_off31 arg10_r2) a + S1x256x128.size a ≤ S2x256x128.size a)
theorem k2_off31_inb : ∀ (arg10_r2 : BitVec 32) (k2_hw7 : k2_chk7 arg10_r2), ∀ a, (k2_off31 arg10_r2) a + S1x256x128.size a ≤ S2x256x128.size a := fun arg10_r2 k2_hw7 => k2_hw7

def k2_off32 (arg9_r2 : BitVec 32) : Fin 3 → Nat :=
  let c2_i32_96_r2 : BitVec 32 := 2#32
  let v126_r2 : BitVec 32 := Scalar.remui arg9_r2 c2_i32_96_r2
  let c0_i32_117_r3 : BitVec 32 := 0#32
  let c0_i32_118_r3 : BitVec 32 := 0#32
  ![v126_r2.toNat, 0, 0]

def k2_chk8 (arg9_r2 : BitVec 32) : Prop :=
  (∀ a, (k2_off32 arg9_r2) a + S1x1x256.size a ≤ S2x1x256.size a)
theorem k2_off32_inb : ∀ (arg9_r2 : BitVec 32) (k2_hw8 : k2_chk8 arg9_r2), ∀ a, (k2_off32 arg9_r2) a + S1x1x256.size a ≤ S2x1x256.size a := fun arg9_r2 k2_hw8 => k2_hw8

def k2_off33 (arg10_r2 : BitVec 32) : Fin 3 → Nat :=
  let c2_i32_115_r2 : BitVec 32 := 2#32
  let v162_r2 : BitVec 32 := Scalar.remui arg10_r2 c2_i32_115_r2
  let c0_i32_118_r2 : BitVec 32 := 0#32
  let c0_i32_119_r2 : BitVec 32 := 0#32
  ![v162_r2.toNat, 0, 0]
def k2_cond12 (i : grid2.Coords) (k2_t2 : Fin k2_t2_loop.trips) (arg12_r2 : BitVec 32) : BitVec 1 :=
  let c512_i32_86_r2 : BitVec 32 := 512#32
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v78_r2 : BitVec 32 := Scalar.addi arg12_r2 v9
  let v106_r2 : BitVec 32 := Scalar.addi c512_i32_86_r2 v78_r2
  let c512_i32_87_r2 : BitVec 32 := 512#32
  let true_71_r2 : BitVec 1 := 1#1
  let c1_i32_70_r2 : BitVec 32 := 1#32
  let v84_r2 : BitVec 32 := Scalar.addi arg12_r2 c1_i32_70_r2
  let v85_r2 : BitVec 32 := Scalar.select true_71_r2 v84_r2 arg12_r2
  let c16_i32_72_r2 : BitVec 32 := 16#32
  let v86_r2 : BitVec 1 := Scalar.cmpi .eq v85_r2 c16_i32_72_r2
  let c0_i32_73_r2 : BitVec 32 := 0#32
  let v87_r2 : BitVec 32 := Scalar.select v86_r2 c0_i32_73_r2 v85_r2
  let v88_r2 : BitVec 32 := Scalar.addi v87_r2 v9
  let v107_r2 : BitVec 32 := Scalar.addi c512_i32_87_r2 v88_r2
  let v133_r2 : BitVec 1 := Scalar.cmpi .ne v106_r2 v107_r2
  let c0_i32_35_r2 : BitVec 32 := 0#32
  let c1_i32_37_r2 : BitVec 32 := 1#32
  let arg7_r2 : BitVec 32 := Scf.iv c0_i32_35_r2 c1_i32_37_r2 k2_t2
  let c15_i32_65_r2 : BitVec 32 := 15#32
  let v77_r2 : BitVec 1 := Scalar.cmpi .eq arg7_r2 c15_i32_65_r2
  let v134_r2 : BitVec 1 := Scalar.ori v133_r2 v77_r2
  let v135_r2 : BitVec 32 := Scalar.extui v134_r2
  let c0_i32_100_r2 : BitVec 32 := 0#32
  let v136_r2 : BitVec 1 := Scalar.cmpi .ne v135_r2 c0_i32_100_r2
  v136_r2

def k2_off34 (i : grid2.Coords) (arg12_r2 : BitVec 32) : Fin 2 → Nat :=
  let c256_i32_117_r2 : BitVec 32 := 256#32
  let c512_i32_116_r2 : BitVec 32 := 512#32
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v78_r2 : BitVec 32 := Scalar.addi arg12_r2 v9
  let v163_r2 : BitVec 32 := Scalar.addi c512_i32_116_r2 v78_r2
  let v164_r2 : BitVec 32 := Scalar.muli c256_i32_117_r2 v163_r2
  let c0_i32_120_r2 : BitVec 32 := 0#32
  ![v164_r2.toNat, 0]
def k2_off35 (arg10_r2 : BitVec 32) : Fin 1 → Nat :=
  let c2_i32_115_r2 : BitVec 32 := 2#32
  let v162_r2 : BitVec 32 := Scalar.remui arg10_r2 c2_i32_115_r2
  ![v162_r2.toNat]
def k2_off36 (arg11_r2 : BitVec 32) : Fin 3 → Nat :=
  let c2_i32_115_r2 : BitVec 32 := 2#32
  let v162_r2 : BitVec 32 := Scalar.remui arg11_r2 c2_i32_115_r2
  let c0_i32_118_r2 : BitVec 32 := 0#32
  let c0_i32_119_r2 : BitVec 32 := 0#32
  ![v162_r2.toNat, 0, 0]
def k2_cond14 (i : grid2.Coords) (k2_t2 : Fin k2_t2_loop.trips) (arg12_r2 : BitVec 32) : BitVec 1 :=
  let c512_i32_86_r2 : BitVec 32 := 512#32
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v78_r2 : BitVec 32 := Scalar.addi arg12_r2 v9
  let v106_r2 : BitVec 32 := Scalar.addi c512_i32_86_r2 v78_r2
  let c512_i32_93_r2 : BitVec 32 := 512#32
  let true_67_r2 : BitVec 1 := 1#1
  let c1_i32_66_r2 : BitVec 32 := 1#32
  let v79_r2 : BitVec 32 := Scalar.subi arg12_r2 c1_i32_66_r2
  let v80_r2 : BitVec 32 := Scalar.select true_67_r2 v79_r2 arg12_r2
  let c_m1_i32_68_r2 : BitVec 32 := 4294967295#32
  let v81_r2 : BitVec 1 := Scalar.cmpi .eq v80_r2 c_m1_i32_68_r2
  let c15_i32_69_r2 : BitVec 32 := 15#32
  let v82_r2 : BitVec 32 := Scalar.select v81_r2 c15_i32_69_r2 v80_r2
  let v83_r2 : BitVec 32 := Scalar.addi v82_r2 v9
  let v119_r2 : BitVec 32 := Scalar.addi c512_i32_93_r2 v83_r2
  let v146_r2 : BitVec 1 := Scalar.cmpi .ne v106_r2 v119_r2
  let c0_i32_35_r2 : BitVec 32 := 0#32
  let c1_i32_37_r2 : BitVec 32 := 1#32
  let arg7_r2 : BitVec 32 := Scf.iv c0_i32_35_r2 c1_i32_37_r2 k2_t2
  let c0_i32_64_r2 : BitVec 32 := 0#32
  let v76_r2 : BitVec 1 := Scalar.cmpi .eq arg7_r2 c0_i32_64_r2
  let true_106_r2 : BitVec 1 := 1#1
  let v147_r2 : BitVec 1 := Scalar.xori v76_r2 true_106_r2
  let v148_r2 : BitVec 1 := Scalar.andi v146_r2 v147_r2
  let v149_r2 : BitVec 32 := Scalar.extui v148_r2
  let c0_i32_107_r2 : BitVec 32 := 0#32
  let v150_r2 : BitVec 1 := Scalar.cmpi .ne v149_r2 c0_i32_107_r2
  v150_r2

def k2_off37 (i : grid2.Coords) (arg12_r2 : BitVec 32) : Fin 2 → Nat :=
  let c256_i32_117_r2 : BitVec 32 := 256#32
  let c512_i32_116_r2 : BitVec 32 := 512#32
  let true_67_r2 : BitVec 1 := 1#1
  let c1_i32_66_r2 : BitVec 32 := 1#32
  let v79_r2 : BitVec 32 := Scalar.subi arg12_r2 c1_i32_66_r2
  let v80_r2 : BitVec 32 := Scalar.select true_67_r2 v79_r2 arg12_r2
  let c_m1_i32_68_r2 : BitVec 32 := 4294967295#32
  let v81_r2 : BitVec 1 := Scalar.cmpi .eq v80_r2 c_m1_i32_68_r2
  let c15_i32_69_r2 : BitVec 32 := 15#32
  let v82_r2 : BitVec 32 := Scalar.select v81_r2 c15_i32_69_r2 v80_r2
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v83_r2 : BitVec 32 := Scalar.addi v82_r2 v9
  let v163_r2 : BitVec 32 := Scalar.addi c512_i32_116_r2 v83_r2
  let v164_r2 : BitVec 32 := Scalar.muli c256_i32_117_r2 v163_r2
  let c0_i32_120_r2 : BitVec 32 := 0#32
  ![v164_r2.toNat, 0]
def k2_off38 (arg11_r2 : BitVec 32) : Fin 1 → Nat :=
  let c2_i32_115_r2 : BitVec 32 := 2#32
  let v162_r2 : BitVec 32 := Scalar.remui arg11_r2 c2_i32_115_r2
  ![v162_r2.toNat]

def k2_chk6 (i : grid2.Coords) (k2_t2 : Fin k2_t2_loop.trips) (arg8_r2 : BitVec 32) (arg9_r2 : BitVec 32) (arg10_r2 : BitVec 32) (arg11_r2 : BitVec 32) (arg12_r2 : BitVec 32) : Prop :=
  (∀ (k2_h8 : k2_cond8 i k2_t2 arg12_r2 = 1#1), ∀ a, (k2_off25 arg8_r2) a + S1x1x256.size a ≤ S2x1x256.size a) ∧
  (∀ (k2_h8 : k2_cond8 i k2_t2 arg12_r2 = 1#1), ∀ a, (k2_off26 i arg12_r2) a + S1x256.size a ≤ S3x1048576.size a) ∧
  (∀ (k2_h8 : k2_cond8 i k2_t2 arg12_r2 = 1#1), ∀ a, (k2_off27 arg8_r2) a + S1.size a ≤ S2.size a) ∧
  (∀ (k2_h9 : k2_cond9 i k2_t2 arg12_r2 = 1#1), ∀ a, (k2_off28 arg9_r2) a + S1x1x256.size a ≤ S2x1x256.size a) ∧
  (∀ (k2_h9 : k2_cond9 i k2_t2 arg12_r2 = 1#1), ∀ a, (k2_off29 i arg12_r2) a + S1x256.size a ≤ S3x1048576.size a) ∧
  (∀ (k2_h9 : k2_cond9 i k2_t2 arg12_r2 = 1#1), ∀ a, (k2_off30 arg9_r2) a + S1.size a ≤ S2.size a) ∧
  (∀ (k2_h12 : k2_cond12 i k2_t2 arg12_r2 = 1#1), ∀ a, (k2_off33 arg10_r2) a + S1x256x128.size a ≤ S2x256x128.size a) ∧
  (∀ (k2_h12 : k2_cond12 i k2_t2 arg12_r2 = 1#1), ∀ a, (k2_off34 i arg12_r2) a + S256x128.size a ≤ S393216x128.size a) ∧
  (∀ (k2_h12 : k2_cond12 i k2_t2 arg12_r2 = 1#1), ∀ a, (k2_off35 arg10_r2) a + S1.size a ≤ S2.size a) ∧
  (∀ (k2_h14 : k2_cond14 i k2_t2 arg12_r2 = 1#1), ∀ a, (k2_off36 arg11_r2) a + S1x256x128.size a ≤ S2x256x128.size a) ∧
  (∀ (k2_h14 : k2_cond14 i k2_t2 arg12_r2 = 1#1), ∀ a, (k2_off37 i arg12_r2) a + S256x128.size a ≤ S393216x128.size a) ∧
  (∀ (k2_h14 : k2_cond14 i k2_t2 arg12_r2 = 1#1), ∀ a, (k2_off38 arg11_r2) a + S1.size a ≤ S2.size a)
theorem k2_off25_inb : ∀ (i : grid2.Coords) (k2_t2 : Fin k2_t2_loop.trips) (arg8_r2 : BitVec 32) (arg9_r2 : BitVec 32) (arg10_r2 : BitVec 32) (arg11_r2 : BitVec 32) (arg12_r2 : BitVec 32) (k2_hw6 : k2_chk6 i k2_t2 arg8_r2 arg9_r2 arg10_r2 arg11_r2 arg12_r2), ∀ (k2_h8 : k2_cond8 i k2_t2 arg12_r2 = 1#1), ∀ a, (k2_off25 arg8_r2) a + S1x1x256.size a ≤ S2x1x256.size a := fun i k2_t2 arg8_r2 arg9_r2 arg10_r2 arg11_r2 arg12_r2 k2_hw6 k2_h8 => k2_hw6.1 k2_h8
theorem k2_off26_inb : ∀ (i : grid2.Coords) (k2_t2 : Fin k2_t2_loop.trips) (arg8_r2 : BitVec 32) (arg9_r2 : BitVec 32) (arg10_r2 : BitVec 32) (arg11_r2 : BitVec 32) (arg12_r2 : BitVec 32) (k2_hw6 : k2_chk6 i k2_t2 arg8_r2 arg9_r2 arg10_r2 arg11_r2 arg12_r2), ∀ (k2_h8 : k2_cond8 i k2_t2 arg12_r2 = 1#1), ∀ a, (k2_off26 i arg12_r2) a + S1x256.size a ≤ S3x1048576.size a := fun i k2_t2 arg8_r2 arg9_r2 arg10_r2 arg11_r2 arg12_r2 k2_hw6 k2_h8 => k2_hw6.2.1 k2_h8
theorem k2_off27_inb : ∀ (i : grid2.Coords) (k2_t2 : Fin k2_t2_loop.trips) (arg8_r2 : BitVec 32) (arg9_r2 : BitVec 32) (arg10_r2 : BitVec 32) (arg11_r2 : BitVec 32) (arg12_r2 : BitVec 32) (k2_hw6 : k2_chk6 i k2_t2 arg8_r2 arg9_r2 arg10_r2 arg11_r2 arg12_r2), ∀ (k2_h8 : k2_cond8 i k2_t2 arg12_r2 = 1#1), ∀ a, (k2_off27 arg8_r2) a + S1.size a ≤ S2.size a := fun i k2_t2 arg8_r2 arg9_r2 arg10_r2 arg11_r2 arg12_r2 k2_hw6 k2_h8 => k2_hw6.2.2.1 k2_h8
theorem k2_off28_inb : ∀ (i : grid2.Coords) (k2_t2 : Fin k2_t2_loop.trips) (arg8_r2 : BitVec 32) (arg9_r2 : BitVec 32) (arg10_r2 : BitVec 32) (arg11_r2 : BitVec 32) (arg12_r2 : BitVec 32) (k2_hw6 : k2_chk6 i k2_t2 arg8_r2 arg9_r2 arg10_r2 arg11_r2 arg12_r2), ∀ (k2_h9 : k2_cond9 i k2_t2 arg12_r2 = 1#1), ∀ a, (k2_off28 arg9_r2) a + S1x1x256.size a ≤ S2x1x256.size a := fun i k2_t2 arg8_r2 arg9_r2 arg10_r2 arg11_r2 arg12_r2 k2_hw6 k2_h9 => k2_hw6.2.2.2.1 k2_h9
theorem k2_off29_inb : ∀ (i : grid2.Coords) (k2_t2 : Fin k2_t2_loop.trips) (arg8_r2 : BitVec 32) (arg9_r2 : BitVec 32) (arg10_r2 : BitVec 32) (arg11_r2 : BitVec 32) (arg12_r2 : BitVec 32) (k2_hw6 : k2_chk6 i k2_t2 arg8_r2 arg9_r2 arg10_r2 arg11_r2 arg12_r2), ∀ (k2_h9 : k2_cond9 i k2_t2 arg12_r2 = 1#1), ∀ a, (k2_off29 i arg12_r2) a + S1x256.size a ≤ S3x1048576.size a := fun i k2_t2 arg8_r2 arg9_r2 arg10_r2 arg11_r2 arg12_r2 k2_hw6 k2_h9 => k2_hw6.2.2.2.2.1 k2_h9
theorem k2_off30_inb : ∀ (i : grid2.Coords) (k2_t2 : Fin k2_t2_loop.trips) (arg8_r2 : BitVec 32) (arg9_r2 : BitVec 32) (arg10_r2 : BitVec 32) (arg11_r2 : BitVec 32) (arg12_r2 : BitVec 32) (k2_hw6 : k2_chk6 i k2_t2 arg8_r2 arg9_r2 arg10_r2 arg11_r2 arg12_r2), ∀ (k2_h9 : k2_cond9 i k2_t2 arg12_r2 = 1#1), ∀ a, (k2_off30 arg9_r2) a + S1.size a ≤ S2.size a := fun i k2_t2 arg8_r2 arg9_r2 arg10_r2 arg11_r2 arg12_r2 k2_hw6 k2_h9 => k2_hw6.2.2.2.2.2.1 k2_h9
theorem k2_off33_inb : ∀ (i : grid2.Coords) (k2_t2 : Fin k2_t2_loop.trips) (arg8_r2 : BitVec 32) (arg9_r2 : BitVec 32) (arg10_r2 : BitVec 32) (arg11_r2 : BitVec 32) (arg12_r2 : BitVec 32) (k2_hw6 : k2_chk6 i k2_t2 arg8_r2 arg9_r2 arg10_r2 arg11_r2 arg12_r2), ∀ (k2_h12 : k2_cond12 i k2_t2 arg12_r2 = 1#1), ∀ a, (k2_off33 arg10_r2) a + S1x256x128.size a ≤ S2x256x128.size a := fun i k2_t2 arg8_r2 arg9_r2 arg10_r2 arg11_r2 arg12_r2 k2_hw6 k2_h12 => k2_hw6.2.2.2.2.2.2.1 k2_h12
theorem k2_off34_inb : ∀ (i : grid2.Coords) (k2_t2 : Fin k2_t2_loop.trips) (arg8_r2 : BitVec 32) (arg9_r2 : BitVec 32) (arg10_r2 : BitVec 32) (arg11_r2 : BitVec 32) (arg12_r2 : BitVec 32) (k2_hw6 : k2_chk6 i k2_t2 arg8_r2 arg9_r2 arg10_r2 arg11_r2 arg12_r2), ∀ (k2_h12 : k2_cond12 i k2_t2 arg12_r2 = 1#1), ∀ a, (k2_off34 i arg12_r2) a + S256x128.size a ≤ S393216x128.size a := fun i k2_t2 arg8_r2 arg9_r2 arg10_r2 arg11_r2 arg12_r2 k2_hw6 k2_h12 => k2_hw6.2.2.2.2.2.2.2.1 k2_h12
theorem k2_off35_inb : ∀ (i : grid2.Coords) (k2_t2 : Fin k2_t2_loop.trips) (arg8_r2 : BitVec 32) (arg9_r2 : BitVec 32) (arg10_r2 : BitVec 32) (arg11_r2 : BitVec 32) (arg12_r2 : BitVec 32) (k2_hw6 : k2_chk6 i k2_t2 arg8_r2 arg9_r2 arg10_r2 arg11_r2 arg12_r2), ∀ (k2_h12 : k2_cond12 i k2_t2 arg12_r2 = 1#1), ∀ a, (k2_off35 arg10_r2) a + S1.size a ≤ S2.size a := fun i k2_t2 arg8_r2 arg9_r2 arg10_r2 arg11_r2 arg12_r2 k2_hw6 k2_h12 => k2_hw6.2.2.2.2.2.2.2.2.1 k2_h12
theorem k2_off36_inb : ∀ (i : grid2.Coords) (k2_t2 : Fin k2_t2_loop.trips) (arg8_r2 : BitVec 32) (arg9_r2 : BitVec 32) (arg10_r2 : BitVec 32) (arg11_r2 : BitVec 32) (arg12_r2 : BitVec 32) (k2_hw6 : k2_chk6 i k2_t2 arg8_r2 arg9_r2 arg10_r2 arg11_r2 arg12_r2), ∀ (k2_h14 : k2_cond14 i k2_t2 arg12_r2 = 1#1), ∀ a, (k2_off36 arg11_r2) a + S1x256x128.size a ≤ S2x256x128.size a := fun i k2_t2 arg8_r2 arg9_r2 arg10_r2 arg11_r2 arg12_r2 k2_hw6 k2_h14 => k2_hw6.2.2.2.2.2.2.2.2.2.1 k2_h14
theorem k2_off37_inb : ∀ (i : grid2.Coords) (k2_t2 : Fin k2_t2_loop.trips) (arg8_r2 : BitVec 32) (arg9_r2 : BitVec 32) (arg10_r2 : BitVec 32) (arg11_r2 : BitVec 32) (arg12_r2 : BitVec 32) (k2_hw6 : k2_chk6 i k2_t2 arg8_r2 arg9_r2 arg10_r2 arg11_r2 arg12_r2), ∀ (k2_h14 : k2_cond14 i k2_t2 arg12_r2 = 1#1), ∀ a, (k2_off37 i arg12_r2) a + S256x128.size a ≤ S393216x128.size a := fun i k2_t2 arg8_r2 arg9_r2 arg10_r2 arg11_r2 arg12_r2 k2_hw6 k2_h14 => k2_hw6.2.2.2.2.2.2.2.2.2.2.1 k2_h14
theorem k2_off38_inb : ∀ (i : grid2.Coords) (k2_t2 : Fin k2_t2_loop.trips) (arg8_r2 : BitVec 32) (arg9_r2 : BitVec 32) (arg10_r2 : BitVec 32) (arg11_r2 : BitVec 32) (arg12_r2 : BitVec 32) (k2_hw6 : k2_chk6 i k2_t2 arg8_r2 arg9_r2 arg10_r2 arg11_r2 arg12_r2), ∀ (k2_h14 : k2_cond14 i k2_t2 arg12_r2 = 1#1), ∀ a, (k2_off38 arg11_r2) a + S1.size a ≤ S2.size a := fun i k2_t2 arg8_r2 arg9_r2 arg10_r2 arg11_r2 arg12_r2 k2_hw6 k2_h14 => k2_hw6.2.2.2.2.2.2.2.2.2.2.2 k2_h14

def k2_off39 (v44_3_r2 : BitVec 32) : Fin 3 → Nat :=
  let c2_i32_55_r2 : BitVec 32 := 2#32
  let v65_r2 : BitVec 32 := Scalar.remui v44_3_r2 c2_i32_55_r2
  let c0_i32_58_r2 : BitVec 32 := 0#32
  let c0_i32_59_r2 : BitVec 32 := 0#32
  ![v65_r2.toNat, 0, 0]

def k2_off40 (i : grid2.Coords) (v44_4_r2 : BitVec 32) : Fin 2 → Nat :=
  let c256_i32_57_r2 : BitVec 32 := 256#32
  let c512_i32_56_r2 : BitVec 32 := 512#32
  let true_40_r2 : BitVec 1 := 1#1
  let c1_i32_39_r2 : BitVec 32 := 1#32
  let v45_r2 : BitVec 32 := Scalar.subi v44_4_r2 c1_i32_39_r2
  let v46_r2 : BitVec 32 := Scalar.select true_40_r2 v45_r2 v44_4_r2
  let c_m1_i32_41_r2 : BitVec 32 := 4294967295#32
  let v47_r2 : BitVec 1 := Scalar.cmpi .eq v46_r2 c_m1_i32_41_r2
  let c15_i32_42_r2 : BitVec 32 := 15#32
  let v48_r2 : BitVec 32 := Scalar.select v47_r2 c15_i32_42_r2 v46_r2
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v49_r2 : BitVec 32 := Scalar.addi v48_r2 v9
  let v66_r2 : BitVec 32 := Scalar.addi c512_i32_56_r2 v49_r2
  let v67_r2 : BitVec 32 := Scalar.muli c256_i32_57_r2 v66_r2
  let c0_i32_60_r2 : BitVec 32 := 0#32
  ![v67_r2.toNat, 0]

def k2_chk10 (i : grid2.Coords) (v44_4_r2 : BitVec 32) : Prop :=
  (∀ a, (k2_off40 i v44_4_r2) a + S256x128.size a ≤ S393216x128.size a)
theorem k2_off40_inb : ∀ (i : grid2.Coords) (v44_4_r2 : BitVec 32) (k2_hw10 : k2_chk10 i v44_4_r2), ∀ a, (k2_off40 i v44_4_r2) a + S256x128.size a ≤ S393216x128.size a := fun i v44_4_r2 k2_hw10 => k2_hw10

def k2_off41 (v44_3_r2 : BitVec 32) : Fin 1 → Nat :=
  let c2_i32_55_r2 : BitVec 32 := 2#32
  let v65_r2 : BitVec 32 := Scalar.remui v44_3_r2 c2_i32_55_r2
  ![v65_r2.toNat]
def k2_off42 (v44_3_r2 : BitVec 32) : Fin 3 → Nat :=
  let c2_i32_55_r2 : BitVec 32 := 2#32
  let v65_r2 : BitVec 32 := Scalar.remui v44_3_r2 c2_i32_55_r2
  let c0_i32_62_r2 : BitVec 32 := 0#32
  let c0_i32_63_r2 : BitVec 32 := 0#32
  ![v65_r2.toNat, 0, 0]

def k2_chk9 (v44_3_r2 : BitVec 32) : Prop :=
  (∀ a, (k2_off39 v44_3_r2) a + S1x256x128.size a ≤ S2x256x128.size a) ∧
  (∀ a, (k2_off41 v44_3_r2) a + S1.size a ≤ S2.size a) ∧
  (∀ a, (k2_off42 v44_3_r2) a + S1x256x128.size a ≤ S2x256x128.size a)
theorem k2_off39_inb : ∀ (v44_3_r2 : BitVec 32) (k2_hw9 : k2_chk9 v44_3_r2), ∀ a, (k2_off39 v44_3_r2) a + S1x256x128.size a ≤ S2x256x128.size a := fun v44_3_r2 k2_hw9 => k2_hw9.1
theorem k2_off41_inb : ∀ (v44_3_r2 : BitVec 32) (k2_hw9 : k2_chk9 v44_3_r2), ∀ a, (k2_off41 v44_3_r2) a + S1.size a ≤ S2.size a := fun v44_3_r2 k2_hw9 => k2_hw9.2.1
theorem k2_off42_inb : ∀ (v44_3_r2 : BitVec 32) (k2_hw9 : k2_chk9 v44_3_r2), ∀ a, (k2_off42 v44_3_r2) a + S1x256x128.size a ≤ S2x256x128.size a := fun v44_3_r2 k2_hw9 => k2_hw9.2.2

def k2_off43 : Fin 3 → Nat :=
  let c0_i32_22_r4 : BitVec 32 := 0#32
  let c2_i32_r4 : BitVec 32 := 2#32
  let v31_r4 : BitVec 32 := Scalar.remui c0_i32_22_r4 c2_i32_r4
  let c0_i32_23_r4 : BitVec 32 := 0#32
  let c0_i32_24_r4 : BitVec 32 := 0#32
  ![v31_r4.toNat, 0, 0]
def k2_off44 (i : grid2.Coords) : Fin 2 → Nat :=
  let c2_i32_25_r4 : BitVec 32 := 2#32
  let c256_i32_r4 : BitVec 32 := 256#32
  let c512_i32_r4 : BitVec 32 := 512#32
  let c0_i32_10_r4 : BitVec 32 := 0#32
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v17_r4 : BitVec 32 := Scalar.addi c0_i32_10_r4 v14
  let v32_r4 : BitVec 32 := Scalar.addi c512_i32_r4 v17_r4
  let v33_r4 : BitVec 32 := Scalar.muli c256_i32_r4 v32_r4
  ![2, v33_r4.toNat]
def k2_off45 : Fin 1 → Nat :=
  let c0_i32_22_r4 : BitVec 32 := 0#32
  let c2_i32_r4 : BitVec 32 := 2#32
  let v31_r4 : BitVec 32 := Scalar.remui c0_i32_22_r4 c2_i32_r4
  ![v31_r4.toNat]
@[reducible] def k2_t3_loop : Scf.Loop 32 :=
  let c0_i32_35_r4 : BitVec 32 := 0#32
  let c16_i32_36_r4 : BitVec 32 := 16#32
  let v43_r4 : BitVec 32 := Scalar.addi c0_i32_35_r4 c16_i32_36_r4
  let c1_i32_37_r4 : BitVec 32 := 1#32
  ⟨c0_i32_35_r4, v43_r4, c1_i32_37_r4⟩
def k2_off46 (arg8_r4 : BitVec 32) : Fin 3 → Nat :=
  let c2_i32_114_r4 : BitVec 32 := 2#32
  let v162_r4 : BitVec 32 := Scalar.remui arg8_r4 c2_i32_114_r4
  let c0_i32_117_r4 : BitVec 32 := 0#32
  let c0_i32_118_r4 : BitVec 32 := 0#32
  ![v162_r4.toNat, 0, 0]
def k2_cond15 (i : grid2.Coords) (k2_t3 : Fin k2_t3_loop.trips) (arg12_r4 : BitVec 32) : BitVec 1 :=
  let c512_i32_77_r4 : BitVec 32 := 512#32
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v78_r4 : BitVec 32 := Scalar.addi arg12_r4 v14
  let v94_r4 : BitVec 32 := Scalar.addi c512_i32_77_r4 v78_r4
  let c512_i32_78_r4 : BitVec 32 := 512#32
  let true_70_r4 : BitVec 1 := 1#1
  let c1_i32_69_r4 : BitVec 32 := 1#32
  let v84_r4 : BitVec 32 := Scalar.addi arg12_r4 c1_i32_69_r4
  let v85_r4 : BitVec 32 := Scalar.select true_70_r4 v84_r4 arg12_r4
  let c16_i32_71_r4 : BitVec 32 := 16#32
  let v86_r4 : BitVec 1 := Scalar.cmpi .eq v85_r4 c16_i32_71_r4
  let c0_i32_72_r4 : BitVec 32 := 0#32
  let v87_r4 : BitVec 32 := Scalar.select v86_r4 c0_i32_72_r4 v85_r4
  let v88_r4 : BitVec 32 := Scalar.addi v87_r4 v14
  let v95_r4 : BitVec 32 := Scalar.addi c512_i32_78_r4 v88_r4
  let v96_r4 : BitVec 1 := Scalar.cmpi .ne v94_r4 v95_r4
  let c0_i32_35_r4 : BitVec 32 := 0#32
  let c1_i32_37_r4 : BitVec 32 := 1#32
  let arg7_r4 : BitVec 32 := Scf.iv c0_i32_35_r4 c1_i32_37_r4 k2_t3
  let c15_i32_79_r4 : BitVec 32 := 15#32
  let v97_r4 : BitVec 1 := Scalar.cmpi .sge arg7_r4 c15_i32_79_r4
  let true_80_r4 : BitVec 1 := 1#1
  let v98_r4 : BitVec 1 := Scalar.xori v97_r4 true_80_r4
  let v99_r4 : BitVec 1 := Scalar.andi v96_r4 v98_r4
  let true_81_r4 : BitVec 1 := 1#1
  let v100_r4 : BitVec 1 := Scalar.andi v99_r4 true_81_r4
  let v101_r4 : BitVec 32 := Scalar.extui v100_r4
  let c0_i32_82_r4 : BitVec 32 := 0#32
  let v102_r4 : BitVec 1 := Scalar.cmpi .ne v101_r4 c0_i32_82_r4
  v102_r4

def k2_off47 (i : grid2.Coords) (arg12_r4 : BitVec 32) : Fin 2 → Nat :=
  let c2_i32_119_r4 : BitVec 32 := 2#32
  let c256_i32_116_r4 : BitVec 32 := 256#32
  let c512_i32_115_r4 : BitVec 32 := 512#32
  let true_70_r4 : BitVec 1 := 1#1
  let c1_i32_69_r4 : BitVec 32 := 1#32
  let v84_r4 : BitVec 32 := Scalar.addi arg12_r4 c1_i32_69_r4
  let v85_r4 : BitVec 32 := Scalar.select true_70_r4 v84_r4 arg12_r4
  let c16_i32_71_r4 : BitVec 32 := 16#32
  let v86_r4 : BitVec 1 := Scalar.cmpi .eq v85_r4 c16_i32_71_r4
  let c0_i32_72_r4 : BitVec 32 := 0#32
  let v87_r4 : BitVec 32 := Scalar.select v86_r4 c0_i32_72_r4 v85_r4
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v88_r4 : BitVec 32 := Scalar.addi v87_r4 v14
  let v163_r4 : BitVec 32 := Scalar.addi c512_i32_115_r4 v88_r4
  let v164_r4 : BitVec 32 := Scalar.muli c256_i32_116_r4 v163_r4
  ![2, v164_r4.toNat]
def k2_off48 (arg8_r4 : BitVec 32) : Fin 1 → Nat :=
  let c2_i32_114_r4 : BitVec 32 := 2#32
  let v162_r4 : BitVec 32 := Scalar.remui arg8_r4 c2_i32_114_r4
  ![v162_r4.toNat]
def k2_off49 (arg9_r4 : BitVec 32) : Fin 3 → Nat :=
  let c2_i32_116_r4 : BitVec 32 := 2#32
  let v164_r4 : BitVec 32 := Scalar.remui arg9_r4 c2_i32_116_r4
  let c0_i32_117_r4 : BitVec 32 := 0#32
  let c0_i32_118_r4 : BitVec 32 := 0#32
  ![v164_r4.toNat, 0, 0]
def k2_cond16 (i : grid2.Coords) (k2_t3 : Fin k2_t3_loop.trips) (arg12_r4 : BitVec 32) : BitVec 1 :=
  let c512_i32_77_r4 : BitVec 32 := 512#32
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v78_r4 : BitVec 32 := Scalar.addi arg12_r4 v14
  let v94_r4 : BitVec 32 := Scalar.addi c512_i32_77_r4 v78_r4
  let c512_i32_89_r4 : BitVec 32 := 512#32
  let true_66_r4 : BitVec 1 := 1#1
  let c1_i32_65_r4 : BitVec 32 := 1#32
  let v79_r4 : BitVec 32 := Scalar.subi arg12_r4 c1_i32_65_r4
  let v80_r4 : BitVec 32 := Scalar.select true_66_r4 v79_r4 arg12_r4
  let c_m1_i32_67_r4 : BitVec 32 := 4294967295#32
  let v81_r4 : BitVec 1 := Scalar.cmpi .eq v80_r4 c_m1_i32_67_r4
  let c15_i32_68_r4 : BitVec 32 := 15#32
  let v82_r4 : BitVec 32 := Scalar.select v81_r4 c15_i32_68_r4 v80_r4
  let v83_r4 : BitVec 32 := Scalar.addi v82_r4 v14
  let v112_r4 : BitVec 32 := Scalar.addi c512_i32_89_r4 v83_r4
  let v113_r4 : BitVec 1 := Scalar.cmpi .ne v94_r4 v112_r4
  let c0_i32_35_r4 : BitVec 32 := 0#32
  let c1_i32_37_r4 : BitVec 32 := 1#32
  let arg7_r4 : BitVec 32 := Scf.iv c0_i32_35_r4 c1_i32_37_r4 k2_t3
  let c0_i32_63_r4 : BitVec 32 := 0#32
  let v76_r4 : BitVec 1 := Scalar.cmpi .eq arg7_r4 c0_i32_63_r4
  let v114_r4 : BitVec 1 := Scalar.ori v113_r4 v76_r4
  let c0_i32_90_r4 : BitVec 32 := 0#32
  let v115_r4 : BitVec 1 := Scalar.cmpi .sge arg7_r4 c0_i32_90_r4
  let v116_r4 : BitVec 1 := Scalar.andi v114_r4 v115_r4
  let v117_r4 : BitVec 32 := Scalar.extui v116_r4
  let c0_i32_91_r4 : BitVec 32 := 0#32
  let v118_r4 : BitVec 1 := Scalar.cmpi .ne v117_r4 c0_i32_91_r4
  v118_r4

def k2_off50 (i : grid2.Coords) (arg12_r4 : BitVec 32) : Fin 2 → Nat :=
  let c2_i32_119_r4 : BitVec 32 := 2#32
  let c256_i32_115_r4 : BitVec 32 := 256#32
  let c512_i32_114_r4 : BitVec 32 := 512#32
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v78_r4 : BitVec 32 := Scalar.addi arg12_r4 v14
  let v162_r4 : BitVec 32 := Scalar.addi c512_i32_114_r4 v78_r4
  let v163_r4 : BitVec 32 := Scalar.muli c256_i32_115_r4 v162_r4
  ![2, v163_r4.toNat]
def k2_off51 (arg9_r4 : BitVec 32) : Fin 1 → Nat :=
  let c2_i32_116_r4 : BitVec 32 := 2#32
  let v164_r4 : BitVec 32 := Scalar.remui arg9_r4 c2_i32_116_r4
  ![v164_r4.toNat]
def k2_off52 (arg10_r4 : BitVec 32) : Fin 3 → Nat :=
  let c2_i32_96_r4 : BitVec 32 := 2#32
  let v127_r4 : BitVec 32 := Scalar.remui arg10_r4 c2_i32_96_r4
  let c0_i32_114_r5 : BitVec 32 := 0#32
  let c0_i32_115_r5 : BitVec 32 := 0#32
  ![v127_r4.toNat, 0, 0]

def k2_chk12 (arg10_r4 : BitVec 32) : Prop :=
  (∀ a, (k2_off52 arg10_r4) a + S1x256x128.size a ≤ S2x256x128.size a)
theorem k2_off52_inb : ∀ (arg10_r4 : BitVec 32) (k2_hw12 : k2_chk12 arg10_r4), ∀ a, (k2_off52 arg10_r4) a + S1x256x128.size a ≤ S2x256x128.size a := fun arg10_r4 k2_hw12 => k2_hw12

def k2_off53 (arg9_r4 : BitVec 32) : Fin 3 → Nat :=
  let c2_i32_95_r4 : BitVec 32 := 2#32
  let v126_r4 : BitVec 32 := Scalar.remui arg9_r4 c2_i32_95_r4
  let c0_i32_116_r5 : BitVec 32 := 0#32
  let c0_i32_117_r5 : BitVec 32 := 0#32
  ![v126_r4.toNat, 0, 0]

def k2_chk13 (arg9_r4 : BitVec 32) : Prop :=
  (∀ a, (k2_off53 arg9_r4) a + S1x1x256.size a ≤ S2x1x256.size a)
theorem k2_off53_inb : ∀ (arg9_r4 : BitVec 32) (k2_hw13 : k2_chk13 arg9_r4), ∀ a, (k2_off53 arg9_r4) a + S1x1x256.size a ≤ S2x1x256.size a := fun arg9_r4 k2_hw13 => k2_hw13

def k2_off54 (arg10_r4 : BitVec 32) : Fin 3 → Nat :=
  let c2_i32_114_r4 : BitVec 32 := 2#32
  let v162_r4 : BitVec 32 := Scalar.remui arg10_r4 c2_i32_114_r4
  let c0_i32_117_r4 : BitVec 32 := 0#32
  let c0_i32_118_r4 : BitVec 32 := 0#32
  ![v162_r4.toNat, 0, 0]
def k2_cond19 (i : grid2.Coords) (k2_t3 : Fin k2_t3_loop.trips) (arg12_r4 : BitVec 32) : BitVec 1 :=
  let c1024_i32_85_r4 : BitVec 32 := 1024#32
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v78_r4 : BitVec 32 := Scalar.addi arg12_r4 v14
  let v106_r4 : BitVec 32 := Scalar.addi c1024_i32_85_r4 v78_r4
  let c1024_i32_86_r4 : BitVec 32 := 1024#32
  let true_70_r4 : BitVec 1 := 1#1
  let c1_i32_69_r4 : BitVec 32 := 1#32
  let v84_r4 : BitVec 32 := Scalar.addi arg12_r4 c1_i32_69_r4
  let v85_r4 : BitVec 32 := Scalar.select true_70_r4 v84_r4 arg12_r4
  let c16_i32_71_r4 : BitVec 32 := 16#32
  let v86_r4 : BitVec 1 := Scalar.cmpi .eq v85_r4 c16_i32_71_r4
  let c0_i32_72_r4 : BitVec 32 := 0#32
  let v87_r4 : BitVec 32 := Scalar.select v86_r4 c0_i32_72_r4 v85_r4
  let v88_r4 : BitVec 32 := Scalar.addi v87_r4 v14
  let v107_r4 : BitVec 32 := Scalar.addi c1024_i32_86_r4 v88_r4
  let v133_r4 : BitVec 1 := Scalar.cmpi .ne v106_r4 v107_r4
  let c0_i32_35_r4 : BitVec 32 := 0#32
  let c1_i32_37_r4 : BitVec 32 := 1#32
  let arg7_r4 : BitVec 32 := Scf.iv c0_i32_35_r4 c1_i32_37_r4 k2_t3
  let c15_i32_64_r4 : BitVec 32 := 15#32
  let v77_r4 : BitVec 1 := Scalar.cmpi .eq arg7_r4 c15_i32_64_r4
  let v134_r4 : BitVec 1 := Scalar.ori v133_r4 v77_r4
  let v135_r4 : BitVec 32 := Scalar.extui v134_r4
  let c0_i32_99_r4 : BitVec 32 := 0#32
  let v136_r4 : BitVec 1 := Scalar.cmpi .ne v135_r4 c0_i32_99_r4
  v136_r4

def k2_off55 (i : grid2.Coords) (arg12_r4 : BitVec 32) : Fin 2 → Nat :=
  let c256_i32_116_r4 : BitVec 32 := 256#32
  let c1024_i32_115_r4 : BitVec 32 := 1024#32
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v78_r4 : BitVec 32 := Scalar.addi arg12_r4 v14
  let v163_r4 : BitVec 32 := Scalar.addi c1024_i32_115_r4 v78_r4
  let v164_r4 : BitVec 32 := Scalar.muli c256_i32_116_r4 v163_r4
  let c0_i32_119_r4 : BitVec 32 := 0#32
  ![v164_r4.toNat, 0]
def k2_off56 (arg10_r4 : BitVec 32) : Fin 1 → Nat :=
  let c2_i32_114_r4 : BitVec 32 := 2#32
  let v162_r4 : BitVec 32 := Scalar.remui arg10_r4 c2_i32_114_r4
  ![v162_r4.toNat]
def k2_off57 (arg11_r4 : BitVec 32) : Fin 3 → Nat :=
  let c2_i32_114_r4 : BitVec 32 := 2#32
  let v162_r4 : BitVec 32 := Scalar.remui arg11_r4 c2_i32_114_r4
  let c0_i32_117_r4 : BitVec 32 := 0#32
  let c0_i32_118_r4 : BitVec 32 := 0#32
  ![v162_r4.toNat, 0, 0]
def k2_cond21 (i : grid2.Coords) (k2_t3 : Fin k2_t3_loop.trips) (arg12_r4 : BitVec 32) : BitVec 1 :=
  let c1024_i32_85_r4 : BitVec 32 := 1024#32
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v78_r4 : BitVec 32 := Scalar.addi arg12_r4 v14
  let v106_r4 : BitVec 32 := Scalar.addi c1024_i32_85_r4 v78_r4
  let c1024_i32_92_r4 : BitVec 32 := 1024#32
  let true_66_r4 : BitVec 1 := 1#1
  let c1_i32_65_r4 : BitVec 32 := 1#32
  let v79_r4 : BitVec 32 := Scalar.subi arg12_r4 c1_i32_65_r4
  let v80_r4 : BitVec 32 := Scalar.select true_66_r4 v79_r4 arg12_r4
  let c_m1_i32_67_r4 : BitVec 32 := 4294967295#32
  let v81_r4 : BitVec 1 := Scalar.cmpi .eq v80_r4 c_m1_i32_67_r4
  let c15_i32_68_r4 : BitVec 32 := 15#32
  let v82_r4 : BitVec 32 := Scalar.select v81_r4 c15_i32_68_r4 v80_r4
  let v83_r4 : BitVec 32 := Scalar.addi v82_r4 v14
  let v119_r4 : BitVec 32 := Scalar.addi c1024_i32_92_r4 v83_r4
  let v146_r4 : BitVec 1 := Scalar.cmpi .ne v106_r4 v119_r4
  let c0_i32_35_r4 : BitVec 32 := 0#32
  let c1_i32_37_r4 : BitVec 32 := 1#32
  let arg7_r4 : BitVec 32 := Scf.iv c0_i32_35_r4 c1_i32_37_r4 k2_t3
  let c0_i32_63_r4 : BitVec 32 := 0#32
  let v76_r4 : BitVec 1 := Scalar.cmpi .eq arg7_r4 c0_i32_63_r4
  let true_105_r4 : BitVec 1 := 1#1
  let v147_r4 : BitVec 1 := Scalar.xori v76_r4 true_105_r4
  let v148_r4 : BitVec 1 := Scalar.andi v146_r4 v147_r4
  let v149_r4 : BitVec 32 := Scalar.extui v148_r4
  let c0_i32_106_r4 : BitVec 32 := 0#32
  let v150_r4 : BitVec 1 := Scalar.cmpi .ne v149_r4 c0_i32_106_r4
  v150_r4

def k2_off58 (i : grid2.Coords) (arg12_r4 : BitVec 32) : Fin 2 → Nat :=
  let c256_i32_116_r4 : BitVec 32 := 256#32
  let c1024_i32_115_r4 : BitVec 32 := 1024#32
  let true_66_r4 : BitVec 1 := 1#1
  let c1_i32_65_r4 : BitVec 32 := 1#32
  let v79_r4 : BitVec 32 := Scalar.subi arg12_r4 c1_i32_65_r4
  let v80_r4 : BitVec 32 := Scalar.select true_66_r4 v79_r4 arg12_r4
  let c_m1_i32_67_r4 : BitVec 32 := 4294967295#32
  let v81_r4 : BitVec 1 := Scalar.cmpi .eq v80_r4 c_m1_i32_67_r4
  let c15_i32_68_r4 : BitVec 32 := 15#32
  let v82_r4 : BitVec 32 := Scalar.select v81_r4 c15_i32_68_r4 v80_r4
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v83_r4 : BitVec 32 := Scalar.addi v82_r4 v14
  let v163_r4 : BitVec 32 := Scalar.addi c1024_i32_115_r4 v83_r4
  let v164_r4 : BitVec 32 := Scalar.muli c256_i32_116_r4 v163_r4
  let c0_i32_119_r4 : BitVec 32 := 0#32
  ![v164_r4.toNat, 0]
def k2_off59 (arg11_r4 : BitVec 32) : Fin 1 → Nat :=
  let c2_i32_114_r4 : BitVec 32 := 2#32
  let v162_r4 : BitVec 32 := Scalar.remui arg11_r4 c2_i32_114_r4
  ![v162_r4.toNat]

def k2_chk11 (i : grid2.Coords) (k2_t3 : Fin k2_t3_loop.trips) (arg8_r4 : BitVec 32) (arg9_r4 : BitVec 32) (arg10_r4 : BitVec 32) (arg11_r4 : BitVec 32) (arg12_r4 : BitVec 32) : Prop :=
  (∀ (k2_h15 : k2_cond15 i k2_t3 arg12_r4 = 1#1), ∀ a, (k2_off46 arg8_r4) a + S1x1x256.size a ≤ S2x1x256.size a) ∧
  (∀ (k2_h15 : k2_cond15 i k2_t3 arg12_r4 = 1#1), ∀ a, (k2_off47 i arg12_r4) a + S1x256.size a ≤ S3x1048576.size a) ∧
  (∀ (k2_h15 : k2_cond15 i k2_t3 arg12_r4 = 1#1), ∀ a, (k2_off48 arg8_r4) a + S1.size a ≤ S2.size a) ∧
  (∀ (k2_h16 : k2_cond16 i k2_t3 arg12_r4 = 1#1), ∀ a, (k2_off49 arg9_r4) a + S1x1x256.size a ≤ S2x1x256.size a) ∧
  (∀ (k2_h16 : k2_cond16 i k2_t3 arg12_r4 = 1#1), ∀ a, (k2_off50 i arg12_r4) a + S1x256.size a ≤ S3x1048576.size a) ∧
  (∀ (k2_h16 : k2_cond16 i k2_t3 arg12_r4 = 1#1), ∀ a, (k2_off51 arg9_r4) a + S1.size a ≤ S2.size a) ∧
  (∀ (k2_h19 : k2_cond19 i k2_t3 arg12_r4 = 1#1), ∀ a, (k2_off54 arg10_r4) a + S1x256x128.size a ≤ S2x256x128.size a) ∧
  (∀ (k2_h19 : k2_cond19 i k2_t3 arg12_r4 = 1#1), ∀ a, (k2_off55 i arg12_r4) a + S256x128.size a ≤ S393216x128.size a) ∧
  (∀ (k2_h19 : k2_cond19 i k2_t3 arg12_r4 = 1#1), ∀ a, (k2_off56 arg10_r4) a + S1.size a ≤ S2.size a) ∧
  (∀ (k2_h21 : k2_cond21 i k2_t3 arg12_r4 = 1#1), ∀ a, (k2_off57 arg11_r4) a + S1x256x128.size a ≤ S2x256x128.size a) ∧
  (∀ (k2_h21 : k2_cond21 i k2_t3 arg12_r4 = 1#1), ∀ a, (k2_off58 i arg12_r4) a + S256x128.size a ≤ S393216x128.size a) ∧
  (∀ (k2_h21 : k2_cond21 i k2_t3 arg12_r4 = 1#1), ∀ a, (k2_off59 arg11_r4) a + S1.size a ≤ S2.size a)
theorem k2_off46_inb : ∀ (i : grid2.Coords) (k2_t3 : Fin k2_t3_loop.trips) (arg8_r4 : BitVec 32) (arg9_r4 : BitVec 32) (arg10_r4 : BitVec 32) (arg11_r4 : BitVec 32) (arg12_r4 : BitVec 32) (k2_hw11 : k2_chk11 i k2_t3 arg8_r4 arg9_r4 arg10_r4 arg11_r4 arg12_r4), ∀ (k2_h15 : k2_cond15 i k2_t3 arg12_r4 = 1#1), ∀ a, (k2_off46 arg8_r4) a + S1x1x256.size a ≤ S2x1x256.size a := fun i k2_t3 arg8_r4 arg9_r4 arg10_r4 arg11_r4 arg12_r4 k2_hw11 k2_h15 => k2_hw11.1 k2_h15
theorem k2_off47_inb : ∀ (i : grid2.Coords) (k2_t3 : Fin k2_t3_loop.trips) (arg8_r4 : BitVec 32) (arg9_r4 : BitVec 32) (arg10_r4 : BitVec 32) (arg11_r4 : BitVec 32) (arg12_r4 : BitVec 32) (k2_hw11 : k2_chk11 i k2_t3 arg8_r4 arg9_r4 arg10_r4 arg11_r4 arg12_r4), ∀ (k2_h15 : k2_cond15 i k2_t3 arg12_r4 = 1#1), ∀ a, (k2_off47 i arg12_r4) a + S1x256.size a ≤ S3x1048576.size a := fun i k2_t3 arg8_r4 arg9_r4 arg10_r4 arg11_r4 arg12_r4 k2_hw11 k2_h15 => k2_hw11.2.1 k2_h15
theorem k2_off48_inb : ∀ (i : grid2.Coords) (k2_t3 : Fin k2_t3_loop.trips) (arg8_r4 : BitVec 32) (arg9_r4 : BitVec 32) (arg10_r4 : BitVec 32) (arg11_r4 : BitVec 32) (arg12_r4 : BitVec 32) (k2_hw11 : k2_chk11 i k2_t3 arg8_r4 arg9_r4 arg10_r4 arg11_r4 arg12_r4), ∀ (k2_h15 : k2_cond15 i k2_t3 arg12_r4 = 1#1), ∀ a, (k2_off48 arg8_r4) a + S1.size a ≤ S2.size a := fun i k2_t3 arg8_r4 arg9_r4 arg10_r4 arg11_r4 arg12_r4 k2_hw11 k2_h15 => k2_hw11.2.2.1 k2_h15
theorem k2_off49_inb : ∀ (i : grid2.Coords) (k2_t3 : Fin k2_t3_loop.trips) (arg8_r4 : BitVec 32) (arg9_r4 : BitVec 32) (arg10_r4 : BitVec 32) (arg11_r4 : BitVec 32) (arg12_r4 : BitVec 32) (k2_hw11 : k2_chk11 i k2_t3 arg8_r4 arg9_r4 arg10_r4 arg11_r4 arg12_r4), ∀ (k2_h16 : k2_cond16 i k2_t3 arg12_r4 = 1#1), ∀ a, (k2_off49 arg9_r4) a + S1x1x256.size a ≤ S2x1x256.size a := fun i k2_t3 arg8_r4 arg9_r4 arg10_r4 arg11_r4 arg12_r4 k2_hw11 k2_h16 => k2_hw11.2.2.2.1 k2_h16
theorem k2_off50_inb : ∀ (i : grid2.Coords) (k2_t3 : Fin k2_t3_loop.trips) (arg8_r4 : BitVec 32) (arg9_r4 : BitVec 32) (arg10_r4 : BitVec 32) (arg11_r4 : BitVec 32) (arg12_r4 : BitVec 32) (k2_hw11 : k2_chk11 i k2_t3 arg8_r4 arg9_r4 arg10_r4 arg11_r4 arg12_r4), ∀ (k2_h16 : k2_cond16 i k2_t3 arg12_r4 = 1#1), ∀ a, (k2_off50 i arg12_r4) a + S1x256.size a ≤ S3x1048576.size a := fun i k2_t3 arg8_r4 arg9_r4 arg10_r4 arg11_r4 arg12_r4 k2_hw11 k2_h16 => k2_hw11.2.2.2.2.1 k2_h16
theorem k2_off51_inb : ∀ (i : grid2.Coords) (k2_t3 : Fin k2_t3_loop.trips) (arg8_r4 : BitVec 32) (arg9_r4 : BitVec 32) (arg10_r4 : BitVec 32) (arg11_r4 : BitVec 32) (arg12_r4 : BitVec 32) (k2_hw11 : k2_chk11 i k2_t3 arg8_r4 arg9_r4 arg10_r4 arg11_r4 arg12_r4), ∀ (k2_h16 : k2_cond16 i k2_t3 arg12_r4 = 1#1), ∀ a, (k2_off51 arg9_r4) a + S1.size a ≤ S2.size a := fun i k2_t3 arg8_r4 arg9_r4 arg10_r4 arg11_r4 arg12_r4 k2_hw11 k2_h16 => k2_hw11.2.2.2.2.2.1 k2_h16
theorem k2_off54_inb : ∀ (i : grid2.Coords) (k2_t3 : Fin k2_t3_loop.trips) (arg8_r4 : BitVec 32) (arg9_r4 : BitVec 32) (arg10_r4 : BitVec 32) (arg11_r4 : BitVec 32) (arg12_r4 : BitVec 32) (k2_hw11 : k2_chk11 i k2_t3 arg8_r4 arg9_r4 arg10_r4 arg11_r4 arg12_r4), ∀ (k2_h19 : k2_cond19 i k2_t3 arg12_r4 = 1#1), ∀ a, (k2_off54 arg10_r4) a + S1x256x128.size a ≤ S2x256x128.size a := fun i k2_t3 arg8_r4 arg9_r4 arg10_r4 arg11_r4 arg12_r4 k2_hw11 k2_h19 => k2_hw11.2.2.2.2.2.2.1 k2_h19
theorem k2_off55_inb : ∀ (i : grid2.Coords) (k2_t3 : Fin k2_t3_loop.trips) (arg8_r4 : BitVec 32) (arg9_r4 : BitVec 32) (arg10_r4 : BitVec 32) (arg11_r4 : BitVec 32) (arg12_r4 : BitVec 32) (k2_hw11 : k2_chk11 i k2_t3 arg8_r4 arg9_r4 arg10_r4 arg11_r4 arg12_r4), ∀ (k2_h19 : k2_cond19 i k2_t3 arg12_r4 = 1#1), ∀ a, (k2_off55 i arg12_r4) a + S256x128.size a ≤ S393216x128.size a := fun i k2_t3 arg8_r4 arg9_r4 arg10_r4 arg11_r4 arg12_r4 k2_hw11 k2_h19 => k2_hw11.2.2.2.2.2.2.2.1 k2_h19
theorem k2_off56_inb : ∀ (i : grid2.Coords) (k2_t3 : Fin k2_t3_loop.trips) (arg8_r4 : BitVec 32) (arg9_r4 : BitVec 32) (arg10_r4 : BitVec 32) (arg11_r4 : BitVec 32) (arg12_r4 : BitVec 32) (k2_hw11 : k2_chk11 i k2_t3 arg8_r4 arg9_r4 arg10_r4 arg11_r4 arg12_r4), ∀ (k2_h19 : k2_cond19 i k2_t3 arg12_r4 = 1#1), ∀ a, (k2_off56 arg10_r4) a + S1.size a ≤ S2.size a := fun i k2_t3 arg8_r4 arg9_r4 arg10_r4 arg11_r4 arg12_r4 k2_hw11 k2_h19 => k2_hw11.2.2.2.2.2.2.2.2.1 k2_h19
theorem k2_off57_inb : ∀ (i : grid2.Coords) (k2_t3 : Fin k2_t3_loop.trips) (arg8_r4 : BitVec 32) (arg9_r4 : BitVec 32) (arg10_r4 : BitVec 32) (arg11_r4 : BitVec 32) (arg12_r4 : BitVec 32) (k2_hw11 : k2_chk11 i k2_t3 arg8_r4 arg9_r4 arg10_r4 arg11_r4 arg12_r4), ∀ (k2_h21 : k2_cond21 i k2_t3 arg12_r4 = 1#1), ∀ a, (k2_off57 arg11_r4) a + S1x256x128.size a ≤ S2x256x128.size a := fun i k2_t3 arg8_r4 arg9_r4 arg10_r4 arg11_r4 arg12_r4 k2_hw11 k2_h21 => k2_hw11.2.2.2.2.2.2.2.2.2.1 k2_h21
theorem k2_off58_inb : ∀ (i : grid2.Coords) (k2_t3 : Fin k2_t3_loop.trips) (arg8_r4 : BitVec 32) (arg9_r4 : BitVec 32) (arg10_r4 : BitVec 32) (arg11_r4 : BitVec 32) (arg12_r4 : BitVec 32) (k2_hw11 : k2_chk11 i k2_t3 arg8_r4 arg9_r4 arg10_r4 arg11_r4 arg12_r4), ∀ (k2_h21 : k2_cond21 i k2_t3 arg12_r4 = 1#1), ∀ a, (k2_off58 i arg12_r4) a + S256x128.size a ≤ S393216x128.size a := fun i k2_t3 arg8_r4 arg9_r4 arg10_r4 arg11_r4 arg12_r4 k2_hw11 k2_h21 => k2_hw11.2.2.2.2.2.2.2.2.2.2.1 k2_h21
theorem k2_off59_inb : ∀ (i : grid2.Coords) (k2_t3 : Fin k2_t3_loop.trips) (arg8_r4 : BitVec 32) (arg9_r4 : BitVec 32) (arg10_r4 : BitVec 32) (arg11_r4 : BitVec 32) (arg12_r4 : BitVec 32) (k2_hw11 : k2_chk11 i k2_t3 arg8_r4 arg9_r4 arg10_r4 arg11_r4 arg12_r4), ∀ (k2_h21 : k2_cond21 i k2_t3 arg12_r4 = 1#1), ∀ a, (k2_off59 arg11_r4) a + S1.size a ≤ S2.size a := fun i k2_t3 arg8_r4 arg9_r4 arg10_r4 arg11_r4 arg12_r4 k2_hw11 k2_h21 => k2_hw11.2.2.2.2.2.2.2.2.2.2.2 k2_h21

def k2_off60 (v44_3_r4 : BitVec 32) : Fin 3 → Nat :=
  let c2_i32_55_r4 : BitVec 32 := 2#32
  let v65_r4 : BitVec 32 := Scalar.remui v44_3_r4 c2_i32_55_r4
  let c0_i32_57_r4 : BitVec 32 := 0#32
  let c0_i32_58_r4 : BitVec 32 := 0#32
  ![v65_r4.toNat, 0, 0]

def k2_off61 (i : grid2.Coords) (v44_4_r4 : BitVec 32) : Fin 2 → Nat :=
  let c256_i32_56_r4 : BitVec 32 := 256#32
  let c1024_i32_r4 : BitVec 32 := 1024#32
  let true_40_r4 : BitVec 1 := 1#1
  let c1_i32_39_r4 : BitVec 32 := 1#32
  let v45_r4 : BitVec 32 := Scalar.subi v44_4_r4 c1_i32_39_r4
  let v46_r4 : BitVec 32 := Scalar.select true_40_r4 v45_r4 v44_4_r4
  let c_m1_i32_41_r4 : BitVec 32 := 4294967295#32
  let v47_r4 : BitVec 1 := Scalar.cmpi .eq v46_r4 c_m1_i32_41_r4
  let c15_i32_42_r4 : BitVec 32 := 15#32
  let v48_r4 : BitVec 32 := Scalar.select v47_r4 c15_i32_42_r4 v46_r4
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v49_r4 : BitVec 32 := Scalar.addi v48_r4 v14
  let v66_r4 : BitVec 32 := Scalar.addi c1024_i32_r4 v49_r4
  let v67_r4 : BitVec 32 := Scalar.muli c256_i32_56_r4 v66_r4
  let c0_i32_59_r4 : BitVec 32 := 0#32
  ![v67_r4.toNat, 0]

def k2_chk15 (i : grid2.Coords) (v44_4_r4 : BitVec 32) : Prop :=
  (∀ a, (k2_off61 i v44_4_r4) a + S256x128.size a ≤ S393216x128.size a)
theorem k2_off61_inb : ∀ (i : grid2.Coords) (v44_4_r4 : BitVec 32) (k2_hw15 : k2_chk15 i v44_4_r4), ∀ a, (k2_off61 i v44_4_r4) a + S256x128.size a ≤ S393216x128.size a := fun i v44_4_r4 k2_hw15 => k2_hw15

def k2_off62 (v44_3_r4 : BitVec 32) : Fin 1 → Nat :=
  let c2_i32_55_r4 : BitVec 32 := 2#32
  let v65_r4 : BitVec 32 := Scalar.remui v44_3_r4 c2_i32_55_r4
  ![v65_r4.toNat]
def k2_off63 (v44_3_r4 : BitVec 32) : Fin 3 → Nat :=
  let c2_i32_55_r4 : BitVec 32 := 2#32
  let v65_r4 : BitVec 32 := Scalar.remui v44_3_r4 c2_i32_55_r4
  let c0_i32_61_r4 : BitVec 32 := 0#32
  let c0_i32_62_r4 : BitVec 32 := 0#32
  ![v65_r4.toNat, 0, 0]

def k2_chk14 (v44_3_r4 : BitVec 32) : Prop :=
  (∀ a, (k2_off60 v44_3_r4) a + S1x256x128.size a ≤ S2x256x128.size a) ∧
  (∀ a, (k2_off62 v44_3_r4) a + S1.size a ≤ S2.size a) ∧
  (∀ a, (k2_off63 v44_3_r4) a + S1x256x128.size a ≤ S2x256x128.size a)
theorem k2_off60_inb : ∀ (v44_3_r4 : BitVec 32) (k2_hw14 : k2_chk14 v44_3_r4), ∀ a, (k2_off60 v44_3_r4) a + S1x256x128.size a ≤ S2x256x128.size a := fun v44_3_r4 k2_hw14 => k2_hw14.1
theorem k2_off62_inb : ∀ (v44_3_r4 : BitVec 32) (k2_hw14 : k2_chk14 v44_3_r4), ∀ a, (k2_off62 v44_3_r4) a + S1.size a ≤ S2.size a := fun v44_3_r4 k2_hw14 => k2_hw14.2.1
theorem k2_off63_inb : ∀ (v44_3_r4 : BitVec 32) (k2_hw14 : k2_chk14 v44_3_r4), ∀ a, (k2_off63 v44_3_r4) a + S1x256x128.size a ≤ S2x256x128.size a := fun v44_3_r4 k2_hw14 => k2_hw14.2.2

abbrev grid3 : Pipeline.Grid := ⟨1, ![64], ![false]⟩

def cc3_transform_1 (i : grid3.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![c0_i32.toNat, v0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![c0_i32.toNat, v0.toNat]

abbrev stage3_0 : Fin 2 → Memref sig .tc .vmem S16x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S3x2048x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S16x384 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x32 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S32x2048 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨2, ![2, 16], ![false, false]⟩

def k4_off1 : Fin 3 → Nat :=
  let c0_i32_22_r0 : BitVec 32 := 0#32
  let c2_i32_r0 : BitVec 32 := 2#32
  let v31_r0 : BitVec 32 := Scalar.remui c0_i32_22_r0 c2_i32_r0
  let c0_i32_23_r0 : BitVec 32 := 0#32
  let c0_i32_24_r0 : BitVec 32 := 0#32
  ![v31_r0.toNat, 0, 0]
def k4_off2 (i : grid4.Coords) : Fin 2 → Nat :=
  let c0_i32_25_r0 : BitVec 32 := 0#32
  let c256_i32_r0 : BitVec 32 := 256#32
  let c1024_i32_r0 : BitVec 32 := 1024#32
  let c0_i32_10_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v17_r0 : BitVec 32 := Scalar.addi c0_i32_10_r0 v4
  let v32_r0 : BitVec 32 := Scalar.addi c1024_i32_r0 v17_r0
  let v33_r0 : BitVec 32 := Scalar.muli c256_i32_r0 v32_r0
  ![0, v33_r0.toNat]
def k4_off3 : Fin 1 → Nat :=
  let c0_i32_22_r0 : BitVec 32 := 0#32
  let c2_i32_r0 : BitVec 32 := 2#32
  let v31_r0 : BitVec 32 := Scalar.remui c0_i32_22_r0 c2_i32_r0
  ![v31_r0.toNat]
@[reducible] def k4_t1_loop : Scf.Loop 32 :=
  let c0_i32_35_r0 : BitVec 32 := 0#32
  let c16_i32_36_r0 : BitVec 32 := 16#32
  let v43_r0 : BitVec 32 := Scalar.addi c0_i32_35_r0 c16_i32_36_r0
  let c1_i32_37_r0 : BitVec 32 := 1#32
  ⟨c0_i32_35_r0, v43_r0, c1_i32_37_r0⟩
def k4_off4 (arg8_r0 : BitVec 32) : Fin 3 → Nat :=
  let c2_i32_115_r0 : BitVec 32 := 2#32
  let v162_r0 : BitVec 32 := Scalar.remui arg8_r0 c2_i32_115_r0
  let c0_i32_118_r0 : BitVec 32 := 0#32
  let c0_i32_119_r0 : BitVec 32 := 0#32
  ![v162_r0.toNat, 0, 0]
def k4_cond1 (i : grid4.Coords) (k4_t1 : Fin k4_t1_loop.trips) (arg12_r0 : BitVec 32) : BitVec 1 :=
  let c1024_i32_78_r0 : BitVec 32 := 1024#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v78_r0 : BitVec 32 := Scalar.addi arg12_r0 v4
  let v94_r0 : BitVec 32 := Scalar.addi c1024_i32_78_r0 v78_r0
  let c1024_i32_79_r0 : BitVec 32 := 1024#32
  let true_71_r0 : BitVec 1 := 1#1
  let c1_i32_70_r0 : BitVec 32 := 1#32
  let v84_r0 : BitVec 32 := Scalar.addi arg12_r0 c1_i32_70_r0
  let v85_r0 : BitVec 32 := Scalar.select true_71_r0 v84_r0 arg12_r0
  let c16_i32_72_r0 : BitVec 32 := 16#32
  let v86_r0 : BitVec 1 := Scalar.cmpi .eq v85_r0 c16_i32_72_r0
  let c0_i32_73_r0 : BitVec 32 := 0#32
  let v87_r0 : BitVec 32 := Scalar.select v86_r0 c0_i32_73_r0 v85_r0
  let v88_r0 : BitVec 32 := Scalar.addi v87_r0 v4
  let v95_r0 : BitVec 32 := Scalar.addi c1024_i32_79_r0 v88_r0
  let v96_r0 : BitVec 1 := Scalar.cmpi .ne v94_r0 v95_r0
  let c0_i32_35_r0 : BitVec 32 := 0#32
  let c1_i32_37_r0 : BitVec 32 := 1#32
  let arg7_r0 : BitVec 32 := Scf.iv c0_i32_35_r0 c1_i32_37_r0 k4_t1
  let c15_i32_80_r0 : BitVec 32 := 15#32
  let v97_r0 : BitVec 1 := Scalar.cmpi .sge arg7_r0 c15_i32_80_r0
  let true_81_r0 : BitVec 1 := 1#1
  let v98_r0 : BitVec 1 := Scalar.xori v97_r0 true_81_r0
  let v99_r0 : BitVec 1 := Scalar.andi v96_r0 v98_r0
  let true_82_r0 : BitVec 1 := 1#1
  let v100_r0 : BitVec 1 := Scalar.andi v99_r0 true_82_r0
  let v101_r0 : BitVec 32 := Scalar.extui v100_r0
  let c0_i32_83_r0 : BitVec 32 := 0#32
  let v102_r0 : BitVec 1 := Scalar.cmpi .ne v101_r0 c0_i32_83_r0
  v102_r0

def k4_off5 (i : grid4.Coords) (arg12_r0 : BitVec 32) : Fin 2 → Nat :=
  let c0_i32_120_r0 : BitVec 32 := 0#32
  let c256_i32_117_r0 : BitVec 32 := 256#32
  let c1024_i32_116_r0 : BitVec 32 := 1024#32
  let true_71_r0 : BitVec 1 := 1#1
  let c1_i32_70_r0 : BitVec 32 := 1#32
  let v84_r0 : BitVec 32 := Scalar.addi arg12_r0 c1_i32_70_r0
  let v85_r0 : BitVec 32 := Scalar.select true_71_r0 v84_r0 arg12_r0
  let c16_i32_72_r0 : BitVec 32 := 16#32
  let v86_r0 : BitVec 1 := Scalar.cmpi .eq v85_r0 c16_i32_72_r0
  let c0_i32_73_r0 : BitVec 32 := 0#32
  let v87_r0 : BitVec 32 := Scalar.select v86_r0 c0_i32_73_r0 v85_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v88_r0 : BitVec 32 := Scalar.addi v87_r0 v4
  let v163_r0 : BitVec 32 := Scalar.addi c1024_i32_116_r0 v88_r0
  let v164_r0 : BitVec 32 := Scalar.muli c256_i32_117_r0 v163_r0
  ![0, v164_r0.toNat]
def k4_off6 (arg8_r0 : BitVec 32) : Fin 1 → Nat :=
  let c2_i32_115_r0 : BitVec 32 := 2#32
  let v162_r0 : BitVec 32 := Scalar.remui arg8_r0 c2_i32_115_r0
  ![v162_r0.toNat]
def k4_off7 (arg9_r0 : BitVec 32) : Fin 3 → Nat :=
  let c2_i32_117_r0 : BitVec 32 := 2#32
  let v164_r0 : BitVec 32 := Scalar.remui arg9_r0 c2_i32_117_r0
  let c0_i32_118_r0 : BitVec 32 := 0#32
  let c0_i32_119_r0 : BitVec 32 := 0#32
  ![v164_r0.toNat, 0, 0]
def k4_cond2 (i : grid4.Coords) (k4_t1 : Fin k4_t1_loop.trips) (arg12_r0 : BitVec 32) : BitVec 1 :=
  let c1024_i32_78_r0 : BitVec 32 := 1024#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v78_r0 : BitVec 32 := Scalar.addi arg12_r0 v4
  let v94_r0 : BitVec 32 := Scalar.addi c1024_i32_78_r0 v78_r0
  let c1024_i32_90_r0 : BitVec 32 := 1024#32
  let true_67_r0 : BitVec 1 := 1#1
  let c1_i32_66_r0 : BitVec 32 := 1#32
  let v79_r0 : BitVec 32 := Scalar.subi arg12_r0 c1_i32_66_r0
  let v80_r0 : BitVec 32 := Scalar.select true_67_r0 v79_r0 arg12_r0
  let c_m1_i32_68_r0 : BitVec 32 := 4294967295#32
  let v81_r0 : BitVec 1 := Scalar.cmpi .eq v80_r0 c_m1_i32_68_r0
  let c15_i32_69_r0 : BitVec 32 := 15#32
  let v82_r0 : BitVec 32 := Scalar.select v81_r0 c15_i32_69_r0 v80_r0
  let v83_r0 : BitVec 32 := Scalar.addi v82_r0 v4
  let v112_r0 : BitVec 32 := Scalar.addi c1024_i32_90_r0 v83_r0
  let v113_r0 : BitVec 1 := Scalar.cmpi .ne v94_r0 v112_r0
  let c0_i32_35_r0 : BitVec 32 := 0#32
  let c1_i32_37_r0 : BitVec 32 := 1#32
  let arg7_r0 : BitVec 32 := Scf.iv c0_i32_35_r0 c1_i32_37_r0 k4_t1
  let c0_i32_64_r0 : BitVec 32 := 0#32
  let v76_r0 : BitVec 1 := Scalar.cmpi .eq arg7_r0 c0_i32_64_r0
  let v114_r0 : BitVec 1 := Scalar.ori v113_r0 v76_r0
  let c0_i32_91_r0 : BitVec 32 := 0#32
  let v115_r0 : BitVec 1 := Scalar.cmpi .sge arg7_r0 c0_i32_91_r0
  let v116_r0 : BitVec 1 := Scalar.andi v114_r0 v115_r0
  let v117_r0 : BitVec 32 := Scalar.extui v116_r0
  let c0_i32_92_r0 : BitVec 32 := 0#32
  let v118_r0 : BitVec 1 := Scalar.cmpi .ne v117_r0 c0_i32_92_r0
  v118_r0

def k4_off8 (i : grid4.Coords) (arg12_r0 : BitVec 32) : Fin 2 → Nat :=
  let c0_i32_120_r0 : BitVec 32 := 0#32
  let c256_i32_116_r0 : BitVec 32 := 256#32
  let c1024_i32_115_r0 : BitVec 32 := 1024#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v78_r0 : BitVec 32 := Scalar.addi arg12_r0 v4
  let v162_r0 : BitVec 32 := Scalar.addi c1024_i32_115_r0 v78_r0
  let v163_r0 : BitVec 32 := Scalar.muli c256_i32_116_r0 v162_r0
  ![0, v163_r0.toNat]
def k4_off9 (arg9_r0 : BitVec 32) : Fin 1 → Nat :=
  let c2_i32_117_r0 : BitVec 32 := 2#32
  let v164_r0 : BitVec 32 := Scalar.remui arg9_r0 c2_i32_117_r0
  ![v164_r0.toNat]
def k4_off10 (arg10_r0 : BitVec 32) : Fin 3 → Nat :=
  let c2_i32_97_r0 : BitVec 32 := 2#32
  let v127_r0 : BitVec 32 := Scalar.remui arg10_r0 c2_i32_97_r0
  let c0_i32_115_r1 : BitVec 32 := 0#32
  let c0_i32_116_r1 : BitVec 32 := 0#32
  ![v127_r0.toNat, 0, 0]

def k4_chk2 (arg10_r0 : BitVec 32) : Prop :=
  (∀ a, (k4_off10 arg10_r0) a + S1x256x128.size a ≤ S2x256x128.size a)
theorem k4_off10_inb : ∀ (arg10_r0 : BitVec 32) (k4_hw2 : k4_chk2 arg10_r0), ∀ a, (k4_off10 arg10_r0) a + S1x256x128.size a ≤ S2x256x128.size a := fun arg10_r0 k4_hw2 => k4_hw2

def k4_off11 (arg9_r0 : BitVec 32) : Fin 3 → Nat :=
  let c2_i32_96_r0 : BitVec 32 := 2#32
  let v126_r0 : BitVec 32 := Scalar.remui arg9_r0 c2_i32_96_r0
  let c0_i32_117_r1 : BitVec 32 := 0#32
  let c0_i32_118_r1 : BitVec 32 := 0#32
  ![v126_r0.toNat, 0, 0]

def k4_chk3 (arg9_r0 : BitVec 32) : Prop :=
  (∀ a, (k4_off11 arg9_r0) a + S1x1x256.size a ≤ S2x1x256.size a)
theorem k4_off11_inb : ∀ (arg9_r0 : BitVec 32) (k4_hw3 : k4_chk3 arg9_r0), ∀ a, (k4_off11 arg9_r0) a + S1x1x256.size a ≤ S2x1x256.size a := fun arg9_r0 k4_hw3 => k4_hw3

def k4_off12 (arg10_r0 : BitVec 32) : Fin 3 → Nat :=
  let c2_i32_115_r0 : BitVec 32 := 2#32
  let v162_r0 : BitVec 32 := Scalar.remui arg10_r0 c2_i32_115_r0
  let c0_i32_118_r0 : BitVec 32 := 0#32
  let c0_i32_119_r0 : BitVec 32 := 0#32
  ![v162_r0.toNat, 0, 0]
def k4_cond5 (i : grid4.Coords) (k4_t1 : Fin k4_t1_loop.trips) (arg12_r0 : BitVec 32) : BitVec 1 :=
  let c0_i32_86_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v78_r0 : BitVec 32 := Scalar.addi arg12_r0 v4
  let v106_r0 : BitVec 32 := Scalar.addi c0_i32_86_r0 v78_r0
  let c0_i32_87_r0 : BitVec 32 := 0#32
  let true_71_r0 : BitVec 1 := 1#1
  let c1_i32_70_r0 : BitVec 32 := 1#32
  let v84_r0 : BitVec 32 := Scalar.addi arg12_r0 c1_i32_70_r0
  let v85_r0 : BitVec 32 := Scalar.select true_71_r0 v84_r0 arg12_r0
  let c16_i32_72_r0 : BitVec 32 := 16#32
  let v86_r0 : BitVec 1 := Scalar.cmpi .eq v85_r0 c16_i32_72_r0
  let c0_i32_73_r0 : BitVec 32 := 0#32
  let v87_r0 : BitVec 32 := Scalar.select v86_r0 c0_i32_73_r0 v85_r0
  let v88_r0 : BitVec 32 := Scalar.addi v87_r0 v4
  let v107_r0 : BitVec 32 := Scalar.addi c0_i32_87_r0 v88_r0
  let v133_r0 : BitVec 1 := Scalar.cmpi .ne v106_r0 v107_r0
  let c0_i32_35_r0 : BitVec 32 := 0#32
  let c1_i32_37_r0 : BitVec 32 := 1#32
  let arg7_r0 : BitVec 32 := Scf.iv c0_i32_35_r0 c1_i32_37_r0 k4_t1
  let c15_i32_65_r0 : BitVec 32 := 15#32
  let v77_r0 : BitVec 1 := Scalar.cmpi .eq arg7_r0 c15_i32_65_r0
  let v134_r0 : BitVec 1 := Scalar.ori v133_r0 v77_r0
  let v135_r0 : BitVec 32 := Scalar.extui v134_r0
  let c0_i32_100_r0 : BitVec 32 := 0#32
  let v136_r0 : BitVec 1 := Scalar.cmpi .ne v135_r0 c0_i32_100_r0
  v136_r0

def k4_off13 (i : grid4.Coords) (arg12_r0 : BitVec 32) : Fin 2 → Nat :=
  let c256_i32_117_r0 : BitVec 32 := 256#32
  let c0_i32_116_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v78_r0 : BitVec 32 := Scalar.addi arg12_r0 v4
  let v163_r0 : BitVec 32 := Scalar.addi c0_i32_116_r0 v78_r0
  let v164_r0 : BitVec 32 := Scalar.muli c256_i32_117_r0 v163_r0
  let c0_i32_120_r0 : BitVec 32 := 0#32
  ![v164_r0.toNat, 0]
def k4_off14 (arg10_r0 : BitVec 32) : Fin 1 → Nat :=
  let c2_i32_115_r0 : BitVec 32 := 2#32
  let v162_r0 : BitVec 32 := Scalar.remui arg10_r0 c2_i32_115_r0
  ![v162_r0.toNat]
def k4_off15 (arg11_r0 : BitVec 32) : Fin 3 → Nat :=
  let c2_i32_115_r0 : BitVec 32 := 2#32
  let v162_r0 : BitVec 32 := Scalar.remui arg11_r0 c2_i32_115_r0
  let c0_i32_118_r0 : BitVec 32 := 0#32
  let c0_i32_119_r0 : BitVec 32 := 0#32
  ![v162_r0.toNat, 0, 0]
def k4_cond7 (i : grid4.Coords) (k4_t1 : Fin k4_t1_loop.trips) (arg12_r0 : BitVec 32) : BitVec 1 :=
  let c0_i32_86_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v78_r0 : BitVec 32 := Scalar.addi arg12_r0 v4
  let v106_r0 : BitVec 32 := Scalar.addi c0_i32_86_r0 v78_r0
  let c0_i32_93_r0 : BitVec 32 := 0#32
  let true_67_r0 : BitVec 1 := 1#1
  let c1_i32_66_r0 : BitVec 32 := 1#32
  let v79_r0 : BitVec 32 := Scalar.subi arg12_r0 c1_i32_66_r0
  let v80_r0 : BitVec 32 := Scalar.select true_67_r0 v79_r0 arg12_r0
  let c_m1_i32_68_r0 : BitVec 32 := 4294967295#32
  let v81_r0 : BitVec 1 := Scalar.cmpi .eq v80_r0 c_m1_i32_68_r0
  let c15_i32_69_r0 : BitVec 32 := 15#32
  let v82_r0 : BitVec 32 := Scalar.select v81_r0 c15_i32_69_r0 v80_r0
  let v83_r0 : BitVec 32 := Scalar.addi v82_r0 v4
  let v119_r0 : BitVec 32 := Scalar.addi c0_i32_93_r0 v83_r0
  let v146_r0 : BitVec 1 := Scalar.cmpi .ne v106_r0 v119_r0
  let c0_i32_35_r0 : BitVec 32 := 0#32
  let c1_i32_37_r0 : BitVec 32 := 1#32
  let arg7_r0 : BitVec 32 := Scf.iv c0_i32_35_r0 c1_i32_37_r0 k4_t1
  let c0_i32_64_r0 : BitVec 32 := 0#32
  let v76_r0 : BitVec 1 := Scalar.cmpi .eq arg7_r0 c0_i32_64_r0
  let true_106_r0 : BitVec 1 := 1#1
  let v147_r0 : BitVec 1 := Scalar.xori v76_r0 true_106_r0
  let v148_r0 : BitVec 1 := Scalar.andi v146_r0 v147_r0
  let v149_r0 : BitVec 32 := Scalar.extui v148_r0
  let c0_i32_107_r0 : BitVec 32 := 0#32
  let v150_r0 : BitVec 1 := Scalar.cmpi .ne v149_r0 c0_i32_107_r0
  v150_r0

def k4_off16 (i : grid4.Coords) (arg12_r0 : BitVec 32) : Fin 2 → Nat :=
  let c256_i32_117_r0 : BitVec 32 := 256#32
  let c0_i32_116_r0 : BitVec 32 := 0#32
  let true_67_r0 : BitVec 1 := 1#1
  let c1_i32_66_r0 : BitVec 32 := 1#32
  let v79_r0 : BitVec 32 := Scalar.subi arg12_r0 c1_i32_66_r0
  let v80_r0 : BitVec 32 := Scalar.select true_67_r0 v79_r0 arg12_r0
  let c_m1_i32_68_r0 : BitVec 32 := 4294967295#32
  let v81_r0 : BitVec 1 := Scalar.cmpi .eq v80_r0 c_m1_i32_68_r0
  let c15_i32_69_r0 : BitVec 32 := 15#32
  let v82_r0 : BitVec 32 := Scalar.select v81_r0 c15_i32_69_r0 v80_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v83_r0 : BitVec 32 := Scalar.addi v82_r0 v4
  let v163_r0 : BitVec 32 := Scalar.addi c0_i32_116_r0 v83_r0
  let v164_r0 : BitVec 32 := Scalar.muli c256_i32_117_r0 v163_r0
  let c0_i32_120_r0 : BitVec 32 := 0#32
  ![v164_r0.toNat, 0]
def k4_off17 (arg11_r0 : BitVec 32) : Fin 1 → Nat :=
  let c2_i32_115_r0 : BitVec 32 := 2#32
  let v162_r0 : BitVec 32 := Scalar.remui arg11_r0 c2_i32_115_r0
  ![v162_r0.toNat]

def k4_chk1 (i : grid4.Coords) (k4_t1 : Fin k4_t1_loop.trips) (arg8_r0 : BitVec 32) (arg9_r0 : BitVec 32) (arg10_r0 : BitVec 32) (arg11_r0 : BitVec 32) (arg12_r0 : BitVec 32) : Prop :=
  (∀ (k4_h1 : k4_cond1 i k4_t1 arg12_r0 = 1#1), ∀ a, (k4_off4 arg8_r0) a + S1x1x256.size a ≤ S2x1x256.size a) ∧
  (∀ (k4_h1 : k4_cond1 i k4_t1 arg12_r0 = 1#1), ∀ a, (k4_off5 i arg12_r0) a + S1x256.size a ≤ S3x1048576.size a) ∧
  (∀ (k4_h1 : k4_cond1 i k4_t1 arg12_r0 = 1#1), ∀ a, (k4_off6 arg8_r0) a + S1.size a ≤ S2.size a) ∧
  (∀ (k4_h2 : k4_cond2 i k4_t1 arg12_r0 = 1#1), ∀ a, (k4_off7 arg9_r0) a + S1x1x256.size a ≤ S2x1x256.size a) ∧
  (∀ (k4_h2 : k4_cond2 i k4_t1 arg12_r0 = 1#1), ∀ a, (k4_off8 i arg12_r0) a + S1x256.size a ≤ S3x1048576.size a) ∧
  (∀ (k4_h2 : k4_cond2 i k4_t1 arg12_r0 = 1#1), ∀ a, (k4_off9 arg9_r0) a + S1.size a ≤ S2.size a) ∧
  (∀ (k4_h5 : k4_cond5 i k4_t1 arg12_r0 = 1#1), ∀ a, (k4_off12 arg10_r0) a + S1x256x128.size a ≤ S2x256x128.size a) ∧
  (∀ (k4_h5 : k4_cond5 i k4_t1 arg12_r0 = 1#1), ∀ a, (k4_off13 i arg12_r0) a + S256x128.size a ≤ S393216x128.size a) ∧
  (∀ (k4_h5 : k4_cond5 i k4_t1 arg12_r0 = 1#1), ∀ a, (k4_off14 arg10_r0) a + S1.size a ≤ S2.size a) ∧
  (∀ (k4_h7 : k4_cond7 i k4_t1 arg12_r0 = 1#1), ∀ a, (k4_off15 arg11_r0) a + S1x256x128.size a ≤ S2x256x128.size a) ∧
  (∀ (k4_h7 : k4_cond7 i k4_t1 arg12_r0 = 1#1), ∀ a, (k4_off16 i arg12_r0) a + S256x128.size a ≤ S393216x128.size a) ∧
  (∀ (k4_h7 : k4_cond7 i k4_t1 arg12_r0 = 1#1), ∀ a, (k4_off17 arg11_r0) a + S1.size a ≤ S2.size a)
theorem k4_off4_inb : ∀ (i : grid4.Coords) (k4_t1 : Fin k4_t1_loop.trips) (arg8_r0 : BitVec 32) (arg9_r0 : BitVec 32) (arg10_r0 : BitVec 32) (arg11_r0 : BitVec 32) (arg12_r0 : BitVec 32) (k4_hw1 : k4_chk1 i k4_t1 arg8_r0 arg9_r0 arg10_r0 arg11_r0 arg12_r0), ∀ (k4_h1 : k4_cond1 i k4_t1 arg12_r0 = 1#1), ∀ a, (k4_off4 arg8_r0) a + S1x1x256.size a ≤ S2x1x256.size a := fun i k4_t1 arg8_r0 arg9_r0 arg10_r0 arg11_r0 arg12_r0 k4_hw1 k4_h1 => k4_hw1.1 k4_h1
theorem k4_off5_inb : ∀ (i : grid4.Coords) (k4_t1 : Fin k4_t1_loop.trips) (arg8_r0 : BitVec 32) (arg9_r0 : BitVec 32) (arg10_r0 : BitVec 32) (arg11_r0 : BitVec 32) (arg12_r0 : BitVec 32) (k4_hw1 : k4_chk1 i k4_t1 arg8_r0 arg9_r0 arg10_r0 arg11_r0 arg12_r0), ∀ (k4_h1 : k4_cond1 i k4_t1 arg12_r0 = 1#1), ∀ a, (k4_off5 i arg12_r0) a + S1x256.size a ≤ S3x1048576.size a := fun i k4_t1 arg8_r0 arg9_r0 arg10_r0 arg11_r0 arg12_r0 k4_hw1 k4_h1 => k4_hw1.2.1 k4_h1
theorem k4_off6_inb : ∀ (i : grid4.Coords) (k4_t1 : Fin k4_t1_loop.trips) (arg8_r0 : BitVec 32) (arg9_r0 : BitVec 32) (arg10_r0 : BitVec 32) (arg11_r0 : BitVec 32) (arg12_r0 : BitVec 32) (k4_hw1 : k4_chk1 i k4_t1 arg8_r0 arg9_r0 arg10_r0 arg11_r0 arg12_r0), ∀ (k4_h1 : k4_cond1 i k4_t1 arg12_r0 = 1#1), ∀ a, (k4_off6 arg8_r0) a + S1.size a ≤ S2.size a := fun i k4_t1 arg8_r0 arg9_r0 arg10_r0 arg11_r0 arg12_r0 k4_hw1 k4_h1 => k4_hw1.2.2.1 k4_h1
theorem k4_off7_inb : ∀ (i : grid4.Coords) (k4_t1 : Fin k4_t1_loop.trips) (arg8_r0 : BitVec 32) (arg9_r0 : BitVec 32) (arg10_r0 : BitVec 32) (arg11_r0 : BitVec 32) (arg12_r0 : BitVec 32) (k4_hw1 : k4_chk1 i k4_t1 arg8_r0 arg9_r0 arg10_r0 arg11_r0 arg12_r0), ∀ (k4_h2 : k4_cond2 i k4_t1 arg12_r0 = 1#1), ∀ a, (k4_off7 arg9_r0) a + S1x1x256.size a ≤ S2x1x256.size a := fun i k4_t1 arg8_r0 arg9_r0 arg10_r0 arg11_r0 arg12_r0 k4_hw1 k4_h2 => k4_hw1.2.2.2.1 k4_h2
theorem k4_off8_inb : ∀ (i : grid4.Coords) (k4_t1 : Fin k4_t1_loop.trips) (arg8_r0 : BitVec 32) (arg9_r0 : BitVec 32) (arg10_r0 : BitVec 32) (arg11_r0 : BitVec 32) (arg12_r0 : BitVec 32) (k4_hw1 : k4_chk1 i k4_t1 arg8_r0 arg9_r0 arg10_r0 arg11_r0 arg12_r0), ∀ (k4_h2 : k4_cond2 i k4_t1 arg12_r0 = 1#1), ∀ a, (k4_off8 i arg12_r0) a + S1x256.size a ≤ S3x1048576.size a := fun i k4_t1 arg8_r0 arg9_r0 arg10_r0 arg11_r0 arg12_r0 k4_hw1 k4_h2 => k4_hw1.2.2.2.2.1 k4_h2
theorem k4_off9_inb : ∀ (i : grid4.Coords) (k4_t1 : Fin k4_t1_loop.trips) (arg8_r0 : BitVec 32) (arg9_r0 : BitVec 32) (arg10_r0 : BitVec 32) (arg11_r0 : BitVec 32) (arg12_r0 : BitVec 32) (k4_hw1 : k4_chk1 i k4_t1 arg8_r0 arg9_r0 arg10_r0 arg11_r0 arg12_r0), ∀ (k4_h2 : k4_cond2 i k4_t1 arg12_r0 = 1#1), ∀ a, (k4_off9 arg9_r0) a + S1.size a ≤ S2.size a := fun i k4_t1 arg8_r0 arg9_r0 arg10_r0 arg11_r0 arg12_r0 k4_hw1 k4_h2 => k4_hw1.2.2.2.2.2.1 k4_h2
theorem k4_off12_inb : ∀ (i : grid4.Coords) (k4_t1 : Fin k4_t1_loop.trips) (arg8_r0 : BitVec 32) (arg9_r0 : BitVec 32) (arg10_r0 : BitVec 32) (arg11_r0 : BitVec 32) (arg12_r0 : BitVec 32) (k4_hw1 : k4_chk1 i k4_t1 arg8_r0 arg9_r0 arg10_r0 arg11_r0 arg12_r0), ∀ (k4_h5 : k4_cond5 i k4_t1 arg12_r0 = 1#1), ∀ a, (k4_off12 arg10_r0) a + S1x256x128.size a ≤ S2x256x128.size a := fun i k4_t1 arg8_r0 arg9_r0 arg10_r0 arg11_r0 arg12_r0 k4_hw1 k4_h5 => k4_hw1.2.2.2.2.2.2.1 k4_h5
theorem k4_off13_inb : ∀ (i : grid4.Coords) (k4_t1 : Fin k4_t1_loop.trips) (arg8_r0 : BitVec 32) (arg9_r0 : BitVec 32) (arg10_r0 : BitVec 32) (arg11_r0 : BitVec 32) (arg12_r0 : BitVec 32) (k4_hw1 : k4_chk1 i k4_t1 arg8_r0 arg9_r0 arg10_r0 arg11_r0 arg12_r0), ∀ (k4_h5 : k4_cond5 i k4_t1 arg12_r0 = 1#1), ∀ a, (k4_off13 i arg12_r0) a + S256x128.size a ≤ S393216x128.size a := fun i k4_t1 arg8_r0 arg9_r0 arg10_r0 arg11_r0 arg12_r0 k4_hw1 k4_h5 => k4_hw1.2.2.2.2.2.2.2.1 k4_h5
theorem k4_off14_inb : ∀ (i : grid4.Coords) (k4_t1 : Fin k4_t1_loop.trips) (arg8_r0 : BitVec 32) (arg9_r0 : BitVec 32) (arg10_r0 : BitVec 32) (arg11_r0 : BitVec 32) (arg12_r0 : BitVec 32) (k4_hw1 : k4_chk1 i k4_t1 arg8_r0 arg9_r0 arg10_r0 arg11_r0 arg12_r0), ∀ (k4_h5 : k4_cond5 i k4_t1 arg12_r0 = 1#1), ∀ a, (k4_off14 arg10_r0) a + S1.size a ≤ S2.size a := fun i k4_t1 arg8_r0 arg9_r0 arg10_r0 arg11_r0 arg12_r0 k4_hw1 k4_h5 => k4_hw1.2.2.2.2.2.2.2.2.1 k4_h5
theorem k4_off15_inb : ∀ (i : grid4.Coords) (k4_t1 : Fin k4_t1_loop.trips) (arg8_r0 : BitVec 32) (arg9_r0 : BitVec 32) (arg10_r0 : BitVec 32) (arg11_r0 : BitVec 32) (arg12_r0 : BitVec 32) (k4_hw1 : k4_chk1 i k4_t1 arg8_r0 arg9_r0 arg10_r0 arg11_r0 arg12_r0), ∀ (k4_h7 : k4_cond7 i k4_t1 arg12_r0 = 1#1), ∀ a, (k4_off15 arg11_r0) a + S1x256x128.size a ≤ S2x256x128.size a := fun i k4_t1 arg8_r0 arg9_r0 arg10_r0 arg11_r0 arg12_r0 k4_hw1 k4_h7 => k4_hw1.2.2.2.2.2.2.2.2.2.1 k4_h7
theorem k4_off16_inb : ∀ (i : grid4.Coords) (k4_t1 : Fin k4_t1_loop.trips) (arg8_r0 : BitVec 32) (arg9_r0 : BitVec 32) (arg10_r0 : BitVec 32) (arg11_r0 : BitVec 32) (arg12_r0 : BitVec 32) (k4_hw1 : k4_chk1 i k4_t1 arg8_r0 arg9_r0 arg10_r0 arg11_r0 arg12_r0), ∀ (k4_h7 : k4_cond7 i k4_t1 arg12_r0 = 1#1), ∀ a, (k4_off16 i arg12_r0) a + S256x128.size a ≤ S393216x128.size a := fun i k4_t1 arg8_r0 arg9_r0 arg10_r0 arg11_r0 arg12_r0 k4_hw1 k4_h7 => k4_hw1.2.2.2.2.2.2.2.2.2.2.1 k4_h7
theorem k4_off17_inb : ∀ (i : grid4.Coords) (k4_t1 : Fin k4_t1_loop.trips) (arg8_r0 : BitVec 32) (arg9_r0 : BitVec 32) (arg10_r0 : BitVec 32) (arg11_r0 : BitVec 32) (arg12_r0 : BitVec 32) (k4_hw1 : k4_chk1 i k4_t1 arg8_r0 arg9_r0 arg10_r0 arg11_r0 arg12_r0), ∀ (k4_h7 : k4_cond7 i k4_t1 arg12_r0 = 1#1), ∀ a, (k4_off17 arg11_r0) a + S1.size a ≤ S2.size a := fun i k4_t1 arg8_r0 arg9_r0 arg10_r0 arg11_r0 arg12_r0 k4_hw1 k4_h7 => k4_hw1.2.2.2.2.2.2.2.2.2.2.2 k4_h7

def k4_off18 (v44_3_r0 : BitVec 32) : Fin 3 → Nat :=
  let c2_i32_55_r0 : BitVec 32 := 2#32
  let v65_r0 : BitVec 32 := Scalar.remui v44_3_r0 c2_i32_55_r0
  let c0_i32_58_r0 : BitVec 32 := 0#32
  let c0_i32_59_r0 : BitVec 32 := 0#32
  ![v65_r0.toNat, 0, 0]

def k4_off19 (i : grid4.Coords) (v44_4_r0 : BitVec 32) : Fin 2 → Nat :=
  let c256_i32_57_r0 : BitVec 32 := 256#32
  let c0_i32_56_r0 : BitVec 32 := 0#32
  let true_40_r0 : BitVec 1 := 1#1
  let c1_i32_39_r0 : BitVec 32 := 1#32
  let v45_r0 : BitVec 32 := Scalar.subi v44_4_r0 c1_i32_39_r0
  let v46_r0 : BitVec 32 := Scalar.select true_40_r0 v45_r0 v44_4_r0
  let c_m1_i32_41_r0 : BitVec 32 := 4294967295#32
  let v47_r0 : BitVec 1 := Scalar.cmpi .eq v46_r0 c_m1_i32_41_r0
  let c15_i32_42_r0 : BitVec 32 := 15#32
  let v48_r0 : BitVec 32 := Scalar.select v47_r0 c15_i32_42_r0 v46_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v49_r0 : BitVec 32 := Scalar.addi v48_r0 v4
  let v66_r0 : BitVec 32 := Scalar.addi c0_i32_56_r0 v49_r0
  let v67_r0 : BitVec 32 := Scalar.muli c256_i32_57_r0 v66_r0
  let c0_i32_60_r0 : BitVec 32 := 0#32
  ![v67_r0.toNat, 0]

def k4_chk5 (i : grid4.Coords) (v44_4_r0 : BitVec 32) : Prop :=
  (∀ a, (k4_off19 i v44_4_r0) a + S256x128.size a ≤ S393216x128.size a)
theorem k4_off19_inb : ∀ (i : grid4.Coords) (v44_4_r0 : BitVec 32) (k4_hw5 : k4_chk5 i v44_4_r0), ∀ a, (k4_off19 i v44_4_r0) a + S256x128.size a ≤ S393216x128.size a := fun i v44_4_r0 k4_hw5 => k4_hw5

def k4_off20 (v44_3_r0 : BitVec 32) : Fin 1 → Nat :=
  let c2_i32_55_r0 : BitVec 32 := 2#32
  let v65_r0 : BitVec 32 := Scalar.remui v44_3_r0 c2_i32_55_r0
  ![v65_r0.toNat]
def k4_off21 (v44_3_r0 : BitVec 32) : Fin 3 → Nat :=
  let c2_i32_55_r0 : BitVec 32 := 2#32
  let v65_r0 : BitVec 32 := Scalar.remui v44_3_r0 c2_i32_55_r0
  let c0_i32_62_r0 : BitVec 32 := 0#32
  let c0_i32_63_r0 : BitVec 32 := 0#32
  ![v65_r0.toNat, 0, 0]

def k4_chk4 (v44_3_r0 : BitVec 32) : Prop :=
  (∀ a, (k4_off18 v44_3_r0) a + S1x256x128.size a ≤ S2x256x128.size a) ∧
  (∀ a, (k4_off20 v44_3_r0) a + S1.size a ≤ S2.size a) ∧
  (∀ a, (k4_off21 v44_3_r0) a + S1x256x128.size a ≤ S2x256x128.size a)
theorem k4_off18_inb : ∀ (v44_3_r0 : BitVec 32) (k4_hw4 : k4_chk4 v44_3_r0), ∀ a, (k4_off18 v44_3_r0) a + S1x256x128.size a ≤ S2x256x128.size a := fun v44_3_r0 k4_hw4 => k4_hw4.1
theorem k4_off20_inb : ∀ (v44_3_r0 : BitVec 32) (k4_hw4 : k4_chk4 v44_3_r0), ∀ a, (k4_off20 v44_3_r0) a + S1.size a ≤ S2.size a := fun v44_3_r0 k4_hw4 => k4_hw4.2.1
theorem k4_off21_inb : ∀ (v44_3_r0 : BitVec 32) (k4_hw4 : k4_chk4 v44_3_r0), ∀ a, (k4_off21 v44_3_r0) a + S1x256x128.size a ≤ S2x256x128.size a := fun v44_3_r0 k4_hw4 => k4_hw4.2.2

def k4_off22 : Fin 3 → Nat :=
  let c0_i32_22_r2 : BitVec 32 := 0#32
  let c2_i32_r2 : BitVec 32 := 2#32
  let v31_r2 : BitVec 32 := Scalar.remui c0_i32_22_r2 c2_i32_r2
  let c0_i32_23_r2 : BitVec 32 := 0#32
  let c0_i32_24_r2 : BitVec 32 := 0#32
  ![v31_r2.toNat, 0, 0]
def k4_off23 (i : grid4.Coords) : Fin 2 → Nat :=
  let c1_i32_25_r2 : BitVec 32 := 1#32
  let c256_i32_r2 : BitVec 32 := 256#32
  let c1024_i32_r2 : BitVec 32 := 1024#32
  let c0_i32_10_r2 : BitVec 32 := 0#32
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v17_r2 : BitVec 32 := Scalar.addi c0_i32_10_r2 v9
  let v32_r2 : BitVec 32 := Scalar.addi c1024_i32_r2 v17_r2
  let v33_r2 : BitVec 32 := Scalar.muli c256_i32_r2 v32_r2
  ![1, v33_r2.toNat]
def k4_off24 : Fin 1 → Nat :=
  let c0_i32_22_r2 : BitVec 32 := 0#32
  let c2_i32_r2 : BitVec 32 := 2#32
  let v31_r2 : BitVec 32 := Scalar.remui c0_i32_22_r2 c2_i32_r2
  ![v31_r2.toNat]
@[reducible] def k4_t2_loop : Scf.Loop 32 :=
  let c0_i32_35_r2 : BitVec 32 := 0#32
  let c16_i32_36_r2 : BitVec 32 := 16#32
  let v43_r2 : BitVec 32 := Scalar.addi c0_i32_35_r2 c16_i32_36_r2
  let c1_i32_37_r2 : BitVec 32 := 1#32
  ⟨c0_i32_35_r2, v43_r2, c1_i32_37_r2⟩
def k4_off25 (arg8_r2 : BitVec 32) : Fin 3 → Nat :=
  let c2_i32_114_r2 : BitVec 32 := 2#32
  let v162_r2 : BitVec 32 := Scalar.remui arg8_r2 c2_i32_114_r2
  let c0_i32_117_r2 : BitVec 32 := 0#32
  let c0_i32_118_r2 : BitVec 32 := 0#32
  ![v162_r2.toNat, 0, 0]
def k4_cond8 (i : grid4.Coords) (k4_t2 : Fin k4_t2_loop.trips) (arg12_r2 : BitVec 32) : BitVec 1 :=
  let c1024_i32_77_r2 : BitVec 32 := 1024#32
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v78_r2 : BitVec 32 := Scalar.addi arg12_r2 v9
  let v94_r2 : BitVec 32 := Scalar.addi c1024_i32_77_r2 v78_r2
  let c1024_i32_78_r2 : BitVec 32 := 1024#32
  let true_70_r2 : BitVec 1 := 1#1
  let c1_i32_69_r2 : BitVec 32 := 1#32
  let v84_r2 : BitVec 32 := Scalar.addi arg12_r2 c1_i32_69_r2
  let v85_r2 : BitVec 32 := Scalar.select true_70_r2 v84_r2 arg12_r2
  let c16_i32_71_r2 : BitVec 32 := 16#32
  let v86_r2 : BitVec 1 := Scalar.cmpi .eq v85_r2 c16_i32_71_r2
  let c0_i32_72_r2 : BitVec 32 := 0#32
  let v87_r2 : BitVec 32 := Scalar.select v86_r2 c0_i32_72_r2 v85_r2
  let v88_r2 : BitVec 32 := Scalar.addi v87_r2 v9
  let v95_r2 : BitVec 32 := Scalar.addi c1024_i32_78_r2 v88_r2
  let v96_r2 : BitVec 1 := Scalar.cmpi .ne v94_r2 v95_r2
  let c0_i32_35_r2 : BitVec 32 := 0#32
  let c1_i32_37_r2 : BitVec 32 := 1#32
  let arg7_r2 : BitVec 32 := Scf.iv c0_i32_35_r2 c1_i32_37_r2 k4_t2
  let c15_i32_79_r2 : BitVec 32 := 15#32
  let v97_r2 : BitVec 1 := Scalar.cmpi .sge arg7_r2 c15_i32_79_r2
  let true_80_r2 : BitVec 1 := 1#1
  let v98_r2 : BitVec 1 := Scalar.xori v97_r2 true_80_r2
  let v99_r2 : BitVec 1 := Scalar.andi v96_r2 v98_r2
  let true_81_r2 : BitVec 1 := 1#1
  let v100_r2 : BitVec 1 := Scalar.andi v99_r2 true_81_r2
  let v101_r2 : BitVec 32 := Scalar.extui v100_r2
  let c0_i32_82_r2 : BitVec 32 := 0#32
  let v102_r2 : BitVec 1 := Scalar.cmpi .ne v101_r2 c0_i32_82_r2
  v102_r2

def k4_off26 (i : grid4.Coords) (arg12_r2 : BitVec 32) : Fin 2 → Nat :=
  let c1_i32_119_r2 : BitVec 32 := 1#32
  let c256_i32_116_r2 : BitVec 32 := 256#32
  let c1024_i32_115_r2 : BitVec 32 := 1024#32
  let true_70_r2 : BitVec 1 := 1#1
  let c1_i32_69_r2 : BitVec 32 := 1#32
  let v84_r2 : BitVec 32 := Scalar.addi arg12_r2 c1_i32_69_r2
  let v85_r2 : BitVec 32 := Scalar.select true_70_r2 v84_r2 arg12_r2
  let c16_i32_71_r2 : BitVec 32 := 16#32
  let v86_r2 : BitVec 1 := Scalar.cmpi .eq v85_r2 c16_i32_71_r2
  let c0_i32_72_r2 : BitVec 32 := 0#32
  let v87_r2 : BitVec 32 := Scalar.select v86_r2 c0_i32_72_r2 v85_r2
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v88_r2 : BitVec 32 := Scalar.addi v87_r2 v9
  let v163_r2 : BitVec 32 := Scalar.addi c1024_i32_115_r2 v88_r2
  let v164_r2 : BitVec 32 := Scalar.muli c256_i32_116_r2 v163_r2
  ![1, v164_r2.toNat]
def k4_off27 (arg8_r2 : BitVec 32) : Fin 1 → Nat :=
  let c2_i32_114_r2 : BitVec 32 := 2#32
  let v162_r2 : BitVec 32 := Scalar.remui arg8_r2 c2_i32_114_r2
  ![v162_r2.toNat]
def k4_off28 (arg9_r2 : BitVec 32) : Fin 3 → Nat :=
  let c2_i32_116_r2 : BitVec 32 := 2#32
  let v164_r2 : BitVec 32 := Scalar.remui arg9_r2 c2_i32_116_r2
  let c0_i32_117_r2 : BitVec 32 := 0#32
  let c0_i32_118_r2 : BitVec 32 := 0#32
  ![v164_r2.toNat, 0, 0]
def k4_cond9 (i : grid4.Coords) (k4_t2 : Fin k4_t2_loop.trips) (arg12_r2 : BitVec 32) : BitVec 1 :=
  let c1024_i32_77_r2 : BitVec 32 := 1024#32
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v78_r2 : BitVec 32 := Scalar.addi arg12_r2 v9
  let v94_r2 : BitVec 32 := Scalar.addi c1024_i32_77_r2 v78_r2
  let c1024_i32_89_r2 : BitVec 32 := 1024#32
  let true_66_r2 : BitVec 1 := 1#1
  let c1_i32_65_r2 : BitVec 32 := 1#32
  let v79_r2 : BitVec 32 := Scalar.subi arg12_r2 c1_i32_65_r2
  let v80_r2 : BitVec 32 := Scalar.select true_66_r2 v79_r2 arg12_r2
  let c_m1_i32_67_r2 : BitVec 32 := 4294967295#32
  let v81_r2 : BitVec 1 := Scalar.cmpi .eq v80_r2 c_m1_i32_67_r2
  let c15_i32_68_r2 : BitVec 32 := 15#32
  let v82_r2 : BitVec 32 := Scalar.select v81_r2 c15_i32_68_r2 v80_r2
  let v83_r2 : BitVec 32 := Scalar.addi v82_r2 v9
  let v112_r2 : BitVec 32 := Scalar.addi c1024_i32_89_r2 v83_r2
  let v113_r2 : BitVec 1 := Scalar.cmpi .ne v94_r2 v112_r2
  let c0_i32_35_r2 : BitVec 32 := 0#32
  let c1_i32_37_r2 : BitVec 32 := 1#32
  let arg7_r2 : BitVec 32 := Scf.iv c0_i32_35_r2 c1_i32_37_r2 k4_t2
  let c0_i32_63_r2 : BitVec 32 := 0#32
  let v76_r2 : BitVec 1 := Scalar.cmpi .eq arg7_r2 c0_i32_63_r2
  let v114_r2 : BitVec 1 := Scalar.ori v113_r2 v76_r2
  let c0_i32_90_r2 : BitVec 32 := 0#32
  let v115_r2 : BitVec 1 := Scalar.cmpi .sge arg7_r2 c0_i32_90_r2
  let v116_r2 : BitVec 1 := Scalar.andi v114_r2 v115_r2
  let v117_r2 : BitVec 32 := Scalar.extui v116_r2
  let c0_i32_91_r2 : BitVec 32 := 0#32
  let v118_r2 : BitVec 1 := Scalar.cmpi .ne v117_r2 c0_i32_91_r2
  v118_r2

def k4_off29 (i : grid4.Coords) (arg12_r2 : BitVec 32) : Fin 2 → Nat :=
  let c1_i32_119_r2 : BitVec 32 := 1#32
  let c256_i32_115_r2 : BitVec 32 := 256#32
  let c1024_i32_114_r2 : BitVec 32 := 1024#32
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v78_r2 : BitVec 32 := Scalar.addi arg12_r2 v9
  let v162_r2 : BitVec 32 := Scalar.addi c1024_i32_114_r2 v78_r2
  let v163_r2 : BitVec 32 := Scalar.muli c256_i32_115_r2 v162_r2
  ![1, v163_r2.toNat]
def k4_off30 (arg9_r2 : BitVec 32) : Fin 1 → Nat :=
  let c2_i32_116_r2 : BitVec 32 := 2#32
  let v164_r2 : BitVec 32 := Scalar.remui arg9_r2 c2_i32_116_r2
  ![v164_r2.toNat]
def k4_off31 (arg10_r2 : BitVec 32) : Fin 3 → Nat :=
  let c2_i32_96_r2 : BitVec 32 := 2#32
  let v127_r2 : BitVec 32 := Scalar.remui arg10_r2 c2_i32_96_r2
  let c0_i32_114_r3 : BitVec 32 := 0#32
  let c0_i32_115_r3 : BitVec 32 := 0#32
  ![v127_r2.toNat, 0, 0]

def k4_chk7 (arg10_r2 : BitVec 32) : Prop :=
  (∀ a, (k4_off31 arg10_r2) a + S1x256x128.size a ≤ S2x256x128.size a)
theorem k4_off31_inb : ∀ (arg10_r2 : BitVec 32) (k4_hw7 : k4_chk7 arg10_r2), ∀ a, (k4_off31 arg10_r2) a + S1x256x128.size a ≤ S2x256x128.size a := fun arg10_r2 k4_hw7 => k4_hw7

def k4_off32 (arg9_r2 : BitVec 32) : Fin 3 → Nat :=
  let c2_i32_95_r2 : BitVec 32 := 2#32
  let v126_r2 : BitVec 32 := Scalar.remui arg9_r2 c2_i32_95_r2
  let c0_i32_116_r3 : BitVec 32 := 0#32
  let c0_i32_117_r3 : BitVec 32 := 0#32
  ![v126_r2.toNat, 0, 0]

def k4_chk8 (arg9_r2 : BitVec 32) : Prop :=
  (∀ a, (k4_off32 arg9_r2) a + S1x1x256.size a ≤ S2x1x256.size a)
theorem k4_off32_inb : ∀ (arg9_r2 : BitVec 32) (k4_hw8 : k4_chk8 arg9_r2), ∀ a, (k4_off32 arg9_r2) a + S1x1x256.size a ≤ S2x1x256.size a := fun arg9_r2 k4_hw8 => k4_hw8

def k4_off33 (arg10_r2 : BitVec 32) : Fin 3 → Nat :=
  let c2_i32_114_r2 : BitVec 32 := 2#32
  let v162_r2 : BitVec 32 := Scalar.remui arg10_r2 c2_i32_114_r2
  let c0_i32_117_r2 : BitVec 32 := 0#32
  let c0_i32_118_r2 : BitVec 32 := 0#32
  ![v162_r2.toNat, 0, 0]
def k4_cond12 (i : grid4.Coords) (k4_t2 : Fin k4_t2_loop.trips) (arg12_r2 : BitVec 32) : BitVec 1 :=
  let c512_i32_85_r2 : BitVec 32 := 512#32
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v78_r2 : BitVec 32 := Scalar.addi arg12_r2 v9
  let v106_r2 : BitVec 32 := Scalar.addi c512_i32_85_r2 v78_r2
  let c512_i32_86_r2 : BitVec 32 := 512#32
  let true_70_r2 : BitVec 1 := 1#1
  let c1_i32_69_r2 : BitVec 32 := 1#32
  let v84_r2 : BitVec 32 := Scalar.addi arg12_r2 c1_i32_69_r2
  let v85_r2 : BitVec 32 := Scalar.select true_70_r2 v84_r2 arg12_r2
  let c16_i32_71_r2 : BitVec 32 := 16#32
  let v86_r2 : BitVec 1 := Scalar.cmpi .eq v85_r2 c16_i32_71_r2
  let c0_i32_72_r2 : BitVec 32 := 0#32
  let v87_r2 : BitVec 32 := Scalar.select v86_r2 c0_i32_72_r2 v85_r2
  let v88_r2 : BitVec 32 := Scalar.addi v87_r2 v9
  let v107_r2 : BitVec 32 := Scalar.addi c512_i32_86_r2 v88_r2
  let v133_r2 : BitVec 1 := Scalar.cmpi .ne v106_r2 v107_r2
  let c0_i32_35_r2 : BitVec 32 := 0#32
  let c1_i32_37_r2 : BitVec 32 := 1#32
  let arg7_r2 : BitVec 32 := Scf.iv c0_i32_35_r2 c1_i32_37_r2 k4_t2
  let c15_i32_64_r2 : BitVec 32 := 15#32
  let v77_r2 : BitVec 1 := Scalar.cmpi .eq arg7_r2 c15_i32_64_r2
  let v134_r2 : BitVec 1 := Scalar.ori v133_r2 v77_r2
  let v135_r2 : BitVec 32 := Scalar.extui v134_r2
  let c0_i32_99_r2 : BitVec 32 := 0#32
  let v136_r2 : BitVec 1 := Scalar.cmpi .ne v135_r2 c0_i32_99_r2
  v136_r2

def k4_off34 (i : grid4.Coords) (arg12_r2 : BitVec 32) : Fin 2 → Nat :=
  let c256_i32_116_r2 : BitVec 32 := 256#32
  let c512_i32_115_r2 : BitVec 32 := 512#32
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v78_r2 : BitVec 32 := Scalar.addi arg12_r2 v9
  let v163_r2 : BitVec 32 := Scalar.addi c512_i32_115_r2 v78_r2
  let v164_r2 : BitVec 32 := Scalar.muli c256_i32_116_r2 v163_r2
  let c0_i32_119_r2 : BitVec 32 := 0#32
  ![v164_r2.toNat, 0]
def k4_off35 (arg10_r2 : BitVec 32) : Fin 1 → Nat :=
  let c2_i32_114_r2 : BitVec 32 := 2#32
  let v162_r2 : BitVec 32 := Scalar.remui arg10_r2 c2_i32_114_r2
  ![v162_r2.toNat]
def k4_off36 (arg11_r2 : BitVec 32) : Fin 3 → Nat :=
  let c2_i32_114_r2 : BitVec 32 := 2#32
  let v162_r2 : BitVec 32 := Scalar.remui arg11_r2 c2_i32_114_r2
  let c0_i32_117_r2 : BitVec 32 := 0#32
  let c0_i32_118_r2 : BitVec 32 := 0#32
  ![v162_r2.toNat, 0, 0]
def k4_cond14 (i : grid4.Coords) (k4_t2 : Fin k4_t2_loop.trips) (arg12_r2 : BitVec 32) : BitVec 1 :=
  let c512_i32_85_r2 : BitVec 32 := 512#32
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v78_r2 : BitVec 32 := Scalar.addi arg12_r2 v9
  let v106_r2 : BitVec 32 := Scalar.addi c512_i32_85_r2 v78_r2
  let c512_i32_92_r2 : BitVec 32 := 512#32
  let true_66_r2 : BitVec 1 := 1#1
  let c1_i32_65_r2 : BitVec 32 := 1#32
  let v79_r2 : BitVec 32 := Scalar.subi arg12_r2 c1_i32_65_r2
  let v80_r2 : BitVec 32 := Scalar.select true_66_r2 v79_r2 arg12_r2
  let c_m1_i32_67_r2 : BitVec 32 := 4294967295#32
  let v81_r2 : BitVec 1 := Scalar.cmpi .eq v80_r2 c_m1_i32_67_r2
  let c15_i32_68_r2 : BitVec 32 := 15#32
  let v82_r2 : BitVec 32 := Scalar.select v81_r2 c15_i32_68_r2 v80_r2
  let v83_r2 : BitVec 32 := Scalar.addi v82_r2 v9
  let v119_r2 : BitVec 32 := Scalar.addi c512_i32_92_r2 v83_r2
  let v146_r2 : BitVec 1 := Scalar.cmpi .ne v106_r2 v119_r2
  let c0_i32_35_r2 : BitVec 32 := 0#32
  let c1_i32_37_r2 : BitVec 32 := 1#32
  let arg7_r2 : BitVec 32 := Scf.iv c0_i32_35_r2 c1_i32_37_r2 k4_t2
  let c0_i32_63_r2 : BitVec 32 := 0#32
  let v76_r2 : BitVec 1 := Scalar.cmpi .eq arg7_r2 c0_i32_63_r2
  let true_105_r2 : BitVec 1 := 1#1
  let v147_r2 : BitVec 1 := Scalar.xori v76_r2 true_105_r2
  let v148_r2 : BitVec 1 := Scalar.andi v146_r2 v147_r2
  let v149_r2 : BitVec 32 := Scalar.extui v148_r2
  let c0_i32_106_r2 : BitVec 32 := 0#32
  let v150_r2 : BitVec 1 := Scalar.cmpi .ne v149_r2 c0_i32_106_r2
  v150_r2

def k4_off37 (i : grid4.Coords) (arg12_r2 : BitVec 32) : Fin 2 → Nat :=
  let c256_i32_116_r2 : BitVec 32 := 256#32
  let c512_i32_115_r2 : BitVec 32 := 512#32
  let true_66_r2 : BitVec 1 := 1#1
  let c1_i32_65_r2 : BitVec 32 := 1#32
  let v79_r2 : BitVec 32 := Scalar.subi arg12_r2 c1_i32_65_r2
  let v80_r2 : BitVec 32 := Scalar.select true_66_r2 v79_r2 arg12_r2
  let c_m1_i32_67_r2 : BitVec 32 := 4294967295#32
  let v81_r2 : BitVec 1 := Scalar.cmpi .eq v80_r2 c_m1_i32_67_r2
  let c15_i32_68_r2 : BitVec 32 := 15#32
  let v82_r2 : BitVec 32 := Scalar.select v81_r2 c15_i32_68_r2 v80_r2
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v83_r2 : BitVec 32 := Scalar.addi v82_r2 v9
  let v163_r2 : BitVec 32 := Scalar.addi c512_i32_115_r2 v83_r2
  let v164_r2 : BitVec 32 := Scalar.muli c256_i32_116_r2 v163_r2
  let c0_i32_119_r2 : BitVec 32 := 0#32
  ![v164_r2.toNat, 0]
def k4_off38 (arg11_r2 : BitVec 32) : Fin 1 → Nat :=
  let c2_i32_114_r2 : BitVec 32 := 2#32
  let v162_r2 : BitVec 32 := Scalar.remui arg11_r2 c2_i32_114_r2
  ![v162_r2.toNat]

def k4_chk6 (i : grid4.Coords) (k4_t2 : Fin k4_t2_loop.trips) (arg8_r2 : BitVec 32) (arg9_r2 : BitVec 32) (arg10_r2 : BitVec 32) (arg11_r2 : BitVec 32) (arg12_r2 : BitVec 32) : Prop :=
  (∀ (k4_h8 : k4_cond8 i k4_t2 arg12_r2 = 1#1), ∀ a, (k4_off25 arg8_r2) a + S1x1x256.size a ≤ S2x1x256.size a) ∧
  (∀ (k4_h8 : k4_cond8 i k4_t2 arg12_r2 = 1#1), ∀ a, (k4_off26 i arg12_r2) a + S1x256.size a ≤ S3x1048576.size a) ∧
  (∀ (k4_h8 : k4_cond8 i k4_t2 arg12_r2 = 1#1), ∀ a, (k4_off27 arg8_r2) a + S1.size a ≤ S2.size a) ∧
  (∀ (k4_h9 : k4_cond9 i k4_t2 arg12_r2 = 1#1), ∀ a, (k4_off28 arg9_r2) a + S1x1x256.size a ≤ S2x1x256.size a) ∧
  (∀ (k4_h9 : k4_cond9 i k4_t2 arg12_r2 = 1#1), ∀ a, (k4_off29 i arg12_r2) a + S1x256.size a ≤ S3x1048576.size a) ∧
  (∀ (k4_h9 : k4_cond9 i k4_t2 arg12_r2 = 1#1), ∀ a, (k4_off30 arg9_r2) a + S1.size a ≤ S2.size a) ∧
  (∀ (k4_h12 : k4_cond12 i k4_t2 arg12_r2 = 1#1), ∀ a, (k4_off33 arg10_r2) a + S1x256x128.size a ≤ S2x256x128.size a) ∧
  (∀ (k4_h12 : k4_cond12 i k4_t2 arg12_r2 = 1#1), ∀ a, (k4_off34 i arg12_r2) a + S256x128.size a ≤ S393216x128.size a) ∧
  (∀ (k4_h12 : k4_cond12 i k4_t2 arg12_r2 = 1#1), ∀ a, (k4_off35 arg10_r2) a + S1.size a ≤ S2.size a) ∧
  (∀ (k4_h14 : k4_cond14 i k4_t2 arg12_r2 = 1#1), ∀ a, (k4_off36 arg11_r2) a + S1x256x128.size a ≤ S2x256x128.size a) ∧
  (∀ (k4_h14 : k4_cond14 i k4_t2 arg12_r2 = 1#1), ∀ a, (k4_off37 i arg12_r2) a + S256x128.size a ≤ S393216x128.size a) ∧
  (∀ (k4_h14 : k4_cond14 i k4_t2 arg12_r2 = 1#1), ∀ a, (k4_off38 arg11_r2) a + S1.size a ≤ S2.size a)
theorem k4_off25_inb : ∀ (i : grid4.Coords) (k4_t2 : Fin k4_t2_loop.trips) (arg8_r2 : BitVec 32) (arg9_r2 : BitVec 32) (arg10_r2 : BitVec 32) (arg11_r2 : BitVec 32) (arg12_r2 : BitVec 32) (k4_hw6 : k4_chk6 i k4_t2 arg8_r2 arg9_r2 arg10_r2 arg11_r2 arg12_r2), ∀ (k4_h8 : k4_cond8 i k4_t2 arg12_r2 = 1#1), ∀ a, (k4_off25 arg8_r2) a + S1x1x256.size a ≤ S2x1x256.size a := fun i k4_t2 arg8_r2 arg9_r2 arg10_r2 arg11_r2 arg12_r2 k4_hw6 k4_h8 => k4_hw6.1 k4_h8
theorem k4_off26_inb : ∀ (i : grid4.Coords) (k4_t2 : Fin k4_t2_loop.trips) (arg8_r2 : BitVec 32) (arg9_r2 : BitVec 32) (arg10_r2 : BitVec 32) (arg11_r2 : BitVec 32) (arg12_r2 : BitVec 32) (k4_hw6 : k4_chk6 i k4_t2 arg8_r2 arg9_r2 arg10_r2 arg11_r2 arg12_r2), ∀ (k4_h8 : k4_cond8 i k4_t2 arg12_r2 = 1#1), ∀ a, (k4_off26 i arg12_r2) a + S1x256.size a ≤ S3x1048576.size a := fun i k4_t2 arg8_r2 arg9_r2 arg10_r2 arg11_r2 arg12_r2 k4_hw6 k4_h8 => k4_hw6.2.1 k4_h8
theorem k4_off27_inb : ∀ (i : grid4.Coords) (k4_t2 : Fin k4_t2_loop.trips) (arg8_r2 : BitVec 32) (arg9_r2 : BitVec 32) (arg10_r2 : BitVec 32) (arg11_r2 : BitVec 32) (arg12_r2 : BitVec 32) (k4_hw6 : k4_chk6 i k4_t2 arg8_r2 arg9_r2 arg10_r2 arg11_r2 arg12_r2), ∀ (k4_h8 : k4_cond8 i k4_t2 arg12_r2 = 1#1), ∀ a, (k4_off27 arg8_r2) a + S1.size a ≤ S2.size a := fun i k4_t2 arg8_r2 arg9_r2 arg10_r2 arg11_r2 arg12_r2 k4_hw6 k4_h8 => k4_hw6.2.2.1 k4_h8
theorem k4_off28_inb : ∀ (i : grid4.Coords) (k4_t2 : Fin k4_t2_loop.trips) (arg8_r2 : BitVec 32) (arg9_r2 : BitVec 32) (arg10_r2 : BitVec 32) (arg11_r2 : BitVec 32) (arg12_r2 : BitVec 32) (k4_hw6 : k4_chk6 i k4_t2 arg8_r2 arg9_r2 arg10_r2 arg11_r2 arg12_r2), ∀ (k4_h9 : k4_cond9 i k4_t2 arg12_r2 = 1#1), ∀ a, (k4_off28 arg9_r2) a + S1x1x256.size a ≤ S2x1x256.size a := fun i k4_t2 arg8_r2 arg9_r2 arg10_r2 arg11_r2 arg12_r2 k4_hw6 k4_h9 => k4_hw6.2.2.2.1 k4_h9
theorem k4_off29_inb : ∀ (i : grid4.Coords) (k4_t2 : Fin k4_t2_loop.trips) (arg8_r2 : BitVec 32) (arg9_r2 : BitVec 32) (arg10_r2 : BitVec 32) (arg11_r2 : BitVec 32) (arg12_r2 : BitVec 32) (k4_hw6 : k4_chk6 i k4_t2 arg8_r2 arg9_r2 arg10_r2 arg11_r2 arg12_r2), ∀ (k4_h9 : k4_cond9 i k4_t2 arg12_r2 = 1#1), ∀ a, (k4_off29 i arg12_r2) a + S1x256.size a ≤ S3x1048576.size a := fun i k4_t2 arg8_r2 arg9_r2 arg10_r2 arg11_r2 arg12_r2 k4_hw6 k4_h9 => k4_hw6.2.2.2.2.1 k4_h9
theorem k4_off30_inb : ∀ (i : grid4.Coords) (k4_t2 : Fin k4_t2_loop.trips) (arg8_r2 : BitVec 32) (arg9_r2 : BitVec 32) (arg10_r2 : BitVec 32) (arg11_r2 : BitVec 32) (arg12_r2 : BitVec 32) (k4_hw6 : k4_chk6 i k4_t2 arg8_r2 arg9_r2 arg10_r2 arg11_r2 arg12_r2), ∀ (k4_h9 : k4_cond9 i k4_t2 arg12_r2 = 1#1), ∀ a, (k4_off30 arg9_r2) a + S1.size a ≤ S2.size a := fun i k4_t2 arg8_r2 arg9_r2 arg10_r2 arg11_r2 arg12_r2 k4_hw6 k4_h9 => k4_hw6.2.2.2.2.2.1 k4_h9
theorem k4_off33_inb : ∀ (i : grid4.Coords) (k4_t2 : Fin k4_t2_loop.trips) (arg8_r2 : BitVec 32) (arg9_r2 : BitVec 32) (arg10_r2 : BitVec 32) (arg11_r2 : BitVec 32) (arg12_r2 : BitVec 32) (k4_hw6 : k4_chk6 i k4_t2 arg8_r2 arg9_r2 arg10_r2 arg11_r2 arg12_r2), ∀ (k4_h12 : k4_cond12 i k4_t2 arg12_r2 = 1#1), ∀ a, (k4_off33 arg10_r2) a + S1x256x128.size a ≤ S2x256x128.size a := fun i k4_t2 arg8_r2 arg9_r2 arg10_r2 arg11_r2 arg12_r2 k4_hw6 k4_h12 => k4_hw6.2.2.2.2.2.2.1 k4_h12
theorem k4_off34_inb : ∀ (i : grid4.Coords) (k4_t2 : Fin k4_t2_loop.trips) (arg8_r2 : BitVec 32) (arg9_r2 : BitVec 32) (arg10_r2 : BitVec 32) (arg11_r2 : BitVec 32) (arg12_r2 : BitVec 32) (k4_hw6 : k4_chk6 i k4_t2 arg8_r2 arg9_r2 arg10_r2 arg11_r2 arg12_r2), ∀ (k4_h12 : k4_cond12 i k4_t2 arg12_r2 = 1#1), ∀ a, (k4_off34 i arg12_r2) a + S256x128.size a ≤ S393216x128.size a := fun i k4_t2 arg8_r2 arg9_r2 arg10_r2 arg11_r2 arg12_r2 k4_hw6 k4_h12 => k4_hw6.2.2.2.2.2.2.2.1 k4_h12
theorem k4_off35_inb : ∀ (i : grid4.Coords) (k4_t2 : Fin k4_t2_loop.trips) (arg8_r2 : BitVec 32) (arg9_r2 : BitVec 32) (arg10_r2 : BitVec 32) (arg11_r2 : BitVec 32) (arg12_r2 : BitVec 32) (k4_hw6 : k4_chk6 i k4_t2 arg8_r2 arg9_r2 arg10_r2 arg11_r2 arg12_r2), ∀ (k4_h12 : k4_cond12 i k4_t2 arg12_r2 = 1#1), ∀ a, (k4_off35 arg10_r2) a + S1.size a ≤ S2.size a := fun i k4_t2 arg8_r2 arg9_r2 arg10_r2 arg11_r2 arg12_r2 k4_hw6 k4_h12 => k4_hw6.2.2.2.2.2.2.2.2.1 k4_h12
theorem k4_off36_inb : ∀ (i : grid4.Coords) (k4_t2 : Fin k4_t2_loop.trips) (arg8_r2 : BitVec 32) (arg9_r2 : BitVec 32) (arg10_r2 : BitVec 32) (arg11_r2 : BitVec 32) (arg12_r2 : BitVec 32) (k4_hw6 : k4_chk6 i k4_t2 arg8_r2 arg9_r2 arg10_r2 arg11_r2 arg12_r2), ∀ (k4_h14 : k4_cond14 i k4_t2 arg12_r2 = 1#1), ∀ a, (k4_off36 arg11_r2) a + S1x256x128.size a ≤ S2x256x128.size a := fun i k4_t2 arg8_r2 arg9_r2 arg10_r2 arg11_r2 arg12_r2 k4_hw6 k4_h14 => k4_hw6.2.2.2.2.2.2.2.2.2.1 k4_h14
theorem k4_off37_inb : ∀ (i : grid4.Coords) (k4_t2 : Fin k4_t2_loop.trips) (arg8_r2 : BitVec 32) (arg9_r2 : BitVec 32) (arg10_r2 : BitVec 32) (arg11_r2 : BitVec 32) (arg12_r2 : BitVec 32) (k4_hw6 : k4_chk6 i k4_t2 arg8_r2 arg9_r2 arg10_r2 arg11_r2 arg12_r2), ∀ (k4_h14 : k4_cond14 i k4_t2 arg12_r2 = 1#1), ∀ a, (k4_off37 i arg12_r2) a + S256x128.size a ≤ S393216x128.size a := fun i k4_t2 arg8_r2 arg9_r2 arg10_r2 arg11_r2 arg12_r2 k4_hw6 k4_h14 => k4_hw6.2.2.2.2.2.2.2.2.2.2.1 k4_h14
theorem k4_off38_inb : ∀ (i : grid4.Coords) (k4_t2 : Fin k4_t2_loop.trips) (arg8_r2 : BitVec 32) (arg9_r2 : BitVec 32) (arg10_r2 : BitVec 32) (arg11_r2 : BitVec 32) (arg12_r2 : BitVec 32) (k4_hw6 : k4_chk6 i k4_t2 arg8_r2 arg9_r2 arg10_r2 arg11_r2 arg12_r2), ∀ (k4_h14 : k4_cond14 i k4_t2 arg12_r2 = 1#1), ∀ a, (k4_off38 arg11_r2) a + S1.size a ≤ S2.size a := fun i k4_t2 arg8_r2 arg9_r2 arg10_r2 arg11_r2 arg12_r2 k4_hw6 k4_h14 => k4_hw6.2.2.2.2.2.2.2.2.2.2.2 k4_h14

def k4_off39 (v44_3_r2 : BitVec 32) : Fin 3 → Nat :=
  let c2_i32_55_r2 : BitVec 32 := 2#32
  let v65_r2 : BitVec 32 := Scalar.remui v44_3_r2 c2_i32_55_r2
  let c0_i32_57_r2 : BitVec 32 := 0#32
  let c0_i32_58_r2 : BitVec 32 := 0#32
  ![v65_r2.toNat, 0, 0]

def k4_off40 (i : grid4.Coords) (v44_4_r2 : BitVec 32) : Fin 2 → Nat :=
  let c256_i32_56_r2 : BitVec 32 := 256#32
  let c512_i32_r2 : BitVec 32 := 512#32
  let true_40_r2 : BitVec 1 := 1#1
  let c1_i32_39_r2 : BitVec 32 := 1#32
  let v45_r2 : BitVec 32 := Scalar.subi v44_4_r2 c1_i32_39_r2
  let v46_r2 : BitVec 32 := Scalar.select true_40_r2 v45_r2 v44_4_r2
  let c_m1_i32_41_r2 : BitVec 32 := 4294967295#32
  let v47_r2 : BitVec 1 := Scalar.cmpi .eq v46_r2 c_m1_i32_41_r2
  let c15_i32_42_r2 : BitVec 32 := 15#32
  let v48_r2 : BitVec 32 := Scalar.select v47_r2 c15_i32_42_r2 v46_r2
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v49_r2 : BitVec 32 := Scalar.addi v48_r2 v9
  let v66_r2 : BitVec 32 := Scalar.addi c512_i32_r2 v49_r2
  let v67_r2 : BitVec 32 := Scalar.muli c256_i32_56_r2 v66_r2
  let c0_i32_59_r2 : BitVec 32 := 0#32
  ![v67_r2.toNat, 0]

def k4_chk10 (i : grid4.Coords) (v44_4_r2 : BitVec 32) : Prop :=
  (∀ a, (k4_off40 i v44_4_r2) a + S256x128.size a ≤ S393216x128.size a)
theorem k4_off40_inb : ∀ (i : grid4.Coords) (v44_4_r2 : BitVec 32) (k4_hw10 : k4_chk10 i v44_4_r2), ∀ a, (k4_off40 i v44_4_r2) a + S256x128.size a ≤ S393216x128.size a := fun i v44_4_r2 k4_hw10 => k4_hw10

def k4_off41 (v44_3_r2 : BitVec 32) : Fin 1 → Nat :=
  let c2_i32_55_r2 : BitVec 32 := 2#32
  let v65_r2 : BitVec 32 := Scalar.remui v44_3_r2 c2_i32_55_r2
  ![v65_r2.toNat]
def k4_off42 (v44_3_r2 : BitVec 32) : Fin 3 → Nat :=
  let c2_i32_55_r2 : BitVec 32 := 2#32
  let v65_r2 : BitVec 32 := Scalar.remui v44_3_r2 c2_i32_55_r2
  let c0_i32_61_r2 : BitVec 32 := 0#32
  let c0_i32_62_r2 : BitVec 32 := 0#32
  ![v65_r2.toNat, 0, 0]

def k4_chk9 (v44_3_r2 : BitVec 32) : Prop :=
  (∀ a, (k4_off39 v44_3_r2) a + S1x256x128.size a ≤ S2x256x128.size a) ∧
  (∀ a, (k4_off41 v44_3_r2) a + S1.size a ≤ S2.size a) ∧
  (∀ a, (k4_off42 v44_3_r2) a + S1x256x128.size a ≤ S2x256x128.size a)
theorem k4_off39_inb : ∀ (v44_3_r2 : BitVec 32) (k4_hw9 : k4_chk9 v44_3_r2), ∀ a, (k4_off39 v44_3_r2) a + S1x256x128.size a ≤ S2x256x128.size a := fun v44_3_r2 k4_hw9 => k4_hw9.1
theorem k4_off41_inb : ∀ (v44_3_r2 : BitVec 32) (k4_hw9 : k4_chk9 v44_3_r2), ∀ a, (k4_off41 v44_3_r2) a + S1.size a ≤ S2.size a := fun v44_3_r2 k4_hw9 => k4_hw9.2.1
theorem k4_off42_inb : ∀ (v44_3_r2 : BitVec 32) (k4_hw9 : k4_chk9 v44_3_r2), ∀ a, (k4_off42 v44_3_r2) a + S1x256x128.size a ≤ S2x256x128.size a := fun v44_3_r2 k4_hw9 => k4_hw9.2.2

def k4_off43 : Fin 3 → Nat :=
  let c0_i32_22_r4 : BitVec 32 := 0#32
  let c2_i32_r4 : BitVec 32 := 2#32
  let v31_r4 : BitVec 32 := Scalar.remui c0_i32_22_r4 c2_i32_r4
  let c0_i32_23_r4 : BitVec 32 := 0#32
  let c0_i32_24_r4 : BitVec 32 := 0#32
  ![v31_r4.toNat, 0, 0]
def k4_off44 (i : grid4.Coords) : Fin 2 → Nat :=
  let c2_i32_25_r4 : BitVec 32 := 2#32
  let c256_i32_r4 : BitVec 32 := 256#32
  let c1024_i32_r4 : BitVec 32 := 1024#32
  let c0_i32_10_r4 : BitVec 32 := 0#32
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v17_r4 : BitVec 32 := Scalar.addi c0_i32_10_r4 v14
  let v32_r4 : BitVec 32 := Scalar.addi c1024_i32_r4 v17_r4
  let v33_r4 : BitVec 32 := Scalar.muli c256_i32_r4 v32_r4
  ![2, v33_r4.toNat]
def k4_off45 : Fin 1 → Nat :=
  let c0_i32_22_r4 : BitVec 32 := 0#32
  let c2_i32_r4 : BitVec 32 := 2#32
  let v31_r4 : BitVec 32 := Scalar.remui c0_i32_22_r4 c2_i32_r4
  ![v31_r4.toNat]
@[reducible] def k4_t3_loop : Scf.Loop 32 :=
  let c0_i32_35_r4 : BitVec 32 := 0#32
  let c16_i32_36_r4 : BitVec 32 := 16#32
  let v43_r4 : BitVec 32 := Scalar.addi c0_i32_35_r4 c16_i32_36_r4
  let c1_i32_37_r4 : BitVec 32 := 1#32
  ⟨c0_i32_35_r4, v43_r4, c1_i32_37_r4⟩
def k4_off46 (arg8_r4 : BitVec 32) : Fin 3 → Nat :=
  let c2_i32_115_r4 : BitVec 32 := 2#32
  let v162_r4 : BitVec 32 := Scalar.remui arg8_r4 c2_i32_115_r4
  let c0_i32_118_r4 : BitVec 32 := 0#32
  let c0_i32_119_r4 : BitVec 32 := 0#32
  ![v162_r4.toNat, 0, 0]
def k4_cond15 (i : grid4.Coords) (k4_t3 : Fin k4_t3_loop.trips) (arg12_r4 : BitVec 32) : BitVec 1 :=
  let c1024_i32_78_r4 : BitVec 32 := 1024#32
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v78_r4 : BitVec 32 := Scalar.addi arg12_r4 v14
  let v94_r4 : BitVec 32 := Scalar.addi c1024_i32_78_r4 v78_r4
  let c1024_i32_79_r4 : BitVec 32 := 1024#32
  let true_71_r4 : BitVec 1 := 1#1
  let c1_i32_70_r4 : BitVec 32 := 1#32
  let v84_r4 : BitVec 32 := Scalar.addi arg12_r4 c1_i32_70_r4
  let v85_r4 : BitVec 32 := Scalar.select true_71_r4 v84_r4 arg12_r4
  let c16_i32_72_r4 : BitVec 32 := 16#32
  let v86_r4 : BitVec 1 := Scalar.cmpi .eq v85_r4 c16_i32_72_r4
  let c0_i32_73_r4 : BitVec 32 := 0#32
  let v87_r4 : BitVec 32 := Scalar.select v86_r4 c0_i32_73_r4 v85_r4
  let v88_r4 : BitVec 32 := Scalar.addi v87_r4 v14
  let v95_r4 : BitVec 32 := Scalar.addi c1024_i32_79_r4 v88_r4
  let v96_r4 : BitVec 1 := Scalar.cmpi .ne v94_r4 v95_r4
  let c0_i32_35_r4 : BitVec 32 := 0#32
  let c1_i32_37_r4 : BitVec 32 := 1#32
  let arg7_r4 : BitVec 32 := Scf.iv c0_i32_35_r4 c1_i32_37_r4 k4_t3
  let c15_i32_80_r4 : BitVec 32 := 15#32
  let v97_r4 : BitVec 1 := Scalar.cmpi .sge arg7_r4 c15_i32_80_r4
  let true_81_r4 : BitVec 1 := 1#1
  let v98_r4 : BitVec 1 := Scalar.xori v97_r4 true_81_r4
  let v99_r4 : BitVec 1 := Scalar.andi v96_r4 v98_r4
  let true_82_r4 : BitVec 1 := 1#1
  let v100_r4 : BitVec 1 := Scalar.andi v99_r4 true_82_r4
  let v101_r4 : BitVec 32 := Scalar.extui v100_r4
  let c0_i32_83_r4 : BitVec 32 := 0#32
  let v102_r4 : BitVec 1 := Scalar.cmpi .ne v101_r4 c0_i32_83_r4
  v102_r4

def k4_off47 (i : grid4.Coords) (arg12_r4 : BitVec 32) : Fin 2 → Nat :=
  let c2_i32_120_r4 : BitVec 32 := 2#32
  let c256_i32_117_r4 : BitVec 32 := 256#32
  let c1024_i32_116_r4 : BitVec 32 := 1024#32
  let true_71_r4 : BitVec 1 := 1#1
  let c1_i32_70_r4 : BitVec 32 := 1#32
  let v84_r4 : BitVec 32 := Scalar.addi arg12_r4 c1_i32_70_r4
  let v85_r4 : BitVec 32 := Scalar.select true_71_r4 v84_r4 arg12_r4
  let c16_i32_72_r4 : BitVec 32 := 16#32
  let v86_r4 : BitVec 1 := Scalar.cmpi .eq v85_r4 c16_i32_72_r4
  let c0_i32_73_r4 : BitVec 32 := 0#32
  let v87_r4 : BitVec 32 := Scalar.select v86_r4 c0_i32_73_r4 v85_r4
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v88_r4 : BitVec 32 := Scalar.addi v87_r4 v14
  let v163_r4 : BitVec 32 := Scalar.addi c1024_i32_116_r4 v88_r4
  let v164_r4 : BitVec 32 := Scalar.muli c256_i32_117_r4 v163_r4
  ![2, v164_r4.toNat]
def k4_off48 (arg8_r4 : BitVec 32) : Fin 1 → Nat :=
  let c2_i32_115_r4 : BitVec 32 := 2#32
  let v162_r4 : BitVec 32 := Scalar.remui arg8_r4 c2_i32_115_r4
  ![v162_r4.toNat]
def k4_off49 (arg9_r4 : BitVec 32) : Fin 3 → Nat :=
  let c2_i32_117_r4 : BitVec 32 := 2#32
  let v164_r4 : BitVec 32 := Scalar.remui arg9_r4 c2_i32_117_r4
  let c0_i32_118_r4 : BitVec 32 := 0#32
  let c0_i32_119_r4 : BitVec 32 := 0#32
  ![v164_r4.toNat, 0, 0]
def k4_cond16 (i : grid4.Coords) (k4_t3 : Fin k4_t3_loop.trips) (arg12_r4 : BitVec 32) : BitVec 1 :=
  let c1024_i32_78_r4 : BitVec 32 := 1024#32
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v78_r4 : BitVec 32 := Scalar.addi arg12_r4 v14
  let v94_r4 : BitVec 32 := Scalar.addi c1024_i32_78_r4 v78_r4
  let c1024_i32_90_r4 : BitVec 32 := 1024#32
  let true_67_r4 : BitVec 1 := 1#1
  let c1_i32_66_r4 : BitVec 32 := 1#32
  let v79_r4 : BitVec 32 := Scalar.subi arg12_r4 c1_i32_66_r4
  let v80_r4 : BitVec 32 := Scalar.select true_67_r4 v79_r4 arg12_r4
  let c_m1_i32_68_r4 : BitVec 32 := 4294967295#32
  let v81_r4 : BitVec 1 := Scalar.cmpi .eq v80_r4 c_m1_i32_68_r4
  let c15_i32_69_r4 : BitVec 32 := 15#32
  let v82_r4 : BitVec 32 := Scalar.select v81_r4 c15_i32_69_r4 v80_r4
  let v83_r4 : BitVec 32 := Scalar.addi v82_r4 v14
  let v112_r4 : BitVec 32 := Scalar.addi c1024_i32_90_r4 v83_r4
  let v113_r4 : BitVec 1 := Scalar.cmpi .ne v94_r4 v112_r4
  let c0_i32_35_r4 : BitVec 32 := 0#32
  let c1_i32_37_r4 : BitVec 32 := 1#32
  let arg7_r4 : BitVec 32 := Scf.iv c0_i32_35_r4 c1_i32_37_r4 k4_t3
  let c0_i32_64_r4 : BitVec 32 := 0#32
  let v76_r4 : BitVec 1 := Scalar.cmpi .eq arg7_r4 c0_i32_64_r4
  let v114_r4 : BitVec 1 := Scalar.ori v113_r4 v76_r4
  let c0_i32_91_r4 : BitVec 32 := 0#32
  let v115_r4 : BitVec 1 := Scalar.cmpi .sge arg7_r4 c0_i32_91_r4
  let v116_r4 : BitVec 1 := Scalar.andi v114_r4 v115_r4
  let v117_r4 : BitVec 32 := Scalar.extui v116_r4
  let c0_i32_92_r4 : BitVec 32 := 0#32
  let v118_r4 : BitVec 1 := Scalar.cmpi .ne v117_r4 c0_i32_92_r4
  v118_r4

def k4_off50 (i : grid4.Coords) (arg12_r4 : BitVec 32) : Fin 2 → Nat :=
  let c2_i32_120_r4 : BitVec 32 := 2#32
  let c256_i32_116_r4 : BitVec 32 := 256#32
  let c1024_i32_115_r4 : BitVec 32 := 1024#32
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v78_r4 : BitVec 32 := Scalar.addi arg12_r4 v14
  let v162_r4 : BitVec 32 := Scalar.addi c1024_i32_115_r4 v78_r4
  let v163_r4 : BitVec 32 := Scalar.muli c256_i32_116_r4 v162_r4
  ![2, v163_r4.toNat]
def k4_off51 (arg9_r4 : BitVec 32) : Fin 1 → Nat :=
  let c2_i32_117_r4 : BitVec 32 := 2#32
  let v164_r4 : BitVec 32 := Scalar.remui arg9_r4 c2_i32_117_r4
  ![v164_r4.toNat]
def k4_off52 (arg10_r4 : BitVec 32) : Fin 3 → Nat :=
  let c2_i32_97_r4 : BitVec 32 := 2#32
  let v127_r4 : BitVec 32 := Scalar.remui arg10_r4 c2_i32_97_r4
  let c0_i32_115_r5 : BitVec 32 := 0#32
  let c0_i32_116_r5 : BitVec 32 := 0#32
  ![v127_r4.toNat, 0, 0]

def k4_chk12 (arg10_r4 : BitVec 32) : Prop :=
  (∀ a, (k4_off52 arg10_r4) a + S1x256x128.size a ≤ S2x256x128.size a)
theorem k4_off52_inb : ∀ (arg10_r4 : BitVec 32) (k4_hw12 : k4_chk12 arg10_r4), ∀ a, (k4_off52 arg10_r4) a + S1x256x128.size a ≤ S2x256x128.size a := fun arg10_r4 k4_hw12 => k4_hw12

def k4_off53 (arg9_r4 : BitVec 32) : Fin 3 → Nat :=
  let c2_i32_96_r4 : BitVec 32 := 2#32
  let v126_r4 : BitVec 32 := Scalar.remui arg9_r4 c2_i32_96_r4
  let c0_i32_117_r5 : BitVec 32 := 0#32
  let c0_i32_118_r5 : BitVec 32 := 0#32
  ![v126_r4.toNat, 0, 0]

def k4_chk13 (arg9_r4 : BitVec 32) : Prop :=
  (∀ a, (k4_off53 arg9_r4) a + S1x1x256.size a ≤ S2x1x256.size a)
theorem k4_off53_inb : ∀ (arg9_r4 : BitVec 32) (k4_hw13 : k4_chk13 arg9_r4), ∀ a, (k4_off53 arg9_r4) a + S1x1x256.size a ≤ S2x1x256.size a := fun arg9_r4 k4_hw13 => k4_hw13

def k4_off54 (arg10_r4 : BitVec 32) : Fin 3 → Nat :=
  let c2_i32_115_r4 : BitVec 32 := 2#32
  let v162_r4 : BitVec 32 := Scalar.remui arg10_r4 c2_i32_115_r4
  let c0_i32_118_r4 : BitVec 32 := 0#32
  let c0_i32_119_r4 : BitVec 32 := 0#32
  ![v162_r4.toNat, 0, 0]
def k4_cond19 (i : grid4.Coords) (k4_t3 : Fin k4_t3_loop.trips) (arg12_r4 : BitVec 32) : BitVec 1 :=
  let c1024_i32_86_r4 : BitVec 32 := 1024#32
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v78_r4 : BitVec 32 := Scalar.addi arg12_r4 v14
  let v106_r4 : BitVec 32 := Scalar.addi c1024_i32_86_r4 v78_r4
  let c1024_i32_87_r4 : BitVec 32 := 1024#32
  let true_71_r4 : BitVec 1 := 1#1
  let c1_i32_70_r4 : BitVec 32 := 1#32
  let v84_r4 : BitVec 32 := Scalar.addi arg12_r4 c1_i32_70_r4
  let v85_r4 : BitVec 32 := Scalar.select true_71_r4 v84_r4 arg12_r4
  let c16_i32_72_r4 : BitVec 32 := 16#32
  let v86_r4 : BitVec 1 := Scalar.cmpi .eq v85_r4 c16_i32_72_r4
  let c0_i32_73_r4 : BitVec 32 := 0#32
  let v87_r4 : BitVec 32 := Scalar.select v86_r4 c0_i32_73_r4 v85_r4
  let v88_r4 : BitVec 32 := Scalar.addi v87_r4 v14
  let v107_r4 : BitVec 32 := Scalar.addi c1024_i32_87_r4 v88_r4
  let v133_r4 : BitVec 1 := Scalar.cmpi .ne v106_r4 v107_r4
  let c0_i32_35_r4 : BitVec 32 := 0#32
  let c1_i32_37_r4 : BitVec 32 := 1#32
  let arg7_r4 : BitVec 32 := Scf.iv c0_i32_35_r4 c1_i32_37_r4 k4_t3
  let c15_i32_65_r4 : BitVec 32 := 15#32
  let v77_r4 : BitVec 1 := Scalar.cmpi .eq arg7_r4 c15_i32_65_r4
  let v134_r4 : BitVec 1 := Scalar.ori v133_r4 v77_r4
  let v135_r4 : BitVec 32 := Scalar.extui v134_r4
  let c0_i32_100_r4 : BitVec 32 := 0#32
  let v136_r4 : BitVec 1 := Scalar.cmpi .ne v135_r4 c0_i32_100_r4
  v136_r4

def k4_off55 (i : grid4.Coords) (arg12_r4 : BitVec 32) : Fin 2 → Nat :=
  let c256_i32_117_r4 : BitVec 32 := 256#32
  let c1024_i32_116_r4 : BitVec 32 := 1024#32
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v78_r4 : BitVec 32 := Scalar.addi arg12_r4 v14
  let v163_r4 : BitVec 32 := Scalar.addi c1024_i32_116_r4 v78_r4
  let v164_r4 : BitVec 32 := Scalar.muli c256_i32_117_r4 v163_r4
  let c0_i32_120_r4 : BitVec 32 := 0#32
  ![v164_r4.toNat, 0]
def k4_off56 (arg10_r4 : BitVec 32) : Fin 1 → Nat :=
  let c2_i32_115_r4 : BitVec 32 := 2#32
  let v162_r4 : BitVec 32 := Scalar.remui arg10_r4 c2_i32_115_r4
  ![v162_r4.toNat]
def k4_off57 (arg11_r4 : BitVec 32) : Fin 3 → Nat :=
  let c2_i32_115_r4 : BitVec 32 := 2#32
  let v162_r4 : BitVec 32 := Scalar.remui arg11_r4 c2_i32_115_r4
  let c0_i32_118_r4 : BitVec 32 := 0#32
  let c0_i32_119_r4 : BitVec 32 := 0#32
  ![v162_r4.toNat, 0, 0]
def k4_cond21 (i : grid4.Coords) (k4_t3 : Fin k4_t3_loop.trips) (arg12_r4 : BitVec 32) : BitVec 1 :=
  let c1024_i32_86_r4 : BitVec 32 := 1024#32
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v78_r4 : BitVec 32 := Scalar.addi arg12_r4 v14
  let v106_r4 : BitVec 32 := Scalar.addi c1024_i32_86_r4 v78_r4
  let c1024_i32_93_r4 : BitVec 32 := 1024#32
  let true_67_r4 : BitVec 1 := 1#1
  let c1_i32_66_r4 : BitVec 32 := 1#32
  let v79_r4 : BitVec 32 := Scalar.subi arg12_r4 c1_i32_66_r4
  let v80_r4 : BitVec 32 := Scalar.select true_67_r4 v79_r4 arg12_r4
  let c_m1_i32_68_r4 : BitVec 32 := 4294967295#32
  let v81_r4 : BitVec 1 := Scalar.cmpi .eq v80_r4 c_m1_i32_68_r4
  let c15_i32_69_r4 : BitVec 32 := 15#32
  let v82_r4 : BitVec 32 := Scalar.select v81_r4 c15_i32_69_r4 v80_r4
  let v83_r4 : BitVec 32 := Scalar.addi v82_r4 v14
  let v119_r4 : BitVec 32 := Scalar.addi c1024_i32_93_r4 v83_r4
  let v146_r4 : BitVec 1 := Scalar.cmpi .ne v106_r4 v119_r4
  let c0_i32_35_r4 : BitVec 32 := 0#32
  let c1_i32_37_r4 : BitVec 32 := 1#32
  let arg7_r4 : BitVec 32 := Scf.iv c0_i32_35_r4 c1_i32_37_r4 k4_t3
  let c0_i32_64_r4 : BitVec 32 := 0#32
  let v76_r4 : BitVec 1 := Scalar.cmpi .eq arg7_r4 c0_i32_64_r4
  let true_106_r4 : BitVec 1 := 1#1
  let v147_r4 : BitVec 1 := Scalar.xori v76_r4 true_106_r4
  let v148_r4 : BitVec 1 := Scalar.andi v146_r4 v147_r4
  let v149_r4 : BitVec 32 := Scalar.extui v148_r4
  let c0_i32_107_r4 : BitVec 32 := 0#32
  let v150_r4 : BitVec 1 := Scalar.cmpi .ne v149_r4 c0_i32_107_r4
  v150_r4

def k4_off58 (i : grid4.Coords) (arg12_r4 : BitVec 32) : Fin 2 → Nat :=
  let c256_i32_117_r4 : BitVec 32 := 256#32
  let c1024_i32_116_r4 : BitVec 32 := 1024#32
  let true_67_r4 : BitVec 1 := 1#1
  let c1_i32_66_r4 : BitVec 32 := 1#32
  let v79_r4 : BitVec 32 := Scalar.subi arg12_r4 c1_i32_66_r4
  let v80_r4 : BitVec 32 := Scalar.select true_67_r4 v79_r4 arg12_r4
  let c_m1_i32_68_r4 : BitVec 32 := 4294967295#32
  let v81_r4 : BitVec 1 := Scalar.cmpi .eq v80_r4 c_m1_i32_68_r4
  let c15_i32_69_r4 : BitVec 32 := 15#32
  let v82_r4 : BitVec 32 := Scalar.select v81_r4 c15_i32_69_r4 v80_r4
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v83_r4 : BitVec 32 := Scalar.addi v82_r4 v14
  let v163_r4 : BitVec 32 := Scalar.addi c1024_i32_116_r4 v83_r4
  let v164_r4 : BitVec 32 := Scalar.muli c256_i32_117_r4 v163_r4
  let c0_i32_120_r4 : BitVec 32 := 0#32
  ![v164_r4.toNat, 0]
def k4_off59 (arg11_r4 : BitVec 32) : Fin 1 → Nat :=
  let c2_i32_115_r4 : BitVec 32 := 2#32
  let v162_r4 : BitVec 32 := Scalar.remui arg11_r4 c2_i32_115_r4
  ![v162_r4.toNat]

def k4_chk11 (i : grid4.Coords) (k4_t3 : Fin k4_t3_loop.trips) (arg8_r4 : BitVec 32) (arg9_r4 : BitVec 32) (arg10_r4 : BitVec 32) (arg11_r4 : BitVec 32) (arg12_r4 : BitVec 32) : Prop :=
  (∀ (k4_h15 : k4_cond15 i k4_t3 arg12_r4 = 1#1), ∀ a, (k4_off46 arg8_r4) a + S1x1x256.size a ≤ S2x1x256.size a) ∧
  (∀ (k4_h15 : k4_cond15 i k4_t3 arg12_r4 = 1#1), ∀ a, (k4_off47 i arg12_r4) a + S1x256.size a ≤ S3x1048576.size a) ∧
  (∀ (k4_h15 : k4_cond15 i k4_t3 arg12_r4 = 1#1), ∀ a, (k4_off48 arg8_r4) a + S1.size a ≤ S2.size a) ∧
  (∀ (k4_h16 : k4_cond16 i k4_t3 arg12_r4 = 1#1), ∀ a, (k4_off49 arg9_r4) a + S1x1x256.size a ≤ S2x1x256.size a) ∧
  (∀ (k4_h16 : k4_cond16 i k4_t3 arg12_r4 = 1#1), ∀ a, (k4_off50 i arg12_r4) a + S1x256.size a ≤ S3x1048576.size a) ∧
  (∀ (k4_h16 : k4_cond16 i k4_t3 arg12_r4 = 1#1), ∀ a, (k4_off51 arg9_r4) a + S1.size a ≤ S2.size a) ∧
  (∀ (k4_h19 : k4_cond19 i k4_t3 arg12_r4 = 1#1), ∀ a, (k4_off54 arg10_r4) a + S1x256x128.size a ≤ S2x256x128.size a) ∧
  (∀ (k4_h19 : k4_cond19 i k4_t3 arg12_r4 = 1#1), ∀ a, (k4_off55 i arg12_r4) a + S256x128.size a ≤ S393216x128.size a) ∧
  (∀ (k4_h19 : k4_cond19 i k4_t3 arg12_r4 = 1#1), ∀ a, (k4_off56 arg10_r4) a + S1.size a ≤ S2.size a) ∧
  (∀ (k4_h21 : k4_cond21 i k4_t3 arg12_r4 = 1#1), ∀ a, (k4_off57 arg11_r4) a + S1x256x128.size a ≤ S2x256x128.size a) ∧
  (∀ (k4_h21 : k4_cond21 i k4_t3 arg12_r4 = 1#1), ∀ a, (k4_off58 i arg12_r4) a + S256x128.size a ≤ S393216x128.size a) ∧
  (∀ (k4_h21 : k4_cond21 i k4_t3 arg12_r4 = 1#1), ∀ a, (k4_off59 arg11_r4) a + S1.size a ≤ S2.size a)
theorem k4_off46_inb : ∀ (i : grid4.Coords) (k4_t3 : Fin k4_t3_loop.trips) (arg8_r4 : BitVec 32) (arg9_r4 : BitVec 32) (arg10_r4 : BitVec 32) (arg11_r4 : BitVec 32) (arg12_r4 : BitVec 32) (k4_hw11 : k4_chk11 i k4_t3 arg8_r4 arg9_r4 arg10_r4 arg11_r4 arg12_r4), ∀ (k4_h15 : k4_cond15 i k4_t3 arg12_r4 = 1#1), ∀ a, (k4_off46 arg8_r4) a + S1x1x256.size a ≤ S2x1x256.size a := fun i k4_t3 arg8_r4 arg9_r4 arg10_r4 arg11_r4 arg12_r4 k4_hw11 k4_h15 => k4_hw11.1 k4_h15
theorem k4_off47_inb : ∀ (i : grid4.Coords) (k4_t3 : Fin k4_t3_loop.trips) (arg8_r4 : BitVec 32) (arg9_r4 : BitVec 32) (arg10_r4 : BitVec 32) (arg11_r4 : BitVec 32) (arg12_r4 : BitVec 32) (k4_hw11 : k4_chk11 i k4_t3 arg8_r4 arg9_r4 arg10_r4 arg11_r4 arg12_r4), ∀ (k4_h15 : k4_cond15 i k4_t3 arg12_r4 = 1#1), ∀ a, (k4_off47 i arg12_r4) a + S1x256.size a ≤ S3x1048576.size a := fun i k4_t3 arg8_r4 arg9_r4 arg10_r4 arg11_r4 arg12_r4 k4_hw11 k4_h15 => k4_hw11.2.1 k4_h15
theorem k4_off48_inb : ∀ (i : grid4.Coords) (k4_t3 : Fin k4_t3_loop.trips) (arg8_r4 : BitVec 32) (arg9_r4 : BitVec 32) (arg10_r4 : BitVec 32) (arg11_r4 : BitVec 32) (arg12_r4 : BitVec 32) (k4_hw11 : k4_chk11 i k4_t3 arg8_r4 arg9_r4 arg10_r4 arg11_r4 arg12_r4), ∀ (k4_h15 : k4_cond15 i k4_t3 arg12_r4 = 1#1), ∀ a, (k4_off48 arg8_r4) a + S1.size a ≤ S2.size a := fun i k4_t3 arg8_r4 arg9_r4 arg10_r4 arg11_r4 arg12_r4 k4_hw11 k4_h15 => k4_hw11.2.2.1 k4_h15
theorem k4_off49_inb : ∀ (i : grid4.Coords) (k4_t3 : Fin k4_t3_loop.trips) (arg8_r4 : BitVec 32) (arg9_r4 : BitVec 32) (arg10_r4 : BitVec 32) (arg11_r4 : BitVec 32) (arg12_r4 : BitVec 32) (k4_hw11 : k4_chk11 i k4_t3 arg8_r4 arg9_r4 arg10_r4 arg11_r4 arg12_r4), ∀ (k4_h16 : k4_cond16 i k4_t3 arg12_r4 = 1#1), ∀ a, (k4_off49 arg9_r4) a + S1x1x256.size a ≤ S2x1x256.size a := fun i k4_t3 arg8_r4 arg9_r4 arg10_r4 arg11_r4 arg12_r4 k4_hw11 k4_h16 => k4_hw11.2.2.2.1 k4_h16
theorem k4_off50_inb : ∀ (i : grid4.Coords) (k4_t3 : Fin k4_t3_loop.trips) (arg8_r4 : BitVec 32) (arg9_r4 : BitVec 32) (arg10_r4 : BitVec 32) (arg11_r4 : BitVec 32) (arg12_r4 : BitVec 32) (k4_hw11 : k4_chk11 i k4_t3 arg8_r4 arg9_r4 arg10_r4 arg11_r4 arg12_r4), ∀ (k4_h16 : k4_cond16 i k4_t3 arg12_r4 = 1#1), ∀ a, (k4_off50 i arg12_r4) a + S1x256.size a ≤ S3x1048576.size a := fun i k4_t3 arg8_r4 arg9_r4 arg10_r4 arg11_r4 arg12_r4 k4_hw11 k4_h16 => k4_hw11.2.2.2.2.1 k4_h16
theorem k4_off51_inb : ∀ (i : grid4.Coords) (k4_t3 : Fin k4_t3_loop.trips) (arg8_r4 : BitVec 32) (arg9_r4 : BitVec 32) (arg10_r4 : BitVec 32) (arg11_r4 : BitVec 32) (arg12_r4 : BitVec 32) (k4_hw11 : k4_chk11 i k4_t3 arg8_r4 arg9_r4 arg10_r4 arg11_r4 arg12_r4), ∀ (k4_h16 : k4_cond16 i k4_t3 arg12_r4 = 1#1), ∀ a, (k4_off51 arg9_r4) a + S1.size a ≤ S2.size a := fun i k4_t3 arg8_r4 arg9_r4 arg10_r4 arg11_r4 arg12_r4 k4_hw11 k4_h16 => k4_hw11.2.2.2.2.2.1 k4_h16
theorem k4_off54_inb : ∀ (i : grid4.Coords) (k4_t3 : Fin k4_t3_loop.trips) (arg8_r4 : BitVec 32) (arg9_r4 : BitVec 32) (arg10_r4 : BitVec 32) (arg11_r4 : BitVec 32) (arg12_r4 : BitVec 32) (k4_hw11 : k4_chk11 i k4_t3 arg8_r4 arg9_r4 arg10_r4 arg11_r4 arg12_r4), ∀ (k4_h19 : k4_cond19 i k4_t3 arg12_r4 = 1#1), ∀ a, (k4_off54 arg10_r4) a + S1x256x128.size a ≤ S2x256x128.size a := fun i k4_t3 arg8_r4 arg9_r4 arg10_r4 arg11_r4 arg12_r4 k4_hw11 k4_h19 => k4_hw11.2.2.2.2.2.2.1 k4_h19
theorem k4_off55_inb : ∀ (i : grid4.Coords) (k4_t3 : Fin k4_t3_loop.trips) (arg8_r4 : BitVec 32) (arg9_r4 : BitVec 32) (arg10_r4 : BitVec 32) (arg11_r4 : BitVec 32) (arg12_r4 : BitVec 32) (k4_hw11 : k4_chk11 i k4_t3 arg8_r4 arg9_r4 arg10_r4 arg11_r4 arg12_r4), ∀ (k4_h19 : k4_cond19 i k4_t3 arg12_r4 = 1#1), ∀ a, (k4_off55 i arg12_r4) a + S256x128.size a ≤ S393216x128.size a := fun i k4_t3 arg8_r4 arg9_r4 arg10_r4 arg11_r4 arg12_r4 k4_hw11 k4_h19 => k4_hw11.2.2.2.2.2.2.2.1 k4_h19
theorem k4_off56_inb : ∀ (i : grid4.Coords) (k4_t3 : Fin k4_t3_loop.trips) (arg8_r4 : BitVec 32) (arg9_r4 : BitVec 32) (arg10_r4 : BitVec 32) (arg11_r4 : BitVec 32) (arg12_r4 : BitVec 32) (k4_hw11 : k4_chk11 i k4_t3 arg8_r4 arg9_r4 arg10_r4 arg11_r4 arg12_r4), ∀ (k4_h19 : k4_cond19 i k4_t3 arg12_r4 = 1#1), ∀ a, (k4_off56 arg10_r4) a + S1.size a ≤ S2.size a := fun i k4_t3 arg8_r4 arg9_r4 arg10_r4 arg11_r4 arg12_r4 k4_hw11 k4_h19 => k4_hw11.2.2.2.2.2.2.2.2.1 k4_h19
theorem k4_off57_inb : ∀ (i : grid4.Coords) (k4_t3 : Fin k4_t3_loop.trips) (arg8_r4 : BitVec 32) (arg9_r4 : BitVec 32) (arg10_r4 : BitVec 32) (arg11_r4 : BitVec 32) (arg12_r4 : BitVec 32) (k4_hw11 : k4_chk11 i k4_t3 arg8_r4 arg9_r4 arg10_r4 arg11_r4 arg12_r4), ∀ (k4_h21 : k4_cond21 i k4_t3 arg12_r4 = 1#1), ∀ a, (k4_off57 arg11_r4) a + S1x256x128.size a ≤ S2x256x128.size a := fun i k4_t3 arg8_r4 arg9_r4 arg10_r4 arg11_r4 arg12_r4 k4_hw11 k4_h21 => k4_hw11.2.2.2.2.2.2.2.2.2.1 k4_h21
theorem k4_off58_inb : ∀ (i : grid4.Coords) (k4_t3 : Fin k4_t3_loop.trips) (arg8_r4 : BitVec 32) (arg9_r4 : BitVec 32) (arg10_r4 : BitVec 32) (arg11_r4 : BitVec 32) (arg12_r4 : BitVec 32) (k4_hw11 : k4_chk11 i k4_t3 arg8_r4 arg9_r4 arg10_r4 arg11_r4 arg12_r4), ∀ (k4_h21 : k4_cond21 i k4_t3 arg12_r4 = 1#1), ∀ a, (k4_off58 i arg12_r4) a + S256x128.size a ≤ S393216x128.size a := fun i k4_t3 arg8_r4 arg9_r4 arg10_r4 arg11_r4 arg12_r4 k4_hw11 k4_h21 => k4_hw11.2.2.2.2.2.2.2.2.2.2.1 k4_h21
theorem k4_off59_inb : ∀ (i : grid4.Coords) (k4_t3 : Fin k4_t3_loop.trips) (arg8_r4 : BitVec 32) (arg9_r4 : BitVec 32) (arg10_r4 : BitVec 32) (arg11_r4 : BitVec 32) (arg12_r4 : BitVec 32) (k4_hw11 : k4_chk11 i k4_t3 arg8_r4 arg9_r4 arg10_r4 arg11_r4 arg12_r4), ∀ (k4_h21 : k4_cond21 i k4_t3 arg12_r4 = 1#1), ∀ a, (k4_off59 arg11_r4) a + S1.size a ≤ S2.size a := fun i k4_t3 arg8_r4 arg9_r4 arg10_r4 arg11_r4 arg12_r4 k4_hw11 k4_h21 => k4_hw11.2.2.2.2.2.2.2.2.2.2.2 k4_h21

def k4_off60 (v44_3_r4 : BitVec 32) : Fin 3 → Nat :=
  let c2_i32_55_r4 : BitVec 32 := 2#32
  let v65_r4 : BitVec 32 := Scalar.remui v44_3_r4 c2_i32_55_r4
  let c0_i32_58_r4 : BitVec 32 := 0#32
  let c0_i32_59_r4 : BitVec 32 := 0#32
  ![v65_r4.toNat, 0, 0]

def k4_off61 (i : grid4.Coords) (v44_4_r4 : BitVec 32) : Fin 2 → Nat :=
  let c256_i32_57_r4 : BitVec 32 := 256#32
  let c1024_i32_56_r4 : BitVec 32 := 1024#32
  let true_40_r4 : BitVec 1 := 1#1
  let c1_i32_39_r4 : BitVec 32 := 1#32
  let v45_r4 : BitVec 32 := Scalar.subi v44_4_r4 c1_i32_39_r4
  let v46_r4 : BitVec 32 := Scalar.select true_40_r4 v45_r4 v44_4_r4
  let c_m1_i32_41_r4 : BitVec 32 := 4294967295#32
  let v47_r4 : BitVec 1 := Scalar.cmpi .eq v46_r4 c_m1_i32_41_r4
  let c15_i32_42_r4 : BitVec 32 := 15#32
  let v48_r4 : BitVec 32 := Scalar.select v47_r4 c15_i32_42_r4 v46_r4
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v49_r4 : BitVec 32 := Scalar.addi v48_r4 v14
  let v66_r4 : BitVec 32 := Scalar.addi c1024_i32_56_r4 v49_r4
  let v67_r4 : BitVec 32 := Scalar.muli c256_i32_57_r4 v66_r4
  let c0_i32_60_r4 : BitVec 32 := 0#32
  ![v67_r4.toNat, 0]

def k4_chk15 (i : grid4.Coords) (v44_4_r4 : BitVec 32) : Prop :=
  (∀ a, (k4_off61 i v44_4_r4) a + S256x128.size a ≤ S393216x128.size a)
theorem k4_off61_inb : ∀ (i : grid4.Coords) (v44_4_r4 : BitVec 32) (k4_hw15 : k4_chk15 i v44_4_r4), ∀ a, (k4_off61 i v44_4_r4) a + S256x128.size a ≤ S393216x128.size a := fun i v44_4_r4 k4_hw15 => k4_hw15

def k4_off62 (v44_3_r4 : BitVec 32) : Fin 1 → Nat :=
  let c2_i32_55_r4 : BitVec 32 := 2#32
  let v65_r4 : BitVec 32 := Scalar.remui v44_3_r4 c2_i32_55_r4
  ![v65_r4.toNat]
def k4_off63 (v44_3_r4 : BitVec 32) : Fin 3 → Nat :=
  let c2_i32_55_r4 : BitVec 32 := 2#32
  let v65_r4 : BitVec 32 := Scalar.remui v44_3_r4 c2_i32_55_r4
  let c0_i32_62_r4 : BitVec 32 := 0#32
  let c0_i32_63_r4 : BitVec 32 := 0#32
  ![v65_r4.toNat, 0, 0]

def k4_chk14 (v44_3_r4 : BitVec 32) : Prop :=
  (∀ a, (k4_off60 v44_3_r4) a + S1x256x128.size a ≤ S2x256x128.size a) ∧
  (∀ a, (k4_off62 v44_3_r4) a + S1.size a ≤ S2.size a) ∧
  (∀ a, (k4_off63 v44_3_r4) a + S1x256x128.size a ≤ S2x256x128.size a)
theorem k4_off60_inb : ∀ (v44_3_r4 : BitVec 32) (k4_hw14 : k4_chk14 v44_3_r4), ∀ a, (k4_off60 v44_3_r4) a + S1x256x128.size a ≤ S2x256x128.size a := fun v44_3_r4 k4_hw14 => k4_hw14.1
theorem k4_off62_inb : ∀ (v44_3_r4 : BitVec 32) (k4_hw14 : k4_chk14 v44_3_r4), ∀ a, (k4_off62 v44_3_r4) a + S1.size a ≤ S2.size a := fun v44_3_r4 k4_hw14 => k4_hw14.2.1
theorem k4_off63_inb : ∀ (v44_3_r4 : BitVec 32) (k4_hw14 : k4_chk14 v44_3_r4), ∀ a, (k4_off63 v44_3_r4) a + S1x256x128.size a ≤ S2x256x128.size a := fun v44_3_r4 k4_hw14 => k4_hw14.2.2

abbrev grid5 : Pipeline.Grid := ⟨1, ![64], ![false]⟩

def cc5_transform_1 (i : grid5.Coords) : Fin 2 → Nat :=
  let arg0 : BitVec 32 := BitVec.ofNat 32 (i 0).val
  let c128_i32 : BitVec 32 := 128#32
  let v0 : BitVec 32 := Scalar.addi c128_i32 arg0
  let c0_i32 : BitVec 32 := 0#32
  let c0_i32_0 : BitVec 32 := 0#32
  ![c0_i32.toNat, v0.toNat]

def cc5_transform_2 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c128_i32 : BitVec 32 := 128#32
  let v0 : BitVec 32 := Scalar.addi c128_i32 arg0
  let c0_i32 : BitVec 32 := 0#32
  let c0_i32_0 : BitVec 32 := 0#32
  ![c0_i32.toNat, v0.toNat]

abbrev stage5_0 : Fin 2 → Memref sig .tc .vmem S16x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S3x2048x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S16x384 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x32 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S32x2048 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨2, ![2, 16], ![false, false]⟩

def k6_off1 : Fin 3 → Nat :=
  let c0_i32_22_r0 : BitVec 32 := 0#32
  let c2_i32_r0 : BitVec 32 := 2#32
  let v31_r0 : BitVec 32 := Scalar.remui c0_i32_22_r0 c2_i32_r0
  let c0_i32_23_r0 : BitVec 32 := 0#32
  let c0_i32_24_r0 : BitVec 32 := 0#32
  ![v31_r0.toNat, 0, 0]
def k6_off2 (i : grid6.Coords) : Fin 2 → Nat :=
  let c0_i32_25_r0 : BitVec 32 := 0#32
  let c256_i32_r0 : BitVec 32 := 256#32
  let c1536_i32_r0 : BitVec 32 := 1536#32
  let c0_i32_10_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v17_r0 : BitVec 32 := Scalar.addi c0_i32_10_r0 v4
  let v32_r0 : BitVec 32 := Scalar.addi c1536_i32_r0 v17_r0
  let v33_r0 : BitVec 32 := Scalar.muli c256_i32_r0 v32_r0
  ![0, v33_r0.toNat]
def k6_off3 : Fin 1 → Nat :=
  let c0_i32_22_r0 : BitVec 32 := 0#32
  let c2_i32_r0 : BitVec 32 := 2#32
  let v31_r0 : BitVec 32 := Scalar.remui c0_i32_22_r0 c2_i32_r0
  ![v31_r0.toNat]
@[reducible] def k6_t1_loop : Scf.Loop 32 :=
  let c0_i32_35_r0 : BitVec 32 := 0#32
  let c16_i32_36_r0 : BitVec 32 := 16#32
  let v43_r0 : BitVec 32 := Scalar.addi c0_i32_35_r0 c16_i32_36_r0
  let c1_i32_37_r0 : BitVec 32 := 1#32
  ⟨c0_i32_35_r0, v43_r0, c1_i32_37_r0⟩
def k6_off4 (arg8_r0 : BitVec 32) : Fin 3 → Nat :=
  let c2_i32_115_r0 : BitVec 32 := 2#32
  let v162_r0 : BitVec 32 := Scalar.remui arg8_r0 c2_i32_115_r0
  let c0_i32_118_r0 : BitVec 32 := 0#32
  let c0_i32_119_r0 : BitVec 32 := 0#32
  ![v162_r0.toNat, 0, 0]
def k6_cond1 (i : grid6.Coords) (k6_t1 : Fin k6_t1_loop.trips) (arg12_r0 : BitVec 32) : BitVec 1 :=
  let c1536_i32_78_r0 : BitVec 32 := 1536#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v78_r0 : BitVec 32 := Scalar.addi arg12_r0 v4
  let v94_r0 : BitVec 32 := Scalar.addi c1536_i32_78_r0 v78_r0
  let c1536_i32_79_r0 : BitVec 32 := 1536#32
  let true_71_r0 : BitVec 1 := 1#1
  let c1_i32_70_r0 : BitVec 32 := 1#32
  let v84_r0 : BitVec 32 := Scalar.addi arg12_r0 c1_i32_70_r0
  let v85_r0 : BitVec 32 := Scalar.select true_71_r0 v84_r0 arg12_r0
  let c16_i32_72_r0 : BitVec 32 := 16#32
  let v86_r0 : BitVec 1 := Scalar.cmpi .eq v85_r0 c16_i32_72_r0
  let c0_i32_73_r0 : BitVec 32 := 0#32
  let v87_r0 : BitVec 32 := Scalar.select v86_r0 c0_i32_73_r0 v85_r0
  let v88_r0 : BitVec 32 := Scalar.addi v87_r0 v4
  let v95_r0 : BitVec 32 := Scalar.addi c1536_i32_79_r0 v88_r0
  let v96_r0 : BitVec 1 := Scalar.cmpi .ne v94_r0 v95_r0
  let c0_i32_35_r0 : BitVec 32 := 0#32
  let c1_i32_37_r0 : BitVec 32 := 1#32
  let arg7_r0 : BitVec 32 := Scf.iv c0_i32_35_r0 c1_i32_37_r0 k6_t1
  let c15_i32_80_r0 : BitVec 32 := 15#32
  let v97_r0 : BitVec 1 := Scalar.cmpi .sge arg7_r0 c15_i32_80_r0
  let true_81_r0 : BitVec 1 := 1#1
  let v98_r0 : BitVec 1 := Scalar.xori v97_r0 true_81_r0
  let v99_r0 : BitVec 1 := Scalar.andi v96_r0 v98_r0
  let true_82_r0 : BitVec 1 := 1#1
  let v100_r0 : BitVec 1 := Scalar.andi v99_r0 true_82_r0
  let v101_r0 : BitVec 32 := Scalar.extui v100_r0
  let c0_i32_83_r0 : BitVec 32 := 0#32
  let v102_r0 : BitVec 1 := Scalar.cmpi .ne v101_r0 c0_i32_83_r0
  v102_r0

def k6_off5 (i : grid6.Coords) (arg12_r0 : BitVec 32) : Fin 2 → Nat :=
  let c0_i32_120_r0 : BitVec 32 := 0#32
  let c256_i32_117_r0 : BitVec 32 := 256#32
  let c1536_i32_116_r0 : BitVec 32 := 1536#32
  let true_71_r0 : BitVec 1 := 1#1
  let c1_i32_70_r0 : BitVec 32 := 1#32
  let v84_r0 : BitVec 32 := Scalar.addi arg12_r0 c1_i32_70_r0
  let v85_r0 : BitVec 32 := Scalar.select true_71_r0 v84_r0 arg12_r0
  let c16_i32_72_r0 : BitVec 32 := 16#32
  let v86_r0 : BitVec 1 := Scalar.cmpi .eq v85_r0 c16_i32_72_r0
  let c0_i32_73_r0 : BitVec 32 := 0#32
  let v87_r0 : BitVec 32 := Scalar.select v86_r0 c0_i32_73_r0 v85_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v88_r0 : BitVec 32 := Scalar.addi v87_r0 v4
  let v163_r0 : BitVec 32 := Scalar.addi c1536_i32_116_r0 v88_r0
  let v164_r0 : BitVec 32 := Scalar.muli c256_i32_117_r0 v163_r0
  ![0, v164_r0.toNat]
def k6_off6 (arg8_r0 : BitVec 32) : Fin 1 → Nat :=
  let c2_i32_115_r0 : BitVec 32 := 2#32
  let v162_r0 : BitVec 32 := Scalar.remui arg8_r0 c2_i32_115_r0
  ![v162_r0.toNat]
def k6_off7 (arg9_r0 : BitVec 32) : Fin 3 → Nat :=
  let c2_i32_117_r0 : BitVec 32 := 2#32
  let v164_r0 : BitVec 32 := Scalar.remui arg9_r0 c2_i32_117_r0
  let c0_i32_118_r0 : BitVec 32 := 0#32
  let c0_i32_119_r0 : BitVec 32 := 0#32
  ![v164_r0.toNat, 0, 0]
def k6_cond2 (i : grid6.Coords) (k6_t1 : Fin k6_t1_loop.trips) (arg12_r0 : BitVec 32) : BitVec 1 :=
  let c1536_i32_78_r0 : BitVec 32 := 1536#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v78_r0 : BitVec 32 := Scalar.addi arg12_r0 v4
  let v94_r0 : BitVec 32 := Scalar.addi c1536_i32_78_r0 v78_r0
  let c1536_i32_90_r0 : BitVec 32 := 1536#32
  let true_67_r0 : BitVec 1 := 1#1
  let c1_i32_66_r0 : BitVec 32 := 1#32
  let v79_r0 : BitVec 32 := Scalar.subi arg12_r0 c1_i32_66_r0
  let v80_r0 : BitVec 32 := Scalar.select true_67_r0 v79_r0 arg12_r0
  let c_m1_i32_68_r0 : BitVec 32 := 4294967295#32
  let v81_r0 : BitVec 1 := Scalar.cmpi .eq v80_r0 c_m1_i32_68_r0
  let c15_i32_69_r0 : BitVec 32 := 15#32
  let v82_r0 : BitVec 32 := Scalar.select v81_r0 c15_i32_69_r0 v80_r0
  let v83_r0 : BitVec 32 := Scalar.addi v82_r0 v4
  let v112_r0 : BitVec 32 := Scalar.addi c1536_i32_90_r0 v83_r0
  let v113_r0 : BitVec 1 := Scalar.cmpi .ne v94_r0 v112_r0
  let c0_i32_35_r0 : BitVec 32 := 0#32
  let c1_i32_37_r0 : BitVec 32 := 1#32
  let arg7_r0 : BitVec 32 := Scf.iv c0_i32_35_r0 c1_i32_37_r0 k6_t1
  let c0_i32_64_r0 : BitVec 32 := 0#32
  let v76_r0 : BitVec 1 := Scalar.cmpi .eq arg7_r0 c0_i32_64_r0
  let v114_r0 : BitVec 1 := Scalar.ori v113_r0 v76_r0
  let c0_i32_91_r0 : BitVec 32 := 0#32
  let v115_r0 : BitVec 1 := Scalar.cmpi .sge arg7_r0 c0_i32_91_r0
  let v116_r0 : BitVec 1 := Scalar.andi v114_r0 v115_r0
  let v117_r0 : BitVec 32 := Scalar.extui v116_r0
  let c0_i32_92_r0 : BitVec 32 := 0#32
  let v118_r0 : BitVec 1 := Scalar.cmpi .ne v117_r0 c0_i32_92_r0
  v118_r0

def k6_off8 (i : grid6.Coords) (arg12_r0 : BitVec 32) : Fin 2 → Nat :=
  let c0_i32_120_r0 : BitVec 32 := 0#32
  let c256_i32_116_r0 : BitVec 32 := 256#32
  let c1536_i32_115_r0 : BitVec 32 := 1536#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v78_r0 : BitVec 32 := Scalar.addi arg12_r0 v4
  let v162_r0 : BitVec 32 := Scalar.addi c1536_i32_115_r0 v78_r0
  let v163_r0 : BitVec 32 := Scalar.muli c256_i32_116_r0 v162_r0
  ![0, v163_r0.toNat]
def k6_off9 (arg9_r0 : BitVec 32) : Fin 1 → Nat :=
  let c2_i32_117_r0 : BitVec 32 := 2#32
  let v164_r0 : BitVec 32 := Scalar.remui arg9_r0 c2_i32_117_r0
  ![v164_r0.toNat]
def k6_off10 (arg10_r0 : BitVec 32) : Fin 3 → Nat :=
  let c2_i32_97_r0 : BitVec 32 := 2#32
  let v127_r0 : BitVec 32 := Scalar.remui arg10_r0 c2_i32_97_r0
  let c0_i32_115_r1 : BitVec 32 := 0#32
  let c0_i32_116_r1 : BitVec 32 := 0#32
  ![v127_r0.toNat, 0, 0]

def k6_chk2 (arg10_r0 : BitVec 32) : Prop :=
  (∀ a, (k6_off10 arg10_r0) a + S1x256x128.size a ≤ S2x256x128.size a)
theorem k6_off10_inb : ∀ (arg10_r0 : BitVec 32) (k6_hw2 : k6_chk2 arg10_r0), ∀ a, (k6_off10 arg10_r0) a + S1x256x128.size a ≤ S2x256x128.size a := fun arg10_r0 k6_hw2 => k6_hw2

def k6_off11 (arg9_r0 : BitVec 32) : Fin 3 → Nat :=
  let c2_i32_96_r0 : BitVec 32 := 2#32
  let v126_r0 : BitVec 32 := Scalar.remui arg9_r0 c2_i32_96_r0
  let c0_i32_117_r1 : BitVec 32 := 0#32
  let c0_i32_118_r1 : BitVec 32 := 0#32
  ![v126_r0.toNat, 0, 0]

def k6_chk3 (arg9_r0 : BitVec 32) : Prop :=
  (∀ a, (k6_off11 arg9_r0) a + S1x1x256.size a ≤ S2x1x256.size a)
theorem k6_off11_inb : ∀ (arg9_r0 : BitVec 32) (k6_hw3 : k6_chk3 arg9_r0), ∀ a, (k6_off11 arg9_r0) a + S1x1x256.size a ≤ S2x1x256.size a := fun arg9_r0 k6_hw3 => k6_hw3

def k6_off12 (arg10_r0 : BitVec 32) : Fin 3 → Nat :=
  let c2_i32_115_r0 : BitVec 32 := 2#32
  let v162_r0 : BitVec 32 := Scalar.remui arg10_r0 c2_i32_115_r0
  let c0_i32_118_r0 : BitVec 32 := 0#32
  let c0_i32_119_r0 : BitVec 32 := 0#32
  ![v162_r0.toNat, 0, 0]
def k6_cond5 (i : grid6.Coords) (k6_t1 : Fin k6_t1_loop.trips) (arg12_r0 : BitVec 32) : BitVec 1 :=
  let c0_i32_86_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v78_r0 : BitVec 32 := Scalar.addi arg12_r0 v4
  let v106_r0 : BitVec 32 := Scalar.addi c0_i32_86_r0 v78_r0
  let c0_i32_87_r0 : BitVec 32 := 0#32
  let true_71_r0 : BitVec 1 := 1#1
  let c1_i32_70_r0 : BitVec 32 := 1#32
  let v84_r0 : BitVec 32 := Scalar.addi arg12_r0 c1_i32_70_r0
  let v85_r0 : BitVec 32 := Scalar.select true_71_r0 v84_r0 arg12_r0
  let c16_i32_72_r0 : BitVec 32 := 16#32
  let v86_r0 : BitVec 1 := Scalar.cmpi .eq v85_r0 c16_i32_72_r0
  let c0_i32_73_r0 : BitVec 32 := 0#32
  let v87_r0 : BitVec 32 := Scalar.select v86_r0 c0_i32_73_r0 v85_r0
  let v88_r0 : BitVec 32 := Scalar.addi v87_r0 v4
  let v107_r0 : BitVec 32 := Scalar.addi c0_i32_87_r0 v88_r0
  let v133_r0 : BitVec 1 := Scalar.cmpi .ne v106_r0 v107_r0
  let c0_i32_35_r0 : BitVec 32 := 0#32
  let c1_i32_37_r0 : BitVec 32 := 1#32
  let arg7_r0 : BitVec 32 := Scf.iv c0_i32_35_r0 c1_i32_37_r0 k6_t1
  let c15_i32_65_r0 : BitVec 32 := 15#32
  let v77_r0 : BitVec 1 := Scalar.cmpi .eq arg7_r0 c15_i32_65_r0
  let v134_r0 : BitVec 1 := Scalar.ori v133_r0 v77_r0
  let v135_r0 : BitVec 32 := Scalar.extui v134_r0
  let c0_i32_100_r0 : BitVec 32 := 0#32
  let v136_r0 : BitVec 1 := Scalar.cmpi .ne v135_r0 c0_i32_100_r0
  v136_r0

def k6_off13 (i : grid6.Coords) (arg12_r0 : BitVec 32) : Fin 2 → Nat :=
  let c256_i32_117_r0 : BitVec 32 := 256#32
  let c0_i32_116_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v78_r0 : BitVec 32 := Scalar.addi arg12_r0 v4
  let v163_r0 : BitVec 32 := Scalar.addi c0_i32_116_r0 v78_r0
  let v164_r0 : BitVec 32 := Scalar.muli c256_i32_117_r0 v163_r0
  let c0_i32_120_r0 : BitVec 32 := 0#32
  ![v164_r0.toNat, 0]
def k6_off14 (arg10_r0 : BitVec 32) : Fin 1 → Nat :=
  let c2_i32_115_r0 : BitVec 32 := 2#32
  let v162_r0 : BitVec 32 := Scalar.remui arg10_r0 c2_i32_115_r0
  ![v162_r0.toNat]
def k6_off15 (arg11_r0 : BitVec 32) : Fin 3 → Nat :=
  let c2_i32_115_r0 : BitVec 32 := 2#32
  let v162_r0 : BitVec 32 := Scalar.remui arg11_r0 c2_i32_115_r0
  let c0_i32_118_r0 : BitVec 32 := 0#32
  let c0_i32_119_r0 : BitVec 32 := 0#32
  ![v162_r0.toNat, 0, 0]
def k6_cond7 (i : grid6.Coords) (k6_t1 : Fin k6_t1_loop.trips) (arg12_r0 : BitVec 32) : BitVec 1 :=
  let c0_i32_86_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v78_r0 : BitVec 32 := Scalar.addi arg12_r0 v4
  let v106_r0 : BitVec 32 := Scalar.addi c0_i32_86_r0 v78_r0
  let c0_i32_93_r0 : BitVec 32 := 0#32
  let true_67_r0 : BitVec 1 := 1#1
  let c1_i32_66_r0 : BitVec 32 := 1#32
  let v79_r0 : BitVec 32 := Scalar.subi arg12_r0 c1_i32_66_r0
  let v80_r0 : BitVec 32 := Scalar.select true_67_r0 v79_r0 arg12_r0
  let c_m1_i32_68_r0 : BitVec 32 := 4294967295#32
  let v81_r0 : BitVec 1 := Scalar.cmpi .eq v80_r0 c_m1_i32_68_r0
  let c15_i32_69_r0 : BitVec 32 := 15#32
  let v82_r0 : BitVec 32 := Scalar.select v81_r0 c15_i32_69_r0 v80_r0
  let v83_r0 : BitVec 32 := Scalar.addi v82_r0 v4
  let v119_r0 : BitVec 32 := Scalar.addi c0_i32_93_r0 v83_r0
  let v146_r0 : BitVec 1 := Scalar.cmpi .ne v106_r0 v119_r0
  let c0_i32_35_r0 : BitVec 32 := 0#32
  let c1_i32_37_r0 : BitVec 32 := 1#32
  let arg7_r0 : BitVec 32 := Scf.iv c0_i32_35_r0 c1_i32_37_r0 k6_t1
  let c0_i32_64_r0 : BitVec 32 := 0#32
  let v76_r0 : BitVec 1 := Scalar.cmpi .eq arg7_r0 c0_i32_64_r0
  let true_106_r0 : BitVec 1 := 1#1
  let v147_r0 : BitVec 1 := Scalar.xori v76_r0 true_106_r0
  let v148_r0 : BitVec 1 := Scalar.andi v146_r0 v147_r0
  let v149_r0 : BitVec 32 := Scalar.extui v148_r0
  let c0_i32_107_r0 : BitVec 32 := 0#32
  let v150_r0 : BitVec 1 := Scalar.cmpi .ne v149_r0 c0_i32_107_r0
  v150_r0

def k6_off16 (i : grid6.Coords) (arg12_r0 : BitVec 32) : Fin 2 → Nat :=
  let c256_i32_117_r0 : BitVec 32 := 256#32
  let c0_i32_116_r0 : BitVec 32 := 0#32
  let true_67_r0 : BitVec 1 := 1#1
  let c1_i32_66_r0 : BitVec 32 := 1#32
  let v79_r0 : BitVec 32 := Scalar.subi arg12_r0 c1_i32_66_r0
  let v80_r0 : BitVec 32 := Scalar.select true_67_r0 v79_r0 arg12_r0
  let c_m1_i32_68_r0 : BitVec 32 := 4294967295#32
  let v81_r0 : BitVec 1 := Scalar.cmpi .eq v80_r0 c_m1_i32_68_r0
  let c15_i32_69_r0 : BitVec 32 := 15#32
  let v82_r0 : BitVec 32 := Scalar.select v81_r0 c15_i32_69_r0 v80_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v83_r0 : BitVec 32 := Scalar.addi v82_r0 v4
  let v163_r0 : BitVec 32 := Scalar.addi c0_i32_116_r0 v83_r0
  let v164_r0 : BitVec 32 := Scalar.muli c256_i32_117_r0 v163_r0
  let c0_i32_120_r0 : BitVec 32 := 0#32
  ![v164_r0.toNat, 0]
def k6_off17 (arg11_r0 : BitVec 32) : Fin 1 → Nat :=
  let c2_i32_115_r0 : BitVec 32 := 2#32
  let v162_r0 : BitVec 32 := Scalar.remui arg11_r0 c2_i32_115_r0
  ![v162_r0.toNat]

def k6_chk1 (i : grid6.Coords) (k6_t1 : Fin k6_t1_loop.trips) (arg8_r0 : BitVec 32) (arg9_r0 : BitVec 32) (arg10_r0 : BitVec 32) (arg11_r0 : BitVec 32) (arg12_r0 : BitVec 32) : Prop :=
  (∀ (k6_h1 : k6_cond1 i k6_t1 arg12_r0 = 1#1), ∀ a, (k6_off4 arg8_r0) a + S1x1x256.size a ≤ S2x1x256.size a) ∧
  (∀ (k6_h1 : k6_cond1 i k6_t1 arg12_r0 = 1#1), ∀ a, (k6_off5 i arg12_r0) a + S1x256.size a ≤ S3x1048576.size a) ∧
  (∀ (k6_h1 : k6_cond1 i k6_t1 arg12_r0 = 1#1), ∀ a, (k6_off6 arg8_r0) a + S1.size a ≤ S2.size a) ∧
  (∀ (k6_h2 : k6_cond2 i k6_t1 arg12_r0 = 1#1), ∀ a, (k6_off7 arg9_r0) a + S1x1x256.size a ≤ S2x1x256.size a) ∧
  (∀ (k6_h2 : k6_cond2 i k6_t1 arg12_r0 = 1#1), ∀ a, (k6_off8 i arg12_r0) a + S1x256.size a ≤ S3x1048576.size a) ∧
  (∀ (k6_h2 : k6_cond2 i k6_t1 arg12_r0 = 1#1), ∀ a, (k6_off9 arg9_r0) a + S1.size a ≤ S2.size a) ∧
  (∀ (k6_h5 : k6_cond5 i k6_t1 arg12_r0 = 1#1), ∀ a, (k6_off12 arg10_r0) a + S1x256x128.size a ≤ S2x256x128.size a) ∧
  (∀ (k6_h5 : k6_cond5 i k6_t1 arg12_r0 = 1#1), ∀ a, (k6_off13 i arg12_r0) a + S256x128.size a ≤ S393216x128.size a) ∧
  (∀ (k6_h5 : k6_cond5 i k6_t1 arg12_r0 = 1#1), ∀ a, (k6_off14 arg10_r0) a + S1.size a ≤ S2.size a) ∧
  (∀ (k6_h7 : k6_cond7 i k6_t1 arg12_r0 = 1#1), ∀ a, (k6_off15 arg11_r0) a + S1x256x128.size a ≤ S2x256x128.size a) ∧
  (∀ (k6_h7 : k6_cond7 i k6_t1 arg12_r0 = 1#1), ∀ a, (k6_off16 i arg12_r0) a + S256x128.size a ≤ S393216x128.size a) ∧
  (∀ (k6_h7 : k6_cond7 i k6_t1 arg12_r0 = 1#1), ∀ a, (k6_off17 arg11_r0) a + S1.size a ≤ S2.size a)
theorem k6_off4_inb : ∀ (i : grid6.Coords) (k6_t1 : Fin k6_t1_loop.trips) (arg8_r0 : BitVec 32) (arg9_r0 : BitVec 32) (arg10_r0 : BitVec 32) (arg11_r0 : BitVec 32) (arg12_r0 : BitVec 32) (k6_hw1 : k6_chk1 i k6_t1 arg8_r0 arg9_r0 arg10_r0 arg11_r0 arg12_r0), ∀ (k6_h1 : k6_cond1 i k6_t1 arg12_r0 = 1#1), ∀ a, (k6_off4 arg8_r0) a + S1x1x256.size a ≤ S2x1x256.size a := fun i k6_t1 arg8_r0 arg9_r0 arg10_r0 arg11_r0 arg12_r0 k6_hw1 k6_h1 => k6_hw1.1 k6_h1
theorem k6_off5_inb : ∀ (i : grid6.Coords) (k6_t1 : Fin k6_t1_loop.trips) (arg8_r0 : BitVec 32) (arg9_r0 : BitVec 32) (arg10_r0 : BitVec 32) (arg11_r0 : BitVec 32) (arg12_r0 : BitVec 32) (k6_hw1 : k6_chk1 i k6_t1 arg8_r0 arg9_r0 arg10_r0 arg11_r0 arg12_r0), ∀ (k6_h1 : k6_cond1 i k6_t1 arg12_r0 = 1#1), ∀ a, (k6_off5 i arg12_r0) a + S1x256.size a ≤ S3x1048576.size a := fun i k6_t1 arg8_r0 arg9_r0 arg10_r0 arg11_r0 arg12_r0 k6_hw1 k6_h1 => k6_hw1.2.1 k6_h1
theorem k6_off6_inb : ∀ (i : grid6.Coords) (k6_t1 : Fin k6_t1_loop.trips) (arg8_r0 : BitVec 32) (arg9_r0 : BitVec 32) (arg10_r0 : BitVec 32) (arg11_r0 : BitVec 32) (arg12_r0 : BitVec 32) (k6_hw1 : k6_chk1 i k6_t1 arg8_r0 arg9_r0 arg10_r0 arg11_r0 arg12_r0), ∀ (k6_h1 : k6_cond1 i k6_t1 arg12_r0 = 1#1), ∀ a, (k6_off6 arg8_r0) a + S1.size a ≤ S2.size a := fun i k6_t1 arg8_r0 arg9_r0 arg10_r0 arg11_r0 arg12_r0 k6_hw1 k6_h1 => k6_hw1.2.2.1 k6_h1
theorem k6_off7_inb : ∀ (i : grid6.Coords) (k6_t1 : Fin k6_t1_loop.trips) (arg8_r0 : BitVec 32) (arg9_r0 : BitVec 32) (arg10_r0 : BitVec 32) (arg11_r0 : BitVec 32) (arg12_r0 : BitVec 32) (k6_hw1 : k6_chk1 i k6_t1 arg8_r0 arg9_r0 arg10_r0 arg11_r0 arg12_r0), ∀ (k6_h2 : k6_cond2 i k6_t1 arg12_r0 = 1#1), ∀ a, (k6_off7 arg9_r0) a + S1x1x256.size a ≤ S2x1x256.size a := fun i k6_t1 arg8_r0 arg9_r0 arg10_r0 arg11_r0 arg12_r0 k6_hw1 k6_h2 => k6_hw1.2.2.2.1 k6_h2
theorem k6_off8_inb : ∀ (i : grid6.Coords) (k6_t1 : Fin k6_t1_loop.trips) (arg8_r0 : BitVec 32) (arg9_r0 : BitVec 32) (arg10_r0 : BitVec 32) (arg11_r0 : BitVec 32) (arg12_r0 : BitVec 32) (k6_hw1 : k6_chk1 i k6_t1 arg8_r0 arg9_r0 arg10_r0 arg11_r0 arg12_r0), ∀ (k6_h2 : k6_cond2 i k6_t1 arg12_r0 = 1#1), ∀ a, (k6_off8 i arg12_r0) a + S1x256.size a ≤ S3x1048576.size a := fun i k6_t1 arg8_r0 arg9_r0 arg10_r0 arg11_r0 arg12_r0 k6_hw1 k6_h2 => k6_hw1.2.2.2.2.1 k6_h2
theorem k6_off9_inb : ∀ (i : grid6.Coords) (k6_t1 : Fin k6_t1_loop.trips) (arg8_r0 : BitVec 32) (arg9_r0 : BitVec 32) (arg10_r0 : BitVec 32) (arg11_r0 : BitVec 32) (arg12_r0 : BitVec 32) (k6_hw1 : k6_chk1 i k6_t1 arg8_r0 arg9_r0 arg10_r0 arg11_r0 arg12_r0), ∀ (k6_h2 : k6_cond2 i k6_t1 arg12_r0 = 1#1), ∀ a, (k6_off9 arg9_r0) a + S1.size a ≤ S2.size a := fun i k6_t1 arg8_r0 arg9_r0 arg10_r0 arg11_r0 arg12_r0 k6_hw1 k6_h2 => k6_hw1.2.2.2.2.2.1 k6_h2
theorem k6_off12_inb : ∀ (i : grid6.Coords) (k6_t1 : Fin k6_t1_loop.trips) (arg8_r0 : BitVec 32) (arg9_r0 : BitVec 32) (arg10_r0 : BitVec 32) (arg11_r0 : BitVec 32) (arg12_r0 : BitVec 32) (k6_hw1 : k6_chk1 i k6_t1 arg8_r0 arg9_r0 arg10_r0 arg11_r0 arg12_r0), ∀ (k6_h5 : k6_cond5 i k6_t1 arg12_r0 = 1#1), ∀ a, (k6_off12 arg10_r0) a + S1x256x128.size a ≤ S2x256x128.size a := fun i k6_t1 arg8_r0 arg9_r0 arg10_r0 arg11_r0 arg12_r0 k6_hw1 k6_h5 => k6_hw1.2.2.2.2.2.2.1 k6_h5
theorem k6_off13_inb : ∀ (i : grid6.Coords) (k6_t1 : Fin k6_t1_loop.trips) (arg8_r0 : BitVec 32) (arg9_r0 : BitVec 32) (arg10_r0 : BitVec 32) (arg11_r0 : BitVec 32) (arg12_r0 : BitVec 32) (k6_hw1 : k6_chk1 i k6_t1 arg8_r0 arg9_r0 arg10_r0 arg11_r0 arg12_r0), ∀ (k6_h5 : k6_cond5 i k6_t1 arg12_r0 = 1#1), ∀ a, (k6_off13 i arg12_r0) a + S256x128.size a ≤ S393216x128.size a := fun i k6_t1 arg8_r0 arg9_r0 arg10_r0 arg11_r0 arg12_r0 k6_hw1 k6_h5 => k6_hw1.2.2.2.2.2.2.2.1 k6_h5
theorem k6_off14_inb : ∀ (i : grid6.Coords) (k6_t1 : Fin k6_t1_loop.trips) (arg8_r0 : BitVec 32) (arg9_r0 : BitVec 32) (arg10_r0 : BitVec 32) (arg11_r0 : BitVec 32) (arg12_r0 : BitVec 32) (k6_hw1 : k6_chk1 i k6_t1 arg8_r0 arg9_r0 arg10_r0 arg11_r0 arg12_r0), ∀ (k6_h5 : k6_cond5 i k6_t1 arg12_r0 = 1#1), ∀ a, (k6_off14 arg10_r0) a + S1.size a ≤ S2.size a := fun i k6_t1 arg8_r0 arg9_r0 arg10_r0 arg11_r0 arg12_r0 k6_hw1 k6_h5 => k6_hw1.2.2.2.2.2.2.2.2.1 k6_h5
theorem k6_off15_inb : ∀ (i : grid6.Coords) (k6_t1 : Fin k6_t1_loop.trips) (arg8_r0 : BitVec 32) (arg9_r0 : BitVec 32) (arg10_r0 : BitVec 32) (arg11_r0 : BitVec 32) (arg12_r0 : BitVec 32) (k6_hw1 : k6_chk1 i k6_t1 arg8_r0 arg9_r0 arg10_r0 arg11_r0 arg12_r0), ∀ (k6_h7 : k6_cond7 i k6_t1 arg12_r0 = 1#1), ∀ a, (k6_off15 arg11_r0) a + S1x256x128.size a ≤ S2x256x128.size a := fun i k6_t1 arg8_r0 arg9_r0 arg10_r0 arg11_r0 arg12_r0 k6_hw1 k6_h7 => k6_hw1.2.2.2.2.2.2.2.2.2.1 k6_h7
theorem k6_off16_inb : ∀ (i : grid6.Coords) (k6_t1 : Fin k6_t1_loop.trips) (arg8_r0 : BitVec 32) (arg9_r0 : BitVec 32) (arg10_r0 : BitVec 32) (arg11_r0 : BitVec 32) (arg12_r0 : BitVec 32) (k6_hw1 : k6_chk1 i k6_t1 arg8_r0 arg9_r0 arg10_r0 arg11_r0 arg12_r0), ∀ (k6_h7 : k6_cond7 i k6_t1 arg12_r0 = 1#1), ∀ a, (k6_off16 i arg12_r0) a + S256x128.size a ≤ S393216x128.size a := fun i k6_t1 arg8_r0 arg9_r0 arg10_r0 arg11_r0 arg12_r0 k6_hw1 k6_h7 => k6_hw1.2.2.2.2.2.2.2.2.2.2.1 k6_h7
theorem k6_off17_inb : ∀ (i : grid6.Coords) (k6_t1 : Fin k6_t1_loop.trips) (arg8_r0 : BitVec 32) (arg9_r0 : BitVec 32) (arg10_r0 : BitVec 32) (arg11_r0 : BitVec 32) (arg12_r0 : BitVec 32) (k6_hw1 : k6_chk1 i k6_t1 arg8_r0 arg9_r0 arg10_r0 arg11_r0 arg12_r0), ∀ (k6_h7 : k6_cond7 i k6_t1 arg12_r0 = 1#1), ∀ a, (k6_off17 arg11_r0) a + S1.size a ≤ S2.size a := fun i k6_t1 arg8_r0 arg9_r0 arg10_r0 arg11_r0 arg12_r0 k6_hw1 k6_h7 => k6_hw1.2.2.2.2.2.2.2.2.2.2.2 k6_h7

def k6_off18 (v44_3_r0 : BitVec 32) : Fin 3 → Nat :=
  let c2_i32_55_r0 : BitVec 32 := 2#32
  let v65_r0 : BitVec 32 := Scalar.remui v44_3_r0 c2_i32_55_r0
  let c0_i32_58_r0 : BitVec 32 := 0#32
  let c0_i32_59_r0 : BitVec 32 := 0#32
  ![v65_r0.toNat, 0, 0]

def k6_off19 (i : grid6.Coords) (v44_4_r0 : BitVec 32) : Fin 2 → Nat :=
  let c256_i32_57_r0 : BitVec 32 := 256#32
  let c0_i32_56_r0 : BitVec 32 := 0#32
  let true_40_r0 : BitVec 1 := 1#1
  let c1_i32_39_r0 : BitVec 32 := 1#32
  let v45_r0 : BitVec 32 := Scalar.subi v44_4_r0 c1_i32_39_r0
  let v46_r0 : BitVec 32 := Scalar.select true_40_r0 v45_r0 v44_4_r0
  let c_m1_i32_41_r0 : BitVec 32 := 4294967295#32
  let v47_r0 : BitVec 1 := Scalar.cmpi .eq v46_r0 c_m1_i32_41_r0
  let c15_i32_42_r0 : BitVec 32 := 15#32
  let v48_r0 : BitVec 32 := Scalar.select v47_r0 c15_i32_42_r0 v46_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v49_r0 : BitVec 32 := Scalar.addi v48_r0 v4
  let v66_r0 : BitVec 32 := Scalar.addi c0_i32_56_r0 v49_r0
  let v67_r0 : BitVec 32 := Scalar.muli c256_i32_57_r0 v66_r0
  let c0_i32_60_r0 : BitVec 32 := 0#32
  ![v67_r0.toNat, 0]

def k6_chk5 (i : grid6.Coords) (v44_4_r0 : BitVec 32) : Prop :=
  (∀ a, (k6_off19 i v44_4_r0) a + S256x128.size a ≤ S393216x128.size a)
theorem k6_off19_inb : ∀ (i : grid6.Coords) (v44_4_r0 : BitVec 32) (k6_hw5 : k6_chk5 i v44_4_r0), ∀ a, (k6_off19 i v44_4_r0) a + S256x128.size a ≤ S393216x128.size a := fun i v44_4_r0 k6_hw5 => k6_hw5

def k6_off20 (v44_3_r0 : BitVec 32) : Fin 1 → Nat :=
  let c2_i32_55_r0 : BitVec 32 := 2#32
  let v65_r0 : BitVec 32 := Scalar.remui v44_3_r0 c2_i32_55_r0
  ![v65_r0.toNat]
def k6_off21 (v44_3_r0 : BitVec 32) : Fin 3 → Nat :=
  let c2_i32_55_r0 : BitVec 32 := 2#32
  let v65_r0 : BitVec 32 := Scalar.remui v44_3_r0 c2_i32_55_r0
  let c0_i32_62_r0 : BitVec 32 := 0#32
  let c0_i32_63_r0 : BitVec 32 := 0#32
  ![v65_r0.toNat, 0, 0]

def k6_chk4 (v44_3_r0 : BitVec 32) : Prop :=
  (∀ a, (k6_off18 v44_3_r0) a + S1x256x128.size a ≤ S2x256x128.size a) ∧
  (∀ a, (k6_off20 v44_3_r0) a + S1.size a ≤ S2.size a) ∧
  (∀ a, (k6_off21 v44_3_r0) a + S1x256x128.size a ≤ S2x256x128.size a)
theorem k6_off18_inb : ∀ (v44_3_r0 : BitVec 32) (k6_hw4 : k6_chk4 v44_3_r0), ∀ a, (k6_off18 v44_3_r0) a + S1x256x128.size a ≤ S2x256x128.size a := fun v44_3_r0 k6_hw4 => k6_hw4.1
theorem k6_off20_inb : ∀ (v44_3_r0 : BitVec 32) (k6_hw4 : k6_chk4 v44_3_r0), ∀ a, (k6_off20 v44_3_r0) a + S1.size a ≤ S2.size a := fun v44_3_r0 k6_hw4 => k6_hw4.2.1
theorem k6_off21_inb : ∀ (v44_3_r0 : BitVec 32) (k6_hw4 : k6_chk4 v44_3_r0), ∀ a, (k6_off21 v44_3_r0) a + S1x256x128.size a ≤ S2x256x128.size a := fun v44_3_r0 k6_hw4 => k6_hw4.2.2

def k6_off22 : Fin 3 → Nat :=
  let c0_i32_22_r2 : BitVec 32 := 0#32
  let c2_i32_r2 : BitVec 32 := 2#32
  let v31_r2 : BitVec 32 := Scalar.remui c0_i32_22_r2 c2_i32_r2
  let c0_i32_23_r2 : BitVec 32 := 0#32
  let c0_i32_24_r2 : BitVec 32 := 0#32
  ![v31_r2.toNat, 0, 0]
def k6_off23 (i : grid6.Coords) : Fin 2 → Nat :=
  let c1_i32_25_r2 : BitVec 32 := 1#32
  let c256_i32_r2 : BitVec 32 := 256#32
  let c1536_i32_r2 : BitVec 32 := 1536#32
  let c0_i32_10_r2 : BitVec 32 := 0#32
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v17_r2 : BitVec 32 := Scalar.addi c0_i32_10_r2 v9
  let v32_r2 : BitVec 32 := Scalar.addi c1536_i32_r2 v17_r2
  let v33_r2 : BitVec 32 := Scalar.muli c256_i32_r2 v32_r2
  ![1, v33_r2.toNat]
def k6_off24 : Fin 1 → Nat :=
  let c0_i32_22_r2 : BitVec 32 := 0#32
  let c2_i32_r2 : BitVec 32 := 2#32
  let v31_r2 : BitVec 32 := Scalar.remui c0_i32_22_r2 c2_i32_r2
  ![v31_r2.toNat]
@[reducible] def k6_t2_loop : Scf.Loop 32 :=
  let c0_i32_35_r2 : BitVec 32 := 0#32
  let c16_i32_36_r2 : BitVec 32 := 16#32
  let v43_r2 : BitVec 32 := Scalar.addi c0_i32_35_r2 c16_i32_36_r2
  let c1_i32_37_r2 : BitVec 32 := 1#32
  ⟨c0_i32_35_r2, v43_r2, c1_i32_37_r2⟩
def k6_off25 (arg8_r2 : BitVec 32) : Fin 3 → Nat :=
  let c2_i32_114_r2 : BitVec 32 := 2#32
  let v162_r2 : BitVec 32 := Scalar.remui arg8_r2 c2_i32_114_r2
  let c0_i32_117_r2 : BitVec 32 := 0#32
  let c0_i32_118_r2 : BitVec 32 := 0#32
  ![v162_r2.toNat, 0, 0]
def k6_cond8 (i : grid6.Coords) (k6_t2 : Fin k6_t2_loop.trips) (arg12_r2 : BitVec 32) : BitVec 1 :=
  let c1536_i32_77_r2 : BitVec 32 := 1536#32
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v78_r2 : BitVec 32 := Scalar.addi arg12_r2 v9
  let v94_r2 : BitVec 32 := Scalar.addi c1536_i32_77_r2 v78_r2
  let c1536_i32_78_r2 : BitVec 32 := 1536#32
  let true_70_r2 : BitVec 1 := 1#1
  let c1_i32_69_r2 : BitVec 32 := 1#32
  let v84_r2 : BitVec 32 := Scalar.addi arg12_r2 c1_i32_69_r2
  let v85_r2 : BitVec 32 := Scalar.select true_70_r2 v84_r2 arg12_r2
  let c16_i32_71_r2 : BitVec 32 := 16#32
  let v86_r2 : BitVec 1 := Scalar.cmpi .eq v85_r2 c16_i32_71_r2
  let c0_i32_72_r2 : BitVec 32 := 0#32
  let v87_r2 : BitVec 32 := Scalar.select v86_r2 c0_i32_72_r2 v85_r2
  let v88_r2 : BitVec 32 := Scalar.addi v87_r2 v9
  let v95_r2 : BitVec 32 := Scalar.addi c1536_i32_78_r2 v88_r2
  let v96_r2 : BitVec 1 := Scalar.cmpi .ne v94_r2 v95_r2
  let c0_i32_35_r2 : BitVec 32 := 0#32
  let c1_i32_37_r2 : BitVec 32 := 1#32
  let arg7_r2 : BitVec 32 := Scf.iv c0_i32_35_r2 c1_i32_37_r2 k6_t2
  let c15_i32_79_r2 : BitVec 32 := 15#32
  let v97_r2 : BitVec 1 := Scalar.cmpi .sge arg7_r2 c15_i32_79_r2
  let true_80_r2 : BitVec 1 := 1#1
  let v98_r2 : BitVec 1 := Scalar.xori v97_r2 true_80_r2
  let v99_r2 : BitVec 1 := Scalar.andi v96_r2 v98_r2
  let true_81_r2 : BitVec 1 := 1#1
  let v100_r2 : BitVec 1 := Scalar.andi v99_r2 true_81_r2
  let v101_r2 : BitVec 32 := Scalar.extui v100_r2
  let c0_i32_82_r2 : BitVec 32 := 0#32
  let v102_r2 : BitVec 1 := Scalar.cmpi .ne v101_r2 c0_i32_82_r2
  v102_r2

def k6_off26 (i : grid6.Coords) (arg12_r2 : BitVec 32) : Fin 2 → Nat :=
  let c1_i32_119_r2 : BitVec 32 := 1#32
  let c256_i32_116_r2 : BitVec 32 := 256#32
  let c1536_i32_115_r2 : BitVec 32 := 1536#32
  let true_70_r2 : BitVec 1 := 1#1
  let c1_i32_69_r2 : BitVec 32 := 1#32
  let v84_r2 : BitVec 32 := Scalar.addi arg12_r2 c1_i32_69_r2
  let v85_r2 : BitVec 32 := Scalar.select true_70_r2 v84_r2 arg12_r2
  let c16_i32_71_r2 : BitVec 32 := 16#32
  let v86_r2 : BitVec 1 := Scalar.cmpi .eq v85_r2 c16_i32_71_r2
  let c0_i32_72_r2 : BitVec 32 := 0#32
  let v87_r2 : BitVec 32 := Scalar.select v86_r2 c0_i32_72_r2 v85_r2
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v88_r2 : BitVec 32 := Scalar.addi v87_r2 v9
  let v163_r2 : BitVec 32 := Scalar.addi c1536_i32_115_r2 v88_r2
  let v164_r2 : BitVec 32 := Scalar.muli c256_i32_116_r2 v163_r2
  ![1, v164_r2.toNat]
def k6_off27 (arg8_r2 : BitVec 32) : Fin 1 → Nat :=
  let c2_i32_114_r2 : BitVec 32 := 2#32
  let v162_r2 : BitVec 32 := Scalar.remui arg8_r2 c2_i32_114_r2
  ![v162_r2.toNat]
def k6_off28 (arg9_r2 : BitVec 32) : Fin 3 → Nat :=
  let c2_i32_116_r2 : BitVec 32 := 2#32
  let v164_r2 : BitVec 32 := Scalar.remui arg9_r2 c2_i32_116_r2
  let c0_i32_117_r2 : BitVec 32 := 0#32
  let c0_i32_118_r2 : BitVec 32 := 0#32
  ![v164_r2.toNat, 0, 0]
def k6_cond9 (i : grid6.Coords) (k6_t2 : Fin k6_t2_loop.trips) (arg12_r2 : BitVec 32) : BitVec 1 :=
  let c1536_i32_77_r2 : BitVec 32 := 1536#32
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v78_r2 : BitVec 32 := Scalar.addi arg12_r2 v9
  let v94_r2 : BitVec 32 := Scalar.addi c1536_i32_77_r2 v78_r2
  let c1536_i32_89_r2 : BitVec 32 := 1536#32
  let true_66_r2 : BitVec 1 := 1#1
  let c1_i32_65_r2 : BitVec 32 := 1#32
  let v79_r2 : BitVec 32 := Scalar.subi arg12_r2 c1_i32_65_r2
  let v80_r2 : BitVec 32 := Scalar.select true_66_r2 v79_r2 arg12_r2
  let c_m1_i32_67_r2 : BitVec 32 := 4294967295#32
  let v81_r2 : BitVec 1 := Scalar.cmpi .eq v80_r2 c_m1_i32_67_r2
  let c15_i32_68_r2 : BitVec 32 := 15#32
  let v82_r2 : BitVec 32 := Scalar.select v81_r2 c15_i32_68_r2 v80_r2
  let v83_r2 : BitVec 32 := Scalar.addi v82_r2 v9
  let v112_r2 : BitVec 32 := Scalar.addi c1536_i32_89_r2 v83_r2
  let v113_r2 : BitVec 1 := Scalar.cmpi .ne v94_r2 v112_r2
  let c0_i32_35_r2 : BitVec 32 := 0#32
  let c1_i32_37_r2 : BitVec 32 := 1#32
  let arg7_r2 : BitVec 32 := Scf.iv c0_i32_35_r2 c1_i32_37_r2 k6_t2
  let c0_i32_63_r2 : BitVec 32 := 0#32
  let v76_r2 : BitVec 1 := Scalar.cmpi .eq arg7_r2 c0_i32_63_r2
  let v114_r2 : BitVec 1 := Scalar.ori v113_r2 v76_r2
  let c0_i32_90_r2 : BitVec 32 := 0#32
  let v115_r2 : BitVec 1 := Scalar.cmpi .sge arg7_r2 c0_i32_90_r2
  let v116_r2 : BitVec 1 := Scalar.andi v114_r2 v115_r2
  let v117_r2 : BitVec 32 := Scalar.extui v116_r2
  let c0_i32_91_r2 : BitVec 32 := 0#32
  let v118_r2 : BitVec 1 := Scalar.cmpi .ne v117_r2 c0_i32_91_r2
  v118_r2

def k6_off29 (i : grid6.Coords) (arg12_r2 : BitVec 32) : Fin 2 → Nat :=
  let c1_i32_119_r2 : BitVec 32 := 1#32
  let c256_i32_115_r2 : BitVec 32 := 256#32
  let c1536_i32_114_r2 : BitVec 32 := 1536#32
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v78_r2 : BitVec 32 := Scalar.addi arg12_r2 v9
  let v162_r2 : BitVec 32 := Scalar.addi c1536_i32_114_r2 v78_r2
  let v163_r2 : BitVec 32 := Scalar.muli c256_i32_115_r2 v162_r2
  ![1, v163_r2.toNat]
def k6_off30 (arg9_r2 : BitVec 32) : Fin 1 → Nat :=
  let c2_i32_116_r2 : BitVec 32 := 2#32
  let v164_r2 : BitVec 32 := Scalar.remui arg9_r2 c2_i32_116_r2
  ![v164_r2.toNat]
def k6_off31 (arg10_r2 : BitVec 32) : Fin 3 → Nat :=
  let c2_i32_96_r2 : BitVec 32 := 2#32
  let v127_r2 : BitVec 32 := Scalar.remui arg10_r2 c2_i32_96_r2
  let c0_i32_114_r3 : BitVec 32 := 0#32
  let c0_i32_115_r3 : BitVec 32 := 0#32
  ![v127_r2.toNat, 0, 0]

def k6_chk7 (arg10_r2 : BitVec 32) : Prop :=
  (∀ a, (k6_off31 arg10_r2) a + S1x256x128.size a ≤ S2x256x128.size a)
theorem k6_off31_inb : ∀ (arg10_r2 : BitVec 32) (k6_hw7 : k6_chk7 arg10_r2), ∀ a, (k6_off31 arg10_r2) a + S1x256x128.size a ≤ S2x256x128.size a := fun arg10_r2 k6_hw7 => k6_hw7

def k6_off32 (arg9_r2 : BitVec 32) : Fin 3 → Nat :=
  let c2_i32_95_r2 : BitVec 32 := 2#32
  let v126_r2 : BitVec 32 := Scalar.remui arg9_r2 c2_i32_95_r2
  let c0_i32_116_r3 : BitVec 32 := 0#32
  let c0_i32_117_r3 : BitVec 32 := 0#32
  ![v126_r2.toNat, 0, 0]

def k6_chk8 (arg9_r2 : BitVec 32) : Prop :=
  (∀ a, (k6_off32 arg9_r2) a + S1x1x256.size a ≤ S2x1x256.size a)
theorem k6_off32_inb : ∀ (arg9_r2 : BitVec 32) (k6_hw8 : k6_chk8 arg9_r2), ∀ a, (k6_off32 arg9_r2) a + S1x1x256.size a ≤ S2x1x256.size a := fun arg9_r2 k6_hw8 => k6_hw8

def k6_off33 (arg10_r2 : BitVec 32) : Fin 3 → Nat :=
  let c2_i32_114_r2 : BitVec 32 := 2#32
  let v162_r2 : BitVec 32 := Scalar.remui arg10_r2 c2_i32_114_r2
  let c0_i32_117_r2 : BitVec 32 := 0#32
  let c0_i32_118_r2 : BitVec 32 := 0#32
  ![v162_r2.toNat, 0, 0]
def k6_cond12 (i : grid6.Coords) (k6_t2 : Fin k6_t2_loop.trips) (arg12_r2 : BitVec 32) : BitVec 1 :=
  let c512_i32_85_r2 : BitVec 32 := 512#32
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v78_r2 : BitVec 32 := Scalar.addi arg12_r2 v9
  let v106_r2 : BitVec 32 := Scalar.addi c512_i32_85_r2 v78_r2
  let c512_i32_86_r2 : BitVec 32 := 512#32
  let true_70_r2 : BitVec 1 := 1#1
  let c1_i32_69_r2 : BitVec 32 := 1#32
  let v84_r2 : BitVec 32 := Scalar.addi arg12_r2 c1_i32_69_r2
  let v85_r2 : BitVec 32 := Scalar.select true_70_r2 v84_r2 arg12_r2
  let c16_i32_71_r2 : BitVec 32 := 16#32
  let v86_r2 : BitVec 1 := Scalar.cmpi .eq v85_r2 c16_i32_71_r2
  let c0_i32_72_r2 : BitVec 32 := 0#32
  let v87_r2 : BitVec 32 := Scalar.select v86_r2 c0_i32_72_r2 v85_r2
  let v88_r2 : BitVec 32 := Scalar.addi v87_r2 v9
  let v107_r2 : BitVec 32 := Scalar.addi c512_i32_86_r2 v88_r2
  let v133_r2 : BitVec 1 := Scalar.cmpi .ne v106_r2 v107_r2
  let c0_i32_35_r2 : BitVec 32 := 0#32
  let c1_i32_37_r2 : BitVec 32 := 1#32
  let arg7_r2 : BitVec 32 := Scf.iv c0_i32_35_r2 c1_i32_37_r2 k6_t2
  let c15_i32_64_r2 : BitVec 32 := 15#32
  let v77_r2 : BitVec 1 := Scalar.cmpi .eq arg7_r2 c15_i32_64_r2
  let v134_r2 : BitVec 1 := Scalar.ori v133_r2 v77_r2
  let v135_r2 : BitVec 32 := Scalar.extui v134_r2
  let c0_i32_99_r2 : BitVec 32 := 0#32
  let v136_r2 : BitVec 1 := Scalar.cmpi .ne v135_r2 c0_i32_99_r2
  v136_r2

def k6_off34 (i : grid6.Coords) (arg12_r2 : BitVec 32) : Fin 2 → Nat :=
  let c256_i32_116_r2 : BitVec 32 := 256#32
  let c512_i32_115_r2 : BitVec 32 := 512#32
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v78_r2 : BitVec 32 := Scalar.addi arg12_r2 v9
  let v163_r2 : BitVec 32 := Scalar.addi c512_i32_115_r2 v78_r2
  let v164_r2 : BitVec 32 := Scalar.muli c256_i32_116_r2 v163_r2
  let c0_i32_119_r2 : BitVec 32 := 0#32
  ![v164_r2.toNat, 0]
def k6_off35 (arg10_r2 : BitVec 32) : Fin 1 → Nat :=
  let c2_i32_114_r2 : BitVec 32 := 2#32
  let v162_r2 : BitVec 32 := Scalar.remui arg10_r2 c2_i32_114_r2
  ![v162_r2.toNat]
def k6_off36 (arg11_r2 : BitVec 32) : Fin 3 → Nat :=
  let c2_i32_114_r2 : BitVec 32 := 2#32
  let v162_r2 : BitVec 32 := Scalar.remui arg11_r2 c2_i32_114_r2
  let c0_i32_117_r2 : BitVec 32 := 0#32
  let c0_i32_118_r2 : BitVec 32 := 0#32
  ![v162_r2.toNat, 0, 0]
def k6_cond14 (i : grid6.Coords) (k6_t2 : Fin k6_t2_loop.trips) (arg12_r2 : BitVec 32) : BitVec 1 :=
  let c512_i32_85_r2 : BitVec 32 := 512#32
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v78_r2 : BitVec 32 := Scalar.addi arg12_r2 v9
  let v106_r2 : BitVec 32 := Scalar.addi c512_i32_85_r2 v78_r2
  let c512_i32_92_r2 : BitVec 32 := 512#32
  let true_66_r2 : BitVec 1 := 1#1
  let c1_i32_65_r2 : BitVec 32 := 1#32
  let v79_r2 : BitVec 32 := Scalar.subi arg12_r2 c1_i32_65_r2
  let v80_r2 : BitVec 32 := Scalar.select true_66_r2 v79_r2 arg12_r2
  let c_m1_i32_67_r2 : BitVec 32 := 4294967295#32
  let v81_r2 : BitVec 1 := Scalar.cmpi .eq v80_r2 c_m1_i32_67_r2
  let c15_i32_68_r2 : BitVec 32 := 15#32
  let v82_r2 : BitVec 32 := Scalar.select v81_r2 c15_i32_68_r2 v80_r2
  let v83_r2 : BitVec 32 := Scalar.addi v82_r2 v9
  let v119_r2 : BitVec 32 := Scalar.addi c512_i32_92_r2 v83_r2
  let v146_r2 : BitVec 1 := Scalar.cmpi .ne v106_r2 v119_r2
  let c0_i32_35_r2 : BitVec 32 := 0#32
  let c1_i32_37_r2 : BitVec 32 := 1#32
  let arg7_r2 : BitVec 32 := Scf.iv c0_i32_35_r2 c1_i32_37_r2 k6_t2
  let c0_i32_63_r2 : BitVec 32 := 0#32
  let v76_r2 : BitVec 1 := Scalar.cmpi .eq arg7_r2 c0_i32_63_r2
  let true_105_r2 : BitVec 1 := 1#1
  let v147_r2 : BitVec 1 := Scalar.xori v76_r2 true_105_r2
  let v148_r2 : BitVec 1 := Scalar.andi v146_r2 v147_r2
  let v149_r2 : BitVec 32 := Scalar.extui v148_r2
  let c0_i32_106_r2 : BitVec 32 := 0#32
  let v150_r2 : BitVec 1 := Scalar.cmpi .ne v149_r2 c0_i32_106_r2
  v150_r2

def k6_off37 (i : grid6.Coords) (arg12_r2 : BitVec 32) : Fin 2 → Nat :=
  let c256_i32_116_r2 : BitVec 32 := 256#32
  let c512_i32_115_r2 : BitVec 32 := 512#32
  let true_66_r2 : BitVec 1 := 1#1
  let c1_i32_65_r2 : BitVec 32 := 1#32
  let v79_r2 : BitVec 32 := Scalar.subi arg12_r2 c1_i32_65_r2
  let v80_r2 : BitVec 32 := Scalar.select true_66_r2 v79_r2 arg12_r2
  let c_m1_i32_67_r2 : BitVec 32 := 4294967295#32
  let v81_r2 : BitVec 1 := Scalar.cmpi .eq v80_r2 c_m1_i32_67_r2
  let c15_i32_68_r2 : BitVec 32 := 15#32
  let v82_r2 : BitVec 32 := Scalar.select v81_r2 c15_i32_68_r2 v80_r2
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v83_r2 : BitVec 32 := Scalar.addi v82_r2 v9
  let v163_r2 : BitVec 32 := Scalar.addi c512_i32_115_r2 v83_r2
  let v164_r2 : BitVec 32 := Scalar.muli c256_i32_116_r2 v163_r2
  let c0_i32_119_r2 : BitVec 32 := 0#32
  ![v164_r2.toNat, 0]
def k6_off38 (arg11_r2 : BitVec 32) : Fin 1 → Nat :=
  let c2_i32_114_r2 : BitVec 32 := 2#32
  let v162_r2 : BitVec 32 := Scalar.remui arg11_r2 c2_i32_114_r2
  ![v162_r2.toNat]

def k6_chk6 (i : grid6.Coords) (k6_t2 : Fin k6_t2_loop.trips) (arg8_r2 : BitVec 32) (arg9_r2 : BitVec 32) (arg10_r2 : BitVec 32) (arg11_r2 : BitVec 32) (arg12_r2 : BitVec 32) : Prop :=
  (∀ (k6_h8 : k6_cond8 i k6_t2 arg12_r2 = 1#1), ∀ a, (k6_off25 arg8_r2) a + S1x1x256.size a ≤ S2x1x256.size a) ∧
  (∀ (k6_h8 : k6_cond8 i k6_t2 arg12_r2 = 1#1), ∀ a, (k6_off26 i arg12_r2) a + S1x256.size a ≤ S3x1048576.size a) ∧
  (∀ (k6_h8 : k6_cond8 i k6_t2 arg12_r2 = 1#1), ∀ a, (k6_off27 arg8_r2) a + S1.size a ≤ S2.size a) ∧
  (∀ (k6_h9 : k6_cond9 i k6_t2 arg12_r2 = 1#1), ∀ a, (k6_off28 arg9_r2) a + S1x1x256.size a ≤ S2x1x256.size a) ∧
  (∀ (k6_h9 : k6_cond9 i k6_t2 arg12_r2 = 1#1), ∀ a, (k6_off29 i arg12_r2) a + S1x256.size a ≤ S3x1048576.size a) ∧
  (∀ (k6_h9 : k6_cond9 i k6_t2 arg12_r2 = 1#1), ∀ a, (k6_off30 arg9_r2) a + S1.size a ≤ S2.size a) ∧
  (∀ (k6_h12 : k6_cond12 i k6_t2 arg12_r2 = 1#1), ∀ a, (k6_off33 arg10_r2) a + S1x256x128.size a ≤ S2x256x128.size a) ∧
  (∀ (k6_h12 : k6_cond12 i k6_t2 arg12_r2 = 1#1), ∀ a, (k6_off34 i arg12_r2) a + S256x128.size a ≤ S393216x128.size a) ∧
  (∀ (k6_h12 : k6_cond12 i k6_t2 arg12_r2 = 1#1), ∀ a, (k6_off35 arg10_r2) a + S1.size a ≤ S2.size a) ∧
  (∀ (k6_h14 : k6_cond14 i k6_t2 arg12_r2 = 1#1), ∀ a, (k6_off36 arg11_r2) a + S1x256x128.size a ≤ S2x256x128.size a) ∧
  (∀ (k6_h14 : k6_cond14 i k6_t2 arg12_r2 = 1#1), ∀ a, (k6_off37 i arg12_r2) a + S256x128.size a ≤ S393216x128.size a) ∧
  (∀ (k6_h14 : k6_cond14 i k6_t2 arg12_r2 = 1#1), ∀ a, (k6_off38 arg11_r2) a + S1.size a ≤ S2.size a)
theorem k6_off25_inb : ∀ (i : grid6.Coords) (k6_t2 : Fin k6_t2_loop.trips) (arg8_r2 : BitVec 32) (arg9_r2 : BitVec 32) (arg10_r2 : BitVec 32) (arg11_r2 : BitVec 32) (arg12_r2 : BitVec 32) (k6_hw6 : k6_chk6 i k6_t2 arg8_r2 arg9_r2 arg10_r2 arg11_r2 arg12_r2), ∀ (k6_h8 : k6_cond8 i k6_t2 arg12_r2 = 1#1), ∀ a, (k6_off25 arg8_r2) a + S1x1x256.size a ≤ S2x1x256.size a := fun i k6_t2 arg8_r2 arg9_r2 arg10_r2 arg11_r2 arg12_r2 k6_hw6 k6_h8 => k6_hw6.1 k6_h8
theorem k6_off26_inb : ∀ (i : grid6.Coords) (k6_t2 : Fin k6_t2_loop.trips) (arg8_r2 : BitVec 32) (arg9_r2 : BitVec 32) (arg10_r2 : BitVec 32) (arg11_r2 : BitVec 32) (arg12_r2 : BitVec 32) (k6_hw6 : k6_chk6 i k6_t2 arg8_r2 arg9_r2 arg10_r2 arg11_r2 arg12_r2), ∀ (k6_h8 : k6_cond8 i k6_t2 arg12_r2 = 1#1), ∀ a, (k6_off26 i arg12_r2) a + S1x256.size a ≤ S3x1048576.size a := fun i k6_t2 arg8_r2 arg9_r2 arg10_r2 arg11_r2 arg12_r2 k6_hw6 k6_h8 => k6_hw6.2.1 k6_h8
theorem k6_off27_inb : ∀ (i : grid6.Coords) (k6_t2 : Fin k6_t2_loop.trips) (arg8_r2 : BitVec 32) (arg9_r2 : BitVec 32) (arg10_r2 : BitVec 32) (arg11_r2 : BitVec 32) (arg12_r2 : BitVec 32) (k6_hw6 : k6_chk6 i k6_t2 arg8_r2 arg9_r2 arg10_r2 arg11_r2 arg12_r2), ∀ (k6_h8 : k6_cond8 i k6_t2 arg12_r2 = 1#1), ∀ a, (k6_off27 arg8_r2) a + S1.size a ≤ S2.size a := fun i k6_t2 arg8_r2 arg9_r2 arg10_r2 arg11_r2 arg12_r2 k6_hw6 k6_h8 => k6_hw6.2.2.1 k6_h8
theorem k6_off28_inb : ∀ (i : grid6.Coords) (k6_t2 : Fin k6_t2_loop.trips) (arg8_r2 : BitVec 32) (arg9_r2 : BitVec 32) (arg10_r2 : BitVec 32) (arg11_r2 : BitVec 32) (arg12_r2 : BitVec 32) (k6_hw6 : k6_chk6 i k6_t2 arg8_r2 arg9_r2 arg10_r2 arg11_r2 arg12_r2), ∀ (k6_h9 : k6_cond9 i k6_t2 arg12_r2 = 1#1), ∀ a, (k6_off28 arg9_r2) a + S1x1x256.size a ≤ S2x1x256.size a := fun i k6_t2 arg8_r2 arg9_r2 arg10_r2 arg11_r2 arg12_r2 k6_hw6 k6_h9 => k6_hw6.2.2.2.1 k6_h9
theorem k6_off29_inb : ∀ (i : grid6.Coords) (k6_t2 : Fin k6_t2_loop.trips) (arg8_r2 : BitVec 32) (arg9_r2 : BitVec 32) (arg10_r2 : BitVec 32) (arg11_r2 : BitVec 32) (arg12_r2 : BitVec 32) (k6_hw6 : k6_chk6 i k6_t2 arg8_r2 arg9_r2 arg10_r2 arg11_r2 arg12_r2), ∀ (k6_h9 : k6_cond9 i k6_t2 arg12_r2 = 1#1), ∀ a, (k6_off29 i arg12_r2) a + S1x256.size a ≤ S3x1048576.size a := fun i k6_t2 arg8_r2 arg9_r2 arg10_r2 arg11_r2 arg12_r2 k6_hw6 k6_h9 => k6_hw6.2.2.2.2.1 k6_h9
theorem k6_off30_inb : ∀ (i : grid6.Coords) (k6_t2 : Fin k6_t2_loop.trips) (arg8_r2 : BitVec 32) (arg9_r2 : BitVec 32) (arg10_r2 : BitVec 32) (arg11_r2 : BitVec 32) (arg12_r2 : BitVec 32) (k6_hw6 : k6_chk6 i k6_t2 arg8_r2 arg9_r2 arg10_r2 arg11_r2 arg12_r2), ∀ (k6_h9 : k6_cond9 i k6_t2 arg12_r2 = 1#1), ∀ a, (k6_off30 arg9_r2) a + S1.size a ≤ S2.size a := fun i k6_t2 arg8_r2 arg9_r2 arg10_r2 arg11_r2 arg12_r2 k6_hw6 k6_h9 => k6_hw6.2.2.2.2.2.1 k6_h9
theorem k6_off33_inb : ∀ (i : grid6.Coords) (k6_t2 : Fin k6_t2_loop.trips) (arg8_r2 : BitVec 32) (arg9_r2 : BitVec 32) (arg10_r2 : BitVec 32) (arg11_r2 : BitVec 32) (arg12_r2 : BitVec 32) (k6_hw6 : k6_chk6 i k6_t2 arg8_r2 arg9_r2 arg10_r2 arg11_r2 arg12_r2), ∀ (k6_h12 : k6_cond12 i k6_t2 arg12_r2 = 1#1), ∀ a, (k6_off33 arg10_r2) a + S1x256x128.size a ≤ S2x256x128.size a := fun i k6_t2 arg8_r2 arg9_r2 arg10_r2 arg11_r2 arg12_r2 k6_hw6 k6_h12 => k6_hw6.2.2.2.2.2.2.1 k6_h12
theorem k6_off34_inb : ∀ (i : grid6.Coords) (k6_t2 : Fin k6_t2_loop.trips) (arg8_r2 : BitVec 32) (arg9_r2 : BitVec 32) (arg10_r2 : BitVec 32) (arg11_r2 : BitVec 32) (arg12_r2 : BitVec 32) (k6_hw6 : k6_chk6 i k6_t2 arg8_r2 arg9_r2 arg10_r2 arg11_r2 arg12_r2), ∀ (k6_h12 : k6_cond12 i k6_t2 arg12_r2 = 1#1), ∀ a, (k6_off34 i arg12_r2) a + S256x128.size a ≤ S393216x128.size a := fun i k6_t2 arg8_r2 arg9_r2 arg10_r2 arg11_r2 arg12_r2 k6_hw6 k6_h12 => k6_hw6.2.2.2.2.2.2.2.1 k6_h12
theorem k6_off35_inb : ∀ (i : grid6.Coords) (k6_t2 : Fin k6_t2_loop.trips) (arg8_r2 : BitVec 32) (arg9_r2 : BitVec 32) (arg10_r2 : BitVec 32) (arg11_r2 : BitVec 32) (arg12_r2 : BitVec 32) (k6_hw6 : k6_chk6 i k6_t2 arg8_r2 arg9_r2 arg10_r2 arg11_r2 arg12_r2), ∀ (k6_h12 : k6_cond12 i k6_t2 arg12_r2 = 1#1), ∀ a, (k6_off35 arg10_r2) a + S1.size a ≤ S2.size a := fun i k6_t2 arg8_r2 arg9_r2 arg10_r2 arg11_r2 arg12_r2 k6_hw6 k6_h12 => k6_hw6.2.2.2.2.2.2.2.2.1 k6_h12
theorem k6_off36_inb : ∀ (i : grid6.Coords) (k6_t2 : Fin k6_t2_loop.trips) (arg8_r2 : BitVec 32) (arg9_r2 : BitVec 32) (arg10_r2 : BitVec 32) (arg11_r2 : BitVec 32) (arg12_r2 : BitVec 32) (k6_hw6 : k6_chk6 i k6_t2 arg8_r2 arg9_r2 arg10_r2 arg11_r2 arg12_r2), ∀ (k6_h14 : k6_cond14 i k6_t2 arg12_r2 = 1#1), ∀ a, (k6_off36 arg11_r2) a + S1x256x128.size a ≤ S2x256x128.size a := fun i k6_t2 arg8_r2 arg9_r2 arg10_r2 arg11_r2 arg12_r2 k6_hw6 k6_h14 => k6_hw6.2.2.2.2.2.2.2.2.2.1 k6_h14
theorem k6_off37_inb : ∀ (i : grid6.Coords) (k6_t2 : Fin k6_t2_loop.trips) (arg8_r2 : BitVec 32) (arg9_r2 : BitVec 32) (arg10_r2 : BitVec 32) (arg11_r2 : BitVec 32) (arg12_r2 : BitVec 32) (k6_hw6 : k6_chk6 i k6_t2 arg8_r2 arg9_r2 arg10_r2 arg11_r2 arg12_r2), ∀ (k6_h14 : k6_cond14 i k6_t2 arg12_r2 = 1#1), ∀ a, (k6_off37 i arg12_r2) a + S256x128.size a ≤ S393216x128.size a := fun i k6_t2 arg8_r2 arg9_r2 arg10_r2 arg11_r2 arg12_r2 k6_hw6 k6_h14 => k6_hw6.2.2.2.2.2.2.2.2.2.2.1 k6_h14
theorem k6_off38_inb : ∀ (i : grid6.Coords) (k6_t2 : Fin k6_t2_loop.trips) (arg8_r2 : BitVec 32) (arg9_r2 : BitVec 32) (arg10_r2 : BitVec 32) (arg11_r2 : BitVec 32) (arg12_r2 : BitVec 32) (k6_hw6 : k6_chk6 i k6_t2 arg8_r2 arg9_r2 arg10_r2 arg11_r2 arg12_r2), ∀ (k6_h14 : k6_cond14 i k6_t2 arg12_r2 = 1#1), ∀ a, (k6_off38 arg11_r2) a + S1.size a ≤ S2.size a := fun i k6_t2 arg8_r2 arg9_r2 arg10_r2 arg11_r2 arg12_r2 k6_hw6 k6_h14 => k6_hw6.2.2.2.2.2.2.2.2.2.2.2 k6_h14

def k6_off39 (v44_3_r2 : BitVec 32) : Fin 3 → Nat :=
  let c2_i32_55_r2 : BitVec 32 := 2#32
  let v65_r2 : BitVec 32 := Scalar.remui v44_3_r2 c2_i32_55_r2
  let c0_i32_57_r2 : BitVec 32 := 0#32
  let c0_i32_58_r2 : BitVec 32 := 0#32
  ![v65_r2.toNat, 0, 0]

def k6_off40 (i : grid6.Coords) (v44_4_r2 : BitVec 32) : Fin 2 → Nat :=
  let c256_i32_56_r2 : BitVec 32 := 256#32
  let c512_i32_r2 : BitVec 32 := 512#32
  let true_40_r2 : BitVec 1 := 1#1
  let c1_i32_39_r2 : BitVec 32 := 1#32
  let v45_r2 : BitVec 32 := Scalar.subi v44_4_r2 c1_i32_39_r2
  let v46_r2 : BitVec 32 := Scalar.select true_40_r2 v45_r2 v44_4_r2
  let c_m1_i32_41_r2 : BitVec 32 := 4294967295#32
  let v47_r2 : BitVec 1 := Scalar.cmpi .eq v46_r2 c_m1_i32_41_r2
  let c15_i32_42_r2 : BitVec 32 := 15#32
  let v48_r2 : BitVec 32 := Scalar.select v47_r2 c15_i32_42_r2 v46_r2
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v49_r2 : BitVec 32 := Scalar.addi v48_r2 v9
  let v66_r2 : BitVec 32 := Scalar.addi c512_i32_r2 v49_r2
  let v67_r2 : BitVec 32 := Scalar.muli c256_i32_56_r2 v66_r2
  let c0_i32_59_r2 : BitVec 32 := 0#32
  ![v67_r2.toNat, 0]

def k6_chk10 (i : grid6.Coords) (v44_4_r2 : BitVec 32) : Prop :=
  (∀ a, (k6_off40 i v44_4_r2) a + S256x128.size a ≤ S393216x128.size a)
theorem k6_off40_inb : ∀ (i : grid6.Coords) (v44_4_r2 : BitVec 32) (k6_hw10 : k6_chk10 i v44_4_r2), ∀ a, (k6_off40 i v44_4_r2) a + S256x128.size a ≤ S393216x128.size a := fun i v44_4_r2 k6_hw10 => k6_hw10

def k6_off41 (v44_3_r2 : BitVec 32) : Fin 1 → Nat :=
  let c2_i32_55_r2 : BitVec 32 := 2#32
  let v65_r2 : BitVec 32 := Scalar.remui v44_3_r2 c2_i32_55_r2
  ![v65_r2.toNat]
def k6_off42 (v44_3_r2 : BitVec 32) : Fin 3 → Nat :=
  let c2_i32_55_r2 : BitVec 32 := 2#32
  let v65_r2 : BitVec 32 := Scalar.remui v44_3_r2 c2_i32_55_r2
  let c0_i32_61_r2 : BitVec 32 := 0#32
  let c0_i32_62_r2 : BitVec 32 := 0#32
  ![v65_r2.toNat, 0, 0]

def k6_chk9 (v44_3_r2 : BitVec 32) : Prop :=
  (∀ a, (k6_off39 v44_3_r2) a + S1x256x128.size a ≤ S2x256x128.size a) ∧
  (∀ a, (k6_off41 v44_3_r2) a + S1.size a ≤ S2.size a) ∧
  (∀ a, (k6_off42 v44_3_r2) a + S1x256x128.size a ≤ S2x256x128.size a)
theorem k6_off39_inb : ∀ (v44_3_r2 : BitVec 32) (k6_hw9 : k6_chk9 v44_3_r2), ∀ a, (k6_off39 v44_3_r2) a + S1x256x128.size a ≤ S2x256x128.size a := fun v44_3_r2 k6_hw9 => k6_hw9.1
theorem k6_off41_inb : ∀ (v44_3_r2 : BitVec 32) (k6_hw9 : k6_chk9 v44_3_r2), ∀ a, (k6_off41 v44_3_r2) a + S1.size a ≤ S2.size a := fun v44_3_r2 k6_hw9 => k6_hw9.2.1
theorem k6_off42_inb : ∀ (v44_3_r2 : BitVec 32) (k6_hw9 : k6_chk9 v44_3_r2), ∀ a, (k6_off42 v44_3_r2) a + S1x256x128.size a ≤ S2x256x128.size a := fun v44_3_r2 k6_hw9 => k6_hw9.2.2

def k6_off43 : Fin 3 → Nat :=
  let c0_i32_22_r4 : BitVec 32 := 0#32
  let c2_i32_r4 : BitVec 32 := 2#32
  let v31_r4 : BitVec 32 := Scalar.remui c0_i32_22_r4 c2_i32_r4
  let c0_i32_23_r4 : BitVec 32 := 0#32
  let c0_i32_24_r4 : BitVec 32 := 0#32
  ![v31_r4.toNat, 0, 0]
def k6_off44 (i : grid6.Coords) : Fin 2 → Nat :=
  let c2_i32_25_r4 : BitVec 32 := 2#32
  let c256_i32_r4 : BitVec 32 := 256#32
  let c1536_i32_r4 : BitVec 32 := 1536#32
  let c0_i32_10_r4 : BitVec 32 := 0#32
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v17_r4 : BitVec 32 := Scalar.addi c0_i32_10_r4 v14
  let v32_r4 : BitVec 32 := Scalar.addi c1536_i32_r4 v17_r4
  let v33_r4 : BitVec 32 := Scalar.muli c256_i32_r4 v32_r4
  ![2, v33_r4.toNat]
def k6_off45 : Fin 1 → Nat :=
  let c0_i32_22_r4 : BitVec 32 := 0#32
  let c2_i32_r4 : BitVec 32 := 2#32
  let v31_r4 : BitVec 32 := Scalar.remui c0_i32_22_r4 c2_i32_r4
  ![v31_r4.toNat]
@[reducible] def k6_t3_loop : Scf.Loop 32 :=
  let c0_i32_35_r4 : BitVec 32 := 0#32
  let c16_i32_36_r4 : BitVec 32 := 16#32
  let v43_r4 : BitVec 32 := Scalar.addi c0_i32_35_r4 c16_i32_36_r4
  let c1_i32_37_r4 : BitVec 32 := 1#32
  ⟨c0_i32_35_r4, v43_r4, c1_i32_37_r4⟩
def k6_off46 (arg8_r4 : BitVec 32) : Fin 3 → Nat :=
  let c2_i32_114_r4 : BitVec 32 := 2#32
  let v162_r4 : BitVec 32 := Scalar.remui arg8_r4 c2_i32_114_r4
  let c0_i32_117_r4 : BitVec 32 := 0#32
  let c0_i32_118_r4 : BitVec 32 := 0#32
  ![v162_r4.toNat, 0, 0]
def k6_cond15 (i : grid6.Coords) (k6_t3 : Fin k6_t3_loop.trips) (arg12_r4 : BitVec 32) : BitVec 1 :=
  let c1536_i32_77_r4 : BitVec 32 := 1536#32
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v78_r4 : BitVec 32 := Scalar.addi arg12_r4 v14
  let v94_r4 : BitVec 32 := Scalar.addi c1536_i32_77_r4 v78_r4
  let c1536_i32_78_r4 : BitVec 32 := 1536#32
  let true_70_r4 : BitVec 1 := 1#1
  let c1_i32_69_r4 : BitVec 32 := 1#32
  let v84_r4 : BitVec 32 := Scalar.addi arg12_r4 c1_i32_69_r4
  let v85_r4 : BitVec 32 := Scalar.select true_70_r4 v84_r4 arg12_r4
  let c16_i32_71_r4 : BitVec 32 := 16#32
  let v86_r4 : BitVec 1 := Scalar.cmpi .eq v85_r4 c16_i32_71_r4
  let c0_i32_72_r4 : BitVec 32 := 0#32
  let v87_r4 : BitVec 32 := Scalar.select v86_r4 c0_i32_72_r4 v85_r4
  let v88_r4 : BitVec 32 := Scalar.addi v87_r4 v14
  let v95_r4 : BitVec 32 := Scalar.addi c1536_i32_78_r4 v88_r4
  let v96_r4 : BitVec 1 := Scalar.cmpi .ne v94_r4 v95_r4
  let c0_i32_35_r4 : BitVec 32 := 0#32
  let c1_i32_37_r4 : BitVec 32 := 1#32
  let arg7_r4 : BitVec 32 := Scf.iv c0_i32_35_r4 c1_i32_37_r4 k6_t3
  let c15_i32_79_r4 : BitVec 32 := 15#32
  let v97_r4 : BitVec 1 := Scalar.cmpi .sge arg7_r4 c15_i32_79_r4
  let true_80_r4 : BitVec 1 := 1#1
  let v98_r4 : BitVec 1 := Scalar.xori v97_r4 true_80_r4
  let v99_r4 : BitVec 1 := Scalar.andi v96_r4 v98_r4
  let true_81_r4 : BitVec 1 := 1#1
  let v100_r4 : BitVec 1 := Scalar.andi v99_r4 true_81_r4
  let v101_r4 : BitVec 32 := Scalar.extui v100_r4
  let c0_i32_82_r4 : BitVec 32 := 0#32
  let v102_r4 : BitVec 1 := Scalar.cmpi .ne v101_r4 c0_i32_82_r4
  v102_r4

def k6_off47 (i : grid6.Coords) (arg12_r4 : BitVec 32) : Fin 2 → Nat :=
  let c2_i32_119_r4 : BitVec 32 := 2#32
  let c256_i32_116_r4 : BitVec 32 := 256#32
  let c1536_i32_115_r4 : BitVec 32 := 1536#32
  let true_70_r4 : BitVec 1 := 1#1
  let c1_i32_69_r4 : BitVec 32 := 1#32
  let v84_r4 : BitVec 32 := Scalar.addi arg12_r4 c1_i32_69_r4
  let v85_r4 : BitVec 32 := Scalar.select true_70_r4 v84_r4 arg12_r4
  let c16_i32_71_r4 : BitVec 32 := 16#32
  let v86_r4 : BitVec 1 := Scalar.cmpi .eq v85_r4 c16_i32_71_r4
  let c0_i32_72_r4 : BitVec 32 := 0#32
  let v87_r4 : BitVec 32 := Scalar.select v86_r4 c0_i32_72_r4 v85_r4
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v88_r4 : BitVec 32 := Scalar.addi v87_r4 v14
  let v163_r4 : BitVec 32 := Scalar.addi c1536_i32_115_r4 v88_r4
  let v164_r4 : BitVec 32 := Scalar.muli c256_i32_116_r4 v163_r4
  ![2, v164_r4.toNat]
def k6_off48 (arg8_r4 : BitVec 32) : Fin 1 → Nat :=
  let c2_i32_114_r4 : BitVec 32 := 2#32
  let v162_r4 : BitVec 32 := Scalar.remui arg8_r4 c2_i32_114_r4
  ![v162_r4.toNat]
def k6_off49 (arg9_r4 : BitVec 32) : Fin 3 → Nat :=
  let c2_i32_116_r4 : BitVec 32 := 2#32
  let v164_r4 : BitVec 32 := Scalar.remui arg9_r4 c2_i32_116_r4
  let c0_i32_117_r4 : BitVec 32 := 0#32
  let c0_i32_118_r4 : BitVec 32 := 0#32
  ![v164_r4.toNat, 0, 0]
def k6_cond16 (i : grid6.Coords) (k6_t3 : Fin k6_t3_loop.trips) (arg12_r4 : BitVec 32) : BitVec 1 :=
  let c1536_i32_77_r4 : BitVec 32 := 1536#32
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v78_r4 : BitVec 32 := Scalar.addi arg12_r4 v14
  let v94_r4 : BitVec 32 := Scalar.addi c1536_i32_77_r4 v78_r4
  let c1536_i32_89_r4 : BitVec 32 := 1536#32
  let true_66_r4 : BitVec 1 := 1#1
  let c1_i32_65_r4 : BitVec 32 := 1#32
  let v79_r4 : BitVec 32 := Scalar.subi arg12_r4 c1_i32_65_r4
  let v80_r4 : BitVec 32 := Scalar.select true_66_r4 v79_r4 arg12_r4
  let c_m1_i32_67_r4 : BitVec 32 := 4294967295#32
  let v81_r4 : BitVec 1 := Scalar.cmpi .eq v80_r4 c_m1_i32_67_r4
  let c15_i32_68_r4 : BitVec 32 := 15#32
  let v82_r4 : BitVec 32 := Scalar.select v81_r4 c15_i32_68_r4 v80_r4
  let v83_r4 : BitVec 32 := Scalar.addi v82_r4 v14
  let v112_r4 : BitVec 32 := Scalar.addi c1536_i32_89_r4 v83_r4
  let v113_r4 : BitVec 1 := Scalar.cmpi .ne v94_r4 v112_r4
  let c0_i32_35_r4 : BitVec 32 := 0#32
  let c1_i32_37_r4 : BitVec 32 := 1#32
  let arg7_r4 : BitVec 32 := Scf.iv c0_i32_35_r4 c1_i32_37_r4 k6_t3
  let c0_i32_63_r4 : BitVec 32 := 0#32
  let v76_r4 : BitVec 1 := Scalar.cmpi .eq arg7_r4 c0_i32_63_r4
  let v114_r4 : BitVec 1 := Scalar.ori v113_r4 v76_r4
  let c0_i32_90_r4 : BitVec 32 := 0#32
  let v115_r4 : BitVec 1 := Scalar.cmpi .sge arg7_r4 c0_i32_90_r4
  let v116_r4 : BitVec 1 := Scalar.andi v114_r4 v115_r4
  let v117_r4 : BitVec 32 := Scalar.extui v116_r4
  let c0_i32_91_r4 : BitVec 32 := 0#32
  let v118_r4 : BitVec 1 := Scalar.cmpi .ne v117_r4 c0_i32_91_r4
  v118_r4

def k6_off50 (i : grid6.Coords) (arg12_r4 : BitVec 32) : Fin 2 → Nat :=
  let c2_i32_119_r4 : BitVec 32 := 2#32
  let c256_i32_115_r4 : BitVec 32 := 256#32
  let c1536_i32_114_r4 : BitVec 32 := 1536#32
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v78_r4 : BitVec 32 := Scalar.addi arg12_r4 v14
  let v162_r4 : BitVec 32 := Scalar.addi c1536_i32_114_r4 v78_r4
  let v163_r4 : BitVec 32 := Scalar.muli c256_i32_115_r4 v162_r4
  ![2, v163_r4.toNat]
def k6_off51 (arg9_r4 : BitVec 32) : Fin 1 → Nat :=
  let c2_i32_116_r4 : BitVec 32 := 2#32
  let v164_r4 : BitVec 32 := Scalar.remui arg9_r4 c2_i32_116_r4
  ![v164_r4.toNat]
def k6_off52 (arg10_r4 : BitVec 32) : Fin 3 → Nat :=
  let c2_i32_96_r4 : BitVec 32 := 2#32
  let v127_r4 : BitVec 32 := Scalar.remui arg10_r4 c2_i32_96_r4
  let c0_i32_114_r5 : BitVec 32 := 0#32
  let c0_i32_115_r5 : BitVec 32 := 0#32
  ![v127_r4.toNat, 0, 0]

def k6_chk12 (arg10_r4 : BitVec 32) : Prop :=
  (∀ a, (k6_off52 arg10_r4) a + S1x256x128.size a ≤ S2x256x128.size a)
theorem k6_off52_inb : ∀ (arg10_r4 : BitVec 32) (k6_hw12 : k6_chk12 arg10_r4), ∀ a, (k6_off52 arg10_r4) a + S1x256x128.size a ≤ S2x256x128.size a := fun arg10_r4 k6_hw12 => k6_hw12

def k6_off53 (arg9_r4 : BitVec 32) : Fin 3 → Nat :=
  let c2_i32_95_r4 : BitVec 32 := 2#32
  let v126_r4 : BitVec 32 := Scalar.remui arg9_r4 c2_i32_95_r4
  let c0_i32_116_r5 : BitVec 32 := 0#32
  let c0_i32_117_r5 : BitVec 32 := 0#32
  ![v126_r4.toNat, 0, 0]

def k6_chk13 (arg9_r4 : BitVec 32) : Prop :=
  (∀ a, (k6_off53 arg9_r4) a + S1x1x256.size a ≤ S2x1x256.size a)
theorem k6_off53_inb : ∀ (arg9_r4 : BitVec 32) (k6_hw13 : k6_chk13 arg9_r4), ∀ a, (k6_off53 arg9_r4) a + S1x1x256.size a ≤ S2x1x256.size a := fun arg9_r4 k6_hw13 => k6_hw13

def k6_off54 (arg10_r4 : BitVec 32) : Fin 3 → Nat :=
  let c2_i32_114_r4 : BitVec 32 := 2#32
  let v162_r4 : BitVec 32 := Scalar.remui arg10_r4 c2_i32_114_r4
  let c0_i32_117_r4 : BitVec 32 := 0#32
  let c0_i32_118_r4 : BitVec 32 := 0#32
  ![v162_r4.toNat, 0, 0]
def k6_cond19 (i : grid6.Coords) (k6_t3 : Fin k6_t3_loop.trips) (arg12_r4 : BitVec 32) : BitVec 1 :=
  let c1024_i32_85_r4 : BitVec 32 := 1024#32
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v78_r4 : BitVec 32 := Scalar.addi arg12_r4 v14
  let v106_r4 : BitVec 32 := Scalar.addi c1024_i32_85_r4 v78_r4
  let c1024_i32_86_r4 : BitVec 32 := 1024#32
  let true_70_r4 : BitVec 1 := 1#1
  let c1_i32_69_r4 : BitVec 32 := 1#32
  let v84_r4 : BitVec 32 := Scalar.addi arg12_r4 c1_i32_69_r4
  let v85_r4 : BitVec 32 := Scalar.select true_70_r4 v84_r4 arg12_r4
  let c16_i32_71_r4 : BitVec 32 := 16#32
  let v86_r4 : BitVec 1 := Scalar.cmpi .eq v85_r4 c16_i32_71_r4
  let c0_i32_72_r4 : BitVec 32 := 0#32
  let v87_r4 : BitVec 32 := Scalar.select v86_r4 c0_i32_72_r4 v85_r4
  let v88_r4 : BitVec 32 := Scalar.addi v87_r4 v14
  let v107_r4 : BitVec 32 := Scalar.addi c1024_i32_86_r4 v88_r4
  let v133_r4 : BitVec 1 := Scalar.cmpi .ne v106_r4 v107_r4
  let c0_i32_35_r4 : BitVec 32 := 0#32
  let c1_i32_37_r4 : BitVec 32 := 1#32
  let arg7_r4 : BitVec 32 := Scf.iv c0_i32_35_r4 c1_i32_37_r4 k6_t3
  let c15_i32_64_r4 : BitVec 32 := 15#32
  let v77_r4 : BitVec 1 := Scalar.cmpi .eq arg7_r4 c15_i32_64_r4
  let v134_r4 : BitVec 1 := Scalar.ori v133_r4 v77_r4
  let v135_r4 : BitVec 32 := Scalar.extui v134_r4
  let c0_i32_99_r4 : BitVec 32 := 0#32
  let v136_r4 : BitVec 1 := Scalar.cmpi .ne v135_r4 c0_i32_99_r4
  v136_r4

def k6_off55 (i : grid6.Coords) (arg12_r4 : BitVec 32) : Fin 2 → Nat :=
  let c256_i32_116_r4 : BitVec 32 := 256#32
  let c1024_i32_115_r4 : BitVec 32 := 1024#32
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v78_r4 : BitVec 32 := Scalar.addi arg12_r4 v14
  let v163_r4 : BitVec 32 := Scalar.addi c1024_i32_115_r4 v78_r4
  let v164_r4 : BitVec 32 := Scalar.muli c256_i32_116_r4 v163_r4
  let c0_i32_119_r4 : BitVec 32 := 0#32
  ![v164_r4.toNat, 0]
def k6_off56 (arg10_r4 : BitVec 32) : Fin 1 → Nat :=
  let c2_i32_114_r4 : BitVec 32 := 2#32
  let v162_r4 : BitVec 32 := Scalar.remui arg10_r4 c2_i32_114_r4
  ![v162_r4.toNat]
def k6_off57 (arg11_r4 : BitVec 32) : Fin 3 → Nat :=
  let c2_i32_114_r4 : BitVec 32 := 2#32
  let v162_r4 : BitVec 32 := Scalar.remui arg11_r4 c2_i32_114_r4
  let c0_i32_117_r4 : BitVec 32 := 0#32
  let c0_i32_118_r4 : BitVec 32 := 0#32
  ![v162_r4.toNat, 0, 0]
def k6_cond21 (i : grid6.Coords) (k6_t3 : Fin k6_t3_loop.trips) (arg12_r4 : BitVec 32) : BitVec 1 :=
  let c1024_i32_85_r4 : BitVec 32 := 1024#32
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v78_r4 : BitVec 32 := Scalar.addi arg12_r4 v14
  let v106_r4 : BitVec 32 := Scalar.addi c1024_i32_85_r4 v78_r4
  let c1024_i32_92_r4 : BitVec 32 := 1024#32
  let true_66_r4 : BitVec 1 := 1#1
  let c1_i32_65_r4 : BitVec 32 := 1#32
  let v79_r4 : BitVec 32 := Scalar.subi arg12_r4 c1_i32_65_r4
  let v80_r4 : BitVec 32 := Scalar.select true_66_r4 v79_r4 arg12_r4
  let c_m1_i32_67_r4 : BitVec 32 := 4294967295#32
  let v81_r4 : BitVec 1 := Scalar.cmpi .eq v80_r4 c_m1_i32_67_r4
  let c15_i32_68_r4 : BitVec 32 := 15#32
  let v82_r4 : BitVec 32 := Scalar.select v81_r4 c15_i32_68_r4 v80_r4
  let v83_r4 : BitVec 32 := Scalar.addi v82_r4 v14
  let v119_r4 : BitVec 32 := Scalar.addi c1024_i32_92_r4 v83_r4
  let v146_r4 : BitVec 1 := Scalar.cmpi .ne v106_r4 v119_r4
  let c0_i32_35_r4 : BitVec 32 := 0#32
  let c1_i32_37_r4 : BitVec 32 := 1#32
  let arg7_r4 : BitVec 32 := Scf.iv c0_i32_35_r4 c1_i32_37_r4 k6_t3
  let c0_i32_63_r4 : BitVec 32 := 0#32
  let v76_r4 : BitVec 1 := Scalar.cmpi .eq arg7_r4 c0_i32_63_r4
  let true_105_r4 : BitVec 1 := 1#1
  let v147_r4 : BitVec 1 := Scalar.xori v76_r4 true_105_r4
  let v148_r4 : BitVec 1 := Scalar.andi v146_r4 v147_r4
  let v149_r4 : BitVec 32 := Scalar.extui v148_r4
  let c0_i32_106_r4 : BitVec 32 := 0#32
  let v150_r4 : BitVec 1 := Scalar.cmpi .ne v149_r4 c0_i32_106_r4
  v150_r4

def k6_off58 (i : grid6.Coords) (arg12_r4 : BitVec 32) : Fin 2 → Nat :=
  let c256_i32_116_r4 : BitVec 32 := 256#32
  let c1024_i32_115_r4 : BitVec 32 := 1024#32
  let true_66_r4 : BitVec 1 := 1#1
  let c1_i32_65_r4 : BitVec 32 := 1#32
  let v79_r4 : BitVec 32 := Scalar.subi arg12_r4 c1_i32_65_r4
  let v80_r4 : BitVec 32 := Scalar.select true_66_r4 v79_r4 arg12_r4
  let c_m1_i32_67_r4 : BitVec 32 := 4294967295#32
  let v81_r4 : BitVec 1 := Scalar.cmpi .eq v80_r4 c_m1_i32_67_r4
  let c15_i32_68_r4 : BitVec 32 := 15#32
  let v82_r4 : BitVec 32 := Scalar.select v81_r4 c15_i32_68_r4 v80_r4
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v83_r4 : BitVec 32 := Scalar.addi v82_r4 v14
  let v163_r4 : BitVec 32 := Scalar.addi c1024_i32_115_r4 v83_r4
  let v164_r4 : BitVec 32 := Scalar.muli c256_i32_116_r4 v163_r4
  let c0_i32_119_r4 : BitVec 32 := 0#32
  ![v164_r4.toNat, 0]
def k6_off59 (arg11_r4 : BitVec 32) : Fin 1 → Nat :=
  let c2_i32_114_r4 : BitVec 32 := 2#32
  let v162_r4 : BitVec 32 := Scalar.remui arg11_r4 c2_i32_114_r4
  ![v162_r4.toNat]

def k6_chk11 (i : grid6.Coords) (k6_t3 : Fin k6_t3_loop.trips) (arg8_r4 : BitVec 32) (arg9_r4 : BitVec 32) (arg10_r4 : BitVec 32) (arg11_r4 : BitVec 32) (arg12_r4 : BitVec 32) : Prop :=
  (∀ (k6_h15 : k6_cond15 i k6_t3 arg12_r4 = 1#1), ∀ a, (k6_off46 arg8_r4) a + S1x1x256.size a ≤ S2x1x256.size a) ∧
  (∀ (k6_h15 : k6_cond15 i k6_t3 arg12_r4 = 1#1), ∀ a, (k6_off47 i arg12_r4) a + S1x256.size a ≤ S3x1048576.size a) ∧
  (∀ (k6_h15 : k6_cond15 i k6_t3 arg12_r4 = 1#1), ∀ a, (k6_off48 arg8_r4) a + S1.size a ≤ S2.size a) ∧
  (∀ (k6_h16 : k6_cond16 i k6_t3 arg12_r4 = 1#1), ∀ a, (k6_off49 arg9_r4) a + S1x1x256.size a ≤ S2x1x256.size a) ∧
  (∀ (k6_h16 : k6_cond16 i k6_t3 arg12_r4 = 1#1), ∀ a, (k6_off50 i arg12_r4) a + S1x256.size a ≤ S3x1048576.size a) ∧
  (∀ (k6_h16 : k6_cond16 i k6_t3 arg12_r4 = 1#1), ∀ a, (k6_off51 arg9_r4) a + S1.size a ≤ S2.size a) ∧
  (∀ (k6_h19 : k6_cond19 i k6_t3 arg12_r4 = 1#1), ∀ a, (k6_off54 arg10_r4) a + S1x256x128.size a ≤ S2x256x128.size a) ∧
  (∀ (k6_h19 : k6_cond19 i k6_t3 arg12_r4 = 1#1), ∀ a, (k6_off55 i arg12_r4) a + S256x128.size a ≤ S393216x128.size a) ∧
  (∀ (k6_h19 : k6_cond19 i k6_t3 arg12_r4 = 1#1), ∀ a, (k6_off56 arg10_r4) a + S1.size a ≤ S2.size a) ∧
  (∀ (k6_h21 : k6_cond21 i k6_t3 arg12_r4 = 1#1), ∀ a, (k6_off57 arg11_r4) a + S1x256x128.size a ≤ S2x256x128.size a) ∧
  (∀ (k6_h21 : k6_cond21 i k6_t3 arg12_r4 = 1#1), ∀ a, (k6_off58 i arg12_r4) a + S256x128.size a ≤ S393216x128.size a) ∧
  (∀ (k6_h21 : k6_cond21 i k6_t3 arg12_r4 = 1#1), ∀ a, (k6_off59 arg11_r4) a + S1.size a ≤ S2.size a)
theorem k6_off46_inb : ∀ (i : grid6.Coords) (k6_t3 : Fin k6_t3_loop.trips) (arg8_r4 : BitVec 32) (arg9_r4 : BitVec 32) (arg10_r4 : BitVec 32) (arg11_r4 : BitVec 32) (arg12_r4 : BitVec 32) (k6_hw11 : k6_chk11 i k6_t3 arg8_r4 arg9_r4 arg10_r4 arg11_r4 arg12_r4), ∀ (k6_h15 : k6_cond15 i k6_t3 arg12_r4 = 1#1), ∀ a, (k6_off46 arg8_r4) a + S1x1x256.size a ≤ S2x1x256.size a := fun i k6_t3 arg8_r4 arg9_r4 arg10_r4 arg11_r4 arg12_r4 k6_hw11 k6_h15 => k6_hw11.1 k6_h15
theorem k6_off47_inb : ∀ (i : grid6.Coords) (k6_t3 : Fin k6_t3_loop.trips) (arg8_r4 : BitVec 32) (arg9_r4 : BitVec 32) (arg10_r4 : BitVec 32) (arg11_r4 : BitVec 32) (arg12_r4 : BitVec 32) (k6_hw11 : k6_chk11 i k6_t3 arg8_r4 arg9_r4 arg10_r4 arg11_r4 arg12_r4), ∀ (k6_h15 : k6_cond15 i k6_t3 arg12_r4 = 1#1), ∀ a, (k6_off47 i arg12_r4) a + S1x256.size a ≤ S3x1048576.size a := fun i k6_t3 arg8_r4 arg9_r4 arg10_r4 arg11_r4 arg12_r4 k6_hw11 k6_h15 => k6_hw11.2.1 k6_h15
theorem k6_off48_inb : ∀ (i : grid6.Coords) (k6_t3 : Fin k6_t3_loop.trips) (arg8_r4 : BitVec 32) (arg9_r4 : BitVec 32) (arg10_r4 : BitVec 32) (arg11_r4 : BitVec 32) (arg12_r4 : BitVec 32) (k6_hw11 : k6_chk11 i k6_t3 arg8_r4 arg9_r4 arg10_r4 arg11_r4 arg12_r4), ∀ (k6_h15 : k6_cond15 i k6_t3 arg12_r4 = 1#1), ∀ a, (k6_off48 arg8_r4) a + S1.size a ≤ S2.size a := fun i k6_t3 arg8_r4 arg9_r4 arg10_r4 arg11_r4 arg12_r4 k6_hw11 k6_h15 => k6_hw11.2.2.1 k6_h15
theorem k6_off49_inb : ∀ (i : grid6.Coords) (k6_t3 : Fin k6_t3_loop.trips) (arg8_r4 : BitVec 32) (arg9_r4 : BitVec 32) (arg10_r4 : BitVec 32) (arg11_r4 : BitVec 32) (arg12_r4 : BitVec 32) (k6_hw11 : k6_chk11 i k6_t3 arg8_r4 arg9_r4 arg10_r4 arg11_r4 arg12_r4), ∀ (k6_h16 : k6_cond16 i k6_t3 arg12_r4 = 1#1), ∀ a, (k6_off49 arg9_r4) a + S1x1x256.size a ≤ S2x1x256.size a := fun i k6_t3 arg8_r4 arg9_r4 arg10_r4 arg11_r4 arg12_r4 k6_hw11 k6_h16 => k6_hw11.2.2.2.1 k6_h16
theorem k6_off50_inb : ∀ (i : grid6.Coords) (k6_t3 : Fin k6_t3_loop.trips) (arg8_r4 : BitVec 32) (arg9_r4 : BitVec 32) (arg10_r4 : BitVec 32) (arg11_r4 : BitVec 32) (arg12_r4 : BitVec 32) (k6_hw11 : k6_chk11 i k6_t3 arg8_r4 arg9_r4 arg10_r4 arg11_r4 arg12_r4), ∀ (k6_h16 : k6_cond16 i k6_t3 arg12_r4 = 1#1), ∀ a, (k6_off50 i arg12_r4) a + S1x256.size a ≤ S3x1048576.size a := fun i k6_t3 arg8_r4 arg9_r4 arg10_r4 arg11_r4 arg12_r4 k6_hw11 k6_h16 => k6_hw11.2.2.2.2.1 k6_h16
theorem k6_off51_inb : ∀ (i : grid6.Coords) (k6_t3 : Fin k6_t3_loop.trips) (arg8_r4 : BitVec 32) (arg9_r4 : BitVec 32) (arg10_r4 : BitVec 32) (arg11_r4 : BitVec 32) (arg12_r4 : BitVec 32) (k6_hw11 : k6_chk11 i k6_t3 arg8_r4 arg9_r4 arg10_r4 arg11_r4 arg12_r4), ∀ (k6_h16 : k6_cond16 i k6_t3 arg12_r4 = 1#1), ∀ a, (k6_off51 arg9_r4) a + S1.size a ≤ S2.size a := fun i k6_t3 arg8_r4 arg9_r4 arg10_r4 arg11_r4 arg12_r4 k6_hw11 k6_h16 => k6_hw11.2.2.2.2.2.1 k6_h16
theorem k6_off54_inb : ∀ (i : grid6.Coords) (k6_t3 : Fin k6_t3_loop.trips) (arg8_r4 : BitVec 32) (arg9_r4 : BitVec 32) (arg10_r4 : BitVec 32) (arg11_r4 : BitVec 32) (arg12_r4 : BitVec 32) (k6_hw11 : k6_chk11 i k6_t3 arg8_r4 arg9_r4 arg10_r4 arg11_r4 arg12_r4), ∀ (k6_h19 : k6_cond19 i k6_t3 arg12_r4 = 1#1), ∀ a, (k6_off54 arg10_r4) a + S1x256x128.size a ≤ S2x256x128.size a := fun i k6_t3 arg8_r4 arg9_r4 arg10_r4 arg11_r4 arg12_r4 k6_hw11 k6_h19 => k6_hw11.2.2.2.2.2.2.1 k6_h19
theorem k6_off55_inb : ∀ (i : grid6.Coords) (k6_t3 : Fin k6_t3_loop.trips) (arg8_r4 : BitVec 32) (arg9_r4 : BitVec 32) (arg10_r4 : BitVec 32) (arg11_r4 : BitVec 32) (arg12_r4 : BitVec 32) (k6_hw11 : k6_chk11 i k6_t3 arg8_r4 arg9_r4 arg10_r4 arg11_r4 arg12_r4), ∀ (k6_h19 : k6_cond19 i k6_t3 arg12_r4 = 1#1), ∀ a, (k6_off55 i arg12_r4) a + S256x128.size a ≤ S393216x128.size a := fun i k6_t3 arg8_r4 arg9_r4 arg10_r4 arg11_r4 arg12_r4 k6_hw11 k6_h19 => k6_hw11.2.2.2.2.2.2.2.1 k6_h19
theorem k6_off56_inb : ∀ (i : grid6.Coords) (k6_t3 : Fin k6_t3_loop.trips) (arg8_r4 : BitVec 32) (arg9_r4 : BitVec 32) (arg10_r4 : BitVec 32) (arg11_r4 : BitVec 32) (arg12_r4 : BitVec 32) (k6_hw11 : k6_chk11 i k6_t3 arg8_r4 arg9_r4 arg10_r4 arg11_r4 arg12_r4), ∀ (k6_h19 : k6_cond19 i k6_t3 arg12_r4 = 1#1), ∀ a, (k6_off56 arg10_r4) a + S1.size a ≤ S2.size a := fun i k6_t3 arg8_r4 arg9_r4 arg10_r4 arg11_r4 arg12_r4 k6_hw11 k6_h19 => k6_hw11.2.2.2.2.2.2.2.2.1 k6_h19
theorem k6_off57_inb : ∀ (i : grid6.Coords) (k6_t3 : Fin k6_t3_loop.trips) (arg8_r4 : BitVec 32) (arg9_r4 : BitVec 32) (arg10_r4 : BitVec 32) (arg11_r4 : BitVec 32) (arg12_r4 : BitVec 32) (k6_hw11 : k6_chk11 i k6_t3 arg8_r4 arg9_r4 arg10_r4 arg11_r4 arg12_r4), ∀ (k6_h21 : k6_cond21 i k6_t3 arg12_r4 = 1#1), ∀ a, (k6_off57 arg11_r4) a + S1x256x128.size a ≤ S2x256x128.size a := fun i k6_t3 arg8_r4 arg9_r4 arg10_r4 arg11_r4 arg12_r4 k6_hw11 k6_h21 => k6_hw11.2.2.2.2.2.2.2.2.2.1 k6_h21
theorem k6_off58_inb : ∀ (i : grid6.Coords) (k6_t3 : Fin k6_t3_loop.trips) (arg8_r4 : BitVec 32) (arg9_r4 : BitVec 32) (arg10_r4 : BitVec 32) (arg11_r4 : BitVec 32) (arg12_r4 : BitVec 32) (k6_hw11 : k6_chk11 i k6_t3 arg8_r4 arg9_r4 arg10_r4 arg11_r4 arg12_r4), ∀ (k6_h21 : k6_cond21 i k6_t3 arg12_r4 = 1#1), ∀ a, (k6_off58 i arg12_r4) a + S256x128.size a ≤ S393216x128.size a := fun i k6_t3 arg8_r4 arg9_r4 arg10_r4 arg11_r4 arg12_r4 k6_hw11 k6_h21 => k6_hw11.2.2.2.2.2.2.2.2.2.2.1 k6_h21
theorem k6_off59_inb : ∀ (i : grid6.Coords) (k6_t3 : Fin k6_t3_loop.trips) (arg8_r4 : BitVec 32) (arg9_r4 : BitVec 32) (arg10_r4 : BitVec 32) (arg11_r4 : BitVec 32) (arg12_r4 : BitVec 32) (k6_hw11 : k6_chk11 i k6_t3 arg8_r4 arg9_r4 arg10_r4 arg11_r4 arg12_r4), ∀ (k6_h21 : k6_cond21 i k6_t3 arg12_r4 = 1#1), ∀ a, (k6_off59 arg11_r4) a + S1.size a ≤ S2.size a := fun i k6_t3 arg8_r4 arg9_r4 arg10_r4 arg11_r4 arg12_r4 k6_hw11 k6_h21 => k6_hw11.2.2.2.2.2.2.2.2.2.2.2 k6_h21

def k6_off60 (v44_3_r4 : BitVec 32) : Fin 3 → Nat :=
  let c2_i32_55_r4 : BitVec 32 := 2#32
  let v65_r4 : BitVec 32 := Scalar.remui v44_3_r4 c2_i32_55_r4
  let c0_i32_57_r4 : BitVec 32 := 0#32
  let c0_i32_58_r4 : BitVec 32 := 0#32
  ![v65_r4.toNat, 0, 0]

def k6_off61 (i : grid6.Coords) (v44_4_r4 : BitVec 32) : Fin 2 → Nat :=
  let c256_i32_56_r4 : BitVec 32 := 256#32
  let c1024_i32_r4 : BitVec 32 := 1024#32
  let true_40_r4 : BitVec 1 := 1#1
  let c1_i32_39_r4 : BitVec 32 := 1#32
  let v45_r4 : BitVec 32 := Scalar.subi v44_4_r4 c1_i32_39_r4
  let v46_r4 : BitVec 32 := Scalar.select true_40_r4 v45_r4 v44_4_r4
  let c_m1_i32_41_r4 : BitVec 32 := 4294967295#32
  let v47_r4 : BitVec 1 := Scalar.cmpi .eq v46_r4 c_m1_i32_41_r4
  let c15_i32_42_r4 : BitVec 32 := 15#32
  let v48_r4 : BitVec 32 := Scalar.select v47_r4 c15_i32_42_r4 v46_r4
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v49_r4 : BitVec 32 := Scalar.addi v48_r4 v14
  let v66_r4 : BitVec 32 := Scalar.addi c1024_i32_r4 v49_r4
  let v67_r4 : BitVec 32 := Scalar.muli c256_i32_56_r4 v66_r4
  let c0_i32_59_r4 : BitVec 32 := 0#32
  ![v67_r4.toNat, 0]

def k6_chk15 (i : grid6.Coords) (v44_4_r4 : BitVec 32) : Prop :=
  (∀ a, (k6_off61 i v44_4_r4) a + S256x128.size a ≤ S393216x128.size a)
theorem k6_off61_inb : ∀ (i : grid6.Coords) (v44_4_r4 : BitVec 32) (k6_hw15 : k6_chk15 i v44_4_r4), ∀ a, (k6_off61 i v44_4_r4) a + S256x128.size a ≤ S393216x128.size a := fun i v44_4_r4 k6_hw15 => k6_hw15

def k6_off62 (v44_3_r4 : BitVec 32) : Fin 1 → Nat :=
  let c2_i32_55_r4 : BitVec 32 := 2#32
  let v65_r4 : BitVec 32 := Scalar.remui v44_3_r4 c2_i32_55_r4
  ![v65_r4.toNat]
def k6_off63 (v44_3_r4 : BitVec 32) : Fin 3 → Nat :=
  let c2_i32_55_r4 : BitVec 32 := 2#32
  let v65_r4 : BitVec 32 := Scalar.remui v44_3_r4 c2_i32_55_r4
  let c0_i32_61_r4 : BitVec 32 := 0#32
  let c0_i32_62_r4 : BitVec 32 := 0#32
  ![v65_r4.toNat, 0, 0]

def k6_chk14 (v44_3_r4 : BitVec 32) : Prop :=
  (∀ a, (k6_off60 v44_3_r4) a + S1x256x128.size a ≤ S2x256x128.size a) ∧
  (∀ a, (k6_off62 v44_3_r4) a + S1.size a ≤ S2.size a) ∧
  (∀ a, (k6_off63 v44_3_r4) a + S1x256x128.size a ≤ S2x256x128.size a)
theorem k6_off60_inb : ∀ (v44_3_r4 : BitVec 32) (k6_hw14 : k6_chk14 v44_3_r4), ∀ a, (k6_off60 v44_3_r4) a + S1x256x128.size a ≤ S2x256x128.size a := fun v44_3_r4 k6_hw14 => k6_hw14.1
theorem k6_off62_inb : ∀ (v44_3_r4 : BitVec 32) (k6_hw14 : k6_chk14 v44_3_r4), ∀ a, (k6_off62 v44_3_r4) a + S1.size a ≤ S2.size a := fun v44_3_r4 k6_hw14 => k6_hw14.2.1
theorem k6_off63_inb : ∀ (v44_3_r4 : BitVec 32) (k6_hw14 : k6_chk14 v44_3_r4), ∀ a, (k6_off63 v44_3_r4) a + S1x256x128.size a ≤ S2x256x128.size a := fun v44_3_r4 k6_hw14 => k6_hw14.2.2

abbrev grid7 : Pipeline.Grid := ⟨1, ![64], ![false]⟩

def cc7_transform_1 (i : grid7.Coords) : Fin 2 → Nat :=
  let arg0 : BitVec 32 := BitVec.ofNat 32 (i 0).val
  let c192_i32 : BitVec 32 := 192#32
  let v0 : BitVec 32 := Scalar.addi c192_i32 arg0
  let c0_i32 : BitVec 32 := 0#32
  let c0_i32_0 : BitVec 32 := 0#32
  ![c0_i32.toNat, v0.toNat]

def cc7_transform_2 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c192_i32 : BitVec 32 := 192#32
  let v0 : BitVec 32 := Scalar.addi c192_i32 arg0
  let c0_i32 : BitVec 32 := 0#32
  let c0_i32_0 : BitVec 32 := 0#32
  ![c0_i32.toNat, v0.toNat]

abbrev stage7_0 : Fin 2 → Memref sig .tc .vmem S16x2048 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S3x2048x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S16x384 .bf16 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x32 .bf16 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S32x2048 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨2, ![2, 16], ![false, false]⟩

def k8_off1 : Fin 3 → Nat :=
  let c0_i32_22_r0 : BitVec 32 := 0#32
  let c2_i32_r0 : BitVec 32 := 2#32
  let v31_r0 : BitVec 32 := Scalar.remui c0_i32_22_r0 c2_i32_r0
  let c0_i32_23_r0 : BitVec 32 := 0#32
  let c0_i32_24_r0 : BitVec 32 := 0#32
  ![v31_r0.toNat, 0, 0]
def k8_off2 (i : grid8.Coords) : Fin 2 → Nat :=
  let c0_i32_25_r0 : BitVec 32 := 0#32
  let c256_i32_r0 : BitVec 32 := 256#32
  let c2048_i32_r0 : BitVec 32 := 2048#32
  let c0_i32_10_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v17_r0 : BitVec 32 := Scalar.addi c0_i32_10_r0 v4
  let v32_r0 : BitVec 32 := Scalar.addi c2048_i32_r0 v17_r0
  let v33_r0 : BitVec 32 := Scalar.muli c256_i32_r0 v32_r0
  ![0, v33_r0.toNat]
def k8_off3 : Fin 1 → Nat :=
  let c0_i32_22_r0 : BitVec 32 := 0#32
  let c2_i32_r0 : BitVec 32 := 2#32
  let v31_r0 : BitVec 32 := Scalar.remui c0_i32_22_r0 c2_i32_r0
  ![v31_r0.toNat]
@[reducible] def k8_t1_loop : Scf.Loop 32 :=
  let c0_i32_35_r0 : BitVec 32 := 0#32
  let c16_i32_36_r0 : BitVec 32 := 16#32
  let v43_r0 : BitVec 32 := Scalar.addi c0_i32_35_r0 c16_i32_36_r0
  let c1_i32_37_r0 : BitVec 32 := 1#32
  ⟨c0_i32_35_r0, v43_r0, c1_i32_37_r0⟩
def k8_off4 (arg8_r0 : BitVec 32) : Fin 3 → Nat :=
  let c2_i32_115_r0 : BitVec 32 := 2#32
  let v162_r0 : BitVec 32 := Scalar.remui arg8_r0 c2_i32_115_r0
  let c0_i32_118_r0 : BitVec 32 := 0#32
  let c0_i32_119_r0 : BitVec 32 := 0#32
  ![v162_r0.toNat, 0, 0]
def k8_cond1 (i : grid8.Coords) (k8_t1 : Fin k8_t1_loop.trips) (arg12_r0 : BitVec 32) : BitVec 1 :=
  let c2048_i32_78_r0 : BitVec 32 := 2048#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v78_r0 : BitVec 32 := Scalar.addi arg12_r0 v4
  let v94_r0 : BitVec 32 := Scalar.addi c2048_i32_78_r0 v78_r0
  let c2048_i32_79_r0 : BitVec 32 := 2048#32
  let true_71_r0 : BitVec 1 := 1#1
  let c1_i32_70_r0 : BitVec 32 := 1#32
  let v84_r0 : BitVec 32 := Scalar.addi arg12_r0 c1_i32_70_r0
  let v85_r0 : BitVec 32 := Scalar.select true_71_r0 v84_r0 arg12_r0
  let c16_i32_72_r0 : BitVec 32 := 16#32
  let v86_r0 : BitVec 1 := Scalar.cmpi .eq v85_r0 c16_i32_72_r0
  let c0_i32_73_r0 : BitVec 32 := 0#32
  let v87_r0 : BitVec 32 := Scalar.select v86_r0 c0_i32_73_r0 v85_r0
  let v88_r0 : BitVec 32 := Scalar.addi v87_r0 v4
  let v95_r0 : BitVec 32 := Scalar.addi c2048_i32_79_r0 v88_r0
  let v96_r0 : BitVec 1 := Scalar.cmpi .ne v94_r0 v95_r0
  let c0_i32_35_r0 : BitVec 32 := 0#32
  let c1_i32_37_r0 : BitVec 32 := 1#32
  let arg7_r0 : BitVec 32 := Scf.iv c0_i32_35_r0 c1_i32_37_r0 k8_t1
  let c15_i32_80_r0 : BitVec 32 := 15#32
  let v97_r0 : BitVec 1 := Scalar.cmpi .sge arg7_r0 c15_i32_80_r0
  let true_81_r0 : BitVec 1 := 1#1
  let v98_r0 : BitVec 1 := Scalar.xori v97_r0 true_81_r0
  let v99_r0 : BitVec 1 := Scalar.andi v96_r0 v98_r0
  let true_82_r0 : BitVec 1 := 1#1
  let v100_r0 : BitVec 1 := Scalar.andi v99_r0 true_82_r0
  let v101_r0 : BitVec 32 := Scalar.extui v100_r0
  let c0_i32_83_r0 : BitVec 32 := 0#32
  let v102_r0 : BitVec 1 := Scalar.cmpi .ne v101_r0 c0_i32_83_r0
  v102_r0

def k8_off5 (i : grid8.Coords) (arg12_r0 : BitVec 32) : Fin 2 → Nat :=
  let c0_i32_120_r0 : BitVec 32 := 0#32
  let c256_i32_117_r0 : BitVec 32 := 256#32
  let c2048_i32_116_r0 : BitVec 32 := 2048#32
  let true_71_r0 : BitVec 1 := 1#1
  let c1_i32_70_r0 : BitVec 32 := 1#32
  let v84_r0 : BitVec 32 := Scalar.addi arg12_r0 c1_i32_70_r0
  let v85_r0 : BitVec 32 := Scalar.select true_71_r0 v84_r0 arg12_r0
  let c16_i32_72_r0 : BitVec 32 := 16#32
  let v86_r0 : BitVec 1 := Scalar.cmpi .eq v85_r0 c16_i32_72_r0
  let c0_i32_73_r0 : BitVec 32 := 0#32
  let v87_r0 : BitVec 32 := Scalar.select v86_r0 c0_i32_73_r0 v85_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v88_r0 : BitVec 32 := Scalar.addi v87_r0 v4
  let v163_r0 : BitVec 32 := Scalar.addi c2048_i32_116_r0 v88_r0
  let v164_r0 : BitVec 32 := Scalar.muli c256_i32_117_r0 v163_r0
  ![0, v164_r0.toNat]
def k8_off6 (arg8_r0 : BitVec 32) : Fin 1 → Nat :=
  let c2_i32_115_r0 : BitVec 32 := 2#32
  let v162_r0 : BitVec 32 := Scalar.remui arg8_r0 c2_i32_115_r0
  ![v162_r0.toNat]
def k8_off7 (arg9_r0 : BitVec 32) : Fin 3 → Nat :=
  let c2_i32_117_r0 : BitVec 32 := 2#32
  let v164_r0 : BitVec 32 := Scalar.remui arg9_r0 c2_i32_117_r0
  let c0_i32_118_r0 : BitVec 32 := 0#32
  let c0_i32_119_r0 : BitVec 32 := 0#32
  ![v164_r0.toNat, 0, 0]
def k8_cond2 (i : grid8.Coords) (k8_t1 : Fin k8_t1_loop.trips) (arg12_r0 : BitVec 32) : BitVec 1 :=
  let c2048_i32_78_r0 : BitVec 32 := 2048#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v78_r0 : BitVec 32 := Scalar.addi arg12_r0 v4
  let v94_r0 : BitVec 32 := Scalar.addi c2048_i32_78_r0 v78_r0
  let c2048_i32_90_r0 : BitVec 32 := 2048#32
  let true_67_r0 : BitVec 1 := 1#1
  let c1_i32_66_r0 : BitVec 32 := 1#32
  let v79_r0 : BitVec 32 := Scalar.subi arg12_r0 c1_i32_66_r0
  let v80_r0 : BitVec 32 := Scalar.select true_67_r0 v79_r0 arg12_r0
  let c_m1_i32_68_r0 : BitVec 32 := 4294967295#32
  let v81_r0 : BitVec 1 := Scalar.cmpi .eq v80_r0 c_m1_i32_68_r0
  let c15_i32_69_r0 : BitVec 32 := 15#32
  let v82_r0 : BitVec 32 := Scalar.select v81_r0 c15_i32_69_r0 v80_r0
  let v83_r0 : BitVec 32 := Scalar.addi v82_r0 v4
  let v112_r0 : BitVec 32 := Scalar.addi c2048_i32_90_r0 v83_r0
  let v113_r0 : BitVec 1 := Scalar.cmpi .ne v94_r0 v112_r0
  let c0_i32_35_r0 : BitVec 32 := 0#32
  let c1_i32_37_r0 : BitVec 32 := 1#32
  let arg7_r0 : BitVec 32 := Scf.iv c0_i32_35_r0 c1_i32_37_r0 k8_t1
  let c0_i32_64_r0 : BitVec 32 := 0#32
  let v76_r0 : BitVec 1 := Scalar.cmpi .eq arg7_r0 c0_i32_64_r0
  let v114_r0 : BitVec 1 := Scalar.ori v113_r0 v76_r0
  let c0_i32_91_r0 : BitVec 32 := 0#32
  let v115_r0 : BitVec 1 := Scalar.cmpi .sge arg7_r0 c0_i32_91_r0
  let v116_r0 : BitVec 1 := Scalar.andi v114_r0 v115_r0
  let v117_r0 : BitVec 32 := Scalar.extui v116_r0
  let c0_i32_92_r0 : BitVec 32 := 0#32
  let v118_r0 : BitVec 1 := Scalar.cmpi .ne v117_r0 c0_i32_92_r0
  v118_r0

def k8_off8 (i : grid8.Coords) (arg12_r0 : BitVec 32) : Fin 2 → Nat :=
  let c0_i32_120_r0 : BitVec 32 := 0#32
  let c256_i32_116_r0 : BitVec 32 := 256#32
  let c2048_i32_115_r0 : BitVec 32 := 2048#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v78_r0 : BitVec 32 := Scalar.addi arg12_r0 v4
  let v162_r0 : BitVec 32 := Scalar.addi c2048_i32_115_r0 v78_r0
  let v163_r0 : BitVec 32 := Scalar.muli c256_i32_116_r0 v162_r0
  ![0, v163_r0.toNat]
def k8_off9 (arg9_r0 : BitVec 32) : Fin 1 → Nat :=
  let c2_i32_117_r0 : BitVec 32 := 2#32
  let v164_r0 : BitVec 32 := Scalar.remui arg9_r0 c2_i32_117_r0
  ![v164_r0.toNat]
def k8_off10 (arg10_r0 : BitVec 32) : Fin 3 → Nat :=
  let c2_i32_97_r0 : BitVec 32 := 2#32
  let v127_r0 : BitVec 32 := Scalar.remui arg10_r0 c2_i32_97_r0
  let c0_i32_115_r1 : BitVec 32 := 0#32
  let c0_i32_116_r1 : BitVec 32 := 0#32
  ![v127_r0.toNat, 0, 0]

def k8_chk2 (arg10_r0 : BitVec 32) : Prop :=
  (∀ a, (k8_off10 arg10_r0) a + S1x256x128.size a ≤ S2x256x128.size a)
theorem k8_off10_inb : ∀ (arg10_r0 : BitVec 32) (k8_hw2 : k8_chk2 arg10_r0), ∀ a, (k8_off10 arg10_r0) a + S1x256x128.size a ≤ S2x256x128.size a := fun arg10_r0 k8_hw2 => k8_hw2

def k8_off11 (arg9_r0 : BitVec 32) : Fin 3 → Nat :=
  let c2_i32_96_r0 : BitVec 32 := 2#32
  let v126_r0 : BitVec 32 := Scalar.remui arg9_r0 c2_i32_96_r0
  let c0_i32_117_r1 : BitVec 32 := 0#32
  let c0_i32_118_r1 : BitVec 32 := 0#32
  ![v126_r0.toNat, 0, 0]

def k8_chk3 (arg9_r0 : BitVec 32) : Prop :=
  (∀ a, (k8_off11 arg9_r0) a + S1x1x256.size a ≤ S2x1x256.size a)
theorem k8_off11_inb : ∀ (arg9_r0 : BitVec 32) (k8_hw3 : k8_chk3 arg9_r0), ∀ a, (k8_off11 arg9_r0) a + S1x1x256.size a ≤ S2x1x256.size a := fun arg9_r0 k8_hw3 => k8_hw3

def k8_off12 (arg10_r0 : BitVec 32) : Fin 3 → Nat :=
  let c2_i32_115_r0 : BitVec 32 := 2#32
  let v162_r0 : BitVec 32 := Scalar.remui arg10_r0 c2_i32_115_r0
  let c0_i32_118_r0 : BitVec 32 := 0#32
  let c0_i32_119_r0 : BitVec 32 := 0#32
  ![v162_r0.toNat, 0, 0]
def k8_cond5 (i : grid8.Coords) (k8_t1 : Fin k8_t1_loop.trips) (arg12_r0 : BitVec 32) : BitVec 1 :=
  let c0_i32_86_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v78_r0 : BitVec 32 := Scalar.addi arg12_r0 v4
  let v106_r0 : BitVec 32 := Scalar.addi c0_i32_86_r0 v78_r0
  let c0_i32_87_r0 : BitVec 32 := 0#32
  let true_71_r0 : BitVec 1 := 1#1
  let c1_i32_70_r0 : BitVec 32 := 1#32
  let v84_r0 : BitVec 32 := Scalar.addi arg12_r0 c1_i32_70_r0
  let v85_r0 : BitVec 32 := Scalar.select true_71_r0 v84_r0 arg12_r0
  let c16_i32_72_r0 : BitVec 32 := 16#32
  let v86_r0 : BitVec 1 := Scalar.cmpi .eq v85_r0 c16_i32_72_r0
  let c0_i32_73_r0 : BitVec 32 := 0#32
  let v87_r0 : BitVec 32 := Scalar.select v86_r0 c0_i32_73_r0 v85_r0
  let v88_r0 : BitVec 32 := Scalar.addi v87_r0 v4
  let v107_r0 : BitVec 32 := Scalar.addi c0_i32_87_r0 v88_r0
  let v133_r0 : BitVec 1 := Scalar.cmpi .ne v106_r0 v107_r0
  let c0_i32_35_r0 : BitVec 32 := 0#32
  let c1_i32_37_r0 : BitVec 32 := 1#32
  let arg7_r0 : BitVec 32 := Scf.iv c0_i32_35_r0 c1_i32_37_r0 k8_t1
  let c15_i32_65_r0 : BitVec 32 := 15#32
  let v77_r0 : BitVec 1 := Scalar.cmpi .eq arg7_r0 c15_i32_65_r0
  let v134_r0 : BitVec 1 := Scalar.ori v133_r0 v77_r0
  let v135_r0 : BitVec 32 := Scalar.extui v134_r0
  let c0_i32_100_r0 : BitVec 32 := 0#32
  let v136_r0 : BitVec 1 := Scalar.cmpi .ne v135_r0 c0_i32_100_r0
  v136_r0

def k8_off13 (i : grid8.Coords) (arg12_r0 : BitVec 32) : Fin 2 → Nat :=
  let c256_i32_117_r0 : BitVec 32 := 256#32
  let c0_i32_116_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v78_r0 : BitVec 32 := Scalar.addi arg12_r0 v4
  let v163_r0 : BitVec 32 := Scalar.addi c0_i32_116_r0 v78_r0
  let v164_r0 : BitVec 32 := Scalar.muli c256_i32_117_r0 v163_r0
  let c0_i32_120_r0 : BitVec 32 := 0#32
  ![v164_r0.toNat, 0]
def k8_off14 (arg10_r0 : BitVec 32) : Fin 1 → Nat :=
  let c2_i32_115_r0 : BitVec 32 := 2#32
  let v162_r0 : BitVec 32 := Scalar.remui arg10_r0 c2_i32_115_r0
  ![v162_r0.toNat]
def k8_off15 (arg11_r0 : BitVec 32) : Fin 3 → Nat :=
  let c2_i32_115_r0 : BitVec 32 := 2#32
  let v162_r0 : BitVec 32 := Scalar.remui arg11_r0 c2_i32_115_r0
  let c0_i32_118_r0 : BitVec 32 := 0#32
  let c0_i32_119_r0 : BitVec 32 := 0#32
  ![v162_r0.toNat, 0, 0]
def k8_cond7 (i : grid8.Coords) (k8_t1 : Fin k8_t1_loop.trips) (arg12_r0 : BitVec 32) : BitVec 1 :=
  let c0_i32_86_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v78_r0 : BitVec 32 := Scalar.addi arg12_r0 v4
  let v106_r0 : BitVec 32 := Scalar.addi c0_i32_86_r0 v78_r0
  let c0_i32_93_r0 : BitVec 32 := 0#32
  let true_67_r0 : BitVec 1 := 1#1
  let c1_i32_66_r0 : BitVec 32 := 1#32
  let v79_r0 : BitVec 32 := Scalar.subi arg12_r0 c1_i32_66_r0
  let v80_r0 : BitVec 32 := Scalar.select true_67_r0 v79_r0 arg12_r0
  let c_m1_i32_68_r0 : BitVec 32 := 4294967295#32
  let v81_r0 : BitVec 1 := Scalar.cmpi .eq v80_r0 c_m1_i32_68_r0
  let c15_i32_69_r0 : BitVec 32 := 15#32
  let v82_r0 : BitVec 32 := Scalar.select v81_r0 c15_i32_69_r0 v80_r0
  let v83_r0 : BitVec 32 := Scalar.addi v82_r0 v4
  let v119_r0 : BitVec 32 := Scalar.addi c0_i32_93_r0 v83_r0
  let v146_r0 : BitVec 1 := Scalar.cmpi .ne v106_r0 v119_r0
  let c0_i32_35_r0 : BitVec 32 := 0#32
  let c1_i32_37_r0 : BitVec 32 := 1#32
  let arg7_r0 : BitVec 32 := Scf.iv c0_i32_35_r0 c1_i32_37_r0 k8_t1
  let c0_i32_64_r0 : BitVec 32 := 0#32
  let v76_r0 : BitVec 1 := Scalar.cmpi .eq arg7_r0 c0_i32_64_r0
  let true_106_r0 : BitVec 1 := 1#1
  let v147_r0 : BitVec 1 := Scalar.xori v76_r0 true_106_r0
  let v148_r0 : BitVec 1 := Scalar.andi v146_r0 v147_r0
  let v149_r0 : BitVec 32 := Scalar.extui v148_r0
  let c0_i32_107_r0 : BitVec 32 := 0#32
  let v150_r0 : BitVec 1 := Scalar.cmpi .ne v149_r0 c0_i32_107_r0
  v150_r0

def k8_off16 (i : grid8.Coords) (arg12_r0 : BitVec 32) : Fin 2 → Nat :=
  let c256_i32_117_r0 : BitVec 32 := 256#32
  let c0_i32_116_r0 : BitVec 32 := 0#32
  let true_67_r0 : BitVec 1 := 1#1
  let c1_i32_66_r0 : BitVec 32 := 1#32
  let v79_r0 : BitVec 32 := Scalar.subi arg12_r0 c1_i32_66_r0
  let v80_r0 : BitVec 32 := Scalar.select true_67_r0 v79_r0 arg12_r0
  let c_m1_i32_68_r0 : BitVec 32 := 4294967295#32
  let v81_r0 : BitVec 1 := Scalar.cmpi .eq v80_r0 c_m1_i32_68_r0
  let c15_i32_69_r0 : BitVec 32 := 15#32
  let v82_r0 : BitVec 32 := Scalar.select v81_r0 c15_i32_69_r0 v80_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v83_r0 : BitVec 32 := Scalar.addi v82_r0 v4
  let v163_r0 : BitVec 32 := Scalar.addi c0_i32_116_r0 v83_r0
  let v164_r0 : BitVec 32 := Scalar.muli c256_i32_117_r0 v163_r0
  let c0_i32_120_r0 : BitVec 32 := 0#32
  ![v164_r0.toNat, 0]
def k8_off17 (arg11_r0 : BitVec 32) : Fin 1 → Nat :=
  let c2_i32_115_r0 : BitVec 32 := 2#32
  let v162_r0 : BitVec 32 := Scalar.remui arg11_r0 c2_i32_115_r0
  ![v162_r0.toNat]

def k8_chk1 (i : grid8.Coords) (k8_t1 : Fin k8_t1_loop.trips) (arg8_r0 : BitVec 32) (arg9_r0 : BitVec 32) (arg10_r0 : BitVec 32) (arg11_r0 : BitVec 32) (arg12_r0 : BitVec 32) : Prop :=
  (∀ (k8_h1 : k8_cond1 i k8_t1 arg12_r0 = 1#1), ∀ a, (k8_off4 arg8_r0) a + S1x1x256.size a ≤ S2x1x256.size a) ∧
  (∀ (k8_h1 : k8_cond1 i k8_t1 arg12_r0 = 1#1), ∀ a, (k8_off5 i arg12_r0) a + S1x256.size a ≤ S3x1048576.size a) ∧
  (∀ (k8_h1 : k8_cond1 i k8_t1 arg12_r0 = 1#1), ∀ a, (k8_off6 arg8_r0) a + S1.size a ≤ S2.size a) ∧
  (∀ (k8_h2 : k8_cond2 i k8_t1 arg12_r0 = 1#1), ∀ a, (k8_off7 arg9_r0) a + S1x1x256.size a ≤ S2x1x256.size a) ∧
  (∀ (k8_h2 : k8_cond2 i k8_t1 arg12_r0 = 1#1), ∀ a, (k8_off8 i arg12_r0) a + S1x256.size a ≤ S3x1048576.size a) ∧
  (∀ (k8_h2 : k8_cond2 i k8_t1 arg12_r0 = 1#1), ∀ a, (k8_off9 arg9_r0) a + S1.size a ≤ S2.size a) ∧
  (∀ (k8_h5 : k8_cond5 i k8_t1 arg12_r0 = 1#1), ∀ a, (k8_off12 arg10_r0) a + S1x256x128.size a ≤ S2x256x128.size a) ∧
  (∀ (k8_h5 : k8_cond5 i k8_t1 arg12_r0 = 1#1), ∀ a, (k8_off13 i arg12_r0) a + S256x128.size a ≤ S393216x128.size a) ∧
  (∀ (k8_h5 : k8_cond5 i k8_t1 arg12_r0 = 1#1), ∀ a, (k8_off14 arg10_r0) a + S1.size a ≤ S2.size a) ∧
  (∀ (k8_h7 : k8_cond7 i k8_t1 arg12_r0 = 1#1), ∀ a, (k8_off15 arg11_r0) a + S1x256x128.size a ≤ S2x256x128.size a) ∧
  (∀ (k8_h7 : k8_cond7 i k8_t1 arg12_r0 = 1#1), ∀ a, (k8_off16 i arg12_r0) a + S256x128.size a ≤ S393216x128.size a) ∧
  (∀ (k8_h7 : k8_cond7 i k8_t1 arg12_r0 = 1#1), ∀ a, (k8_off17 arg11_r0) a + S1.size a ≤ S2.size a)
theorem k8_off4_inb : ∀ (i : grid8.Coords) (k8_t1 : Fin k8_t1_loop.trips) (arg8_r0 : BitVec 32) (arg9_r0 : BitVec 32) (arg10_r0 : BitVec 32) (arg11_r0 : BitVec 32) (arg12_r0 : BitVec 32) (k8_hw1 : k8_chk1 i k8_t1 arg8_r0 arg9_r0 arg10_r0 arg11_r0 arg12_r0), ∀ (k8_h1 : k8_cond1 i k8_t1 arg12_r0 = 1#1), ∀ a, (k8_off4 arg8_r0) a + S1x1x256.size a ≤ S2x1x256.size a := fun i k8_t1 arg8_r0 arg9_r0 arg10_r0 arg11_r0 arg12_r0 k8_hw1 k8_h1 => k8_hw1.1 k8_h1
theorem k8_off5_inb : ∀ (i : grid8.Coords) (k8_t1 : Fin k8_t1_loop.trips) (arg8_r0 : BitVec 32) (arg9_r0 : BitVec 32) (arg10_r0 : BitVec 32) (arg11_r0 : BitVec 32) (arg12_r0 : BitVec 32) (k8_hw1 : k8_chk1 i k8_t1 arg8_r0 arg9_r0 arg10_r0 arg11_r0 arg12_r0), ∀ (k8_h1 : k8_cond1 i k8_t1 arg12_r0 = 1#1), ∀ a, (k8_off5 i arg12_r0) a + S1x256.size a ≤ S3x1048576.size a := fun i k8_t1 arg8_r0 arg9_r0 arg10_r0 arg11_r0 arg12_r0 k8_hw1 k8_h1 => k8_hw1.2.1 k8_h1
theorem k8_off6_inb : ∀ (i : grid8.Coords) (k8_t1 : Fin k8_t1_loop.trips) (arg8_r0 : BitVec 32) (arg9_r0 : BitVec 32) (arg10_r0 : BitVec 32) (arg11_r0 : BitVec 32) (arg12_r0 : BitVec 32) (k8_hw1 : k8_chk1 i k8_t1 arg8_r0 arg9_r0 arg10_r0 arg11_r0 arg12_r0), ∀ (k8_h1 : k8_cond1 i k8_t1 arg12_r0 = 1#1), ∀ a, (k8_off6 arg8_r0) a + S1.size a ≤ S2.size a := fun i k8_t1 arg8_r0 arg9_r0 arg10_r0 arg11_r0 arg12_r0 k8_hw1 k8_h1 => k8_hw1.2.2.1 k8_h1
theorem k8_off7_inb : ∀ (i : grid8.Coords) (k8_t1 : Fin k8_t1_loop.trips) (arg8_r0 : BitVec 32) (arg9_r0 : BitVec 32) (arg10_r0 : BitVec 32) (arg11_r0 : BitVec 32) (arg12_r0 : BitVec 32) (k8_hw1 : k8_chk1 i k8_t1 arg8_r0 arg9_r0 arg10_r0 arg11_r0 arg12_r0), ∀ (k8_h2 : k8_cond2 i k8_t1 arg12_r0 = 1#1), ∀ a, (k8_off7 arg9_r0) a + S1x1x256.size a ≤ S2x1x256.size a := fun i k8_t1 arg8_r0 arg9_r0 arg10_r0 arg11_r0 arg12_r0 k8_hw1 k8_h2 => k8_hw1.2.2.2.1 k8_h2
theorem k8_off8_inb : ∀ (i : grid8.Coords) (k8_t1 : Fin k8_t1_loop.trips) (arg8_r0 : BitVec 32) (arg9_r0 : BitVec 32) (arg10_r0 : BitVec 32) (arg11_r0 : BitVec 32) (arg12_r0 : BitVec 32) (k8_hw1 : k8_chk1 i k8_t1 arg8_r0 arg9_r0 arg10_r0 arg11_r0 arg12_r0), ∀ (k8_h2 : k8_cond2 i k8_t1 arg12_r0 = 1#1), ∀ a, (k8_off8 i arg12_r0) a + S1x256.size a ≤ S3x1048576.size a := fun i k8_t1 arg8_r0 arg9_r0 arg10_r0 arg11_r0 arg12_r0 k8_hw1 k8_h2 => k8_hw1.2.2.2.2.1 k8_h2
theorem k8_off9_inb : ∀ (i : grid8.Coords) (k8_t1 : Fin k8_t1_loop.trips) (arg8_r0 : BitVec 32) (arg9_r0 : BitVec 32) (arg10_r0 : BitVec 32) (arg11_r0 : BitVec 32) (arg12_r0 : BitVec 32) (k8_hw1 : k8_chk1 i k8_t1 arg8_r0 arg9_r0 arg10_r0 arg11_r0 arg12_r0), ∀ (k8_h2 : k8_cond2 i k8_t1 arg12_r0 = 1#1), ∀ a, (k8_off9 arg9_r0) a + S1.size a ≤ S2.size a := fun i k8_t1 arg8_r0 arg9_r0 arg10_r0 arg11_r0 arg12_r0 k8_hw1 k8_h2 => k8_hw1.2.2.2.2.2.1 k8_h2
theorem k8_off12_inb : ∀ (i : grid8.Coords) (k8_t1 : Fin k8_t1_loop.trips) (arg8_r0 : BitVec 32) (arg9_r0 : BitVec 32) (arg10_r0 : BitVec 32) (arg11_r0 : BitVec 32) (arg12_r0 : BitVec 32) (k8_hw1 : k8_chk1 i k8_t1 arg8_r0 arg9_r0 arg10_r0 arg11_r0 arg12_r0), ∀ (k8_h5 : k8_cond5 i k8_t1 arg12_r0 = 1#1), ∀ a, (k8_off12 arg10_r0) a + S1x256x128.size a ≤ S2x256x128.size a := fun i k8_t1 arg8_r0 arg9_r0 arg10_r0 arg11_r0 arg12_r0 k8_hw1 k8_h5 => k8_hw1.2.2.2.2.2.2.1 k8_h5
theorem k8_off13_inb : ∀ (i : grid8.Coords) (k8_t1 : Fin k8_t1_loop.trips) (arg8_r0 : BitVec 32) (arg9_r0 : BitVec 32) (arg10_r0 : BitVec 32) (arg11_r0 : BitVec 32) (arg12_r0 : BitVec 32) (k8_hw1 : k8_chk1 i k8_t1 arg8_r0 arg9_r0 arg10_r0 arg11_r0 arg12_r0), ∀ (k8_h5 : k8_cond5 i k8_t1 arg12_r0 = 1#1), ∀ a, (k8_off13 i arg12_r0) a + S256x128.size a ≤ S393216x128.size a := fun i k8_t1 arg8_r0 arg9_r0 arg10_r0 arg11_r0 arg12_r0 k8_hw1 k8_h5 => k8_hw1.2.2.2.2.2.2.2.1 k8_h5
theorem k8_off14_inb : ∀ (i : grid8.Coords) (k8_t1 : Fin k8_t1_loop.trips) (arg8_r0 : BitVec 32) (arg9_r0 : BitVec 32) (arg10_r0 : BitVec 32) (arg11_r0 : BitVec 32) (arg12_r0 : BitVec 32) (k8_hw1 : k8_chk1 i k8_t1 arg8_r0 arg9_r0 arg10_r0 arg11_r0 arg12_r0), ∀ (k8_h5 : k8_cond5 i k8_t1 arg12_r0 = 1#1), ∀ a, (k8_off14 arg10_r0) a + S1.size a ≤ S2.size a := fun i k8_t1 arg8_r0 arg9_r0 arg10_r0 arg11_r0 arg12_r0 k8_hw1 k8_h5 => k8_hw1.2.2.2.2.2.2.2.2.1 k8_h5
theorem k8_off15_inb : ∀ (i : grid8.Coords) (k8_t1 : Fin k8_t1_loop.trips) (arg8_r0 : BitVec 32) (arg9_r0 : BitVec 32) (arg10_r0 : BitVec 32) (arg11_r0 : BitVec 32) (arg12_r0 : BitVec 32) (k8_hw1 : k8_chk1 i k8_t1 arg8_r0 arg9_r0 arg10_r0 arg11_r0 arg12_r0), ∀ (k8_h7 : k8_cond7 i k8_t1 arg12_r0 = 1#1), ∀ a, (k8_off15 arg11_r0) a + S1x256x128.size a ≤ S2x256x128.size a := fun i k8_t1 arg8_r0 arg9_r0 arg10_r0 arg11_r0 arg12_r0 k8_hw1 k8_h7 => k8_hw1.2.2.2.2.2.2.2.2.2.1 k8_h7
theorem k8_off16_inb : ∀ (i : grid8.Coords) (k8_t1 : Fin k8_t1_loop.trips) (arg8_r0 : BitVec 32) (arg9_r0 : BitVec 32) (arg10_r0 : BitVec 32) (arg11_r0 : BitVec 32) (arg12_r0 : BitVec 32) (k8_hw1 : k8_chk1 i k8_t1 arg8_r0 arg9_r0 arg10_r0 arg11_r0 arg12_r0), ∀ (k8_h7 : k8_cond7 i k8_t1 arg12_r0 = 1#1), ∀ a, (k8_off16 i arg12_r0) a + S256x128.size a ≤ S393216x128.size a := fun i k8_t1 arg8_r0 arg9_r0 arg10_r0 arg11_r0 arg12_r0 k8_hw1 k8_h7 => k8_hw1.2.2.2.2.2.2.2.2.2.2.1 k8_h7
theorem k8_off17_inb : ∀ (i : grid8.Coords) (k8_t1 : Fin k8_t1_loop.trips) (arg8_r0 : BitVec 32) (arg9_r0 : BitVec 32) (arg10_r0 : BitVec 32) (arg11_r0 : BitVec 32) (arg12_r0 : BitVec 32) (k8_hw1 : k8_chk1 i k8_t1 arg8_r0 arg9_r0 arg10_r0 arg11_r0 arg12_r0), ∀ (k8_h7 : k8_cond7 i k8_t1 arg12_r0 = 1#1), ∀ a, (k8_off17 arg11_r0) a + S1.size a ≤ S2.size a := fun i k8_t1 arg8_r0 arg9_r0 arg10_r0 arg11_r0 arg12_r0 k8_hw1 k8_h7 => k8_hw1.2.2.2.2.2.2.2.2.2.2.2 k8_h7

def k8_off18 (v44_3_r0 : BitVec 32) : Fin 3 → Nat :=
  let c2_i32_55_r0 : BitVec 32 := 2#32
  let v65_r0 : BitVec 32 := Scalar.remui v44_3_r0 c2_i32_55_r0
  let c0_i32_58_r0 : BitVec 32 := 0#32
  let c0_i32_59_r0 : BitVec 32 := 0#32
  ![v65_r0.toNat, 0, 0]

def k8_off19 (i : grid8.Coords) (v44_4_r0 : BitVec 32) : Fin 2 → Nat :=
  let c256_i32_57_r0 : BitVec 32 := 256#32
  let c0_i32_56_r0 : BitVec 32 := 0#32
  let true_40_r0 : BitVec 1 := 1#1
  let c1_i32_39_r0 : BitVec 32 := 1#32
  let v45_r0 : BitVec 32 := Scalar.subi v44_4_r0 c1_i32_39_r0
  let v46_r0 : BitVec 32 := Scalar.select true_40_r0 v45_r0 v44_4_r0
  let c_m1_i32_41_r0 : BitVec 32 := 4294967295#32
  let v47_r0 : BitVec 1 := Scalar.cmpi .eq v46_r0 c_m1_i32_41_r0
  let c15_i32_42_r0 : BitVec 32 := 15#32
  let v48_r0 : BitVec 32 := Scalar.select v47_r0 c15_i32_42_r0 v46_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v49_r0 : BitVec 32 := Scalar.addi v48_r0 v4
  let v66_r0 : BitVec 32 := Scalar.addi c0_i32_56_r0 v49_r0
  let v67_r0 : BitVec 32 := Scalar.muli c256_i32_57_r0 v66_r0
  let c0_i32_60_r0 : BitVec 32 := 0#32
  ![v67_r0.toNat, 0]

def k8_chk5 (i : grid8.Coords) (v44_4_r0 : BitVec 32) : Prop :=
  (∀ a, (k8_off19 i v44_4_r0) a + S256x128.size a ≤ S393216x128.size a)
theorem k8_off19_inb : ∀ (i : grid8.Coords) (v44_4_r0 : BitVec 32) (k8_hw5 : k8_chk5 i v44_4_r0), ∀ a, (k8_off19 i v44_4_r0) a + S256x128.size a ≤ S393216x128.size a := fun i v44_4_r0 k8_hw5 => k8_hw5

def k8_off20 (v44_3_r0 : BitVec 32) : Fin 1 → Nat :=
  let c2_i32_55_r0 : BitVec 32 := 2#32
  let v65_r0 : BitVec 32 := Scalar.remui v44_3_r0 c2_i32_55_r0
  ![v65_r0.toNat]
def k8_off21 (v44_3_r0 : BitVec 32) : Fin 3 → Nat :=
  let c2_i32_55_r0 : BitVec 32 := 2#32
  let v65_r0 : BitVec 32 := Scalar.remui v44_3_r0 c2_i32_55_r0
  let c0_i32_62_r0 : BitVec 32 := 0#32
  let c0_i32_63_r0 : BitVec 32 := 0#32
  ![v65_r0.toNat, 0, 0]

def k8_chk4 (v44_3_r0 : BitVec 32) : Prop :=
  (∀ a, (k8_off18 v44_3_r0) a + S1x256x128.size a ≤ S2x256x128.size a) ∧
  (∀ a, (k8_off20 v44_3_r0) a + S1.size a ≤ S2.size a) ∧
  (∀ a, (k8_off21 v44_3_r0) a + S1x256x128.size a ≤ S2x256x128.size a)
theorem k8_off18_inb : ∀ (v44_3_r0 : BitVec 32) (k8_hw4 : k8_chk4 v44_3_r0), ∀ a, (k8_off18 v44_3_r0) a + S1x256x128.size a ≤ S2x256x128.size a := fun v44_3_r0 k8_hw4 => k8_hw4.1
theorem k8_off20_inb : ∀ (v44_3_r0 : BitVec 32) (k8_hw4 : k8_chk4 v44_3_r0), ∀ a, (k8_off20 v44_3_r0) a + S1.size a ≤ S2.size a := fun v44_3_r0 k8_hw4 => k8_hw4.2.1
theorem k8_off21_inb : ∀ (v44_3_r0 : BitVec 32) (k8_hw4 : k8_chk4 v44_3_r0), ∀ a, (k8_off21 v44_3_r0) a + S1x256x128.size a ≤ S2x256x128.size a := fun v44_3_r0 k8_hw4 => k8_hw4.2.2

def k8_off22 : Fin 3 → Nat :=
  let c0_i32_22_r2 : BitVec 32 := 0#32
  let c2_i32_r2 : BitVec 32 := 2#32
  let v31_r2 : BitVec 32 := Scalar.remui c0_i32_22_r2 c2_i32_r2
  let c0_i32_23_r2 : BitVec 32 := 0#32
  let c0_i32_24_r2 : BitVec 32 := 0#32
  ![v31_r2.toNat, 0, 0]
def k8_off23 (i : grid8.Coords) : Fin 2 → Nat :=
  let c1_i32_25_r2 : BitVec 32 := 1#32
  let c256_i32_r2 : BitVec 32 := 256#32
  let c2048_i32_r2 : BitVec 32 := 2048#32
  let c0_i32_10_r2 : BitVec 32 := 0#32
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v17_r2 : BitVec 32 := Scalar.addi c0_i32_10_r2 v9
  let v32_r2 : BitVec 32 := Scalar.addi c2048_i32_r2 v17_r2
  let v33_r2 : BitVec 32 := Scalar.muli c256_i32_r2 v32_r2
  ![1, v33_r2.toNat]
def k8_off24 : Fin 1 → Nat :=
  let c0_i32_22_r2 : BitVec 32 := 0#32
  let c2_i32_r2 : BitVec 32 := 2#32
  let v31_r2 : BitVec 32 := Scalar.remui c0_i32_22_r2 c2_i32_r2
  ![v31_r2.toNat]
@[reducible] def k8_t2_loop : Scf.Loop 32 :=
  let c0_i32_35_r2 : BitVec 32 := 0#32
  let c16_i32_36_r2 : BitVec 32 := 16#32
  let v43_r2 : BitVec 32 := Scalar.addi c0_i32_35_r2 c16_i32_36_r2
  let c1_i32_37_r2 : BitVec 32 := 1#32
  ⟨c0_i32_35_r2, v43_r2, c1_i32_37_r2⟩
def k8_off25 (arg8_r2 : BitVec 32) : Fin 3 → Nat :=
  let c2_i32_114_r2 : BitVec 32 := 2#32
  let v162_r2 : BitVec 32 := Scalar.remui arg8_r2 c2_i32_114_r2
  let c0_i32_117_r2 : BitVec 32 := 0#32
  let c0_i32_118_r2 : BitVec 32 := 0#32
  ![v162_r2.toNat, 0, 0]
def k8_cond8 (i : grid8.Coords) (k8_t2 : Fin k8_t2_loop.trips) (arg12_r2 : BitVec 32) : BitVec 1 :=
  let c2048_i32_77_r2 : BitVec 32 := 2048#32
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v78_r2 : BitVec 32 := Scalar.addi arg12_r2 v9
  let v94_r2 : BitVec 32 := Scalar.addi c2048_i32_77_r2 v78_r2
  let c2048_i32_78_r2 : BitVec 32 := 2048#32
  let true_70_r2 : BitVec 1 := 1#1
  let c1_i32_69_r2 : BitVec 32 := 1#32
  let v84_r2 : BitVec 32 := Scalar.addi arg12_r2 c1_i32_69_r2
  let v85_r2 : BitVec 32 := Scalar.select true_70_r2 v84_r2 arg12_r2
  let c16_i32_71_r2 : BitVec 32 := 16#32
  let v86_r2 : BitVec 1 := Scalar.cmpi .eq v85_r2 c16_i32_71_r2
  let c0_i32_72_r2 : BitVec 32 := 0#32
  let v87_r2 : BitVec 32 := Scalar.select v86_r2 c0_i32_72_r2 v85_r2
  let v88_r2 : BitVec 32 := Scalar.addi v87_r2 v9
  let v95_r2 : BitVec 32 := Scalar.addi c2048_i32_78_r2 v88_r2
  let v96_r2 : BitVec 1 := Scalar.cmpi .ne v94_r2 v95_r2
  let c0_i32_35_r2 : BitVec 32 := 0#32
  let c1_i32_37_r2 : BitVec 32 := 1#32
  let arg7_r2 : BitVec 32 := Scf.iv c0_i32_35_r2 c1_i32_37_r2 k8_t2
  let c15_i32_79_r2 : BitVec 32 := 15#32
  let v97_r2 : BitVec 1 := Scalar.cmpi .sge arg7_r2 c15_i32_79_r2
  let true_80_r2 : BitVec 1 := 1#1
  let v98_r2 : BitVec 1 := Scalar.xori v97_r2 true_80_r2
  let v99_r2 : BitVec 1 := Scalar.andi v96_r2 v98_r2
  let true_81_r2 : BitVec 1 := 1#1
  let v100_r2 : BitVec 1 := Scalar.andi v99_r2 true_81_r2
  let v101_r2 : BitVec 32 := Scalar.extui v100_r2
  let c0_i32_82_r2 : BitVec 32 := 0#32
  let v102_r2 : BitVec 1 := Scalar.cmpi .ne v101_r2 c0_i32_82_r2
  v102_r2

def k8_off26 (i : grid8.Coords) (arg12_r2 : BitVec 32) : Fin 2 → Nat :=
  let c1_i32_119_r2 : BitVec 32 := 1#32
  let c256_i32_116_r2 : BitVec 32 := 256#32
  let c2048_i32_115_r2 : BitVec 32 := 2048#32
  let true_70_r2 : BitVec 1 := 1#1
  let c1_i32_69_r2 : BitVec 32 := 1#32
  let v84_r2 : BitVec 32 := Scalar.addi arg12_r2 c1_i32_69_r2
  let v85_r2 : BitVec 32 := Scalar.select true_70_r2 v84_r2 arg12_r2
  let c16_i32_71_r2 : BitVec 32 := 16#32
  let v86_r2 : BitVec 1 := Scalar.cmpi .eq v85_r2 c16_i32_71_r2
  let c0_i32_72_r2 : BitVec 32 := 0#32
  let v87_r2 : BitVec 32 := Scalar.select v86_r2 c0_i32_72_r2 v85_r2
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v88_r2 : BitVec 32 := Scalar.addi v87_r2 v9
  let v163_r2 : BitVec 32 := Scalar.addi c2048_i32_115_r2 v88_r2
  let v164_r2 : BitVec 32 := Scalar.muli c256_i32_116_r2 v163_r2
  ![1, v164_r2.toNat]
def k8_off27 (arg8_r2 : BitVec 32) : Fin 1 → Nat :=
  let c2_i32_114_r2 : BitVec 32 := 2#32
  let v162_r2 : BitVec 32 := Scalar.remui arg8_r2 c2_i32_114_r2
  ![v162_r2.toNat]
def k8_off28 (arg9_r2 : BitVec 32) : Fin 3 → Nat :=
  let c2_i32_116_r2 : BitVec 32 := 2#32
  let v164_r2 : BitVec 32 := Scalar.remui arg9_r2 c2_i32_116_r2
  let c0_i32_117_r2 : BitVec 32 := 0#32
  let c0_i32_118_r2 : BitVec 32 := 0#32
  ![v164_r2.toNat, 0, 0]
def k8_cond9 (i : grid8.Coords) (k8_t2 : Fin k8_t2_loop.trips) (arg12_r2 : BitVec 32) : BitVec 1 :=
  let c2048_i32_77_r2 : BitVec 32 := 2048#32
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v78_r2 : BitVec 32 := Scalar.addi arg12_r2 v9
  let v94_r2 : BitVec 32 := Scalar.addi c2048_i32_77_r2 v78_r2
  let c2048_i32_89_r2 : BitVec 32 := 2048#32
  let true_66_r2 : BitVec 1 := 1#1
  let c1_i32_65_r2 : BitVec 32 := 1#32
  let v79_r2 : BitVec 32 := Scalar.subi arg12_r2 c1_i32_65_r2
  let v80_r2 : BitVec 32 := Scalar.select true_66_r2 v79_r2 arg12_r2
  let c_m1_i32_67_r2 : BitVec 32 := 4294967295#32
  let v81_r2 : BitVec 1 := Scalar.cmpi .eq v80_r2 c_m1_i32_67_r2
  let c15_i32_68_r2 : BitVec 32 := 15#32
  let v82_r2 : BitVec 32 := Scalar.select v81_r2 c15_i32_68_r2 v80_r2
  let v83_r2 : BitVec 32 := Scalar.addi v82_r2 v9
  let v112_r2 : BitVec 32 := Scalar.addi c2048_i32_89_r2 v83_r2
  let v113_r2 : BitVec 1 := Scalar.cmpi .ne v94_r2 v112_r2
  let c0_i32_35_r2 : BitVec 32 := 0#32
  let c1_i32_37_r2 : BitVec 32 := 1#32
  let arg7_r2 : BitVec 32 := Scf.iv c0_i32_35_r2 c1_i32_37_r2 k8_t2
  let c0_i32_63_r2 : BitVec 32 := 0#32
  let v76_r2 : BitVec 1 := Scalar.cmpi .eq arg7_r2 c0_i32_63_r2
  let v114_r2 : BitVec 1 := Scalar.ori v113_r2 v76_r2
  let c0_i32_90_r2 : BitVec 32 := 0#32
  let v115_r2 : BitVec 1 := Scalar.cmpi .sge arg7_r2 c0_i32_90_r2
  let v116_r2 : BitVec 1 := Scalar.andi v114_r2 v115_r2
  let v117_r2 : BitVec 32 := Scalar.extui v116_r2
  let c0_i32_91_r2 : BitVec 32 := 0#32
  let v118_r2 : BitVec 1 := Scalar.cmpi .ne v117_r2 c0_i32_91_r2
  v118_r2

def k8_off29 (i : grid8.Coords) (arg12_r2 : BitVec 32) : Fin 2 → Nat :=
  let c1_i32_119_r2 : BitVec 32 := 1#32
  let c256_i32_115_r2 : BitVec 32 := 256#32
  let c2048_i32_114_r2 : BitVec 32 := 2048#32
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v78_r2 : BitVec 32 := Scalar.addi arg12_r2 v9
  let v162_r2 : BitVec 32 := Scalar.addi c2048_i32_114_r2 v78_r2
  let v163_r2 : BitVec 32 := Scalar.muli c256_i32_115_r2 v162_r2
  ![1, v163_r2.toNat]
def k8_off30 (arg9_r2 : BitVec 32) : Fin 1 → Nat :=
  let c2_i32_116_r2 : BitVec 32 := 2#32
  let v164_r2 : BitVec 32 := Scalar.remui arg9_r2 c2_i32_116_r2
  ![v164_r2.toNat]
def k8_off31 (arg10_r2 : BitVec 32) : Fin 3 → Nat :=
  let c2_i32_96_r2 : BitVec 32 := 2#32
  let v127_r2 : BitVec 32 := Scalar.remui arg10_r2 c2_i32_96_r2
  let c0_i32_114_r3 : BitVec 32 := 0#32
  let c0_i32_115_r3 : BitVec 32 := 0#32
  ![v127_r2.toNat, 0, 0]

def k8_chk7 (arg10_r2 : BitVec 32) : Prop :=
  (∀ a, (k8_off31 arg10_r2) a + S1x256x128.size a ≤ S2x256x128.size a)
theorem k8_off31_inb : ∀ (arg10_r2 : BitVec 32) (k8_hw7 : k8_chk7 arg10_r2), ∀ a, (k8_off31 arg10_r2) a + S1x256x128.size a ≤ S2x256x128.size a := fun arg10_r2 k8_hw7 => k8_hw7

def k8_off32 (arg9_r2 : BitVec 32) : Fin 3 → Nat :=
  let c2_i32_95_r2 : BitVec 32 := 2#32
  let v126_r2 : BitVec 32 := Scalar.remui arg9_r2 c2_i32_95_r2
  let c0_i32_116_r3 : BitVec 32 := 0#32
  let c0_i32_117_r3 : BitVec 32 := 0#32
  ![v126_r2.toNat, 0, 0]

def k8_chk8 (arg9_r2 : BitVec 32) : Prop :=
  (∀ a, (k8_off32 arg9_r2) a + S1x1x256.size a ≤ S2x1x256.size a)
theorem k8_off32_inb : ∀ (arg9_r2 : BitVec 32) (k8_hw8 : k8_chk8 arg9_r2), ∀ a, (k8_off32 arg9_r2) a + S1x1x256.size a ≤ S2x1x256.size a := fun arg9_r2 k8_hw8 => k8_hw8

def k8_off33 (arg10_r2 : BitVec 32) : Fin 3 → Nat :=
  let c2_i32_114_r2 : BitVec 32 := 2#32
  let v162_r2 : BitVec 32 := Scalar.remui arg10_r2 c2_i32_114_r2
  let c0_i32_117_r2 : BitVec 32 := 0#32
  let c0_i32_118_r2 : BitVec 32 := 0#32
  ![v162_r2.toNat, 0, 0]
def k8_cond12 (i : grid8.Coords) (k8_t2 : Fin k8_t2_loop.trips) (arg12_r2 : BitVec 32) : BitVec 1 :=
  let c512_i32_85_r2 : BitVec 32 := 512#32
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v78_r2 : BitVec 32 := Scalar.addi arg12_r2 v9
  let v106_r2 : BitVec 32 := Scalar.addi c512_i32_85_r2 v78_r2
  let c512_i32_86_r2 : BitVec 32 := 512#32
  let true_70_r2 : BitVec 1 := 1#1
  let c1_i32_69_r2 : BitVec 32 := 1#32
  let v84_r2 : BitVec 32 := Scalar.addi arg12_r2 c1_i32_69_r2
  let v85_r2 : BitVec 32 := Scalar.select true_70_r2 v84_r2 arg12_r2
  let c16_i32_71_r2 : BitVec 32 := 16#32
  let v86_r2 : BitVec 1 := Scalar.cmpi .eq v85_r2 c16_i32_71_r2
  let c0_i32_72_r2 : BitVec 32 := 0#32
  let v87_r2 : BitVec 32 := Scalar.select v86_r2 c0_i32_72_r2 v85_r2
  let v88_r2 : BitVec 32 := Scalar.addi v87_r2 v9
  let v107_r2 : BitVec 32 := Scalar.addi c512_i32_86_r2 v88_r2
  let v133_r2 : BitVec 1 := Scalar.cmpi .ne v106_r2 v107_r2
  let c0_i32_35_r2 : BitVec 32 := 0#32
  let c1_i32_37_r2 : BitVec 32 := 1#32
  let arg7_r2 : BitVec 32 := Scf.iv c0_i32_35_r2 c1_i32_37_r2 k8_t2
  let c15_i32_64_r2 : BitVec 32 := 15#32
  let v77_r2 : BitVec 1 := Scalar.cmpi .eq arg7_r2 c15_i32_64_r2
  let v134_r2 : BitVec 1 := Scalar.ori v133_r2 v77_r2
  let v135_r2 : BitVec 32 := Scalar.extui v134_r2
  let c0_i32_99_r2 : BitVec 32 := 0#32
  let v136_r2 : BitVec 1 := Scalar.cmpi .ne v135_r2 c0_i32_99_r2
  v136_r2

def k8_off34 (i : grid8.Coords) (arg12_r2 : BitVec 32) : Fin 2 → Nat :=
  let c256_i32_116_r2 : BitVec 32 := 256#32
  let c512_i32_115_r2 : BitVec 32 := 512#32
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v78_r2 : BitVec 32 := Scalar.addi arg12_r2 v9
  let v163_r2 : BitVec 32 := Scalar.addi c512_i32_115_r2 v78_r2
  let v164_r2 : BitVec 32 := Scalar.muli c256_i32_116_r2 v163_r2
  let c0_i32_119_r2 : BitVec 32 := 0#32
  ![v164_r2.toNat, 0]
def k8_off35 (arg10_r2 : BitVec 32) : Fin 1 → Nat :=
  let c2_i32_114_r2 : BitVec 32 := 2#32
  let v162_r2 : BitVec 32 := Scalar.remui arg10_r2 c2_i32_114_r2
  ![v162_r2.toNat]
def k8_off36 (arg11_r2 : BitVec 32) : Fin 3 → Nat :=
  let c2_i32_114_r2 : BitVec 32 := 2#32
  let v162_r2 : BitVec 32 := Scalar.remui arg11_r2 c2_i32_114_r2
  let c0_i32_117_r2 : BitVec 32 := 0#32
  let c0_i32_118_r2 : BitVec 32 := 0#32
  ![v162_r2.toNat, 0, 0]
def k8_cond14 (i : grid8.Coords) (k8_t2 : Fin k8_t2_loop.trips) (arg12_r2 : BitVec 32) : BitVec 1 :=
  let c512_i32_85_r2 : BitVec 32 := 512#32
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v78_r2 : BitVec 32 := Scalar.addi arg12_r2 v9
  let v106_r2 : BitVec 32 := Scalar.addi c512_i32_85_r2 v78_r2
  let c512_i32_92_r2 : BitVec 32 := 512#32
  let true_66_r2 : BitVec 1 := 1#1
  let c1_i32_65_r2 : BitVec 32 := 1#32
  let v79_r2 : BitVec 32 := Scalar.subi arg12_r2 c1_i32_65_r2
  let v80_r2 : BitVec 32 := Scalar.select true_66_r2 v79_r2 arg12_r2
  let c_m1_i32_67_r2 : BitVec 32 := 4294967295#32
  let v81_r2 : BitVec 1 := Scalar.cmpi .eq v80_r2 c_m1_i32_67_r2
  let c15_i32_68_r2 : BitVec 32 := 15#32
  let v82_r2 : BitVec 32 := Scalar.select v81_r2 c15_i32_68_r2 v80_r2
  let v83_r2 : BitVec 32 := Scalar.addi v82_r2 v9
  let v119_r2 : BitVec 32 := Scalar.addi c512_i32_92_r2 v83_r2
  let v146_r2 : BitVec 1 := Scalar.cmpi .ne v106_r2 v119_r2
  let c0_i32_35_r2 : BitVec 32 := 0#32
  let c1_i32_37_r2 : BitVec 32 := 1#32
  let arg7_r2 : BitVec 32 := Scf.iv c0_i32_35_r2 c1_i32_37_r2 k8_t2
  let c0_i32_63_r2 : BitVec 32 := 0#32
  let v76_r2 : BitVec 1 := Scalar.cmpi .eq arg7_r2 c0_i32_63_r2
  let true_105_r2 : BitVec 1 := 1#1
  let v147_r2 : BitVec 1 := Scalar.xori v76_r2 true_105_r2
  let v148_r2 : BitVec 1 := Scalar.andi v146_r2 v147_r2
  let v149_r2 : BitVec 32 := Scalar.extui v148_r2
  let c0_i32_106_r2 : BitVec 32 := 0#32
  let v150_r2 : BitVec 1 := Scalar.cmpi .ne v149_r2 c0_i32_106_r2
  v150_r2

def k8_off37 (i : grid8.Coords) (arg12_r2 : BitVec 32) : Fin 2 → Nat :=
  let c256_i32_116_r2 : BitVec 32 := 256#32
  let c512_i32_115_r2 : BitVec 32 := 512#32
  let true_66_r2 : BitVec 1 := 1#1
  let c1_i32_65_r2 : BitVec 32 := 1#32
  let v79_r2 : BitVec 32 := Scalar.subi arg12_r2 c1_i32_65_r2
  let v80_r2 : BitVec 32 := Scalar.select true_66_r2 v79_r2 arg12_r2
  let c_m1_i32_67_r2 : BitVec 32 := 4294967295#32
  let v81_r2 : BitVec 1 := Scalar.cmpi .eq v80_r2 c_m1_i32_67_r2
  let c15_i32_68_r2 : BitVec 32 := 15#32
  let v82_r2 : BitVec 32 := Scalar.select v81_r2 c15_i32_68_r2 v80_r2
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v83_r2 : BitVec 32 := Scalar.addi v82_r2 v9
  let v163_r2 : BitVec 32 := Scalar.addi c512_i32_115_r2 v83_r2
  let v164_r2 : BitVec 32 := Scalar.muli c256_i32_116_r2 v163_r2
  let c0_i32_119_r2 : BitVec 32 := 0#32
  ![v164_r2.toNat, 0]
def k8_off38 (arg11_r2 : BitVec 32) : Fin 1 → Nat :=
  let c2_i32_114_r2 : BitVec 32 := 2#32
  let v162_r2 : BitVec 32 := Scalar.remui arg11_r2 c2_i32_114_r2
  ![v162_r2.toNat]

def k8_chk6 (i : grid8.Coords) (k8_t2 : Fin k8_t2_loop.trips) (arg8_r2 : BitVec 32) (arg9_r2 : BitVec 32) (arg10_r2 : BitVec 32) (arg11_r2 : BitVec 32) (arg12_r2 : BitVec 32) : Prop :=
  (∀ (k8_h8 : k8_cond8 i k8_t2 arg12_r2 = 1#1), ∀ a, (k8_off25 arg8_r2) a + S1x1x256.size a ≤ S2x1x256.size a) ∧
  (∀ (k8_h8 : k8_cond8 i k8_t2 arg12_r2 = 1#1), ∀ a, (k8_off26 i arg12_r2) a + S1x256.size a ≤ S3x1048576.size a) ∧
  (∀ (k8_h8 : k8_cond8 i k8_t2 arg12_r2 = 1#1), ∀ a, (k8_off27 arg8_r2) a + S1.size a ≤ S2.size a) ∧
  (∀ (k8_h9 : k8_cond9 i k8_t2 arg12_r2 = 1#1), ∀ a, (k8_off28 arg9_r2) a + S1x1x256.size a ≤ S2x1x256.size a) ∧
  (∀ (k8_h9 : k8_cond9 i k8_t2 arg12_r2 = 1#1), ∀ a, (k8_off29 i arg12_r2) a + S1x256.size a ≤ S3x1048576.size a) ∧
  (∀ (k8_h9 : k8_cond9 i k8_t2 arg12_r2 = 1#1), ∀ a, (k8_off30 arg9_r2) a + S1.size a ≤ S2.size a) ∧
  (∀ (k8_h12 : k8_cond12 i k8_t2 arg12_r2 = 1#1), ∀ a, (k8_off33 arg10_r2) a + S1x256x128.size a ≤ S2x256x128.size a) ∧
  (∀ (k8_h12 : k8_cond12 i k8_t2 arg12_r2 = 1#1), ∀ a, (k8_off34 i arg12_r2) a + S256x128.size a ≤ S393216x128.size a) ∧
  (∀ (k8_h12 : k8_cond12 i k8_t2 arg12_r2 = 1#1), ∀ a, (k8_off35 arg10_r2) a + S1.size a ≤ S2.size a) ∧
  (∀ (k8_h14 : k8_cond14 i k8_t2 arg12_r2 = 1#1), ∀ a, (k8_off36 arg11_r2) a + S1x256x128.size a ≤ S2x256x128.size a) ∧
  (∀ (k8_h14 : k8_cond14 i k8_t2 arg12_r2 = 1#1), ∀ a, (k8_off37 i arg12_r2) a + S256x128.size a ≤ S393216x128.size a) ∧
  (∀ (k8_h14 : k8_cond14 i k8_t2 arg12_r2 = 1#1), ∀ a, (k8_off38 arg11_r2) a + S1.size a ≤ S2.size a)
theorem k8_off25_inb : ∀ (i : grid8.Coords) (k8_t2 : Fin k8_t2_loop.trips) (arg8_r2 : BitVec 32) (arg9_r2 : BitVec 32) (arg10_r2 : BitVec 32) (arg11_r2 : BitVec 32) (arg12_r2 : BitVec 32) (k8_hw6 : k8_chk6 i k8_t2 arg8_r2 arg9_r2 arg10_r2 arg11_r2 arg12_r2), ∀ (k8_h8 : k8_cond8 i k8_t2 arg12_r2 = 1#1), ∀ a, (k8_off25 arg8_r2) a + S1x1x256.size a ≤ S2x1x256.size a := fun i k8_t2 arg8_r2 arg9_r2 arg10_r2 arg11_r2 arg12_r2 k8_hw6 k8_h8 => k8_hw6.1 k8_h8
theorem k8_off26_inb : ∀ (i : grid8.Coords) (k8_t2 : Fin k8_t2_loop.trips) (arg8_r2 : BitVec 32) (arg9_r2 : BitVec 32) (arg10_r2 : BitVec 32) (arg11_r2 : BitVec 32) (arg12_r2 : BitVec 32) (k8_hw6 : k8_chk6 i k8_t2 arg8_r2 arg9_r2 arg10_r2 arg11_r2 arg12_r2), ∀ (k8_h8 : k8_cond8 i k8_t2 arg12_r2 = 1#1), ∀ a, (k8_off26 i arg12_r2) a + S1x256.size a ≤ S3x1048576.size a := fun i k8_t2 arg8_r2 arg9_r2 arg10_r2 arg11_r2 arg12_r2 k8_hw6 k8_h8 => k8_hw6.2.1 k8_h8
theorem k8_off27_inb : ∀ (i : grid8.Coords) (k8_t2 : Fin k8_t2_loop.trips) (arg8_r2 : BitVec 32) (arg9_r2 : BitVec 32) (arg10_r2 : BitVec 32) (arg11_r2 : BitVec 32) (arg12_r2 : BitVec 32) (k8_hw6 : k8_chk6 i k8_t2 arg8_r2 arg9_r2 arg10_r2 arg11_r2 arg12_r2), ∀ (k8_h8 : k8_cond8 i k8_t2 arg12_r2 = 1#1), ∀ a, (k8_off27 arg8_r2) a + S1.size a ≤ S2.size a := fun i k8_t2 arg8_r2 arg9_r2 arg10_r2 arg11_r2 arg12_r2 k8_hw6 k8_h8 => k8_hw6.2.2.1 k8_h8
theorem k8_off28_inb : ∀ (i : grid8.Coords) (k8_t2 : Fin k8_t2_loop.trips) (arg8_r2 : BitVec 32) (arg9_r2 : BitVec 32) (arg10_r2 : BitVec 32) (arg11_r2 : BitVec 32) (arg12_r2 : BitVec 32) (k8_hw6 : k8_chk6 i k8_t2 arg8_r2 arg9_r2 arg10_r2 arg11_r2 arg12_r2), ∀ (k8_h9 : k8_cond9 i k8_t2 arg12_r2 = 1#1), ∀ a, (k8_off28 arg9_r2) a + S1x1x256.size a ≤ S2x1x256.size a := fun i k8_t2 arg8_r2 arg9_r2 arg10_r2 arg11_r2 arg12_r2 k8_hw6 k8_h9 => k8_hw6.2.2.2.1 k8_h9
theorem k8_off29_inb : ∀ (i : grid8.Coords) (k8_t2 : Fin k8_t2_loop.trips) (arg8_r2 : BitVec 32) (arg9_r2 : BitVec 32) (arg10_r2 : BitVec 32) (arg11_r2 : BitVec 32) (arg12_r2 : BitVec 32) (k8_hw6 : k8_chk6 i k8_t2 arg8_r2 arg9_r2 arg10_r2 arg11_r2 arg12_r2), ∀ (k8_h9 : k8_cond9 i k8_t2 arg12_r2 = 1#1), ∀ a, (k8_off29 i arg12_r2) a + S1x256.size a ≤ S3x1048576.size a := fun i k8_t2 arg8_r2 arg9_r2 arg10_r2 arg11_r2 arg12_r2 k8_hw6 k8_h9 => k8_hw6.2.2.2.2.1 k8_h9
theorem k8_off30_inb : ∀ (i : grid8.Coords) (k8_t2 : Fin k8_t2_loop.trips) (arg8_r2 : BitVec 32) (arg9_r2 : BitVec 32) (arg10_r2 : BitVec 32) (arg11_r2 : BitVec 32) (arg12_r2 : BitVec 32) (k8_hw6 : k8_chk6 i k8_t2 arg8_r2 arg9_r2 arg10_r2 arg11_r2 arg12_r2), ∀ (k8_h9 : k8_cond9 i k8_t2 arg12_r2 = 1#1), ∀ a, (k8_off30 arg9_r2) a + S1.size a ≤ S2.size a := fun i k8_t2 arg8_r2 arg9_r2 arg10_r2 arg11_r2 arg12_r2 k8_hw6 k8_h9 => k8_hw6.2.2.2.2.2.1 k8_h9
theorem k8_off33_inb : ∀ (i : grid8.Coords) (k8_t2 : Fin k8_t2_loop.trips) (arg8_r2 : BitVec 32) (arg9_r2 : BitVec 32) (arg10_r2 : BitVec 32) (arg11_r2 : BitVec 32) (arg12_r2 : BitVec 32) (k8_hw6 : k8_chk6 i k8_t2 arg8_r2 arg9_r2 arg10_r2 arg11_r2 arg12_r2), ∀ (k8_h12 : k8_cond12 i k8_t2 arg12_r2 = 1#1), ∀ a, (k8_off33 arg10_r2) a + S1x256x128.size a ≤ S2x256x128.size a := fun i k8_t2 arg8_r2 arg9_r2 arg10_r2 arg11_r2 arg12_r2 k8_hw6 k8_h12 => k8_hw6.2.2.2.2.2.2.1 k8_h12
theorem k8_off34_inb : ∀ (i : grid8.Coords) (k8_t2 : Fin k8_t2_loop.trips) (arg8_r2 : BitVec 32) (arg9_r2 : BitVec 32) (arg10_r2 : BitVec 32) (arg11_r2 : BitVec 32) (arg12_r2 : BitVec 32) (k8_hw6 : k8_chk6 i k8_t2 arg8_r2 arg9_r2 arg10_r2 arg11_r2 arg12_r2), ∀ (k8_h12 : k8_cond12 i k8_t2 arg12_r2 = 1#1), ∀ a, (k8_off34 i arg12_r2) a + S256x128.size a ≤ S393216x128.size a := fun i k8_t2 arg8_r2 arg9_r2 arg10_r2 arg11_r2 arg12_r2 k8_hw6 k8_h12 => k8_hw6.2.2.2.2.2.2.2.1 k8_h12
theorem k8_off35_inb : ∀ (i : grid8.Coords) (k8_t2 : Fin k8_t2_loop.trips) (arg8_r2 : BitVec 32) (arg9_r2 : BitVec 32) (arg10_r2 : BitVec 32) (arg11_r2 : BitVec 32) (arg12_r2 : BitVec 32) (k8_hw6 : k8_chk6 i k8_t2 arg8_r2 arg9_r2 arg10_r2 arg11_r2 arg12_r2), ∀ (k8_h12 : k8_cond12 i k8_t2 arg12_r2 = 1#1), ∀ a, (k8_off35 arg10_r2) a + S1.size a ≤ S2.size a := fun i k8_t2 arg8_r2 arg9_r2 arg10_r2 arg11_r2 arg12_r2 k8_hw6 k8_h12 => k8_hw6.2.2.2.2.2.2.2.2.1 k8_h12
theorem k8_off36_inb : ∀ (i : grid8.Coords) (k8_t2 : Fin k8_t2_loop.trips) (arg8_r2 : BitVec 32) (arg9_r2 : BitVec 32) (arg10_r2 : BitVec 32) (arg11_r2 : BitVec 32) (arg12_r2 : BitVec 32) (k8_hw6 : k8_chk6 i k8_t2 arg8_r2 arg9_r2 arg10_r2 arg11_r2 arg12_r2), ∀ (k8_h14 : k8_cond14 i k8_t2 arg12_r2 = 1#1), ∀ a, (k8_off36 arg11_r2) a + S1x256x128.size a ≤ S2x256x128.size a := fun i k8_t2 arg8_r2 arg9_r2 arg10_r2 arg11_r2 arg12_r2 k8_hw6 k8_h14 => k8_hw6.2.2.2.2.2.2.2.2.2.1 k8_h14
theorem k8_off37_inb : ∀ (i : grid8.Coords) (k8_t2 : Fin k8_t2_loop.trips) (arg8_r2 : BitVec 32) (arg9_r2 : BitVec 32) (arg10_r2 : BitVec 32) (arg11_r2 : BitVec 32) (arg12_r2 : BitVec 32) (k8_hw6 : k8_chk6 i k8_t2 arg8_r2 arg9_r2 arg10_r2 arg11_r2 arg12_r2), ∀ (k8_h14 : k8_cond14 i k8_t2 arg12_r2 = 1#1), ∀ a, (k8_off37 i arg12_r2) a + S256x128.size a ≤ S393216x128.size a := fun i k8_t2 arg8_r2 arg9_r2 arg10_r2 arg11_r2 arg12_r2 k8_hw6 k8_h14 => k8_hw6.2.2.2.2.2.2.2.2.2.2.1 k8_h14
theorem k8_off38_inb : ∀ (i : grid8.Coords) (k8_t2 : Fin k8_t2_loop.trips) (arg8_r2 : BitVec 32) (arg9_r2 : BitVec 32) (arg10_r2 : BitVec 32) (arg11_r2 : BitVec 32) (arg12_r2 : BitVec 32) (k8_hw6 : k8_chk6 i k8_t2 arg8_r2 arg9_r2 arg10_r2 arg11_r2 arg12_r2), ∀ (k8_h14 : k8_cond14 i k8_t2 arg12_r2 = 1#1), ∀ a, (k8_off38 arg11_r2) a + S1.size a ≤ S2.size a := fun i k8_t2 arg8_r2 arg9_r2 arg10_r2 arg11_r2 arg12_r2 k8_hw6 k8_h14 => k8_hw6.2.2.2.2.2.2.2.2.2.2.2 k8_h14

def k8_off39 (v44_3_r2 : BitVec 32) : Fin 3 → Nat :=
  let c2_i32_55_r2 : BitVec 32 := 2#32
  let v65_r2 : BitVec 32 := Scalar.remui v44_3_r2 c2_i32_55_r2
  let c0_i32_57_r2 : BitVec 32 := 0#32
  let c0_i32_58_r2 : BitVec 32 := 0#32
  ![v65_r2.toNat, 0, 0]

def k8_off40 (i : grid8.Coords) (v44_4_r2 : BitVec 32) : Fin 2 → Nat :=
  let c256_i32_56_r2 : BitVec 32 := 256#32
  let c512_i32_r2 : BitVec 32 := 512#32
  let true_40_r2 : BitVec 1 := 1#1
  let c1_i32_39_r2 : BitVec 32 := 1#32
  let v45_r2 : BitVec 32 := Scalar.subi v44_4_r2 c1_i32_39_r2
  let v46_r2 : BitVec 32 := Scalar.select true_40_r2 v45_r2 v44_4_r2
  let c_m1_i32_41_r2 : BitVec 32 := 4294967295#32
  let v47_r2 : BitVec 1 := Scalar.cmpi .eq v46_r2 c_m1_i32_41_r2
  let c15_i32_42_r2 : BitVec 32 := 15#32
  let v48_r2 : BitVec 32 := Scalar.select v47_r2 c15_i32_42_r2 v46_r2
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v49_r2 : BitVec 32 := Scalar.addi v48_r2 v9
  let v66_r2 : BitVec 32 := Scalar.addi c512_i32_r2 v49_r2
  let v67_r2 : BitVec 32 := Scalar.muli c256_i32_56_r2 v66_r2
  let c0_i32_59_r2 : BitVec 32 := 0#32
  ![v67_r2.toNat, 0]

def k8_chk10 (i : grid8.Coords) (v44_4_r2 : BitVec 32) : Prop :=
  (∀ a, (k8_off40 i v44_4_r2) a + S256x128.size a ≤ S393216x128.size a)
theorem k8_off40_inb : ∀ (i : grid8.Coords) (v44_4_r2 : BitVec 32) (k8_hw10 : k8_chk10 i v44_4_r2), ∀ a, (k8_off40 i v44_4_r2) a + S256x128.size a ≤ S393216x128.size a := fun i v44_4_r2 k8_hw10 => k8_hw10

def k8_off41 (v44_3_r2 : BitVec 32) : Fin 1 → Nat :=
  let c2_i32_55_r2 : BitVec 32 := 2#32
  let v65_r2 : BitVec 32 := Scalar.remui v44_3_r2 c2_i32_55_r2
  ![v65_r2.toNat]
def k8_off42 (v44_3_r2 : BitVec 32) : Fin 3 → Nat :=
  let c2_i32_55_r2 : BitVec 32 := 2#32
  let v65_r2 : BitVec 32 := Scalar.remui v44_3_r2 c2_i32_55_r2
  let c0_i32_61_r2 : BitVec 32 := 0#32
  let c0_i32_62_r2 : BitVec 32 := 0#32
  ![v65_r2.toNat, 0, 0]

def k8_chk9 (v44_3_r2 : BitVec 32) : Prop :=
  (∀ a, (k8_off39 v44_3_r2) a + S1x256x128.size a ≤ S2x256x128.size a) ∧
  (∀ a, (k8_off41 v44_3_r2) a + S1.size a ≤ S2.size a) ∧
  (∀ a, (k8_off42 v44_3_r2) a + S1x256x128.size a ≤ S2x256x128.size a)
theorem k8_off39_inb : ∀ (v44_3_r2 : BitVec 32) (k8_hw9 : k8_chk9 v44_3_r2), ∀ a, (k8_off39 v44_3_r2) a + S1x256x128.size a ≤ S2x256x128.size a := fun v44_3_r2 k8_hw9 => k8_hw9.1
theorem k8_off41_inb : ∀ (v44_3_r2 : BitVec 32) (k8_hw9 : k8_chk9 v44_3_r2), ∀ a, (k8_off41 v44_3_r2) a + S1.size a ≤ S2.size a := fun v44_3_r2 k8_hw9 => k8_hw9.2.1
theorem k8_off42_inb : ∀ (v44_3_r2 : BitVec 32) (k8_hw9 : k8_chk9 v44_3_r2), ∀ a, (k8_off42 v44_3_r2) a + S1x256x128.size a ≤ S2x256x128.size a := fun v44_3_r2 k8_hw9 => k8_hw9.2.2

def k8_off43 : Fin 3 → Nat :=
  let c0_i32_22_r4 : BitVec 32 := 0#32
  let c2_i32_r4 : BitVec 32 := 2#32
  let v31_r4 : BitVec 32 := Scalar.remui c0_i32_22_r4 c2_i32_r4
  let c0_i32_23_r4 : BitVec 32 := 0#32
  let c0_i32_24_r4 : BitVec 32 := 0#32
  ![v31_r4.toNat, 0, 0]
def k8_off44 (i : grid8.Coords) : Fin 2 → Nat :=
  let c2_i32_25_r4 : BitVec 32 := 2#32
  let c256_i32_r4 : BitVec 32 := 256#32
  let c2048_i32_r4 : BitVec 32 := 2048#32
  let c0_i32_10_r4 : BitVec 32 := 0#32
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v17_r4 : BitVec 32 := Scalar.addi c0_i32_10_r4 v14
  let v32_r4 : BitVec 32 := Scalar.addi c2048_i32_r4 v17_r4
  let v33_r4 : BitVec 32 := Scalar.muli c256_i32_r4 v32_r4
  ![2, v33_r4.toNat]
def k8_off45 : Fin 1 → Nat :=
  let c0_i32_22_r4 : BitVec 32 := 0#32
  let c2_i32_r4 : BitVec 32 := 2#32
  let v31_r4 : BitVec 32 := Scalar.remui c0_i32_22_r4 c2_i32_r4
  ![v31_r4.toNat]
@[reducible] def k8_t3_loop : Scf.Loop 32 :=
  let c0_i32_35_r4 : BitVec 32 := 0#32
  let c16_i32_36_r4 : BitVec 32 := 16#32
  let v43_r4 : BitVec 32 := Scalar.addi c0_i32_35_r4 c16_i32_36_r4
  let c1_i32_37_r4 : BitVec 32 := 1#32
  ⟨c0_i32_35_r4, v43_r4, c1_i32_37_r4⟩
def k8_off46 (arg8_r4 : BitVec 32) : Fin 3 → Nat :=
  let c2_i32_114_r4 : BitVec 32 := 2#32
  let v162_r4 : BitVec 32 := Scalar.remui arg8_r4 c2_i32_114_r4
  let c0_i32_117_r4 : BitVec 32 := 0#32
  let c0_i32_118_r4 : BitVec 32 := 0#32
  ![v162_r4.toNat, 0, 0]
def k8_cond15 (i : grid8.Coords) (k8_t3 : Fin k8_t3_loop.trips) (arg12_r4 : BitVec 32) : BitVec 1 :=
  let c2048_i32_77_r4 : BitVec 32 := 2048#32
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v78_r4 : BitVec 32 := Scalar.addi arg12_r4 v14
  let v94_r4 : BitVec 32 := Scalar.addi c2048_i32_77_r4 v78_r4
  let c2048_i32_78_r4 : BitVec 32 := 2048#32
  let true_70_r4 : BitVec 1 := 1#1
  let c1_i32_69_r4 : BitVec 32 := 1#32
  let v84_r4 : BitVec 32 := Scalar.addi arg12_r4 c1_i32_69_r4
  let v85_r4 : BitVec 32 := Scalar.select true_70_r4 v84_r4 arg12_r4
  let c16_i32_71_r4 : BitVec 32 := 16#32
  let v86_r4 : BitVec 1 := Scalar.cmpi .eq v85_r4 c16_i32_71_r4
  let c0_i32_72_r4 : BitVec 32 := 0#32
  let v87_r4 : BitVec 32 := Scalar.select v86_r4 c0_i32_72_r4 v85_r4
  let v88_r4 : BitVec 32 := Scalar.addi v87_r4 v14
  let v95_r4 : BitVec 32 := Scalar.addi c2048_i32_78_r4 v88_r4
  let v96_r4 : BitVec 1 := Scalar.cmpi .ne v94_r4 v95_r4
  let c0_i32_35_r4 : BitVec 32 := 0#32
  let c1_i32_37_r4 : BitVec 32 := 1#32
  let arg7_r4 : BitVec 32 := Scf.iv c0_i32_35_r4 c1_i32_37_r4 k8_t3
  let c15_i32_79_r4 : BitVec 32 := 15#32
  let v97_r4 : BitVec 1 := Scalar.cmpi .sge arg7_r4 c15_i32_79_r4
  let true_80_r4 : BitVec 1 := 1#1
  let v98_r4 : BitVec 1 := Scalar.xori v97_r4 true_80_r4
  let v99_r4 : BitVec 1 := Scalar.andi v96_r4 v98_r4
  let true_81_r4 : BitVec 1 := 1#1
  let v100_r4 : BitVec 1 := Scalar.andi v99_r4 true_81_r4
  let v101_r4 : BitVec 32 := Scalar.extui v100_r4
  let c0_i32_82_r4 : BitVec 32 := 0#32
  let v102_r4 : BitVec 1 := Scalar.cmpi .ne v101_r4 c0_i32_82_r4
  v102_r4

def k8_off47 (i : grid8.Coords) (arg12_r4 : BitVec 32) : Fin 2 → Nat :=
  let c2_i32_119_r4 : BitVec 32 := 2#32
  let c256_i32_116_r4 : BitVec 32 := 256#32
  let c2048_i32_115_r4 : BitVec 32 := 2048#32
  let true_70_r4 : BitVec 1 := 1#1
  let c1_i32_69_r4 : BitVec 32 := 1#32
  let v84_r4 : BitVec 32 := Scalar.addi arg12_r4 c1_i32_69_r4
  let v85_r4 : BitVec 32 := Scalar.select true_70_r4 v84_r4 arg12_r4
  let c16_i32_71_r4 : BitVec 32 := 16#32
  let v86_r4 : BitVec 1 := Scalar.cmpi .eq v85_r4 c16_i32_71_r4
  let c0_i32_72_r4 : BitVec 32 := 0#32
  let v87_r4 : BitVec 32 := Scalar.select v86_r4 c0_i32_72_r4 v85_r4
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v88_r4 : BitVec 32 := Scalar.addi v87_r4 v14
  let v163_r4 : BitVec 32 := Scalar.addi c2048_i32_115_r4 v88_r4
  let v164_r4 : BitVec 32 := Scalar.muli c256_i32_116_r4 v163_r4
  ![2, v164_r4.toNat]
def k8_off48 (arg8_r4 : BitVec 32) : Fin 1 → Nat :=
  let c2_i32_114_r4 : BitVec 32 := 2#32
  let v162_r4 : BitVec 32 := Scalar.remui arg8_r4 c2_i32_114_r4
  ![v162_r4.toNat]
def k8_off49 (arg9_r4 : BitVec 32) : Fin 3 → Nat :=
  let c2_i32_116_r4 : BitVec 32 := 2#32
  let v164_r4 : BitVec 32 := Scalar.remui arg9_r4 c2_i32_116_r4
  let c0_i32_117_r4 : BitVec 32 := 0#32
  let c0_i32_118_r4 : BitVec 32 := 0#32
  ![v164_r4.toNat, 0, 0]
def k8_cond16 (i : grid8.Coords) (k8_t3 : Fin k8_t3_loop.trips) (arg12_r4 : BitVec 32) : BitVec 1 :=
  let c2048_i32_77_r4 : BitVec 32 := 2048#32
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v78_r4 : BitVec 32 := Scalar.addi arg12_r4 v14
  let v94_r4 : BitVec 32 := Scalar.addi c2048_i32_77_r4 v78_r4
  let c2048_i32_89_r4 : BitVec 32 := 2048#32
  let true_66_r4 : BitVec 1 := 1#1
  let c1_i32_65_r4 : BitVec 32 := 1#32
  let v79_r4 : BitVec 32 := Scalar.subi arg12_r4 c1_i32_65_r4
  let v80_r4 : BitVec 32 := Scalar.select true_66_r4 v79_r4 arg12_r4
  let c_m1_i32_67_r4 : BitVec 32 := 4294967295#32
  let v81_r4 : BitVec 1 := Scalar.cmpi .eq v80_r4 c_m1_i32_67_r4
  let c15_i32_68_r4 : BitVec 32 := 15#32
  let v82_r4 : BitVec 32 := Scalar.select v81_r4 c15_i32_68_r4 v80_r4
  let v83_r4 : BitVec 32 := Scalar.addi v82_r4 v14
  let v112_r4 : BitVec 32 := Scalar.addi c2048_i32_89_r4 v83_r4
  let v113_r4 : BitVec 1 := Scalar.cmpi .ne v94_r4 v112_r4
  let c0_i32_35_r4 : BitVec 32 := 0#32
  let c1_i32_37_r4 : BitVec 32 := 1#32
  let arg7_r4 : BitVec 32 := Scf.iv c0_i32_35_r4 c1_i32_37_r4 k8_t3
  let c0_i32_63_r4 : BitVec 32 := 0#32
  let v76_r4 : BitVec 1 := Scalar.cmpi .eq arg7_r4 c0_i32_63_r4
  let v114_r4 : BitVec 1 := Scalar.ori v113_r4 v76_r4
  let c0_i32_90_r4 : BitVec 32 := 0#32
  let v115_r4 : BitVec 1 := Scalar.cmpi .sge arg7_r4 c0_i32_90_r4
  let v116_r4 : BitVec 1 := Scalar.andi v114_r4 v115_r4
  let v117_r4 : BitVec 32 := Scalar.extui v116_r4
  let c0_i32_91_r4 : BitVec 32 := 0#32
  let v118_r4 : BitVec 1 := Scalar.cmpi .ne v117_r4 c0_i32_91_r4
  v118_r4

def k8_off50 (i : grid8.Coords) (arg12_r4 : BitVec 32) : Fin 2 → Nat :=
  let c2_i32_119_r4 : BitVec 32 := 2#32
  let c256_i32_115_r4 : BitVec 32 := 256#32
  let c2048_i32_114_r4 : BitVec 32 := 2048#32
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v78_r4 : BitVec 32 := Scalar.addi arg12_r4 v14
  let v162_r4 : BitVec 32 := Scalar.addi c2048_i32_114_r4 v78_r4
  let v163_r4 : BitVec 32 := Scalar.muli c256_i32_115_r4 v162_r4
  ![2, v163_r4.toNat]
def k8_off51 (arg9_r4 : BitVec 32) : Fin 1 → Nat :=
  let c2_i32_116_r4 : BitVec 32 := 2#32
  let v164_r4 : BitVec 32 := Scalar.remui arg9_r4 c2_i32_116_r4
  ![v164_r4.toNat]
def k8_off52 (arg10_r4 : BitVec 32) : Fin 3 → Nat :=
  let c2_i32_96_r4 : BitVec 32 := 2#32
  let v127_r4 : BitVec 32 := Scalar.remui arg10_r4 c2_i32_96_r4
  let c0_i32_114_r5 : BitVec 32 := 0#32
  let c0_i32_115_r5 : BitVec 32 := 0#32
  ![v127_r4.toNat, 0, 0]

def k8_chk12 (arg10_r4 : BitVec 32) : Prop :=
  (∀ a, (k8_off52 arg10_r4) a + S1x256x128.size a ≤ S2x256x128.size a)
theorem k8_off52_inb : ∀ (arg10_r4 : BitVec 32) (k8_hw12 : k8_chk12 arg10_r4), ∀ a, (k8_off52 arg10_r4) a + S1x256x128.size a ≤ S2x256x128.size a := fun arg10_r4 k8_hw12 => k8_hw12

def k8_off53 (arg9_r4 : BitVec 32) : Fin 3 → Nat :=
  let c2_i32_95_r4 : BitVec 32 := 2#32
  let v126_r4 : BitVec 32 := Scalar.remui arg9_r4 c2_i32_95_r4
  let c0_i32_116_r5 : BitVec 32 := 0#32
  let c0_i32_117_r5 : BitVec 32 := 0#32
  ![v126_r4.toNat, 0, 0]

def k8_chk13 (arg9_r4 : BitVec 32) : Prop :=
  (∀ a, (k8_off53 arg9_r4) a + S1x1x256.size a ≤ S2x1x256.size a)
theorem k8_off53_inb : ∀ (arg9_r4 : BitVec 32) (k8_hw13 : k8_chk13 arg9_r4), ∀ a, (k8_off53 arg9_r4) a + S1x1x256.size a ≤ S2x1x256.size a := fun arg9_r4 k8_hw13 => k8_hw13

def k8_off54 (arg10_r4 : BitVec 32) : Fin 3 → Nat :=
  let c2_i32_114_r4 : BitVec 32 := 2#32
  let v162_r4 : BitVec 32 := Scalar.remui arg10_r4 c2_i32_114_r4
  let c0_i32_117_r4 : BitVec 32 := 0#32
  let c0_i32_118_r4 : BitVec 32 := 0#32
  ![v162_r4.toNat, 0, 0]
def k8_cond19 (i : grid8.Coords) (k8_t3 : Fin k8_t3_loop.trips) (arg12_r4 : BitVec 32) : BitVec 1 :=
  let c1024_i32_85_r4 : BitVec 32 := 1024#32
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v78_r4 : BitVec 32 := Scalar.addi arg12_r4 v14
  let v106_r4 : BitVec 32 := Scalar.addi c1024_i32_85_r4 v78_r4
  let c1024_i32_86_r4 : BitVec 32 := 1024#32
  let true_70_r4 : BitVec 1 := 1#1
  let c1_i32_69_r4 : BitVec 32 := 1#32
  let v84_r4 : BitVec 32 := Scalar.addi arg12_r4 c1_i32_69_r4
  let v85_r4 : BitVec 32 := Scalar.select true_70_r4 v84_r4 arg12_r4
  let c16_i32_71_r4 : BitVec 32 := 16#32
  let v86_r4 : BitVec 1 := Scalar.cmpi .eq v85_r4 c16_i32_71_r4
  let c0_i32_72_r4 : BitVec 32 := 0#32
  let v87_r4 : BitVec 32 := Scalar.select v86_r4 c0_i32_72_r4 v85_r4
  let v88_r4 : BitVec 32 := Scalar.addi v87_r4 v14
  let v107_r4 : BitVec 32 := Scalar.addi c1024_i32_86_r4 v88_r4
  let v133_r4 : BitVec 1 := Scalar.cmpi .ne v106_r4 v107_r4
  let c0_i32_35_r4 : BitVec 32 := 0#32
  let c1_i32_37_r4 : BitVec 32 := 1#32
  let arg7_r4 : BitVec 32 := Scf.iv c0_i32_35_r4 c1_i32_37_r4 k8_t3
  let c15_i32_64_r4 : BitVec 32 := 15#32
  let v77_r4 : BitVec 1 := Scalar.cmpi .eq arg7_r4 c15_i32_64_r4
  let v134_r4 : BitVec 1 := Scalar.ori v133_r4 v77_r4
  let v135_r4 : BitVec 32 := Scalar.extui v134_r4
  let c0_i32_99_r4 : BitVec 32 := 0#32
  let v136_r4 : BitVec 1 := Scalar.cmpi .ne v135_r4 c0_i32_99_r4
  v136_r4

def k8_off55 (i : grid8.Coords) (arg12_r4 : BitVec 32) : Fin 2 → Nat :=
  let c256_i32_116_r4 : BitVec 32 := 256#32
  let c1024_i32_115_r4 : BitVec 32 := 1024#32
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v78_r4 : BitVec 32 := Scalar.addi arg12_r4 v14
  let v163_r4 : BitVec 32 := Scalar.addi c1024_i32_115_r4 v78_r4
  let v164_r4 : BitVec 32 := Scalar.muli c256_i32_116_r4 v163_r4
  let c0_i32_119_r4 : BitVec 32 := 0#32
  ![v164_r4.toNat, 0]
def k8_off56 (arg10_r4 : BitVec 32) : Fin 1 → Nat :=
  let c2_i32_114_r4 : BitVec 32 := 2#32
  let v162_r4 : BitVec 32 := Scalar.remui arg10_r4 c2_i32_114_r4
  ![v162_r4.toNat]
def k8_off57 (arg11_r4 : BitVec 32) : Fin 3 → Nat :=
  let c2_i32_114_r4 : BitVec 32 := 2#32
  let v162_r4 : BitVec 32 := Scalar.remui arg11_r4 c2_i32_114_r4
  let c0_i32_117_r4 : BitVec 32 := 0#32
  let c0_i32_118_r4 : BitVec 32 := 0#32
  ![v162_r4.toNat, 0, 0]
def k8_cond21 (i : grid8.Coords) (k8_t3 : Fin k8_t3_loop.trips) (arg12_r4 : BitVec 32) : BitVec 1 :=
  let c1024_i32_85_r4 : BitVec 32 := 1024#32
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v78_r4 : BitVec 32 := Scalar.addi arg12_r4 v14
  let v106_r4 : BitVec 32 := Scalar.addi c1024_i32_85_r4 v78_r4
  let c1024_i32_92_r4 : BitVec 32 := 1024#32
  let true_66_r4 : BitVec 1 := 1#1
  let c1_i32_65_r4 : BitVec 32 := 1#32
  let v79_r4 : BitVec 32 := Scalar.subi arg12_r4 c1_i32_65_r4
  let v80_r4 : BitVec 32 := Scalar.select true_66_r4 v79_r4 arg12_r4
  let c_m1_i32_67_r4 : BitVec 32 := 4294967295#32
  let v81_r4 : BitVec 1 := Scalar.cmpi .eq v80_r4 c_m1_i32_67_r4
  let c15_i32_68_r4 : BitVec 32 := 15#32
  let v82_r4 : BitVec 32 := Scalar.select v81_r4 c15_i32_68_r4 v80_r4
  let v83_r4 : BitVec 32 := Scalar.addi v82_r4 v14
  let v119_r4 : BitVec 32 := Scalar.addi c1024_i32_92_r4 v83_r4
  let v146_r4 : BitVec 1 := Scalar.cmpi .ne v106_r4 v119_r4
  let c0_i32_35_r4 : BitVec 32 := 0#32
  let c1_i32_37_r4 : BitVec 32 := 1#32
  let arg7_r4 : BitVec 32 := Scf.iv c0_i32_35_r4 c1_i32_37_r4 k8_t3
  let c0_i32_63_r4 : BitVec 32 := 0#32
  let v76_r4 : BitVec 1 := Scalar.cmpi .eq arg7_r4 c0_i32_63_r4
  let true_105_r4 : BitVec 1 := 1#1
  let v147_r4 : BitVec 1 := Scalar.xori v76_r4 true_105_r4
  let v148_r4 : BitVec 1 := Scalar.andi v146_r4 v147_r4
  let v149_r4 : BitVec 32 := Scalar.extui v148_r4
  let c0_i32_106_r4 : BitVec 32 := 0#32
  let v150_r4 : BitVec 1 := Scalar.cmpi .ne v149_r4 c0_i32_106_r4
  v150_r4

def k8_off58 (i : grid8.Coords) (arg12_r4 : BitVec 32) : Fin 2 → Nat :=
  let c256_i32_116_r4 : BitVec 32 := 256#32
  let c1024_i32_115_r4 : BitVec 32 := 1024#32
  let true_66_r4 : BitVec 1 := 1#1
  let c1_i32_65_r4 : BitVec 32 := 1#32
  let v79_r4 : BitVec 32 := Scalar.subi arg12_r4 c1_i32_65_r4
  let v80_r4 : BitVec 32 := Scalar.select true_66_r4 v79_r4 arg12_r4
  let c_m1_i32_67_r4 : BitVec 32 := 4294967295#32
  let v81_r4 : BitVec 1 := Scalar.cmpi .eq v80_r4 c_m1_i32_67_r4
  let c15_i32_68_r4 : BitVec 32 := 15#32
  let v82_r4 : BitVec 32 := Scalar.select v81_r4 c15_i32_68_r4 v80_r4
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v83_r4 : BitVec 32 := Scalar.addi v82_r4 v14
  let v163_r4 : BitVec 32 := Scalar.addi c1024_i32_115_r4 v83_r4
  let v164_r4 : BitVec 32 := Scalar.muli c256_i32_116_r4 v163_r4
  let c0_i32_119_r4 : BitVec 32 := 0#32
  ![v164_r4.toNat, 0]
def k8_off59 (arg11_r4 : BitVec 32) : Fin 1 → Nat :=
  let c2_i32_114_r4 : BitVec 32 := 2#32
  let v162_r4 : BitVec 32 := Scalar.remui arg11_r4 c2_i32_114_r4
  ![v162_r4.toNat]

def k8_chk11 (i : grid8.Coords) (k8_t3 : Fin k8_t3_loop.trips) (arg8_r4 : BitVec 32) (arg9_r4 : BitVec 32) (arg10_r4 : BitVec 32) (arg11_r4 : BitVec 32) (arg12_r4 : BitVec 32) : Prop :=
  (∀ (k8_h15 : k8_cond15 i k8_t3 arg12_r4 = 1#1), ∀ a, (k8_off46 arg8_r4) a + S1x1x256.size a ≤ S2x1x256.size a) ∧
  (∀ (k8_h15 : k8_cond15 i k8_t3 arg12_r4 = 1#1), ∀ a, (k8_off47 i arg12_r4) a + S1x256.size a ≤ S3x1048576.size a) ∧
  (∀ (k8_h15 : k8_cond15 i k8_t3 arg12_r4 = 1#1), ∀ a, (k8_off48 arg8_r4) a + S1.size a ≤ S2.size a) ∧
  (∀ (k8_h16 : k8_cond16 i k8_t3 arg12_r4 = 1#1), ∀ a, (k8_off49 arg9_r4) a + S1x1x256.size a ≤ S2x1x256.size a) ∧
  (∀ (k8_h16 : k8_cond16 i k8_t3 arg12_r4 = 1#1), ∀ a, (k8_off50 i arg12_r4) a + S1x256.size a ≤ S3x1048576.size a) ∧
  (∀ (k8_h16 : k8_cond16 i k8_t3 arg12_r4 = 1#1), ∀ a, (k8_off51 arg9_r4) a + S1.size a ≤ S2.size a) ∧
  (∀ (k8_h19 : k8_cond19 i k8_t3 arg12_r4 = 1#1), ∀ a, (k8_off54 arg10_r4) a + S1x256x128.size a ≤ S2x256x128.size a) ∧
  (∀ (k8_h19 : k8_cond19 i k8_t3 arg12_r4 = 1#1), ∀ a, (k8_off55 i arg12_r4) a + S256x128.size a ≤ S393216x128.size a) ∧
  (∀ (k8_h19 : k8_cond19 i k8_t3 arg12_r4 = 1#1), ∀ a, (k8_off56 arg10_r4) a + S1.size a ≤ S2.size a) ∧
  (∀ (k8_h21 : k8_cond21 i k8_t3 arg12_r4 = 1#1), ∀ a, (k8_off57 arg11_r4) a + S1x256x128.size a ≤ S2x256x128.size a) ∧
  (∀ (k8_h21 : k8_cond21 i k8_t3 arg12_r4 = 1#1), ∀ a, (k8_off58 i arg12_r4) a + S256x128.size a ≤ S393216x128.size a) ∧
  (∀ (k8_h21 : k8_cond21 i k8_t3 arg12_r4 = 1#1), ∀ a, (k8_off59 arg11_r4) a + S1.size a ≤ S2.size a)
theorem k8_off46_inb : ∀ (i : grid8.Coords) (k8_t3 : Fin k8_t3_loop.trips) (arg8_r4 : BitVec 32) (arg9_r4 : BitVec 32) (arg10_r4 : BitVec 32) (arg11_r4 : BitVec 32) (arg12_r4 : BitVec 32) (k8_hw11 : k8_chk11 i k8_t3 arg8_r4 arg9_r4 arg10_r4 arg11_r4 arg12_r4), ∀ (k8_h15 : k8_cond15 i k8_t3 arg12_r4 = 1#1), ∀ a, (k8_off46 arg8_r4) a + S1x1x256.size a ≤ S2x1x256.size a := fun i k8_t3 arg8_r4 arg9_r4 arg10_r4 arg11_r4 arg12_r4 k8_hw11 k8_h15 => k8_hw11.1 k8_h15
theorem k8_off47_inb : ∀ (i : grid8.Coords) (k8_t3 : Fin k8_t3_loop.trips) (arg8_r4 : BitVec 32) (arg9_r4 : BitVec 32) (arg10_r4 : BitVec 32) (arg11_r4 : BitVec 32) (arg12_r4 : BitVec 32) (k8_hw11 : k8_chk11 i k8_t3 arg8_r4 arg9_r4 arg10_r4 arg11_r4 arg12_r4), ∀ (k8_h15 : k8_cond15 i k8_t3 arg12_r4 = 1#1), ∀ a, (k8_off47 i arg12_r4) a + S1x256.size a ≤ S3x1048576.size a := fun i k8_t3 arg8_r4 arg9_r4 arg10_r4 arg11_r4 arg12_r4 k8_hw11 k8_h15 => k8_hw11.2.1 k8_h15
theorem k8_off48_inb : ∀ (i : grid8.Coords) (k8_t3 : Fin k8_t3_loop.trips) (arg8_r4 : BitVec 32) (arg9_r4 : BitVec 32) (arg10_r4 : BitVec 32) (arg11_r4 : BitVec 32) (arg12_r4 : BitVec 32) (k8_hw11 : k8_chk11 i k8_t3 arg8_r4 arg9_r4 arg10_r4 arg11_r4 arg12_r4), ∀ (k8_h15 : k8_cond15 i k8_t3 arg12_r4 = 1#1), ∀ a, (k8_off48 arg8_r4) a + S1.size a ≤ S2.size a := fun i k8_t3 arg8_r4 arg9_r4 arg10_r4 arg11_r4 arg12_r4 k8_hw11 k8_h15 => k8_hw11.2.2.1 k8_h15
theorem k8_off49_inb : ∀ (i : grid8.Coords) (k8_t3 : Fin k8_t3_loop.trips) (arg8_r4 : BitVec 32) (arg9_r4 : BitVec 32) (arg10_r4 : BitVec 32) (arg11_r4 : BitVec 32) (arg12_r4 : BitVec 32) (k8_hw11 : k8_chk11 i k8_t3 arg8_r4 arg9_r4 arg10_r4 arg11_r4 arg12_r4), ∀ (k8_h16 : k8_cond16 i k8_t3 arg12_r4 = 1#1), ∀ a, (k8_off49 arg9_r4) a + S1x1x256.size a ≤ S2x1x256.size a := fun i k8_t3 arg8_r4 arg9_r4 arg10_r4 arg11_r4 arg12_r4 k8_hw11 k8_h16 => k8_hw11.2.2.2.1 k8_h16
theorem k8_off50_inb : ∀ (i : grid8.Coords) (k8_t3 : Fin k8_t3_loop.trips) (arg8_r4 : BitVec 32) (arg9_r4 : BitVec 32) (arg10_r4 : BitVec 32) (arg11_r4 : BitVec 32) (arg12_r4 : BitVec 32) (k8_hw11 : k8_chk11 i k8_t3 arg8_r4 arg9_r4 arg10_r4 arg11_r4 arg12_r4), ∀ (k8_h16 : k8_cond16 i k8_t3 arg12_r4 = 1#1), ∀ a, (k8_off50 i arg12_r4) a + S1x256.size a ≤ S3x1048576.size a := fun i k8_t3 arg8_r4 arg9_r4 arg10_r4 arg11_r4 arg12_r4 k8_hw11 k8_h16 => k8_hw11.2.2.2.2.1 k8_h16
theorem k8_off51_inb : ∀ (i : grid8.Coords) (k8_t3 : Fin k8_t3_loop.trips) (arg8_r4 : BitVec 32) (arg9_r4 : BitVec 32) (arg10_r4 : BitVec 32) (arg11_r4 : BitVec 32) (arg12_r4 : BitVec 32) (k8_hw11 : k8_chk11 i k8_t3 arg8_r4 arg9_r4 arg10_r4 arg11_r4 arg12_r4), ∀ (k8_h16 : k8_cond16 i k8_t3 arg12_r4 = 1#1), ∀ a, (k8_off51 arg9_r4) a + S1.size a ≤ S2.size a := fun i k8_t3 arg8_r4 arg9_r4 arg10_r4 arg11_r4 arg12_r4 k8_hw11 k8_h16 => k8_hw11.2.2.2.2.2.1 k8_h16
theorem k8_off54_inb : ∀ (i : grid8.Coords) (k8_t3 : Fin k8_t3_loop.trips) (arg8_r4 : BitVec 32) (arg9_r4 : BitVec 32) (arg10_r4 : BitVec 32) (arg11_r4 : BitVec 32) (arg12_r4 : BitVec 32) (k8_hw11 : k8_chk11 i k8_t3 arg8_r4 arg9_r4 arg10_r4 arg11_r4 arg12_r4), ∀ (k8_h19 : k8_cond19 i k8_t3 arg12_r4 = 1#1), ∀ a, (k8_off54 arg10_r4) a + S1x256x128.size a ≤ S2x256x128.size a := fun i k8_t3 arg8_r4 arg9_r4 arg10_r4 arg11_r4 arg12_r4 k8_hw11 k8_h19 => k8_hw11.2.2.2.2.2.2.1 k8_h19
theorem k8_off55_inb : ∀ (i : grid8.Coords) (k8_t3 : Fin k8_t3_loop.trips) (arg8_r4 : BitVec 32) (arg9_r4 : BitVec 32) (arg10_r4 : BitVec 32) (arg11_r4 : BitVec 32) (arg12_r4 : BitVec 32) (k8_hw11 : k8_chk11 i k8_t3 arg8_r4 arg9_r4 arg10_r4 arg11_r4 arg12_r4), ∀ (k8_h19 : k8_cond19 i k8_t3 arg12_r4 = 1#1), ∀ a, (k8_off55 i arg12_r4) a + S256x128.size a ≤ S393216x128.size a := fun i k8_t3 arg8_r4 arg9_r4 arg10_r4 arg11_r4 arg12_r4 k8_hw11 k8_h19 => k8_hw11.2.2.2.2.2.2.2.1 k8_h19
theorem k8_off56_inb : ∀ (i : grid8.Coords) (k8_t3 : Fin k8_t3_loop.trips) (arg8_r4 : BitVec 32) (arg9_r4 : BitVec 32) (arg10_r4 : BitVec 32) (arg11_r4 : BitVec 32) (arg12_r4 : BitVec 32) (k8_hw11 : k8_chk11 i k8_t3 arg8_r4 arg9_r4 arg10_r4 arg11_r4 arg12_r4), ∀ (k8_h19 : k8_cond19 i k8_t3 arg12_r4 = 1#1), ∀ a, (k8_off56 arg10_r4) a + S1.size a ≤ S2.size a := fun i k8_t3 arg8_r4 arg9_r4 arg10_r4 arg11_r4 arg12_r4 k8_hw11 k8_h19 => k8_hw11.2.2.2.2.2.2.2.2.1 k8_h19
theorem k8_off57_inb : ∀ (i : grid8.Coords) (k8_t3 : Fin k8_t3_loop.trips) (arg8_r4 : BitVec 32) (arg9_r4 : BitVec 32) (arg10_r4 : BitVec 32) (arg11_r4 : BitVec 32) (arg12_r4 : BitVec 32) (k8_hw11 : k8_chk11 i k8_t3 arg8_r4 arg9_r4 arg10_r4 arg11_r4 arg12_r4), ∀ (k8_h21 : k8_cond21 i k8_t3 arg12_r4 = 1#1), ∀ a, (k8_off57 arg11_r4) a + S1x256x128.size a ≤ S2x256x128.size a := fun i k8_t3 arg8_r4 arg9_r4 arg10_r4 arg11_r4 arg12_r4 k8_hw11 k8_h21 => k8_hw11.2.2.2.2.2.2.2.2.2.1 k8_h21
theorem k8_off58_inb : ∀ (i : grid8.Coords) (k8_t3 : Fin k8_t3_loop.trips) (arg8_r4 : BitVec 32) (arg9_r4 : BitVec 32) (arg10_r4 : BitVec 32) (arg11_r4 : BitVec 32) (arg12_r4 : BitVec 32) (k8_hw11 : k8_chk11 i k8_t3 arg8_r4 arg9_r4 arg10_r4 arg11_r4 arg12_r4), ∀ (k8_h21 : k8_cond21 i k8_t3 arg12_r4 = 1#1), ∀ a, (k8_off58 i arg12_r4) a + S256x128.size a ≤ S393216x128.size a := fun i k8_t3 arg8_r4 arg9_r4 arg10_r4 arg11_r4 arg12_r4 k8_hw11 k8_h21 => k8_hw11.2.2.2.2.2.2.2.2.2.2.1 k8_h21
theorem k8_off59_inb : ∀ (i : grid8.Coords) (k8_t3 : Fin k8_t3_loop.trips) (arg8_r4 : BitVec 32) (arg9_r4 : BitVec 32) (arg10_r4 : BitVec 32) (arg11_r4 : BitVec 32) (arg12_r4 : BitVec 32) (k8_hw11 : k8_chk11 i k8_t3 arg8_r4 arg9_r4 arg10_r4 arg11_r4 arg12_r4), ∀ (k8_h21 : k8_cond21 i k8_t3 arg12_r4 = 1#1), ∀ a, (k8_off59 arg11_r4) a + S1.size a ≤ S2.size a := fun i k8_t3 arg8_r4 arg9_r4 arg10_r4 arg11_r4 arg12_r4 k8_hw11 k8_h21 => k8_hw11.2.2.2.2.2.2.2.2.2.2.2 k8_h21

def k8_off60 (v44_3_r4 : BitVec 32) : Fin 3 → Nat :=
  let c2_i32_55_r4 : BitVec 32 := 2#32
  let v65_r4 : BitVec 32 := Scalar.remui v44_3_r4 c2_i32_55_r4
  let c0_i32_57_r4 : BitVec 32 := 0#32
  let c0_i32_58_r4 : BitVec 32 := 0#32
  ![v65_r4.toNat, 0, 0]

def k8_off61 (i : grid8.Coords) (v44_4_r4 : BitVec 32) : Fin 2 → Nat :=
  let c256_i32_56_r4 : BitVec 32 := 256#32
  let c1024_i32_r4 : BitVec 32 := 1024#32
  let true_40_r4 : BitVec 1 := 1#1
  let c1_i32_39_r4 : BitVec 32 := 1#32
  let v45_r4 : BitVec 32 := Scalar.subi v44_4_r4 c1_i32_39_r4
  let v46_r4 : BitVec 32 := Scalar.select true_40_r4 v45_r4 v44_4_r4
  let c_m1_i32_41_r4 : BitVec 32 := 4294967295#32
  let v47_r4 : BitVec 1 := Scalar.cmpi .eq v46_r4 c_m1_i32_41_r4
  let c15_i32_42_r4 : BitVec 32 := 15#32
  let v48_r4 : BitVec 32 := Scalar.select v47_r4 c15_i32_42_r4 v46_r4
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v49_r4 : BitVec 32 := Scalar.addi v48_r4 v14
  let v66_r4 : BitVec 32 := Scalar.addi c1024_i32_r4 v49_r4
  let v67_r4 : BitVec 32 := Scalar.muli c256_i32_56_r4 v66_r4
  let c0_i32_59_r4 : BitVec 32 := 0#32
  ![v67_r4.toNat, 0]

def k8_chk15 (i : grid8.Coords) (v44_4_r4 : BitVec 32) : Prop :=
  (∀ a, (k8_off61 i v44_4_r4) a + S256x128.size a ≤ S393216x128.size a)
theorem k8_off61_inb : ∀ (i : grid8.Coords) (v44_4_r4 : BitVec 32) (k8_hw15 : k8_chk15 i v44_4_r4), ∀ a, (k8_off61 i v44_4_r4) a + S256x128.size a ≤ S393216x128.size a := fun i v44_4_r4 k8_hw15 => k8_hw15

def k8_off62 (v44_3_r4 : BitVec 32) : Fin 1 → Nat :=
  let c2_i32_55_r4 : BitVec 32 := 2#32
  let v65_r4 : BitVec 32 := Scalar.remui v44_3_r4 c2_i32_55_r4
  ![v65_r4.toNat]
def k8_off63 (v44_3_r4 : BitVec 32) : Fin 3 → Nat :=
  let c2_i32_55_r4 : BitVec 32 := 2#32
  let v65_r4 : BitVec 32 := Scalar.remui v44_3_r4 c2_i32_55_r4
  let c0_i32_61_r4 : BitVec 32 := 0#32
  let c0_i32_62_r4 : BitVec 32 := 0#32
  ![v65_r4.toNat, 0, 0]

def k8_chk14 (v44_3_r4 : BitVec 32) : Prop :=
  (∀ a, (k8_off60 v44_3_r4) a + S1x256x128.size a ≤ S2x256x128.size a) ∧
  (∀ a, (k8_off62 v44_3_r4) a + S1.size a ≤ S2.size a) ∧
  (∀ a, (k8_off63 v44_3_r4) a + S1x256x128.size a ≤ S2x256x128.size a)
theorem k8_off60_inb : ∀ (v44_3_r4 : BitVec 32) (k8_hw14 : k8_chk14 v44_3_r4), ∀ a, (k8_off60 v44_3_r4) a + S1x256x128.size a ≤ S2x256x128.size a := fun v44_3_r4 k8_hw14 => k8_hw14.1
theorem k8_off62_inb : ∀ (v44_3_r4 : BitVec 32) (k8_hw14 : k8_chk14 v44_3_r4), ∀ a, (k8_off62 v44_3_r4) a + S1.size a ≤ S2.size a := fun v44_3_r4 k8_hw14 => k8_hw14.2.1
theorem k8_off63_inb : ∀ (v44_3_r4 : BitVec 32) (k8_hw14 : k8_chk14 v44_3_r4), ∀ a, (k8_off63 v44_3_r4) a + S1x256x128.size a ≤ S2x256x128.size a := fun v44_3_r4 k8_hw14 => k8_hw14.2.2

abbrev grid9 : Pipeline.Grid := ⟨1, ![64], ![false]⟩

def cc9_transform_1 (i : grid9.Coords) : Fin 2 → Nat :=
  let arg0 : BitVec 32 := BitVec.ofNat 32 (i 0).val
  let c256_i32 : BitVec 32 := 256#32
  let v0 : BitVec 32 := Scalar.addi c256_i32 arg0
  let c0_i32 : BitVec 32 := 0#32
  let c0_i32_0 : BitVec 32 := 0#32
  ![c0_i32.toNat, v0.toNat]

def cc9_transform_2 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c256_i32 : BitVec 32 := 256#32
  let v0 : BitVec 32 := Scalar.addi c256_i32 arg0
  let c0_i32 : BitVec 32 := 0#32
  let c0_i32_0 : BitVec 32 := 0#32
  ![c0_i32.toNat, v0.toNat]

abbrev stage9_0 : Fin 2 → Memref sig .tc .vmem S16x2048 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S3x2048x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S16x384 .bf16 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S128x32 .bf16 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S32x2048 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev grid10 : Pipeline.Grid := ⟨2, ![2, 16], ![false, false]⟩

def k10_off1 : Fin 3 → Nat :=
  let c0_i32_22_r0 : BitVec 32 := 0#32
  let c2_i32_r0 : BitVec 32 := 2#32
  let v31_r0 : BitVec 32 := Scalar.remui c0_i32_22_r0 c2_i32_r0
  let c0_i32_23_r0 : BitVec 32 := 0#32
  let c0_i32_24_r0 : BitVec 32 := 0#32
  ![v31_r0.toNat, 0, 0]
def k10_off2 (i : grid10.Coords) : Fin 2 → Nat :=
  let c0_i32_25_r0 : BitVec 32 := 0#32
  let c256_i32_r0 : BitVec 32 := 256#32
  let c2560_i32_r0 : BitVec 32 := 2560#32
  let c0_i32_10_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v17_r0 : BitVec 32 := Scalar.addi c0_i32_10_r0 v4
  let v32_r0 : BitVec 32 := Scalar.addi c2560_i32_r0 v17_r0
  let v33_r0 : BitVec 32 := Scalar.muli c256_i32_r0 v32_r0
  ![0, v33_r0.toNat]
def k10_off3 : Fin 1 → Nat :=
  let c0_i32_22_r0 : BitVec 32 := 0#32
  let c2_i32_r0 : BitVec 32 := 2#32
  let v31_r0 : BitVec 32 := Scalar.remui c0_i32_22_r0 c2_i32_r0
  ![v31_r0.toNat]
@[reducible] def k10_t1_loop : Scf.Loop 32 :=
  let c0_i32_35_r0 : BitVec 32 := 0#32
  let c16_i32_36_r0 : BitVec 32 := 16#32
  let v43_r0 : BitVec 32 := Scalar.addi c0_i32_35_r0 c16_i32_36_r0
  let c1_i32_37_r0 : BitVec 32 := 1#32
  ⟨c0_i32_35_r0, v43_r0, c1_i32_37_r0⟩
def k10_off4 (arg8_r0 : BitVec 32) : Fin 3 → Nat :=
  let c2_i32_115_r0 : BitVec 32 := 2#32
  let v162_r0 : BitVec 32 := Scalar.remui arg8_r0 c2_i32_115_r0
  let c0_i32_118_r0 : BitVec 32 := 0#32
  let c0_i32_119_r0 : BitVec 32 := 0#32
  ![v162_r0.toNat, 0, 0]
def k10_cond1 (i : grid10.Coords) (k10_t1 : Fin k10_t1_loop.trips) (arg12_r0 : BitVec 32) : BitVec 1 :=
  let c2560_i32_78_r0 : BitVec 32 := 2560#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v78_r0 : BitVec 32 := Scalar.addi arg12_r0 v4
  let v94_r0 : BitVec 32 := Scalar.addi c2560_i32_78_r0 v78_r0
  let c2560_i32_79_r0 : BitVec 32 := 2560#32
  let true_71_r0 : BitVec 1 := 1#1
  let c1_i32_70_r0 : BitVec 32 := 1#32
  let v84_r0 : BitVec 32 := Scalar.addi arg12_r0 c1_i32_70_r0
  let v85_r0 : BitVec 32 := Scalar.select true_71_r0 v84_r0 arg12_r0
  let c16_i32_72_r0 : BitVec 32 := 16#32
  let v86_r0 : BitVec 1 := Scalar.cmpi .eq v85_r0 c16_i32_72_r0
  let c0_i32_73_r0 : BitVec 32 := 0#32
  let v87_r0 : BitVec 32 := Scalar.select v86_r0 c0_i32_73_r0 v85_r0
  let v88_r0 : BitVec 32 := Scalar.addi v87_r0 v4
  let v95_r0 : BitVec 32 := Scalar.addi c2560_i32_79_r0 v88_r0
  let v96_r0 : BitVec 1 := Scalar.cmpi .ne v94_r0 v95_r0
  let c0_i32_35_r0 : BitVec 32 := 0#32
  let c1_i32_37_r0 : BitVec 32 := 1#32
  let arg7_r0 : BitVec 32 := Scf.iv c0_i32_35_r0 c1_i32_37_r0 k10_t1
  let c15_i32_80_r0 : BitVec 32 := 15#32
  let v97_r0 : BitVec 1 := Scalar.cmpi .sge arg7_r0 c15_i32_80_r0
  let true_81_r0 : BitVec 1 := 1#1
  let v98_r0 : BitVec 1 := Scalar.xori v97_r0 true_81_r0
  let v99_r0 : BitVec 1 := Scalar.andi v96_r0 v98_r0
  let true_82_r0 : BitVec 1 := 1#1
  let v100_r0 : BitVec 1 := Scalar.andi v99_r0 true_82_r0
  let v101_r0 : BitVec 32 := Scalar.extui v100_r0
  let c0_i32_83_r0 : BitVec 32 := 0#32
  let v102_r0 : BitVec 1 := Scalar.cmpi .ne v101_r0 c0_i32_83_r0
  v102_r0

def k10_off5 (i : grid10.Coords) (arg12_r0 : BitVec 32) : Fin 2 → Nat :=
  let c0_i32_120_r0 : BitVec 32 := 0#32
  let c256_i32_117_r0 : BitVec 32 := 256#32
  let c2560_i32_116_r0 : BitVec 32 := 2560#32
  let true_71_r0 : BitVec 1 := 1#1
  let c1_i32_70_r0 : BitVec 32 := 1#32
  let v84_r0 : BitVec 32 := Scalar.addi arg12_r0 c1_i32_70_r0
  let v85_r0 : BitVec 32 := Scalar.select true_71_r0 v84_r0 arg12_r0
  let c16_i32_72_r0 : BitVec 32 := 16#32
  let v86_r0 : BitVec 1 := Scalar.cmpi .eq v85_r0 c16_i32_72_r0
  let c0_i32_73_r0 : BitVec 32 := 0#32
  let v87_r0 : BitVec 32 := Scalar.select v86_r0 c0_i32_73_r0 v85_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v88_r0 : BitVec 32 := Scalar.addi v87_r0 v4
  let v163_r0 : BitVec 32 := Scalar.addi c2560_i32_116_r0 v88_r0
  let v164_r0 : BitVec 32 := Scalar.muli c256_i32_117_r0 v163_r0
  ![0, v164_r0.toNat]
def k10_off6 (arg8_r0 : BitVec 32) : Fin 1 → Nat :=
  let c2_i32_115_r0 : BitVec 32 := 2#32
  let v162_r0 : BitVec 32 := Scalar.remui arg8_r0 c2_i32_115_r0
  ![v162_r0.toNat]
def k10_off7 (arg9_r0 : BitVec 32) : Fin 3 → Nat :=
  let c2_i32_117_r0 : BitVec 32 := 2#32
  let v164_r0 : BitVec 32 := Scalar.remui arg9_r0 c2_i32_117_r0
  let c0_i32_118_r0 : BitVec 32 := 0#32
  let c0_i32_119_r0 : BitVec 32 := 0#32
  ![v164_r0.toNat, 0, 0]
def k10_cond2 (i : grid10.Coords) (k10_t1 : Fin k10_t1_loop.trips) (arg12_r0 : BitVec 32) : BitVec 1 :=
  let c2560_i32_78_r0 : BitVec 32 := 2560#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v78_r0 : BitVec 32 := Scalar.addi arg12_r0 v4
  let v94_r0 : BitVec 32 := Scalar.addi c2560_i32_78_r0 v78_r0
  let c2560_i32_90_r0 : BitVec 32 := 2560#32
  let true_67_r0 : BitVec 1 := 1#1
  let c1_i32_66_r0 : BitVec 32 := 1#32
  let v79_r0 : BitVec 32 := Scalar.subi arg12_r0 c1_i32_66_r0
  let v80_r0 : BitVec 32 := Scalar.select true_67_r0 v79_r0 arg12_r0
  let c_m1_i32_68_r0 : BitVec 32 := 4294967295#32
  let v81_r0 : BitVec 1 := Scalar.cmpi .eq v80_r0 c_m1_i32_68_r0
  let c15_i32_69_r0 : BitVec 32 := 15#32
  let v82_r0 : BitVec 32 := Scalar.select v81_r0 c15_i32_69_r0 v80_r0
  let v83_r0 : BitVec 32 := Scalar.addi v82_r0 v4
  let v112_r0 : BitVec 32 := Scalar.addi c2560_i32_90_r0 v83_r0
  let v113_r0 : BitVec 1 := Scalar.cmpi .ne v94_r0 v112_r0
  let c0_i32_35_r0 : BitVec 32 := 0#32
  let c1_i32_37_r0 : BitVec 32 := 1#32
  let arg7_r0 : BitVec 32 := Scf.iv c0_i32_35_r0 c1_i32_37_r0 k10_t1
  let c0_i32_64_r0 : BitVec 32 := 0#32
  let v76_r0 : BitVec 1 := Scalar.cmpi .eq arg7_r0 c0_i32_64_r0
  let v114_r0 : BitVec 1 := Scalar.ori v113_r0 v76_r0
  let c0_i32_91_r0 : BitVec 32 := 0#32
  let v115_r0 : BitVec 1 := Scalar.cmpi .sge arg7_r0 c0_i32_91_r0
  let v116_r0 : BitVec 1 := Scalar.andi v114_r0 v115_r0
  let v117_r0 : BitVec 32 := Scalar.extui v116_r0
  let c0_i32_92_r0 : BitVec 32 := 0#32
  let v118_r0 : BitVec 1 := Scalar.cmpi .ne v117_r0 c0_i32_92_r0
  v118_r0

def k10_off8 (i : grid10.Coords) (arg12_r0 : BitVec 32) : Fin 2 → Nat :=
  let c0_i32_120_r0 : BitVec 32 := 0#32
  let c256_i32_116_r0 : BitVec 32 := 256#32
  let c2560_i32_115_r0 : BitVec 32 := 2560#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v78_r0 : BitVec 32 := Scalar.addi arg12_r0 v4
  let v162_r0 : BitVec 32 := Scalar.addi c2560_i32_115_r0 v78_r0
  let v163_r0 : BitVec 32 := Scalar.muli c256_i32_116_r0 v162_r0
  ![0, v163_r0.toNat]
def k10_off9 (arg9_r0 : BitVec 32) : Fin 1 → Nat :=
  let c2_i32_117_r0 : BitVec 32 := 2#32
  let v164_r0 : BitVec 32 := Scalar.remui arg9_r0 c2_i32_117_r0
  ![v164_r0.toNat]
def k10_off10 (arg10_r0 : BitVec 32) : Fin 3 → Nat :=
  let c2_i32_97_r0 : BitVec 32 := 2#32
  let v127_r0 : BitVec 32 := Scalar.remui arg10_r0 c2_i32_97_r0
  let c0_i32_115_r1 : BitVec 32 := 0#32
  let c0_i32_116_r1 : BitVec 32 := 0#32
  ![v127_r0.toNat, 0, 0]

def k10_chk2 (arg10_r0 : BitVec 32) : Prop :=
  (∀ a, (k10_off10 arg10_r0) a + S1x256x128.size a ≤ S2x256x128.size a)
theorem k10_off10_inb : ∀ (arg10_r0 : BitVec 32) (k10_hw2 : k10_chk2 arg10_r0), ∀ a, (k10_off10 arg10_r0) a + S1x256x128.size a ≤ S2x256x128.size a := fun arg10_r0 k10_hw2 => k10_hw2

def k10_off11 (arg9_r0 : BitVec 32) : Fin 3 → Nat :=
  let c2_i32_96_r0 : BitVec 32 := 2#32
  let v126_r0 : BitVec 32 := Scalar.remui arg9_r0 c2_i32_96_r0
  let c0_i32_117_r1 : BitVec 32 := 0#32
  let c0_i32_118_r1 : BitVec 32 := 0#32
  ![v126_r0.toNat, 0, 0]

def k10_chk3 (arg9_r0 : BitVec 32) : Prop :=
  (∀ a, (k10_off11 arg9_r0) a + S1x1x256.size a ≤ S2x1x256.size a)
theorem k10_off11_inb : ∀ (arg9_r0 : BitVec 32) (k10_hw3 : k10_chk3 arg9_r0), ∀ a, (k10_off11 arg9_r0) a + S1x1x256.size a ≤ S2x1x256.size a := fun arg9_r0 k10_hw3 => k10_hw3

def k10_off12 (arg10_r0 : BitVec 32) : Fin 3 → Nat :=
  let c2_i32_115_r0 : BitVec 32 := 2#32
  let v162_r0 : BitVec 32 := Scalar.remui arg10_r0 c2_i32_115_r0
  let c0_i32_118_r0 : BitVec 32 := 0#32
  let c0_i32_119_r0 : BitVec 32 := 0#32
  ![v162_r0.toNat, 0, 0]
def k10_cond5 (i : grid10.Coords) (k10_t1 : Fin k10_t1_loop.trips) (arg12_r0 : BitVec 32) : BitVec 1 :=
  let c0_i32_86_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v78_r0 : BitVec 32 := Scalar.addi arg12_r0 v4
  let v106_r0 : BitVec 32 := Scalar.addi c0_i32_86_r0 v78_r0
  let c0_i32_87_r0 : BitVec 32 := 0#32
  let true_71_r0 : BitVec 1 := 1#1
  let c1_i32_70_r0 : BitVec 32 := 1#32
  let v84_r0 : BitVec 32 := Scalar.addi arg12_r0 c1_i32_70_r0
  let v85_r0 : BitVec 32 := Scalar.select true_71_r0 v84_r0 arg12_r0
  let c16_i32_72_r0 : BitVec 32 := 16#32
  let v86_r0 : BitVec 1 := Scalar.cmpi .eq v85_r0 c16_i32_72_r0
  let c0_i32_73_r0 : BitVec 32 := 0#32
  let v87_r0 : BitVec 32 := Scalar.select v86_r0 c0_i32_73_r0 v85_r0
  let v88_r0 : BitVec 32 := Scalar.addi v87_r0 v4
  let v107_r0 : BitVec 32 := Scalar.addi c0_i32_87_r0 v88_r0
  let v133_r0 : BitVec 1 := Scalar.cmpi .ne v106_r0 v107_r0
  let c0_i32_35_r0 : BitVec 32 := 0#32
  let c1_i32_37_r0 : BitVec 32 := 1#32
  let arg7_r0 : BitVec 32 := Scf.iv c0_i32_35_r0 c1_i32_37_r0 k10_t1
  let c15_i32_65_r0 : BitVec 32 := 15#32
  let v77_r0 : BitVec 1 := Scalar.cmpi .eq arg7_r0 c15_i32_65_r0
  let v134_r0 : BitVec 1 := Scalar.ori v133_r0 v77_r0
  let v135_r0 : BitVec 32 := Scalar.extui v134_r0
  let c0_i32_100_r0 : BitVec 32 := 0#32
  let v136_r0 : BitVec 1 := Scalar.cmpi .ne v135_r0 c0_i32_100_r0
  v136_r0

def k10_off13 (i : grid10.Coords) (arg12_r0 : BitVec 32) : Fin 2 → Nat :=
  let c256_i32_117_r0 : BitVec 32 := 256#32
  let c0_i32_116_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v78_r0 : BitVec 32 := Scalar.addi arg12_r0 v4
  let v163_r0 : BitVec 32 := Scalar.addi c0_i32_116_r0 v78_r0
  let v164_r0 : BitVec 32 := Scalar.muli c256_i32_117_r0 v163_r0
  let c0_i32_120_r0 : BitVec 32 := 0#32
  ![v164_r0.toNat, 0]
def k10_off14 (arg10_r0 : BitVec 32) : Fin 1 → Nat :=
  let c2_i32_115_r0 : BitVec 32 := 2#32
  let v162_r0 : BitVec 32 := Scalar.remui arg10_r0 c2_i32_115_r0
  ![v162_r0.toNat]
def k10_off15 (arg11_r0 : BitVec 32) : Fin 3 → Nat :=
  let c2_i32_115_r0 : BitVec 32 := 2#32
  let v162_r0 : BitVec 32 := Scalar.remui arg11_r0 c2_i32_115_r0
  let c0_i32_118_r0 : BitVec 32 := 0#32
  let c0_i32_119_r0 : BitVec 32 := 0#32
  ![v162_r0.toNat, 0, 0]
def k10_cond7 (i : grid10.Coords) (k10_t1 : Fin k10_t1_loop.trips) (arg12_r0 : BitVec 32) : BitVec 1 :=
  let c0_i32_86_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v78_r0 : BitVec 32 := Scalar.addi arg12_r0 v4
  let v106_r0 : BitVec 32 := Scalar.addi c0_i32_86_r0 v78_r0
  let c0_i32_93_r0 : BitVec 32 := 0#32
  let true_67_r0 : BitVec 1 := 1#1
  let c1_i32_66_r0 : BitVec 32 := 1#32
  let v79_r0 : BitVec 32 := Scalar.subi arg12_r0 c1_i32_66_r0
  let v80_r0 : BitVec 32 := Scalar.select true_67_r0 v79_r0 arg12_r0
  let c_m1_i32_68_r0 : BitVec 32 := 4294967295#32
  let v81_r0 : BitVec 1 := Scalar.cmpi .eq v80_r0 c_m1_i32_68_r0
  let c15_i32_69_r0 : BitVec 32 := 15#32
  let v82_r0 : BitVec 32 := Scalar.select v81_r0 c15_i32_69_r0 v80_r0
  let v83_r0 : BitVec 32 := Scalar.addi v82_r0 v4
  let v119_r0 : BitVec 32 := Scalar.addi c0_i32_93_r0 v83_r0
  let v146_r0 : BitVec 1 := Scalar.cmpi .ne v106_r0 v119_r0
  let c0_i32_35_r0 : BitVec 32 := 0#32
  let c1_i32_37_r0 : BitVec 32 := 1#32
  let arg7_r0 : BitVec 32 := Scf.iv c0_i32_35_r0 c1_i32_37_r0 k10_t1
  let c0_i32_64_r0 : BitVec 32 := 0#32
  let v76_r0 : BitVec 1 := Scalar.cmpi .eq arg7_r0 c0_i32_64_r0
  let true_106_r0 : BitVec 1 := 1#1
  let v147_r0 : BitVec 1 := Scalar.xori v76_r0 true_106_r0
  let v148_r0 : BitVec 1 := Scalar.andi v146_r0 v147_r0
  let v149_r0 : BitVec 32 := Scalar.extui v148_r0
  let c0_i32_107_r0 : BitVec 32 := 0#32
  let v150_r0 : BitVec 1 := Scalar.cmpi .ne v149_r0 c0_i32_107_r0
  v150_r0

def k10_off16 (i : grid10.Coords) (arg12_r0 : BitVec 32) : Fin 2 → Nat :=
  let c256_i32_117_r0 : BitVec 32 := 256#32
  let c0_i32_116_r0 : BitVec 32 := 0#32
  let true_67_r0 : BitVec 1 := 1#1
  let c1_i32_66_r0 : BitVec 32 := 1#32
  let v79_r0 : BitVec 32 := Scalar.subi arg12_r0 c1_i32_66_r0
  let v80_r0 : BitVec 32 := Scalar.select true_67_r0 v79_r0 arg12_r0
  let c_m1_i32_68_r0 : BitVec 32 := 4294967295#32
  let v81_r0 : BitVec 1 := Scalar.cmpi .eq v80_r0 c_m1_i32_68_r0
  let c15_i32_69_r0 : BitVec 32 := 15#32
  let v82_r0 : BitVec 32 := Scalar.select v81_r0 c15_i32_69_r0 v80_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v83_r0 : BitVec 32 := Scalar.addi v82_r0 v4
  let v163_r0 : BitVec 32 := Scalar.addi c0_i32_116_r0 v83_r0
  let v164_r0 : BitVec 32 := Scalar.muli c256_i32_117_r0 v163_r0
  let c0_i32_120_r0 : BitVec 32 := 0#32
  ![v164_r0.toNat, 0]
def k10_off17 (arg11_r0 : BitVec 32) : Fin 1 → Nat :=
  let c2_i32_115_r0 : BitVec 32 := 2#32
  let v162_r0 : BitVec 32 := Scalar.remui arg11_r0 c2_i32_115_r0
  ![v162_r0.toNat]

def k10_chk1 (i : grid10.Coords) (k10_t1 : Fin k10_t1_loop.trips) (arg8_r0 : BitVec 32) (arg9_r0 : BitVec 32) (arg10_r0 : BitVec 32) (arg11_r0 : BitVec 32) (arg12_r0 : BitVec 32) : Prop :=
  (∀ (k10_h1 : k10_cond1 i k10_t1 arg12_r0 = 1#1), ∀ a, (k10_off4 arg8_r0) a + S1x1x256.size a ≤ S2x1x256.size a) ∧
  (∀ (k10_h1 : k10_cond1 i k10_t1 arg12_r0 = 1#1), ∀ a, (k10_off5 i arg12_r0) a + S1x256.size a ≤ S3x1048576.size a) ∧
  (∀ (k10_h1 : k10_cond1 i k10_t1 arg12_r0 = 1#1), ∀ a, (k10_off6 arg8_r0) a + S1.size a ≤ S2.size a) ∧
  (∀ (k10_h2 : k10_cond2 i k10_t1 arg12_r0 = 1#1), ∀ a, (k10_off7 arg9_r0) a + S1x1x256.size a ≤ S2x1x256.size a) ∧
  (∀ (k10_h2 : k10_cond2 i k10_t1 arg12_r0 = 1#1), ∀ a, (k10_off8 i arg12_r0) a + S1x256.size a ≤ S3x1048576.size a) ∧
  (∀ (k10_h2 : k10_cond2 i k10_t1 arg12_r0 = 1#1), ∀ a, (k10_off9 arg9_r0) a + S1.size a ≤ S2.size a) ∧
  (∀ (k10_h5 : k10_cond5 i k10_t1 arg12_r0 = 1#1), ∀ a, (k10_off12 arg10_r0) a + S1x256x128.size a ≤ S2x256x128.size a) ∧
  (∀ (k10_h5 : k10_cond5 i k10_t1 arg12_r0 = 1#1), ∀ a, (k10_off13 i arg12_r0) a + S256x128.size a ≤ S393216x128.size a) ∧
  (∀ (k10_h5 : k10_cond5 i k10_t1 arg12_r0 = 1#1), ∀ a, (k10_off14 arg10_r0) a + S1.size a ≤ S2.size a) ∧
  (∀ (k10_h7 : k10_cond7 i k10_t1 arg12_r0 = 1#1), ∀ a, (k10_off15 arg11_r0) a + S1x256x128.size a ≤ S2x256x128.size a) ∧
  (∀ (k10_h7 : k10_cond7 i k10_t1 arg12_r0 = 1#1), ∀ a, (k10_off16 i arg12_r0) a + S256x128.size a ≤ S393216x128.size a) ∧
  (∀ (k10_h7 : k10_cond7 i k10_t1 arg12_r0 = 1#1), ∀ a, (k10_off17 arg11_r0) a + S1.size a ≤ S2.size a)
theorem k10_off4_inb : ∀ (i : grid10.Coords) (k10_t1 : Fin k10_t1_loop.trips) (arg8_r0 : BitVec 32) (arg9_r0 : BitVec 32) (arg10_r0 : BitVec 32) (arg11_r0 : BitVec 32) (arg12_r0 : BitVec 32) (k10_hw1 : k10_chk1 i k10_t1 arg8_r0 arg9_r0 arg10_r0 arg11_r0 arg12_r0), ∀ (k10_h1 : k10_cond1 i k10_t1 arg12_r0 = 1#1), ∀ a, (k10_off4 arg8_r0) a + S1x1x256.size a ≤ S2x1x256.size a := fun i k10_t1 arg8_r0 arg9_r0 arg10_r0 arg11_r0 arg12_r0 k10_hw1 k10_h1 => k10_hw1.1 k10_h1
theorem k10_off5_inb : ∀ (i : grid10.Coords) (k10_t1 : Fin k10_t1_loop.trips) (arg8_r0 : BitVec 32) (arg9_r0 : BitVec 32) (arg10_r0 : BitVec 32) (arg11_r0 : BitVec 32) (arg12_r0 : BitVec 32) (k10_hw1 : k10_chk1 i k10_t1 arg8_r0 arg9_r0 arg10_r0 arg11_r0 arg12_r0), ∀ (k10_h1 : k10_cond1 i k10_t1 arg12_r0 = 1#1), ∀ a, (k10_off5 i arg12_r0) a + S1x256.size a ≤ S3x1048576.size a := fun i k10_t1 arg8_r0 arg9_r0 arg10_r0 arg11_r0 arg12_r0 k10_hw1 k10_h1 => k10_hw1.2.1 k10_h1
theorem k10_off6_inb : ∀ (i : grid10.Coords) (k10_t1 : Fin k10_t1_loop.trips) (arg8_r0 : BitVec 32) (arg9_r0 : BitVec 32) (arg10_r0 : BitVec 32) (arg11_r0 : BitVec 32) (arg12_r0 : BitVec 32) (k10_hw1 : k10_chk1 i k10_t1 arg8_r0 arg9_r0 arg10_r0 arg11_r0 arg12_r0), ∀ (k10_h1 : k10_cond1 i k10_t1 arg12_r0 = 1#1), ∀ a, (k10_off6 arg8_r0) a + S1.size a ≤ S2.size a := fun i k10_t1 arg8_r0 arg9_r0 arg10_r0 arg11_r0 arg12_r0 k10_hw1 k10_h1 => k10_hw1.2.2.1 k10_h1
theorem k10_off7_inb : ∀ (i : grid10.Coords) (k10_t1 : Fin k10_t1_loop.trips) (arg8_r0 : BitVec 32) (arg9_r0 : BitVec 32) (arg10_r0 : BitVec 32) (arg11_r0 : BitVec 32) (arg12_r0 : BitVec 32) (k10_hw1 : k10_chk1 i k10_t1 arg8_r0 arg9_r0 arg10_r0 arg11_r0 arg12_r0), ∀ (k10_h2 : k10_cond2 i k10_t1 arg12_r0 = 1#1), ∀ a, (k10_off7 arg9_r0) a + S1x1x256.size a ≤ S2x1x256.size a := fun i k10_t1 arg8_r0 arg9_r0 arg10_r0 arg11_r0 arg12_r0 k10_hw1 k10_h2 => k10_hw1.2.2.2.1 k10_h2
theorem k10_off8_inb : ∀ (i : grid10.Coords) (k10_t1 : Fin k10_t1_loop.trips) (arg8_r0 : BitVec 32) (arg9_r0 : BitVec 32) (arg10_r0 : BitVec 32) (arg11_r0 : BitVec 32) (arg12_r0 : BitVec 32) (k10_hw1 : k10_chk1 i k10_t1 arg8_r0 arg9_r0 arg10_r0 arg11_r0 arg12_r0), ∀ (k10_h2 : k10_cond2 i k10_t1 arg12_r0 = 1#1), ∀ a, (k10_off8 i arg12_r0) a + S1x256.size a ≤ S3x1048576.size a := fun i k10_t1 arg8_r0 arg9_r0 arg10_r0 arg11_r0 arg12_r0 k10_hw1 k10_h2 => k10_hw1.2.2.2.2.1 k10_h2
theorem k10_off9_inb : ∀ (i : grid10.Coords) (k10_t1 : Fin k10_t1_loop.trips) (arg8_r0 : BitVec 32) (arg9_r0 : BitVec 32) (arg10_r0 : BitVec 32) (arg11_r0 : BitVec 32) (arg12_r0 : BitVec 32) (k10_hw1 : k10_chk1 i k10_t1 arg8_r0 arg9_r0 arg10_r0 arg11_r0 arg12_r0), ∀ (k10_h2 : k10_cond2 i k10_t1 arg12_r0 = 1#1), ∀ a, (k10_off9 arg9_r0) a + S1.size a ≤ S2.size a := fun i k10_t1 arg8_r0 arg9_r0 arg10_r0 arg11_r0 arg12_r0 k10_hw1 k10_h2 => k10_hw1.2.2.2.2.2.1 k10_h2
theorem k10_off12_inb : ∀ (i : grid10.Coords) (k10_t1 : Fin k10_t1_loop.trips) (arg8_r0 : BitVec 32) (arg9_r0 : BitVec 32) (arg10_r0 : BitVec 32) (arg11_r0 : BitVec 32) (arg12_r0 : BitVec 32) (k10_hw1 : k10_chk1 i k10_t1 arg8_r0 arg9_r0 arg10_r0 arg11_r0 arg12_r0), ∀ (k10_h5 : k10_cond5 i k10_t1 arg12_r0 = 1#1), ∀ a, (k10_off12 arg10_r0) a + S1x256x128.size a ≤ S2x256x128.size a := fun i k10_t1 arg8_r0 arg9_r0 arg10_r0 arg11_r0 arg12_r0 k10_hw1 k10_h5 => k10_hw1.2.2.2.2.2.2.1 k10_h5
theorem k10_off13_inb : ∀ (i : grid10.Coords) (k10_t1 : Fin k10_t1_loop.trips) (arg8_r0 : BitVec 32) (arg9_r0 : BitVec 32) (arg10_r0 : BitVec 32) (arg11_r0 : BitVec 32) (arg12_r0 : BitVec 32) (k10_hw1 : k10_chk1 i k10_t1 arg8_r0 arg9_r0 arg10_r0 arg11_r0 arg12_r0), ∀ (k10_h5 : k10_cond5 i k10_t1 arg12_r0 = 1#1), ∀ a, (k10_off13 i arg12_r0) a + S256x128.size a ≤ S393216x128.size a := fun i k10_t1 arg8_r0 arg9_r0 arg10_r0 arg11_r0 arg12_r0 k10_hw1 k10_h5 => k10_hw1.2.2.2.2.2.2.2.1 k10_h5
theorem k10_off14_inb : ∀ (i : grid10.Coords) (k10_t1 : Fin k10_t1_loop.trips) (arg8_r0 : BitVec 32) (arg9_r0 : BitVec 32) (arg10_r0 : BitVec 32) (arg11_r0 : BitVec 32) (arg12_r0 : BitVec 32) (k10_hw1 : k10_chk1 i k10_t1 arg8_r0 arg9_r0 arg10_r0 arg11_r0 arg12_r0), ∀ (k10_h5 : k10_cond5 i k10_t1 arg12_r0 = 1#1), ∀ a, (k10_off14 arg10_r0) a + S1.size a ≤ S2.size a := fun i k10_t1 arg8_r0 arg9_r0 arg10_r0 arg11_r0 arg12_r0 k10_hw1 k10_h5 => k10_hw1.2.2.2.2.2.2.2.2.1 k10_h5
theorem k10_off15_inb : ∀ (i : grid10.Coords) (k10_t1 : Fin k10_t1_loop.trips) (arg8_r0 : BitVec 32) (arg9_r0 : BitVec 32) (arg10_r0 : BitVec 32) (arg11_r0 : BitVec 32) (arg12_r0 : BitVec 32) (k10_hw1 : k10_chk1 i k10_t1 arg8_r0 arg9_r0 arg10_r0 arg11_r0 arg12_r0), ∀ (k10_h7 : k10_cond7 i k10_t1 arg12_r0 = 1#1), ∀ a, (k10_off15 arg11_r0) a + S1x256x128.size a ≤ S2x256x128.size a := fun i k10_t1 arg8_r0 arg9_r0 arg10_r0 arg11_r0 arg12_r0 k10_hw1 k10_h7 => k10_hw1.2.2.2.2.2.2.2.2.2.1 k10_h7
theorem k10_off16_inb : ∀ (i : grid10.Coords) (k10_t1 : Fin k10_t1_loop.trips) (arg8_r0 : BitVec 32) (arg9_r0 : BitVec 32) (arg10_r0 : BitVec 32) (arg11_r0 : BitVec 32) (arg12_r0 : BitVec 32) (k10_hw1 : k10_chk1 i k10_t1 arg8_r0 arg9_r0 arg10_r0 arg11_r0 arg12_r0), ∀ (k10_h7 : k10_cond7 i k10_t1 arg12_r0 = 1#1), ∀ a, (k10_off16 i arg12_r0) a + S256x128.size a ≤ S393216x128.size a := fun i k10_t1 arg8_r0 arg9_r0 arg10_r0 arg11_r0 arg12_r0 k10_hw1 k10_h7 => k10_hw1.2.2.2.2.2.2.2.2.2.2.1 k10_h7
theorem k10_off17_inb : ∀ (i : grid10.Coords) (k10_t1 : Fin k10_t1_loop.trips) (arg8_r0 : BitVec 32) (arg9_r0 : BitVec 32) (arg10_r0 : BitVec 32) (arg11_r0 : BitVec 32) (arg12_r0 : BitVec 32) (k10_hw1 : k10_chk1 i k10_t1 arg8_r0 arg9_r0 arg10_r0 arg11_r0 arg12_r0), ∀ (k10_h7 : k10_cond7 i k10_t1 arg12_r0 = 1#1), ∀ a, (k10_off17 arg11_r0) a + S1.size a ≤ S2.size a := fun i k10_t1 arg8_r0 arg9_r0 arg10_r0 arg11_r0 arg12_r0 k10_hw1 k10_h7 => k10_hw1.2.2.2.2.2.2.2.2.2.2.2 k10_h7

def k10_off18 (v44_3_r0 : BitVec 32) : Fin 3 → Nat :=
  let c2_i32_55_r0 : BitVec 32 := 2#32
  let v65_r0 : BitVec 32 := Scalar.remui v44_3_r0 c2_i32_55_r0
  let c0_i32_58_r0 : BitVec 32 := 0#32
  let c0_i32_59_r0 : BitVec 32 := 0#32
  ![v65_r0.toNat, 0, 0]

def k10_off19 (i : grid10.Coords) (v44_4_r0 : BitVec 32) : Fin 2 → Nat :=
  let c256_i32_57_r0 : BitVec 32 := 256#32
  let c0_i32_56_r0 : BitVec 32 := 0#32
  let true_40_r0 : BitVec 1 := 1#1
  let c1_i32_39_r0 : BitVec 32 := 1#32
  let v45_r0 : BitVec 32 := Scalar.subi v44_4_r0 c1_i32_39_r0
  let v46_r0 : BitVec 32 := Scalar.select true_40_r0 v45_r0 v44_4_r0
  let c_m1_i32_41_r0 : BitVec 32 := 4294967295#32
  let v47_r0 : BitVec 1 := Scalar.cmpi .eq v46_r0 c_m1_i32_41_r0
  let c15_i32_42_r0 : BitVec 32 := 15#32
  let v48_r0 : BitVec 32 := Scalar.select v47_r0 c15_i32_42_r0 v46_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v49_r0 : BitVec 32 := Scalar.addi v48_r0 v4
  let v66_r0 : BitVec 32 := Scalar.addi c0_i32_56_r0 v49_r0
  let v67_r0 : BitVec 32 := Scalar.muli c256_i32_57_r0 v66_r0
  let c0_i32_60_r0 : BitVec 32 := 0#32
  ![v67_r0.toNat, 0]

def k10_chk5 (i : grid10.Coords) (v44_4_r0 : BitVec 32) : Prop :=
  (∀ a, (k10_off19 i v44_4_r0) a + S256x128.size a ≤ S393216x128.size a)
theorem k10_off19_inb : ∀ (i : grid10.Coords) (v44_4_r0 : BitVec 32) (k10_hw5 : k10_chk5 i v44_4_r0), ∀ a, (k10_off19 i v44_4_r0) a + S256x128.size a ≤ S393216x128.size a := fun i v44_4_r0 k10_hw5 => k10_hw5

def k10_off20 (v44_3_r0 : BitVec 32) : Fin 1 → Nat :=
  let c2_i32_55_r0 : BitVec 32 := 2#32
  let v65_r0 : BitVec 32 := Scalar.remui v44_3_r0 c2_i32_55_r0
  ![v65_r0.toNat]
def k10_off21 (v44_3_r0 : BitVec 32) : Fin 3 → Nat :=
  let c2_i32_55_r0 : BitVec 32 := 2#32
  let v65_r0 : BitVec 32 := Scalar.remui v44_3_r0 c2_i32_55_r0
  let c0_i32_62_r0 : BitVec 32 := 0#32
  let c0_i32_63_r0 : BitVec 32 := 0#32
  ![v65_r0.toNat, 0, 0]

def k10_chk4 (v44_3_r0 : BitVec 32) : Prop :=
  (∀ a, (k10_off18 v44_3_r0) a + S1x256x128.size a ≤ S2x256x128.size a) ∧
  (∀ a, (k10_off20 v44_3_r0) a + S1.size a ≤ S2.size a) ∧
  (∀ a, (k10_off21 v44_3_r0) a + S1x256x128.size a ≤ S2x256x128.size a)
theorem k10_off18_inb : ∀ (v44_3_r0 : BitVec 32) (k10_hw4 : k10_chk4 v44_3_r0), ∀ a, (k10_off18 v44_3_r0) a + S1x256x128.size a ≤ S2x256x128.size a := fun v44_3_r0 k10_hw4 => k10_hw4.1
theorem k10_off20_inb : ∀ (v44_3_r0 : BitVec 32) (k10_hw4 : k10_chk4 v44_3_r0), ∀ a, (k10_off20 v44_3_r0) a + S1.size a ≤ S2.size a := fun v44_3_r0 k10_hw4 => k10_hw4.2.1
theorem k10_off21_inb : ∀ (v44_3_r0 : BitVec 32) (k10_hw4 : k10_chk4 v44_3_r0), ∀ a, (k10_off21 v44_3_r0) a + S1x256x128.size a ≤ S2x256x128.size a := fun v44_3_r0 k10_hw4 => k10_hw4.2.2

def k10_off22 : Fin 3 → Nat :=
  let c0_i32_22_r2 : BitVec 32 := 0#32
  let c2_i32_r2 : BitVec 32 := 2#32
  let v31_r2 : BitVec 32 := Scalar.remui c0_i32_22_r2 c2_i32_r2
  let c0_i32_23_r2 : BitVec 32 := 0#32
  let c0_i32_24_r2 : BitVec 32 := 0#32
  ![v31_r2.toNat, 0, 0]
def k10_off23 (i : grid10.Coords) : Fin 2 → Nat :=
  let c1_i32_25_r2 : BitVec 32 := 1#32
  let c256_i32_r2 : BitVec 32 := 256#32
  let c2560_i32_r2 : BitVec 32 := 2560#32
  let c0_i32_10_r2 : BitVec 32 := 0#32
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v17_r2 : BitVec 32 := Scalar.addi c0_i32_10_r2 v9
  let v32_r2 : BitVec 32 := Scalar.addi c2560_i32_r2 v17_r2
  let v33_r2 : BitVec 32 := Scalar.muli c256_i32_r2 v32_r2
  ![1, v33_r2.toNat]
def k10_off24 : Fin 1 → Nat :=
  let c0_i32_22_r2 : BitVec 32 := 0#32
  let c2_i32_r2 : BitVec 32 := 2#32
  let v31_r2 : BitVec 32 := Scalar.remui c0_i32_22_r2 c2_i32_r2
  ![v31_r2.toNat]
@[reducible] def k10_t2_loop : Scf.Loop 32 :=
  let c0_i32_35_r2 : BitVec 32 := 0#32
  let c16_i32_36_r2 : BitVec 32 := 16#32
  let v43_r2 : BitVec 32 := Scalar.addi c0_i32_35_r2 c16_i32_36_r2
  let c1_i32_37_r2 : BitVec 32 := 1#32
  ⟨c0_i32_35_r2, v43_r2, c1_i32_37_r2⟩
def k10_off25 (arg8_r2 : BitVec 32) : Fin 3 → Nat :=
  let c2_i32_114_r2 : BitVec 32 := 2#32
  let v162_r2 : BitVec 32 := Scalar.remui arg8_r2 c2_i32_114_r2
  let c0_i32_117_r2 : BitVec 32 := 0#32
  let c0_i32_118_r2 : BitVec 32 := 0#32
  ![v162_r2.toNat, 0, 0]
def k10_cond8 (i : grid10.Coords) (k10_t2 : Fin k10_t2_loop.trips) (arg12_r2 : BitVec 32) : BitVec 1 :=
  let c2560_i32_77_r2 : BitVec 32 := 2560#32
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v78_r2 : BitVec 32 := Scalar.addi arg12_r2 v9
  let v94_r2 : BitVec 32 := Scalar.addi c2560_i32_77_r2 v78_r2
  let c2560_i32_78_r2 : BitVec 32 := 2560#32
  let true_70_r2 : BitVec 1 := 1#1
  let c1_i32_69_r2 : BitVec 32 := 1#32
  let v84_r2 : BitVec 32 := Scalar.addi arg12_r2 c1_i32_69_r2
  let v85_r2 : BitVec 32 := Scalar.select true_70_r2 v84_r2 arg12_r2
  let c16_i32_71_r2 : BitVec 32 := 16#32
  let v86_r2 : BitVec 1 := Scalar.cmpi .eq v85_r2 c16_i32_71_r2
  let c0_i32_72_r2 : BitVec 32 := 0#32
  let v87_r2 : BitVec 32 := Scalar.select v86_r2 c0_i32_72_r2 v85_r2
  let v88_r2 : BitVec 32 := Scalar.addi v87_r2 v9
  let v95_r2 : BitVec 32 := Scalar.addi c2560_i32_78_r2 v88_r2
  let v96_r2 : BitVec 1 := Scalar.cmpi .ne v94_r2 v95_r2
  let c0_i32_35_r2 : BitVec 32 := 0#32
  let c1_i32_37_r2 : BitVec 32 := 1#32
  let arg7_r2 : BitVec 32 := Scf.iv c0_i32_35_r2 c1_i32_37_r2 k10_t2
  let c15_i32_79_r2 : BitVec 32 := 15#32
  let v97_r2 : BitVec 1 := Scalar.cmpi .sge arg7_r2 c15_i32_79_r2
  let true_80_r2 : BitVec 1 := 1#1
  let v98_r2 : BitVec 1 := Scalar.xori v97_r2 true_80_r2
  let v99_r2 : BitVec 1 := Scalar.andi v96_r2 v98_r2
  let true_81_r2 : BitVec 1 := 1#1
  let v100_r2 : BitVec 1 := Scalar.andi v99_r2 true_81_r2
  let v101_r2 : BitVec 32 := Scalar.extui v100_r2
  let c0_i32_82_r2 : BitVec 32 := 0#32
  let v102_r2 : BitVec 1 := Scalar.cmpi .ne v101_r2 c0_i32_82_r2
  v102_r2

def k10_off26 (i : grid10.Coords) (arg12_r2 : BitVec 32) : Fin 2 → Nat :=
  let c1_i32_119_r2 : BitVec 32 := 1#32
  let c256_i32_116_r2 : BitVec 32 := 256#32
  let c2560_i32_115_r2 : BitVec 32 := 2560#32
  let true_70_r2 : BitVec 1 := 1#1
  let c1_i32_69_r2 : BitVec 32 := 1#32
  let v84_r2 : BitVec 32 := Scalar.addi arg12_r2 c1_i32_69_r2
  let v85_r2 : BitVec 32 := Scalar.select true_70_r2 v84_r2 arg12_r2
  let c16_i32_71_r2 : BitVec 32 := 16#32
  let v86_r2 : BitVec 1 := Scalar.cmpi .eq v85_r2 c16_i32_71_r2
  let c0_i32_72_r2 : BitVec 32 := 0#32
  let v87_r2 : BitVec 32 := Scalar.select v86_r2 c0_i32_72_r2 v85_r2
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v88_r2 : BitVec 32 := Scalar.addi v87_r2 v9
  let v163_r2 : BitVec 32 := Scalar.addi c2560_i32_115_r2 v88_r2
  let v164_r2 : BitVec 32 := Scalar.muli c256_i32_116_r2 v163_r2
  ![1, v164_r2.toNat]
def k10_off27 (arg8_r2 : BitVec 32) : Fin 1 → Nat :=
  let c2_i32_114_r2 : BitVec 32 := 2#32
  let v162_r2 : BitVec 32 := Scalar.remui arg8_r2 c2_i32_114_r2
  ![v162_r2.toNat]
def k10_off28 (arg9_r2 : BitVec 32) : Fin 3 → Nat :=
  let c2_i32_116_r2 : BitVec 32 := 2#32
  let v164_r2 : BitVec 32 := Scalar.remui arg9_r2 c2_i32_116_r2
  let c0_i32_117_r2 : BitVec 32 := 0#32
  let c0_i32_118_r2 : BitVec 32 := 0#32
  ![v164_r2.toNat, 0, 0]
def k10_cond9 (i : grid10.Coords) (k10_t2 : Fin k10_t2_loop.trips) (arg12_r2 : BitVec 32) : BitVec 1 :=
  let c2560_i32_77_r2 : BitVec 32 := 2560#32
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v78_r2 : BitVec 32 := Scalar.addi arg12_r2 v9
  let v94_r2 : BitVec 32 := Scalar.addi c2560_i32_77_r2 v78_r2
  let c2560_i32_89_r2 : BitVec 32 := 2560#32
  let true_66_r2 : BitVec 1 := 1#1
  let c1_i32_65_r2 : BitVec 32 := 1#32
  let v79_r2 : BitVec 32 := Scalar.subi arg12_r2 c1_i32_65_r2
  let v80_r2 : BitVec 32 := Scalar.select true_66_r2 v79_r2 arg12_r2
  let c_m1_i32_67_r2 : BitVec 32 := 4294967295#32
  let v81_r2 : BitVec 1 := Scalar.cmpi .eq v80_r2 c_m1_i32_67_r2
  let c15_i32_68_r2 : BitVec 32 := 15#32
  let v82_r2 : BitVec 32 := Scalar.select v81_r2 c15_i32_68_r2 v80_r2
  let v83_r2 : BitVec 32 := Scalar.addi v82_r2 v9
  let v112_r2 : BitVec 32 := Scalar.addi c2560_i32_89_r2 v83_r2
  let v113_r2 : BitVec 1 := Scalar.cmpi .ne v94_r2 v112_r2
  let c0_i32_35_r2 : BitVec 32 := 0#32
  let c1_i32_37_r2 : BitVec 32 := 1#32
  let arg7_r2 : BitVec 32 := Scf.iv c0_i32_35_r2 c1_i32_37_r2 k10_t2
  let c0_i32_63_r2 : BitVec 32 := 0#32
  let v76_r2 : BitVec 1 := Scalar.cmpi .eq arg7_r2 c0_i32_63_r2
  let v114_r2 : BitVec 1 := Scalar.ori v113_r2 v76_r2
  let c0_i32_90_r2 : BitVec 32 := 0#32
  let v115_r2 : BitVec 1 := Scalar.cmpi .sge arg7_r2 c0_i32_90_r2
  let v116_r2 : BitVec 1 := Scalar.andi v114_r2 v115_r2
  let v117_r2 : BitVec 32 := Scalar.extui v116_r2
  let c0_i32_91_r2 : BitVec 32 := 0#32
  let v118_r2 : BitVec 1 := Scalar.cmpi .ne v117_r2 c0_i32_91_r2
  v118_r2

def k10_off29 (i : grid10.Coords) (arg12_r2 : BitVec 32) : Fin 2 → Nat :=
  let c1_i32_119_r2 : BitVec 32 := 1#32
  let c256_i32_115_r2 : BitVec 32 := 256#32
  let c2560_i32_114_r2 : BitVec 32 := 2560#32
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v78_r2 : BitVec 32 := Scalar.addi arg12_r2 v9
  let v162_r2 : BitVec 32 := Scalar.addi c2560_i32_114_r2 v78_r2
  let v163_r2 : BitVec 32 := Scalar.muli c256_i32_115_r2 v162_r2
  ![1, v163_r2.toNat]
def k10_off30 (arg9_r2 : BitVec 32) : Fin 1 → Nat :=
  let c2_i32_116_r2 : BitVec 32 := 2#32
  let v164_r2 : BitVec 32 := Scalar.remui arg9_r2 c2_i32_116_r2
  ![v164_r2.toNat]
def k10_off31 (arg10_r2 : BitVec 32) : Fin 3 → Nat :=
  let c2_i32_96_r2 : BitVec 32 := 2#32
  let v127_r2 : BitVec 32 := Scalar.remui arg10_r2 c2_i32_96_r2
  let c0_i32_114_r3 : BitVec 32 := 0#32
  let c0_i32_115_r3 : BitVec 32 := 0#32
  ![v127_r2.toNat, 0, 0]

def k10_chk7 (arg10_r2 : BitVec 32) : Prop :=
  (∀ a, (k10_off31 arg10_r2) a + S1x256x128.size a ≤ S2x256x128.size a)
theorem k10_off31_inb : ∀ (arg10_r2 : BitVec 32) (k10_hw7 : k10_chk7 arg10_r2), ∀ a, (k10_off31 arg10_r2) a + S1x256x128.size a ≤ S2x256x128.size a := fun arg10_r2 k10_hw7 => k10_hw7

def k10_off32 (arg9_r2 : BitVec 32) : Fin 3 → Nat :=
  let c2_i32_95_r2 : BitVec 32 := 2#32
  let v126_r2 : BitVec 32 := Scalar.remui arg9_r2 c2_i32_95_r2
  let c0_i32_116_r3 : BitVec 32 := 0#32
  let c0_i32_117_r3 : BitVec 32 := 0#32
  ![v126_r2.toNat, 0, 0]

def k10_chk8 (arg9_r2 : BitVec 32) : Prop :=
  (∀ a, (k10_off32 arg9_r2) a + S1x1x256.size a ≤ S2x1x256.size a)
theorem k10_off32_inb : ∀ (arg9_r2 : BitVec 32) (k10_hw8 : k10_chk8 arg9_r2), ∀ a, (k10_off32 arg9_r2) a + S1x1x256.size a ≤ S2x1x256.size a := fun arg9_r2 k10_hw8 => k10_hw8

def k10_off33 (arg10_r2 : BitVec 32) : Fin 3 → Nat :=
  let c2_i32_114_r2 : BitVec 32 := 2#32
  let v162_r2 : BitVec 32 := Scalar.remui arg10_r2 c2_i32_114_r2
  let c0_i32_117_r2 : BitVec 32 := 0#32
  let c0_i32_118_r2 : BitVec 32 := 0#32
  ![v162_r2.toNat, 0, 0]
def k10_cond12 (i : grid10.Coords) (k10_t2 : Fin k10_t2_loop.trips) (arg12_r2 : BitVec 32) : BitVec 1 :=
  let c512_i32_85_r2 : BitVec 32 := 512#32
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v78_r2 : BitVec 32 := Scalar.addi arg12_r2 v9
  let v106_r2 : BitVec 32 := Scalar.addi c512_i32_85_r2 v78_r2
  let c512_i32_86_r2 : BitVec 32 := 512#32
  let true_70_r2 : BitVec 1 := 1#1
  let c1_i32_69_r2 : BitVec 32 := 1#32
  let v84_r2 : BitVec 32 := Scalar.addi arg12_r2 c1_i32_69_r2
  let v85_r2 : BitVec 32 := Scalar.select true_70_r2 v84_r2 arg12_r2
  let c16_i32_71_r2 : BitVec 32 := 16#32
  let v86_r2 : BitVec 1 := Scalar.cmpi .eq v85_r2 c16_i32_71_r2
  let c0_i32_72_r2 : BitVec 32 := 0#32
  let v87_r2 : BitVec 32 := Scalar.select v86_r2 c0_i32_72_r2 v85_r2
  let v88_r2 : BitVec 32 := Scalar.addi v87_r2 v9
  let v107_r2 : BitVec 32 := Scalar.addi c512_i32_86_r2 v88_r2
  let v133_r2 : BitVec 1 := Scalar.cmpi .ne v106_r2 v107_r2
  let c0_i32_35_r2 : BitVec 32 := 0#32
  let c1_i32_37_r2 : BitVec 32 := 1#32
  let arg7_r2 : BitVec 32 := Scf.iv c0_i32_35_r2 c1_i32_37_r2 k10_t2
  let c15_i32_64_r2 : BitVec 32 := 15#32
  let v77_r2 : BitVec 1 := Scalar.cmpi .eq arg7_r2 c15_i32_64_r2
  let v134_r2 : BitVec 1 := Scalar.ori v133_r2 v77_r2
  let v135_r2 : BitVec 32 := Scalar.extui v134_r2
  let c0_i32_99_r2 : BitVec 32 := 0#32
  let v136_r2 : BitVec 1 := Scalar.cmpi .ne v135_r2 c0_i32_99_r2
  v136_r2

def k10_off34 (i : grid10.Coords) (arg12_r2 : BitVec 32) : Fin 2 → Nat :=
  let c256_i32_116_r2 : BitVec 32 := 256#32
  let c512_i32_115_r2 : BitVec 32 := 512#32
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v78_r2 : BitVec 32 := Scalar.addi arg12_r2 v9
  let v163_r2 : BitVec 32 := Scalar.addi c512_i32_115_r2 v78_r2
  let v164_r2 : BitVec 32 := Scalar.muli c256_i32_116_r2 v163_r2
  let c0_i32_119_r2 : BitVec 32 := 0#32
  ![v164_r2.toNat, 0]
def k10_off35 (arg10_r2 : BitVec 32) : Fin 1 → Nat :=
  let c2_i32_114_r2 : BitVec 32 := 2#32
  let v162_r2 : BitVec 32 := Scalar.remui arg10_r2 c2_i32_114_r2
  ![v162_r2.toNat]
def k10_off36 (arg11_r2 : BitVec 32) : Fin 3 → Nat :=
  let c2_i32_114_r2 : BitVec 32 := 2#32
  let v162_r2 : BitVec 32 := Scalar.remui arg11_r2 c2_i32_114_r2
  let c0_i32_117_r2 : BitVec 32 := 0#32
  let c0_i32_118_r2 : BitVec 32 := 0#32
  ![v162_r2.toNat, 0, 0]
def k10_cond14 (i : grid10.Coords) (k10_t2 : Fin k10_t2_loop.trips) (arg12_r2 : BitVec 32) : BitVec 1 :=
  let c512_i32_85_r2 : BitVec 32 := 512#32
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v78_r2 : BitVec 32 := Scalar.addi arg12_r2 v9
  let v106_r2 : BitVec 32 := Scalar.addi c512_i32_85_r2 v78_r2
  let c512_i32_92_r2 : BitVec 32 := 512#32
  let true_66_r2 : BitVec 1 := 1#1
  let c1_i32_65_r2 : BitVec 32 := 1#32
  let v79_r2 : BitVec 32 := Scalar.subi arg12_r2 c1_i32_65_r2
  let v80_r2 : BitVec 32 := Scalar.select true_66_r2 v79_r2 arg12_r2
  let c_m1_i32_67_r2 : BitVec 32 := 4294967295#32
  let v81_r2 : BitVec 1 := Scalar.cmpi .eq v80_r2 c_m1_i32_67_r2
  let c15_i32_68_r2 : BitVec 32 := 15#32
  let v82_r2 : BitVec 32 := Scalar.select v81_r2 c15_i32_68_r2 v80_r2
  let v83_r2 : BitVec 32 := Scalar.addi v82_r2 v9
  let v119_r2 : BitVec 32 := Scalar.addi c512_i32_92_r2 v83_r2
  let v146_r2 : BitVec 1 := Scalar.cmpi .ne v106_r2 v119_r2
  let c0_i32_35_r2 : BitVec 32 := 0#32
  let c1_i32_37_r2 : BitVec 32 := 1#32
  let arg7_r2 : BitVec 32 := Scf.iv c0_i32_35_r2 c1_i32_37_r2 k10_t2
  let c0_i32_63_r2 : BitVec 32 := 0#32
  let v76_r2 : BitVec 1 := Scalar.cmpi .eq arg7_r2 c0_i32_63_r2
  let true_105_r2 : BitVec 1 := 1#1
  let v147_r2 : BitVec 1 := Scalar.xori v76_r2 true_105_r2
  let v148_r2 : BitVec 1 := Scalar.andi v146_r2 v147_r2
  let v149_r2 : BitVec 32 := Scalar.extui v148_r2
  let c0_i32_106_r2 : BitVec 32 := 0#32
  let v150_r2 : BitVec 1 := Scalar.cmpi .ne v149_r2 c0_i32_106_r2
  v150_r2

def k10_off37 (i : grid10.Coords) (arg12_r2 : BitVec 32) : Fin 2 → Nat :=
  let c256_i32_116_r2 : BitVec 32 := 256#32
  let c512_i32_115_r2 : BitVec 32 := 512#32
  let true_66_r2 : BitVec 1 := 1#1
  let c1_i32_65_r2 : BitVec 32 := 1#32
  let v79_r2 : BitVec 32 := Scalar.subi arg12_r2 c1_i32_65_r2
  let v80_r2 : BitVec 32 := Scalar.select true_66_r2 v79_r2 arg12_r2
  let c_m1_i32_67_r2 : BitVec 32 := 4294967295#32
  let v81_r2 : BitVec 1 := Scalar.cmpi .eq v80_r2 c_m1_i32_67_r2
  let c15_i32_68_r2 : BitVec 32 := 15#32
  let v82_r2 : BitVec 32 := Scalar.select v81_r2 c15_i32_68_r2 v80_r2
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v83_r2 : BitVec 32 := Scalar.addi v82_r2 v9
  let v163_r2 : BitVec 32 := Scalar.addi c512_i32_115_r2 v83_r2
  let v164_r2 : BitVec 32 := Scalar.muli c256_i32_116_r2 v163_r2
  let c0_i32_119_r2 : BitVec 32 := 0#32
  ![v164_r2.toNat, 0]
def k10_off38 (arg11_r2 : BitVec 32) : Fin 1 → Nat :=
  let c2_i32_114_r2 : BitVec 32 := 2#32
  let v162_r2 : BitVec 32 := Scalar.remui arg11_r2 c2_i32_114_r2
  ![v162_r2.toNat]

def k10_chk6 (i : grid10.Coords) (k10_t2 : Fin k10_t2_loop.trips) (arg8_r2 : BitVec 32) (arg9_r2 : BitVec 32) (arg10_r2 : BitVec 32) (arg11_r2 : BitVec 32) (arg12_r2 : BitVec 32) : Prop :=
  (∀ (k10_h8 : k10_cond8 i k10_t2 arg12_r2 = 1#1), ∀ a, (k10_off25 arg8_r2) a + S1x1x256.size a ≤ S2x1x256.size a) ∧
  (∀ (k10_h8 : k10_cond8 i k10_t2 arg12_r2 = 1#1), ∀ a, (k10_off26 i arg12_r2) a + S1x256.size a ≤ S3x1048576.size a) ∧
  (∀ (k10_h8 : k10_cond8 i k10_t2 arg12_r2 = 1#1), ∀ a, (k10_off27 arg8_r2) a + S1.size a ≤ S2.size a) ∧
  (∀ (k10_h9 : k10_cond9 i k10_t2 arg12_r2 = 1#1), ∀ a, (k10_off28 arg9_r2) a + S1x1x256.size a ≤ S2x1x256.size a) ∧
  (∀ (k10_h9 : k10_cond9 i k10_t2 arg12_r2 = 1#1), ∀ a, (k10_off29 i arg12_r2) a + S1x256.size a ≤ S3x1048576.size a) ∧
  (∀ (k10_h9 : k10_cond9 i k10_t2 arg12_r2 = 1#1), ∀ a, (k10_off30 arg9_r2) a + S1.size a ≤ S2.size a) ∧
  (∀ (k10_h12 : k10_cond12 i k10_t2 arg12_r2 = 1#1), ∀ a, (k10_off33 arg10_r2) a + S1x256x128.size a ≤ S2x256x128.size a) ∧
  (∀ (k10_h12 : k10_cond12 i k10_t2 arg12_r2 = 1#1), ∀ a, (k10_off34 i arg12_r2) a + S256x128.size a ≤ S393216x128.size a) ∧
  (∀ (k10_h12 : k10_cond12 i k10_t2 arg12_r2 = 1#1), ∀ a, (k10_off35 arg10_r2) a + S1.size a ≤ S2.size a) ∧
  (∀ (k10_h14 : k10_cond14 i k10_t2 arg12_r2 = 1#1), ∀ a, (k10_off36 arg11_r2) a + S1x256x128.size a ≤ S2x256x128.size a) ∧
  (∀ (k10_h14 : k10_cond14 i k10_t2 arg12_r2 = 1#1), ∀ a, (k10_off37 i arg12_r2) a + S256x128.size a ≤ S393216x128.size a) ∧
  (∀ (k10_h14 : k10_cond14 i k10_t2 arg12_r2 = 1#1), ∀ a, (k10_off38 arg11_r2) a + S1.size a ≤ S2.size a)
theorem k10_off25_inb : ∀ (i : grid10.Coords) (k10_t2 : Fin k10_t2_loop.trips) (arg8_r2 : BitVec 32) (arg9_r2 : BitVec 32) (arg10_r2 : BitVec 32) (arg11_r2 : BitVec 32) (arg12_r2 : BitVec 32) (k10_hw6 : k10_chk6 i k10_t2 arg8_r2 arg9_r2 arg10_r2 arg11_r2 arg12_r2), ∀ (k10_h8 : k10_cond8 i k10_t2 arg12_r2 = 1#1), ∀ a, (k10_off25 arg8_r2) a + S1x1x256.size a ≤ S2x1x256.size a := fun i k10_t2 arg8_r2 arg9_r2 arg10_r2 arg11_r2 arg12_r2 k10_hw6 k10_h8 => k10_hw6.1 k10_h8
theorem k10_off26_inb : ∀ (i : grid10.Coords) (k10_t2 : Fin k10_t2_loop.trips) (arg8_r2 : BitVec 32) (arg9_r2 : BitVec 32) (arg10_r2 : BitVec 32) (arg11_r2 : BitVec 32) (arg12_r2 : BitVec 32) (k10_hw6 : k10_chk6 i k10_t2 arg8_r2 arg9_r2 arg10_r2 arg11_r2 arg12_r2), ∀ (k10_h8 : k10_cond8 i k10_t2 arg12_r2 = 1#1), ∀ a, (k10_off26 i arg12_r2) a + S1x256.size a ≤ S3x1048576.size a := fun i k10_t2 arg8_r2 arg9_r2 arg10_r2 arg11_r2 arg12_r2 k10_hw6 k10_h8 => k10_hw6.2.1 k10_h8
theorem k10_off27_inb : ∀ (i : grid10.Coords) (k10_t2 : Fin k10_t2_loop.trips) (arg8_r2 : BitVec 32) (arg9_r2 : BitVec 32) (arg10_r2 : BitVec 32) (arg11_r2 : BitVec 32) (arg12_r2 : BitVec 32) (k10_hw6 : k10_chk6 i k10_t2 arg8_r2 arg9_r2 arg10_r2 arg11_r2 arg12_r2), ∀ (k10_h8 : k10_cond8 i k10_t2 arg12_r2 = 1#1), ∀ a, (k10_off27 arg8_r2) a + S1.size a ≤ S2.size a := fun i k10_t2 arg8_r2 arg9_r2 arg10_r2 arg11_r2 arg12_r2 k10_hw6 k10_h8 => k10_hw6.2.2.1 k10_h8
theorem k10_off28_inb : ∀ (i : grid10.Coords) (k10_t2 : Fin k10_t2_loop.trips) (arg8_r2 : BitVec 32) (arg9_r2 : BitVec 32) (arg10_r2 : BitVec 32) (arg11_r2 : BitVec 32) (arg12_r2 : BitVec 32) (k10_hw6 : k10_chk6 i k10_t2 arg8_r2 arg9_r2 arg10_r2 arg11_r2 arg12_r2), ∀ (k10_h9 : k10_cond9 i k10_t2 arg12_r2 = 1#1), ∀ a, (k10_off28 arg9_r2) a + S1x1x256.size a ≤ S2x1x256.size a := fun i k10_t2 arg8_r2 arg9_r2 arg10_r2 arg11_r2 arg12_r2 k10_hw6 k10_h9 => k10_hw6.2.2.2.1 k10_h9
theorem k10_off29_inb : ∀ (i : grid10.Coords) (k10_t2 : Fin k10_t2_loop.trips) (arg8_r2 : BitVec 32) (arg9_r2 : BitVec 32) (arg10_r2 : BitVec 32) (arg11_r2 : BitVec 32) (arg12_r2 : BitVec 32) (k10_hw6 : k10_chk6 i k10_t2 arg8_r2 arg9_r2 arg10_r2 arg11_r2 arg12_r2), ∀ (k10_h9 : k10_cond9 i k10_t2 arg12_r2 = 1#1), ∀ a, (k10_off29 i arg12_r2) a + S1x256.size a ≤ S3x1048576.size a := fun i k10_t2 arg8_r2 arg9_r2 arg10_r2 arg11_r2 arg12_r2 k10_hw6 k10_h9 => k10_hw6.2.2.2.2.1 k10_h9
theorem k10_off30_inb : ∀ (i : grid10.Coords) (k10_t2 : Fin k10_t2_loop.trips) (arg8_r2 : BitVec 32) (arg9_r2 : BitVec 32) (arg10_r2 : BitVec 32) (arg11_r2 : BitVec 32) (arg12_r2 : BitVec 32) (k10_hw6 : k10_chk6 i k10_t2 arg8_r2 arg9_r2 arg10_r2 arg11_r2 arg12_r2), ∀ (k10_h9 : k10_cond9 i k10_t2 arg12_r2 = 1#1), ∀ a, (k10_off30 arg9_r2) a + S1.size a ≤ S2.size a := fun i k10_t2 arg8_r2 arg9_r2 arg10_r2 arg11_r2 arg12_r2 k10_hw6 k10_h9 => k10_hw6.2.2.2.2.2.1 k10_h9
theorem k10_off33_inb : ∀ (i : grid10.Coords) (k10_t2 : Fin k10_t2_loop.trips) (arg8_r2 : BitVec 32) (arg9_r2 : BitVec 32) (arg10_r2 : BitVec 32) (arg11_r2 : BitVec 32) (arg12_r2 : BitVec 32) (k10_hw6 : k10_chk6 i k10_t2 arg8_r2 arg9_r2 arg10_r2 arg11_r2 arg12_r2), ∀ (k10_h12 : k10_cond12 i k10_t2 arg12_r2 = 1#1), ∀ a, (k10_off33 arg10_r2) a + S1x256x128.size a ≤ S2x256x128.size a := fun i k10_t2 arg8_r2 arg9_r2 arg10_r2 arg11_r2 arg12_r2 k10_hw6 k10_h12 => k10_hw6.2.2.2.2.2.2.1 k10_h12
theorem k10_off34_inb : ∀ (i : grid10.Coords) (k10_t2 : Fin k10_t2_loop.trips) (arg8_r2 : BitVec 32) (arg9_r2 : BitVec 32) (arg10_r2 : BitVec 32) (arg11_r2 : BitVec 32) (arg12_r2 : BitVec 32) (k10_hw6 : k10_chk6 i k10_t2 arg8_r2 arg9_r2 arg10_r2 arg11_r2 arg12_r2), ∀ (k10_h12 : k10_cond12 i k10_t2 arg12_r2 = 1#1), ∀ a, (k10_off34 i arg12_r2) a + S256x128.size a ≤ S393216x128.size a := fun i k10_t2 arg8_r2 arg9_r2 arg10_r2 arg11_r2 arg12_r2 k10_hw6 k10_h12 => k10_hw6.2.2.2.2.2.2.2.1 k10_h12
theorem k10_off35_inb : ∀ (i : grid10.Coords) (k10_t2 : Fin k10_t2_loop.trips) (arg8_r2 : BitVec 32) (arg9_r2 : BitVec 32) (arg10_r2 : BitVec 32) (arg11_r2 : BitVec 32) (arg12_r2 : BitVec 32) (k10_hw6 : k10_chk6 i k10_t2 arg8_r2 arg9_r2 arg10_r2 arg11_r2 arg12_r2), ∀ (k10_h12 : k10_cond12 i k10_t2 arg12_r2 = 1#1), ∀ a, (k10_off35 arg10_r2) a + S1.size a ≤ S2.size a := fun i k10_t2 arg8_r2 arg9_r2 arg10_r2 arg11_r2 arg12_r2 k10_hw6 k10_h12 => k10_hw6.2.2.2.2.2.2.2.2.1 k10_h12
theorem k10_off36_inb : ∀ (i : grid10.Coords) (k10_t2 : Fin k10_t2_loop.trips) (arg8_r2 : BitVec 32) (arg9_r2 : BitVec 32) (arg10_r2 : BitVec 32) (arg11_r2 : BitVec 32) (arg12_r2 : BitVec 32) (k10_hw6 : k10_chk6 i k10_t2 arg8_r2 arg9_r2 arg10_r2 arg11_r2 arg12_r2), ∀ (k10_h14 : k10_cond14 i k10_t2 arg12_r2 = 1#1), ∀ a, (k10_off36 arg11_r2) a + S1x256x128.size a ≤ S2x256x128.size a := fun i k10_t2 arg8_r2 arg9_r2 arg10_r2 arg11_r2 arg12_r2 k10_hw6 k10_h14 => k10_hw6.2.2.2.2.2.2.2.2.2.1 k10_h14
theorem k10_off37_inb : ∀ (i : grid10.Coords) (k10_t2 : Fin k10_t2_loop.trips) (arg8_r2 : BitVec 32) (arg9_r2 : BitVec 32) (arg10_r2 : BitVec 32) (arg11_r2 : BitVec 32) (arg12_r2 : BitVec 32) (k10_hw6 : k10_chk6 i k10_t2 arg8_r2 arg9_r2 arg10_r2 arg11_r2 arg12_r2), ∀ (k10_h14 : k10_cond14 i k10_t2 arg12_r2 = 1#1), ∀ a, (k10_off37 i arg12_r2) a + S256x128.size a ≤ S393216x128.size a := fun i k10_t2 arg8_r2 arg9_r2 arg10_r2 arg11_r2 arg12_r2 k10_hw6 k10_h14 => k10_hw6.2.2.2.2.2.2.2.2.2.2.1 k10_h14
theorem k10_off38_inb : ∀ (i : grid10.Coords) (k10_t2 : Fin k10_t2_loop.trips) (arg8_r2 : BitVec 32) (arg9_r2 : BitVec 32) (arg10_r2 : BitVec 32) (arg11_r2 : BitVec 32) (arg12_r2 : BitVec 32) (k10_hw6 : k10_chk6 i k10_t2 arg8_r2 arg9_r2 arg10_r2 arg11_r2 arg12_r2), ∀ (k10_h14 : k10_cond14 i k10_t2 arg12_r2 = 1#1), ∀ a, (k10_off38 arg11_r2) a + S1.size a ≤ S2.size a := fun i k10_t2 arg8_r2 arg9_r2 arg10_r2 arg11_r2 arg12_r2 k10_hw6 k10_h14 => k10_hw6.2.2.2.2.2.2.2.2.2.2.2 k10_h14

def k10_off39 (v44_3_r2 : BitVec 32) : Fin 3 → Nat :=
  let c2_i32_55_r2 : BitVec 32 := 2#32
  let v65_r2 : BitVec 32 := Scalar.remui v44_3_r2 c2_i32_55_r2
  let c0_i32_57_r2 : BitVec 32 := 0#32
  let c0_i32_58_r2 : BitVec 32 := 0#32
  ![v65_r2.toNat, 0, 0]

def k10_off40 (i : grid10.Coords) (v44_4_r2 : BitVec 32) : Fin 2 → Nat :=
  let c256_i32_56_r2 : BitVec 32 := 256#32
  let c512_i32_r2 : BitVec 32 := 512#32
  let true_40_r2 : BitVec 1 := 1#1
  let c1_i32_39_r2 : BitVec 32 := 1#32
  let v45_r2 : BitVec 32 := Scalar.subi v44_4_r2 c1_i32_39_r2
  let v46_r2 : BitVec 32 := Scalar.select true_40_r2 v45_r2 v44_4_r2
  let c_m1_i32_41_r2 : BitVec 32 := 4294967295#32
  let v47_r2 : BitVec 1 := Scalar.cmpi .eq v46_r2 c_m1_i32_41_r2
  let c15_i32_42_r2 : BitVec 32 := 15#32
  let v48_r2 : BitVec 32 := Scalar.select v47_r2 c15_i32_42_r2 v46_r2
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v49_r2 : BitVec 32 := Scalar.addi v48_r2 v9
  let v66_r2 : BitVec 32 := Scalar.addi c512_i32_r2 v49_r2
  let v67_r2 : BitVec 32 := Scalar.muli c256_i32_56_r2 v66_r2
  let c0_i32_59_r2 : BitVec 32 := 0#32
  ![v67_r2.toNat, 0]

def k10_chk10 (i : grid10.Coords) (v44_4_r2 : BitVec 32) : Prop :=
  (∀ a, (k10_off40 i v44_4_r2) a + S256x128.size a ≤ S393216x128.size a)
theorem k10_off40_inb : ∀ (i : grid10.Coords) (v44_4_r2 : BitVec 32) (k10_hw10 : k10_chk10 i v44_4_r2), ∀ a, (k10_off40 i v44_4_r2) a + S256x128.size a ≤ S393216x128.size a := fun i v44_4_r2 k10_hw10 => k10_hw10

def k10_off41 (v44_3_r2 : BitVec 32) : Fin 1 → Nat :=
  let c2_i32_55_r2 : BitVec 32 := 2#32
  let v65_r2 : BitVec 32 := Scalar.remui v44_3_r2 c2_i32_55_r2
  ![v65_r2.toNat]
def k10_off42 (v44_3_r2 : BitVec 32) : Fin 3 → Nat :=
  let c2_i32_55_r2 : BitVec 32 := 2#32
  let v65_r2 : BitVec 32 := Scalar.remui v44_3_r2 c2_i32_55_r2
  let c0_i32_61_r2 : BitVec 32 := 0#32
  let c0_i32_62_r2 : BitVec 32 := 0#32
  ![v65_r2.toNat, 0, 0]

def k10_chk9 (v44_3_r2 : BitVec 32) : Prop :=
  (∀ a, (k10_off39 v44_3_r2) a + S1x256x128.size a ≤ S2x256x128.size a) ∧
  (∀ a, (k10_off41 v44_3_r2) a + S1.size a ≤ S2.size a) ∧
  (∀ a, (k10_off42 v44_3_r2) a + S1x256x128.size a ≤ S2x256x128.size a)
theorem k10_off39_inb : ∀ (v44_3_r2 : BitVec 32) (k10_hw9 : k10_chk9 v44_3_r2), ∀ a, (k10_off39 v44_3_r2) a + S1x256x128.size a ≤ S2x256x128.size a := fun v44_3_r2 k10_hw9 => k10_hw9.1
theorem k10_off41_inb : ∀ (v44_3_r2 : BitVec 32) (k10_hw9 : k10_chk9 v44_3_r2), ∀ a, (k10_off41 v44_3_r2) a + S1.size a ≤ S2.size a := fun v44_3_r2 k10_hw9 => k10_hw9.2.1
theorem k10_off42_inb : ∀ (v44_3_r2 : BitVec 32) (k10_hw9 : k10_chk9 v44_3_r2), ∀ a, (k10_off42 v44_3_r2) a + S1x256x128.size a ≤ S2x256x128.size a := fun v44_3_r2 k10_hw9 => k10_hw9.2.2

def k10_off43 : Fin 3 → Nat :=
  let c0_i32_22_r4 : BitVec 32 := 0#32
  let c2_i32_r4 : BitVec 32 := 2#32
  let v31_r4 : BitVec 32 := Scalar.remui c0_i32_22_r4 c2_i32_r4
  let c0_i32_23_r4 : BitVec 32 := 0#32
  let c0_i32_24_r4 : BitVec 32 := 0#32
  ![v31_r4.toNat, 0, 0]
def k10_off44 (i : grid10.Coords) : Fin 2 → Nat :=
  let c2_i32_25_r4 : BitVec 32 := 2#32
  let c256_i32_r4 : BitVec 32 := 256#32
  let c2560_i32_r4 : BitVec 32 := 2560#32
  let c0_i32_10_r4 : BitVec 32 := 0#32
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v17_r4 : BitVec 32 := Scalar.addi c0_i32_10_r4 v14
  let v32_r4 : BitVec 32 := Scalar.addi c2560_i32_r4 v17_r4
  let v33_r4 : BitVec 32 := Scalar.muli c256_i32_r4 v32_r4
  ![2, v33_r4.toNat]
def k10_off45 : Fin 1 → Nat :=
  let c0_i32_22_r4 : BitVec 32 := 0#32
  let c2_i32_r4 : BitVec 32 := 2#32
  let v31_r4 : BitVec 32 := Scalar.remui c0_i32_22_r4 c2_i32_r4
  ![v31_r4.toNat]
@[reducible] def k10_t3_loop : Scf.Loop 32 :=
  let c0_i32_35_r4 : BitVec 32 := 0#32
  let c16_i32_36_r4 : BitVec 32 := 16#32
  let v43_r4 : BitVec 32 := Scalar.addi c0_i32_35_r4 c16_i32_36_r4
  let c1_i32_37_r4 : BitVec 32 := 1#32
  ⟨c0_i32_35_r4, v43_r4, c1_i32_37_r4⟩
def k10_off46 (arg8_r4 : BitVec 32) : Fin 3 → Nat :=
  let c2_i32_114_r4 : BitVec 32 := 2#32
  let v162_r4 : BitVec 32 := Scalar.remui arg8_r4 c2_i32_114_r4
  let c0_i32_117_r4 : BitVec 32 := 0#32
  let c0_i32_118_r4 : BitVec 32 := 0#32
  ![v162_r4.toNat, 0, 0]
def k10_cond15 (i : grid10.Coords) (k10_t3 : Fin k10_t3_loop.trips) (arg12_r4 : BitVec 32) : BitVec 1 :=
  let c2560_i32_77_r4 : BitVec 32 := 2560#32
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v78_r4 : BitVec 32 := Scalar.addi arg12_r4 v14
  let v94_r4 : BitVec 32 := Scalar.addi c2560_i32_77_r4 v78_r4
  let c2560_i32_78_r4 : BitVec 32 := 2560#32
  let true_70_r4 : BitVec 1 := 1#1
  let c1_i32_69_r4 : BitVec 32 := 1#32
  let v84_r4 : BitVec 32 := Scalar.addi arg12_r4 c1_i32_69_r4
  let v85_r4 : BitVec 32 := Scalar.select true_70_r4 v84_r4 arg12_r4
  let c16_i32_71_r4 : BitVec 32 := 16#32
  let v86_r4 : BitVec 1 := Scalar.cmpi .eq v85_r4 c16_i32_71_r4
  let c0_i32_72_r4 : BitVec 32 := 0#32
  let v87_r4 : BitVec 32 := Scalar.select v86_r4 c0_i32_72_r4 v85_r4
  let v88_r4 : BitVec 32 := Scalar.addi v87_r4 v14
  let v95_r4 : BitVec 32 := Scalar.addi c2560_i32_78_r4 v88_r4
  let v96_r4 : BitVec 1 := Scalar.cmpi .ne v94_r4 v95_r4
  let c0_i32_35_r4 : BitVec 32 := 0#32
  let c1_i32_37_r4 : BitVec 32 := 1#32
  let arg7_r4 : BitVec 32 := Scf.iv c0_i32_35_r4 c1_i32_37_r4 k10_t3
  let c15_i32_79_r4 : BitVec 32 := 15#32
  let v97_r4 : BitVec 1 := Scalar.cmpi .sge arg7_r4 c15_i32_79_r4
  let true_80_r4 : BitVec 1 := 1#1
  let v98_r4 : BitVec 1 := Scalar.xori v97_r4 true_80_r4
  let v99_r4 : BitVec 1 := Scalar.andi v96_r4 v98_r4
  let true_81_r4 : BitVec 1 := 1#1
  let v100_r4 : BitVec 1 := Scalar.andi v99_r4 true_81_r4
  let v101_r4 : BitVec 32 := Scalar.extui v100_r4
  let c0_i32_82_r4 : BitVec 32 := 0#32
  let v102_r4 : BitVec 1 := Scalar.cmpi .ne v101_r4 c0_i32_82_r4
  v102_r4

def k10_off47 (i : grid10.Coords) (arg12_r4 : BitVec 32) : Fin 2 → Nat :=
  let c2_i32_119_r4 : BitVec 32 := 2#32
  let c256_i32_116_r4 : BitVec 32 := 256#32
  let c2560_i32_115_r4 : BitVec 32 := 2560#32
  let true_70_r4 : BitVec 1 := 1#1
  let c1_i32_69_r4 : BitVec 32 := 1#32
  let v84_r4 : BitVec 32 := Scalar.addi arg12_r4 c1_i32_69_r4
  let v85_r4 : BitVec 32 := Scalar.select true_70_r4 v84_r4 arg12_r4
  let c16_i32_71_r4 : BitVec 32 := 16#32
  let v86_r4 : BitVec 1 := Scalar.cmpi .eq v85_r4 c16_i32_71_r4
  let c0_i32_72_r4 : BitVec 32 := 0#32
  let v87_r4 : BitVec 32 := Scalar.select v86_r4 c0_i32_72_r4 v85_r4
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v88_r4 : BitVec 32 := Scalar.addi v87_r4 v14
  let v163_r4 : BitVec 32 := Scalar.addi c2560_i32_115_r4 v88_r4
  let v164_r4 : BitVec 32 := Scalar.muli c256_i32_116_r4 v163_r4
  ![2, v164_r4.toNat]
def k10_off48 (arg8_r4 : BitVec 32) : Fin 1 → Nat :=
  let c2_i32_114_r4 : BitVec 32 := 2#32
  let v162_r4 : BitVec 32 := Scalar.remui arg8_r4 c2_i32_114_r4
  ![v162_r4.toNat]
def k10_off49 (arg9_r4 : BitVec 32) : Fin 3 → Nat :=
  let c2_i32_116_r4 : BitVec 32 := 2#32
  let v164_r4 : BitVec 32 := Scalar.remui arg9_r4 c2_i32_116_r4
  let c0_i32_117_r4 : BitVec 32 := 0#32
  let c0_i32_118_r4 : BitVec 32 := 0#32
  ![v164_r4.toNat, 0, 0]
def k10_cond16 (i : grid10.Coords) (k10_t3 : Fin k10_t3_loop.trips) (arg12_r4 : BitVec 32) : BitVec 1 :=
  let c2560_i32_77_r4 : BitVec 32 := 2560#32
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v78_r4 : BitVec 32 := Scalar.addi arg12_r4 v14
  let v94_r4 : BitVec 32 := Scalar.addi c2560_i32_77_r4 v78_r4
  let c2560_i32_89_r4 : BitVec 32 := 2560#32
  let true_66_r4 : BitVec 1 := 1#1
  let c1_i32_65_r4 : BitVec 32 := 1#32
  let v79_r4 : BitVec 32 := Scalar.subi arg12_r4 c1_i32_65_r4
  let v80_r4 : BitVec 32 := Scalar.select true_66_r4 v79_r4 arg12_r4
  let c_m1_i32_67_r4 : BitVec 32 := 4294967295#32
  let v81_r4 : BitVec 1 := Scalar.cmpi .eq v80_r4 c_m1_i32_67_r4
  let c15_i32_68_r4 : BitVec 32 := 15#32
  let v82_r4 : BitVec 32 := Scalar.select v81_r4 c15_i32_68_r4 v80_r4
  let v83_r4 : BitVec 32 := Scalar.addi v82_r4 v14
  let v112_r4 : BitVec 32 := Scalar.addi c2560_i32_89_r4 v83_r4
  let v113_r4 : BitVec 1 := Scalar.cmpi .ne v94_r4 v112_r4
  let c0_i32_35_r4 : BitVec 32 := 0#32
  let c1_i32_37_r4 : BitVec 32 := 1#32
  let arg7_r4 : BitVec 32 := Scf.iv c0_i32_35_r4 c1_i32_37_r4 k10_t3
  let c0_i32_63_r4 : BitVec 32 := 0#32
  let v76_r4 : BitVec 1 := Scalar.cmpi .eq arg7_r4 c0_i32_63_r4
  let v114_r4 : BitVec 1 := Scalar.ori v113_r4 v76_r4
  let c0_i32_90_r4 : BitVec 32 := 0#32
  let v115_r4 : BitVec 1 := Scalar.cmpi .sge arg7_r4 c0_i32_90_r4
  let v116_r4 : BitVec 1 := Scalar.andi v114_r4 v115_r4
  let v117_r4 : BitVec 32 := Scalar.extui v116_r4
  let c0_i32_91_r4 : BitVec 32 := 0#32
  let v118_r4 : BitVec 1 := Scalar.cmpi .ne v117_r4 c0_i32_91_r4
  v118_r4

def k10_off50 (i : grid10.Coords) (arg12_r4 : BitVec 32) : Fin 2 → Nat :=
  let c2_i32_119_r4 : BitVec 32 := 2#32
  let c256_i32_115_r4 : BitVec 32 := 256#32
  let c2560_i32_114_r4 : BitVec 32 := 2560#32
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v78_r4 : BitVec 32 := Scalar.addi arg12_r4 v14
  let v162_r4 : BitVec 32 := Scalar.addi c2560_i32_114_r4 v78_r4
  let v163_r4 : BitVec 32 := Scalar.muli c256_i32_115_r4 v162_r4
  ![2, v163_r4.toNat]
def k10_off51 (arg9_r4 : BitVec 32) : Fin 1 → Nat :=
  let c2_i32_116_r4 : BitVec 32 := 2#32
  let v164_r4 : BitVec 32 := Scalar.remui arg9_r4 c2_i32_116_r4
  ![v164_r4.toNat]
def k10_off52 (arg10_r4 : BitVec 32) : Fin 3 → Nat :=
  let c2_i32_96_r4 : BitVec 32 := 2#32
  let v127_r4 : BitVec 32 := Scalar.remui arg10_r4 c2_i32_96_r4
  let c0_i32_114_r5 : BitVec 32 := 0#32
  let c0_i32_115_r5 : BitVec 32 := 0#32
  ![v127_r4.toNat, 0, 0]

def k10_chk12 (arg10_r4 : BitVec 32) : Prop :=
  (∀ a, (k10_off52 arg10_r4) a + S1x256x128.size a ≤ S2x256x128.size a)
theorem k10_off52_inb : ∀ (arg10_r4 : BitVec 32) (k10_hw12 : k10_chk12 arg10_r4), ∀ a, (k10_off52 arg10_r4) a + S1x256x128.size a ≤ S2x256x128.size a := fun arg10_r4 k10_hw12 => k10_hw12

def k10_off53 (arg9_r4 : BitVec 32) : Fin 3 → Nat :=
  let c2_i32_95_r4 : BitVec 32 := 2#32
  let v126_r4 : BitVec 32 := Scalar.remui arg9_r4 c2_i32_95_r4
  let c0_i32_116_r5 : BitVec 32 := 0#32
  let c0_i32_117_r5 : BitVec 32 := 0#32
  ![v126_r4.toNat, 0, 0]

def k10_chk13 (arg9_r4 : BitVec 32) : Prop :=
  (∀ a, (k10_off53 arg9_r4) a + S1x1x256.size a ≤ S2x1x256.size a)
theorem k10_off53_inb : ∀ (arg9_r4 : BitVec 32) (k10_hw13 : k10_chk13 arg9_r4), ∀ a, (k10_off53 arg9_r4) a + S1x1x256.size a ≤ S2x1x256.size a := fun arg9_r4 k10_hw13 => k10_hw13

def k10_off54 (arg10_r4 : BitVec 32) : Fin 3 → Nat :=
  let c2_i32_114_r4 : BitVec 32 := 2#32
  let v162_r4 : BitVec 32 := Scalar.remui arg10_r4 c2_i32_114_r4
  let c0_i32_117_r4 : BitVec 32 := 0#32
  let c0_i32_118_r4 : BitVec 32 := 0#32
  ![v162_r4.toNat, 0, 0]
def k10_cond19 (i : grid10.Coords) (k10_t3 : Fin k10_t3_loop.trips) (arg12_r4 : BitVec 32) : BitVec 1 :=
  let c1024_i32_85_r4 : BitVec 32 := 1024#32
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v78_r4 : BitVec 32 := Scalar.addi arg12_r4 v14
  let v106_r4 : BitVec 32 := Scalar.addi c1024_i32_85_r4 v78_r4
  let c1024_i32_86_r4 : BitVec 32 := 1024#32
  let true_70_r4 : BitVec 1 := 1#1
  let c1_i32_69_r4 : BitVec 32 := 1#32
  let v84_r4 : BitVec 32 := Scalar.addi arg12_r4 c1_i32_69_r4
  let v85_r4 : BitVec 32 := Scalar.select true_70_r4 v84_r4 arg12_r4
  let c16_i32_71_r4 : BitVec 32 := 16#32
  let v86_r4 : BitVec 1 := Scalar.cmpi .eq v85_r4 c16_i32_71_r4
  let c0_i32_72_r4 : BitVec 32 := 0#32
  let v87_r4 : BitVec 32 := Scalar.select v86_r4 c0_i32_72_r4 v85_r4
  let v88_r4 : BitVec 32 := Scalar.addi v87_r4 v14
  let v107_r4 : BitVec 32 := Scalar.addi c1024_i32_86_r4 v88_r4
  let v133_r4 : BitVec 1 := Scalar.cmpi .ne v106_r4 v107_r4
  let c0_i32_35_r4 : BitVec 32 := 0#32
  let c1_i32_37_r4 : BitVec 32 := 1#32
  let arg7_r4 : BitVec 32 := Scf.iv c0_i32_35_r4 c1_i32_37_r4 k10_t3
  let c15_i32_64_r4 : BitVec 32 := 15#32
  let v77_r4 : BitVec 1 := Scalar.cmpi .eq arg7_r4 c15_i32_64_r4
  let v134_r4 : BitVec 1 := Scalar.ori v133_r4 v77_r4
  let v135_r4 : BitVec 32 := Scalar.extui v134_r4
  let c0_i32_99_r4 : BitVec 32 := 0#32
  let v136_r4 : BitVec 1 := Scalar.cmpi .ne v135_r4 c0_i32_99_r4
  v136_r4

def k10_off55 (i : grid10.Coords) (arg12_r4 : BitVec 32) : Fin 2 → Nat :=
  let c256_i32_116_r4 : BitVec 32 := 256#32
  let c1024_i32_115_r4 : BitVec 32 := 1024#32
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v78_r4 : BitVec 32 := Scalar.addi arg12_r4 v14
  let v163_r4 : BitVec 32 := Scalar.addi c1024_i32_115_r4 v78_r4
  let v164_r4 : BitVec 32 := Scalar.muli c256_i32_116_r4 v163_r4
  let c0_i32_119_r4 : BitVec 32 := 0#32
  ![v164_r4.toNat, 0]
def k10_off56 (arg10_r4 : BitVec 32) : Fin 1 → Nat :=
  let c2_i32_114_r4 : BitVec 32 := 2#32
  let v162_r4 : BitVec 32 := Scalar.remui arg10_r4 c2_i32_114_r4
  ![v162_r4.toNat]
def k10_off57 (arg11_r4 : BitVec 32) : Fin 3 → Nat :=
  let c2_i32_114_r4 : BitVec 32 := 2#32
  let v162_r4 : BitVec 32 := Scalar.remui arg11_r4 c2_i32_114_r4
  let c0_i32_117_r4 : BitVec 32 := 0#32
  let c0_i32_118_r4 : BitVec 32 := 0#32
  ![v162_r4.toNat, 0, 0]
def k10_cond21 (i : grid10.Coords) (k10_t3 : Fin k10_t3_loop.trips) (arg12_r4 : BitVec 32) : BitVec 1 :=
  let c1024_i32_85_r4 : BitVec 32 := 1024#32
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v78_r4 : BitVec 32 := Scalar.addi arg12_r4 v14
  let v106_r4 : BitVec 32 := Scalar.addi c1024_i32_85_r4 v78_r4
  let c1024_i32_92_r4 : BitVec 32 := 1024#32
  let true_66_r4 : BitVec 1 := 1#1
  let c1_i32_65_r4 : BitVec 32 := 1#32
  let v79_r4 : BitVec 32 := Scalar.subi arg12_r4 c1_i32_65_r4
  let v80_r4 : BitVec 32 := Scalar.select true_66_r4 v79_r4 arg12_r4
  let c_m1_i32_67_r4 : BitVec 32 := 4294967295#32
  let v81_r4 : BitVec 1 := Scalar.cmpi .eq v80_r4 c_m1_i32_67_r4
  let c15_i32_68_r4 : BitVec 32 := 15#32
  let v82_r4 : BitVec 32 := Scalar.select v81_r4 c15_i32_68_r4 v80_r4
  let v83_r4 : BitVec 32 := Scalar.addi v82_r4 v14
  let v119_r4 : BitVec 32 := Scalar.addi c1024_i32_92_r4 v83_r4
  let v146_r4 : BitVec 1 := Scalar.cmpi .ne v106_r4 v119_r4
  let c0_i32_35_r4 : BitVec 32 := 0#32
  let c1_i32_37_r4 : BitVec 32 := 1#32
  let arg7_r4 : BitVec 32 := Scf.iv c0_i32_35_r4 c1_i32_37_r4 k10_t3
  let c0_i32_63_r4 : BitVec 32 := 0#32
  let v76_r4 : BitVec 1 := Scalar.cmpi .eq arg7_r4 c0_i32_63_r4
  let true_105_r4 : BitVec 1 := 1#1
  let v147_r4 : BitVec 1 := Scalar.xori v76_r4 true_105_r4
  let v148_r4 : BitVec 1 := Scalar.andi v146_r4 v147_r4
  let v149_r4 : BitVec 32 := Scalar.extui v148_r4
  let c0_i32_106_r4 : BitVec 32 := 0#32
  let v150_r4 : BitVec 1 := Scalar.cmpi .ne v149_r4 c0_i32_106_r4
  v150_r4

def k10_off58 (i : grid10.Coords) (arg12_r4 : BitVec 32) : Fin 2 → Nat :=
  let c256_i32_116_r4 : BitVec 32 := 256#32
  let c1024_i32_115_r4 : BitVec 32 := 1024#32
  let true_66_r4 : BitVec 1 := 1#1
  let c1_i32_65_r4 : BitVec 32 := 1#32
  let v79_r4 : BitVec 32 := Scalar.subi arg12_r4 c1_i32_65_r4
  let v80_r4 : BitVec 32 := Scalar.select true_66_r4 v79_r4 arg12_r4
  let c_m1_i32_67_r4 : BitVec 32 := 4294967295#32
  let v81_r4 : BitVec 1 := Scalar.cmpi .eq v80_r4 c_m1_i32_67_r4
  let c15_i32_68_r4 : BitVec 32 := 15#32
  let v82_r4 : BitVec 32 := Scalar.select v81_r4 c15_i32_68_r4 v80_r4
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v83_r4 : BitVec 32 := Scalar.addi v82_r4 v14
  let v163_r4 : BitVec 32 := Scalar.addi c1024_i32_115_r4 v83_r4
  let v164_r4 : BitVec 32 := Scalar.muli c256_i32_116_r4 v163_r4
  let c0_i32_119_r4 : BitVec 32 := 0#32
  ![v164_r4.toNat, 0]
def k10_off59 (arg11_r4 : BitVec 32) : Fin 1 → Nat :=
  let c2_i32_114_r4 : BitVec 32 := 2#32
  let v162_r4 : BitVec 32 := Scalar.remui arg11_r4 c2_i32_114_r4
  ![v162_r4.toNat]

def k10_chk11 (i : grid10.Coords) (k10_t3 : Fin k10_t3_loop.trips) (arg8_r4 : BitVec 32) (arg9_r4 : BitVec 32) (arg10_r4 : BitVec 32) (arg11_r4 : BitVec 32) (arg12_r4 : BitVec 32) : Prop :=
  (∀ (k10_h15 : k10_cond15 i k10_t3 arg12_r4 = 1#1), ∀ a, (k10_off46 arg8_r4) a + S1x1x256.size a ≤ S2x1x256.size a) ∧
  (∀ (k10_h15 : k10_cond15 i k10_t3 arg12_r4 = 1#1), ∀ a, (k10_off47 i arg12_r4) a + S1x256.size a ≤ S3x1048576.size a) ∧
  (∀ (k10_h15 : k10_cond15 i k10_t3 arg12_r4 = 1#1), ∀ a, (k10_off48 arg8_r4) a + S1.size a ≤ S2.size a) ∧
  (∀ (k10_h16 : k10_cond16 i k10_t3 arg12_r4 = 1#1), ∀ a, (k10_off49 arg9_r4) a + S1x1x256.size a ≤ S2x1x256.size a) ∧
  (∀ (k10_h16 : k10_cond16 i k10_t3 arg12_r4 = 1#1), ∀ a, (k10_off50 i arg12_r4) a + S1x256.size a ≤ S3x1048576.size a) ∧
  (∀ (k10_h16 : k10_cond16 i k10_t3 arg12_r4 = 1#1), ∀ a, (k10_off51 arg9_r4) a + S1.size a ≤ S2.size a) ∧
  (∀ (k10_h19 : k10_cond19 i k10_t3 arg12_r4 = 1#1), ∀ a, (k10_off54 arg10_r4) a + S1x256x128.size a ≤ S2x256x128.size a) ∧
  (∀ (k10_h19 : k10_cond19 i k10_t3 arg12_r4 = 1#1), ∀ a, (k10_off55 i arg12_r4) a + S256x128.size a ≤ S393216x128.size a) ∧
  (∀ (k10_h19 : k10_cond19 i k10_t3 arg12_r4 = 1#1), ∀ a, (k10_off56 arg10_r4) a + S1.size a ≤ S2.size a) ∧
  (∀ (k10_h21 : k10_cond21 i k10_t3 arg12_r4 = 1#1), ∀ a, (k10_off57 arg11_r4) a + S1x256x128.size a ≤ S2x256x128.size a) ∧
  (∀ (k10_h21 : k10_cond21 i k10_t3 arg12_r4 = 1#1), ∀ a, (k10_off58 i arg12_r4) a + S256x128.size a ≤ S393216x128.size a) ∧
  (∀ (k10_h21 : k10_cond21 i k10_t3 arg12_r4 = 1#1), ∀ a, (k10_off59 arg11_r4) a + S1.size a ≤ S2.size a)
theorem k10_off46_inb : ∀ (i : grid10.Coords) (k10_t3 : Fin k10_t3_loop.trips) (arg8_r4 : BitVec 32) (arg9_r4 : BitVec 32) (arg10_r4 : BitVec 32) (arg11_r4 : BitVec 32) (arg12_r4 : BitVec 32) (k10_hw11 : k10_chk11 i k10_t3 arg8_r4 arg9_r4 arg10_r4 arg11_r4 arg12_r4), ∀ (k10_h15 : k10_cond15 i k10_t3 arg12_r4 = 1#1), ∀ a, (k10_off46 arg8_r4) a + S1x1x256.size a ≤ S2x1x256.size a := fun i k10_t3 arg8_r4 arg9_r4 arg10_r4 arg11_r4 arg12_r4 k10_hw11 k10_h15 => k10_hw11.1 k10_h15
theorem k10_off47_inb : ∀ (i : grid10.Coords) (k10_t3 : Fin k10_t3_loop.trips) (arg8_r4 : BitVec 32) (arg9_r4 : BitVec 32) (arg10_r4 : BitVec 32) (arg11_r4 : BitVec 32) (arg12_r4 : BitVec 32) (k10_hw11 : k10_chk11 i k10_t3 arg8_r4 arg9_r4 arg10_r4 arg11_r4 arg12_r4), ∀ (k10_h15 : k10_cond15 i k10_t3 arg12_r4 = 1#1), ∀ a, (k10_off47 i arg12_r4) a + S1x256.size a ≤ S3x1048576.size a := fun i k10_t3 arg8_r4 arg9_r4 arg10_r4 arg11_r4 arg12_r4 k10_hw11 k10_h15 => k10_hw11.2.1 k10_h15
theorem k10_off48_inb : ∀ (i : grid10.Coords) (k10_t3 : Fin k10_t3_loop.trips) (arg8_r4 : BitVec 32) (arg9_r4 : BitVec 32) (arg10_r4 : BitVec 32) (arg11_r4 : BitVec 32) (arg12_r4 : BitVec 32) (k10_hw11 : k10_chk11 i k10_t3 arg8_r4 arg9_r4 arg10_r4 arg11_r4 arg12_r4), ∀ (k10_h15 : k10_cond15 i k10_t3 arg12_r4 = 1#1), ∀ a, (k10_off48 arg8_r4) a + S1.size a ≤ S2.size a := fun i k10_t3 arg8_r4 arg9_r4 arg10_r4 arg11_r4 arg12_r4 k10_hw11 k10_h15 => k10_hw11.2.2.1 k10_h15
theorem k10_off49_inb : ∀ (i : grid10.Coords) (k10_t3 : Fin k10_t3_loop.trips) (arg8_r4 : BitVec 32) (arg9_r4 : BitVec 32) (arg10_r4 : BitVec 32) (arg11_r4 : BitVec 32) (arg12_r4 : BitVec 32) (k10_hw11 : k10_chk11 i k10_t3 arg8_r4 arg9_r4 arg10_r4 arg11_r4 arg12_r4), ∀ (k10_h16 : k10_cond16 i k10_t3 arg12_r4 = 1#1), ∀ a, (k10_off49 arg9_r4) a + S1x1x256.size a ≤ S2x1x256.size a := fun i k10_t3 arg8_r4 arg9_r4 arg10_r4 arg11_r4 arg12_r4 k10_hw11 k10_h16 => k10_hw11.2.2.2.1 k10_h16
theorem k10_off50_inb : ∀ (i : grid10.Coords) (k10_t3 : Fin k10_t3_loop.trips) (arg8_r4 : BitVec 32) (arg9_r4 : BitVec 32) (arg10_r4 : BitVec 32) (arg11_r4 : BitVec 32) (arg12_r4 : BitVec 32) (k10_hw11 : k10_chk11 i k10_t3 arg8_r4 arg9_r4 arg10_r4 arg11_r4 arg12_r4), ∀ (k10_h16 : k10_cond16 i k10_t3 arg12_r4 = 1#1), ∀ a, (k10_off50 i arg12_r4) a + S1x256.size a ≤ S3x1048576.size a := fun i k10_t3 arg8_r4 arg9_r4 arg10_r4 arg11_r4 arg12_r4 k10_hw11 k10_h16 => k10_hw11.2.2.2.2.1 k10_h16
theorem k10_off51_inb : ∀ (i : grid10.Coords) (k10_t3 : Fin k10_t3_loop.trips) (arg8_r4 : BitVec 32) (arg9_r4 : BitVec 32) (arg10_r4 : BitVec 32) (arg11_r4 : BitVec 32) (arg12_r4 : BitVec 32) (k10_hw11 : k10_chk11 i k10_t3 arg8_r4 arg9_r4 arg10_r4 arg11_r4 arg12_r4), ∀ (k10_h16 : k10_cond16 i k10_t3 arg12_r4 = 1#1), ∀ a, (k10_off51 arg9_r4) a + S1.size a ≤ S2.size a := fun i k10_t3 arg8_r4 arg9_r4 arg10_r4 arg11_r4 arg12_r4 k10_hw11 k10_h16 => k10_hw11.2.2.2.2.2.1 k10_h16
theorem k10_off54_inb : ∀ (i : grid10.Coords) (k10_t3 : Fin k10_t3_loop.trips) (arg8_r4 : BitVec 32) (arg9_r4 : BitVec 32) (arg10_r4 : BitVec 32) (arg11_r4 : BitVec 32) (arg12_r4 : BitVec 32) (k10_hw11 : k10_chk11 i k10_t3 arg8_r4 arg9_r4 arg10_r4 arg11_r4 arg12_r4), ∀ (k10_h19 : k10_cond19 i k10_t3 arg12_r4 = 1#1), ∀ a, (k10_off54 arg10_r4) a + S1x256x128.size a ≤ S2x256x128.size a := fun i k10_t3 arg8_r4 arg9_r4 arg10_r4 arg11_r4 arg12_r4 k10_hw11 k10_h19 => k10_hw11.2.2.2.2.2.2.1 k10_h19
theorem k10_off55_inb : ∀ (i : grid10.Coords) (k10_t3 : Fin k10_t3_loop.trips) (arg8_r4 : BitVec 32) (arg9_r4 : BitVec 32) (arg10_r4 : BitVec 32) (arg11_r4 : BitVec 32) (arg12_r4 : BitVec 32) (k10_hw11 : k10_chk11 i k10_t3 arg8_r4 arg9_r4 arg10_r4 arg11_r4 arg12_r4), ∀ (k10_h19 : k10_cond19 i k10_t3 arg12_r4 = 1#1), ∀ a, (k10_off55 i arg12_r4) a + S256x128.size a ≤ S393216x128.size a := fun i k10_t3 arg8_r4 arg9_r4 arg10_r4 arg11_r4 arg12_r4 k10_hw11 k10_h19 => k10_hw11.2.2.2.2.2.2.2.1 k10_h19
theorem k10_off56_inb : ∀ (i : grid10.Coords) (k10_t3 : Fin k10_t3_loop.trips) (arg8_r4 : BitVec 32) (arg9_r4 : BitVec 32) (arg10_r4 : BitVec 32) (arg11_r4 : BitVec 32) (arg12_r4 : BitVec 32) (k10_hw11 : k10_chk11 i k10_t3 arg8_r4 arg9_r4 arg10_r4 arg11_r4 arg12_r4), ∀ (k10_h19 : k10_cond19 i k10_t3 arg12_r4 = 1#1), ∀ a, (k10_off56 arg10_r4) a + S1.size a ≤ S2.size a := fun i k10_t3 arg8_r4 arg9_r4 arg10_r4 arg11_r4 arg12_r4 k10_hw11 k10_h19 => k10_hw11.2.2.2.2.2.2.2.2.1 k10_h19
theorem k10_off57_inb : ∀ (i : grid10.Coords) (k10_t3 : Fin k10_t3_loop.trips) (arg8_r4 : BitVec 32) (arg9_r4 : BitVec 32) (arg10_r4 : BitVec 32) (arg11_r4 : BitVec 32) (arg12_r4 : BitVec 32) (k10_hw11 : k10_chk11 i k10_t3 arg8_r4 arg9_r4 arg10_r4 arg11_r4 arg12_r4), ∀ (k10_h21 : k10_cond21 i k10_t3 arg12_r4 = 1#1), ∀ a, (k10_off57 arg11_r4) a + S1x256x128.size a ≤ S2x256x128.size a := fun i k10_t3 arg8_r4 arg9_r4 arg10_r4 arg11_r4 arg12_r4 k10_hw11 k10_h21 => k10_hw11.2.2.2.2.2.2.2.2.2.1 k10_h21
theorem k10_off58_inb : ∀ (i : grid10.Coords) (k10_t3 : Fin k10_t3_loop.trips) (arg8_r4 : BitVec 32) (arg9_r4 : BitVec 32) (arg10_r4 : BitVec 32) (arg11_r4 : BitVec 32) (arg12_r4 : BitVec 32) (k10_hw11 : k10_chk11 i k10_t3 arg8_r4 arg9_r4 arg10_r4 arg11_r4 arg12_r4), ∀ (k10_h21 : k10_cond21 i k10_t3 arg12_r4 = 1#1), ∀ a, (k10_off58 i arg12_r4) a + S256x128.size a ≤ S393216x128.size a := fun i k10_t3 arg8_r4 arg9_r4 arg10_r4 arg11_r4 arg12_r4 k10_hw11 k10_h21 => k10_hw11.2.2.2.2.2.2.2.2.2.2.1 k10_h21
theorem k10_off59_inb : ∀ (i : grid10.Coords) (k10_t3 : Fin k10_t3_loop.trips) (arg8_r4 : BitVec 32) (arg9_r4 : BitVec 32) (arg10_r4 : BitVec 32) (arg11_r4 : BitVec 32) (arg12_r4 : BitVec 32) (k10_hw11 : k10_chk11 i k10_t3 arg8_r4 arg9_r4 arg10_r4 arg11_r4 arg12_r4), ∀ (k10_h21 : k10_cond21 i k10_t3 arg12_r4 = 1#1), ∀ a, (k10_off59 arg11_r4) a + S1.size a ≤ S2.size a := fun i k10_t3 arg8_r4 arg9_r4 arg10_r4 arg11_r4 arg12_r4 k10_hw11 k10_h21 => k10_hw11.2.2.2.2.2.2.2.2.2.2.2 k10_h21

def k10_off60 (v44_3_r4 : BitVec 32) : Fin 3 → Nat :=
  let c2_i32_55_r4 : BitVec 32 := 2#32
  let v65_r4 : BitVec 32 := Scalar.remui v44_3_r4 c2_i32_55_r4
  let c0_i32_57_r4 : BitVec 32 := 0#32
  let c0_i32_58_r4 : BitVec 32 := 0#32
  ![v65_r4.toNat, 0, 0]

def k10_off61 (i : grid10.Coords) (v44_4_r4 : BitVec 32) : Fin 2 → Nat :=
  let c256_i32_56_r4 : BitVec 32 := 256#32
  let c1024_i32_r4 : BitVec 32 := 1024#32
  let true_40_r4 : BitVec 1 := 1#1
  let c1_i32_39_r4 : BitVec 32 := 1#32
  let v45_r4 : BitVec 32 := Scalar.subi v44_4_r4 c1_i32_39_r4
  let v46_r4 : BitVec 32 := Scalar.select true_40_r4 v45_r4 v44_4_r4
  let c_m1_i32_41_r4 : BitVec 32 := 4294967295#32
  let v47_r4 : BitVec 1 := Scalar.cmpi .eq v46_r4 c_m1_i32_41_r4
  let c15_i32_42_r4 : BitVec 32 := 15#32
  let v48_r4 : BitVec 32 := Scalar.select v47_r4 c15_i32_42_r4 v46_r4
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v49_r4 : BitVec 32 := Scalar.addi v48_r4 v14
  let v66_r4 : BitVec 32 := Scalar.addi c1024_i32_r4 v49_r4
  let v67_r4 : BitVec 32 := Scalar.muli c256_i32_56_r4 v66_r4
  let c0_i32_59_r4 : BitVec 32 := 0#32
  ![v67_r4.toNat, 0]

def k10_chk15 (i : grid10.Coords) (v44_4_r4 : BitVec 32) : Prop :=
  (∀ a, (k10_off61 i v44_4_r4) a + S256x128.size a ≤ S393216x128.size a)
theorem k10_off61_inb : ∀ (i : grid10.Coords) (v44_4_r4 : BitVec 32) (k10_hw15 : k10_chk15 i v44_4_r4), ∀ a, (k10_off61 i v44_4_r4) a + S256x128.size a ≤ S393216x128.size a := fun i v44_4_r4 k10_hw15 => k10_hw15

def k10_off62 (v44_3_r4 : BitVec 32) : Fin 1 → Nat :=
  let c2_i32_55_r4 : BitVec 32 := 2#32
  let v65_r4 : BitVec 32 := Scalar.remui v44_3_r4 c2_i32_55_r4
  ![v65_r4.toNat]
def k10_off63 (v44_3_r4 : BitVec 32) : Fin 3 → Nat :=
  let c2_i32_55_r4 : BitVec 32 := 2#32
  let v65_r4 : BitVec 32 := Scalar.remui v44_3_r4 c2_i32_55_r4
  let c0_i32_61_r4 : BitVec 32 := 0#32
  let c0_i32_62_r4 : BitVec 32 := 0#32
  ![v65_r4.toNat, 0, 0]

def k10_chk14 (v44_3_r4 : BitVec 32) : Prop :=
  (∀ a, (k10_off60 v44_3_r4) a + S1x256x128.size a ≤ S2x256x128.size a) ∧
  (∀ a, (k10_off62 v44_3_r4) a + S1.size a ≤ S2.size a) ∧
  (∀ a, (k10_off63 v44_3_r4) a + S1x256x128.size a ≤ S2x256x128.size a)
theorem k10_off60_inb : ∀ (v44_3_r4 : BitVec 32) (k10_hw14 : k10_chk14 v44_3_r4), ∀ a, (k10_off60 v44_3_r4) a + S1x256x128.size a ≤ S2x256x128.size a := fun v44_3_r4 k10_hw14 => k10_hw14.1
theorem k10_off62_inb : ∀ (v44_3_r4 : BitVec 32) (k10_hw14 : k10_chk14 v44_3_r4), ∀ a, (k10_off62 v44_3_r4) a + S1.size a ≤ S2.size a := fun v44_3_r4 k10_hw14 => k10_hw14.2.1
theorem k10_off63_inb : ∀ (v44_3_r4 : BitVec 32) (k10_hw14 : k10_chk14 v44_3_r4), ∀ a, (k10_off63 v44_3_r4) a + S1x256x128.size a ≤ S2x256x128.size a := fun v44_3_r4 k10_hw14 => k10_hw14.2.2

abbrev grid11 : Pipeline.Grid := ⟨1, ![64], ![false]⟩

def cc11_transform_1 (i : grid11.Coords) : Fin 2 → Nat :=
  let arg0 : BitVec 32 := BitVec.ofNat 32 (i 0).val
  let c320_i32 : BitVec 32 := 320#32
  let v0 : BitVec 32 := Scalar.addi c320_i32 arg0
  let c0_i32 : BitVec 32 := 0#32
  let c0_i32_0 : BitVec 32 := 0#32
  ![c0_i32.toNat, v0.toNat]

def cc11_transform_2 (i : grid11.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c320_i32 : BitVec 32 := 320#32
  let v0 : BitVec 32 := Scalar.addi c320_i32 arg0
  let c0_i32 : BitVec 32 := 0#32
  let c0_i32_0 : BitVec 32 := 0#32
  ![c0_i32.toNat, v0.toNat]

abbrev stage11_0 : Fin 2 → Memref sig .tc .vmem S16x2048 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S3x2048x128 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S16x384 .bf16 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S128x32 .bf16 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 2 → Memref sig .tc .vmem S32x2048 .f32 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true]

abbrev grid12 : Pipeline.Grid := ⟨2, ![2, 16], ![false, false]⟩

def k12_off1 : Fin 3 → Nat :=
  let c0_i32_22_r0 : BitVec 32 := 0#32
  let c2_i32_r0 : BitVec 32 := 2#32
  let v31_r0 : BitVec 32 := Scalar.remui c0_i32_22_r0 c2_i32_r0
  let c0_i32_23_r0 : BitVec 32 := 0#32
  let c0_i32_24_r0 : BitVec 32 := 0#32
  ![v31_r0.toNat, 0, 0]
def k12_off2 (i : grid12.Coords) : Fin 2 → Nat :=
  let c0_i32_25_r0 : BitVec 32 := 0#32
  let c256_i32_r0 : BitVec 32 := 256#32
  let c3072_i32_r0 : BitVec 32 := 3072#32
  let c0_i32_10_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v17_r0 : BitVec 32 := Scalar.addi c0_i32_10_r0 v4
  let v32_r0 : BitVec 32 := Scalar.addi c3072_i32_r0 v17_r0
  let v33_r0 : BitVec 32 := Scalar.muli c256_i32_r0 v32_r0
  ![0, v33_r0.toNat]
def k12_off3 : Fin 1 → Nat :=
  let c0_i32_22_r0 : BitVec 32 := 0#32
  let c2_i32_r0 : BitVec 32 := 2#32
  let v31_r0 : BitVec 32 := Scalar.remui c0_i32_22_r0 c2_i32_r0
  ![v31_r0.toNat]
@[reducible] def k12_t1_loop : Scf.Loop 32 :=
  let c0_i32_35_r0 : BitVec 32 := 0#32
  let c16_i32_36_r0 : BitVec 32 := 16#32
  let v43_r0 : BitVec 32 := Scalar.addi c0_i32_35_r0 c16_i32_36_r0
  let c1_i32_37_r0 : BitVec 32 := 1#32
  ⟨c0_i32_35_r0, v43_r0, c1_i32_37_r0⟩
def k12_off4 (arg8_r0 : BitVec 32) : Fin 3 → Nat :=
  let c2_i32_115_r0 : BitVec 32 := 2#32
  let v162_r0 : BitVec 32 := Scalar.remui arg8_r0 c2_i32_115_r0
  let c0_i32_118_r0 : BitVec 32 := 0#32
  let c0_i32_119_r0 : BitVec 32 := 0#32
  ![v162_r0.toNat, 0, 0]
def k12_cond1 (i : grid12.Coords) (k12_t1 : Fin k12_t1_loop.trips) (arg12_r0 : BitVec 32) : BitVec 1 :=
  let c3072_i32_78_r0 : BitVec 32 := 3072#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v78_r0 : BitVec 32 := Scalar.addi arg12_r0 v4
  let v94_r0 : BitVec 32 := Scalar.addi c3072_i32_78_r0 v78_r0
  let c3072_i32_79_r0 : BitVec 32 := 3072#32
  let true_71_r0 : BitVec 1 := 1#1
  let c1_i32_70_r0 : BitVec 32 := 1#32
  let v84_r0 : BitVec 32 := Scalar.addi arg12_r0 c1_i32_70_r0
  let v85_r0 : BitVec 32 := Scalar.select true_71_r0 v84_r0 arg12_r0
  let c16_i32_72_r0 : BitVec 32 := 16#32
  let v86_r0 : BitVec 1 := Scalar.cmpi .eq v85_r0 c16_i32_72_r0
  let c0_i32_73_r0 : BitVec 32 := 0#32
  let v87_r0 : BitVec 32 := Scalar.select v86_r0 c0_i32_73_r0 v85_r0
  let v88_r0 : BitVec 32 := Scalar.addi v87_r0 v4
  let v95_r0 : BitVec 32 := Scalar.addi c3072_i32_79_r0 v88_r0
  let v96_r0 : BitVec 1 := Scalar.cmpi .ne v94_r0 v95_r0
  let c0_i32_35_r0 : BitVec 32 := 0#32
  let c1_i32_37_r0 : BitVec 32 := 1#32
  let arg7_r0 : BitVec 32 := Scf.iv c0_i32_35_r0 c1_i32_37_r0 k12_t1
  let c15_i32_80_r0 : BitVec 32 := 15#32
  let v97_r0 : BitVec 1 := Scalar.cmpi .sge arg7_r0 c15_i32_80_r0
  let true_81_r0 : BitVec 1 := 1#1
  let v98_r0 : BitVec 1 := Scalar.xori v97_r0 true_81_r0
  let v99_r0 : BitVec 1 := Scalar.andi v96_r0 v98_r0
  let true_82_r0 : BitVec 1 := 1#1
  let v100_r0 : BitVec 1 := Scalar.andi v99_r0 true_82_r0
  let v101_r0 : BitVec 32 := Scalar.extui v100_r0
  let c0_i32_83_r0 : BitVec 32 := 0#32
  let v102_r0 : BitVec 1 := Scalar.cmpi .ne v101_r0 c0_i32_83_r0
  v102_r0

def k12_off5 (i : grid12.Coords) (arg12_r0 : BitVec 32) : Fin 2 → Nat :=
  let c0_i32_120_r0 : BitVec 32 := 0#32
  let c256_i32_117_r0 : BitVec 32 := 256#32
  let c3072_i32_116_r0 : BitVec 32 := 3072#32
  let true_71_r0 : BitVec 1 := 1#1
  let c1_i32_70_r0 : BitVec 32 := 1#32
  let v84_r0 : BitVec 32 := Scalar.addi arg12_r0 c1_i32_70_r0
  let v85_r0 : BitVec 32 := Scalar.select true_71_r0 v84_r0 arg12_r0
  let c16_i32_72_r0 : BitVec 32 := 16#32
  let v86_r0 : BitVec 1 := Scalar.cmpi .eq v85_r0 c16_i32_72_r0
  let c0_i32_73_r0 : BitVec 32 := 0#32
  let v87_r0 : BitVec 32 := Scalar.select v86_r0 c0_i32_73_r0 v85_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v88_r0 : BitVec 32 := Scalar.addi v87_r0 v4
  let v163_r0 : BitVec 32 := Scalar.addi c3072_i32_116_r0 v88_r0
  let v164_r0 : BitVec 32 := Scalar.muli c256_i32_117_r0 v163_r0
  ![0, v164_r0.toNat]
def k12_off6 (arg8_r0 : BitVec 32) : Fin 1 → Nat :=
  let c2_i32_115_r0 : BitVec 32 := 2#32
  let v162_r0 : BitVec 32 := Scalar.remui arg8_r0 c2_i32_115_r0
  ![v162_r0.toNat]
def k12_off7 (arg9_r0 : BitVec 32) : Fin 3 → Nat :=
  let c2_i32_117_r0 : BitVec 32 := 2#32
  let v164_r0 : BitVec 32 := Scalar.remui arg9_r0 c2_i32_117_r0
  let c0_i32_118_r0 : BitVec 32 := 0#32
  let c0_i32_119_r0 : BitVec 32 := 0#32
  ![v164_r0.toNat, 0, 0]
def k12_cond2 (i : grid12.Coords) (k12_t1 : Fin k12_t1_loop.trips) (arg12_r0 : BitVec 32) : BitVec 1 :=
  let c3072_i32_78_r0 : BitVec 32 := 3072#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v78_r0 : BitVec 32 := Scalar.addi arg12_r0 v4
  let v94_r0 : BitVec 32 := Scalar.addi c3072_i32_78_r0 v78_r0
  let c3072_i32_90_r0 : BitVec 32 := 3072#32
  let true_67_r0 : BitVec 1 := 1#1
  let c1_i32_66_r0 : BitVec 32 := 1#32
  let v79_r0 : BitVec 32 := Scalar.subi arg12_r0 c1_i32_66_r0
  let v80_r0 : BitVec 32 := Scalar.select true_67_r0 v79_r0 arg12_r0
  let c_m1_i32_68_r0 : BitVec 32 := 4294967295#32
  let v81_r0 : BitVec 1 := Scalar.cmpi .eq v80_r0 c_m1_i32_68_r0
  let c15_i32_69_r0 : BitVec 32 := 15#32
  let v82_r0 : BitVec 32 := Scalar.select v81_r0 c15_i32_69_r0 v80_r0
  let v83_r0 : BitVec 32 := Scalar.addi v82_r0 v4
  let v112_r0 : BitVec 32 := Scalar.addi c3072_i32_90_r0 v83_r0
  let v113_r0 : BitVec 1 := Scalar.cmpi .ne v94_r0 v112_r0
  let c0_i32_35_r0 : BitVec 32 := 0#32
  let c1_i32_37_r0 : BitVec 32 := 1#32
  let arg7_r0 : BitVec 32 := Scf.iv c0_i32_35_r0 c1_i32_37_r0 k12_t1
  let c0_i32_64_r0 : BitVec 32 := 0#32
  let v76_r0 : BitVec 1 := Scalar.cmpi .eq arg7_r0 c0_i32_64_r0
  let v114_r0 : BitVec 1 := Scalar.ori v113_r0 v76_r0
  let c0_i32_91_r0 : BitVec 32 := 0#32
  let v115_r0 : BitVec 1 := Scalar.cmpi .sge arg7_r0 c0_i32_91_r0
  let v116_r0 : BitVec 1 := Scalar.andi v114_r0 v115_r0
  let v117_r0 : BitVec 32 := Scalar.extui v116_r0
  let c0_i32_92_r0 : BitVec 32 := 0#32
  let v118_r0 : BitVec 1 := Scalar.cmpi .ne v117_r0 c0_i32_92_r0
  v118_r0

def k12_off8 (i : grid12.Coords) (arg12_r0 : BitVec 32) : Fin 2 → Nat :=
  let c0_i32_120_r0 : BitVec 32 := 0#32
  let c256_i32_116_r0 : BitVec 32 := 256#32
  let c3072_i32_115_r0 : BitVec 32 := 3072#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v78_r0 : BitVec 32 := Scalar.addi arg12_r0 v4
  let v162_r0 : BitVec 32 := Scalar.addi c3072_i32_115_r0 v78_r0
  let v163_r0 : BitVec 32 := Scalar.muli c256_i32_116_r0 v162_r0
  ![0, v163_r0.toNat]
def k12_off9 (arg9_r0 : BitVec 32) : Fin 1 → Nat :=
  let c2_i32_117_r0 : BitVec 32 := 2#32
  let v164_r0 : BitVec 32 := Scalar.remui arg9_r0 c2_i32_117_r0
  ![v164_r0.toNat]
def k12_off10 (arg10_r0 : BitVec 32) : Fin 3 → Nat :=
  let c2_i32_97_r0 : BitVec 32 := 2#32
  let v127_r0 : BitVec 32 := Scalar.remui arg10_r0 c2_i32_97_r0
  let c0_i32_115_r1 : BitVec 32 := 0#32
  let c0_i32_116_r1 : BitVec 32 := 0#32
  ![v127_r0.toNat, 0, 0]

def k12_chk2 (arg10_r0 : BitVec 32) : Prop :=
  (∀ a, (k12_off10 arg10_r0) a + S1x256x128.size a ≤ S2x256x128.size a)
theorem k12_off10_inb : ∀ (arg10_r0 : BitVec 32) (k12_hw2 : k12_chk2 arg10_r0), ∀ a, (k12_off10 arg10_r0) a + S1x256x128.size a ≤ S2x256x128.size a := fun arg10_r0 k12_hw2 => k12_hw2

def k12_off11 (arg9_r0 : BitVec 32) : Fin 3 → Nat :=
  let c2_i32_96_r0 : BitVec 32 := 2#32
  let v126_r0 : BitVec 32 := Scalar.remui arg9_r0 c2_i32_96_r0
  let c0_i32_117_r1 : BitVec 32 := 0#32
  let c0_i32_118_r1 : BitVec 32 := 0#32
  ![v126_r0.toNat, 0, 0]

def k12_chk3 (arg9_r0 : BitVec 32) : Prop :=
  (∀ a, (k12_off11 arg9_r0) a + S1x1x256.size a ≤ S2x1x256.size a)
theorem k12_off11_inb : ∀ (arg9_r0 : BitVec 32) (k12_hw3 : k12_chk3 arg9_r0), ∀ a, (k12_off11 arg9_r0) a + S1x1x256.size a ≤ S2x1x256.size a := fun arg9_r0 k12_hw3 => k12_hw3

def k12_off12 (arg10_r0 : BitVec 32) : Fin 3 → Nat :=
  let c2_i32_115_r0 : BitVec 32 := 2#32
  let v162_r0 : BitVec 32 := Scalar.remui arg10_r0 c2_i32_115_r0
  let c0_i32_118_r0 : BitVec 32 := 0#32
  let c0_i32_119_r0 : BitVec 32 := 0#32
  ![v162_r0.toNat, 0, 0]
def k12_cond5 (i : grid12.Coords) (k12_t1 : Fin k12_t1_loop.trips) (arg12_r0 : BitVec 32) : BitVec 1 :=
  let c0_i32_86_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v78_r0 : BitVec 32 := Scalar.addi arg12_r0 v4
  let v106_r0 : BitVec 32 := Scalar.addi c0_i32_86_r0 v78_r0
  let c0_i32_87_r0 : BitVec 32 := 0#32
  let true_71_r0 : BitVec 1 := 1#1
  let c1_i32_70_r0 : BitVec 32 := 1#32
  let v84_r0 : BitVec 32 := Scalar.addi arg12_r0 c1_i32_70_r0
  let v85_r0 : BitVec 32 := Scalar.select true_71_r0 v84_r0 arg12_r0
  let c16_i32_72_r0 : BitVec 32 := 16#32
  let v86_r0 : BitVec 1 := Scalar.cmpi .eq v85_r0 c16_i32_72_r0
  let c0_i32_73_r0 : BitVec 32 := 0#32
  let v87_r0 : BitVec 32 := Scalar.select v86_r0 c0_i32_73_r0 v85_r0
  let v88_r0 : BitVec 32 := Scalar.addi v87_r0 v4
  let v107_r0 : BitVec 32 := Scalar.addi c0_i32_87_r0 v88_r0
  let v133_r0 : BitVec 1 := Scalar.cmpi .ne v106_r0 v107_r0
  let c0_i32_35_r0 : BitVec 32 := 0#32
  let c1_i32_37_r0 : BitVec 32 := 1#32
  let arg7_r0 : BitVec 32 := Scf.iv c0_i32_35_r0 c1_i32_37_r0 k12_t1
  let c15_i32_65_r0 : BitVec 32 := 15#32
  let v77_r0 : BitVec 1 := Scalar.cmpi .eq arg7_r0 c15_i32_65_r0
  let v134_r0 : BitVec 1 := Scalar.ori v133_r0 v77_r0
  let v135_r0 : BitVec 32 := Scalar.extui v134_r0
  let c0_i32_100_r0 : BitVec 32 := 0#32
  let v136_r0 : BitVec 1 := Scalar.cmpi .ne v135_r0 c0_i32_100_r0
  v136_r0

def k12_off13 (i : grid12.Coords) (arg12_r0 : BitVec 32) : Fin 2 → Nat :=
  let c256_i32_117_r0 : BitVec 32 := 256#32
  let c0_i32_116_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v78_r0 : BitVec 32 := Scalar.addi arg12_r0 v4
  let v163_r0 : BitVec 32 := Scalar.addi c0_i32_116_r0 v78_r0
  let v164_r0 : BitVec 32 := Scalar.muli c256_i32_117_r0 v163_r0
  let c0_i32_120_r0 : BitVec 32 := 0#32
  ![v164_r0.toNat, 0]
def k12_off14 (arg10_r0 : BitVec 32) : Fin 1 → Nat :=
  let c2_i32_115_r0 : BitVec 32 := 2#32
  let v162_r0 : BitVec 32 := Scalar.remui arg10_r0 c2_i32_115_r0
  ![v162_r0.toNat]
def k12_off15 (arg11_r0 : BitVec 32) : Fin 3 → Nat :=
  let c2_i32_115_r0 : BitVec 32 := 2#32
  let v162_r0 : BitVec 32 := Scalar.remui arg11_r0 c2_i32_115_r0
  let c0_i32_118_r0 : BitVec 32 := 0#32
  let c0_i32_119_r0 : BitVec 32 := 0#32
  ![v162_r0.toNat, 0, 0]
def k12_cond7 (i : grid12.Coords) (k12_t1 : Fin k12_t1_loop.trips) (arg12_r0 : BitVec 32) : BitVec 1 :=
  let c0_i32_86_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v78_r0 : BitVec 32 := Scalar.addi arg12_r0 v4
  let v106_r0 : BitVec 32 := Scalar.addi c0_i32_86_r0 v78_r0
  let c0_i32_93_r0 : BitVec 32 := 0#32
  let true_67_r0 : BitVec 1 := 1#1
  let c1_i32_66_r0 : BitVec 32 := 1#32
  let v79_r0 : BitVec 32 := Scalar.subi arg12_r0 c1_i32_66_r0
  let v80_r0 : BitVec 32 := Scalar.select true_67_r0 v79_r0 arg12_r0
  let c_m1_i32_68_r0 : BitVec 32 := 4294967295#32
  let v81_r0 : BitVec 1 := Scalar.cmpi .eq v80_r0 c_m1_i32_68_r0
  let c15_i32_69_r0 : BitVec 32 := 15#32
  let v82_r0 : BitVec 32 := Scalar.select v81_r0 c15_i32_69_r0 v80_r0
  let v83_r0 : BitVec 32 := Scalar.addi v82_r0 v4
  let v119_r0 : BitVec 32 := Scalar.addi c0_i32_93_r0 v83_r0
  let v146_r0 : BitVec 1 := Scalar.cmpi .ne v106_r0 v119_r0
  let c0_i32_35_r0 : BitVec 32 := 0#32
  let c1_i32_37_r0 : BitVec 32 := 1#32
  let arg7_r0 : BitVec 32 := Scf.iv c0_i32_35_r0 c1_i32_37_r0 k12_t1
  let c0_i32_64_r0 : BitVec 32 := 0#32
  let v76_r0 : BitVec 1 := Scalar.cmpi .eq arg7_r0 c0_i32_64_r0
  let true_106_r0 : BitVec 1 := 1#1
  let v147_r0 : BitVec 1 := Scalar.xori v76_r0 true_106_r0
  let v148_r0 : BitVec 1 := Scalar.andi v146_r0 v147_r0
  let v149_r0 : BitVec 32 := Scalar.extui v148_r0
  let c0_i32_107_r0 : BitVec 32 := 0#32
  let v150_r0 : BitVec 1 := Scalar.cmpi .ne v149_r0 c0_i32_107_r0
  v150_r0

def k12_off16 (i : grid12.Coords) (arg12_r0 : BitVec 32) : Fin 2 → Nat :=
  let c256_i32_117_r0 : BitVec 32 := 256#32
  let c0_i32_116_r0 : BitVec 32 := 0#32
  let true_67_r0 : BitVec 1 := 1#1
  let c1_i32_66_r0 : BitVec 32 := 1#32
  let v79_r0 : BitVec 32 := Scalar.subi arg12_r0 c1_i32_66_r0
  let v80_r0 : BitVec 32 := Scalar.select true_67_r0 v79_r0 arg12_r0
  let c_m1_i32_68_r0 : BitVec 32 := 4294967295#32
  let v81_r0 : BitVec 1 := Scalar.cmpi .eq v80_r0 c_m1_i32_68_r0
  let c15_i32_69_r0 : BitVec 32 := 15#32
  let v82_r0 : BitVec 32 := Scalar.select v81_r0 c15_i32_69_r0 v80_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v83_r0 : BitVec 32 := Scalar.addi v82_r0 v4
  let v163_r0 : BitVec 32 := Scalar.addi c0_i32_116_r0 v83_r0
  let v164_r0 : BitVec 32 := Scalar.muli c256_i32_117_r0 v163_r0
  let c0_i32_120_r0 : BitVec 32 := 0#32
  ![v164_r0.toNat, 0]
def k12_off17 (arg11_r0 : BitVec 32) : Fin 1 → Nat :=
  let c2_i32_115_r0 : BitVec 32 := 2#32
  let v162_r0 : BitVec 32 := Scalar.remui arg11_r0 c2_i32_115_r0
  ![v162_r0.toNat]

def k12_chk1 (i : grid12.Coords) (k12_t1 : Fin k12_t1_loop.trips) (arg8_r0 : BitVec 32) (arg9_r0 : BitVec 32) (arg10_r0 : BitVec 32) (arg11_r0 : BitVec 32) (arg12_r0 : BitVec 32) : Prop :=
  (∀ (k12_h1 : k12_cond1 i k12_t1 arg12_r0 = 1#1), ∀ a, (k12_off4 arg8_r0) a + S1x1x256.size a ≤ S2x1x256.size a) ∧
  (∀ (k12_h1 : k12_cond1 i k12_t1 arg12_r0 = 1#1), ∀ a, (k12_off5 i arg12_r0) a + S1x256.size a ≤ S3x1048576.size a) ∧
  (∀ (k12_h1 : k12_cond1 i k12_t1 arg12_r0 = 1#1), ∀ a, (k12_off6 arg8_r0) a + S1.size a ≤ S2.size a) ∧
  (∀ (k12_h2 : k12_cond2 i k12_t1 arg12_r0 = 1#1), ∀ a, (k12_off7 arg9_r0) a + S1x1x256.size a ≤ S2x1x256.size a) ∧
  (∀ (k12_h2 : k12_cond2 i k12_t1 arg12_r0 = 1#1), ∀ a, (k12_off8 i arg12_r0) a + S1x256.size a ≤ S3x1048576.size a) ∧
  (∀ (k12_h2 : k12_cond2 i k12_t1 arg12_r0 = 1#1), ∀ a, (k12_off9 arg9_r0) a + S1.size a ≤ S2.size a) ∧
  (∀ (k12_h5 : k12_cond5 i k12_t1 arg12_r0 = 1#1), ∀ a, (k12_off12 arg10_r0) a + S1x256x128.size a ≤ S2x256x128.size a) ∧
  (∀ (k12_h5 : k12_cond5 i k12_t1 arg12_r0 = 1#1), ∀ a, (k12_off13 i arg12_r0) a + S256x128.size a ≤ S393216x128.size a) ∧
  (∀ (k12_h5 : k12_cond5 i k12_t1 arg12_r0 = 1#1), ∀ a, (k12_off14 arg10_r0) a + S1.size a ≤ S2.size a) ∧
  (∀ (k12_h7 : k12_cond7 i k12_t1 arg12_r0 = 1#1), ∀ a, (k12_off15 arg11_r0) a + S1x256x128.size a ≤ S2x256x128.size a) ∧
  (∀ (k12_h7 : k12_cond7 i k12_t1 arg12_r0 = 1#1), ∀ a, (k12_off16 i arg12_r0) a + S256x128.size a ≤ S393216x128.size a) ∧
  (∀ (k12_h7 : k12_cond7 i k12_t1 arg12_r0 = 1#1), ∀ a, (k12_off17 arg11_r0) a + S1.size a ≤ S2.size a)
theorem k12_off4_inb : ∀ (i : grid12.Coords) (k12_t1 : Fin k12_t1_loop.trips) (arg8_r0 : BitVec 32) (arg9_r0 : BitVec 32) (arg10_r0 : BitVec 32) (arg11_r0 : BitVec 32) (arg12_r0 : BitVec 32) (k12_hw1 : k12_chk1 i k12_t1 arg8_r0 arg9_r0 arg10_r0 arg11_r0 arg12_r0), ∀ (k12_h1 : k12_cond1 i k12_t1 arg12_r0 = 1#1), ∀ a, (k12_off4 arg8_r0) a + S1x1x256.size a ≤ S2x1x256.size a := fun i k12_t1 arg8_r0 arg9_r0 arg10_r0 arg11_r0 arg12_r0 k12_hw1 k12_h1 => k12_hw1.1 k12_h1
theorem k12_off5_inb : ∀ (i : grid12.Coords) (k12_t1 : Fin k12_t1_loop.trips) (arg8_r0 : BitVec 32) (arg9_r0 : BitVec 32) (arg10_r0 : BitVec 32) (arg11_r0 : BitVec 32) (arg12_r0 : BitVec 32) (k12_hw1 : k12_chk1 i k12_t1 arg8_r0 arg9_r0 arg10_r0 arg11_r0 arg12_r0), ∀ (k12_h1 : k12_cond1 i k12_t1 arg12_r0 = 1#1), ∀ a, (k12_off5 i arg12_r0) a + S1x256.size a ≤ S3x1048576.size a := fun i k12_t1 arg8_r0 arg9_r0 arg10_r0 arg11_r0 arg12_r0 k12_hw1 k12_h1 => k12_hw1.2.1 k12_h1
theorem k12_off6_inb : ∀ (i : grid12.Coords) (k12_t1 : Fin k12_t1_loop.trips) (arg8_r0 : BitVec 32) (arg9_r0 : BitVec 32) (arg10_r0 : BitVec 32) (arg11_r0 : BitVec 32) (arg12_r0 : BitVec 32) (k12_hw1 : k12_chk1 i k12_t1 arg8_r0 arg9_r0 arg10_r0 arg11_r0 arg12_r0), ∀ (k12_h1 : k12_cond1 i k12_t1 arg12_r0 = 1#1), ∀ a, (k12_off6 arg8_r0) a + S1.size a ≤ S2.size a := fun i k12_t1 arg8_r0 arg9_r0 arg10_r0 arg11_r0 arg12_r0 k12_hw1 k12_h1 => k12_hw1.2.2.1 k12_h1
theorem k12_off7_inb : ∀ (i : grid12.Coords) (k12_t1 : Fin k12_t1_loop.trips) (arg8_r0 : BitVec 32) (arg9_r0 : BitVec 32) (arg10_r0 : BitVec 32) (arg11_r0 : BitVec 32) (arg12_r0 : BitVec 32) (k12_hw1 : k12_chk1 i k12_t1 arg8_r0 arg9_r0 arg10_r0 arg11_r0 arg12_r0), ∀ (k12_h2 : k12_cond2 i k12_t1 arg12_r0 = 1#1), ∀ a, (k12_off7 arg9_r0) a + S1x1x256.size a ≤ S2x1x256.size a := fun i k12_t1 arg8_r0 arg9_r0 arg10_r0 arg11_r0 arg12_r0 k12_hw1 k12_h2 => k12_hw1.2.2.2.1 k12_h2
theorem k12_off8_inb : ∀ (i : grid12.Coords) (k12_t1 : Fin k12_t1_loop.trips) (arg8_r0 : BitVec 32) (arg9_r0 : BitVec 32) (arg10_r0 : BitVec 32) (arg11_r0 : BitVec 32) (arg12_r0 : BitVec 32) (k12_hw1 : k12_chk1 i k12_t1 arg8_r0 arg9_r0 arg10_r0 arg11_r0 arg12_r0), ∀ (k12_h2 : k12_cond2 i k12_t1 arg12_r0 = 1#1), ∀ a, (k12_off8 i arg12_r0) a + S1x256.size a ≤ S3x1048576.size a := fun i k12_t1 arg8_r0 arg9_r0 arg10_r0 arg11_r0 arg12_r0 k12_hw1 k12_h2 => k12_hw1.2.2.2.2.1 k12_h2
theorem k12_off9_inb : ∀ (i : grid12.Coords) (k12_t1 : Fin k12_t1_loop.trips) (arg8_r0 : BitVec 32) (arg9_r0 : BitVec 32) (arg10_r0 : BitVec 32) (arg11_r0 : BitVec 32) (arg12_r0 : BitVec 32) (k12_hw1 : k12_chk1 i k12_t1 arg8_r0 arg9_r0 arg10_r0 arg11_r0 arg12_r0), ∀ (k12_h2 : k12_cond2 i k12_t1 arg12_r0 = 1#1), ∀ a, (k12_off9 arg9_r0) a + S1.size a ≤ S2.size a := fun i k12_t1 arg8_r0 arg9_r0 arg10_r0 arg11_r0 arg12_r0 k12_hw1 k12_h2 => k12_hw1.2.2.2.2.2.1 k12_h2
theorem k12_off12_inb : ∀ (i : grid12.Coords) (k12_t1 : Fin k12_t1_loop.trips) (arg8_r0 : BitVec 32) (arg9_r0 : BitVec 32) (arg10_r0 : BitVec 32) (arg11_r0 : BitVec 32) (arg12_r0 : BitVec 32) (k12_hw1 : k12_chk1 i k12_t1 arg8_r0 arg9_r0 arg10_r0 arg11_r0 arg12_r0), ∀ (k12_h5 : k12_cond5 i k12_t1 arg12_r0 = 1#1), ∀ a, (k12_off12 arg10_r0) a + S1x256x128.size a ≤ S2x256x128.size a := fun i k12_t1 arg8_r0 arg9_r0 arg10_r0 arg11_r0 arg12_r0 k12_hw1 k12_h5 => k12_hw1.2.2.2.2.2.2.1 k12_h5
theorem k12_off13_inb : ∀ (i : grid12.Coords) (k12_t1 : Fin k12_t1_loop.trips) (arg8_r0 : BitVec 32) (arg9_r0 : BitVec 32) (arg10_r0 : BitVec 32) (arg11_r0 : BitVec 32) (arg12_r0 : BitVec 32) (k12_hw1 : k12_chk1 i k12_t1 arg8_r0 arg9_r0 arg10_r0 arg11_r0 arg12_r0), ∀ (k12_h5 : k12_cond5 i k12_t1 arg12_r0 = 1#1), ∀ a, (k12_off13 i arg12_r0) a + S256x128.size a ≤ S393216x128.size a := fun i k12_t1 arg8_r0 arg9_r0 arg10_r0 arg11_r0 arg12_r0 k12_hw1 k12_h5 => k12_hw1.2.2.2.2.2.2.2.1 k12_h5
theorem k12_off14_inb : ∀ (i : grid12.Coords) (k12_t1 : Fin k12_t1_loop.trips) (arg8_r0 : BitVec 32) (arg9_r0 : BitVec 32) (arg10_r0 : BitVec 32) (arg11_r0 : BitVec 32) (arg12_r0 : BitVec 32) (k12_hw1 : k12_chk1 i k12_t1 arg8_r0 arg9_r0 arg10_r0 arg11_r0 arg12_r0), ∀ (k12_h5 : k12_cond5 i k12_t1 arg12_r0 = 1#1), ∀ a, (k12_off14 arg10_r0) a + S1.size a ≤ S2.size a := fun i k12_t1 arg8_r0 arg9_r0 arg10_r0 arg11_r0 arg12_r0 k12_hw1 k12_h5 => k12_hw1.2.2.2.2.2.2.2.2.1 k12_h5
theorem k12_off15_inb : ∀ (i : grid12.Coords) (k12_t1 : Fin k12_t1_loop.trips) (arg8_r0 : BitVec 32) (arg9_r0 : BitVec 32) (arg10_r0 : BitVec 32) (arg11_r0 : BitVec 32) (arg12_r0 : BitVec 32) (k12_hw1 : k12_chk1 i k12_t1 arg8_r0 arg9_r0 arg10_r0 arg11_r0 arg12_r0), ∀ (k12_h7 : k12_cond7 i k12_t1 arg12_r0 = 1#1), ∀ a, (k12_off15 arg11_r0) a + S1x256x128.size a ≤ S2x256x128.size a := fun i k12_t1 arg8_r0 arg9_r0 arg10_r0 arg11_r0 arg12_r0 k12_hw1 k12_h7 => k12_hw1.2.2.2.2.2.2.2.2.2.1 k12_h7
theorem k12_off16_inb : ∀ (i : grid12.Coords) (k12_t1 : Fin k12_t1_loop.trips) (arg8_r0 : BitVec 32) (arg9_r0 : BitVec 32) (arg10_r0 : BitVec 32) (arg11_r0 : BitVec 32) (arg12_r0 : BitVec 32) (k12_hw1 : k12_chk1 i k12_t1 arg8_r0 arg9_r0 arg10_r0 arg11_r0 arg12_r0), ∀ (k12_h7 : k12_cond7 i k12_t1 arg12_r0 = 1#1), ∀ a, (k12_off16 i arg12_r0) a + S256x128.size a ≤ S393216x128.size a := fun i k12_t1 arg8_r0 arg9_r0 arg10_r0 arg11_r0 arg12_r0 k12_hw1 k12_h7 => k12_hw1.2.2.2.2.2.2.2.2.2.2.1 k12_h7
theorem k12_off17_inb : ∀ (i : grid12.Coords) (k12_t1 : Fin k12_t1_loop.trips) (arg8_r0 : BitVec 32) (arg9_r0 : BitVec 32) (arg10_r0 : BitVec 32) (arg11_r0 : BitVec 32) (arg12_r0 : BitVec 32) (k12_hw1 : k12_chk1 i k12_t1 arg8_r0 arg9_r0 arg10_r0 arg11_r0 arg12_r0), ∀ (k12_h7 : k12_cond7 i k12_t1 arg12_r0 = 1#1), ∀ a, (k12_off17 arg11_r0) a + S1.size a ≤ S2.size a := fun i k12_t1 arg8_r0 arg9_r0 arg10_r0 arg11_r0 arg12_r0 k12_hw1 k12_h7 => k12_hw1.2.2.2.2.2.2.2.2.2.2.2 k12_h7

def k12_off18 (v44_3_r0 : BitVec 32) : Fin 3 → Nat :=
  let c2_i32_55_r0 : BitVec 32 := 2#32
  let v65_r0 : BitVec 32 := Scalar.remui v44_3_r0 c2_i32_55_r0
  let c0_i32_58_r0 : BitVec 32 := 0#32
  let c0_i32_59_r0 : BitVec 32 := 0#32
  ![v65_r0.toNat, 0, 0]

def k12_off19 (i : grid12.Coords) (v44_4_r0 : BitVec 32) : Fin 2 → Nat :=
  let c256_i32_57_r0 : BitVec 32 := 256#32
  let c0_i32_56_r0 : BitVec 32 := 0#32
  let true_40_r0 : BitVec 1 := 1#1
  let c1_i32_39_r0 : BitVec 32 := 1#32
  let v45_r0 : BitVec 32 := Scalar.subi v44_4_r0 c1_i32_39_r0
  let v46_r0 : BitVec 32 := Scalar.select true_40_r0 v45_r0 v44_4_r0
  let c_m1_i32_41_r0 : BitVec 32 := 4294967295#32
  let v47_r0 : BitVec 1 := Scalar.cmpi .eq v46_r0 c_m1_i32_41_r0
  let c15_i32_42_r0 : BitVec 32 := 15#32
  let v48_r0 : BitVec 32 := Scalar.select v47_r0 c15_i32_42_r0 v46_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v49_r0 : BitVec 32 := Scalar.addi v48_r0 v4
  let v66_r0 : BitVec 32 := Scalar.addi c0_i32_56_r0 v49_r0
  let v67_r0 : BitVec 32 := Scalar.muli c256_i32_57_r0 v66_r0
  let c0_i32_60_r0 : BitVec 32 := 0#32
  ![v67_r0.toNat, 0]

def k12_chk5 (i : grid12.Coords) (v44_4_r0 : BitVec 32) : Prop :=
  (∀ a, (k12_off19 i v44_4_r0) a + S256x128.size a ≤ S393216x128.size a)
theorem k12_off19_inb : ∀ (i : grid12.Coords) (v44_4_r0 : BitVec 32) (k12_hw5 : k12_chk5 i v44_4_r0), ∀ a, (k12_off19 i v44_4_r0) a + S256x128.size a ≤ S393216x128.size a := fun i v44_4_r0 k12_hw5 => k12_hw5

def k12_off20 (v44_3_r0 : BitVec 32) : Fin 1 → Nat :=
  let c2_i32_55_r0 : BitVec 32 := 2#32
  let v65_r0 : BitVec 32 := Scalar.remui v44_3_r0 c2_i32_55_r0
  ![v65_r0.toNat]
def k12_off21 (v44_3_r0 : BitVec 32) : Fin 3 → Nat :=
  let c2_i32_55_r0 : BitVec 32 := 2#32
  let v65_r0 : BitVec 32 := Scalar.remui v44_3_r0 c2_i32_55_r0
  let c0_i32_62_r0 : BitVec 32 := 0#32
  let c0_i32_63_r0 : BitVec 32 := 0#32
  ![v65_r0.toNat, 0, 0]

def k12_chk4 (v44_3_r0 : BitVec 32) : Prop :=
  (∀ a, (k12_off18 v44_3_r0) a + S1x256x128.size a ≤ S2x256x128.size a) ∧
  (∀ a, (k12_off20 v44_3_r0) a + S1.size a ≤ S2.size a) ∧
  (∀ a, (k12_off21 v44_3_r0) a + S1x256x128.size a ≤ S2x256x128.size a)
theorem k12_off18_inb : ∀ (v44_3_r0 : BitVec 32) (k12_hw4 : k12_chk4 v44_3_r0), ∀ a, (k12_off18 v44_3_r0) a + S1x256x128.size a ≤ S2x256x128.size a := fun v44_3_r0 k12_hw4 => k12_hw4.1
theorem k12_off20_inb : ∀ (v44_3_r0 : BitVec 32) (k12_hw4 : k12_chk4 v44_3_r0), ∀ a, (k12_off20 v44_3_r0) a + S1.size a ≤ S2.size a := fun v44_3_r0 k12_hw4 => k12_hw4.2.1
theorem k12_off21_inb : ∀ (v44_3_r0 : BitVec 32) (k12_hw4 : k12_chk4 v44_3_r0), ∀ a, (k12_off21 v44_3_r0) a + S1x256x128.size a ≤ S2x256x128.size a := fun v44_3_r0 k12_hw4 => k12_hw4.2.2

def k12_off22 : Fin 3 → Nat :=
  let c0_i32_22_r2 : BitVec 32 := 0#32
  let c2_i32_r2 : BitVec 32 := 2#32
  let v31_r2 : BitVec 32 := Scalar.remui c0_i32_22_r2 c2_i32_r2
  let c0_i32_23_r2 : BitVec 32 := 0#32
  let c0_i32_24_r2 : BitVec 32 := 0#32
  ![v31_r2.toNat, 0, 0]
def k12_off23 (i : grid12.Coords) : Fin 2 → Nat :=
  let c1_i32_25_r2 : BitVec 32 := 1#32
  let c256_i32_r2 : BitVec 32 := 256#32
  let c3072_i32_r2 : BitVec 32 := 3072#32
  let c0_i32_10_r2 : BitVec 32 := 0#32
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v17_r2 : BitVec 32 := Scalar.addi c0_i32_10_r2 v9
  let v32_r2 : BitVec 32 := Scalar.addi c3072_i32_r2 v17_r2
  let v33_r2 : BitVec 32 := Scalar.muli c256_i32_r2 v32_r2
  ![1, v33_r2.toNat]
def k12_off24 : Fin 1 → Nat :=
  let c0_i32_22_r2 : BitVec 32 := 0#32
  let c2_i32_r2 : BitVec 32 := 2#32
  let v31_r2 : BitVec 32 := Scalar.remui c0_i32_22_r2 c2_i32_r2
  ![v31_r2.toNat]
@[reducible] def k12_t2_loop : Scf.Loop 32 :=
  let c0_i32_35_r2 : BitVec 32 := 0#32
  let c16_i32_36_r2 : BitVec 32 := 16#32
  let v43_r2 : BitVec 32 := Scalar.addi c0_i32_35_r2 c16_i32_36_r2
  let c1_i32_37_r2 : BitVec 32 := 1#32
  ⟨c0_i32_35_r2, v43_r2, c1_i32_37_r2⟩
def k12_off25 (arg8_r2 : BitVec 32) : Fin 3 → Nat :=
  let c2_i32_114_r2 : BitVec 32 := 2#32
  let v162_r2 : BitVec 32 := Scalar.remui arg8_r2 c2_i32_114_r2
  let c0_i32_117_r2 : BitVec 32 := 0#32
  let c0_i32_118_r2 : BitVec 32 := 0#32
  ![v162_r2.toNat, 0, 0]
def k12_cond8 (i : grid12.Coords) (k12_t2 : Fin k12_t2_loop.trips) (arg12_r2 : BitVec 32) : BitVec 1 :=
  let c3072_i32_77_r2 : BitVec 32 := 3072#32
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v78_r2 : BitVec 32 := Scalar.addi arg12_r2 v9
  let v94_r2 : BitVec 32 := Scalar.addi c3072_i32_77_r2 v78_r2
  let c3072_i32_78_r2 : BitVec 32 := 3072#32
  let true_70_r2 : BitVec 1 := 1#1
  let c1_i32_69_r2 : BitVec 32 := 1#32
  let v84_r2 : BitVec 32 := Scalar.addi arg12_r2 c1_i32_69_r2
  let v85_r2 : BitVec 32 := Scalar.select true_70_r2 v84_r2 arg12_r2
  let c16_i32_71_r2 : BitVec 32 := 16#32
  let v86_r2 : BitVec 1 := Scalar.cmpi .eq v85_r2 c16_i32_71_r2
  let c0_i32_72_r2 : BitVec 32 := 0#32
  let v87_r2 : BitVec 32 := Scalar.select v86_r2 c0_i32_72_r2 v85_r2
  let v88_r2 : BitVec 32 := Scalar.addi v87_r2 v9
  let v95_r2 : BitVec 32 := Scalar.addi c3072_i32_78_r2 v88_r2
  let v96_r2 : BitVec 1 := Scalar.cmpi .ne v94_r2 v95_r2
  let c0_i32_35_r2 : BitVec 32 := 0#32
  let c1_i32_37_r2 : BitVec 32 := 1#32
  let arg7_r2 : BitVec 32 := Scf.iv c0_i32_35_r2 c1_i32_37_r2 k12_t2
  let c15_i32_79_r2 : BitVec 32 := 15#32
  let v97_r2 : BitVec 1 := Scalar.cmpi .sge arg7_r2 c15_i32_79_r2
  let true_80_r2 : BitVec 1 := 1#1
  let v98_r2 : BitVec 1 := Scalar.xori v97_r2 true_80_r2
  let v99_r2 : BitVec 1 := Scalar.andi v96_r2 v98_r2
  let true_81_r2 : BitVec 1 := 1#1
  let v100_r2 : BitVec 1 := Scalar.andi v99_r2 true_81_r2
  let v101_r2 : BitVec 32 := Scalar.extui v100_r2
  let c0_i32_82_r2 : BitVec 32 := 0#32
  let v102_r2 : BitVec 1 := Scalar.cmpi .ne v101_r2 c0_i32_82_r2
  v102_r2

def k12_off26 (i : grid12.Coords) (arg12_r2 : BitVec 32) : Fin 2 → Nat :=
  let c1_i32_119_r2 : BitVec 32 := 1#32
  let c256_i32_116_r2 : BitVec 32 := 256#32
  let c3072_i32_115_r2 : BitVec 32 := 3072#32
  let true_70_r2 : BitVec 1 := 1#1
  let c1_i32_69_r2 : BitVec 32 := 1#32
  let v84_r2 : BitVec 32 := Scalar.addi arg12_r2 c1_i32_69_r2
  let v85_r2 : BitVec 32 := Scalar.select true_70_r2 v84_r2 arg12_r2
  let c16_i32_71_r2 : BitVec 32 := 16#32
  let v86_r2 : BitVec 1 := Scalar.cmpi .eq v85_r2 c16_i32_71_r2
  let c0_i32_72_r2 : BitVec 32 := 0#32
  let v87_r2 : BitVec 32 := Scalar.select v86_r2 c0_i32_72_r2 v85_r2
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v88_r2 : BitVec 32 := Scalar.addi v87_r2 v9
  let v163_r2 : BitVec 32 := Scalar.addi c3072_i32_115_r2 v88_r2
  let v164_r2 : BitVec 32 := Scalar.muli c256_i32_116_r2 v163_r2
  ![1, v164_r2.toNat]
def k12_off27 (arg8_r2 : BitVec 32) : Fin 1 → Nat :=
  let c2_i32_114_r2 : BitVec 32 := 2#32
  let v162_r2 : BitVec 32 := Scalar.remui arg8_r2 c2_i32_114_r2
  ![v162_r2.toNat]
def k12_off28 (arg9_r2 : BitVec 32) : Fin 3 → Nat :=
  let c2_i32_116_r2 : BitVec 32 := 2#32
  let v164_r2 : BitVec 32 := Scalar.remui arg9_r2 c2_i32_116_r2
  let c0_i32_117_r2 : BitVec 32 := 0#32
  let c0_i32_118_r2 : BitVec 32 := 0#32
  ![v164_r2.toNat, 0, 0]
def k12_cond9 (i : grid12.Coords) (k12_t2 : Fin k12_t2_loop.trips) (arg12_r2 : BitVec 32) : BitVec 1 :=
  let c3072_i32_77_r2 : BitVec 32 := 3072#32
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v78_r2 : BitVec 32 := Scalar.addi arg12_r2 v9
  let v94_r2 : BitVec 32 := Scalar.addi c3072_i32_77_r2 v78_r2
  let c3072_i32_89_r2 : BitVec 32 := 3072#32
  let true_66_r2 : BitVec 1 := 1#1
  let c1_i32_65_r2 : BitVec 32 := 1#32
  let v79_r2 : BitVec 32 := Scalar.subi arg12_r2 c1_i32_65_r2
  let v80_r2 : BitVec 32 := Scalar.select true_66_r2 v79_r2 arg12_r2
  let c_m1_i32_67_r2 : BitVec 32 := 4294967295#32
  let v81_r2 : BitVec 1 := Scalar.cmpi .eq v80_r2 c_m1_i32_67_r2
  let c15_i32_68_r2 : BitVec 32 := 15#32
  let v82_r2 : BitVec 32 := Scalar.select v81_r2 c15_i32_68_r2 v80_r2
  let v83_r2 : BitVec 32 := Scalar.addi v82_r2 v9
  let v112_r2 : BitVec 32 := Scalar.addi c3072_i32_89_r2 v83_r2
  let v113_r2 : BitVec 1 := Scalar.cmpi .ne v94_r2 v112_r2
  let c0_i32_35_r2 : BitVec 32 := 0#32
  let c1_i32_37_r2 : BitVec 32 := 1#32
  let arg7_r2 : BitVec 32 := Scf.iv c0_i32_35_r2 c1_i32_37_r2 k12_t2
  let c0_i32_63_r2 : BitVec 32 := 0#32
  let v76_r2 : BitVec 1 := Scalar.cmpi .eq arg7_r2 c0_i32_63_r2
  let v114_r2 : BitVec 1 := Scalar.ori v113_r2 v76_r2
  let c0_i32_90_r2 : BitVec 32 := 0#32
  let v115_r2 : BitVec 1 := Scalar.cmpi .sge arg7_r2 c0_i32_90_r2
  let v116_r2 : BitVec 1 := Scalar.andi v114_r2 v115_r2
  let v117_r2 : BitVec 32 := Scalar.extui v116_r2
  let c0_i32_91_r2 : BitVec 32 := 0#32
  let v118_r2 : BitVec 1 := Scalar.cmpi .ne v117_r2 c0_i32_91_r2
  v118_r2

def k12_off29 (i : grid12.Coords) (arg12_r2 : BitVec 32) : Fin 2 → Nat :=
  let c1_i32_119_r2 : BitVec 32 := 1#32
  let c256_i32_115_r2 : BitVec 32 := 256#32
  let c3072_i32_114_r2 : BitVec 32 := 3072#32
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v78_r2 : BitVec 32 := Scalar.addi arg12_r2 v9
  let v162_r2 : BitVec 32 := Scalar.addi c3072_i32_114_r2 v78_r2
  let v163_r2 : BitVec 32 := Scalar.muli c256_i32_115_r2 v162_r2
  ![1, v163_r2.toNat]
def k12_off30 (arg9_r2 : BitVec 32) : Fin 1 → Nat :=
  let c2_i32_116_r2 : BitVec 32 := 2#32
  let v164_r2 : BitVec 32 := Scalar.remui arg9_r2 c2_i32_116_r2
  ![v164_r2.toNat]
def k12_off31 (arg10_r2 : BitVec 32) : Fin 3 → Nat :=
  let c2_i32_96_r2 : BitVec 32 := 2#32
  let v127_r2 : BitVec 32 := Scalar.remui arg10_r2 c2_i32_96_r2
  let c0_i32_114_r3 : BitVec 32 := 0#32
  let c0_i32_115_r3 : BitVec 32 := 0#32
  ![v127_r2.toNat, 0, 0]

def k12_chk7 (arg10_r2 : BitVec 32) : Prop :=
  (∀ a, (k12_off31 arg10_r2) a + S1x256x128.size a ≤ S2x256x128.size a)
theorem k12_off31_inb : ∀ (arg10_r2 : BitVec 32) (k12_hw7 : k12_chk7 arg10_r2), ∀ a, (k12_off31 arg10_r2) a + S1x256x128.size a ≤ S2x256x128.size a := fun arg10_r2 k12_hw7 => k12_hw7

def k12_off32 (arg9_r2 : BitVec 32) : Fin 3 → Nat :=
  let c2_i32_95_r2 : BitVec 32 := 2#32
  let v126_r2 : BitVec 32 := Scalar.remui arg9_r2 c2_i32_95_r2
  let c0_i32_116_r3 : BitVec 32 := 0#32
  let c0_i32_117_r3 : BitVec 32 := 0#32
  ![v126_r2.toNat, 0, 0]

def k12_chk8 (arg9_r2 : BitVec 32) : Prop :=
  (∀ a, (k12_off32 arg9_r2) a + S1x1x256.size a ≤ S2x1x256.size a)
theorem k12_off32_inb : ∀ (arg9_r2 : BitVec 32) (k12_hw8 : k12_chk8 arg9_r2), ∀ a, (k12_off32 arg9_r2) a + S1x1x256.size a ≤ S2x1x256.size a := fun arg9_r2 k12_hw8 => k12_hw8

def k12_off33 (arg10_r2 : BitVec 32) : Fin 3 → Nat :=
  let c2_i32_114_r2 : BitVec 32 := 2#32
  let v162_r2 : BitVec 32 := Scalar.remui arg10_r2 c2_i32_114_r2
  let c0_i32_117_r2 : BitVec 32 := 0#32
  let c0_i32_118_r2 : BitVec 32 := 0#32
  ![v162_r2.toNat, 0, 0]
def k12_cond12 (i : grid12.Coords) (k12_t2 : Fin k12_t2_loop.trips) (arg12_r2 : BitVec 32) : BitVec 1 :=
  let c512_i32_85_r2 : BitVec 32 := 512#32
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v78_r2 : BitVec 32 := Scalar.addi arg12_r2 v9
  let v106_r2 : BitVec 32 := Scalar.addi c512_i32_85_r2 v78_r2
  let c512_i32_86_r2 : BitVec 32 := 512#32
  let true_70_r2 : BitVec 1 := 1#1
  let c1_i32_69_r2 : BitVec 32 := 1#32
  let v84_r2 : BitVec 32 := Scalar.addi arg12_r2 c1_i32_69_r2
  let v85_r2 : BitVec 32 := Scalar.select true_70_r2 v84_r2 arg12_r2
  let c16_i32_71_r2 : BitVec 32 := 16#32
  let v86_r2 : BitVec 1 := Scalar.cmpi .eq v85_r2 c16_i32_71_r2
  let c0_i32_72_r2 : BitVec 32 := 0#32
  let v87_r2 : BitVec 32 := Scalar.select v86_r2 c0_i32_72_r2 v85_r2
  let v88_r2 : BitVec 32 := Scalar.addi v87_r2 v9
  let v107_r2 : BitVec 32 := Scalar.addi c512_i32_86_r2 v88_r2
  let v133_r2 : BitVec 1 := Scalar.cmpi .ne v106_r2 v107_r2
  let c0_i32_35_r2 : BitVec 32 := 0#32
  let c1_i32_37_r2 : BitVec 32 := 1#32
  let arg7_r2 : BitVec 32 := Scf.iv c0_i32_35_r2 c1_i32_37_r2 k12_t2
  let c15_i32_64_r2 : BitVec 32 := 15#32
  let v77_r2 : BitVec 1 := Scalar.cmpi .eq arg7_r2 c15_i32_64_r2
  let v134_r2 : BitVec 1 := Scalar.ori v133_r2 v77_r2
  let v135_r2 : BitVec 32 := Scalar.extui v134_r2
  let c0_i32_99_r2 : BitVec 32 := 0#32
  let v136_r2 : BitVec 1 := Scalar.cmpi .ne v135_r2 c0_i32_99_r2
  v136_r2

def k12_off34 (i : grid12.Coords) (arg12_r2 : BitVec 32) : Fin 2 → Nat :=
  let c256_i32_116_r2 : BitVec 32 := 256#32
  let c512_i32_115_r2 : BitVec 32 := 512#32
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v78_r2 : BitVec 32 := Scalar.addi arg12_r2 v9
  let v163_r2 : BitVec 32 := Scalar.addi c512_i32_115_r2 v78_r2
  let v164_r2 : BitVec 32 := Scalar.muli c256_i32_116_r2 v163_r2
  let c0_i32_119_r2 : BitVec 32 := 0#32
  ![v164_r2.toNat, 0]
def k12_off35 (arg10_r2 : BitVec 32) : Fin 1 → Nat :=
  let c2_i32_114_r2 : BitVec 32 := 2#32
  let v162_r2 : BitVec 32 := Scalar.remui arg10_r2 c2_i32_114_r2
  ![v162_r2.toNat]
def k12_off36 (arg11_r2 : BitVec 32) : Fin 3 → Nat :=
  let c2_i32_114_r2 : BitVec 32 := 2#32
  let v162_r2 : BitVec 32 := Scalar.remui arg11_r2 c2_i32_114_r2
  let c0_i32_117_r2 : BitVec 32 := 0#32
  let c0_i32_118_r2 : BitVec 32 := 0#32
  ![v162_r2.toNat, 0, 0]
def k12_cond14 (i : grid12.Coords) (k12_t2 : Fin k12_t2_loop.trips) (arg12_r2 : BitVec 32) : BitVec 1 :=
  let c512_i32_85_r2 : BitVec 32 := 512#32
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v78_r2 : BitVec 32 := Scalar.addi arg12_r2 v9
  let v106_r2 : BitVec 32 := Scalar.addi c512_i32_85_r2 v78_r2
  let c512_i32_92_r2 : BitVec 32 := 512#32
  let true_66_r2 : BitVec 1 := 1#1
  let c1_i32_65_r2 : BitVec 32 := 1#32
  let v79_r2 : BitVec 32 := Scalar.subi arg12_r2 c1_i32_65_r2
  let v80_r2 : BitVec 32 := Scalar.select true_66_r2 v79_r2 arg12_r2
  let c_m1_i32_67_r2 : BitVec 32 := 4294967295#32
  let v81_r2 : BitVec 1 := Scalar.cmpi .eq v80_r2 c_m1_i32_67_r2
  let c15_i32_68_r2 : BitVec 32 := 15#32
  let v82_r2 : BitVec 32 := Scalar.select v81_r2 c15_i32_68_r2 v80_r2
  let v83_r2 : BitVec 32 := Scalar.addi v82_r2 v9
  let v119_r2 : BitVec 32 := Scalar.addi c512_i32_92_r2 v83_r2
  let v146_r2 : BitVec 1 := Scalar.cmpi .ne v106_r2 v119_r2
  let c0_i32_35_r2 : BitVec 32 := 0#32
  let c1_i32_37_r2 : BitVec 32 := 1#32
  let arg7_r2 : BitVec 32 := Scf.iv c0_i32_35_r2 c1_i32_37_r2 k12_t2
  let c0_i32_63_r2 : BitVec 32 := 0#32
  let v76_r2 : BitVec 1 := Scalar.cmpi .eq arg7_r2 c0_i32_63_r2
  let true_105_r2 : BitVec 1 := 1#1
  let v147_r2 : BitVec 1 := Scalar.xori v76_r2 true_105_r2
  let v148_r2 : BitVec 1 := Scalar.andi v146_r2 v147_r2
  let v149_r2 : BitVec 32 := Scalar.extui v148_r2
  let c0_i32_106_r2 : BitVec 32 := 0#32
  let v150_r2 : BitVec 1 := Scalar.cmpi .ne v149_r2 c0_i32_106_r2
  v150_r2

def k12_off37 (i : grid12.Coords) (arg12_r2 : BitVec 32) : Fin 2 → Nat :=
  let c256_i32_116_r2 : BitVec 32 := 256#32
  let c512_i32_115_r2 : BitVec 32 := 512#32
  let true_66_r2 : BitVec 1 := 1#1
  let c1_i32_65_r2 : BitVec 32 := 1#32
  let v79_r2 : BitVec 32 := Scalar.subi arg12_r2 c1_i32_65_r2
  let v80_r2 : BitVec 32 := Scalar.select true_66_r2 v79_r2 arg12_r2
  let c_m1_i32_67_r2 : BitVec 32 := 4294967295#32
  let v81_r2 : BitVec 1 := Scalar.cmpi .eq v80_r2 c_m1_i32_67_r2
  let c15_i32_68_r2 : BitVec 32 := 15#32
  let v82_r2 : BitVec 32 := Scalar.select v81_r2 c15_i32_68_r2 v80_r2
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v83_r2 : BitVec 32 := Scalar.addi v82_r2 v9
  let v163_r2 : BitVec 32 := Scalar.addi c512_i32_115_r2 v83_r2
  let v164_r2 : BitVec 32 := Scalar.muli c256_i32_116_r2 v163_r2
  let c0_i32_119_r2 : BitVec 32 := 0#32
  ![v164_r2.toNat, 0]
def k12_off38 (arg11_r2 : BitVec 32) : Fin 1 → Nat :=
  let c2_i32_114_r2 : BitVec 32 := 2#32
  let v162_r2 : BitVec 32 := Scalar.remui arg11_r2 c2_i32_114_r2
  ![v162_r2.toNat]

def k12_chk6 (i : grid12.Coords) (k12_t2 : Fin k12_t2_loop.trips) (arg8_r2 : BitVec 32) (arg9_r2 : BitVec 32) (arg10_r2 : BitVec 32) (arg11_r2 : BitVec 32) (arg12_r2 : BitVec 32) : Prop :=
  (∀ (k12_h8 : k12_cond8 i k12_t2 arg12_r2 = 1#1), ∀ a, (k12_off25 arg8_r2) a + S1x1x256.size a ≤ S2x1x256.size a) ∧
  (∀ (k12_h8 : k12_cond8 i k12_t2 arg12_r2 = 1#1), ∀ a, (k12_off26 i arg12_r2) a + S1x256.size a ≤ S3x1048576.size a) ∧
  (∀ (k12_h8 : k12_cond8 i k12_t2 arg12_r2 = 1#1), ∀ a, (k12_off27 arg8_r2) a + S1.size a ≤ S2.size a) ∧
  (∀ (k12_h9 : k12_cond9 i k12_t2 arg12_r2 = 1#1), ∀ a, (k12_off28 arg9_r2) a + S1x1x256.size a ≤ S2x1x256.size a) ∧
  (∀ (k12_h9 : k12_cond9 i k12_t2 arg12_r2 = 1#1), ∀ a, (k12_off29 i arg12_r2) a + S1x256.size a ≤ S3x1048576.size a) ∧
  (∀ (k12_h9 : k12_cond9 i k12_t2 arg12_r2 = 1#1), ∀ a, (k12_off30 arg9_r2) a + S1.size a ≤ S2.size a) ∧
  (∀ (k12_h12 : k12_cond12 i k12_t2 arg12_r2 = 1#1), ∀ a, (k12_off33 arg10_r2) a + S1x256x128.size a ≤ S2x256x128.size a) ∧
  (∀ (k12_h12 : k12_cond12 i k12_t2 arg12_r2 = 1#1), ∀ a, (k12_off34 i arg12_r2) a + S256x128.size a ≤ S393216x128.size a) ∧
  (∀ (k12_h12 : k12_cond12 i k12_t2 arg12_r2 = 1#1), ∀ a, (k12_off35 arg10_r2) a + S1.size a ≤ S2.size a) ∧
  (∀ (k12_h14 : k12_cond14 i k12_t2 arg12_r2 = 1#1), ∀ a, (k12_off36 arg11_r2) a + S1x256x128.size a ≤ S2x256x128.size a) ∧
  (∀ (k12_h14 : k12_cond14 i k12_t2 arg12_r2 = 1#1), ∀ a, (k12_off37 i arg12_r2) a + S256x128.size a ≤ S393216x128.size a) ∧
  (∀ (k12_h14 : k12_cond14 i k12_t2 arg12_r2 = 1#1), ∀ a, (k12_off38 arg11_r2) a + S1.size a ≤ S2.size a)
theorem k12_off25_inb : ∀ (i : grid12.Coords) (k12_t2 : Fin k12_t2_loop.trips) (arg8_r2 : BitVec 32) (arg9_r2 : BitVec 32) (arg10_r2 : BitVec 32) (arg11_r2 : BitVec 32) (arg12_r2 : BitVec 32) (k12_hw6 : k12_chk6 i k12_t2 arg8_r2 arg9_r2 arg10_r2 arg11_r2 arg12_r2), ∀ (k12_h8 : k12_cond8 i k12_t2 arg12_r2 = 1#1), ∀ a, (k12_off25 arg8_r2) a + S1x1x256.size a ≤ S2x1x256.size a := fun i k12_t2 arg8_r2 arg9_r2 arg10_r2 arg11_r2 arg12_r2 k12_hw6 k12_h8 => k12_hw6.1 k12_h8
theorem k12_off26_inb : ∀ (i : grid12.Coords) (k12_t2 : Fin k12_t2_loop.trips) (arg8_r2 : BitVec 32) (arg9_r2 : BitVec 32) (arg10_r2 : BitVec 32) (arg11_r2 : BitVec 32) (arg12_r2 : BitVec 32) (k12_hw6 : k12_chk6 i k12_t2 arg8_r2 arg9_r2 arg10_r2 arg11_r2 arg12_r2), ∀ (k12_h8 : k12_cond8 i k12_t2 arg12_r2 = 1#1), ∀ a, (k12_off26 i arg12_r2) a + S1x256.size a ≤ S3x1048576.size a := fun i k12_t2 arg8_r2 arg9_r2 arg10_r2 arg11_r2 arg12_r2 k12_hw6 k12_h8 => k12_hw6.2.1 k12_h8
theorem k12_off27_inb : ∀ (i : grid12.Coords) (k12_t2 : Fin k12_t2_loop.trips) (arg8_r2 : BitVec 32) (arg9_r2 : BitVec 32) (arg10_r2 : BitVec 32) (arg11_r2 : BitVec 32) (arg12_r2 : BitVec 32) (k12_hw6 : k12_chk6 i k12_t2 arg8_r2 arg9_r2 arg10_r2 arg11_r2 arg12_r2), ∀ (k12_h8 : k12_cond8 i k12_t2 arg12_r2 = 1#1), ∀ a, (k12_off27 arg8_r2) a + S1.size a ≤ S2.size a := fun i k12_t2 arg8_r2 arg9_r2 arg10_r2 arg11_r2 arg12_r2 k12_hw6 k12_h8 => k12_hw6.2.2.1 k12_h8
theorem k12_off28_inb : ∀ (i : grid12.Coords) (k12_t2 : Fin k12_t2_loop.trips) (arg8_r2 : BitVec 32) (arg9_r2 : BitVec 32) (arg10_r2 : BitVec 32) (arg11_r2 : BitVec 32) (arg12_r2 : BitVec 32) (k12_hw6 : k12_chk6 i k12_t2 arg8_r2 arg9_r2 arg10_r2 arg11_r2 arg12_r2), ∀ (k12_h9 : k12_cond9 i k12_t2 arg12_r2 = 1#1), ∀ a, (k12_off28 arg9_r2) a + S1x1x256.size a ≤ S2x1x256.size a := fun i k12_t2 arg8_r2 arg9_r2 arg10_r2 arg11_r2 arg12_r2 k12_hw6 k12_h9 => k12_hw6.2.2.2.1 k12_h9
theorem k12_off29_inb : ∀ (i : grid12.Coords) (k12_t2 : Fin k12_t2_loop.trips) (arg8_r2 : BitVec 32) (arg9_r2 : BitVec 32) (arg10_r2 : BitVec 32) (arg11_r2 : BitVec 32) (arg12_r2 : BitVec 32) (k12_hw6 : k12_chk6 i k12_t2 arg8_r2 arg9_r2 arg10_r2 arg11_r2 arg12_r2), ∀ (k12_h9 : k12_cond9 i k12_t2 arg12_r2 = 1#1), ∀ a, (k12_off29 i arg12_r2) a + S1x256.size a ≤ S3x1048576.size a := fun i k12_t2 arg8_r2 arg9_r2 arg10_r2 arg11_r2 arg12_r2 k12_hw6 k12_h9 => k12_hw6.2.2.2.2.1 k12_h9
theorem k12_off30_inb : ∀ (i : grid12.Coords) (k12_t2 : Fin k12_t2_loop.trips) (arg8_r2 : BitVec 32) (arg9_r2 : BitVec 32) (arg10_r2 : BitVec 32) (arg11_r2 : BitVec 32) (arg12_r2 : BitVec 32) (k12_hw6 : k12_chk6 i k12_t2 arg8_r2 arg9_r2 arg10_r2 arg11_r2 arg12_r2), ∀ (k12_h9 : k12_cond9 i k12_t2 arg12_r2 = 1#1), ∀ a, (k12_off30 arg9_r2) a + S1.size a ≤ S2.size a := fun i k12_t2 arg8_r2 arg9_r2 arg10_r2 arg11_r2 arg12_r2 k12_hw6 k12_h9 => k12_hw6.2.2.2.2.2.1 k12_h9
theorem k12_off33_inb : ∀ (i : grid12.Coords) (k12_t2 : Fin k12_t2_loop.trips) (arg8_r2 : BitVec 32) (arg9_r2 : BitVec 32) (arg10_r2 : BitVec 32) (arg11_r2 : BitVec 32) (arg12_r2 : BitVec 32) (k12_hw6 : k12_chk6 i k12_t2 arg8_r2 arg9_r2 arg10_r2 arg11_r2 arg12_r2), ∀ (k12_h12 : k12_cond12 i k12_t2 arg12_r2 = 1#1), ∀ a, (k12_off33 arg10_r2) a + S1x256x128.size a ≤ S2x256x128.size a := fun i k12_t2 arg8_r2 arg9_r2 arg10_r2 arg11_r2 arg12_r2 k12_hw6 k12_h12 => k12_hw6.2.2.2.2.2.2.1 k12_h12
theorem k12_off34_inb : ∀ (i : grid12.Coords) (k12_t2 : Fin k12_t2_loop.trips) (arg8_r2 : BitVec 32) (arg9_r2 : BitVec 32) (arg10_r2 : BitVec 32) (arg11_r2 : BitVec 32) (arg12_r2 : BitVec 32) (k12_hw6 : k12_chk6 i k12_t2 arg8_r2 arg9_r2 arg10_r2 arg11_r2 arg12_r2), ∀ (k12_h12 : k12_cond12 i k12_t2 arg12_r2 = 1#1), ∀ a, (k12_off34 i arg12_r2) a + S256x128.size a ≤ S393216x128.size a := fun i k12_t2 arg8_r2 arg9_r2 arg10_r2 arg11_r2 arg12_r2 k12_hw6 k12_h12 => k12_hw6.2.2.2.2.2.2.2.1 k12_h12
theorem k12_off35_inb : ∀ (i : grid12.Coords) (k12_t2 : Fin k12_t2_loop.trips) (arg8_r2 : BitVec 32) (arg9_r2 : BitVec 32) (arg10_r2 : BitVec 32) (arg11_r2 : BitVec 32) (arg12_r2 : BitVec 32) (k12_hw6 : k12_chk6 i k12_t2 arg8_r2 arg9_r2 arg10_r2 arg11_r2 arg12_r2), ∀ (k12_h12 : k12_cond12 i k12_t2 arg12_r2 = 1#1), ∀ a, (k12_off35 arg10_r2) a + S1.size a ≤ S2.size a := fun i k12_t2 arg8_r2 arg9_r2 arg10_r2 arg11_r2 arg12_r2 k12_hw6 k12_h12 => k12_hw6.2.2.2.2.2.2.2.2.1 k12_h12
theorem k12_off36_inb : ∀ (i : grid12.Coords) (k12_t2 : Fin k12_t2_loop.trips) (arg8_r2 : BitVec 32) (arg9_r2 : BitVec 32) (arg10_r2 : BitVec 32) (arg11_r2 : BitVec 32) (arg12_r2 : BitVec 32) (k12_hw6 : k12_chk6 i k12_t2 arg8_r2 arg9_r2 arg10_r2 arg11_r2 arg12_r2), ∀ (k12_h14 : k12_cond14 i k12_t2 arg12_r2 = 1#1), ∀ a, (k12_off36 arg11_r2) a + S1x256x128.size a ≤ S2x256x128.size a := fun i k12_t2 arg8_r2 arg9_r2 arg10_r2 arg11_r2 arg12_r2 k12_hw6 k12_h14 => k12_hw6.2.2.2.2.2.2.2.2.2.1 k12_h14
theorem k12_off37_inb : ∀ (i : grid12.Coords) (k12_t2 : Fin k12_t2_loop.trips) (arg8_r2 : BitVec 32) (arg9_r2 : BitVec 32) (arg10_r2 : BitVec 32) (arg11_r2 : BitVec 32) (arg12_r2 : BitVec 32) (k12_hw6 : k12_chk6 i k12_t2 arg8_r2 arg9_r2 arg10_r2 arg11_r2 arg12_r2), ∀ (k12_h14 : k12_cond14 i k12_t2 arg12_r2 = 1#1), ∀ a, (k12_off37 i arg12_r2) a + S256x128.size a ≤ S393216x128.size a := fun i k12_t2 arg8_r2 arg9_r2 arg10_r2 arg11_r2 arg12_r2 k12_hw6 k12_h14 => k12_hw6.2.2.2.2.2.2.2.2.2.2.1 k12_h14
theorem k12_off38_inb : ∀ (i : grid12.Coords) (k12_t2 : Fin k12_t2_loop.trips) (arg8_r2 : BitVec 32) (arg9_r2 : BitVec 32) (arg10_r2 : BitVec 32) (arg11_r2 : BitVec 32) (arg12_r2 : BitVec 32) (k12_hw6 : k12_chk6 i k12_t2 arg8_r2 arg9_r2 arg10_r2 arg11_r2 arg12_r2), ∀ (k12_h14 : k12_cond14 i k12_t2 arg12_r2 = 1#1), ∀ a, (k12_off38 arg11_r2) a + S1.size a ≤ S2.size a := fun i k12_t2 arg8_r2 arg9_r2 arg10_r2 arg11_r2 arg12_r2 k12_hw6 k12_h14 => k12_hw6.2.2.2.2.2.2.2.2.2.2.2 k12_h14

def k12_off39 (v44_3_r2 : BitVec 32) : Fin 3 → Nat :=
  let c2_i32_55_r2 : BitVec 32 := 2#32
  let v65_r2 : BitVec 32 := Scalar.remui v44_3_r2 c2_i32_55_r2
  let c0_i32_57_r2 : BitVec 32 := 0#32
  let c0_i32_58_r2 : BitVec 32 := 0#32
  ![v65_r2.toNat, 0, 0]

def k12_off40 (i : grid12.Coords) (v44_4_r2 : BitVec 32) : Fin 2 → Nat :=
  let c256_i32_56_r2 : BitVec 32 := 256#32
  let c512_i32_r2 : BitVec 32 := 512#32
  let true_40_r2 : BitVec 1 := 1#1
  let c1_i32_39_r2 : BitVec 32 := 1#32
  let v45_r2 : BitVec 32 := Scalar.subi v44_4_r2 c1_i32_39_r2
  let v46_r2 : BitVec 32 := Scalar.select true_40_r2 v45_r2 v44_4_r2
  let c_m1_i32_41_r2 : BitVec 32 := 4294967295#32
  let v47_r2 : BitVec 1 := Scalar.cmpi .eq v46_r2 c_m1_i32_41_r2
  let c15_i32_42_r2 : BitVec 32 := 15#32
  let v48_r2 : BitVec 32 := Scalar.select v47_r2 c15_i32_42_r2 v46_r2
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v49_r2 : BitVec 32 := Scalar.addi v48_r2 v9
  let v66_r2 : BitVec 32 := Scalar.addi c512_i32_r2 v49_r2
  let v67_r2 : BitVec 32 := Scalar.muli c256_i32_56_r2 v66_r2
  let c0_i32_59_r2 : BitVec 32 := 0#32
  ![v67_r2.toNat, 0]

def k12_chk10 (i : grid12.Coords) (v44_4_r2 : BitVec 32) : Prop :=
  (∀ a, (k12_off40 i v44_4_r2) a + S256x128.size a ≤ S393216x128.size a)
theorem k12_off40_inb : ∀ (i : grid12.Coords) (v44_4_r2 : BitVec 32) (k12_hw10 : k12_chk10 i v44_4_r2), ∀ a, (k12_off40 i v44_4_r2) a + S256x128.size a ≤ S393216x128.size a := fun i v44_4_r2 k12_hw10 => k12_hw10

def k12_off41 (v44_3_r2 : BitVec 32) : Fin 1 → Nat :=
  let c2_i32_55_r2 : BitVec 32 := 2#32
  let v65_r2 : BitVec 32 := Scalar.remui v44_3_r2 c2_i32_55_r2
  ![v65_r2.toNat]
def k12_off42 (v44_3_r2 : BitVec 32) : Fin 3 → Nat :=
  let c2_i32_55_r2 : BitVec 32 := 2#32
  let v65_r2 : BitVec 32 := Scalar.remui v44_3_r2 c2_i32_55_r2
  let c0_i32_61_r2 : BitVec 32 := 0#32
  let c0_i32_62_r2 : BitVec 32 := 0#32
  ![v65_r2.toNat, 0, 0]

def k12_chk9 (v44_3_r2 : BitVec 32) : Prop :=
  (∀ a, (k12_off39 v44_3_r2) a + S1x256x128.size a ≤ S2x256x128.size a) ∧
  (∀ a, (k12_off41 v44_3_r2) a + S1.size a ≤ S2.size a) ∧
  (∀ a, (k12_off42 v44_3_r2) a + S1x256x128.size a ≤ S2x256x128.size a)
theorem k12_off39_inb : ∀ (v44_3_r2 : BitVec 32) (k12_hw9 : k12_chk9 v44_3_r2), ∀ a, (k12_off39 v44_3_r2) a + S1x256x128.size a ≤ S2x256x128.size a := fun v44_3_r2 k12_hw9 => k12_hw9.1
theorem k12_off41_inb : ∀ (v44_3_r2 : BitVec 32) (k12_hw9 : k12_chk9 v44_3_r2), ∀ a, (k12_off41 v44_3_r2) a + S1.size a ≤ S2.size a := fun v44_3_r2 k12_hw9 => k12_hw9.2.1
theorem k12_off42_inb : ∀ (v44_3_r2 : BitVec 32) (k12_hw9 : k12_chk9 v44_3_r2), ∀ a, (k12_off42 v44_3_r2) a + S1x256x128.size a ≤ S2x256x128.size a := fun v44_3_r2 k12_hw9 => k12_hw9.2.2

def k12_off43 : Fin 3 → Nat :=
  let c0_i32_22_r4 : BitVec 32 := 0#32
  let c2_i32_r4 : BitVec 32 := 2#32
  let v31_r4 : BitVec 32 := Scalar.remui c0_i32_22_r4 c2_i32_r4
  let c0_i32_23_r4 : BitVec 32 := 0#32
  let c0_i32_24_r4 : BitVec 32 := 0#32
  ![v31_r4.toNat, 0, 0]
def k12_off44 (i : grid12.Coords) : Fin 2 → Nat :=
  let c2_i32_25_r4 : BitVec 32 := 2#32
  let c256_i32_r4 : BitVec 32 := 256#32
  let c3072_i32_r4 : BitVec 32 := 3072#32
  let c0_i32_10_r4 : BitVec 32 := 0#32
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v17_r4 : BitVec 32 := Scalar.addi c0_i32_10_r4 v14
  let v32_r4 : BitVec 32 := Scalar.addi c3072_i32_r4 v17_r4
  let v33_r4 : BitVec 32 := Scalar.muli c256_i32_r4 v32_r4
  ![2, v33_r4.toNat]
def k12_off45 : Fin 1 → Nat :=
  let c0_i32_22_r4 : BitVec 32 := 0#32
  let c2_i32_r4 : BitVec 32 := 2#32
  let v31_r4 : BitVec 32 := Scalar.remui c0_i32_22_r4 c2_i32_r4
  ![v31_r4.toNat]
@[reducible] def k12_t3_loop : Scf.Loop 32 :=
  let c0_i32_35_r4 : BitVec 32 := 0#32
  let c16_i32_36_r4 : BitVec 32 := 16#32
  let v43_r4 : BitVec 32 := Scalar.addi c0_i32_35_r4 c16_i32_36_r4
  let c1_i32_37_r4 : BitVec 32 := 1#32
  ⟨c0_i32_35_r4, v43_r4, c1_i32_37_r4⟩
def k12_off46 (arg8_r4 : BitVec 32) : Fin 3 → Nat :=
  let c2_i32_114_r4 : BitVec 32 := 2#32
  let v162_r4 : BitVec 32 := Scalar.remui arg8_r4 c2_i32_114_r4
  let c0_i32_117_r4 : BitVec 32 := 0#32
  let c0_i32_118_r4 : BitVec 32 := 0#32
  ![v162_r4.toNat, 0, 0]
def k12_cond15 (i : grid12.Coords) (k12_t3 : Fin k12_t3_loop.trips) (arg12_r4 : BitVec 32) : BitVec 1 :=
  let c3072_i32_77_r4 : BitVec 32 := 3072#32
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v78_r4 : BitVec 32 := Scalar.addi arg12_r4 v14
  let v94_r4 : BitVec 32 := Scalar.addi c3072_i32_77_r4 v78_r4
  let c3072_i32_78_r4 : BitVec 32 := 3072#32
  let true_70_r4 : BitVec 1 := 1#1
  let c1_i32_69_r4 : BitVec 32 := 1#32
  let v84_r4 : BitVec 32 := Scalar.addi arg12_r4 c1_i32_69_r4
  let v85_r4 : BitVec 32 := Scalar.select true_70_r4 v84_r4 arg12_r4
  let c16_i32_71_r4 : BitVec 32 := 16#32
  let v86_r4 : BitVec 1 := Scalar.cmpi .eq v85_r4 c16_i32_71_r4
  let c0_i32_72_r4 : BitVec 32 := 0#32
  let v87_r4 : BitVec 32 := Scalar.select v86_r4 c0_i32_72_r4 v85_r4
  let v88_r4 : BitVec 32 := Scalar.addi v87_r4 v14
  let v95_r4 : BitVec 32 := Scalar.addi c3072_i32_78_r4 v88_r4
  let v96_r4 : BitVec 1 := Scalar.cmpi .ne v94_r4 v95_r4
  let c0_i32_35_r4 : BitVec 32 := 0#32
  let c1_i32_37_r4 : BitVec 32 := 1#32
  let arg7_r4 : BitVec 32 := Scf.iv c0_i32_35_r4 c1_i32_37_r4 k12_t3
  let c15_i32_79_r4 : BitVec 32 := 15#32
  let v97_r4 : BitVec 1 := Scalar.cmpi .sge arg7_r4 c15_i32_79_r4
  let true_80_r4 : BitVec 1 := 1#1
  let v98_r4 : BitVec 1 := Scalar.xori v97_r4 true_80_r4
  let v99_r4 : BitVec 1 := Scalar.andi v96_r4 v98_r4
  let true_81_r4 : BitVec 1 := 1#1
  let v100_r4 : BitVec 1 := Scalar.andi v99_r4 true_81_r4
  let v101_r4 : BitVec 32 := Scalar.extui v100_r4
  let c0_i32_82_r4 : BitVec 32 := 0#32
  let v102_r4 : BitVec 1 := Scalar.cmpi .ne v101_r4 c0_i32_82_r4
  v102_r4

def k12_off47 (i : grid12.Coords) (arg12_r4 : BitVec 32) : Fin 2 → Nat :=
  let c2_i32_119_r4 : BitVec 32 := 2#32
  let c256_i32_116_r4 : BitVec 32 := 256#32
  let c3072_i32_115_r4 : BitVec 32 := 3072#32
  let true_70_r4 : BitVec 1 := 1#1
  let c1_i32_69_r4 : BitVec 32 := 1#32
  let v84_r4 : BitVec 32 := Scalar.addi arg12_r4 c1_i32_69_r4
  let v85_r4 : BitVec 32 := Scalar.select true_70_r4 v84_r4 arg12_r4
  let c16_i32_71_r4 : BitVec 32 := 16#32
  let v86_r4 : BitVec 1 := Scalar.cmpi .eq v85_r4 c16_i32_71_r4
  let c0_i32_72_r4 : BitVec 32 := 0#32
  let v87_r4 : BitVec 32 := Scalar.select v86_r4 c0_i32_72_r4 v85_r4
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v88_r4 : BitVec 32 := Scalar.addi v87_r4 v14
  let v163_r4 : BitVec 32 := Scalar.addi c3072_i32_115_r4 v88_r4
  let v164_r4 : BitVec 32 := Scalar.muli c256_i32_116_r4 v163_r4
  ![2, v164_r4.toNat]
def k12_off48 (arg8_r4 : BitVec 32) : Fin 1 → Nat :=
  let c2_i32_114_r4 : BitVec 32 := 2#32
  let v162_r4 : BitVec 32 := Scalar.remui arg8_r4 c2_i32_114_r4
  ![v162_r4.toNat]
def k12_off49 (arg9_r4 : BitVec 32) : Fin 3 → Nat :=
  let c2_i32_116_r4 : BitVec 32 := 2#32
  let v164_r4 : BitVec 32 := Scalar.remui arg9_r4 c2_i32_116_r4
  let c0_i32_117_r4 : BitVec 32 := 0#32
  let c0_i32_118_r4 : BitVec 32 := 0#32
  ![v164_r4.toNat, 0, 0]
def k12_cond16 (i : grid12.Coords) (k12_t3 : Fin k12_t3_loop.trips) (arg12_r4 : BitVec 32) : BitVec 1 :=
  let c3072_i32_77_r4 : BitVec 32 := 3072#32
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v78_r4 : BitVec 32 := Scalar.addi arg12_r4 v14
  let v94_r4 : BitVec 32 := Scalar.addi c3072_i32_77_r4 v78_r4
  let c3072_i32_89_r4 : BitVec 32 := 3072#32
  let true_66_r4 : BitVec 1 := 1#1
  let c1_i32_65_r4 : BitVec 32 := 1#32
  let v79_r4 : BitVec 32 := Scalar.subi arg12_r4 c1_i32_65_r4
  let v80_r4 : BitVec 32 := Scalar.select true_66_r4 v79_r4 arg12_r4
  let c_m1_i32_67_r4 : BitVec 32 := 4294967295#32
  let v81_r4 : BitVec 1 := Scalar.cmpi .eq v80_r4 c_m1_i32_67_r4
  let c15_i32_68_r4 : BitVec 32 := 15#32
  let v82_r4 : BitVec 32 := Scalar.select v81_r4 c15_i32_68_r4 v80_r4
  let v83_r4 : BitVec 32 := Scalar.addi v82_r4 v14
  let v112_r4 : BitVec 32 := Scalar.addi c3072_i32_89_r4 v83_r4
  let v113_r4 : BitVec 1 := Scalar.cmpi .ne v94_r4 v112_r4
  let c0_i32_35_r4 : BitVec 32 := 0#32
  let c1_i32_37_r4 : BitVec 32 := 1#32
  let arg7_r4 : BitVec 32 := Scf.iv c0_i32_35_r4 c1_i32_37_r4 k12_t3
  let c0_i32_63_r4 : BitVec 32 := 0#32
  let v76_r4 : BitVec 1 := Scalar.cmpi .eq arg7_r4 c0_i32_63_r4
  let v114_r4 : BitVec 1 := Scalar.ori v113_r4 v76_r4
  let c0_i32_90_r4 : BitVec 32 := 0#32
  let v115_r4 : BitVec 1 := Scalar.cmpi .sge arg7_r4 c0_i32_90_r4
  let v116_r4 : BitVec 1 := Scalar.andi v114_r4 v115_r4
  let v117_r4 : BitVec 32 := Scalar.extui v116_r4
  let c0_i32_91_r4 : BitVec 32 := 0#32
  let v118_r4 : BitVec 1 := Scalar.cmpi .ne v117_r4 c0_i32_91_r4
  v118_r4

def k12_off50 (i : grid12.Coords) (arg12_r4 : BitVec 32) : Fin 2 → Nat :=
  let c2_i32_119_r4 : BitVec 32 := 2#32
  let c256_i32_115_r4 : BitVec 32 := 256#32
  let c3072_i32_114_r4 : BitVec 32 := 3072#32
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v78_r4 : BitVec 32 := Scalar.addi arg12_r4 v14
  let v162_r4 : BitVec 32 := Scalar.addi c3072_i32_114_r4 v78_r4
  let v163_r4 : BitVec 32 := Scalar.muli c256_i32_115_r4 v162_r4
  ![2, v163_r4.toNat]
def k12_off51 (arg9_r4 : BitVec 32) : Fin 1 → Nat :=
  let c2_i32_116_r4 : BitVec 32 := 2#32
  let v164_r4 : BitVec 32 := Scalar.remui arg9_r4 c2_i32_116_r4
  ![v164_r4.toNat]
def k12_off52 (arg10_r4 : BitVec 32) : Fin 3 → Nat :=
  let c2_i32_96_r4 : BitVec 32 := 2#32
  let v127_r4 : BitVec 32 := Scalar.remui arg10_r4 c2_i32_96_r4
  let c0_i32_114_r5 : BitVec 32 := 0#32
  let c0_i32_115_r5 : BitVec 32 := 0#32
  ![v127_r4.toNat, 0, 0]

def k12_chk12 (arg10_r4 : BitVec 32) : Prop :=
  (∀ a, (k12_off52 arg10_r4) a + S1x256x128.size a ≤ S2x256x128.size a)
theorem k12_off52_inb : ∀ (arg10_r4 : BitVec 32) (k12_hw12 : k12_chk12 arg10_r4), ∀ a, (k12_off52 arg10_r4) a + S1x256x128.size a ≤ S2x256x128.size a := fun arg10_r4 k12_hw12 => k12_hw12

def k12_off53 (arg9_r4 : BitVec 32) : Fin 3 → Nat :=
  let c2_i32_95_r4 : BitVec 32 := 2#32
  let v126_r4 : BitVec 32 := Scalar.remui arg9_r4 c2_i32_95_r4
  let c0_i32_116_r5 : BitVec 32 := 0#32
  let c0_i32_117_r5 : BitVec 32 := 0#32
  ![v126_r4.toNat, 0, 0]

def k12_chk13 (arg9_r4 : BitVec 32) : Prop :=
  (∀ a, (k12_off53 arg9_r4) a + S1x1x256.size a ≤ S2x1x256.size a)
theorem k12_off53_inb : ∀ (arg9_r4 : BitVec 32) (k12_hw13 : k12_chk13 arg9_r4), ∀ a, (k12_off53 arg9_r4) a + S1x1x256.size a ≤ S2x1x256.size a := fun arg9_r4 k12_hw13 => k12_hw13

def k12_off54 (arg10_r4 : BitVec 32) : Fin 3 → Nat :=
  let c2_i32_114_r4 : BitVec 32 := 2#32
  let v162_r4 : BitVec 32 := Scalar.remui arg10_r4 c2_i32_114_r4
  let c0_i32_117_r4 : BitVec 32 := 0#32
  let c0_i32_118_r4 : BitVec 32 := 0#32
  ![v162_r4.toNat, 0, 0]
def k12_cond19 (i : grid12.Coords) (k12_t3 : Fin k12_t3_loop.trips) (arg12_r4 : BitVec 32) : BitVec 1 :=
  let c1024_i32_85_r4 : BitVec 32 := 1024#32
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v78_r4 : BitVec 32 := Scalar.addi arg12_r4 v14
  let v106_r4 : BitVec 32 := Scalar.addi c1024_i32_85_r4 v78_r4
  let c1024_i32_86_r4 : BitVec 32 := 1024#32
  let true_70_r4 : BitVec 1 := 1#1
  let c1_i32_69_r4 : BitVec 32 := 1#32
  let v84_r4 : BitVec 32 := Scalar.addi arg12_r4 c1_i32_69_r4
  let v85_r4 : BitVec 32 := Scalar.select true_70_r4 v84_r4 arg12_r4
  let c16_i32_71_r4 : BitVec 32 := 16#32
  let v86_r4 : BitVec 1 := Scalar.cmpi .eq v85_r4 c16_i32_71_r4
  let c0_i32_72_r4 : BitVec 32 := 0#32
  let v87_r4 : BitVec 32 := Scalar.select v86_r4 c0_i32_72_r4 v85_r4
  let v88_r4 : BitVec 32 := Scalar.addi v87_r4 v14
  let v107_r4 : BitVec 32 := Scalar.addi c1024_i32_86_r4 v88_r4
  let v133_r4 : BitVec 1 := Scalar.cmpi .ne v106_r4 v107_r4
  let c0_i32_35_r4 : BitVec 32 := 0#32
  let c1_i32_37_r4 : BitVec 32 := 1#32
  let arg7_r4 : BitVec 32 := Scf.iv c0_i32_35_r4 c1_i32_37_r4 k12_t3
  let c15_i32_64_r4 : BitVec 32 := 15#32
  let v77_r4 : BitVec 1 := Scalar.cmpi .eq arg7_r4 c15_i32_64_r4
  let v134_r4 : BitVec 1 := Scalar.ori v133_r4 v77_r4
  let v135_r4 : BitVec 32 := Scalar.extui v134_r4
  let c0_i32_99_r4 : BitVec 32 := 0#32
  let v136_r4 : BitVec 1 := Scalar.cmpi .ne v135_r4 c0_i32_99_r4
  v136_r4

def k12_off55 (i : grid12.Coords) (arg12_r4 : BitVec 32) : Fin 2 → Nat :=
  let c256_i32_116_r4 : BitVec 32 := 256#32
  let c1024_i32_115_r4 : BitVec 32 := 1024#32
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v78_r4 : BitVec 32 := Scalar.addi arg12_r4 v14
  let v163_r4 : BitVec 32 := Scalar.addi c1024_i32_115_r4 v78_r4
  let v164_r4 : BitVec 32 := Scalar.muli c256_i32_116_r4 v163_r4
  let c0_i32_119_r4 : BitVec 32 := 0#32
  ![v164_r4.toNat, 0]
def k12_off56 (arg10_r4 : BitVec 32) : Fin 1 → Nat :=
  let c2_i32_114_r4 : BitVec 32 := 2#32
  let v162_r4 : BitVec 32 := Scalar.remui arg10_r4 c2_i32_114_r4
  ![v162_r4.toNat]
def k12_off57 (arg11_r4 : BitVec 32) : Fin 3 → Nat :=
  let c2_i32_114_r4 : BitVec 32 := 2#32
  let v162_r4 : BitVec 32 := Scalar.remui arg11_r4 c2_i32_114_r4
  let c0_i32_117_r4 : BitVec 32 := 0#32
  let c0_i32_118_r4 : BitVec 32 := 0#32
  ![v162_r4.toNat, 0, 0]
def k12_cond21 (i : grid12.Coords) (k12_t3 : Fin k12_t3_loop.trips) (arg12_r4 : BitVec 32) : BitVec 1 :=
  let c1024_i32_85_r4 : BitVec 32 := 1024#32
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v78_r4 : BitVec 32 := Scalar.addi arg12_r4 v14
  let v106_r4 : BitVec 32 := Scalar.addi c1024_i32_85_r4 v78_r4
  let c1024_i32_92_r4 : BitVec 32 := 1024#32
  let true_66_r4 : BitVec 1 := 1#1
  let c1_i32_65_r4 : BitVec 32 := 1#32
  let v79_r4 : BitVec 32 := Scalar.subi arg12_r4 c1_i32_65_r4
  let v80_r4 : BitVec 32 := Scalar.select true_66_r4 v79_r4 arg12_r4
  let c_m1_i32_67_r4 : BitVec 32 := 4294967295#32
  let v81_r4 : BitVec 1 := Scalar.cmpi .eq v80_r4 c_m1_i32_67_r4
  let c15_i32_68_r4 : BitVec 32 := 15#32
  let v82_r4 : BitVec 32 := Scalar.select v81_r4 c15_i32_68_r4 v80_r4
  let v83_r4 : BitVec 32 := Scalar.addi v82_r4 v14
  let v119_r4 : BitVec 32 := Scalar.addi c1024_i32_92_r4 v83_r4
  let v146_r4 : BitVec 1 := Scalar.cmpi .ne v106_r4 v119_r4
  let c0_i32_35_r4 : BitVec 32 := 0#32
  let c1_i32_37_r4 : BitVec 32 := 1#32
  let arg7_r4 : BitVec 32 := Scf.iv c0_i32_35_r4 c1_i32_37_r4 k12_t3
  let c0_i32_63_r4 : BitVec 32 := 0#32
  let v76_r4 : BitVec 1 := Scalar.cmpi .eq arg7_r4 c0_i32_63_r4
  let true_105_r4 : BitVec 1 := 1#1
  let v147_r4 : BitVec 1 := Scalar.xori v76_r4 true_105_r4
  let v148_r4 : BitVec 1 := Scalar.andi v146_r4 v147_r4
  let v149_r4 : BitVec 32 := Scalar.extui v148_r4
  let c0_i32_106_r4 : BitVec 32 := 0#32
  let v150_r4 : BitVec 1 := Scalar.cmpi .ne v149_r4 c0_i32_106_r4
  v150_r4

def k12_off58 (i : grid12.Coords) (arg12_r4 : BitVec 32) : Fin 2 → Nat :=
  let c256_i32_116_r4 : BitVec 32 := 256#32
  let c1024_i32_115_r4 : BitVec 32 := 1024#32
  let true_66_r4 : BitVec 1 := 1#1
  let c1_i32_65_r4 : BitVec 32 := 1#32
  let v79_r4 : BitVec 32 := Scalar.subi arg12_r4 c1_i32_65_r4
  let v80_r4 : BitVec 32 := Scalar.select true_66_r4 v79_r4 arg12_r4
  let c_m1_i32_67_r4 : BitVec 32 := 4294967295#32
  let v81_r4 : BitVec 1 := Scalar.cmpi .eq v80_r4 c_m1_i32_67_r4
  let c15_i32_68_r4 : BitVec 32 := 15#32
  let v82_r4 : BitVec 32 := Scalar.select v81_r4 c15_i32_68_r4 v80_r4
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v83_r4 : BitVec 32 := Scalar.addi v82_r4 v14
  let v163_r4 : BitVec 32 := Scalar.addi c1024_i32_115_r4 v83_r4
  let v164_r4 : BitVec 32 := Scalar.muli c256_i32_116_r4 v163_r4
  let c0_i32_119_r4 : BitVec 32 := 0#32
  ![v164_r4.toNat, 0]
def k12_off59 (arg11_r4 : BitVec 32) : Fin 1 → Nat :=
  let c2_i32_114_r4 : BitVec 32 := 2#32
  let v162_r4 : BitVec 32 := Scalar.remui arg11_r4 c2_i32_114_r4
  ![v162_r4.toNat]

def k12_chk11 (i : grid12.Coords) (k12_t3 : Fin k12_t3_loop.trips) (arg8_r4 : BitVec 32) (arg9_r4 : BitVec 32) (arg10_r4 : BitVec 32) (arg11_r4 : BitVec 32) (arg12_r4 : BitVec 32) : Prop :=
  (∀ (k12_h15 : k12_cond15 i k12_t3 arg12_r4 = 1#1), ∀ a, (k12_off46 arg8_r4) a + S1x1x256.size a ≤ S2x1x256.size a) ∧
  (∀ (k12_h15 : k12_cond15 i k12_t3 arg12_r4 = 1#1), ∀ a, (k12_off47 i arg12_r4) a + S1x256.size a ≤ S3x1048576.size a) ∧
  (∀ (k12_h15 : k12_cond15 i k12_t3 arg12_r4 = 1#1), ∀ a, (k12_off48 arg8_r4) a + S1.size a ≤ S2.size a) ∧
  (∀ (k12_h16 : k12_cond16 i k12_t3 arg12_r4 = 1#1), ∀ a, (k12_off49 arg9_r4) a + S1x1x256.size a ≤ S2x1x256.size a) ∧
  (∀ (k12_h16 : k12_cond16 i k12_t3 arg12_r4 = 1#1), ∀ a, (k12_off50 i arg12_r4) a + S1x256.size a ≤ S3x1048576.size a) ∧
  (∀ (k12_h16 : k12_cond16 i k12_t3 arg12_r4 = 1#1), ∀ a, (k12_off51 arg9_r4) a + S1.size a ≤ S2.size a) ∧
  (∀ (k12_h19 : k12_cond19 i k12_t3 arg12_r4 = 1#1), ∀ a, (k12_off54 arg10_r4) a + S1x256x128.size a ≤ S2x256x128.size a) ∧
  (∀ (k12_h19 : k12_cond19 i k12_t3 arg12_r4 = 1#1), ∀ a, (k12_off55 i arg12_r4) a + S256x128.size a ≤ S393216x128.size a) ∧
  (∀ (k12_h19 : k12_cond19 i k12_t3 arg12_r4 = 1#1), ∀ a, (k12_off56 arg10_r4) a + S1.size a ≤ S2.size a) ∧
  (∀ (k12_h21 : k12_cond21 i k12_t3 arg12_r4 = 1#1), ∀ a, (k12_off57 arg11_r4) a + S1x256x128.size a ≤ S2x256x128.size a) ∧
  (∀ (k12_h21 : k12_cond21 i k12_t3 arg12_r4 = 1#1), ∀ a, (k12_off58 i arg12_r4) a + S256x128.size a ≤ S393216x128.size a) ∧
  (∀ (k12_h21 : k12_cond21 i k12_t3 arg12_r4 = 1#1), ∀ a, (k12_off59 arg11_r4) a + S1.size a ≤ S2.size a)
theorem k12_off46_inb : ∀ (i : grid12.Coords) (k12_t3 : Fin k12_t3_loop.trips) (arg8_r4 : BitVec 32) (arg9_r4 : BitVec 32) (arg10_r4 : BitVec 32) (arg11_r4 : BitVec 32) (arg12_r4 : BitVec 32) (k12_hw11 : k12_chk11 i k12_t3 arg8_r4 arg9_r4 arg10_r4 arg11_r4 arg12_r4), ∀ (k12_h15 : k12_cond15 i k12_t3 arg12_r4 = 1#1), ∀ a, (k12_off46 arg8_r4) a + S1x1x256.size a ≤ S2x1x256.size a := fun i k12_t3 arg8_r4 arg9_r4 arg10_r4 arg11_r4 arg12_r4 k12_hw11 k12_h15 => k12_hw11.1 k12_h15
theorem k12_off47_inb : ∀ (i : grid12.Coords) (k12_t3 : Fin k12_t3_loop.trips) (arg8_r4 : BitVec 32) (arg9_r4 : BitVec 32) (arg10_r4 : BitVec 32) (arg11_r4 : BitVec 32) (arg12_r4 : BitVec 32) (k12_hw11 : k12_chk11 i k12_t3 arg8_r4 arg9_r4 arg10_r4 arg11_r4 arg12_r4), ∀ (k12_h15 : k12_cond15 i k12_t3 arg12_r4 = 1#1), ∀ a, (k12_off47 i arg12_r4) a + S1x256.size a ≤ S3x1048576.size a := fun i k12_t3 arg8_r4 arg9_r4 arg10_r4 arg11_r4 arg12_r4 k12_hw11 k12_h15 => k12_hw11.2.1 k12_h15
theorem k12_off48_inb : ∀ (i : grid12.Coords) (k12_t3 : Fin k12_t3_loop.trips) (arg8_r4 : BitVec 32) (arg9_r4 : BitVec 32) (arg10_r4 : BitVec 32) (arg11_r4 : BitVec 32) (arg12_r4 : BitVec 32) (k12_hw11 : k12_chk11 i k12_t3 arg8_r4 arg9_r4 arg10_r4 arg11_r4 arg12_r4), ∀ (k12_h15 : k12_cond15 i k12_t3 arg12_r4 = 1#1), ∀ a, (k12_off48 arg8_r4) a + S1.size a ≤ S2.size a := fun i k12_t3 arg8_r4 arg9_r4 arg10_r4 arg11_r4 arg12_r4 k12_hw11 k12_h15 => k12_hw11.2.2.1 k12_h15
theorem k12_off49_inb : ∀ (i : grid12.Coords) (k12_t3 : Fin k12_t3_loop.trips) (arg8_r4 : BitVec 32) (arg9_r4 : BitVec 32) (arg10_r4 : BitVec 32) (arg11_r4 : BitVec 32) (arg12_r4 : BitVec 32) (k12_hw11 : k12_chk11 i k12_t3 arg8_r4 arg9_r4 arg10_r4 arg11_r4 arg12_r4), ∀ (k12_h16 : k12_cond16 i k12_t3 arg12_r4 = 1#1), ∀ a, (k12_off49 arg9_r4) a + S1x1x256.size a ≤ S2x1x256.size a := fun i k12_t3 arg8_r4 arg9_r4 arg10_r4 arg11_r4 arg12_r4 k12_hw11 k12_h16 => k12_hw11.2.2.2.1 k12_h16
theorem k12_off50_inb : ∀ (i : grid12.Coords) (k12_t3 : Fin k12_t3_loop.trips) (arg8_r4 : BitVec 32) (arg9_r4 : BitVec 32) (arg10_r4 : BitVec 32) (arg11_r4 : BitVec 32) (arg12_r4 : BitVec 32) (k12_hw11 : k12_chk11 i k12_t3 arg8_r4 arg9_r4 arg10_r4 arg11_r4 arg12_r4), ∀ (k12_h16 : k12_cond16 i k12_t3 arg12_r4 = 1#1), ∀ a, (k12_off50 i arg12_r4) a + S1x256.size a ≤ S3x1048576.size a := fun i k12_t3 arg8_r4 arg9_r4 arg10_r4 arg11_r4 arg12_r4 k12_hw11 k12_h16 => k12_hw11.2.2.2.2.1 k12_h16
theorem k12_off51_inb : ∀ (i : grid12.Coords) (k12_t3 : Fin k12_t3_loop.trips) (arg8_r4 : BitVec 32) (arg9_r4 : BitVec 32) (arg10_r4 : BitVec 32) (arg11_r4 : BitVec 32) (arg12_r4 : BitVec 32) (k12_hw11 : k12_chk11 i k12_t3 arg8_r4 arg9_r4 arg10_r4 arg11_r4 arg12_r4), ∀ (k12_h16 : k12_cond16 i k12_t3 arg12_r4 = 1#1), ∀ a, (k12_off51 arg9_r4) a + S1.size a ≤ S2.size a := fun i k12_t3 arg8_r4 arg9_r4 arg10_r4 arg11_r4 arg12_r4 k12_hw11 k12_h16 => k12_hw11.2.2.2.2.2.1 k12_h16
theorem k12_off54_inb : ∀ (i : grid12.Coords) (k12_t3 : Fin k12_t3_loop.trips) (arg8_r4 : BitVec 32) (arg9_r4 : BitVec 32) (arg10_r4 : BitVec 32) (arg11_r4 : BitVec 32) (arg12_r4 : BitVec 32) (k12_hw11 : k12_chk11 i k12_t3 arg8_r4 arg9_r4 arg10_r4 arg11_r4 arg12_r4), ∀ (k12_h19 : k12_cond19 i k12_t3 arg12_r4 = 1#1), ∀ a, (k12_off54 arg10_r4) a + S1x256x128.size a ≤ S2x256x128.size a := fun i k12_t3 arg8_r4 arg9_r4 arg10_r4 arg11_r4 arg12_r4 k12_hw11 k12_h19 => k12_hw11.2.2.2.2.2.2.1 k12_h19
theorem k12_off55_inb : ∀ (i : grid12.Coords) (k12_t3 : Fin k12_t3_loop.trips) (arg8_r4 : BitVec 32) (arg9_r4 : BitVec 32) (arg10_r4 : BitVec 32) (arg11_r4 : BitVec 32) (arg12_r4 : BitVec 32) (k12_hw11 : k12_chk11 i k12_t3 arg8_r4 arg9_r4 arg10_r4 arg11_r4 arg12_r4), ∀ (k12_h19 : k12_cond19 i k12_t3 arg12_r4 = 1#1), ∀ a, (k12_off55 i arg12_r4) a + S256x128.size a ≤ S393216x128.size a := fun i k12_t3 arg8_r4 arg9_r4 arg10_r4 arg11_r4 arg12_r4 k12_hw11 k12_h19 => k12_hw11.2.2.2.2.2.2.2.1 k12_h19
theorem k12_off56_inb : ∀ (i : grid12.Coords) (k12_t3 : Fin k12_t3_loop.trips) (arg8_r4 : BitVec 32) (arg9_r4 : BitVec 32) (arg10_r4 : BitVec 32) (arg11_r4 : BitVec 32) (arg12_r4 : BitVec 32) (k12_hw11 : k12_chk11 i k12_t3 arg8_r4 arg9_r4 arg10_r4 arg11_r4 arg12_r4), ∀ (k12_h19 : k12_cond19 i k12_t3 arg12_r4 = 1#1), ∀ a, (k12_off56 arg10_r4) a + S1.size a ≤ S2.size a := fun i k12_t3 arg8_r4 arg9_r4 arg10_r4 arg11_r4 arg12_r4 k12_hw11 k12_h19 => k12_hw11.2.2.2.2.2.2.2.2.1 k12_h19
theorem k12_off57_inb : ∀ (i : grid12.Coords) (k12_t3 : Fin k12_t3_loop.trips) (arg8_r4 : BitVec 32) (arg9_r4 : BitVec 32) (arg10_r4 : BitVec 32) (arg11_r4 : BitVec 32) (arg12_r4 : BitVec 32) (k12_hw11 : k12_chk11 i k12_t3 arg8_r4 arg9_r4 arg10_r4 arg11_r4 arg12_r4), ∀ (k12_h21 : k12_cond21 i k12_t3 arg12_r4 = 1#1), ∀ a, (k12_off57 arg11_r4) a + S1x256x128.size a ≤ S2x256x128.size a := fun i k12_t3 arg8_r4 arg9_r4 arg10_r4 arg11_r4 arg12_r4 k12_hw11 k12_h21 => k12_hw11.2.2.2.2.2.2.2.2.2.1 k12_h21
theorem k12_off58_inb : ∀ (i : grid12.Coords) (k12_t3 : Fin k12_t3_loop.trips) (arg8_r4 : BitVec 32) (arg9_r4 : BitVec 32) (arg10_r4 : BitVec 32) (arg11_r4 : BitVec 32) (arg12_r4 : BitVec 32) (k12_hw11 : k12_chk11 i k12_t3 arg8_r4 arg9_r4 arg10_r4 arg11_r4 arg12_r4), ∀ (k12_h21 : k12_cond21 i k12_t3 arg12_r4 = 1#1), ∀ a, (k12_off58 i arg12_r4) a + S256x128.size a ≤ S393216x128.size a := fun i k12_t3 arg8_r4 arg9_r4 arg10_r4 arg11_r4 arg12_r4 k12_hw11 k12_h21 => k12_hw11.2.2.2.2.2.2.2.2.2.2.1 k12_h21
theorem k12_off59_inb : ∀ (i : grid12.Coords) (k12_t3 : Fin k12_t3_loop.trips) (arg8_r4 : BitVec 32) (arg9_r4 : BitVec 32) (arg10_r4 : BitVec 32) (arg11_r4 : BitVec 32) (arg12_r4 : BitVec 32) (k12_hw11 : k12_chk11 i k12_t3 arg8_r4 arg9_r4 arg10_r4 arg11_r4 arg12_r4), ∀ (k12_h21 : k12_cond21 i k12_t3 arg12_r4 = 1#1), ∀ a, (k12_off59 arg11_r4) a + S1.size a ≤ S2.size a := fun i k12_t3 arg8_r4 arg9_r4 arg10_r4 arg11_r4 arg12_r4 k12_hw11 k12_h21 => k12_hw11.2.2.2.2.2.2.2.2.2.2.2 k12_h21

def k12_off60 (v44_3_r4 : BitVec 32) : Fin 3 → Nat :=
  let c2_i32_55_r4 : BitVec 32 := 2#32
  let v65_r4 : BitVec 32 := Scalar.remui v44_3_r4 c2_i32_55_r4
  let c0_i32_57_r4 : BitVec 32 := 0#32
  let c0_i32_58_r4 : BitVec 32 := 0#32
  ![v65_r4.toNat, 0, 0]

def k12_off61 (i : grid12.Coords) (v44_4_r4 : BitVec 32) : Fin 2 → Nat :=
  let c256_i32_56_r4 : BitVec 32 := 256#32
  let c1024_i32_r4 : BitVec 32 := 1024#32
  let true_40_r4 : BitVec 1 := 1#1
  let c1_i32_39_r4 : BitVec 32 := 1#32
  let v45_r4 : BitVec 32 := Scalar.subi v44_4_r4 c1_i32_39_r4
  let v46_r4 : BitVec 32 := Scalar.select true_40_r4 v45_r4 v44_4_r4
  let c_m1_i32_41_r4 : BitVec 32 := 4294967295#32
  let v47_r4 : BitVec 1 := Scalar.cmpi .eq v46_r4 c_m1_i32_41_r4
  let c15_i32_42_r4 : BitVec 32 := 15#32
  let v48_r4 : BitVec 32 := Scalar.select v47_r4 c15_i32_42_r4 v46_r4
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v49_r4 : BitVec 32 := Scalar.addi v48_r4 v14
  let v66_r4 : BitVec 32 := Scalar.addi c1024_i32_r4 v49_r4
  let v67_r4 : BitVec 32 := Scalar.muli c256_i32_56_r4 v66_r4
  let c0_i32_59_r4 : BitVec 32 := 0#32
  ![v67_r4.toNat, 0]

def k12_chk15 (i : grid12.Coords) (v44_4_r4 : BitVec 32) : Prop :=
  (∀ a, (k12_off61 i v44_4_r4) a + S256x128.size a ≤ S393216x128.size a)
theorem k12_off61_inb : ∀ (i : grid12.Coords) (v44_4_r4 : BitVec 32) (k12_hw15 : k12_chk15 i v44_4_r4), ∀ a, (k12_off61 i v44_4_r4) a + S256x128.size a ≤ S393216x128.size a := fun i v44_4_r4 k12_hw15 => k12_hw15

def k12_off62 (v44_3_r4 : BitVec 32) : Fin 1 → Nat :=
  let c2_i32_55_r4 : BitVec 32 := 2#32
  let v65_r4 : BitVec 32 := Scalar.remui v44_3_r4 c2_i32_55_r4
  ![v65_r4.toNat]
def k12_off63 (v44_3_r4 : BitVec 32) : Fin 3 → Nat :=
  let c2_i32_55_r4 : BitVec 32 := 2#32
  let v65_r4 : BitVec 32 := Scalar.remui v44_3_r4 c2_i32_55_r4
  let c0_i32_61_r4 : BitVec 32 := 0#32
  let c0_i32_62_r4 : BitVec 32 := 0#32
  ![v65_r4.toNat, 0, 0]

def k12_chk14 (v44_3_r4 : BitVec 32) : Prop :=
  (∀ a, (k12_off60 v44_3_r4) a + S1x256x128.size a ≤ S2x256x128.size a) ∧
  (∀ a, (k12_off62 v44_3_r4) a + S1.size a ≤ S2.size a) ∧
  (∀ a, (k12_off63 v44_3_r4) a + S1x256x128.size a ≤ S2x256x128.size a)
theorem k12_off60_inb : ∀ (v44_3_r4 : BitVec 32) (k12_hw14 : k12_chk14 v44_3_r4), ∀ a, (k12_off60 v44_3_r4) a + S1x256x128.size a ≤ S2x256x128.size a := fun v44_3_r4 k12_hw14 => k12_hw14.1
theorem k12_off62_inb : ∀ (v44_3_r4 : BitVec 32) (k12_hw14 : k12_chk14 v44_3_r4), ∀ a, (k12_off62 v44_3_r4) a + S1.size a ≤ S2.size a := fun v44_3_r4 k12_hw14 => k12_hw14.2.1
theorem k12_off63_inb : ∀ (v44_3_r4 : BitVec 32) (k12_hw14 : k12_chk14 v44_3_r4), ∀ a, (k12_off63 v44_3_r4) a + S1x256x128.size a ≤ S2x256x128.size a := fun v44_3_r4 k12_hw14 => k12_hw14.2.2

abbrev grid13 : Pipeline.Grid := ⟨1, ![64], ![false]⟩

def cc13_transform_1 (i : grid13.Coords) : Fin 2 → Nat :=
  let arg0 : BitVec 32 := BitVec.ofNat 32 (i 0).val
  let c384_i32 : BitVec 32 := 384#32
  let v0 : BitVec 32 := Scalar.addi c384_i32 arg0
  let c0_i32 : BitVec 32 := 0#32
  let c0_i32_0 : BitVec 32 := 0#32
  ![c0_i32.toNat, v0.toNat]

def cc13_transform_2 (i : grid13.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c384_i32 : BitVec 32 := 384#32
  let v0 : BitVec 32 := Scalar.addi c384_i32 arg0
  let c0_i32 : BitVec 32 := 0#32
  let c0_i32_0 : BitVec 32 := 0#32
  ![c0_i32.toNat, v0.toNat]

abbrev stage13_0 : Fin 2 → Memref sig .tc .vmem S16x2048 .bf16 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S3x2048x128 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 1 → Memref sig .tc .vmem S16x384 .bf16 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S128x32 .bf16 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 2 → Memref sig .tc .vmem S32x2048 .f32 := fun | 0 => Memref.whole cc13_stg4_0 | 1 => Memref.whole cc13_stg4_1 | ⟨_ + 2, h⟩ => absurd h (Nat.not_lt.2 (Nat.le_add_left _ _))
abbrev sem13_4 : Fin 2 → DmaSem sig := fun | 0 => cc13_sem4_0 | 1 => cc13_sem4_1 | ⟨_ + 2, h⟩ => absurd h (Nat.not_lt.2 (Nat.le_add_left _ _))
abbrev reads13_4 : Fin grid13.rank → Bool := ![true]

abbrev grid14 : Pipeline.Grid := ⟨2, ![2, 16], ![false, false]⟩

def k14_off1 : Fin 3 → Nat :=
  let c0_i32_22_r0 : BitVec 32 := 0#32
  let c2_i32_r0 : BitVec 32 := 2#32
  let v31_r0 : BitVec 32 := Scalar.remui c0_i32_22_r0 c2_i32_r0
  let c0_i32_23_r0 : BitVec 32 := 0#32
  let c0_i32_24_r0 : BitVec 32 := 0#32
  ![v31_r0.toNat, 0, 0]
def k14_off2 (i : grid14.Coords) : Fin 2 → Nat :=
  let c0_i32_25_r0 : BitVec 32 := 0#32
  let c256_i32_r0 : BitVec 32 := 256#32
  let c3584_i32_r0 : BitVec 32 := 3584#32
  let c0_i32_10_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v17_r0 : BitVec 32 := Scalar.addi c0_i32_10_r0 v4
  let v32_r0 : BitVec 32 := Scalar.addi c3584_i32_r0 v17_r0
  let v33_r0 : BitVec 32 := Scalar.muli c256_i32_r0 v32_r0
  ![0, v33_r0.toNat]
def k14_off3 : Fin 1 → Nat :=
  let c0_i32_22_r0 : BitVec 32 := 0#32
  let c2_i32_r0 : BitVec 32 := 2#32
  let v31_r0 : BitVec 32 := Scalar.remui c0_i32_22_r0 c2_i32_r0
  ![v31_r0.toNat]
@[reducible] def k14_t1_loop : Scf.Loop 32 :=
  let c0_i32_35_r0 : BitVec 32 := 0#32
  let c16_i32_36_r0 : BitVec 32 := 16#32
  let v43_r0 : BitVec 32 := Scalar.addi c0_i32_35_r0 c16_i32_36_r0
  let c1_i32_37_r0 : BitVec 32 := 1#32
  ⟨c0_i32_35_r0, v43_r0, c1_i32_37_r0⟩
def k14_off4 (arg8_r0 : BitVec 32) : Fin 3 → Nat :=
  let c2_i32_115_r0 : BitVec 32 := 2#32
  let v162_r0 : BitVec 32 := Scalar.remui arg8_r0 c2_i32_115_r0
  let c0_i32_118_r0 : BitVec 32 := 0#32
  let c0_i32_119_r0 : BitVec 32 := 0#32
  ![v162_r0.toNat, 0, 0]
def k14_cond1 (i : grid14.Coords) (k14_t1 : Fin k14_t1_loop.trips) (arg12_r0 : BitVec 32) : BitVec 1 :=
  let c3584_i32_78_r0 : BitVec 32 := 3584#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v78_r0 : BitVec 32 := Scalar.addi arg12_r0 v4
  let v94_r0 : BitVec 32 := Scalar.addi c3584_i32_78_r0 v78_r0
  let c3584_i32_79_r0 : BitVec 32 := 3584#32
  let true_71_r0 : BitVec 1 := 1#1
  let c1_i32_70_r0 : BitVec 32 := 1#32
  let v84_r0 : BitVec 32 := Scalar.addi arg12_r0 c1_i32_70_r0
  let v85_r0 : BitVec 32 := Scalar.select true_71_r0 v84_r0 arg12_r0
  let c16_i32_72_r0 : BitVec 32 := 16#32
  let v86_r0 : BitVec 1 := Scalar.cmpi .eq v85_r0 c16_i32_72_r0
  let c0_i32_73_r0 : BitVec 32 := 0#32
  let v87_r0 : BitVec 32 := Scalar.select v86_r0 c0_i32_73_r0 v85_r0
  let v88_r0 : BitVec 32 := Scalar.addi v87_r0 v4
  let v95_r0 : BitVec 32 := Scalar.addi c3584_i32_79_r0 v88_r0
  let v96_r0 : BitVec 1 := Scalar.cmpi .ne v94_r0 v95_r0
  let c0_i32_35_r0 : BitVec 32 := 0#32
  let c1_i32_37_r0 : BitVec 32 := 1#32
  let arg7_r0 : BitVec 32 := Scf.iv c0_i32_35_r0 c1_i32_37_r0 k14_t1
  let c15_i32_80_r0 : BitVec 32 := 15#32
  let v97_r0 : BitVec 1 := Scalar.cmpi .sge arg7_r0 c15_i32_80_r0
  let true_81_r0 : BitVec 1 := 1#1
  let v98_r0 : BitVec 1 := Scalar.xori v97_r0 true_81_r0
  let v99_r0 : BitVec 1 := Scalar.andi v96_r0 v98_r0
  let true_82_r0 : BitVec 1 := 1#1
  let v100_r0 : BitVec 1 := Scalar.andi v99_r0 true_82_r0
  let v101_r0 : BitVec 32 := Scalar.extui v100_r0
  let c0_i32_83_r0 : BitVec 32 := 0#32
  let v102_r0 : BitVec 1 := Scalar.cmpi .ne v101_r0 c0_i32_83_r0
  v102_r0

def k14_off5 (i : grid14.Coords) (arg12_r0 : BitVec 32) : Fin 2 → Nat :=
  let c0_i32_120_r0 : BitVec 32 := 0#32
  let c256_i32_117_r0 : BitVec 32 := 256#32
  let c3584_i32_116_r0 : BitVec 32 := 3584#32
  let true_71_r0 : BitVec 1 := 1#1
  let c1_i32_70_r0 : BitVec 32 := 1#32
  let v84_r0 : BitVec 32 := Scalar.addi arg12_r0 c1_i32_70_r0
  let v85_r0 : BitVec 32 := Scalar.select true_71_r0 v84_r0 arg12_r0
  let c16_i32_72_r0 : BitVec 32 := 16#32
  let v86_r0 : BitVec 1 := Scalar.cmpi .eq v85_r0 c16_i32_72_r0
  let c0_i32_73_r0 : BitVec 32 := 0#32
  let v87_r0 : BitVec 32 := Scalar.select v86_r0 c0_i32_73_r0 v85_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v88_r0 : BitVec 32 := Scalar.addi v87_r0 v4
  let v163_r0 : BitVec 32 := Scalar.addi c3584_i32_116_r0 v88_r0
  let v164_r0 : BitVec 32 := Scalar.muli c256_i32_117_r0 v163_r0
  ![0, v164_r0.toNat]
def k14_off6 (arg8_r0 : BitVec 32) : Fin 1 → Nat :=
  let c2_i32_115_r0 : BitVec 32 := 2#32
  let v162_r0 : BitVec 32 := Scalar.remui arg8_r0 c2_i32_115_r0
  ![v162_r0.toNat]
def k14_off7 (arg9_r0 : BitVec 32) : Fin 3 → Nat :=
  let c2_i32_117_r0 : BitVec 32 := 2#32
  let v164_r0 : BitVec 32 := Scalar.remui arg9_r0 c2_i32_117_r0
  let c0_i32_118_r0 : BitVec 32 := 0#32
  let c0_i32_119_r0 : BitVec 32 := 0#32
  ![v164_r0.toNat, 0, 0]
def k14_cond2 (i : grid14.Coords) (k14_t1 : Fin k14_t1_loop.trips) (arg12_r0 : BitVec 32) : BitVec 1 :=
  let c3584_i32_78_r0 : BitVec 32 := 3584#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v78_r0 : BitVec 32 := Scalar.addi arg12_r0 v4
  let v94_r0 : BitVec 32 := Scalar.addi c3584_i32_78_r0 v78_r0
  let c3584_i32_90_r0 : BitVec 32 := 3584#32
  let true_67_r0 : BitVec 1 := 1#1
  let c1_i32_66_r0 : BitVec 32 := 1#32
  let v79_r0 : BitVec 32 := Scalar.subi arg12_r0 c1_i32_66_r0
  let v80_r0 : BitVec 32 := Scalar.select true_67_r0 v79_r0 arg12_r0
  let c_m1_i32_68_r0 : BitVec 32 := 4294967295#32
  let v81_r0 : BitVec 1 := Scalar.cmpi .eq v80_r0 c_m1_i32_68_r0
  let c15_i32_69_r0 : BitVec 32 := 15#32
  let v82_r0 : BitVec 32 := Scalar.select v81_r0 c15_i32_69_r0 v80_r0
  let v83_r0 : BitVec 32 := Scalar.addi v82_r0 v4
  let v112_r0 : BitVec 32 := Scalar.addi c3584_i32_90_r0 v83_r0
  let v113_r0 : BitVec 1 := Scalar.cmpi .ne v94_r0 v112_r0
  let c0_i32_35_r0 : BitVec 32 := 0#32
  let c1_i32_37_r0 : BitVec 32 := 1#32
  let arg7_r0 : BitVec 32 := Scf.iv c0_i32_35_r0 c1_i32_37_r0 k14_t1
  let c0_i32_64_r0 : BitVec 32 := 0#32
  let v76_r0 : BitVec 1 := Scalar.cmpi .eq arg7_r0 c0_i32_64_r0
  let v114_r0 : BitVec 1 := Scalar.ori v113_r0 v76_r0
  let c0_i32_91_r0 : BitVec 32 := 0#32
  let v115_r0 : BitVec 1 := Scalar.cmpi .sge arg7_r0 c0_i32_91_r0
  let v116_r0 : BitVec 1 := Scalar.andi v114_r0 v115_r0
  let v117_r0 : BitVec 32 := Scalar.extui v116_r0
  let c0_i32_92_r0 : BitVec 32 := 0#32
  let v118_r0 : BitVec 1 := Scalar.cmpi .ne v117_r0 c0_i32_92_r0
  v118_r0

def k14_off8 (i : grid14.Coords) (arg12_r0 : BitVec 32) : Fin 2 → Nat :=
  let c0_i32_120_r0 : BitVec 32 := 0#32
  let c256_i32_116_r0 : BitVec 32 := 256#32
  let c3584_i32_115_r0 : BitVec 32 := 3584#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v78_r0 : BitVec 32 := Scalar.addi arg12_r0 v4
  let v162_r0 : BitVec 32 := Scalar.addi c3584_i32_115_r0 v78_r0
  let v163_r0 : BitVec 32 := Scalar.muli c256_i32_116_r0 v162_r0
  ![0, v163_r0.toNat]
def k14_off9 (arg9_r0 : BitVec 32) : Fin 1 → Nat :=
  let c2_i32_117_r0 : BitVec 32 := 2#32
  let v164_r0 : BitVec 32 := Scalar.remui arg9_r0 c2_i32_117_r0
  ![v164_r0.toNat]
def k14_off10 (arg10_r0 : BitVec 32) : Fin 3 → Nat :=
  let c2_i32_97_r0 : BitVec 32 := 2#32
  let v127_r0 : BitVec 32 := Scalar.remui arg10_r0 c2_i32_97_r0
  let c0_i32_115_r1 : BitVec 32 := 0#32
  let c0_i32_116_r1 : BitVec 32 := 0#32
  ![v127_r0.toNat, 0, 0]

def k14_chk2 (arg10_r0 : BitVec 32) : Prop :=
  (∀ a, (k14_off10 arg10_r0) a + S1x256x128.size a ≤ S2x256x128.size a)
theorem k14_off10_inb : ∀ (arg10_r0 : BitVec 32) (k14_hw2 : k14_chk2 arg10_r0), ∀ a, (k14_off10 arg10_r0) a + S1x256x128.size a ≤ S2x256x128.size a := fun arg10_r0 k14_hw2 => k14_hw2

def k14_off11 (arg9_r0 : BitVec 32) : Fin 3 → Nat :=
  let c2_i32_96_r0 : BitVec 32 := 2#32
  let v126_r0 : BitVec 32 := Scalar.remui arg9_r0 c2_i32_96_r0
  let c0_i32_117_r1 : BitVec 32 := 0#32
  let c0_i32_118_r1 : BitVec 32 := 0#32
  ![v126_r0.toNat, 0, 0]

def k14_chk3 (arg9_r0 : BitVec 32) : Prop :=
  (∀ a, (k14_off11 arg9_r0) a + S1x1x256.size a ≤ S2x1x256.size a)
theorem k14_off11_inb : ∀ (arg9_r0 : BitVec 32) (k14_hw3 : k14_chk3 arg9_r0), ∀ a, (k14_off11 arg9_r0) a + S1x1x256.size a ≤ S2x1x256.size a := fun arg9_r0 k14_hw3 => k14_hw3

def k14_off12 (arg10_r0 : BitVec 32) : Fin 3 → Nat :=
  let c2_i32_115_r0 : BitVec 32 := 2#32
  let v162_r0 : BitVec 32 := Scalar.remui arg10_r0 c2_i32_115_r0
  let c0_i32_118_r0 : BitVec 32 := 0#32
  let c0_i32_119_r0 : BitVec 32 := 0#32
  ![v162_r0.toNat, 0, 0]
def k14_cond5 (i : grid14.Coords) (k14_t1 : Fin k14_t1_loop.trips) (arg12_r0 : BitVec 32) : BitVec 1 :=
  let c0_i32_86_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v78_r0 : BitVec 32 := Scalar.addi arg12_r0 v4
  let v106_r0 : BitVec 32 := Scalar.addi c0_i32_86_r0 v78_r0
  let c0_i32_87_r0 : BitVec 32 := 0#32
  let true_71_r0 : BitVec 1 := 1#1
  let c1_i32_70_r0 : BitVec 32 := 1#32
  let v84_r0 : BitVec 32 := Scalar.addi arg12_r0 c1_i32_70_r0
  let v85_r0 : BitVec 32 := Scalar.select true_71_r0 v84_r0 arg12_r0
  let c16_i32_72_r0 : BitVec 32 := 16#32
  let v86_r0 : BitVec 1 := Scalar.cmpi .eq v85_r0 c16_i32_72_r0
  let c0_i32_73_r0 : BitVec 32 := 0#32
  let v87_r0 : BitVec 32 := Scalar.select v86_r0 c0_i32_73_r0 v85_r0
  let v88_r0 : BitVec 32 := Scalar.addi v87_r0 v4
  let v107_r0 : BitVec 32 := Scalar.addi c0_i32_87_r0 v88_r0
  let v133_r0 : BitVec 1 := Scalar.cmpi .ne v106_r0 v107_r0
  let c0_i32_35_r0 : BitVec 32 := 0#32
  let c1_i32_37_r0 : BitVec 32 := 1#32
  let arg7_r0 : BitVec 32 := Scf.iv c0_i32_35_r0 c1_i32_37_r0 k14_t1
  let c15_i32_65_r0 : BitVec 32 := 15#32
  let v77_r0 : BitVec 1 := Scalar.cmpi .eq arg7_r0 c15_i32_65_r0
  let v134_r0 : BitVec 1 := Scalar.ori v133_r0 v77_r0
  let v135_r0 : BitVec 32 := Scalar.extui v134_r0
  let c0_i32_100_r0 : BitVec 32 := 0#32
  let v136_r0 : BitVec 1 := Scalar.cmpi .ne v135_r0 c0_i32_100_r0
  v136_r0

def k14_off13 (i : grid14.Coords) (arg12_r0 : BitVec 32) : Fin 2 → Nat :=
  let c256_i32_117_r0 : BitVec 32 := 256#32
  let c0_i32_116_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v78_r0 : BitVec 32 := Scalar.addi arg12_r0 v4
  let v163_r0 : BitVec 32 := Scalar.addi c0_i32_116_r0 v78_r0
  let v164_r0 : BitVec 32 := Scalar.muli c256_i32_117_r0 v163_r0
  let c0_i32_120_r0 : BitVec 32 := 0#32
  ![v164_r0.toNat, 0]
def k14_off14 (arg10_r0 : BitVec 32) : Fin 1 → Nat :=
  let c2_i32_115_r0 : BitVec 32 := 2#32
  let v162_r0 : BitVec 32 := Scalar.remui arg10_r0 c2_i32_115_r0
  ![v162_r0.toNat]
def k14_off15 (arg11_r0 : BitVec 32) : Fin 3 → Nat :=
  let c2_i32_115_r0 : BitVec 32 := 2#32
  let v162_r0 : BitVec 32 := Scalar.remui arg11_r0 c2_i32_115_r0
  let c0_i32_118_r0 : BitVec 32 := 0#32
  let c0_i32_119_r0 : BitVec 32 := 0#32
  ![v162_r0.toNat, 0, 0]
def k14_cond7 (i : grid14.Coords) (k14_t1 : Fin k14_t1_loop.trips) (arg12_r0 : BitVec 32) : BitVec 1 :=
  let c0_i32_86_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v78_r0 : BitVec 32 := Scalar.addi arg12_r0 v4
  let v106_r0 : BitVec 32 := Scalar.addi c0_i32_86_r0 v78_r0
  let c0_i32_93_r0 : BitVec 32 := 0#32
  let true_67_r0 : BitVec 1 := 1#1
  let c1_i32_66_r0 : BitVec 32 := 1#32
  let v79_r0 : BitVec 32 := Scalar.subi arg12_r0 c1_i32_66_r0
  let v80_r0 : BitVec 32 := Scalar.select true_67_r0 v79_r0 arg12_r0
  let c_m1_i32_68_r0 : BitVec 32 := 4294967295#32
  let v81_r0 : BitVec 1 := Scalar.cmpi .eq v80_r0 c_m1_i32_68_r0
  let c15_i32_69_r0 : BitVec 32 := 15#32
  let v82_r0 : BitVec 32 := Scalar.select v81_r0 c15_i32_69_r0 v80_r0
  let v83_r0 : BitVec 32 := Scalar.addi v82_r0 v4
  let v119_r0 : BitVec 32 := Scalar.addi c0_i32_93_r0 v83_r0
  let v146_r0 : BitVec 1 := Scalar.cmpi .ne v106_r0 v119_r0
  let c0_i32_35_r0 : BitVec 32 := 0#32
  let c1_i32_37_r0 : BitVec 32 := 1#32
  let arg7_r0 : BitVec 32 := Scf.iv c0_i32_35_r0 c1_i32_37_r0 k14_t1
  let c0_i32_64_r0 : BitVec 32 := 0#32
  let v76_r0 : BitVec 1 := Scalar.cmpi .eq arg7_r0 c0_i32_64_r0
  let true_106_r0 : BitVec 1 := 1#1
  let v147_r0 : BitVec 1 := Scalar.xori v76_r0 true_106_r0
  let v148_r0 : BitVec 1 := Scalar.andi v146_r0 v147_r0
  let v149_r0 : BitVec 32 := Scalar.extui v148_r0
  let c0_i32_107_r0 : BitVec 32 := 0#32
  let v150_r0 : BitVec 1 := Scalar.cmpi .ne v149_r0 c0_i32_107_r0
  v150_r0

def k14_off16 (i : grid14.Coords) (arg12_r0 : BitVec 32) : Fin 2 → Nat :=
  let c256_i32_117_r0 : BitVec 32 := 256#32
  let c0_i32_116_r0 : BitVec 32 := 0#32
  let true_67_r0 : BitVec 1 := 1#1
  let c1_i32_66_r0 : BitVec 32 := 1#32
  let v79_r0 : BitVec 32 := Scalar.subi arg12_r0 c1_i32_66_r0
  let v80_r0 : BitVec 32 := Scalar.select true_67_r0 v79_r0 arg12_r0
  let c_m1_i32_68_r0 : BitVec 32 := 4294967295#32
  let v81_r0 : BitVec 1 := Scalar.cmpi .eq v80_r0 c_m1_i32_68_r0
  let c15_i32_69_r0 : BitVec 32 := 15#32
  let v82_r0 : BitVec 32 := Scalar.select v81_r0 c15_i32_69_r0 v80_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v83_r0 : BitVec 32 := Scalar.addi v82_r0 v4
  let v163_r0 : BitVec 32 := Scalar.addi c0_i32_116_r0 v83_r0
  let v164_r0 : BitVec 32 := Scalar.muli c256_i32_117_r0 v163_r0
  let c0_i32_120_r0 : BitVec 32 := 0#32
  ![v164_r0.toNat, 0]
def k14_off17 (arg11_r0 : BitVec 32) : Fin 1 → Nat :=
  let c2_i32_115_r0 : BitVec 32 := 2#32
  let v162_r0 : BitVec 32 := Scalar.remui arg11_r0 c2_i32_115_r0
  ![v162_r0.toNat]

def k14_chk1 (i : grid14.Coords) (k14_t1 : Fin k14_t1_loop.trips) (arg8_r0 : BitVec 32) (arg9_r0 : BitVec 32) (arg10_r0 : BitVec 32) (arg11_r0 : BitVec 32) (arg12_r0 : BitVec 32) : Prop :=
  (∀ (k14_h1 : k14_cond1 i k14_t1 arg12_r0 = 1#1), ∀ a, (k14_off4 arg8_r0) a + S1x1x256.size a ≤ S2x1x256.size a) ∧
  (∀ (k14_h1 : k14_cond1 i k14_t1 arg12_r0 = 1#1), ∀ a, (k14_off5 i arg12_r0) a + S1x256.size a ≤ S3x1048576.size a) ∧
  (∀ (k14_h1 : k14_cond1 i k14_t1 arg12_r0 = 1#1), ∀ a, (k14_off6 arg8_r0) a + S1.size a ≤ S2.size a) ∧
  (∀ (k14_h2 : k14_cond2 i k14_t1 arg12_r0 = 1#1), ∀ a, (k14_off7 arg9_r0) a + S1x1x256.size a ≤ S2x1x256.size a) ∧
  (∀ (k14_h2 : k14_cond2 i k14_t1 arg12_r0 = 1#1), ∀ a, (k14_off8 i arg12_r0) a + S1x256.size a ≤ S3x1048576.size a) ∧
  (∀ (k14_h2 : k14_cond2 i k14_t1 arg12_r0 = 1#1), ∀ a, (k14_off9 arg9_r0) a + S1.size a ≤ S2.size a) ∧
  (∀ (k14_h5 : k14_cond5 i k14_t1 arg12_r0 = 1#1), ∀ a, (k14_off12 arg10_r0) a + S1x256x128.size a ≤ S2x256x128.size a) ∧
  (∀ (k14_h5 : k14_cond5 i k14_t1 arg12_r0 = 1#1), ∀ a, (k14_off13 i arg12_r0) a + S256x128.size a ≤ S393216x128.size a) ∧
  (∀ (k14_h5 : k14_cond5 i k14_t1 arg12_r0 = 1#1), ∀ a, (k14_off14 arg10_r0) a + S1.size a ≤ S2.size a) ∧
  (∀ (k14_h7 : k14_cond7 i k14_t1 arg12_r0 = 1#1), ∀ a, (k14_off15 arg11_r0) a + S1x256x128.size a ≤ S2x256x128.size a) ∧
  (∀ (k14_h7 : k14_cond7 i k14_t1 arg12_r0 = 1#1), ∀ a, (k14_off16 i arg12_r0) a + S256x128.size a ≤ S393216x128.size a) ∧
  (∀ (k14_h7 : k14_cond7 i k14_t1 arg12_r0 = 1#1), ∀ a, (k14_off17 arg11_r0) a + S1.size a ≤ S2.size a)
theorem k14_off4_inb : ∀ (i : grid14.Coords) (k14_t1 : Fin k14_t1_loop.trips) (arg8_r0 : BitVec 32) (arg9_r0 : BitVec 32) (arg10_r0 : BitVec 32) (arg11_r0 : BitVec 32) (arg12_r0 : BitVec 32) (k14_hw1 : k14_chk1 i k14_t1 arg8_r0 arg9_r0 arg10_r0 arg11_r0 arg12_r0), ∀ (k14_h1 : k14_cond1 i k14_t1 arg12_r0 = 1#1), ∀ a, (k14_off4 arg8_r0) a + S1x1x256.size a ≤ S2x1x256.size a := fun i k14_t1 arg8_r0 arg9_r0 arg10_r0 arg11_r0 arg12_r0 k14_hw1 k14_h1 => k14_hw1.1 k14_h1
theorem k14_off5_inb : ∀ (i : grid14.Coords) (k14_t1 : Fin k14_t1_loop.trips) (arg8_r0 : BitVec 32) (arg9_r0 : BitVec 32) (arg10_r0 : BitVec 32) (arg11_r0 : BitVec 32) (arg12_r0 : BitVec 32) (k14_hw1 : k14_chk1 i k14_t1 arg8_r0 arg9_r0 arg10_r0 arg11_r0 arg12_r0), ∀ (k14_h1 : k14_cond1 i k14_t1 arg12_r0 = 1#1), ∀ a, (k14_off5 i arg12_r0) a + S1x256.size a ≤ S3x1048576.size a := fun i k14_t1 arg8_r0 arg9_r0 arg10_r0 arg11_r0 arg12_r0 k14_hw1 k14_h1 => k14_hw1.2.1 k14_h1
theorem k14_off6_inb : ∀ (i : grid14.Coords) (k14_t1 : Fin k14_t1_loop.trips) (arg8_r0 : BitVec 32) (arg9_r0 : BitVec 32) (arg10_r0 : BitVec 32) (arg11_r0 : BitVec 32) (arg12_r0 : BitVec 32) (k14_hw1 : k14_chk1 i k14_t1 arg8_r0 arg9_r0 arg10_r0 arg11_r0 arg12_r0), ∀ (k14_h1 : k14_cond1 i k14_t1 arg12_r0 = 1#1), ∀ a, (k14_off6 arg8_r0) a + S1.size a ≤ S2.size a := fun i k14_t1 arg8_r0 arg9_r0 arg10_r0 arg11_r0 arg12_r0 k14_hw1 k14_h1 => k14_hw1.2.2.1 k14_h1
theorem k14_off7_inb : ∀ (i : grid14.Coords) (k14_t1 : Fin k14_t1_loop.trips) (arg8_r0 : BitVec 32) (arg9_r0 : BitVec 32) (arg10_r0 : BitVec 32) (arg11_r0 : BitVec 32) (arg12_r0 : BitVec 32) (k14_hw1 : k14_chk1 i k14_t1 arg8_r0 arg9_r0 arg10_r0 arg11_r0 arg12_r0), ∀ (k14_h2 : k14_cond2 i k14_t1 arg12_r0 = 1#1), ∀ a, (k14_off7 arg9_r0) a + S1x1x256.size a ≤ S2x1x256.size a := fun i k14_t1 arg8_r0 arg9_r0 arg10_r0 arg11_r0 arg12_r0 k14_hw1 k14_h2 => k14_hw1.2.2.2.1 k14_h2
theorem k14_off8_inb : ∀ (i : grid14.Coords) (k14_t1 : Fin k14_t1_loop.trips) (arg8_r0 : BitVec 32) (arg9_r0 : BitVec 32) (arg10_r0 : BitVec 32) (arg11_r0 : BitVec 32) (arg12_r0 : BitVec 32) (k14_hw1 : k14_chk1 i k14_t1 arg8_r0 arg9_r0 arg10_r0 arg11_r0 arg12_r0), ∀ (k14_h2 : k14_cond2 i k14_t1 arg12_r0 = 1#1), ∀ a, (k14_off8 i arg12_r0) a + S1x256.size a ≤ S3x1048576.size a := fun i k14_t1 arg8_r0 arg9_r0 arg10_r0 arg11_r0 arg12_r0 k14_hw1 k14_h2 => k14_hw1.2.2.2.2.1 k14_h2
theorem k14_off9_inb : ∀ (i : grid14.Coords) (k14_t1 : Fin k14_t1_loop.trips) (arg8_r0 : BitVec 32) (arg9_r0 : BitVec 32) (arg10_r0 : BitVec 32) (arg11_r0 : BitVec 32) (arg12_r0 : BitVec 32) (k14_hw1 : k14_chk1 i k14_t1 arg8_r0 arg9_r0 arg10_r0 arg11_r0 arg12_r0), ∀ (k14_h2 : k14_cond2 i k14_t1 arg12_r0 = 1#1), ∀ a, (k14_off9 arg9_r0) a + S1.size a ≤ S2.size a := fun i k14_t1 arg8_r0 arg9_r0 arg10_r0 arg11_r0 arg12_r0 k14_hw1 k14_h2 => k14_hw1.2.2.2.2.2.1 k14_h2
theorem k14_off12_inb : ∀ (i : grid14.Coords) (k14_t1 : Fin k14_t1_loop.trips) (arg8_r0 : BitVec 32) (arg9_r0 : BitVec 32) (arg10_r0 : BitVec 32) (arg11_r0 : BitVec 32) (arg12_r0 : BitVec 32) (k14_hw1 : k14_chk1 i k14_t1 arg8_r0 arg9_r0 arg10_r0 arg11_r0 arg12_r0), ∀ (k14_h5 : k14_cond5 i k14_t1 arg12_r0 = 1#1), ∀ a, (k14_off12 arg10_r0) a + S1x256x128.size a ≤ S2x256x128.size a := fun i k14_t1 arg8_r0 arg9_r0 arg10_r0 arg11_r0 arg12_r0 k14_hw1 k14_h5 => k14_hw1.2.2.2.2.2.2.1 k14_h5
theorem k14_off13_inb : ∀ (i : grid14.Coords) (k14_t1 : Fin k14_t1_loop.trips) (arg8_r0 : BitVec 32) (arg9_r0 : BitVec 32) (arg10_r0 : BitVec 32) (arg11_r0 : BitVec 32) (arg12_r0 : BitVec 32) (k14_hw1 : k14_chk1 i k14_t1 arg8_r0 arg9_r0 arg10_r0 arg11_r0 arg12_r0), ∀ (k14_h5 : k14_cond5 i k14_t1 arg12_r0 = 1#1), ∀ a, (k14_off13 i arg12_r0) a + S256x128.size a ≤ S393216x128.size a := fun i k14_t1 arg8_r0 arg9_r0 arg10_r0 arg11_r0 arg12_r0 k14_hw1 k14_h5 => k14_hw1.2.2.2.2.2.2.2.1 k14_h5
theorem k14_off14_inb : ∀ (i : grid14.Coords) (k14_t1 : Fin k14_t1_loop.trips) (arg8_r0 : BitVec 32) (arg9_r0 : BitVec 32) (arg10_r0 : BitVec 32) (arg11_r0 : BitVec 32) (arg12_r0 : BitVec 32) (k14_hw1 : k14_chk1 i k14_t1 arg8_r0 arg9_r0 arg10_r0 arg11_r0 arg12_r0), ∀ (k14_h5 : k14_cond5 i k14_t1 arg12_r0 = 1#1), ∀ a, (k14_off14 arg10_r0) a + S1.size a ≤ S2.size a := fun i k14_t1 arg8_r0 arg9_r0 arg10_r0 arg11_r0 arg12_r0 k14_hw1 k14_h5 => k14_hw1.2.2.2.2.2.2.2.2.1 k14_h5
theorem k14_off15_inb : ∀ (i : grid14.Coords) (k14_t1 : Fin k14_t1_loop.trips) (arg8_r0 : BitVec 32) (arg9_r0 : BitVec 32) (arg10_r0 : BitVec 32) (arg11_r0 : BitVec 32) (arg12_r0 : BitVec 32) (k14_hw1 : k14_chk1 i k14_t1 arg8_r0 arg9_r0 arg10_r0 arg11_r0 arg12_r0), ∀ (k14_h7 : k14_cond7 i k14_t1 arg12_r0 = 1#1), ∀ a, (k14_off15 arg11_r0) a + S1x256x128.size a ≤ S2x256x128.size a := fun i k14_t1 arg8_r0 arg9_r0 arg10_r0 arg11_r0 arg12_r0 k14_hw1 k14_h7 => k14_hw1.2.2.2.2.2.2.2.2.2.1 k14_h7
theorem k14_off16_inb : ∀ (i : grid14.Coords) (k14_t1 : Fin k14_t1_loop.trips) (arg8_r0 : BitVec 32) (arg9_r0 : BitVec 32) (arg10_r0 : BitVec 32) (arg11_r0 : BitVec 32) (arg12_r0 : BitVec 32) (k14_hw1 : k14_chk1 i k14_t1 arg8_r0 arg9_r0 arg10_r0 arg11_r0 arg12_r0), ∀ (k14_h7 : k14_cond7 i k14_t1 arg12_r0 = 1#1), ∀ a, (k14_off16 i arg12_r0) a + S256x128.size a ≤ S393216x128.size a := fun i k14_t1 arg8_r0 arg9_r0 arg10_r0 arg11_r0 arg12_r0 k14_hw1 k14_h7 => k14_hw1.2.2.2.2.2.2.2.2.2.2.1 k14_h7
theorem k14_off17_inb : ∀ (i : grid14.Coords) (k14_t1 : Fin k14_t1_loop.trips) (arg8_r0 : BitVec 32) (arg9_r0 : BitVec 32) (arg10_r0 : BitVec 32) (arg11_r0 : BitVec 32) (arg12_r0 : BitVec 32) (k14_hw1 : k14_chk1 i k14_t1 arg8_r0 arg9_r0 arg10_r0 arg11_r0 arg12_r0), ∀ (k14_h7 : k14_cond7 i k14_t1 arg12_r0 = 1#1), ∀ a, (k14_off17 arg11_r0) a + S1.size a ≤ S2.size a := fun i k14_t1 arg8_r0 arg9_r0 arg10_r0 arg11_r0 arg12_r0 k14_hw1 k14_h7 => k14_hw1.2.2.2.2.2.2.2.2.2.2.2 k14_h7

def k14_off18 (v44_3_r0 : BitVec 32) : Fin 3 → Nat :=
  let c2_i32_55_r0 : BitVec 32 := 2#32
  let v65_r0 : BitVec 32 := Scalar.remui v44_3_r0 c2_i32_55_r0
  let c0_i32_58_r0 : BitVec 32 := 0#32
  let c0_i32_59_r0 : BitVec 32 := 0#32
  ![v65_r0.toNat, 0, 0]

def k14_off19 (i : grid14.Coords) (v44_4_r0 : BitVec 32) : Fin 2 → Nat :=
  let c256_i32_57_r0 : BitVec 32 := 256#32
  let c0_i32_56_r0 : BitVec 32 := 0#32
  let true_40_r0 : BitVec 1 := 1#1
  let c1_i32_39_r0 : BitVec 32 := 1#32
  let v45_r0 : BitVec 32 := Scalar.subi v44_4_r0 c1_i32_39_r0
  let v46_r0 : BitVec 32 := Scalar.select true_40_r0 v45_r0 v44_4_r0
  let c_m1_i32_41_r0 : BitVec 32 := 4294967295#32
  let v47_r0 : BitVec 1 := Scalar.cmpi .eq v46_r0 c_m1_i32_41_r0
  let c15_i32_42_r0 : BitVec 32 := 15#32
  let v48_r0 : BitVec 32 := Scalar.select v47_r0 c15_i32_42_r0 v46_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v49_r0 : BitVec 32 := Scalar.addi v48_r0 v4
  let v66_r0 : BitVec 32 := Scalar.addi c0_i32_56_r0 v49_r0
  let v67_r0 : BitVec 32 := Scalar.muli c256_i32_57_r0 v66_r0
  let c0_i32_60_r0 : BitVec 32 := 0#32
  ![v67_r0.toNat, 0]

def k14_chk5 (i : grid14.Coords) (v44_4_r0 : BitVec 32) : Prop :=
  (∀ a, (k14_off19 i v44_4_r0) a + S256x128.size a ≤ S393216x128.size a)
theorem k14_off19_inb : ∀ (i : grid14.Coords) (v44_4_r0 : BitVec 32) (k14_hw5 : k14_chk5 i v44_4_r0), ∀ a, (k14_off19 i v44_4_r0) a + S256x128.size a ≤ S393216x128.size a := fun i v44_4_r0 k14_hw5 => k14_hw5

def k14_off20 (v44_3_r0 : BitVec 32) : Fin 1 → Nat :=
  let c2_i32_55_r0 : BitVec 32 := 2#32
  let v65_r0 : BitVec 32 := Scalar.remui v44_3_r0 c2_i32_55_r0
  ![v65_r0.toNat]
def k14_off21 (v44_3_r0 : BitVec 32) : Fin 3 → Nat :=
  let c2_i32_55_r0 : BitVec 32 := 2#32
  let v65_r0 : BitVec 32 := Scalar.remui v44_3_r0 c2_i32_55_r0
  let c0_i32_62_r0 : BitVec 32 := 0#32
  let c0_i32_63_r0 : BitVec 32 := 0#32
  ![v65_r0.toNat, 0, 0]

def k14_chk4 (v44_3_r0 : BitVec 32) : Prop :=
  (∀ a, (k14_off18 v44_3_r0) a + S1x256x128.size a ≤ S2x256x128.size a) ∧
  (∀ a, (k14_off20 v44_3_r0) a + S1.size a ≤ S2.size a) ∧
  (∀ a, (k14_off21 v44_3_r0) a + S1x256x128.size a ≤ S2x256x128.size a)
theorem k14_off18_inb : ∀ (v44_3_r0 : BitVec 32) (k14_hw4 : k14_chk4 v44_3_r0), ∀ a, (k14_off18 v44_3_r0) a + S1x256x128.size a ≤ S2x256x128.size a := fun v44_3_r0 k14_hw4 => k14_hw4.1
theorem k14_off20_inb : ∀ (v44_3_r0 : BitVec 32) (k14_hw4 : k14_chk4 v44_3_r0), ∀ a, (k14_off20 v44_3_r0) a + S1.size a ≤ S2.size a := fun v44_3_r0 k14_hw4 => k14_hw4.2.1
theorem k14_off21_inb : ∀ (v44_3_r0 : BitVec 32) (k14_hw4 : k14_chk4 v44_3_r0), ∀ a, (k14_off21 v44_3_r0) a + S1x256x128.size a ≤ S2x256x128.size a := fun v44_3_r0 k14_hw4 => k14_hw4.2.2

def k14_off22 : Fin 3 → Nat :=
  let c0_i32_22_r2 : BitVec 32 := 0#32
  let c2_i32_r2 : BitVec 32 := 2#32
  let v31_r2 : BitVec 32 := Scalar.remui c0_i32_22_r2 c2_i32_r2
  let c0_i32_23_r2 : BitVec 32 := 0#32
  let c0_i32_24_r2 : BitVec 32 := 0#32
  ![v31_r2.toNat, 0, 0]
def k14_off23 (i : grid14.Coords) : Fin 2 → Nat :=
  let c1_i32_25_r2 : BitVec 32 := 1#32
  let c256_i32_r2 : BitVec 32 := 256#32
  let c3584_i32_r2 : BitVec 32 := 3584#32
  let c0_i32_10_r2 : BitVec 32 := 0#32
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v17_r2 : BitVec 32 := Scalar.addi c0_i32_10_r2 v9
  let v32_r2 : BitVec 32 := Scalar.addi c3584_i32_r2 v17_r2
  let v33_r2 : BitVec 32 := Scalar.muli c256_i32_r2 v32_r2
  ![1, v33_r2.toNat]
def k14_off24 : Fin 1 → Nat :=
  let c0_i32_22_r2 : BitVec 32 := 0#32
  let c2_i32_r2 : BitVec 32 := 2#32
  let v31_r2 : BitVec 32 := Scalar.remui c0_i32_22_r2 c2_i32_r2
  ![v31_r2.toNat]
@[reducible] def k14_t2_loop : Scf.Loop 32 :=
  let c0_i32_35_r2 : BitVec 32 := 0#32
  let c16_i32_36_r2 : BitVec 32 := 16#32
  let v43_r2 : BitVec 32 := Scalar.addi c0_i32_35_r2 c16_i32_36_r2
  let c1_i32_37_r2 : BitVec 32 := 1#32
  ⟨c0_i32_35_r2, v43_r2, c1_i32_37_r2⟩
def k14_off25 (arg8_r2 : BitVec 32) : Fin 3 → Nat :=
  let c2_i32_114_r2 : BitVec 32 := 2#32
  let v162_r2 : BitVec 32 := Scalar.remui arg8_r2 c2_i32_114_r2
  let c0_i32_117_r2 : BitVec 32 := 0#32
  let c0_i32_118_r2 : BitVec 32 := 0#32
  ![v162_r2.toNat, 0, 0]
def k14_cond8 (i : grid14.Coords) (k14_t2 : Fin k14_t2_loop.trips) (arg12_r2 : BitVec 32) : BitVec 1 :=
  let c3584_i32_77_r2 : BitVec 32 := 3584#32
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v78_r2 : BitVec 32 := Scalar.addi arg12_r2 v9
  let v94_r2 : BitVec 32 := Scalar.addi c3584_i32_77_r2 v78_r2
  let c3584_i32_78_r2 : BitVec 32 := 3584#32
  let true_70_r2 : BitVec 1 := 1#1
  let c1_i32_69_r2 : BitVec 32 := 1#32
  let v84_r2 : BitVec 32 := Scalar.addi arg12_r2 c1_i32_69_r2
  let v85_r2 : BitVec 32 := Scalar.select true_70_r2 v84_r2 arg12_r2
  let c16_i32_71_r2 : BitVec 32 := 16#32
  let v86_r2 : BitVec 1 := Scalar.cmpi .eq v85_r2 c16_i32_71_r2
  let c0_i32_72_r2 : BitVec 32 := 0#32
  let v87_r2 : BitVec 32 := Scalar.select v86_r2 c0_i32_72_r2 v85_r2
  let v88_r2 : BitVec 32 := Scalar.addi v87_r2 v9
  let v95_r2 : BitVec 32 := Scalar.addi c3584_i32_78_r2 v88_r2
  let v96_r2 : BitVec 1 := Scalar.cmpi .ne v94_r2 v95_r2
  let c0_i32_35_r2 : BitVec 32 := 0#32
  let c1_i32_37_r2 : BitVec 32 := 1#32
  let arg7_r2 : BitVec 32 := Scf.iv c0_i32_35_r2 c1_i32_37_r2 k14_t2
  let c15_i32_79_r2 : BitVec 32 := 15#32
  let v97_r2 : BitVec 1 := Scalar.cmpi .sge arg7_r2 c15_i32_79_r2
  let true_80_r2 : BitVec 1 := 1#1
  let v98_r2 : BitVec 1 := Scalar.xori v97_r2 true_80_r2
  let v99_r2 : BitVec 1 := Scalar.andi v96_r2 v98_r2
  let true_81_r2 : BitVec 1 := 1#1
  let v100_r2 : BitVec 1 := Scalar.andi v99_r2 true_81_r2
  let v101_r2 : BitVec 32 := Scalar.extui v100_r2
  let c0_i32_82_r2 : BitVec 32 := 0#32
  let v102_r2 : BitVec 1 := Scalar.cmpi .ne v101_r2 c0_i32_82_r2
  v102_r2

def k14_off26 (i : grid14.Coords) (arg12_r2 : BitVec 32) : Fin 2 → Nat :=
  let c1_i32_119_r2 : BitVec 32 := 1#32
  let c256_i32_116_r2 : BitVec 32 := 256#32
  let c3584_i32_115_r2 : BitVec 32 := 3584#32
  let true_70_r2 : BitVec 1 := 1#1
  let c1_i32_69_r2 : BitVec 32 := 1#32
  let v84_r2 : BitVec 32 := Scalar.addi arg12_r2 c1_i32_69_r2
  let v85_r2 : BitVec 32 := Scalar.select true_70_r2 v84_r2 arg12_r2
  let c16_i32_71_r2 : BitVec 32 := 16#32
  let v86_r2 : BitVec 1 := Scalar.cmpi .eq v85_r2 c16_i32_71_r2
  let c0_i32_72_r2 : BitVec 32 := 0#32
  let v87_r2 : BitVec 32 := Scalar.select v86_r2 c0_i32_72_r2 v85_r2
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v88_r2 : BitVec 32 := Scalar.addi v87_r2 v9
  let v163_r2 : BitVec 32 := Scalar.addi c3584_i32_115_r2 v88_r2
  let v164_r2 : BitVec 32 := Scalar.muli c256_i32_116_r2 v163_r2
  ![1, v164_r2.toNat]
def k14_off27 (arg8_r2 : BitVec 32) : Fin 1 → Nat :=
  let c2_i32_114_r2 : BitVec 32 := 2#32
  let v162_r2 : BitVec 32 := Scalar.remui arg8_r2 c2_i32_114_r2
  ![v162_r2.toNat]
def k14_off28 (arg9_r2 : BitVec 32) : Fin 3 → Nat :=
  let c2_i32_116_r2 : BitVec 32 := 2#32
  let v164_r2 : BitVec 32 := Scalar.remui arg9_r2 c2_i32_116_r2
  let c0_i32_117_r2 : BitVec 32 := 0#32
  let c0_i32_118_r2 : BitVec 32 := 0#32
  ![v164_r2.toNat, 0, 0]
def k14_cond9 (i : grid14.Coords) (k14_t2 : Fin k14_t2_loop.trips) (arg12_r2 : BitVec 32) : BitVec 1 :=
  let c3584_i32_77_r2 : BitVec 32 := 3584#32
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v78_r2 : BitVec 32 := Scalar.addi arg12_r2 v9
  let v94_r2 : BitVec 32 := Scalar.addi c3584_i32_77_r2 v78_r2
  let c3584_i32_89_r2 : BitVec 32 := 3584#32
  let true_66_r2 : BitVec 1 := 1#1
  let c1_i32_65_r2 : BitVec 32 := 1#32
  let v79_r2 : BitVec 32 := Scalar.subi arg12_r2 c1_i32_65_r2
  let v80_r2 : BitVec 32 := Scalar.select true_66_r2 v79_r2 arg12_r2
  let c_m1_i32_67_r2 : BitVec 32 := 4294967295#32
  let v81_r2 : BitVec 1 := Scalar.cmpi .eq v80_r2 c_m1_i32_67_r2
  let c15_i32_68_r2 : BitVec 32 := 15#32
  let v82_r2 : BitVec 32 := Scalar.select v81_r2 c15_i32_68_r2 v80_r2
  let v83_r2 : BitVec 32 := Scalar.addi v82_r2 v9
  let v112_r2 : BitVec 32 := Scalar.addi c3584_i32_89_r2 v83_r2
  let v113_r2 : BitVec 1 := Scalar.cmpi .ne v94_r2 v112_r2
  let c0_i32_35_r2 : BitVec 32 := 0#32
  let c1_i32_37_r2 : BitVec 32 := 1#32
  let arg7_r2 : BitVec 32 := Scf.iv c0_i32_35_r2 c1_i32_37_r2 k14_t2
  let c0_i32_63_r2 : BitVec 32 := 0#32
  let v76_r2 : BitVec 1 := Scalar.cmpi .eq arg7_r2 c0_i32_63_r2
  let v114_r2 : BitVec 1 := Scalar.ori v113_r2 v76_r2
  let c0_i32_90_r2 : BitVec 32 := 0#32
  let v115_r2 : BitVec 1 := Scalar.cmpi .sge arg7_r2 c0_i32_90_r2
  let v116_r2 : BitVec 1 := Scalar.andi v114_r2 v115_r2
  let v117_r2 : BitVec 32 := Scalar.extui v116_r2
  let c0_i32_91_r2 : BitVec 32 := 0#32
  let v118_r2 : BitVec 1 := Scalar.cmpi .ne v117_r2 c0_i32_91_r2
  v118_r2

def k14_off29 (i : grid14.Coords) (arg12_r2 : BitVec 32) : Fin 2 → Nat :=
  let c1_i32_119_r2 : BitVec 32 := 1#32
  let c256_i32_115_r2 : BitVec 32 := 256#32
  let c3584_i32_114_r2 : BitVec 32 := 3584#32
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v78_r2 : BitVec 32 := Scalar.addi arg12_r2 v9
  let v162_r2 : BitVec 32 := Scalar.addi c3584_i32_114_r2 v78_r2
  let v163_r2 : BitVec 32 := Scalar.muli c256_i32_115_r2 v162_r2
  ![1, v163_r2.toNat]
def k14_off30 (arg9_r2 : BitVec 32) : Fin 1 → Nat :=
  let c2_i32_116_r2 : BitVec 32 := 2#32
  let v164_r2 : BitVec 32 := Scalar.remui arg9_r2 c2_i32_116_r2
  ![v164_r2.toNat]
def k14_off31 (arg10_r2 : BitVec 32) : Fin 3 → Nat :=
  let c2_i32_96_r2 : BitVec 32 := 2#32
  let v127_r2 : BitVec 32 := Scalar.remui arg10_r2 c2_i32_96_r2
  let c0_i32_114_r3 : BitVec 32 := 0#32
  let c0_i32_115_r3 : BitVec 32 := 0#32
  ![v127_r2.toNat, 0, 0]

def k14_chk7 (arg10_r2 : BitVec 32) : Prop :=
  (∀ a, (k14_off31 arg10_r2) a + S1x256x128.size a ≤ S2x256x128.size a)
theorem k14_off31_inb : ∀ (arg10_r2 : BitVec 32) (k14_hw7 : k14_chk7 arg10_r2), ∀ a, (k14_off31 arg10_r2) a + S1x256x128.size a ≤ S2x256x128.size a := fun arg10_r2 k14_hw7 => k14_hw7

def k14_off32 (arg9_r2 : BitVec 32) : Fin 3 → Nat :=
  let c2_i32_95_r2 : BitVec 32 := 2#32
  let v126_r2 : BitVec 32 := Scalar.remui arg9_r2 c2_i32_95_r2
  let c0_i32_116_r3 : BitVec 32 := 0#32
  let c0_i32_117_r3 : BitVec 32 := 0#32
  ![v126_r2.toNat, 0, 0]

def k14_chk8 (arg9_r2 : BitVec 32) : Prop :=
  (∀ a, (k14_off32 arg9_r2) a + S1x1x256.size a ≤ S2x1x256.size a)
theorem k14_off32_inb : ∀ (arg9_r2 : BitVec 32) (k14_hw8 : k14_chk8 arg9_r2), ∀ a, (k14_off32 arg9_r2) a + S1x1x256.size a ≤ S2x1x256.size a := fun arg9_r2 k14_hw8 => k14_hw8

def k14_off33 (arg10_r2 : BitVec 32) : Fin 3 → Nat :=
  let c2_i32_114_r2 : BitVec 32 := 2#32
  let v162_r2 : BitVec 32 := Scalar.remui arg10_r2 c2_i32_114_r2
  let c0_i32_117_r2 : BitVec 32 := 0#32
  let c0_i32_118_r2 : BitVec 32 := 0#32
  ![v162_r2.toNat, 0, 0]
def k14_cond12 (i : grid14.Coords) (k14_t2 : Fin k14_t2_loop.trips) (arg12_r2 : BitVec 32) : BitVec 1 :=
  let c512_i32_85_r2 : BitVec 32 := 512#32
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v78_r2 : BitVec 32 := Scalar.addi arg12_r2 v9
  let v106_r2 : BitVec 32 := Scalar.addi c512_i32_85_r2 v78_r2
  let c512_i32_86_r2 : BitVec 32 := 512#32
  let true_70_r2 : BitVec 1 := 1#1
  let c1_i32_69_r2 : BitVec 32 := 1#32
  let v84_r2 : BitVec 32 := Scalar.addi arg12_r2 c1_i32_69_r2
  let v85_r2 : BitVec 32 := Scalar.select true_70_r2 v84_r2 arg12_r2
  let c16_i32_71_r2 : BitVec 32 := 16#32
  let v86_r2 : BitVec 1 := Scalar.cmpi .eq v85_r2 c16_i32_71_r2
  let c0_i32_72_r2 : BitVec 32 := 0#32
  let v87_r2 : BitVec 32 := Scalar.select v86_r2 c0_i32_72_r2 v85_r2
  let v88_r2 : BitVec 32 := Scalar.addi v87_r2 v9
  let v107_r2 : BitVec 32 := Scalar.addi c512_i32_86_r2 v88_r2
  let v133_r2 : BitVec 1 := Scalar.cmpi .ne v106_r2 v107_r2
  let c0_i32_35_r2 : BitVec 32 := 0#32
  let c1_i32_37_r2 : BitVec 32 := 1#32
  let arg7_r2 : BitVec 32 := Scf.iv c0_i32_35_r2 c1_i32_37_r2 k14_t2
  let c15_i32_64_r2 : BitVec 32 := 15#32
  let v77_r2 : BitVec 1 := Scalar.cmpi .eq arg7_r2 c15_i32_64_r2
  let v134_r2 : BitVec 1 := Scalar.ori v133_r2 v77_r2
  let v135_r2 : BitVec 32 := Scalar.extui v134_r2
  let c0_i32_99_r2 : BitVec 32 := 0#32
  let v136_r2 : BitVec 1 := Scalar.cmpi .ne v135_r2 c0_i32_99_r2
  v136_r2

def k14_off34 (i : grid14.Coords) (arg12_r2 : BitVec 32) : Fin 2 → Nat :=
  let c256_i32_116_r2 : BitVec 32 := 256#32
  let c512_i32_115_r2 : BitVec 32 := 512#32
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v78_r2 : BitVec 32 := Scalar.addi arg12_r2 v9
  let v163_r2 : BitVec 32 := Scalar.addi c512_i32_115_r2 v78_r2
  let v164_r2 : BitVec 32 := Scalar.muli c256_i32_116_r2 v163_r2
  let c0_i32_119_r2 : BitVec 32 := 0#32
  ![v164_r2.toNat, 0]
def k14_off35 (arg10_r2 : BitVec 32) : Fin 1 → Nat :=
  let c2_i32_114_r2 : BitVec 32 := 2#32
  let v162_r2 : BitVec 32 := Scalar.remui arg10_r2 c2_i32_114_r2
  ![v162_r2.toNat]
def k14_off36 (arg11_r2 : BitVec 32) : Fin 3 → Nat :=
  let c2_i32_114_r2 : BitVec 32 := 2#32
  let v162_r2 : BitVec 32 := Scalar.remui arg11_r2 c2_i32_114_r2
  let c0_i32_117_r2 : BitVec 32 := 0#32
  let c0_i32_118_r2 : BitVec 32 := 0#32
  ![v162_r2.toNat, 0, 0]
def k14_cond14 (i : grid14.Coords) (k14_t2 : Fin k14_t2_loop.trips) (arg12_r2 : BitVec 32) : BitVec 1 :=
  let c512_i32_85_r2 : BitVec 32 := 512#32
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v78_r2 : BitVec 32 := Scalar.addi arg12_r2 v9
  let v106_r2 : BitVec 32 := Scalar.addi c512_i32_85_r2 v78_r2
  let c512_i32_92_r2 : BitVec 32 := 512#32
  let true_66_r2 : BitVec 1 := 1#1
  let c1_i32_65_r2 : BitVec 32 := 1#32
  let v79_r2 : BitVec 32 := Scalar.subi arg12_r2 c1_i32_65_r2
  let v80_r2 : BitVec 32 := Scalar.select true_66_r2 v79_r2 arg12_r2
  let c_m1_i32_67_r2 : BitVec 32 := 4294967295#32
  let v81_r2 : BitVec 1 := Scalar.cmpi .eq v80_r2 c_m1_i32_67_r2
  let c15_i32_68_r2 : BitVec 32 := 15#32
  let v82_r2 : BitVec 32 := Scalar.select v81_r2 c15_i32_68_r2 v80_r2
  let v83_r2 : BitVec 32 := Scalar.addi v82_r2 v9
  let v119_r2 : BitVec 32 := Scalar.addi c512_i32_92_r2 v83_r2
  let v146_r2 : BitVec 1 := Scalar.cmpi .ne v106_r2 v119_r2
  let c0_i32_35_r2 : BitVec 32 := 0#32
  let c1_i32_37_r2 : BitVec 32 := 1#32
  let arg7_r2 : BitVec 32 := Scf.iv c0_i32_35_r2 c1_i32_37_r2 k14_t2
  let c0_i32_63_r2 : BitVec 32 := 0#32
  let v76_r2 : BitVec 1 := Scalar.cmpi .eq arg7_r2 c0_i32_63_r2
  let true_105_r2 : BitVec 1 := 1#1
  let v147_r2 : BitVec 1 := Scalar.xori v76_r2 true_105_r2
  let v148_r2 : BitVec 1 := Scalar.andi v146_r2 v147_r2
  let v149_r2 : BitVec 32 := Scalar.extui v148_r2
  let c0_i32_106_r2 : BitVec 32 := 0#32
  let v150_r2 : BitVec 1 := Scalar.cmpi .ne v149_r2 c0_i32_106_r2
  v150_r2

def k14_off37 (i : grid14.Coords) (arg12_r2 : BitVec 32) : Fin 2 → Nat :=
  let c256_i32_116_r2 : BitVec 32 := 256#32
  let c512_i32_115_r2 : BitVec 32 := 512#32
  let true_66_r2 : BitVec 1 := 1#1
  let c1_i32_65_r2 : BitVec 32 := 1#32
  let v79_r2 : BitVec 32 := Scalar.subi arg12_r2 c1_i32_65_r2
  let v80_r2 : BitVec 32 := Scalar.select true_66_r2 v79_r2 arg12_r2
  let c_m1_i32_67_r2 : BitVec 32 := 4294967295#32
  let v81_r2 : BitVec 1 := Scalar.cmpi .eq v80_r2 c_m1_i32_67_r2
  let c15_i32_68_r2 : BitVec 32 := 15#32
  let v82_r2 : BitVec 32 := Scalar.select v81_r2 c15_i32_68_r2 v80_r2
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v83_r2 : BitVec 32 := Scalar.addi v82_r2 v9
  let v163_r2 : BitVec 32 := Scalar.addi c512_i32_115_r2 v83_r2
  let v164_r2 : BitVec 32 := Scalar.muli c256_i32_116_r2 v163_r2
  let c0_i32_119_r2 : BitVec 32 := 0#32
  ![v164_r2.toNat, 0]
def k14_off38 (arg11_r2 : BitVec 32) : Fin 1 → Nat :=
  let c2_i32_114_r2 : BitVec 32 := 2#32
  let v162_r2 : BitVec 32 := Scalar.remui arg11_r2 c2_i32_114_r2
  ![v162_r2.toNat]

def k14_chk6 (i : grid14.Coords) (k14_t2 : Fin k14_t2_loop.trips) (arg8_r2 : BitVec 32) (arg9_r2 : BitVec 32) (arg10_r2 : BitVec 32) (arg11_r2 : BitVec 32) (arg12_r2 : BitVec 32) : Prop :=
  (∀ (k14_h8 : k14_cond8 i k14_t2 arg12_r2 = 1#1), ∀ a, (k14_off25 arg8_r2) a + S1x1x256.size a ≤ S2x1x256.size a) ∧
  (∀ (k14_h8 : k14_cond8 i k14_t2 arg12_r2 = 1#1), ∀ a, (k14_off26 i arg12_r2) a + S1x256.size a ≤ S3x1048576.size a) ∧
  (∀ (k14_h8 : k14_cond8 i k14_t2 arg12_r2 = 1#1), ∀ a, (k14_off27 arg8_r2) a + S1.size a ≤ S2.size a) ∧
  (∀ (k14_h9 : k14_cond9 i k14_t2 arg12_r2 = 1#1), ∀ a, (k14_off28 arg9_r2) a + S1x1x256.size a ≤ S2x1x256.size a) ∧
  (∀ (k14_h9 : k14_cond9 i k14_t2 arg12_r2 = 1#1), ∀ a, (k14_off29 i arg12_r2) a + S1x256.size a ≤ S3x1048576.size a) ∧
  (∀ (k14_h9 : k14_cond9 i k14_t2 arg12_r2 = 1#1), ∀ a, (k14_off30 arg9_r2) a + S1.size a ≤ S2.size a) ∧
  (∀ (k14_h12 : k14_cond12 i k14_t2 arg12_r2 = 1#1), ∀ a, (k14_off33 arg10_r2) a + S1x256x128.size a ≤ S2x256x128.size a) ∧
  (∀ (k14_h12 : k14_cond12 i k14_t2 arg12_r2 = 1#1), ∀ a, (k14_off34 i arg12_r2) a + S256x128.size a ≤ S393216x128.size a) ∧
  (∀ (k14_h12 : k14_cond12 i k14_t2 arg12_r2 = 1#1), ∀ a, (k14_off35 arg10_r2) a + S1.size a ≤ S2.size a) ∧
  (∀ (k14_h14 : k14_cond14 i k14_t2 arg12_r2 = 1#1), ∀ a, (k14_off36 arg11_r2) a + S1x256x128.size a ≤ S2x256x128.size a) ∧
  (∀ (k14_h14 : k14_cond14 i k14_t2 arg12_r2 = 1#1), ∀ a, (k14_off37 i arg12_r2) a + S256x128.size a ≤ S393216x128.size a) ∧
  (∀ (k14_h14 : k14_cond14 i k14_t2 arg12_r2 = 1#1), ∀ a, (k14_off38 arg11_r2) a + S1.size a ≤ S2.size a)
theorem k14_off25_inb : ∀ (i : grid14.Coords) (k14_t2 : Fin k14_t2_loop.trips) (arg8_r2 : BitVec 32) (arg9_r2 : BitVec 32) (arg10_r2 : BitVec 32) (arg11_r2 : BitVec 32) (arg12_r2 : BitVec 32) (k14_hw6 : k14_chk6 i k14_t2 arg8_r2 arg9_r2 arg10_r2 arg11_r2 arg12_r2), ∀ (k14_h8 : k14_cond8 i k14_t2 arg12_r2 = 1#1), ∀ a, (k14_off25 arg8_r2) a + S1x1x256.size a ≤ S2x1x256.size a := fun i k14_t2 arg8_r2 arg9_r2 arg10_r2 arg11_r2 arg12_r2 k14_hw6 k14_h8 => k14_hw6.1 k14_h8
theorem k14_off26_inb : ∀ (i : grid14.Coords) (k14_t2 : Fin k14_t2_loop.trips) (arg8_r2 : BitVec 32) (arg9_r2 : BitVec 32) (arg10_r2 : BitVec 32) (arg11_r2 : BitVec 32) (arg12_r2 : BitVec 32) (k14_hw6 : k14_chk6 i k14_t2 arg8_r2 arg9_r2 arg10_r2 arg11_r2 arg12_r2), ∀ (k14_h8 : k14_cond8 i k14_t2 arg12_r2 = 1#1), ∀ a, (k14_off26 i arg12_r2) a + S1x256.size a ≤ S3x1048576.size a := fun i k14_t2 arg8_r2 arg9_r2 arg10_r2 arg11_r2 arg12_r2 k14_hw6 k14_h8 => k14_hw6.2.1 k14_h8
theorem k14_off27_inb : ∀ (i : grid14.Coords) (k14_t2 : Fin k14_t2_loop.trips) (arg8_r2 : BitVec 32) (arg9_r2 : BitVec 32) (arg10_r2 : BitVec 32) (arg11_r2 : BitVec 32) (arg12_r2 : BitVec 32) (k14_hw6 : k14_chk6 i k14_t2 arg8_r2 arg9_r2 arg10_r2 arg11_r2 arg12_r2), ∀ (k14_h8 : k14_cond8 i k14_t2 arg12_r2 = 1#1), ∀ a, (k14_off27 arg8_r2) a + S1.size a ≤ S2.size a := fun i k14_t2 arg8_r2 arg9_r2 arg10_r2 arg11_r2 arg12_r2 k14_hw6 k14_h8 => k14_hw6.2.2.1 k14_h8
theorem k14_off28_inb : ∀ (i : grid14.Coords) (k14_t2 : Fin k14_t2_loop.trips) (arg8_r2 : BitVec 32) (arg9_r2 : BitVec 32) (arg10_r2 : BitVec 32) (arg11_r2 : BitVec 32) (arg12_r2 : BitVec 32) (k14_hw6 : k14_chk6 i k14_t2 arg8_r2 arg9_r2 arg10_r2 arg11_r2 arg12_r2), ∀ (k14_h9 : k14_cond9 i k14_t2 arg12_r2 = 1#1), ∀ a, (k14_off28 arg9_r2) a + S1x1x256.size a ≤ S2x1x256.size a := fun i k14_t2 arg8_r2 arg9_r2 arg10_r2 arg11_r2 arg12_r2 k14_hw6 k14_h9 => k14_hw6.2.2.2.1 k14_h9
theorem k14_off29_inb : ∀ (i : grid14.Coords) (k14_t2 : Fin k14_t2_loop.trips) (arg8_r2 : BitVec 32) (arg9_r2 : BitVec 32) (arg10_r2 : BitVec 32) (arg11_r2 : BitVec 32) (arg12_r2 : BitVec 32) (k14_hw6 : k14_chk6 i k14_t2 arg8_r2 arg9_r2 arg10_r2 arg11_r2 arg12_r2), ∀ (k14_h9 : k14_cond9 i k14_t2 arg12_r2 = 1#1), ∀ a, (k14_off29 i arg12_r2) a + S1x256.size a ≤ S3x1048576.size a := fun i k14_t2 arg8_r2 arg9_r2 arg10_r2 arg11_r2 arg12_r2 k14_hw6 k14_h9 => k14_hw6.2.2.2.2.1 k14_h9
theorem k14_off30_inb : ∀ (i : grid14.Coords) (k14_t2 : Fin k14_t2_loop.trips) (arg8_r2 : BitVec 32) (arg9_r2 : BitVec 32) (arg10_r2 : BitVec 32) (arg11_r2 : BitVec 32) (arg12_r2 : BitVec 32) (k14_hw6 : k14_chk6 i k14_t2 arg8_r2 arg9_r2 arg10_r2 arg11_r2 arg12_r2), ∀ (k14_h9 : k14_cond9 i k14_t2 arg12_r2 = 1#1), ∀ a, (k14_off30 arg9_r2) a + S1.size a ≤ S2.size a := fun i k14_t2 arg8_r2 arg9_r2 arg10_r2 arg11_r2 arg12_r2 k14_hw6 k14_h9 => k14_hw6.2.2.2.2.2.1 k14_h9
theorem k14_off33_inb : ∀ (i : grid14.Coords) (k14_t2 : Fin k14_t2_loop.trips) (arg8_r2 : BitVec 32) (arg9_r2 : BitVec 32) (arg10_r2 : BitVec 32) (arg11_r2 : BitVec 32) (arg12_r2 : BitVec 32) (k14_hw6 : k14_chk6 i k14_t2 arg8_r2 arg9_r2 arg10_r2 arg11_r2 arg12_r2), ∀ (k14_h12 : k14_cond12 i k14_t2 arg12_r2 = 1#1), ∀ a, (k14_off33 arg10_r2) a + S1x256x128.size a ≤ S2x256x128.size a := fun i k14_t2 arg8_r2 arg9_r2 arg10_r2 arg11_r2 arg12_r2 k14_hw6 k14_h12 => k14_hw6.2.2.2.2.2.2.1 k14_h12
theorem k14_off34_inb : ∀ (i : grid14.Coords) (k14_t2 : Fin k14_t2_loop.trips) (arg8_r2 : BitVec 32) (arg9_r2 : BitVec 32) (arg10_r2 : BitVec 32) (arg11_r2 : BitVec 32) (arg12_r2 : BitVec 32) (k14_hw6 : k14_chk6 i k14_t2 arg8_r2 arg9_r2 arg10_r2 arg11_r2 arg12_r2), ∀ (k14_h12 : k14_cond12 i k14_t2 arg12_r2 = 1#1), ∀ a, (k14_off34 i arg12_r2) a + S256x128.size a ≤ S393216x128.size a := fun i k14_t2 arg8_r2 arg9_r2 arg10_r2 arg11_r2 arg12_r2 k14_hw6 k14_h12 => k14_hw6.2.2.2.2.2.2.2.1 k14_h12
theorem k14_off35_inb : ∀ (i : grid14.Coords) (k14_t2 : Fin k14_t2_loop.trips) (arg8_r2 : BitVec 32) (arg9_r2 : BitVec 32) (arg10_r2 : BitVec 32) (arg11_r2 : BitVec 32) (arg12_r2 : BitVec 32) (k14_hw6 : k14_chk6 i k14_t2 arg8_r2 arg9_r2 arg10_r2 arg11_r2 arg12_r2), ∀ (k14_h12 : k14_cond12 i k14_t2 arg12_r2 = 1#1), ∀ a, (k14_off35 arg10_r2) a + S1.size a ≤ S2.size a := fun i k14_t2 arg8_r2 arg9_r2 arg10_r2 arg11_r2 arg12_r2 k14_hw6 k14_h12 => k14_hw6.2.2.2.2.2.2.2.2.1 k14_h12
theorem k14_off36_inb : ∀ (i : grid14.Coords) (k14_t2 : Fin k14_t2_loop.trips) (arg8_r2 : BitVec 32) (arg9_r2 : BitVec 32) (arg10_r2 : BitVec 32) (arg11_r2 : BitVec 32) (arg12_r2 : BitVec 32) (k14_hw6 : k14_chk6 i k14_t2 arg8_r2 arg9_r2 arg10_r2 arg11_r2 arg12_r2), ∀ (k14_h14 : k14_cond14 i k14_t2 arg12_r2 = 1#1), ∀ a, (k14_off36 arg11_r2) a + S1x256x128.size a ≤ S2x256x128.size a := fun i k14_t2 arg8_r2 arg9_r2 arg10_r2 arg11_r2 arg12_r2 k14_hw6 k14_h14 => k14_hw6.2.2.2.2.2.2.2.2.2.1 k14_h14
theorem k14_off37_inb : ∀ (i : grid14.Coords) (k14_t2 : Fin k14_t2_loop.trips) (arg8_r2 : BitVec 32) (arg9_r2 : BitVec 32) (arg10_r2 : BitVec 32) (arg11_r2 : BitVec 32) (arg12_r2 : BitVec 32) (k14_hw6 : k14_chk6 i k14_t2 arg8_r2 arg9_r2 arg10_r2 arg11_r2 arg12_r2), ∀ (k14_h14 : k14_cond14 i k14_t2 arg12_r2 = 1#1), ∀ a, (k14_off37 i arg12_r2) a + S256x128.size a ≤ S393216x128.size a := fun i k14_t2 arg8_r2 arg9_r2 arg10_r2 arg11_r2 arg12_r2 k14_hw6 k14_h14 => k14_hw6.2.2.2.2.2.2.2.2.2.2.1 k14_h14
theorem k14_off38_inb : ∀ (i : grid14.Coords) (k14_t2 : Fin k14_t2_loop.trips) (arg8_r2 : BitVec 32) (arg9_r2 : BitVec 32) (arg10_r2 : BitVec 32) (arg11_r2 : BitVec 32) (arg12_r2 : BitVec 32) (k14_hw6 : k14_chk6 i k14_t2 arg8_r2 arg9_r2 arg10_r2 arg11_r2 arg12_r2), ∀ (k14_h14 : k14_cond14 i k14_t2 arg12_r2 = 1#1), ∀ a, (k14_off38 arg11_r2) a + S1.size a ≤ S2.size a := fun i k14_t2 arg8_r2 arg9_r2 arg10_r2 arg11_r2 arg12_r2 k14_hw6 k14_h14 => k14_hw6.2.2.2.2.2.2.2.2.2.2.2 k14_h14

def k14_off39 (v44_3_r2 : BitVec 32) : Fin 3 → Nat :=
  let c2_i32_55_r2 : BitVec 32 := 2#32
  let v65_r2 : BitVec 32 := Scalar.remui v44_3_r2 c2_i32_55_r2
  let c0_i32_57_r2 : BitVec 32 := 0#32
  let c0_i32_58_r2 : BitVec 32 := 0#32
  ![v65_r2.toNat, 0, 0]

def k14_off40 (i : grid14.Coords) (v44_4_r2 : BitVec 32) : Fin 2 → Nat :=
  let c256_i32_56_r2 : BitVec 32 := 256#32
  let c512_i32_r2 : BitVec 32 := 512#32
  let true_40_r2 : BitVec 1 := 1#1
  let c1_i32_39_r2 : BitVec 32 := 1#32
  let v45_r2 : BitVec 32 := Scalar.subi v44_4_r2 c1_i32_39_r2
  let v46_r2 : BitVec 32 := Scalar.select true_40_r2 v45_r2 v44_4_r2
  let c_m1_i32_41_r2 : BitVec 32 := 4294967295#32
  let v47_r2 : BitVec 1 := Scalar.cmpi .eq v46_r2 c_m1_i32_41_r2
  let c15_i32_42_r2 : BitVec 32 := 15#32
  let v48_r2 : BitVec 32 := Scalar.select v47_r2 c15_i32_42_r2 v46_r2
  let c0_i32_2 : BitVec 32 := 0#32
  let arg1 : BitVec 32 := BitVec.ofNat 32 (i 1).val
  let c1_i32_1 : BitVec 32 := 1#32
  let v5 : BitVec 32 := Scalar.muli arg1 c1_i32_1
  let v6 : BitVec 32 := Scalar.addi c0_i32_2 v5
  let arg0 : BitVec 32 := BitVec.ofNat 32 (i 0).val
  let c16_i32_3 : BitVec 32 := 16#32
  let v7 : BitVec 32 := Scalar.muli arg0 c16_i32_3
  let v8 : BitVec 32 := Scalar.addi v6 v7
  let c16_i32_4 : BitVec 32 := 16#32
  let v9 : BitVec 32 := Scalar.muli v8 c16_i32_4
  let v49_r2 : BitVec 32 := Scalar.addi v48_r2 v9
  let v66_r2 : BitVec 32 := Scalar.addi c512_i32_r2 v49_r2
  let v67_r2 : BitVec 32 := Scalar.muli c256_i32_56_r2 v66_r2
  let c0_i32_59_r2 : BitVec 32 := 0#32
  ![v67_r2.toNat, 0]

def k14_chk10 (i : grid14.Coords) (v44_4_r2 : BitVec 32) : Prop :=
  (∀ a, (k14_off40 i v44_4_r2) a + S256x128.size a ≤ S393216x128.size a)
theorem k14_off40_inb : ∀ (i : grid14.Coords) (v44_4_r2 : BitVec 32) (k14_hw10 : k14_chk10 i v44_4_r2), ∀ a, (k14_off40 i v44_4_r2) a + S256x128.size a ≤ S393216x128.size a := fun i v44_4_r2 k14_hw10 => k14_hw10

def k14_off41 (v44_3_r2 : BitVec 32) : Fin 1 → Nat :=
  let c2_i32_55_r2 : BitVec 32 := 2#32
  let v65_r2 : BitVec 32 := Scalar.remui v44_3_r2 c2_i32_55_r2
  ![v65_r2.toNat]
def k14_off42 (v44_3_r2 : BitVec 32) : Fin 3 → Nat :=
  let c2_i32_55_r2 : BitVec 32 := 2#32
  let v65_r2 : BitVec 32 := Scalar.remui v44_3_r2 c2_i32_55_r2
  let c0_i32_61_r2 : BitVec 32 := 0#32
  let c0_i32_62_r2 : BitVec 32 := 0#32
  ![v65_r2.toNat, 0, 0]

def k14_chk9 (v44_3_r2 : BitVec 32) : Prop :=
  (∀ a, (k14_off39 v44_3_r2) a + S1x256x128.size a ≤ S2x256x128.size a) ∧
  (∀ a, (k14_off41 v44_3_r2) a + S1.size a ≤ S2.size a) ∧
  (∀ a, (k14_off42 v44_3_r2) a + S1x256x128.size a ≤ S2x256x128.size a)
theorem k14_off39_inb : ∀ (v44_3_r2 : BitVec 32) (k14_hw9 : k14_chk9 v44_3_r2), ∀ a, (k14_off39 v44_3_r2) a + S1x256x128.size a ≤ S2x256x128.size a := fun v44_3_r2 k14_hw9 => k14_hw9.1
theorem k14_off41_inb : ∀ (v44_3_r2 : BitVec 32) (k14_hw9 : k14_chk9 v44_3_r2), ∀ a, (k14_off41 v44_3_r2) a + S1.size a ≤ S2.size a := fun v44_3_r2 k14_hw9 => k14_hw9.2.1
theorem k14_off42_inb : ∀ (v44_3_r2 : BitVec 32) (k14_hw9 : k14_chk9 v44_3_r2), ∀ a, (k14_off42 v44_3_r2) a + S1x256x128.size a ≤ S2x256x128.size a := fun v44_3_r2 k14_hw9 => k14_hw9.2.2

def k14_off43 : Fin 3 → Nat :=
  let c0_i32_22_r4 : BitVec 32 := 0#32
  let c2_i32_r4 : BitVec 32 := 2#32
  let v31_r4 : BitVec 32 := Scalar.remui c0_i32_22_r4 c2_i32_r4
  let c0_i32_23_r4 : BitVec 32 := 0#32
  let c0_i32_24_r4 : BitVec 32 := 0#32
  ![v31_r4.toNat, 0, 0]
def k14_off44 (i : grid14.Coords) : Fin 2 → Nat :=
  let c2_i32_25_r4 : BitVec 32 := 2#32
  let c256_i32_r4 : BitVec 32 := 256#32
  let c3584_i32_r4 : BitVec 32 := 3584#32
  let c0_i32_10_r4 : BitVec 32 := 0#32
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v17_r4 : BitVec 32 := Scalar.addi c0_i32_10_r4 v14
  let v32_r4 : BitVec 32 := Scalar.addi c3584_i32_r4 v17_r4
  let v33_r4 : BitVec 32 := Scalar.muli c256_i32_r4 v32_r4
  ![2, v33_r4.toNat]
def k14_off45 : Fin 1 → Nat :=
  let c0_i32_22_r4 : BitVec 32 := 0#32
  let c2_i32_r4 : BitVec 32 := 2#32
  let v31_r4 : BitVec 32 := Scalar.remui c0_i32_22_r4 c2_i32_r4
  ![v31_r4.toNat]
@[reducible] def k14_t3_loop : Scf.Loop 32 :=
  let c0_i32_35_r4 : BitVec 32 := 0#32
  let c16_i32_36_r4 : BitVec 32 := 16#32
  let v43_r4 : BitVec 32 := Scalar.addi c0_i32_35_r4 c16_i32_36_r4
  let c1_i32_37_r4 : BitVec 32 := 1#32
  ⟨c0_i32_35_r4, v43_r4, c1_i32_37_r4⟩
def k14_off46 (arg8_r4 : BitVec 32) : Fin 3 → Nat :=
  let c2_i32_114_r4 : BitVec 32 := 2#32
  let v162_r4 : BitVec 32 := Scalar.remui arg8_r4 c2_i32_114_r4
  let c0_i32_117_r4 : BitVec 32 := 0#32
  let c0_i32_118_r4 : BitVec 32 := 0#32
  ![v162_r4.toNat, 0, 0]
def k14_cond15 (i : grid14.Coords) (k14_t3 : Fin k14_t3_loop.trips) (arg12_r4 : BitVec 32) : BitVec 1 :=
  let c3584_i32_77_r4 : BitVec 32 := 3584#32
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v78_r4 : BitVec 32 := Scalar.addi arg12_r4 v14
  let v94_r4 : BitVec 32 := Scalar.addi c3584_i32_77_r4 v78_r4
  let c3584_i32_78_r4 : BitVec 32 := 3584#32
  let true_70_r4 : BitVec 1 := 1#1
  let c1_i32_69_r4 : BitVec 32 := 1#32
  let v84_r4 : BitVec 32 := Scalar.addi arg12_r4 c1_i32_69_r4
  let v85_r4 : BitVec 32 := Scalar.select true_70_r4 v84_r4 arg12_r4
  let c16_i32_71_r4 : BitVec 32 := 16#32
  let v86_r4 : BitVec 1 := Scalar.cmpi .eq v85_r4 c16_i32_71_r4
  let c0_i32_72_r4 : BitVec 32 := 0#32
  let v87_r4 : BitVec 32 := Scalar.select v86_r4 c0_i32_72_r4 v85_r4
  let v88_r4 : BitVec 32 := Scalar.addi v87_r4 v14
  let v95_r4 : BitVec 32 := Scalar.addi c3584_i32_78_r4 v88_r4
  let v96_r4 : BitVec 1 := Scalar.cmpi .ne v94_r4 v95_r4
  let c0_i32_35_r4 : BitVec 32 := 0#32
  let c1_i32_37_r4 : BitVec 32 := 1#32
  let arg7_r4 : BitVec 32 := Scf.iv c0_i32_35_r4 c1_i32_37_r4 k14_t3
  let c15_i32_79_r4 : BitVec 32 := 15#32
  let v97_r4 : BitVec 1 := Scalar.cmpi .sge arg7_r4 c15_i32_79_r4
  let true_80_r4 : BitVec 1 := 1#1
  let v98_r4 : BitVec 1 := Scalar.xori v97_r4 true_80_r4
  let v99_r4 : BitVec 1 := Scalar.andi v96_r4 v98_r4
  let true_81_r4 : BitVec 1 := 1#1
  let v100_r4 : BitVec 1 := Scalar.andi v99_r4 true_81_r4
  let v101_r4 : BitVec 32 := Scalar.extui v100_r4
  let c0_i32_82_r4 : BitVec 32 := 0#32
  let v102_r4 : BitVec 1 := Scalar.cmpi .ne v101_r4 c0_i32_82_r4
  v102_r4

def k14_off47 (i : grid14.Coords) (arg12_r4 : BitVec 32) : Fin 2 → Nat :=
  let c2_i32_119_r4 : BitVec 32 := 2#32
  let c256_i32_116_r4 : BitVec 32 := 256#32
  let c3584_i32_115_r4 : BitVec 32 := 3584#32
  let true_70_r4 : BitVec 1 := 1#1
  let c1_i32_69_r4 : BitVec 32 := 1#32
  let v84_r4 : BitVec 32 := Scalar.addi arg12_r4 c1_i32_69_r4
  let v85_r4 : BitVec 32 := Scalar.select true_70_r4 v84_r4 arg12_r4
  let c16_i32_71_r4 : BitVec 32 := 16#32
  let v86_r4 : BitVec 1 := Scalar.cmpi .eq v85_r4 c16_i32_71_r4
  let c0_i32_72_r4 : BitVec 32 := 0#32
  let v87_r4 : BitVec 32 := Scalar.select v86_r4 c0_i32_72_r4 v85_r4
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v88_r4 : BitVec 32 := Scalar.addi v87_r4 v14
  let v163_r4 : BitVec 32 := Scalar.addi c3584_i32_115_r4 v88_r4
  let v164_r4 : BitVec 32 := Scalar.muli c256_i32_116_r4 v163_r4
  ![2, v164_r4.toNat]
def k14_off48 (arg8_r4 : BitVec 32) : Fin 1 → Nat :=
  let c2_i32_114_r4 : BitVec 32 := 2#32
  let v162_r4 : BitVec 32 := Scalar.remui arg8_r4 c2_i32_114_r4
  ![v162_r4.toNat]
def k14_off49 (arg9_r4 : BitVec 32) : Fin 3 → Nat :=
  let c2_i32_116_r4 : BitVec 32 := 2#32
  let v164_r4 : BitVec 32 := Scalar.remui arg9_r4 c2_i32_116_r4
  let c0_i32_117_r4 : BitVec 32 := 0#32
  let c0_i32_118_r4 : BitVec 32 := 0#32
  ![v164_r4.toNat, 0, 0]
def k14_cond16 (i : grid14.Coords) (k14_t3 : Fin k14_t3_loop.trips) (arg12_r4 : BitVec 32) : BitVec 1 :=
  let c3584_i32_77_r4 : BitVec 32 := 3584#32
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v78_r4 : BitVec 32 := Scalar.addi arg12_r4 v14
  let v94_r4 : BitVec 32 := Scalar.addi c3584_i32_77_r4 v78_r4
  let c3584_i32_89_r4 : BitVec 32 := 3584#32
  let true_66_r4 : BitVec 1 := 1#1
  let c1_i32_65_r4 : BitVec 32 := 1#32
  let v79_r4 : BitVec 32 := Scalar.subi arg12_r4 c1_i32_65_r4
  let v80_r4 : BitVec 32 := Scalar.select true_66_r4 v79_r4 arg12_r4
  let c_m1_i32_67_r4 : BitVec 32 := 4294967295#32
  let v81_r4 : BitVec 1 := Scalar.cmpi .eq v80_r4 c_m1_i32_67_r4
  let c15_i32_68_r4 : BitVec 32 := 15#32
  let v82_r4 : BitVec 32 := Scalar.select v81_r4 c15_i32_68_r4 v80_r4
  let v83_r4 : BitVec 32 := Scalar.addi v82_r4 v14
  let v112_r4 : BitVec 32 := Scalar.addi c3584_i32_89_r4 v83_r4
  let v113_r4 : BitVec 1 := Scalar.cmpi .ne v94_r4 v112_r4
  let c0_i32_35_r4 : BitVec 32 := 0#32
  let c1_i32_37_r4 : BitVec 32 := 1#32
  let arg7_r4 : BitVec 32 := Scf.iv c0_i32_35_r4 c1_i32_37_r4 k14_t3
  let c0_i32_63_r4 : BitVec 32 := 0#32
  let v76_r4 : BitVec 1 := Scalar.cmpi .eq arg7_r4 c0_i32_63_r4
  let v114_r4 : BitVec 1 := Scalar.ori v113_r4 v76_r4
  let c0_i32_90_r4 : BitVec 32 := 0#32
  let v115_r4 : BitVec 1 := Scalar.cmpi .sge arg7_r4 c0_i32_90_r4
  let v116_r4 : BitVec 1 := Scalar.andi v114_r4 v115_r4
  let v117_r4 : BitVec 32 := Scalar.extui v116_r4
  let c0_i32_91_r4 : BitVec 32 := 0#32
  let v118_r4 : BitVec 1 := Scalar.cmpi .ne v117_r4 c0_i32_91_r4
  v118_r4

def k14_off50 (i : grid14.Coords) (arg12_r4 : BitVec 32) : Fin 2 → Nat :=
  let c2_i32_119_r4 : BitVec 32 := 2#32
  let c256_i32_115_r4 : BitVec 32 := 256#32
  let c3584_i32_114_r4 : BitVec 32 := 3584#32
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v78_r4 : BitVec 32 := Scalar.addi arg12_r4 v14
  let v162_r4 : BitVec 32 := Scalar.addi c3584_i32_114_r4 v78_r4
  let v163_r4 : BitVec 32 := Scalar.muli c256_i32_115_r4 v162_r4
  ![2, v163_r4.toNat]
def k14_off51 (arg9_r4 : BitVec 32) : Fin 1 → Nat :=
  let c2_i32_116_r4 : BitVec 32 := 2#32
  let v164_r4 : BitVec 32 := Scalar.remui arg9_r4 c2_i32_116_r4
  ![v164_r4.toNat]
def k14_off52 (arg10_r4 : BitVec 32) : Fin 3 → Nat :=
  let c2_i32_96_r4 : BitVec 32 := 2#32
  let v127_r4 : BitVec 32 := Scalar.remui arg10_r4 c2_i32_96_r4
  let c0_i32_114_r5 : BitVec 32 := 0#32
  let c0_i32_115_r5 : BitVec 32 := 0#32
  ![v127_r4.toNat, 0, 0]

def k14_chk12 (arg10_r4 : BitVec 32) : Prop :=
  (∀ a, (k14_off52 arg10_r4) a + S1x256x128.size a ≤ S2x256x128.size a)
theorem k14_off52_inb : ∀ (arg10_r4 : BitVec 32) (k14_hw12 : k14_chk12 arg10_r4), ∀ a, (k14_off52 arg10_r4) a + S1x256x128.size a ≤ S2x256x128.size a := fun arg10_r4 k14_hw12 => k14_hw12

def k14_off53 (arg9_r4 : BitVec 32) : Fin 3 → Nat :=
  let c2_i32_95_r4 : BitVec 32 := 2#32
  let v126_r4 : BitVec 32 := Scalar.remui arg9_r4 c2_i32_95_r4
  let c0_i32_116_r5 : BitVec 32 := 0#32
  let c0_i32_117_r5 : BitVec 32 := 0#32
  ![v126_r4.toNat, 0, 0]

def k14_chk13 (arg9_r4 : BitVec 32) : Prop :=
  (∀ a, (k14_off53 arg9_r4) a + S1x1x256.size a ≤ S2x1x256.size a)
theorem k14_off53_inb : ∀ (arg9_r4 : BitVec 32) (k14_hw13 : k14_chk13 arg9_r4), ∀ a, (k14_off53 arg9_r4) a + S1x1x256.size a ≤ S2x1x256.size a := fun arg9_r4 k14_hw13 => k14_hw13

def k14_off54 (arg10_r4 : BitVec 32) : Fin 3 → Nat :=
  let c2_i32_114_r4 : BitVec 32 := 2#32
  let v162_r4 : BitVec 32 := Scalar.remui arg10_r4 c2_i32_114_r4
  let c0_i32_117_r4 : BitVec 32 := 0#32
  let c0_i32_118_r4 : BitVec 32 := 0#32
  ![v162_r4.toNat, 0, 0]
def k14_cond19 (i : grid14.Coords) (k14_t3 : Fin k14_t3_loop.trips) (arg12_r4 : BitVec 32) : BitVec 1 :=
  let c1024_i32_85_r4 : BitVec 32 := 1024#32
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v78_r4 : BitVec 32 := Scalar.addi arg12_r4 v14
  let v106_r4 : BitVec 32 := Scalar.addi c1024_i32_85_r4 v78_r4
  let c1024_i32_86_r4 : BitVec 32 := 1024#32
  let true_70_r4 : BitVec 1 := 1#1
  let c1_i32_69_r4 : BitVec 32 := 1#32
  let v84_r4 : BitVec 32 := Scalar.addi arg12_r4 c1_i32_69_r4
  let v85_r4 : BitVec 32 := Scalar.select true_70_r4 v84_r4 arg12_r4
  let c16_i32_71_r4 : BitVec 32 := 16#32
  let v86_r4 : BitVec 1 := Scalar.cmpi .eq v85_r4 c16_i32_71_r4
  let c0_i32_72_r4 : BitVec 32 := 0#32
  let v87_r4 : BitVec 32 := Scalar.select v86_r4 c0_i32_72_r4 v85_r4
  let v88_r4 : BitVec 32 := Scalar.addi v87_r4 v14
  let v107_r4 : BitVec 32 := Scalar.addi c1024_i32_86_r4 v88_r4
  let v133_r4 : BitVec 1 := Scalar.cmpi .ne v106_r4 v107_r4
  let c0_i32_35_r4 : BitVec 32 := 0#32
  let c1_i32_37_r4 : BitVec 32 := 1#32
  let arg7_r4 : BitVec 32 := Scf.iv c0_i32_35_r4 c1_i32_37_r4 k14_t3
  let c15_i32_64_r4 : BitVec 32 := 15#32
  let v77_r4 : BitVec 1 := Scalar.cmpi .eq arg7_r4 c15_i32_64_r4
  let v134_r4 : BitVec 1 := Scalar.ori v133_r4 v77_r4
  let v135_r4 : BitVec 32 := Scalar.extui v134_r4
  let c0_i32_99_r4 : BitVec 32 := 0#32
  let v136_r4 : BitVec 1 := Scalar.cmpi .ne v135_r4 c0_i32_99_r4
  v136_r4

def k14_off55 (i : grid14.Coords) (arg12_r4 : BitVec 32) : Fin 2 → Nat :=
  let c256_i32_116_r4 : BitVec 32 := 256#32
  let c1024_i32_115_r4 : BitVec 32 := 1024#32
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v78_r4 : BitVec 32 := Scalar.addi arg12_r4 v14
  let v163_r4 : BitVec 32 := Scalar.addi c1024_i32_115_r4 v78_r4
  let v164_r4 : BitVec 32 := Scalar.muli c256_i32_116_r4 v163_r4
  let c0_i32_119_r4 : BitVec 32 := 0#32
  ![v164_r4.toNat, 0]
def k14_off56 (arg10_r4 : BitVec 32) : Fin 1 → Nat :=
  let c2_i32_114_r4 : BitVec 32 := 2#32
  let v162_r4 : BitVec 32 := Scalar.remui arg10_r4 c2_i32_114_r4
  ![v162_r4.toNat]
def k14_off57 (arg11_r4 : BitVec 32) : Fin 3 → Nat :=
  let c2_i32_114_r4 : BitVec 32 := 2#32
  let v162_r4 : BitVec 32 := Scalar.remui arg11_r4 c2_i32_114_r4
  let c0_i32_117_r4 : BitVec 32 := 0#32
  let c0_i32_118_r4 : BitVec 32 := 0#32
  ![v162_r4.toNat, 0, 0]
def k14_cond21 (i : grid14.Coords) (k14_t3 : Fin k14_t3_loop.trips) (arg12_r4 : BitVec 32) : BitVec 1 :=
  let c1024_i32_85_r4 : BitVec 32 := 1024#32
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v78_r4 : BitVec 32 := Scalar.addi arg12_r4 v14
  let v106_r4 : BitVec 32 := Scalar.addi c1024_i32_85_r4 v78_r4
  let c1024_i32_92_r4 : BitVec 32 := 1024#32
  let true_66_r4 : BitVec 1 := 1#1
  let c1_i32_65_r4 : BitVec 32 := 1#32
  let v79_r4 : BitVec 32 := Scalar.subi arg12_r4 c1_i32_65_r4
  let v80_r4 : BitVec 32 := Scalar.select true_66_r4 v79_r4 arg12_r4
  let c_m1_i32_67_r4 : BitVec 32 := 4294967295#32
  let v81_r4 : BitVec 1 := Scalar.cmpi .eq v80_r4 c_m1_i32_67_r4
  let c15_i32_68_r4 : BitVec 32 := 15#32
  let v82_r4 : BitVec 32 := Scalar.select v81_r4 c15_i32_68_r4 v80_r4
  let v83_r4 : BitVec 32 := Scalar.addi v82_r4 v14
  let v119_r4 : BitVec 32 := Scalar.addi c1024_i32_92_r4 v83_r4
  let v146_r4 : BitVec 1 := Scalar.cmpi .ne v106_r4 v119_r4
  let c0_i32_35_r4 : BitVec 32 := 0#32
  let c1_i32_37_r4 : BitVec 32 := 1#32
  let arg7_r4 : BitVec 32 := Scf.iv c0_i32_35_r4 c1_i32_37_r4 k14_t3
  let c0_i32_63_r4 : BitVec 32 := 0#32
  let v76_r4 : BitVec 1 := Scalar.cmpi .eq arg7_r4 c0_i32_63_r4
  let true_105_r4 : BitVec 1 := 1#1
  let v147_r4 : BitVec 1 := Scalar.xori v76_r4 true_105_r4
  let v148_r4 : BitVec 1 := Scalar.andi v146_r4 v147_r4
  let v149_r4 : BitVec 32 := Scalar.extui v148_r4
  let c0_i32_106_r4 : BitVec 32 := 0#32
  let v150_r4 : BitVec 1 := Scalar.cmpi .ne v149_r4 c0_i32_106_r4
  v150_r4

def k14_off58 (i : grid14.Coords) (arg12_r4 : BitVec 32) : Fin 2 → Nat :=
  let c256_i32_116_r4 : BitVec 32 := 256#32
  let c1024_i32_115_r4 : BitVec 32 := 1024#32
  let true_66_r4 : BitVec 1 := 1#1
  let c1_i32_65_r4 : BitVec 32 := 1#32
  let v79_r4 : BitVec 32 := Scalar.subi arg12_r4 c1_i32_65_r4
  let v80_r4 : BitVec 32 := Scalar.select true_66_r4 v79_r4 arg12_r4
  let c_m1_i32_67_r4 : BitVec 32 := 4294967295#32
  let v81_r4 : BitVec 1 := Scalar.cmpi .eq v80_r4 c_m1_i32_67_r4
  let c15_i32_68_r4 : BitVec 32 := 15#32
  let v82_r4 : BitVec 32 := Scalar.select v81_r4 c15_i32_68_r4 v80_r4
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v83_r4 : BitVec 32 := Scalar.addi v82_r4 v14
  let v163_r4 : BitVec 32 := Scalar.addi c1024_i32_115_r4 v83_r4
  let v164_r4 : BitVec 32 := Scalar.muli c256_i32_116_r4 v163_r4
  let c0_i32_119_r4 : BitVec 32 := 0#32
  ![v164_r4.toNat, 0]
def k14_off59 (arg11_r4 : BitVec 32) : Fin 1 → Nat :=
  let c2_i32_114_r4 : BitVec 32 := 2#32
  let v162_r4 : BitVec 32 := Scalar.remui arg11_r4 c2_i32_114_r4
  ![v162_r4.toNat]

def k14_chk11 (i : grid14.Coords) (k14_t3 : Fin k14_t3_loop.trips) (arg8_r4 : BitVec 32) (arg9_r4 : BitVec 32) (arg10_r4 : BitVec 32) (arg11_r4 : BitVec 32) (arg12_r4 : BitVec 32) : Prop :=
  (∀ (k14_h15 : k14_cond15 i k14_t3 arg12_r4 = 1#1), ∀ a, (k14_off46 arg8_r4) a + S1x1x256.size a ≤ S2x1x256.size a) ∧
  (∀ (k14_h15 : k14_cond15 i k14_t3 arg12_r4 = 1#1), ∀ a, (k14_off47 i arg12_r4) a + S1x256.size a ≤ S3x1048576.size a) ∧
  (∀ (k14_h15 : k14_cond15 i k14_t3 arg12_r4 = 1#1), ∀ a, (k14_off48 arg8_r4) a + S1.size a ≤ S2.size a) ∧
  (∀ (k14_h16 : k14_cond16 i k14_t3 arg12_r4 = 1#1), ∀ a, (k14_off49 arg9_r4) a + S1x1x256.size a ≤ S2x1x256.size a) ∧
  (∀ (k14_h16 : k14_cond16 i k14_t3 arg12_r4 = 1#1), ∀ a, (k14_off50 i arg12_r4) a + S1x256.size a ≤ S3x1048576.size a) ∧
  (∀ (k14_h16 : k14_cond16 i k14_t3 arg12_r4 = 1#1), ∀ a, (k14_off51 arg9_r4) a + S1.size a ≤ S2.size a) ∧
  (∀ (k14_h19 : k14_cond19 i k14_t3 arg12_r4 = 1#1), ∀ a, (k14_off54 arg10_r4) a + S1x256x128.size a ≤ S2x256x128.size a) ∧
  (∀ (k14_h19 : k14_cond19 i k14_t3 arg12_r4 = 1#1), ∀ a, (k14_off55 i arg12_r4) a + S256x128.size a ≤ S393216x128.size a) ∧
  (∀ (k14_h19 : k14_cond19 i k14_t3 arg12_r4 = 1#1), ∀ a, (k14_off56 arg10_r4) a + S1.size a ≤ S2.size a) ∧
  (∀ (k14_h21 : k14_cond21 i k14_t3 arg12_r4 = 1#1), ∀ a, (k14_off57 arg11_r4) a + S1x256x128.size a ≤ S2x256x128.size a) ∧
  (∀ (k14_h21 : k14_cond21 i k14_t3 arg12_r4 = 1#1), ∀ a, (k14_off58 i arg12_r4) a + S256x128.size a ≤ S393216x128.size a) ∧
  (∀ (k14_h21 : k14_cond21 i k14_t3 arg12_r4 = 1#1), ∀ a, (k14_off59 arg11_r4) a + S1.size a ≤ S2.size a)
theorem k14_off46_inb : ∀ (i : grid14.Coords) (k14_t3 : Fin k14_t3_loop.trips) (arg8_r4 : BitVec 32) (arg9_r4 : BitVec 32) (arg10_r4 : BitVec 32) (arg11_r4 : BitVec 32) (arg12_r4 : BitVec 32) (k14_hw11 : k14_chk11 i k14_t3 arg8_r4 arg9_r4 arg10_r4 arg11_r4 arg12_r4), ∀ (k14_h15 : k14_cond15 i k14_t3 arg12_r4 = 1#1), ∀ a, (k14_off46 arg8_r4) a + S1x1x256.size a ≤ S2x1x256.size a := fun i k14_t3 arg8_r4 arg9_r4 arg10_r4 arg11_r4 arg12_r4 k14_hw11 k14_h15 => k14_hw11.1 k14_h15
theorem k14_off47_inb : ∀ (i : grid14.Coords) (k14_t3 : Fin k14_t3_loop.trips) (arg8_r4 : BitVec 32) (arg9_r4 : BitVec 32) (arg10_r4 : BitVec 32) (arg11_r4 : BitVec 32) (arg12_r4 : BitVec 32) (k14_hw11 : k14_chk11 i k14_t3 arg8_r4 arg9_r4 arg10_r4 arg11_r4 arg12_r4), ∀ (k14_h15 : k14_cond15 i k14_t3 arg12_r4 = 1#1), ∀ a, (k14_off47 i arg12_r4) a + S1x256.size a ≤ S3x1048576.size a := fun i k14_t3 arg8_r4 arg9_r4 arg10_r4 arg11_r4 arg12_r4 k14_hw11 k14_h15 => k14_hw11.2.1 k14_h15
theorem k14_off48_inb : ∀ (i : grid14.Coords) (k14_t3 : Fin k14_t3_loop.trips) (arg8_r4 : BitVec 32) (arg9_r4 : BitVec 32) (arg10_r4 : BitVec 32) (arg11_r4 : BitVec 32) (arg12_r4 : BitVec 32) (k14_hw11 : k14_chk11 i k14_t3 arg8_r4 arg9_r4 arg10_r4 arg11_r4 arg12_r4), ∀ (k14_h15 : k14_cond15 i k14_t3 arg12_r4 = 1#1), ∀ a, (k14_off48 arg8_r4) a + S1.size a ≤ S2.size a := fun i k14_t3 arg8_r4 arg9_r4 arg10_r4 arg11_r4 arg12_r4 k14_hw11 k14_h15 => k14_hw11.2.2.1 k14_h15
theorem k14_off49_inb : ∀ (i : grid14.Coords) (k14_t3 : Fin k14_t3_loop.trips) (arg8_r4 : BitVec 32) (arg9_r4 : BitVec 32) (arg10_r4 : BitVec 32) (arg11_r4 : BitVec 32) (arg12_r4 : BitVec 32) (k14_hw11 : k14_chk11 i k14_t3 arg8_r4 arg9_r4 arg10_r4 arg11_r4 arg12_r4), ∀ (k14_h16 : k14_cond16 i k14_t3 arg12_r4 = 1#1), ∀ a, (k14_off49 arg9_r4) a + S1x1x256.size a ≤ S2x1x256.size a := fun i k14_t3 arg8_r4 arg9_r4 arg10_r4 arg11_r4 arg12_r4 k14_hw11 k14_h16 => k14_hw11.2.2.2.1 k14_h16
theorem k14_off50_inb : ∀ (i : grid14.Coords) (k14_t3 : Fin k14_t3_loop.trips) (arg8_r4 : BitVec 32) (arg9_r4 : BitVec 32) (arg10_r4 : BitVec 32) (arg11_r4 : BitVec 32) (arg12_r4 : BitVec 32) (k14_hw11 : k14_chk11 i k14_t3 arg8_r4 arg9_r4 arg10_r4 arg11_r4 arg12_r4), ∀ (k14_h16 : k14_cond16 i k14_t3 arg12_r4 = 1#1), ∀ a, (k14_off50 i arg12_r4) a + S1x256.size a ≤ S3x1048576.size a := fun i k14_t3 arg8_r4 arg9_r4 arg10_r4 arg11_r4 arg12_r4 k14_hw11 k14_h16 => k14_hw11.2.2.2.2.1 k14_h16
theorem k14_off51_inb : ∀ (i : grid14.Coords) (k14_t3 : Fin k14_t3_loop.trips) (arg8_r4 : BitVec 32) (arg9_r4 : BitVec 32) (arg10_r4 : BitVec 32) (arg11_r4 : BitVec 32) (arg12_r4 : BitVec 32) (k14_hw11 : k14_chk11 i k14_t3 arg8_r4 arg9_r4 arg10_r4 arg11_r4 arg12_r4), ∀ (k14_h16 : k14_cond16 i k14_t3 arg12_r4 = 1#1), ∀ a, (k14_off51 arg9_r4) a + S1.size a ≤ S2.size a := fun i k14_t3 arg8_r4 arg9_r4 arg10_r4 arg11_r4 arg12_r4 k14_hw11 k14_h16 => k14_hw11.2.2.2.2.2.1 k14_h16
theorem k14_off54_inb : ∀ (i : grid14.Coords) (k14_t3 : Fin k14_t3_loop.trips) (arg8_r4 : BitVec 32) (arg9_r4 : BitVec 32) (arg10_r4 : BitVec 32) (arg11_r4 : BitVec 32) (arg12_r4 : BitVec 32) (k14_hw11 : k14_chk11 i k14_t3 arg8_r4 arg9_r4 arg10_r4 arg11_r4 arg12_r4), ∀ (k14_h19 : k14_cond19 i k14_t3 arg12_r4 = 1#1), ∀ a, (k14_off54 arg10_r4) a + S1x256x128.size a ≤ S2x256x128.size a := fun i k14_t3 arg8_r4 arg9_r4 arg10_r4 arg11_r4 arg12_r4 k14_hw11 k14_h19 => k14_hw11.2.2.2.2.2.2.1 k14_h19
theorem k14_off55_inb : ∀ (i : grid14.Coords) (k14_t3 : Fin k14_t3_loop.trips) (arg8_r4 : BitVec 32) (arg9_r4 : BitVec 32) (arg10_r4 : BitVec 32) (arg11_r4 : BitVec 32) (arg12_r4 : BitVec 32) (k14_hw11 : k14_chk11 i k14_t3 arg8_r4 arg9_r4 arg10_r4 arg11_r4 arg12_r4), ∀ (k14_h19 : k14_cond19 i k14_t3 arg12_r4 = 1#1), ∀ a, (k14_off55 i arg12_r4) a + S256x128.size a ≤ S393216x128.size a := fun i k14_t3 arg8_r4 arg9_r4 arg10_r4 arg11_r4 arg12_r4 k14_hw11 k14_h19 => k14_hw11.2.2.2.2.2.2.2.1 k14_h19
theorem k14_off56_inb : ∀ (i : grid14.Coords) (k14_t3 : Fin k14_t3_loop.trips) (arg8_r4 : BitVec 32) (arg9_r4 : BitVec 32) (arg10_r4 : BitVec 32) (arg11_r4 : BitVec 32) (arg12_r4 : BitVec 32) (k14_hw11 : k14_chk11 i k14_t3 arg8_r4 arg9_r4 arg10_r4 arg11_r4 arg12_r4), ∀ (k14_h19 : k14_cond19 i k14_t3 arg12_r4 = 1#1), ∀ a, (k14_off56 arg10_r4) a + S1.size a ≤ S2.size a := fun i k14_t3 arg8_r4 arg9_r4 arg10_r4 arg11_r4 arg12_r4 k14_hw11 k14_h19 => k14_hw11.2.2.2.2.2.2.2.2.1 k14_h19
theorem k14_off57_inb : ∀ (i : grid14.Coords) (k14_t3 : Fin k14_t3_loop.trips) (arg8_r4 : BitVec 32) (arg9_r4 : BitVec 32) (arg10_r4 : BitVec 32) (arg11_r4 : BitVec 32) (arg12_r4 : BitVec 32) (k14_hw11 : k14_chk11 i k14_t3 arg8_r4 arg9_r4 arg10_r4 arg11_r4 arg12_r4), ∀ (k14_h21 : k14_cond21 i k14_t3 arg12_r4 = 1#1), ∀ a, (k14_off57 arg11_r4) a + S1x256x128.size a ≤ S2x256x128.size a := fun i k14_t3 arg8_r4 arg9_r4 arg10_r4 arg11_r4 arg12_r4 k14_hw11 k14_h21 => k14_hw11.2.2.2.2.2.2.2.2.2.1 k14_h21
theorem k14_off58_inb : ∀ (i : grid14.Coords) (k14_t3 : Fin k14_t3_loop.trips) (arg8_r4 : BitVec 32) (arg9_r4 : BitVec 32) (arg10_r4 : BitVec 32) (arg11_r4 : BitVec 32) (arg12_r4 : BitVec 32) (k14_hw11 : k14_chk11 i k14_t3 arg8_r4 arg9_r4 arg10_r4 arg11_r4 arg12_r4), ∀ (k14_h21 : k14_cond21 i k14_t3 arg12_r4 = 1#1), ∀ a, (k14_off58 i arg12_r4) a + S256x128.size a ≤ S393216x128.size a := fun i k14_t3 arg8_r4 arg9_r4 arg10_r4 arg11_r4 arg12_r4 k14_hw11 k14_h21 => k14_hw11.2.2.2.2.2.2.2.2.2.2.1 k14_h21
theorem k14_off59_inb : ∀ (i : grid14.Coords) (k14_t3 : Fin k14_t3_loop.trips) (arg8_r4 : BitVec 32) (arg9_r4 : BitVec 32) (arg10_r4 : BitVec 32) (arg11_r4 : BitVec 32) (arg12_r4 : BitVec 32) (k14_hw11 : k14_chk11 i k14_t3 arg8_r4 arg9_r4 arg10_r4 arg11_r4 arg12_r4), ∀ (k14_h21 : k14_cond21 i k14_t3 arg12_r4 = 1#1), ∀ a, (k14_off59 arg11_r4) a + S1.size a ≤ S2.size a := fun i k14_t3 arg8_r4 arg9_r4 arg10_r4 arg11_r4 arg12_r4 k14_hw11 k14_h21 => k14_hw11.2.2.2.2.2.2.2.2.2.2.2 k14_h21

def k14_off60 (v44_3_r4 : BitVec 32) : Fin 3 → Nat :=
  let c2_i32_55_r4 : BitVec 32 := 2#32
  let v65_r4 : BitVec 32 := Scalar.remui v44_3_r4 c2_i32_55_r4
  let c0_i32_57_r4 : BitVec 32 := 0#32
  let c0_i32_58_r4 : BitVec 32 := 0#32
  ![v65_r4.toNat, 0, 0]

def k14_off61 (i : grid14.Coords) (v44_4_r4 : BitVec 32) : Fin 2 → Nat :=
  let c256_i32_56_r4 : BitVec 32 := 256#32
  let c1024_i32_r4 : BitVec 32 := 1024#32
  let true_40_r4 : BitVec 1 := 1#1
  let c1_i32_39_r4 : BitVec 32 := 1#32
  let v45_r4 : BitVec 32 := Scalar.subi v44_4_r4 c1_i32_39_r4
  let v46_r4 : BitVec 32 := Scalar.select true_40_r4 v45_r4 v44_4_r4
  let c_m1_i32_41_r4 : BitVec 32 := 4294967295#32
  let v47_r4 : BitVec 1 := Scalar.cmpi .eq v46_r4 c_m1_i32_41_r4
  let c15_i32_42_r4 : BitVec 32 := 15#32
  let v48_r4 : BitVec 32 := Scalar.select v47_r4 c15_i32_42_r4 v46_r4
  let c0_i32_6 : BitVec 32 := 0#32
  let arg1 : BitVec 32 := BitVec.ofNat 32 (i 1).val
  let c1_i32_5 : BitVec 32 := 1#32
  let v10 : BitVec 32 := Scalar.muli arg1 c1_i32_5
  let v11 : BitVec 32 := Scalar.addi c0_i32_6 v10
  let arg0 : BitVec 32 := BitVec.ofNat 32 (i 0).val
  let c16_i32_7 : BitVec 32 := 16#32
  let v12 : BitVec 32 := Scalar.muli arg0 c16_i32_7
  let v13 : BitVec 32 := Scalar.addi v11 v12
  let c16_i32_8 : BitVec 32 := 16#32
  let v14 : BitVec 32 := Scalar.muli v13 c16_i32_8
  let v49_r4 : BitVec 32 := Scalar.addi v48_r4 v14
  let v66_r4 : BitVec 32 := Scalar.addi c1024_i32_r4 v49_r4
  let v67_r4 : BitVec 32 := Scalar.muli c256_i32_56_r4 v66_r4
  let c0_i32_59_r4 : BitVec 32 := 0#32
  ![v67_r4.toNat, 0]

def k14_chk15 (i : grid14.Coords) (v44_4_r4 : BitVec 32) : Prop :=
  (∀ a, (k14_off61 i v44_4_r4) a + S256x128.size a ≤ S393216x128.size a)
theorem k14_off61_inb : ∀ (i : grid14.Coords) (v44_4_r4 : BitVec 32) (k14_hw15 : k14_chk15 i v44_4_r4), ∀ a, (k14_off61 i v44_4_r4) a + S256x128.size a ≤ S393216x128.size a := fun i v44_4_r4 k14_hw15 => k14_hw15

def k14_off62 (v44_3_r4 : BitVec 32) : Fin 1 → Nat :=
  let c2_i32_55_r4 : BitVec 32 := 2#32
  let v65_r4 : BitVec 32 := Scalar.remui v44_3_r4 c2_i32_55_r4
  ![v65_r4.toNat]
def k14_off63 (v44_3_r4 : BitVec 32) : Fin 3 → Nat :=
  let c2_i32_55_r4 : BitVec 32 := 2#32
  let v65_r4 : BitVec 32 := Scalar.remui v44_3_r4 c2_i32_55_r4
  let c0_i32_61_r4 : BitVec 32 := 0#32
  let c0_i32_62_r4 : BitVec 32 := 0#32
  ![v65_r4.toNat, 0, 0]

def k14_chk14 (v44_3_r4 : BitVec 32) : Prop :=
  (∀ a, (k14_off60 v44_3_r4) a + S1x256x128.size a ≤ S2x256x128.size a) ∧
  (∀ a, (k14_off62 v44_3_r4) a + S1.size a ≤ S2.size a) ∧
  (∀ a, (k14_off63 v44_3_r4) a + S1x256x128.size a ≤ S2x256x128.size a)
theorem k14_off60_inb : ∀ (v44_3_r4 : BitVec 32) (k14_hw14 : k14_chk14 v44_3_r4), ∀ a, (k14_off60 v44_3_r4) a + S1x256x128.size a ≤ S2x256x128.size a := fun v44_3_r4 k14_hw14 => k14_hw14.1
theorem k14_off62_inb : ∀ (v44_3_r4 : BitVec 32) (k14_hw14 : k14_chk14 v44_3_r4), ∀ a, (k14_off62 v44_3_r4) a + S1.size a ≤ S2.size a := fun v44_3_r4 k14_hw14 => k14_hw14.2.1
theorem k14_off63_inb : ∀ (v44_3_r4 : BitVec 32) (k14_hw14 : k14_chk14 v44_3_r4), ∀ a, (k14_off63 v44_3_r4) a + S1x256x128.size a ≤ S2x256x128.size a := fun v44_3_r4 k14_hw14 => k14_hw14.2.2

abbrev grid15 : Pipeline.Grid := ⟨1, ![64], ![false]⟩

def cc15_transform_1 (i : grid15.Coords) : Fin 2 → Nat :=
  let arg0 : BitVec 32 := BitVec.ofNat 32 (i 0).val
  let c448_i32 : BitVec 32 := 448#32
  let v0 : BitVec 32 := Scalar.addi c448_i32 arg0
  let c0_i32 : BitVec 32 := 0#32
  let c0_i32_0 : BitVec 32 := 0#32
  ![c0_i32.toNat, v0.toNat]

def cc15_transform_2 (i : grid15.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_4 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_5 (i : grid15.Coords) : Fin 2 → Nat :=
  let arg0 : BitVec 32 := BitVec.ofNat 32 (i 0).val
  let c448_i32 : BitVec 32 := 448#32
  let v0 : BitVec 32 := Scalar.addi c448_i32 arg0
  let c0_i32 : BitVec 32 := 0#32
  let c0_i32_0 : BitVec 32 := 0#32
  ![c0_i32.toNat, v0.toNat]

abbrev stage15_0 : Fin 2 → Memref sig .tc .vmem S16x2048 .bf16 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 2 → Memref sig .tc .vmem S3x2048x128 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

abbrev stage15_2 : Fin 1 → Memref sig .tc .vmem S16x384 .bf16 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 1 → Memref sig .tc .vmem S128x32 .bf16 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false]

abbrev stage15_4 : Fin 2 → Memref sig .tc .vmem S32x2048 .f32 := fun | 0 => Memref.whole cc15_stg4_0 | 1 => Memref.whole cc15_stg4_1 | ⟨_ + 2, h⟩ => absurd h (Nat.not_lt.2 (Nat.le_add_left _ _))
abbrev sem15_4 : Fin 2 → DmaSem sig := fun | 0 => cc15_sem4_0 | 1 => cc15_sem4_1 | ⟨_ + 2, h⟩ => absurd h (Nat.not_lt.2 (Nat.le_add_left _ _))
abbrev reads15_4 : Fin grid15.rank → Bool := ![true]

abbrev scKind : Fin 8 → Kind := fun | 0 => .scVector | 1 => .scVector | 2 => .scVector | 3 => .scVector | 4 => .scVector | 5 => .scVector | 6 => .scVector | 7 => .scVector | ⟨_ + 8, h⟩ => absurd h (Nat.not_lt.2 (Nat.le_add_left _ _))
abbrev scNCore : Fin 8 → Nat := fun | 0 => 2 | 1 => 2 | 2 => 2 | 3 => 2 | 4 => 2 | 5 => 2 | 6 => 2 | 7 => 2 | ⟨_ + 8, h⟩ => absurd h (Nat.not_lt.2 (Nat.le_add_left _ _))
abbrev scNSub : Fin 8 → Nat := fun | 0 => 16 | 1 => 16 | 2 => 16 | 3 => 16 | 4 => 16 | 5 => 16 | 6 => 16 | 7 => 16 | ⟨_ + 8, h⟩ => absurd h (Nat.not_lt.2 (Nat.le_add_left _ _))
-- ==== ReferenceIdeal.lean ====
abbrev S153600x128 : Shape := ⟨2, ![153600, 128]⟩
abbrev S3x1048576 : Shape := ⟨2, ![3, 1048576]⟩
abbrev S16x1048576 : Shape := ⟨2, ![16, 1048576]⟩
abbrev S1x1048576 : Shape := ⟨2, ![1, 1048576]⟩
abbrev S1048576 : Shape := ⟨1, ![1048576]⟩
abbrev S_ : Shape := ⟨0, ![]⟩
abbrev S1048576x1 : Shape := ⟨2, ![1048576, 1]⟩
abbrev S1048576x128 : Shape := ⟨2, ![1048576, 128]⟩
abbrev S1048576x32 : Shape := ⟨2, ![1048576, 32]⟩

abbrev nBuf : Space → Nat
  | .hbm => 125
  | .vmem => 0
  | .smem => 0
  | _ => 0

abbrev bufTy : (tb : Table) → Fin (tcTables nBuf tb) → BufTy
  | .hbm, ⟨0, _⟩ => ⟨S153600x128, .f32⟩
  | .hbm, ⟨1, _⟩ => ⟨S153600x128, .f32⟩
  | .hbm, ⟨2, _⟩ => ⟨S153600x128, .f32⟩
  | .hbm, ⟨3, _⟩ => ⟨S3x1048576, .i32⟩
  | .hbm, ⟨4, _⟩ => ⟨S16x1048576, .bf16⟩
  | .hbm, ⟨5, _⟩ => ⟨S16x1048576, .f32⟩
  | .hbm, ⟨6, _⟩ => ⟨S1x1048576, .i32⟩
  | .hbm, ⟨7, _⟩ => ⟨S1048576, .i32⟩
  | .hbm, ⟨8, _⟩ => ⟨S_, .i32⟩
  | .hbm, ⟨9, _⟩ => ⟨S1048576, .i32⟩
  | .hbm, ⟨10, _⟩ => ⟨S1048576, .i1⟩
  | .hbm, ⟨11, _⟩ => ⟨S_, .i32⟩
  | .hbm, ⟨12, _⟩ => ⟨S1048576, .i32⟩
  | .hbm, ⟨13, _⟩ => ⟨S1048576, .i32⟩
  | .hbm, ⟨14, _⟩ => ⟨S1048576, .i32⟩
  | .hbm, ⟨15, _⟩ => ⟨S1048576x1, .i32⟩
  | .hbm, ⟨16, _⟩ => ⟨S1048576x128, .f32⟩
  | .hbm, ⟨17, _⟩ => ⟨S1048576x32, .f32⟩
  | .hbm, ⟨18, _⟩ => ⟨S1x1048576, .f32⟩
  | .hbm, ⟨19, _⟩ => ⟨S1048576, .f32⟩
  | .hbm, ⟨20, _⟩ => ⟨S1048576x1, .f32⟩
  | .hbm, ⟨21, _⟩ => ⟨S1048576x32, .f32⟩
  | .hbm, ⟨22, _⟩ => ⟨S1048576x32, .f32⟩
  | .hbm, ⟨23, _⟩ => ⟨S_, .f32⟩
  | .hbm, ⟨24, _⟩ => ⟨S1048576x32, .f32⟩
  | .hbm, ⟨25, _⟩ => ⟨S1048576x32, .f32⟩
  | .hbm, ⟨26, _⟩ => ⟨S1048576x32, .f32⟩
  | .hbm, ⟨27, _⟩ => ⟨S1x1048576, .f32⟩
  | .hbm, ⟨28, _⟩ => ⟨S1048576, .f32⟩
  | .hbm, ⟨29, _⟩ => ⟨S1048576x1, .f32⟩
  | .hbm, ⟨30, _⟩ => ⟨S1048576x32, .f32⟩
  | .hbm, ⟨31, _⟩ => ⟨S1048576x32, .f32⟩
  | .hbm, ⟨32, _⟩ => ⟨S1048576x32, .f32⟩
  | .hbm, ⟨33, _⟩ => ⟨S1048576x32, .f32⟩
  | .hbm, ⟨34, _⟩ => ⟨S1x1048576, .f32⟩
  | .hbm, ⟨35, _⟩ => ⟨S1048576, .f32⟩
  | .hbm, ⟨36, _⟩ => ⟨S1048576x1, .f32⟩
  | .hbm, ⟨37, _⟩ => ⟨S1048576x32, .f32⟩
  | .hbm, ⟨38, _⟩ => ⟨S1048576x32, .f32⟩
  | .hbm, ⟨39, _⟩ => ⟨S1048576x32, .f32⟩
  | .hbm, ⟨40, _⟩ => ⟨S1048576x32, .f32⟩
  | .hbm, ⟨41, _⟩ => ⟨S1x1048576, .f32⟩
  | .hbm, ⟨42, _⟩ => ⟨S1048576, .f32⟩
  | .hbm, ⟨43, _⟩ => ⟨S1048576x1, .f32⟩
  | .hbm, ⟨44, _⟩ => ⟨S1048576x32, .f32⟩
  | .hbm, ⟨45, _⟩ => ⟨S1048576x32, .f32⟩
  | .hbm, ⟨46, _⟩ => ⟨S1048576x32, .f32⟩
  | .hbm, ⟨47, _⟩ => ⟨S1x1048576, .i32⟩
  | .hbm, ⟨48, _⟩ => ⟨S1048576, .i32⟩
  | .hbm, ⟨49, _⟩ => ⟨S_, .i32⟩
  | .hbm, ⟨50, _⟩ => ⟨S1048576, .i32⟩
  | .hbm, ⟨51, _⟩ => ⟨S1048576, .i1⟩
  | .hbm, ⟨52, _⟩ => ⟨S_, .i32⟩
  | .hbm, ⟨53, _⟩ => ⟨S1048576, .i32⟩
  | .hbm, ⟨54, _⟩ => ⟨S1048576, .i32⟩
  | .hbm, ⟨55, _⟩ => ⟨S1048576, .i32⟩
  | .hbm, ⟨56, _⟩ => ⟨S1048576x1, .i32⟩
  | .hbm, ⟨57, _⟩ => ⟨S1048576x128, .f32⟩
  | .hbm, ⟨58, _⟩ => ⟨S1048576x32, .f32⟩
  | .hbm, ⟨59, _⟩ => ⟨S1x1048576, .f32⟩
  | .hbm, ⟨60, _⟩ => ⟨S1048576, .f32⟩
  | .hbm, ⟨61, _⟩ => ⟨S1048576x1, .f32⟩
  | .hbm, ⟨62, _⟩ => ⟨S1048576x32, .f32⟩
  | .hbm, ⟨63, _⟩ => ⟨S1048576x32, .f32⟩
  | .hbm, ⟨64, _⟩ => ⟨S1048576x32, .f32⟩
  | .hbm, ⟨65, _⟩ => ⟨S1048576x32, .f32⟩
  | .hbm, ⟨66, _⟩ => ⟨S1x1048576, .f32⟩
  | .hbm, ⟨67, _⟩ => ⟨S1048576, .f32⟩
  | .hbm, ⟨68, _⟩ => ⟨S1048576x1, .f32⟩
  | .hbm, ⟨69, _⟩ => ⟨S1048576x32, .f32⟩
  | .hbm, ⟨70, _⟩ => ⟨S1048576x32, .f32⟩
  | .hbm, ⟨71, _⟩ => ⟨S1048576x32, .f32⟩
  | .hbm, ⟨72, _⟩ => ⟨S1048576x32, .f32⟩
  | .hbm, ⟨73, _⟩ => ⟨S1x1048576, .f32⟩
  | .hbm, ⟨74, _⟩ => ⟨S1048576, .f32⟩
  | .hbm, ⟨75, _⟩ => ⟨S1048576x1, .f32⟩
  | .hbm, ⟨76, _⟩ => ⟨S1048576x32, .f32⟩
  | .hbm, ⟨77, _⟩ => ⟨S1048576x32, .f32⟩
  | .hbm, ⟨78, _⟩ => ⟨S1048576x32, .f32⟩
  | .hbm, ⟨79, _⟩ => ⟨S1048576x32, .f32⟩
  | .hbm, ⟨80, _⟩ => ⟨S1x1048576, .f32⟩
  | .hbm, ⟨81, _⟩ => ⟨S1048576, .f32⟩
  | .hbm, ⟨82, _⟩ => ⟨S1048576x1, .f32⟩
  | .hbm, ⟨83, _⟩ => ⟨S1048576x32, .f32⟩
  | .hbm, ⟨84, _⟩ => ⟨S1048576x32, .f32⟩
  | .hbm, ⟨85, _⟩ => ⟨S1048576x32, .f32⟩
  | .hbm, ⟨86, _⟩ => ⟨S1x1048576, .i32⟩
  | .hbm, ⟨87, _⟩ => ⟨S1048576, .i32⟩
  | .hbm, ⟨88, _⟩ => ⟨S_, .i32⟩
  | .hbm, ⟨89, _⟩ => ⟨S1048576, .i32⟩
  | .hbm, ⟨90, _⟩ => ⟨S1048576, .i1⟩
  | .hbm, ⟨91, _⟩ => ⟨S_, .i32⟩
  | .hbm, ⟨92, _⟩ => ⟨S1048576, .i32⟩
  | .hbm, ⟨93, _⟩ => ⟨S1048576, .i32⟩
  | .hbm, ⟨94, _⟩ => ⟨S1048576, .i32⟩
  | .hbm, ⟨95, _⟩ => ⟨S1048576x1, .i32⟩
  | .hbm, ⟨96, _⟩ => ⟨S1048576x128, .f32⟩
  | .hbm, ⟨97, _⟩ => ⟨S1048576x32, .f32⟩
  | .hbm, ⟨98, _⟩ => ⟨S1x1048576, .f32⟩
  | .hbm, ⟨99, _⟩ => ⟨S1048576, .f32⟩
  | .hbm, ⟨100, _⟩ => ⟨S1048576x1, .f32⟩
  | .hbm, ⟨101, _⟩ => ⟨S1048576x32, .f32⟩
  | .hbm, ⟨102, _⟩ => ⟨S1048576x32, .f32⟩
  | .hbm, ⟨103, _⟩ => ⟨S1048576x32, .f32⟩
  | .hbm, ⟨104, _⟩ => ⟨S1048576x32, .f32⟩
  | .hbm, ⟨105, _⟩ => ⟨S1x1048576, .f32⟩
  | .hbm, ⟨106, _⟩ => ⟨S1048576, .f32⟩
  | .hbm, ⟨107, _⟩ => ⟨S1048576x1, .f32⟩
  | .hbm, ⟨108, _⟩ => ⟨S1048576x32, .f32⟩
  | .hbm, ⟨109, _⟩ => ⟨S1048576x32, .f32⟩
  | .hbm, ⟨110, _⟩ => ⟨S1048576x32, .f32⟩
  | .hbm, ⟨111, _⟩ => ⟨S1048576x32, .f32⟩
  | .hbm, ⟨112, _⟩ => ⟨S1x1048576, .f32⟩
  | .hbm, ⟨113, _⟩ => ⟨S1048576, .f32⟩
  | .hbm, ⟨114, _⟩ => ⟨S1048576x1, .f32⟩
  | .hbm, ⟨115, _⟩ => ⟨S1048576x32, .f32⟩
  | .hbm, ⟨116, _⟩ => ⟨S1048576x32, .f32⟩
  | .hbm, ⟨117, _⟩ => ⟨S1048576x32, .f32⟩
  | .hbm, ⟨118, _⟩ => ⟨S1048576x32, .f32⟩
  | .hbm, ⟨119, _⟩ => ⟨S1x1048576, .f32⟩
  | .hbm, ⟨120, _⟩ => ⟨S1048576, .f32⟩
  | .hbm, ⟨121, _⟩ => ⟨S1048576x1, .f32⟩
  | .hbm, ⟨122, _⟩ => ⟨S1048576x32, .f32⟩
  | .hbm, ⟨123, _⟩ => ⟨S1048576x32, .f32⟩
  | .hbm, ⟨124, _⟩ => ⟨S1048576x32, .f32⟩
  | _, _ => ⟨S153600x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_c_1 : Ref sig .tc := ⟨.hbm, 49, rfl⟩
abbrev main_v41 : Ref sig .tc := ⟨.hbm, 50, rfl⟩
abbrev main_v42 : Ref sig .tc := ⟨.hbm, 51, rfl⟩
abbrev main_c_2 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_c_3 : Ref sig .tc := ⟨.hbm, 88, rfl⟩
abbrev main_v78 : Ref sig .tc := ⟨.hbm, 89, rfl⟩
abbrev main_v79 : Ref sig .tc := ⟨.hbm, 90, rfl⟩
abbrev main_c_4 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩

abbrev nD : Nat := 1
abbrev τ : Topo := Topo.v7x

variable {F : FTy → Type} [FloatOps F]
-- ==== Prep.lean ====
abbrev S1048576x4 : Shape := ⟨2, ![1048576, 4]⟩
abbrev S4x1048576 : Shape := ⟨2, ![4, 1048576]⟩
abbrev S16x1048576 : Shape := ⟨2, ![16, 1048576]⟩
abbrev S3x1048576 : Shape := ⟨2, ![3, 1048576]⟩
abbrev S4x16384 : Shape := ⟨2, ![4, 16384]⟩
abbrev S16x16384 : Shape := ⟨2, ![16, 16384]⟩
abbrev S3x16384 : Shape := ⟨2, ![3, 16384]⟩
abbrev S1x16384 : Shape := ⟨2, ![1, 16384]⟩

abbrev nBuf : Space → Nat
  | .hbm => 4
  | .vmem => 6
  | .smem => 0
  | _ => 0

abbrev bufTy : (tb : Table) → Fin (tcTables nBuf tb) → BufTy
  | .hbm, ⟨0, _⟩ => ⟨S1048576x4, .f32⟩
  | .hbm, ⟨1, _⟩ => ⟨S4x1048576, .f32⟩
  | .hbm, ⟨2, _⟩ => ⟨S16x1048576, .bf16⟩
  | .hbm, ⟨3, _⟩ => ⟨S3x1048576, .i32⟩
  | .local _ .vmem, ⟨0, _⟩ => ⟨S4x16384, .f32⟩
  | .local _ .vmem, ⟨1, _⟩ => ⟨S4x16384, .f32⟩
  | .local _ .vmem, ⟨2, _⟩ => ⟨S16x16384, .bf16⟩
  | .local _ .vmem, ⟨3, _⟩ => ⟨S16x16384, .bf16⟩
  | .local _ .vmem, ⟨4, _⟩ => ⟨S3x16384, .i32⟩
  | .local _ .vmem, ⟨5, _⟩ => ⟨S3x16384, .i32⟩
  | _, _ => ⟨S1048576x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x16384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x16384 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PrepReferenceIdeal.lean ====
abbrev S1048576x4 : Shape := ⟨2, ![1048576, 4]⟩
abbrev S1048576x1 : Shape := ⟨2, ![1048576, 1]⟩
abbrev S1048576 : Shape := ⟨1, ![1048576]⟩
abbrev S_ : Shape := ⟨0, ![]⟩
abbrev S1x1048576 : Shape := ⟨2, ![1, 1048576]⟩
abbrev S16x1048576 : Shape := ⟨2, ![16, 1048576]⟩
abbrev S3x1048576 : Shape := ⟨2, ![3, 1048576]⟩

abbrev nBuf : Space → Nat
  | .hbm => 267
  | .vmem => 0
  | .smem => 0
  | _ => 0

abbrev hbmTy0_0 (i : Nat) : BufTy := match i % 128 with
  | 0 => ⟨S1048576x4, .f32⟩
  | 1 => ⟨S1048576x1, .f32⟩
  | 2 => ⟨S1048576, .f32⟩
  | 3 => ⟨S_, .f32⟩
  | 4 => ⟨S1048576, .f32⟩
  | 5 => ⟨S1048576, .f32⟩
  | 6 => ⟨S_, .f32⟩
  | 7 => ⟨S1048576, .f32⟩
  | 8 => ⟨S1048576, .f32⟩
  | 9 => ⟨S_, .f32⟩
  | 10 => ⟨S1048576, .f32⟩
  | 11 => ⟨S1048576, .f32⟩
  | 12 => ⟨S1048576x1, .f32⟩
  | 13 => ⟨S1048576, .f32⟩
  | 14 => ⟨S_, .f32⟩
  | 15 => ⟨S1048576, .f32⟩
  | 16 => ⟨S1048576, .f32⟩
  | 17 => ⟨S_, .f32⟩
  | 18 => ⟨S1048576, .f32⟩
  | 19 => ⟨S1048576, .f32⟩
  | 20 => ⟨S_, .f32⟩
  | 21 => ⟨S1048576, .f32⟩
  | 22 => ⟨S1048576, .f32⟩
  | 23 => ⟨S_, .f32⟩
  | 24 => ⟨S_, .i32⟩
  | 25 => ⟨S_, .f32⟩
  | 26 => ⟨S1048576, .f32⟩
  | 27 => ⟨S1048576, .f32⟩
  | 28 => ⟨S_, .f32⟩
  | 29 => ⟨S1048576, .f32⟩
  | 30 => ⟨S1048576, .f32⟩
  | 31 => ⟨S_, .f32⟩
  | 32 => ⟨S_, .i32⟩
  | 33 => ⟨S_, .f32⟩
  | 34 => ⟨S1048576, .f32⟩
  | 35 => ⟨S1048576, .f32⟩
  | 36 => ⟨S_, .f32⟩
  | 37 => ⟨S1048576, .f32⟩
  | 38 => ⟨S1048576, .f32⟩
  | 39 => ⟨S1048576, .f32⟩
  | 40 => ⟨S1048576, .f32⟩
  | 41 => ⟨S1048576, .f32⟩
  | 42 => ⟨S1048576, .f32⟩
  | 43 => ⟨S1048576, .i32⟩
  | 44 => ⟨S_, .i32⟩
  | 45 => ⟨S_, .i32⟩
  | 46 => ⟨S_, .i32⟩
  | 47 => ⟨S1048576, .i32⟩
  | 48 => ⟨S1048576, .i32⟩
  | 49 => ⟨S_, .i32⟩
  | 50 => ⟨S1048576, .i32⟩
  | 51 => ⟨S1048576, .i32⟩
  | 52 => ⟨S1048576, .i32⟩
  | 53 => ⟨S_, .i32⟩
  | 54 => ⟨S_, .i32⟩
  | 55 => ⟨S_, .i32⟩
  | 56 => ⟨S1048576, .i32⟩
  | 57 => ⟨S1048576, .i32⟩
  | 58 => ⟨S_, .i32⟩
  | 59 => ⟨S1048576, .i32⟩
  | 60 => ⟨S1048576, .i32⟩
  | 61 => ⟨S_, .i32⟩
  | 62 => ⟨S1048576, .i32⟩
  | 63 => ⟨S1048576, .i32⟩
  | 64 => ⟨S1048576, .i32⟩
  | 65 => ⟨S_, .f32⟩
  | 66 => ⟨S1048576, .f32⟩
  | 67 => ⟨S1048576, .f32⟩
  | 68 => ⟨S_, .f32⟩
  | 69 => ⟨S1048576, .f32⟩
  | 70 => ⟨S1048576, .f32⟩
  | 71 => ⟨S1048576, .f32⟩
  | 72 => ⟨S_, .f32⟩
  | 73 => ⟨S1048576, .f32⟩
  | 74 => ⟨S1048576, .f32⟩
  | 75 => ⟨S1048576, .f32⟩
  | 76 => ⟨S_, .f32⟩
  | 77 => ⟨S1048576, .f32⟩
  | 78 => ⟨S1048576, .f32⟩
  | 79 => ⟨S1048576, .f32⟩
  | 80 => ⟨S1048576, .f32⟩
  | 81 => ⟨S1048576x1, .f32⟩
  | 82 => ⟨S1048576, .f32⟩
  | 83 => ⟨S_, .f32⟩
  | 84 => ⟨S1048576, .f32⟩
  | 85 => ⟨S1048576, .f32⟩
  | 86 => ⟨S_, .f32⟩
  | 87 => ⟨S1048576, .f32⟩
  | 88 => ⟨S1048576, .f32⟩
  | 89 => ⟨S_, .f32⟩
  | 90 => ⟨S1048576, .f32⟩
  | 91 => ⟨S1048576, .f32⟩
  | 92 => ⟨S1048576x1, .f32⟩
  | 93 => ⟨S1048576, .f32⟩
  | 94 => ⟨S_, .f32⟩
  | 95 => ⟨S1048576, .f32⟩
  | 96 => ⟨S1048576, .f32⟩
  | 97 => ⟨S_, .f32⟩
  | 98 => ⟨S1048576, .f32⟩
  | 99 => ⟨S1048576, .f32⟩
  | 100 => ⟨S_, .f32⟩
  | 101 => ⟨S1048576, .f32⟩
  | 102 => ⟨S1048576, .f32⟩
  | 103 => ⟨S_, .f32⟩
  | 104 => ⟨S_, .i32⟩
  | 105 => ⟨S_, .f32⟩
  | 106 => ⟨S1048576, .f32⟩
  | 107 => ⟨S1048576, .f32⟩
  | 108 => ⟨S_, .f32⟩
  | 109 => ⟨S1048576, .f32⟩
  | 110 => ⟨S1048576, .f32⟩
  | 111 => ⟨S_, .f32⟩
  | 112 => ⟨S_, .i32⟩
  | 113 => ⟨S_, .f32⟩
  | 114 => ⟨S1048576, .f32⟩
  | 115 => ⟨S1048576, .f32⟩
  | 116 => ⟨S_, .f32⟩
  | 117 => ⟨S1048576, .f32⟩
  | 118 => ⟨S1048576, .f32⟩
  | 119 => ⟨S1048576, .f32⟩
  | 120 => ⟨S1048576, .f32⟩
  | 121 => ⟨S1048576, .f32⟩
  | 122 => ⟨S1048576, .f32⟩
  | 123 => ⟨S1048576, .i32⟩
  | 124 => ⟨S_, .i32⟩
  | 125 => ⟨S_, .i32⟩
  | 126 => ⟨S_, .i32⟩
  | 127 => ⟨S1048576, .i32⟩
  | _ => ⟨S1048576x4, .f32⟩

abbrev hbmTy0_1 (i : Nat) : BufTy := match i % 128 with
  | 0 => ⟨S1048576, .i32⟩
  | 1 => ⟨S_, .i32⟩
  | 2 => ⟨S1048576, .i32⟩
  | 3 => ⟨S1048576, .i32⟩
  | 4 => ⟨S1048576, .i32⟩
  | 5 => ⟨S_, .i32⟩
  | 6 => ⟨S_, .i32⟩
  | 7 => ⟨S_, .i32⟩
  | 8 => ⟨S1048576, .i32⟩
  | 9 => ⟨S1048576, .i32⟩
  | 10 => ⟨S_, .i32⟩
  | 11 => ⟨S1048576, .i32⟩
  | 12 => ⟨S1048576, .i32⟩
  | 13 => ⟨S_, .i32⟩
  | 14 => ⟨S1048576, .i32⟩
  | 15 => ⟨S1048576, .i32⟩
  | 16 => ⟨S1048576, .i32⟩
  | 17 => ⟨S_, .f32⟩
  | 18 => ⟨S1048576, .f32⟩
  | 19 => ⟨S1048576, .f32⟩
  | 20 => ⟨S_, .f32⟩
  | 21 => ⟨S1048576, .f32⟩
  | 22 => ⟨S1048576, .f32⟩
  | 23 => ⟨S1048576, .f32⟩
  | 24 => ⟨S_, .f32⟩
  | 25 => ⟨S1048576, .f32⟩
  | 26 => ⟨S1048576, .f32⟩
  | 27 => ⟨S1048576, .f32⟩
  | 28 => ⟨S_, .f32⟩
  | 29 => ⟨S1048576, .f32⟩
  | 30 => ⟨S1048576, .f32⟩
  | 31 => ⟨S1048576, .f32⟩
  | 32 => ⟨S1048576, .f32⟩
  | 33 => ⟨S1048576x1, .f32⟩
  | 34 => ⟨S1048576, .f32⟩
  | 35 => ⟨S_, .f32⟩
  | 36 => ⟨S1048576, .f32⟩
  | 37 => ⟨S1048576, .f32⟩
  | 38 => ⟨S_, .f32⟩
  | 39 => ⟨S1048576, .f32⟩
  | 40 => ⟨S1048576, .f32⟩
  | 41 => ⟨S_, .f32⟩
  | 42 => ⟨S1048576, .f32⟩
  | 43 => ⟨S1048576, .f32⟩
  | 44 => ⟨S1048576x1, .f32⟩
  | 45 => ⟨S1048576, .f32⟩
  | 46 => ⟨S_, .f32⟩
  | 47 => ⟨S1048576, .f32⟩
  | 48 => ⟨S1048576, .f32⟩
  | 49 => ⟨S_, .f32⟩
  | 50 => ⟨S1048576, .f32⟩
  | 51 => ⟨S1048576, .f32⟩
  | 52 => ⟨S_, .f32⟩
  | 53 => ⟨S1048576, .f32⟩
  | 54 => ⟨S1048576, .f32⟩
  | 55 => ⟨S_, .f32⟩
  | 56 => ⟨S_, .i32⟩
  | 57 => ⟨S_, .f32⟩
  | 58 => ⟨S1048576, .f32⟩
  | 59 => ⟨S1048576, .f32⟩
  | 60 => ⟨S_, .f32⟩
  | 61 => ⟨S1048576, .f32⟩
  | 62 => ⟨S1048576, .f32⟩
  | 63 => ⟨S_, .f32⟩
  | 64 => ⟨S_, .i32⟩
  | 65 => ⟨S_, .f32⟩
  | 66 => ⟨S1048576, .f32⟩
  | 67 => ⟨S1048576, .f32⟩
  | 68 => ⟨S_, .f32⟩
  | 69 => ⟨S1048576, .f32⟩
  | 70 => ⟨S1048576, .f32⟩
  | 71 => ⟨S1048576, .f32⟩
  | 72 => ⟨S1048576, .f32⟩
  | 73 => ⟨S1048576, .f32⟩
  | 74 => ⟨S1048576, .f32⟩
  | 75 => ⟨S1048576, .i32⟩
  | 76 => ⟨S_, .i32⟩
  | 77 => ⟨S_, .i32⟩
  | 78 => ⟨S_, .i32⟩
  | 79 => ⟨S1048576, .i32⟩
  | 80 => ⟨S1048576, .i32⟩
  | 81 => ⟨S_, .i32⟩
  | 82 => ⟨S1048576, .i32⟩
  | 83 => ⟨S1048576, .i32⟩
  | 84 => ⟨S1048576, .i32⟩
  | 85 => ⟨S_, .i32⟩
  | 86 => ⟨S_, .i32⟩
  | 87 => ⟨S_, .i32⟩
  | 88 => ⟨S1048576, .i32⟩
  | 89 => ⟨S1048576, .i32⟩
  | 90 => ⟨S_, .i32⟩
  | 91 => ⟨S1048576, .i32⟩
  | 92 => ⟨S1048576, .i32⟩
  | 93 => ⟨S_, .i32⟩
  | 94 => ⟨S1048576, .i32⟩
  | 95 => ⟨S1048576, .i32⟩
  | 96 => ⟨S1048576, .i32⟩
  | 97 => ⟨S_, .f32⟩
  | 98 => ⟨S1048576, .f32⟩
  | 99 => ⟨S1048576, .f32⟩
  | 100 => ⟨S_, .f32⟩
  | 101 => ⟨S1048576, .f32⟩
  | 102 => ⟨S1048576, .f32⟩
  | 103 => ⟨S1048576, .f32⟩
  | 104 => ⟨S_, .f32⟩
  | 105 => ⟨S1048576, .f32⟩
  | 106 => ⟨S1048576, .f32⟩
  | 107 => ⟨S1048576, .f32⟩
  | 108 => ⟨S_, .f32⟩
  | 109 => ⟨S1048576, .f32⟩
  | 110 => ⟨S1048576, .f32⟩
  | 111 => ⟨S1048576, .f32⟩
  | 112 => ⟨S1048576, .f32⟩
  | 113 => ⟨S1048576x1, .f32⟩
  | 114 => ⟨S1048576, .f32⟩
  | 115 => ⟨S_, .f32⟩
  | 116 => ⟨S1048576, .f32⟩
  | 117 => ⟨S1x1048576, .f32⟩
  | 118 => ⟨S1x1048576, .f32⟩
  | 119 => ⟨S1x1048576, .f32⟩
  | 120 => ⟨S1x1048576, .f32⟩
  | 121 => ⟨S1x1048576, .f32⟩
  | 122 => ⟨S1x1048576, .f32⟩
  | 123 => ⟨S1x1048576, .f32⟩
  | 124 => ⟨S1x1048576, .f32⟩
  | 125 => ⟨S1x1048576, .f32⟩
  | 126 => ⟨S1x1048576, .f32⟩
  | 127 => ⟨S1x1048576, .f32⟩
  | _ => ⟨S1048576x4, .f32⟩

abbrev hbmTy0_2 (i : Nat) : BufTy := match i % 128 with
  | 0 => ⟨S1x1048576, .f32⟩
  | 1 => ⟨S1x1048576, .f32⟩
  | 2 => ⟨S1x1048576, .f32⟩
  | 3 => ⟨S1x1048576, .f32⟩
  | 4 => ⟨S1x1048576, .f32⟩
  | 5 => ⟨S16x1048576, .f32⟩
  | 6 => ⟨S16x1048576, .bf16⟩
  | 7 => ⟨S1x1048576, .i32⟩
  | 8 => ⟨S1x1048576, .i32⟩
  | 9 => ⟨S1x1048576, .i32⟩
  | 10 => ⟨S3x1048576, .i32⟩
  | _ => ⟨S1048576x4, .f32⟩

abbrev hbmTy (i : Nat) : BufTy := match i / 128 with
  | 0 => hbmTy0_0 i
  | 1 => hbmTy0_1 i
  | 2 => hbmTy0_2 i
  | _ => ⟨S1048576x4, .f32⟩

abbrev bufTy : (tb : Table) → Fin (tcTables nBuf tb) → BufTy
  | .hbm, ⟨i, _⟩ => hbmTy i
  | _, _ => ⟨S1048576x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_2 : Ref sig .tc := ⟨.hbm, 14, rfl⟩
abbrev main_v10 : Ref sig .tc := ⟨.hbm, 15, rfl⟩
abbrev main_v11 : Ref sig .tc := ⟨.hbm, 16, rfl⟩
abbrev main_cst_3 : Ref sig .tc := ⟨.hbm, 17, rfl⟩
abbrev main_v12 : Ref sig .tc := ⟨.hbm, 18, rfl⟩
abbrev main_v13 : Ref sig .tc := ⟨.hbm, 19, rfl⟩
abbrev main_cst_4 : Ref sig .tc := ⟨.hbm, 20, rfl⟩
abbrev main_v14 : Ref sig .tc := ⟨.hbm, 21, rfl⟩
abbrev main_v15 : Ref sig .tc := ⟨.hbm, 22, rfl⟩
abbrev main_cst_5 : Ref sig .tc := ⟨.hbm, 23, rfl⟩
abbrev main_c : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v16 : Ref sig .tc := ⟨.hbm, 30, rfl⟩
abbrev main_cst_6 : Ref sig .tc := ⟨.hbm, 31, rfl⟩
abbrev main_c_7 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_8 : Ref sig .tc := ⟨.hbm, 44, rfl⟩
abbrev main_c_9 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_v23 : Ref sig .tc := ⟨.hbm, 51, rfl⟩
abbrev main_v24 : Ref sig .tc := ⟨.hbm, 52, rfl⟩
abbrev main_c_10 : Ref sig .tc := ⟨.hbm, 53, rfl⟩
abbrev main_c_11 : Ref sig .tc := ⟨.hbm, 54, rfl⟩
abbrev main_call3_v0 : Ref sig .tc := ⟨.hbm, 55, rfl⟩
abbrev main_call3_v1 : Ref sig .tc := ⟨.hbm, 56, rfl⟩
abbrev main_call3_v2 : Ref sig .tc := ⟨.hbm, 57, rfl⟩
abbrev main_call3_v3 : Ref sig .tc := ⟨.hbm, 58, rfl⟩
abbrev main_call3_v4 : Ref sig .tc := ⟨.hbm, 59, rfl⟩
abbrev main_v25 : Ref sig .tc := ⟨.hbm, 60, rfl⟩
abbrev main_c_12 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_cst_13 : Ref sig .tc := ⟨.hbm, 65, rfl⟩
abbrev main_v29 : Ref sig .tc := ⟨.hbm, 66, rfl⟩
abbrev main_v30 : Ref sig .tc := ⟨.hbm, 67, rfl⟩
abbrev main_cst_14 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_cst_15 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_cst_16 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_cst_17 : Ref sig .tc := ⟨.hbm, 83, rfl⟩
abbrev main_v43 : Ref sig .tc := ⟨.hbm, 84, rfl⟩
abbrev main_v44 : Ref sig .tc := ⟨.hbm, 85, rfl⟩
abbrev main_cst_18 : Ref sig .tc := ⟨.hbm, 86, rfl⟩
abbrev main_v45 : Ref sig .tc := ⟨.hbm, 87, rfl⟩
abbrev main_v46 : Ref sig .tc := ⟨.hbm, 88, rfl⟩
abbrev main_cst_19 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_cst_20 : Ref sig .tc := ⟨.hbm, 94, rfl⟩
abbrev main_v51 : Ref sig .tc := ⟨.hbm, 95, rfl⟩
abbrev main_v52 : Ref sig .tc := ⟨.hbm, 96, rfl⟩
abbrev main_cst_21 : Ref sig .tc := ⟨.hbm, 97, rfl⟩
abbrev main_v53 : Ref sig .tc := ⟨.hbm, 98, rfl⟩
abbrev main_v54 : Ref sig .tc := ⟨.hbm, 99, rfl⟩
abbrev main_cst_22 : Ref sig .tc := ⟨.hbm, 100, rfl⟩
abbrev main_v55 : Ref sig .tc := ⟨.hbm, 101, rfl⟩
abbrev main_v56 : Ref sig .tc := ⟨.hbm, 102, rfl⟩
abbrev main_cst_23 : Ref sig .tc := ⟨.hbm, 103, rfl⟩
abbrev main_c_24 : Ref sig .tc := ⟨.hbm, 104, rfl⟩
abbrev main_call4_v0 : Ref sig .tc := ⟨.hbm, 105, rfl⟩
abbrev main_call4_v1 : Ref sig .tc := ⟨.hbm, 106, rfl⟩
abbrev main_call4_v2 : Ref sig .tc := ⟨.hbm, 107, rfl⟩
abbrev main_call4_v3 : Ref sig .tc := ⟨.hbm, 108, rfl⟩
abbrev main_call4_v4 : Ref sig .tc := ⟨.hbm, 109, rfl⟩
abbrev main_v57 : Ref sig .tc := ⟨.hbm, 110, rfl⟩
abbrev main_cst_25 : Ref sig .tc := ⟨.hbm, 111, rfl⟩
abbrev main_c_26 : Ref sig .tc := ⟨.hbm, 112, rfl⟩
abbrev main_call5_v0 : Ref sig .tc := ⟨.hbm, 113, rfl⟩
abbrev main_call5_v1 : Ref sig .tc := ⟨.hbm, 114, rfl⟩
abbrev main_call5_v2 : Ref sig .tc := ⟨.hbm, 115, rfl⟩
abbrev main_call5_v3 : Ref sig .tc := ⟨.hbm, 116, rfl⟩
abbrev main_call5_v4 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_c_27 : Ref sig .tc := ⟨.hbm, 124, rfl⟩
abbrev main_c_28 : Ref sig .tc := ⟨.hbm, 125, rfl⟩
abbrev main_call6_v0 : Ref sig .tc := ⟨.hbm, 126, rfl⟩
abbrev main_call6_v1 : Ref sig .tc := ⟨.hbm, 127, rfl⟩
abbrev main_call6_v2 : Ref sig .tc := ⟨.hbm, 128, rfl⟩
abbrev main_call6_v3 : Ref sig .tc := ⟨.hbm, 129, rfl⟩
abbrev main_call6_v4 : Ref sig .tc := ⟨.hbm, 130, rfl⟩
abbrev main_v64 : Ref sig .tc := ⟨.hbm, 131, rfl⟩
abbrev main_v65 : Ref sig .tc := ⟨.hbm, 132, rfl⟩
abbrev main_c_29 : Ref sig .tc := ⟨.hbm, 133, rfl⟩
abbrev main_c_30 : Ref sig .tc := ⟨.hbm, 134, rfl⟩
abbrev main_call7_v0 : Ref sig .tc := ⟨.hbm, 135, rfl⟩
abbrev main_call7_v1 : Ref sig .tc := ⟨.hbm, 136, rfl⟩
abbrev main_call7_v2 : Ref sig .tc := ⟨.hbm, 137, rfl⟩
abbrev main_call7_v3 : Ref sig .tc := ⟨.hbm, 138, rfl⟩
abbrev main_call7_v4 : Ref sig .tc := ⟨.hbm, 139, rfl⟩
abbrev main_v66 : Ref sig .tc := ⟨.hbm, 140, rfl⟩
abbrev main_c_31 : Ref sig .tc := ⟨.hbm, 141, rfl⟩
abbrev main_v67 : Ref sig .tc := ⟨.hbm, 142, rfl⟩
abbrev main_v68 : Ref sig .tc := ⟨.hbm, 143, rfl⟩
abbrev main_v69 : Ref sig .tc := ⟨.hbm, 144, rfl⟩
abbrev main_cst_32 : Ref sig .tc := ⟨.hbm, 145, rfl⟩
abbrev main_v70 : Ref sig .tc := ⟨.hbm, 146, rfl⟩
abbrev main_v71 : Ref sig .tc := ⟨.hbm, 147, rfl⟩
abbrev main_cst_33 : Ref sig .tc := ⟨.hbm, 148, rfl⟩
abbrev main_v72 : Ref sig .tc := ⟨.hbm, 149, rfl⟩
abbrev main_v73 : Ref sig .tc := ⟨.hbm, 150, rfl⟩
abbrev main_v74 : Ref sig .tc := ⟨.hbm, 151, rfl⟩
abbrev main_cst_34 : Ref sig .tc := ⟨.hbm, 152, rfl⟩
abbrev main_v75 : Ref sig .tc := ⟨.hbm, 153, rfl⟩
abbrev main_v76 : Ref sig .tc := ⟨.hbm, 154, rfl⟩
abbrev main_v77 : Ref sig .tc := ⟨.hbm, 155, rfl⟩
abbrev main_cst_35 : Ref sig .tc := ⟨.hbm, 156, rfl⟩
abbrev main_v78 : Ref sig .tc := ⟨.hbm, 157, rfl⟩
abbrev main_v79 : Ref sig .tc := ⟨.hbm, 158, rfl⟩
abbrev main_v80 : Ref sig .tc := ⟨.hbm, 159, rfl⟩
abbrev main_v81 : Ref sig .tc := ⟨.hbm, 160, rfl⟩
abbrev main_v82 : Ref sig .tc := ⟨.hbm, 161, rfl⟩
abbrev main_v83 : Ref sig .tc := ⟨.hbm, 162, rfl⟩
abbrev main_cst_36 : Ref sig .tc := ⟨.hbm, 163, rfl⟩
abbrev main_v84 : Ref sig .tc := ⟨.hbm, 164, rfl⟩
abbrev main_v85 : Ref sig .tc := ⟨.hbm, 165, rfl⟩
abbrev main_cst_37 : Ref sig .tc := ⟨.hbm, 166, rfl⟩
abbrev main_v86 : Ref sig .tc := ⟨.hbm, 167, rfl⟩
abbrev main_v87 : Ref sig .tc := ⟨.hbm, 168, rfl⟩
abbrev main_cst_38 : Ref sig .tc := ⟨.hbm, 169, rfl⟩
abbrev main_v88 : Ref sig .tc := ⟨.hbm, 170, rfl⟩
abbrev main_v89 : Ref sig .tc := ⟨.hbm, 171, rfl⟩
abbrev main_v90 : Ref sig .tc := ⟨.hbm, 172, rfl⟩
abbrev main_v91 : Ref sig .tc := ⟨.hbm, 173, rfl⟩
abbrev main_cst_39 : Ref sig .tc := ⟨.hbm, 174, rfl⟩
abbrev main_v92 : Ref sig .tc := ⟨.hbm, 175, rfl⟩
abbrev main_v93 : Ref sig .tc := ⟨.hbm, 176, rfl⟩
abbrev main_cst_40 : Ref sig .tc := ⟨.hbm, 177, rfl⟩
abbrev main_v94 : Ref sig .tc := ⟨.hbm, 178, rfl⟩
abbrev main_v95 : Ref sig .tc := ⟨.hbm, 179, rfl⟩
abbrev main_cst_41 : Ref sig .tc := ⟨.hbm, 180, rfl⟩
abbrev main_v96 : Ref sig .tc := ⟨.hbm, 181, rfl⟩
abbrev main_v97 : Ref sig .tc := ⟨.hbm, 182, rfl⟩
abbrev main_cst_42 : Ref sig .tc := ⟨.hbm, 183, rfl⟩
abbrev main_c_43 : Ref sig .tc := ⟨.hbm, 184, rfl⟩
abbrev main_call8_v0 : Ref sig .tc := ⟨.hbm, 185, rfl⟩
abbrev main_call8_v1 : Ref sig .tc := ⟨.hbm, 186, rfl⟩
abbrev main_call8_v2 : Ref sig .tc := ⟨.hbm, 187, rfl⟩
abbrev main_call8_v3 : Ref sig .tc := ⟨.hbm, 188, rfl⟩
abbrev main_call8_v4 : Ref sig .tc := ⟨.hbm, 189, rfl⟩
abbrev main_v98 : Ref sig .tc := ⟨.hbm, 190, rfl⟩
abbrev main_cst_44 : Ref sig .tc := ⟨.hbm, 191, rfl⟩
abbrev main_c_45 : Ref sig .tc := ⟨.hbm, 192, rfl⟩
abbrev main_call9_v0 : Ref sig .tc := ⟨.hbm, 193, rfl⟩
abbrev main_call9_v1 : Ref sig .tc := ⟨.hbm, 194, rfl⟩
abbrev main_call9_v2 : Ref sig .tc := ⟨.hbm, 195, rfl⟩
abbrev main_call9_v3 : Ref sig .tc := ⟨.hbm, 196, rfl⟩
abbrev main_call9_v4 : Ref sig .tc := ⟨.hbm, 197, rfl⟩
abbrev main_v99 : Ref sig .tc := ⟨.hbm, 198, rfl⟩
abbrev main_v100 : Ref sig .tc := ⟨.hbm, 199, rfl⟩
abbrev main_v101 : Ref sig .tc := ⟨.hbm, 200, rfl⟩
abbrev main_v102 : Ref sig .tc := ⟨.hbm, 201, rfl⟩
abbrev main_v103 : Ref sig .tc := ⟨.hbm, 202, rfl⟩
abbrev main_v104 : Ref sig .tc := ⟨.hbm, 203, rfl⟩
abbrev main_c_46 : Ref sig .tc := ⟨.hbm, 204, rfl⟩
abbrev main_c_47 : Ref sig .tc := ⟨.hbm, 205, rfl⟩
abbrev main_call10_v0 : Ref sig .tc := ⟨.hbm, 206, rfl⟩
abbrev main_call10_v1 : Ref sig .tc := ⟨.hbm, 207, rfl⟩
abbrev main_call10_v2 : Ref sig .tc := ⟨.hbm, 208, rfl⟩
abbrev main_call10_v3 : Ref sig .tc := ⟨.hbm, 209, rfl⟩
abbrev main_call10_v4 : Ref sig .tc := ⟨.hbm, 210, rfl⟩
abbrev main_v105 : Ref sig .tc := ⟨.hbm, 211, rfl⟩
abbrev main_v106 : Ref sig .tc := ⟨.hbm, 212, rfl⟩
abbrev main_c_48 : Ref sig .tc := ⟨.hbm, 213, rfl⟩
abbrev main_c_49 : Ref sig .tc := ⟨.hbm, 214, rfl⟩
abbrev main_call11_v0 : Ref sig .tc := ⟨.hbm, 215, rfl⟩
abbrev main_call11_v1 : Ref sig .tc := ⟨.hbm, 216, rfl⟩
abbrev main_call11_v2 : Ref sig .tc := ⟨.hbm, 217, rfl⟩
abbrev main_call11_v3 : Ref sig .tc := ⟨.hbm, 218, rfl⟩
abbrev main_call11_v4 : Ref sig .tc := ⟨.hbm, 219, rfl⟩
abbrev main_v107 : Ref sig .tc := ⟨.hbm, 220, rfl⟩
abbrev main_c_50 : Ref sig .tc := ⟨.hbm, 221, rfl⟩
abbrev main_v108 : Ref sig .tc := ⟨.hbm, 222, rfl⟩
abbrev main_v109 : Ref sig .tc := ⟨.hbm, 223, rfl⟩
abbrev main_v110 : Ref sig .tc := ⟨.hbm, 224, rfl⟩
abbrev main_cst_51 : Ref sig .tc := ⟨.hbm, 225, rfl⟩
abbrev main_v111 : Ref sig .tc := ⟨.hbm, 226, rfl⟩
abbrev main_v112 : Ref sig .tc := ⟨.hbm, 227, rfl⟩
abbrev main_cst_52 : Ref sig .tc := ⟨.hbm, 228, rfl⟩
abbrev main_v113 : Ref sig .tc := ⟨.hbm, 229, rfl⟩
abbrev main_v114 : Ref sig .tc := ⟨.hbm, 230, rfl⟩
abbrev main_v115 : Ref sig .tc := ⟨.hbm, 231, rfl⟩
abbrev main_cst_53 : Ref sig .tc := ⟨.hbm, 232, rfl⟩
abbrev main_v116 : Ref sig .tc := ⟨.hbm, 233, rfl⟩
abbrev main_v117 : Ref sig .tc := ⟨.hbm, 234, rfl⟩
abbrev main_v118 : Ref sig .tc := ⟨.hbm, 235, rfl⟩
abbrev main_cst_54 : Ref sig .tc := ⟨.hbm, 236, rfl⟩
abbrev main_v119 : Ref sig .tc := ⟨.hbm, 237, rfl⟩
abbrev main_v120 : Ref sig .tc := ⟨.hbm, 238, rfl⟩
abbrev main_v121 : Ref sig .tc := ⟨.hbm, 239, rfl⟩
abbrev main_v122 : Ref sig .tc := ⟨.hbm, 240, rfl⟩
abbrev main_v123 : Ref sig .tc := ⟨.hbm, 241, rfl⟩
abbrev main_v124 : Ref sig .tc := ⟨.hbm, 242, rfl⟩
abbrev main_cst_55 : Ref sig .tc := ⟨.hbm, 243, rfl⟩
abbrev main_v125 : Ref sig .tc := ⟨.hbm, 244, rfl⟩
abbrev main_v126 : Ref sig .tc := ⟨.hbm, 245, rfl⟩
abbrev main_v127 : Ref sig .tc := ⟨.hbm, 246, rfl⟩
abbrev main_v128 : Ref sig .tc := ⟨.hbm, 247, rfl⟩
abbrev main_v129 : Ref sig .tc := ⟨.hbm, 248, rfl⟩
abbrev main_v130 : Ref sig .tc := ⟨.hbm, 249, rfl⟩
abbrev main_v131 : Ref sig .tc := ⟨.hbm, 250, rfl⟩
abbrev main_v132 : Ref sig .tc := ⟨.hbm, 251, rfl⟩
abbrev main_v133 : Ref sig .tc := ⟨.hbm, 252, rfl⟩
abbrev main_v134 : Ref sig .tc := ⟨.hbm, 253, rfl⟩
abbrev main_v135 : Ref sig .tc := ⟨.hbm, 254, rfl⟩
abbrev main_v136 : Ref sig .tc := ⟨.hbm, 255, rfl⟩
abbrev main_v137 : Ref sig .tc := ⟨.hbm, 256, rfl⟩
abbrev main_v138 : Ref sig .tc := ⟨.hbm, 257, rfl⟩
abbrev main_v139 : Ref sig .tc := ⟨.hbm, 258, rfl⟩
abbrev main_v140 : Ref sig .tc := ⟨.hbm, 259, rfl⟩
abbrev main_v141 : Ref sig .tc := ⟨.hbm, 260, rfl⟩
abbrev main_v142 : Ref sig .tc := ⟨.hbm, 261, rfl⟩
abbrev main_v143 : Ref sig .tc := ⟨.hbm, 262, rfl⟩
abbrev main_v144 : Ref sig .tc := ⟨.hbm, 263, rfl⟩
abbrev main_v145 : Ref sig .tc := ⟨.hbm, 264, rfl⟩
abbrev main_v146 : Ref sig .tc := ⟨.hbm, 265, rfl⟩
abbrev main_v147 : Ref sig .tc := ⟨.hbm, 266, rfl⟩

abbrev nD : Nat := 1
abbrev τ : Topo := Topo.v7x

variable {F : FTy → Type} [FloatOps F]
-- ==== Proof.Words.lean ====
/-
  The words of a gather pipeline: what a vector subcore carries from trip to trip, and the offsets, conditions and
  checked bounds they give. A pipeline is named by its call `q`, which shifts its index blocks by `512 * q`, and by its
  place `p` in the call, which is its row of the index array and shifts its output blocks by `512 * p`.
-/
module

public import Idealize.ShloMosaic.Lib.SparseCore
public import Idealize.ShloMosaic.Lib.Scf
public import Idealize.ShloMosaic.Lib.Tactic

@[expose] public section

noncomputable section

namespace Cert.Proof.Words

open Idealize.ShloMosaic

abbrev S153600x128 : Shape := ⟨2, ![153600, 128]⟩
abbrev S3x1048576 : Shape := ⟨2, ![3, 1048576]⟩
abbrev S393216x128 : Shape := ⟨2, ![393216, 128]⟩
abbrev S2x1x256 : Shape := ⟨3, ![2, 1, 256]⟩
abbrev S2 : Shape := ⟨1, ![2]⟩
abbrev S2x256x128 : Shape := ⟨3, ![2, 256, 128]⟩
abbrev S1x1x256 : Shape := ⟨3, ![1, 1, 256]⟩
abbrev S1x256 : Shape := ⟨2, ![1, 256]⟩
abbrev S1 : Shape := ⟨1, ![1]⟩
abbrev S_ : Shape := ⟨0, ![]⟩
abbrev S1x256x128 : Shape := ⟨3, ![1, 256, 128]⟩
abbrev S256x128 : Shape := ⟨2, ![256, 128]⟩
abbrev S256 : Shape := ⟨1, ![256]⟩

theorem sqI : S1x1x256.Squeezes S1x256 := by decide
theorem sqL : S1x256.Squeezes S256 := by decide
theorem sqO : S1x256x128.Squeezes S256x128 := by decide
theorem sqD : S1.Squeezes S_ := by decide
theorem gath : S153600x128.Gathers 0 S256x128 := by decide
theorem inbL : ∀ a, (![0, 0] : Fin 2 → Nat) a + S1x256.size a ≤ S1x256.size a := by decide
theorem inbT : ∀ a, (![0, 0] : Fin 2 → Nat) a + S153600x128.size a ≤ S153600x128.size a := by decide

/-- The subcores: two cores of sixteen. -/
abbrev G : Pipeline.Grid := ⟨2, ![2, 16], ![false, false]⟩

/-! ## Where the blocks lie -/

/-- Block `t` of a subcore, in the index array's row `p`, for call `q`. -/
def offI (q p : ℕ) (i : G.Coords) (t : ℕ) : Fin 2 → ℕ := ![p, 131072 * q + 4096 * (i 1).val + 65536 * (i 0).val + 256 * t]
/-- Block `t` of a subcore, in the output's stretch `p`. -/
def offO (p : ℕ) (i : G.Coords) (t : ℕ) : Fin 2 → ℕ := ![131072 * p + 4096 * (i 1).val + 65536 * (i 0).val + 256 * t, 0]
/-- A slot of a two-slot buffer. -/
def offS (j : ℕ) : Fin 3 → ℕ := ![j % 2, 0, 0]
/-- A semaphore of a two-slot family. -/
def offD (j : ℕ) : Fin 1 → ℕ := ![j % 2]

theorem offI_inb (q : Fin 8) (p : Fin 3) (i : G.Coords) (t : Fin 16) : ∀ a, offI q.val p.val i t.val a + S1x256.size a ≤ S3x1048576.size a := by
  have h0 : (i 0).val < 2 := (i 0).isLt
  have h1 : (i 1).val < 16 := (i 1).isLt
  intro a
  match a with
  | 0 => show p.val + 1 ≤ 3; omega
  | 1 => show 131072 * q.val + 4096 * (i 1).val + 65536 * (i 0).val + 256 * t.val + 256 ≤ 1048576; omega

theorem offO_inb (p : Fin 3) (i : G.Coords) (t : Fin 16) : ∀ a, offO p.val i t.val a + S256x128.size a ≤ S393216x128.size a := by
  have h0 : (i 0).val < 2 := (i 0).isLt
  have h1 : (i 1).val < 16 := (i 1).isLt
  intro a
  match a with
  | 0 => show 131072 * p.val + 4096 * (i 1).val + 65536 * (i 0).val + 256 * t.val + 256 ≤ 393216; omega
  | 1 => show 0 + 128 ≤ 128; omega

theorem offS_inbI (j : ℕ) : ∀ a, offS j a + S1x1x256.size a ≤ S2x1x256.size a := by
  intro a
  match a with
  | 0 => show j % 2 + 1 ≤ 2; omega
  | 1 => show 0 + 1 ≤ 1; omega
  | 2 => show 0 + 256 ≤ 256; omega

theorem offS_inbO (j : ℕ) : ∀ a, offS j a + S1x256x128.size a ≤ S2x256x128.size a := by
  intro a
  match a with
  | 0 => show j % 2 + 1 ≤ 2; omega
  | 1 => show 0 + 256 ≤ 256; omega
  | 2 => show 0 + 128 ≤ 128; omega

theorem offD_inb (j : ℕ) : ∀ a, offD j a + S1.size a ≤ S2.size a := by
  intro a
  match a with
  | 0 => show j % 2 + 1 ≤ 2; omega

/-! ## The words a trip computes -/

/-- The subcore's first block. -/
abbrev base (i : G.Coords) : BitVec 32 :=
  Scalar.muli (Scalar.addi (Scalar.addi 0#32 (Scalar.muli (BitVec.ofNat 32 (i 1).val) 1#32)) (Scalar.muli (BitVec.ofNat 32 (i 0).val) 16#32)) 16#32
/-- A block's successor and its predecessor, both of which wrap. -/
abbrev nxt (w : BitVec 32) : BitVec 32 :=
  Scalar.select (Scalar.cmpi .eq (Scalar.select 1#1 (Scalar.addi w 1#32) w) 16#32) 0#32 (Scalar.select 1#1 (Scalar.addi w 1#32) w)
abbrev prv (w : BitVec 32) : BitVec 32 :=
  Scalar.select (Scalar.cmpi .eq (Scalar.select 1#1 (Scalar.subi w 1#32) w) 4294967295#32) 15#32 (Scalar.select 1#1 (Scalar.subi w 1#32) w)
/-- The first block of call `q`, and of stretch `p`. -/
abbrev from512 (q : ℕ) : BitVec 32 := BitVec.ofNat 32 (512 * q)
/-- Block `w` of a subcore, counted from a first block. -/
abbrev blk (b : BitVec 32) (i : G.Coords) (w : BitVec 32) : BitVec 32 := Scalar.addi b (Scalar.addi w (base i))

abbrev gloop : Scf.Loop 32 := ⟨0#32, Scalar.addi 0#32 16#32, 1#32⟩
theorem gok : gloop.OK := by decide

abbrev at_ (k : Fin gloop.trips) : BitVec 32 := Scf.iv 0#32 1#32 k

def gI (q p : ℕ) (i : G.Coords) (w : BitVec 32) : Fin 2 → ℕ := ![p, (Scalar.muli 256#32 (blk (from512 q) i w)).toNat]
def gO (p : ℕ) (i : G.Coords) (w : BitVec 32) : Fin 2 → ℕ := ![(Scalar.muli 256#32 (blk (from512 p) i w)).toNat, 0]
def gS (w : BitVec 32) : Fin 3 → ℕ := ![(Scalar.remui w 2#32).toNat, 0, 0]
def gD (w : BitVec 32) : Fin 1 → ℕ := ![(Scalar.remui w 2#32).toNat]

def c1 (q : ℕ) (i : G.Coords) (k : Fin gloop.trips) (w : BitVec 32) : BitVec 1 :=
  Scalar.cmpi .ne (Scalar.extui (Scalar.andi (Scalar.andi (Scalar.cmpi .ne (blk (from512 q) i w) (blk (from512 q) i (nxt w)))
    (Scalar.xori (Scalar.cmpi .sge (at_ k) 15#32) 1#1)) 1#1)) 0#32
def c2 (q : ℕ) (i : G.Coords) (k : Fin gloop.trips) (w : BitVec 32) : BitVec 1 :=
  Scalar.cmpi .ne (Scalar.extui (Scalar.andi (Scalar.ori (Scalar.cmpi .ne (blk (from512 q) i w) (blk (from512 q) i (prv w)))
    (Scalar.cmpi .eq (at_ k) 0#32)) (Scalar.cmpi .sge (at_ k) 0#32))) 0#32
def c5 (p : ℕ) (i : G.Coords) (k : Fin gloop.trips) (w : BitVec 32) : BitVec 1 :=
  Scalar.cmpi .ne (Scalar.extui (Scalar.ori (Scalar.cmpi .ne (blk (from512 p) i w) (blk (from512 p) i (nxt w))) (Scalar.cmpi .eq (at_ k) 15#32))) 0#32
def c7 (p : ℕ) (i : G.Coords) (k : Fin gloop.trips) (w : BitVec 32) : BitVec 1 :=
  Scalar.cmpi .ne (Scalar.extui (Scalar.andi (Scalar.cmpi .ne (blk (from512 p) i w) (blk (from512 p) i (prv w)))
    (Scalar.xori (Scalar.cmpi .eq (at_ k) 0#32) 1#1))) 0#32

/-- The bounds a trip checks. -/
def chk1 (q p : ℕ) (i : G.Coords) (k : Fin gloop.trips) (x8 x9 x10 x11 x12 : BitVec 32) : Prop :=
  (∀ (_ : c1 q i k x12 = 1#1), ∀ a, (gS x8) a + S1x1x256.size a ≤ S2x1x256.size a) ∧
  (∀ (_ : c1 q i k x12 = 1#1), ∀ a, (gI q p i (nxt x12)) a + S1x256.size a ≤ S3x1048576.size a) ∧
  (∀ (_ : c1 q i k x12 = 1#1), ∀ a, (gD x8) a + S1.size a ≤ S2.size a) ∧
  (∀ (_ : c2 q i k x12 = 1#1), ∀ a, (gS x9) a + S1x1x256.size a ≤ S2x1x256.size a) ∧
  (∀ (_ : c2 q i k x12 = 1#1), ∀ a, (gI q p i x12) a + S1x256.size a ≤ S3x1048576.size a) ∧
  (∀ (_ : c2 q i k x12 = 1#1), ∀ a, (gD x9) a + S1.size a ≤ S2.size a) ∧
  (∀ (_ : c5 p i k x12 = 1#1), ∀ a, (gS x10) a + S1x256x128.size a ≤ S2x256x128.size a) ∧
  (∀ (_ : c5 p i k x12 = 1#1), ∀ a, (gO p i x12) a + S256x128.size a ≤ S393216x128.size a) ∧
  (∀ (_ : c5 p i k x12 = 1#1), ∀ a, (gD x10) a + S1.size a ≤ S2.size a) ∧
  (∀ (_ : c7 p i k x12 = 1#1), ∀ a, (gS x11) a + S1x256x128.size a ≤ S2x256x128.size a) ∧
  (∀ (_ : c7 p i k x12 = 1#1), ∀ a, (gO p i (prv x12)) a + S256x128.size a ≤ S393216x128.size a) ∧
  (∀ (_ : c7 p i k x12 = 1#1), ∀ a, (gD x11) a + S1.size a ≤ S2.size a)
instance chk1.dec : ∀ q p i k x8 x9 x10 x11 x12, Decidable (chk1 q p i k x8 x9 x10 x11 x12) :=
  fun q p i k x8 x9 x10 x11 x12 => decidable_of_iff' _ (Iff.of_eq (chk1.eq_1 q p i k x8 x9 x10 x11 x12))
def chk2 (x10 : BitVec 32) : Prop := ∀ a, (gS x10) a + S1x256x128.size a ≤ S2x256x128.size a
instance chk2.dec : ∀ x10, Decidable (chk2 x10) := fun x10 => decidable_of_iff' _ (Iff.of_eq (chk2.eq_1 x10))
def chk3 (x9 : BitVec 32) : Prop := ∀ a, (gS x9) a + S1x1x256.size a ≤ S2x1x256.size a
instance chk3.dec : ∀ x9, Decidable (chk3 x9) := fun x9 => decidable_of_iff' _ (Iff.of_eq (chk3.eq_1 x9))
/-- The bounds checked after the last trip. -/
def chk4 (x3 : BitVec 32) : Prop :=
  (∀ a, (gS x3) a + S1x256x128.size a ≤ S2x256x128.size a) ∧ (∀ a, (gD x3) a + S1.size a ≤ S2.size a) ∧
  (∀ a, (gS x3) a + S1x256x128.size a ≤ S2x256x128.size a)
instance chk4.dec : ∀ x3, Decidable (chk4 x3) := fun x3 => decidable_of_iff' _ (Iff.of_eq (chk4.eq_1 x3))
def chk5 (p : ℕ) (i : G.Coords) (x4 : BitVec 32) : Prop := ∀ a, (gO p i (prv x4)) a + S256x128.size a ≤ S393216x128.size a
instance chk5.dec : ∀ p i x4, Decidable (chk5 p i x4) := fun p i x4 => decidable_of_iff' _ (Iff.of_eq (chk5.eq_1 p i x4))

/-! ## What they come to -/

/-- The words carried into trip `t`: the blocks fetched, waited for, gathered, the write-outs waited for, and the
    block's number, which wraps. -/
abbrev w8 (t : ℕ) : BitVec 32 := BitVec.ofNat 32 (min (t + 1) 16)
abbrev w9 (t : ℕ) : BitVec 32 := BitVec.ofNat 32 t
abbrev w11 (t : ℕ) : BitVec 32 := BitVec.ofNat 32 (t - 1)
abbrev w12 (t : ℕ) : BitVec 32 := BitVec.ofNat 32 (t % 16)
abbrev words (t : ℕ) : BitVec 32 × BitVec 32 × BitVec 32 × BitVec 32 × BitVec 32 := (w8 t, w9 t, w9 t, w11 t, w12 t)

theorem base_eq (i : G.Coords) : base i = BitVec.ofNat 32 (16 * (i 1).val + 256 * (i 0).val) := by revert i; decide +kernel

theorem blk_eq (a : ℕ) (i : G.Coords) (t : ℕ) :
    Scalar.muli 256#32 (blk (from512 a) i (BitVec.ofNat 32 t)) = BitVec.ofNat 32 (131072 * a + 4096 * (i 1).val + 65536 * (i 0).val + 256 * t) := by
  unfold blk
  rw [base_eq]
  show 256#32 * (BitVec.ofNat 32 (512 * a) + (BitVec.ofNat 32 t + BitVec.ofNat 32 (16 * (i 1).val + 256 * (i 0).val))) = _
  rw [← BitVec.ofNat_add, ← BitVec.ofNat_add, ← BitVec.ofNat_mul]
  congr 1
  omega

theorem gI_eq (q : Fin 8) (p : ℕ) (i : G.Coords) (t : Fin 16) {w : BitVec 32} (h : w = BitVec.ofNat 32 t.val) :
    gI q.val p i w = offI q.val p i t.val := by
  have h0 : (i 0).val < 2 := (i 0).isLt
  have h1 : (i 1).val < 16 := (i 1).isLt
  subst h
  unfold gI offI
  rw [blk_eq, BitVec.toNat_ofNat, Nat.mod_eq_of_lt (by omega)]

theorem gO_eq (p : Fin 3) (i : G.Coords) (t : Fin 16) {w : BitVec 32} (h : w = BitVec.ofNat 32 t.val) : gO p.val i w = offO p.val i t.val := by
  have h0 : (i 0).val < 2 := (i 0).isLt
  have h1 : (i 1).val < 16 := (i 1).isLt
  subst h
  unfold gO offO
  rw [blk_eq, BitVec.toNat_ofNat, Nat.mod_eq_of_lt (by omega)]

theorem cmp_ne (b : BitVec 32) (i : G.Coords) (w w' : BitVec 32) : Scalar.cmpi .ne (blk b i w) (blk b i w') = Scalar.cmpi .ne w w' := by
  have h : (b + (w + base i) = b + (w' + base i)) ↔ w = w' := by
    rw [BitVec.add_right_inj, BitVec.add_left_inj]
  show BitVec.ofBool (b + (w + base i) != b + (w' + base i)) = BitVec.ofBool (w != w')
  congr 1
  rw [Bool.eq_iff_iff]
  simp only [bne_iff_ne, ne_eq, h]

theorem nxt_eq (k : Fin gloop.trips) (h : k.val + 1 < 16) : nxt (w12 k.val) = BitVec.ofNat 32 (k.val + 1) := by revert k; decide +kernel
theorem prv_eq (k : Fin gloop.trips) (h : 0 < k.val) : prv (w12 k.val) = BitVec.ofNat 32 (k.val - 1) := by revert k; decide +kernel
theorem prv_last : prv (w12 16) = BitVec.ofNat 32 15 := by decide
theorem w12_eq (k : Fin gloop.trips) : w12 k.val = BitVec.ofNat 32 k.val := by revert k; decide +kernel

theorem c1_iff (q : ℕ) (i : G.Coords) (k : Fin gloop.trips) : c1 q i k (w12 k.val) = 1#1 ↔ k.val + 1 < 16 := by
  unfold c1; rw [cmp_ne]; revert k; decide +kernel
theorem c2_true (q : ℕ) (i : G.Coords) (k : Fin gloop.trips) : c2 q i k (w12 k.val) = 1#1 := by
  unfold c2; rw [cmp_ne]; revert k; decide +kernel
theorem c5_true (p : ℕ) (i : G.Coords) (k : Fin gloop.trips) : c5 p i k (w12 k.val) = 1#1 := by
  unfold c5; rw [cmp_ne]; revert k; decide +kernel
theorem c7_iff (p : ℕ) (i : G.Coords) (k : Fin gloop.trips) : c7 p i k (w12 k.val) = 1#1 ↔ 0 < k.val := by
  unfold c7; rw [cmp_ne]; revert k; decide +kernel

theorem gS_eq (t : Fin 17) {w : BitVec 32} (h : w = BitVec.ofNat 32 t.val) : gS w = offS t.val := by subst h; revert t; decide +kernel
theorem gD_eq (t : Fin 17) {w : BitVec 32} (h : w = BitVec.ofNat 32 t.val) : gD w = offD t.val := by subst h; revert t; decide +kernel
theorem w8_eq (k : Fin gloop.trips) : w8 k.val = BitVec.ofNat 32 (k.val + 1) := by revert k; decide +kernel

theorem off4 (k : Fin gloop.trips) : gS (w8 k.val) = offS (k.val + 1) := gS_eq ⟨k.val + 1, Nat.succ_lt_succ k.isLt⟩ (w8_eq k)
theorem off6 (k : Fin gloop.trips) : gD (w8 k.val) = offD (k.val + 1) := gD_eq ⟨k.val + 1, Nat.succ_lt_succ k.isLt⟩ (w8_eq k)
theorem off7 (k : Fin gloop.trips) : gS (w9 k.val) = offS k.val := gS_eq ⟨k.val, Nat.lt_succ_of_lt k.isLt⟩ rfl
theorem off9 (k : Fin gloop.trips) : gD (w9 k.val) = offD k.val := gD_eq ⟨k.val, Nat.lt_succ_of_lt k.isLt⟩ rfl
theorem off15 (k : Fin gloop.trips) (h : 0 < k.val) : gS (w11 k.val) = offS (k.val + 1) := by revert k; decide +kernel
theorem off17 (k : Fin gloop.trips) (h : 0 < k.val) : gD (w11 k.val) = offD (k.val + 1) := by revert k; decide +kernel
theorem off20 : gD (w11 16) = offD 1 := by decide
theorem off21 : gS (w11 16) = offS 1 := by decide
theorem off5 (q : Fin 8) (p : ℕ) (i : G.Coords) (k : Fin gloop.trips) (h : k.val + 1 < 16) :
    gI q.val p i (nxt (w12 k.val)) = offI q.val p i (k.val + 1) := gI_eq q p i ⟨k.val + 1, h⟩ (nxt_eq k h)
theorem off8 (q : Fin 8) (p : ℕ) (i : G.Coords) (k : Fin gloop.trips) : gI q.val p i (w12 k.val) = offI q.val p i k.val :=
  gI_eq q p i k (w12_eq k)
theorem off13 (p : Fin 3) (i : G.Coords) (k : Fin gloop.trips) : gO p.val i (w12 k.val) = offO p.val i k.val := gO_eq p i k (w12_eq k)
theorem off16 (p : Fin 3) (i : G.Coords) (k : Fin gloop.trips) (h : 0 < k.val) : gO p.val i (prv (w12 k.val)) = offO p.val i (k.val - 1) :=
  gO_eq p i ⟨k.val - 1, lt_of_le_of_lt (Nat.sub_le _ _) k.isLt⟩ (prv_eq k h)
theorem off19 (p : Fin 3) (i : G.Coords) : gO p.val i (prv (w12 16)) = offO p.val i 15 := gO_eq p i 15 prv_last
theorem off2 (q : Fin 8) (p : ℕ) (i : G.Coords) : gI q.val p i 0#32 = offI q.val p i 0 := gI_eq q p i 0 rfl

theorem off2_inb (q : Fin 8) (p : Fin 3) (i : G.Coords) : ∀ a, gI q.val p.val i 0#32 a + S1x256.size a ≤ S3x1048576.size a := by
  rw [off2]; exact offI_inb q p i 0
theorem gS0_inb : ∀ a, gS 0#32 a + S1x1x256.size a ≤ S2x1x256.size a := by rw [show gS 0#32 = offS 0 by decide]; exact offS_inbI 0
theorem gD0_inb : ∀ a, gD 0#32 a + S1.size a ≤ S2.size a := by rw [show gD 0#32 = offD 0 by decide]; exact offD_inb 0

theorem chk1_holds (q : Fin 8) (p : Fin 3) (i : G.Coords) (k : Fin gloop.trips) :
    chk1 q.val p.val i k (w8 k.val) (w9 k.val) (w9 k.val) (w11 k.val) (w12 k.val) := by
  refine ⟨fun h => ?_, fun h => ?_, fun h => ?_, fun h => ?_, fun h => ?_, fun h => ?_, fun h => ?_, fun h => ?_, fun h => ?_, fun h => ?_,
    fun h => ?_, fun h => ?_⟩
  · rw [off4]; exact offS_inbI _
  · rw [off5 q p.val i k ((c1_iff _ _ _).mp h)]; exact offI_inb q p i ⟨k.val + 1, (c1_iff _ _ _).mp h⟩
  · rw [off6]; exact offD_inb _
  · rw [off7]; exact offS_inbI _
  · rw [off8 q p.val i k]; exact offI_inb q p i k
  · rw [off9]; exact offD_inb _
  · rw [off7]; exact offS_inbO _
  · rw [off13]; exact offO_inb p i k
  · rw [off9]; exact offD_inb _
  · rw [off15 k ((c7_iff _ _ _).mp h)]; exact offS_inbO _
  · rw [off16 p i k ((c7_iff _ _ _).mp h)]; exact offO_inb p i ⟨k.val - 1, lt_of_le_of_lt (Nat.sub_le _ _) k.isLt⟩
  · rw [off17 k ((c7_iff _ _ _).mp h)]; exact offD_inb _
theorem chk2_holds (k : Fin gloop.trips) : chk2 (w9 k.val) := by unfold chk2; rw [off7]; exact offS_inbO _
theorem chk3_holds (k : Fin gloop.trips) : chk3 (w9 k.val) := by unfold chk3; rw [off7]; exact offS_inbI _
theorem chk4_holds : chk4 (w11 16) := by
  unfold chk4; rw [off21, off20]; exact ⟨offS_inbO _, offD_inb _, offS_inbO _⟩
theorem chk5_holds (p : Fin 3) (i : G.Coords) : chk5 p.val i (w12 16) := by unfold chk5; rw [off19]; exact offO_inb p i 15

/-- The words a trip yields. -/
abbrev yields (q p : ℕ) (i : G.Coords) (k : Fin gloop.trips) (x8 x9 x10 x11 x12 : BitVec 32) :
    BitVec 32 × BitVec 32 × BitVec 32 × BitVec 32 × BitVec 32 :=
  (Scalar.select (Scalar.andi (Scalar.andi (Scalar.cmpi .ne (blk (from512 q) i x12) (blk (from512 q) i (nxt x12)))
      (Scalar.xori (Scalar.cmpi .sge (at_ k) 15#32) 1#1)) 1#1) (Scalar.addi x8 1#32) x8,
   Scalar.select (Scalar.ori (Scalar.cmpi .ne (blk (from512 q) i x12) (blk (from512 q) i (nxt x12))) (Scalar.cmpi .eq (at_ k) 15#32)) (Scalar.addi x9 1#32) x9,
   Scalar.select (Scalar.andi (Scalar.ori (Scalar.cmpi .ne (blk (from512 p) i x12) (blk (from512 p) i (nxt x12))) (Scalar.cmpi .eq (at_ k) 15#32)) 1#1)
     (Scalar.addi x10 1#32) x10,
   Scalar.select (Scalar.andi (Scalar.andi (Scalar.cmpi .ne (blk (from512 p) i x12) (blk (from512 p) i (prv x12)))
      (Scalar.xori (Scalar.cmpi .eq (at_ k) 0#32) 1#1)) 1#1) (Scalar.addi x11 1#32) x11,
   nxt x12)

theorem yields_eq (q p : ℕ) (i : G.Coords) (k : Fin gloop.trips) :
    yields q p i k (w8 k.val) (w9 k.val) (w9 k.val) (w11 k.val) (w12 k.val) = words (k.val + 1) := by
  unfold yields
  simp only [cmp_ne]
  revert k
  decide +kernel

end Cert.Proof.Words

end
-- ==== Proof.Text.lean ====
/-
  The text of the gather pipelines: one trip, one pipeline, and the three pipelines of a call, over any buffers.
-/
module

public import proofs.«01_k».proof.Proof.Words

@[expose] public section

noncomputable section

namespace Cert.Proof.Text

open Cert.Proof.Words
open Idealize.ShloMosaic Idealize.SL.Sem

variable {F : FTy → Type} {nD : ℕ} {τ : Topo} {sig : RefSig} {Λ : Labels} {x : Fin τ.nSC} {y : Fin τ.nSub}

variable (q : Fin 8) (p : Fin 3) (i : G.Coords)
variable (T : Memref sig .scVector .hbm S153600x128 .f32) (X : Memref sig .scVector .hbm S3x1048576 .i32) (Y : Memref sig .scVector .hbm S393216x128 .f32)
variable (A : Memref sig .scVector .vmem S2x1x256 .i32) (a : DmaSems sig S2) (B : Memref sig .scVector .vmem S2x256x128 .f32) (b : DmaSems sig S2) (g : DmaSems sig S_)

/-- The table, whole. -/
abbrev tbl : Memref sig .scVector .hbm S153600x128 .f32 := T.slice (Rect.unit (s := S153600x128) ![0, 0] S153600x128.size inbT) (fun _ => rfl)
/-- An index block, a list slot, a row slot, an output block, and a semaphore of a family, at given offsets. -/
abbrev blkI (o : Fin 2 → ℕ) (h : ∀ a, o a + S1x256.size a ≤ S3x1048576.size a) : Memref sig .scVector .hbm S1x256 .i32 := X.slice (Rect.unit (s := S3x1048576) o S1x256.size h) (fun _ => rfl)
abbrev sltI (o : Fin 3 → ℕ) (h : ∀ a, o a + S1x1x256.size a ≤ S2x1x256.size a) : Memref sig .scVector .vmem S1x256 .i32 :=
  (A.slice (Rect.unit (s := S2x1x256) o S1x1x256.size h) (fun _ => rfl)).squeeze S1x256 sqI
abbrev sltO (o : Fin 3 → ℕ) (h : ∀ a, o a + S1x256x128.size a ≤ S2x256x128.size a) : Memref sig .scVector .vmem S256x128 .f32 :=
  (B.slice (Rect.unit (s := S2x256x128) o S1x256x128.size h) (fun _ => rfl)).squeeze S256x128 sqO
abbrev blkO (o : Fin 2 → ℕ) (h : ∀ a, o a + S256x128.size a ≤ S393216x128.size a) : Memref sig .scVector .hbm S256x128 .f32 := Y.slice (Rect.unit (s := S393216x128) o S256x128.size h) (fun _ => rfl)
abbrev smr (o : Fin 1 → ℕ) (h : ∀ a, o a + S1.size a ≤ S2.size a) : DmaSems sig S_ := (a.slice (Rect.unit (s := S2) o S1.size h)).squeeze S_ sqD

/-- An operation where a condition holds, and nothing where it fails. -/
def when_ {E : Type → Type} (c : Prop) [Decidable c] (e : c → E PUnit) : Prog E PUnit := if h : c then Prog.lift (e h) else pure ⟨⟩

theorem when_seq {E : Type → Type} {α : Type} (c : Prop) [Decidable c] (e : c → E PUnit) (K : Prog E α) :
    (if h : c then Prog.lift (e h) >>= fun _ => K else K) = (when_ c e >>= fun _ => K) := by
  unfold when_
  split <;> rfl

/-- One trip of a pipeline. -/
def trip (k : Fin gloop.trips) : BitVec 32 × BitVec 32 × BitVec 32 × BitVec 32 × BitVec 32 →
    Prog (TpuEff nD τ sig (Elt F) Λ (.scVector x y)) (BitVec 32 × BitVec 32 × BitVec 32 × BitVec 32 × BitVec 32) :=
  fun (x8, x9, x10, x11, x12) => do
    have h3 : chk3 x9 := (← Prog.lift (TpuEff.assume (chk3 x9) (chk3.dec x9))).down
    have h2 : chk2 x10 := (← Prog.lift (TpuEff.assume (chk2 x10) (chk2.dec x10))).down
    have h1 : chk1 q.val p.val i k x8 x9 x10 x11 x12 :=
      (← Prog.lift (TpuEff.assume (chk1 q.val p.val i k x8 x9 x10 x11 x12) (chk1.dec q.val p.val i k x8 x9 x10 x11 x12))).down
    when_ (c1 q.val i k x12 = 1#1) fun e => (.enqueueDma (blkI X (gI q.val p.val i (nxt x12)) (h1.2.1 e)) (.here (sltI A (gS x8) (h1.1 e)))
        (.dma (smr a (gD x8) (h1.2.2.1 e)).sem) (View.wordExact_bits rfl) ((View.wordExact_bits rfl).reshape _ _) ⟨Or.inl rfl, trivial⟩)
    when_ (c2 q.val i k x12 = 1#1) fun e => (.waitDma2 (smr a (gD x9) (h1.2.2.2.2.2.1 e)).sem (blkI X (gI q.val p.val i x12) (h1.2.2.2.2.1 e)) (sltI A (gS x9) (h1.2.2.2.1 e))
        (View.wordExact_bits rfl) ((View.wordExact_bits rfl).reshape _ _))
    SparseCore.enqueueIndirectGather rfl (tbl T) (sltO B (gS x10) h2) gath
      (((sltI A (gS x9) h3).slice (Rect.unit (s := S1x256) ![0, 0] S1x256.size inbL) (fun _ => rfl)).squeeze S256 sqL) rfl g.sem
      (View.wordExact_bits rfl) rfl (Or.inl rfl)
    SparseCore.waitIndirectGather g.sem (tbl T) (sltO B (gS x10) h2) (View.wordExact_bits rfl) ((View.wordExact_bits rfl).reshape _ _)
    when_ (c5 p.val i k x12 = 1#1) fun e => (.enqueueDma (sltO B (gS x10) (h1.2.2.2.2.2.2.1 e)) (.here (blkO Y (gO p.val i x12) (h1.2.2.2.2.2.2.2.1 e)))
        (.dma (smr b (gD x10) (h1.2.2.2.2.2.2.2.2.1 e)).sem) ((View.wordExact_bits rfl).reshape _ _) (View.wordExact_bits rfl) ⟨Or.inl rfl, trivial⟩)
    when_ (c7 p.val i k x12 = 1#1) fun e => (.waitDma2 (smr b (gD x11) (h1.2.2.2.2.2.2.2.2.2.2.2 e)).sem (sltO B (gS x11) (h1.2.2.2.2.2.2.2.2.2.1 e))
        (blkO Y (gO p.val i (prv x12)) (h1.2.2.2.2.2.2.2.2.2.2.1 e)) ((View.wordExact_bits rfl).reshape _ _) (View.wordExact_bits rfl))
    pure (yields q.val p.val i k x8 x9 x10 x11 x12)

/-- One pipeline, run before the program `kk`. -/
def pipe {α : Type} (kk : Prog (TpuEff nD τ sig (Elt F) Λ (.scVector x y)) α) : Prog (TpuEff nD τ sig (Elt F) Λ (.scVector x y)) α := do
  Prog.lift (.enqueueDma (blkI X (gI q.val p.val i 0#32) (off2_inb q p i)) (.here (sltI A (gS 0#32) gS0_inb))
    (.dma (smr a (gD 0#32) gD0_inb).sem) (View.wordExact_bits rfl) ((View.wordExact_bits rfl).reshape _ _) ⟨Or.inl rfl, trivial⟩)
  let z ← Scf.Loop.for gloop gok (Scalar.addi 0#32 1#32, 0#32, 0#32, 0#32, 0#32) (trip q p i T X Y A a B b g)
  have h5 : chk5 p.val i z.2.2.2.2 := (← Prog.lift (TpuEff.assume (chk5 p.val i z.2.2.2.2) (chk5.dec p.val i z.2.2.2.2))).down
  have h4 : chk4 z.2.2.2.1 := (← Prog.lift (TpuEff.assume (chk4 z.2.2.2.1) (chk4.dec z.2.2.2.1))).down
  Prog.lift (.waitDma2 (smr b (gD z.2.2.2.1) h4.2.1).sem (sltO B (gS z.2.2.2.1) h4.2.2) (blkO Y (gO p.val i (prv z.2.2.2.2)) h5)
    ((View.wordExact_bits rfl).reshape _ _) (View.wordExact_bits rfl))
  kk

end Cert.Proof.Text

end
-- ==== Proof.Pipe.lean ====
/-
  One double-buffered gather pipeline of a vector subcore, over any memrefs.

  Sixteen index blocks are fetched one after the other into two list slots, each list drives an indirect gather
  of table rows into one of two row slots, and each row slot is written out to its block of the output. The fetch
  of block `t + 1` is issued before block `t` is waited for, and the write-out of block `t` is waited for one trip
  later. The state between two trips is `Inv t`; each operation of a trip is one lemma.
-/
module

public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.Pipe

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic

/-- What a pipeline is made of: the table, the sixteen index blocks and output blocks, the two list slots and the two
    row slots, and their semaphores. A list slot is read as a list through the whole-block rectangle `r`. -/
structure Dat {nD : ℕ} {τ : Topo} (sig : RefSig) (c : Thread nD τ) (si sl so s₀ : Shape) (a : ℕ) where
  hg : s₀.Gathers a so
  hn : sl.numel = so.size hg.axis'
  r : Rect si
  hr : ∀ b, r.stride b = 1
  hru : r.set = Finset.univ
  hsq : r.shape.Squeezes sl
  T : Memref sig c.2.kind .hbm s₀ .f32
  I : Fin 16 → Memref sig c.2.kind .hbm si .i32
  O : Fin 16 → Memref sig c.2.kind .hbm so .f32
  SI : Fin 2 → Memref sig c.2.kind .vmem si .i32
  SO : Fin 2 → Memref sig c.2.kind .vmem so .f32
  isem : Fin 2 → DmaSem sig
  osem : Fin 2 → DmaSem sig
  gsem : DmaSem sig
  pi : 0 < si.numel
  po : 0 < so.numel
  hN : ∀ j, ∑ k, ((SO j).slice (so.rowRect hg.axis' k) (so.stride_rowRect hg.axis' k)).view.dmaCredit = (SO j).view.dmaCredit

/-- The slot of block `t`. -/
def slot (t : ℕ) : Fin 2 := ⟨t % 2, Nat.mod_lt _ (by decide)⟩

theorem slot_two (t : ℕ) : slot (t + 2) = slot t := Fin.ext (by simp [slot])

namespace Dat

variable {nD : ℕ} {τ : Topo} {sig : RefSig} {c : Thread nD τ} {si sl so s₀ : Shape} {a : ℕ}
variable (P : Dat sig c si sl so s₀ a)

/-- A list slot read as a list. -/
abbrev SL (j : Fin 2) : Memref sig c.2.kind .vmem sl .i32 := ((P.SI j).slice P.r P.hr).squeeze sl P.hsq

theorem set_SL (j : Fin 2) : (P.SL j).view.set = (P.SI j).view.set := by
  show (((P.SI j).view.slice P.r).reshape sl P.hsq.numel_eq).set = _
  rw [View.set_reshape, View.set_slice, P.hru]
  rfl

/-- The list a block holds. -/
def lst {Val : EltTy → Type} (w : si.Idx → Val .i32) : sl.Idx → Val .i32 := fun x => w (P.r.emb (Shape.reshapeEquiv P.hsq.numel_eq x))

theorem read_SL {Val : EltTy → Type} (j : Fin 2) (f : (P.SI j).view.ty.Contents Val) :
    (P.SL j).view.read Val f = P.lst ((P.SI j).view.read Val f) := rfl

variable {F : FTy → Type}
variable {Ix : Type} [DecidableEq Ix] {Name : Type} [DecidableEq Name] [Infinite Name] {U : Type} [URA U] {Lvl : Type} [Preorder Lvl]
variable (EC : UEmb Counters (MT nD τ sig Ix (Elt F) Name U Lvl)) [EC.LandsIn (upEmb : UEmb _ (MT nD τ sig Ix (Elt F) Name U Lvl))]
variable (ι : Ix)

/-- The contents: the table's, each index block's (at share `qi`), and what each output block ends at. -/
structure Vals (F : FTy → Type) where
  q : PosShare TreeShare
  qi : PosShare TreeShare
  fT : Buf (Elt F) (P.T.view.loc c)
  fI : ∀ u, Buf (Elt F) ((P.I u).view.loc c)
  G : ∀ u, Buf (Elt F) ((P.O u).view.loc c)
  inb : ∀ u x, (P.lst ((P.I u).view.read (Elt F) (fI u)) x).toNat < s₀.size P.hg.axis
  hG : ∀ u, (P.O u).view.read (Elt F) (G u)
    = SparseCore.gatherPayload P.hg (P.T.view.read (Elt F) fT) (SparseCore.rows (P.lst ((P.I u).view.read (Elt F) (fI u))) P.hn (inb u))

variable (v : P.Vals F)

local notation "𝕄" => MT nD τ sig Ix (Elt F) Name U Lvl

/-- Index block `u`, in the array. -/
def inI (u : Fin 16) : sProp 𝕄 := (P.I u).view.loc c ↦[(P.I u).view.set]{v.qi} v.fI u
/-- A list slot at any contents. -/
def anyI (j : Fin 2) : sProp 𝕄 := iprop(∃ f, (P.SI j).view.loc c ↦[(P.SI j).view.set]{fullShare} f)
/-- A list slot at block `u`'s words. -/
def hasI (j : Fin 2) (u : Fin 16) : sProp 𝕄 :=
  iprop(∃ f, ⌜(P.SI j).view.read (Elt F) f = (P.I u).view.read (Elt F) (v.fI u)⌝ ∗ (P.SI j).view.loc c ↦[(P.SI j).view.set]{fullShare} f)
/-- A row slot at any contents. -/
def anyO (j : Fin 2) : sProp 𝕄 := iprop(∃ f, (P.SO j).view.loc c ↦[(P.SO j).view.set]{fullShare} f)
/-- A row slot at block `u`'s rows. -/
def hasO (j : Fin 2) (u : Fin 16) : sProp 𝕄 :=
  iprop(∃ f, ⌜(P.SO j).view.read (Elt F) f = (P.O u).view.read (Elt F) (v.G u)⌝ ∗ (P.SO j).view.loc c ↦[(P.SO j).view.set]{fullShare} f)
/-- Output block `u` at any contents. -/
def todo (u : Fin 16) : sProp 𝕄 := iprop(∃ f, (P.O u).view.loc c ↦[(P.O u).view.set]{fullShare} f)
/-- Output block `u` at its final contents. -/
def done (u : Fin 16) : sProp 𝕄 := (P.O u).view.loc c ↦[(P.O u).view.set]{fullShare} v.G u
/-- A free list slot. -/
def freeI (j : Fin 2) : sProp 𝕄 := iprop(P.anyI j ∗ semVal (c, SemLoc.dma (P.isem j)) 0)
/-- A free row slot. -/
def freeO (j : Fin 2) : sProp 𝕄 := iprop(P.anyO j ∗ semVal (c, SemLoc.dma (P.osem j)) 0)
/-- Block `u`'s fetch into slot `j`, in flight. -/
def flyI (j : Fin 2) (u : Fin 16) : sProp 𝕄 :=
  Transfers.Flight EC c (.dma (P.isem j)) ι (P.SI j).view.dmaCredit iprop(P.hasI v j u ∗ P.inI v u)
/-- Block `u`'s write-out from slot `j`, in flight. -/
def flyO (j : Fin 2) (u : Fin 16) : sProp 𝕄 :=
  Transfers.Flight EC c (.dma (P.osem j)) ι (P.O u).view.dmaCredit iprop(P.done v u ∗ P.anyO j)

/-- The list slot of block `t`: its fetch in flight, or, past the last block, free. -/
def slotI (t : ℕ) : sProp 𝕄 := if h : t < 16 then P.flyI EC ι v (slot t) ⟨t, h⟩ else P.freeI (slot t)
/-- The row slot of the block before `t`: its write-out in flight, or, before the first block, free. -/
def slotO (t : ℕ) : sProp 𝕄 :=
  if h : 0 < t ∧ t ≤ 16 then P.flyO EC ι v (slot (t + 1)) ⟨t - 1, by omega⟩ else P.freeO (slot (t + 1))
/-- The index blocks but those `p` names. -/
def restI (p : ℕ → Prop) [DecidablePred p] : sProp 𝕄 := bigSep (Finset.univ.filter fun u : Fin 16 => ¬ p u.val) (P.inI v)
/-- The output blocks from `t` on. -/
def todos (t : ℕ) : sProp 𝕄 := bigSep (Finset.univ.filter fun u : Fin 16 => t ≤ u.val) P.todo
/-- The output blocks before `t`. -/
def dones (t : ℕ) : sProp 𝕄 := bigSep (Finset.univ.filter fun u : Fin 16 => u.val < t) (P.done v)
/-- The table's share, the gather's semaphore at zero, and what the thread owes. -/
def com (O : CellTallies nD τ sig Ix) (W : Waits sig Ix) : sProp 𝕄 :=
  iprop(Transfers.MayWaits c ι O ∗ (P.T.view.loc c ↦[P.T.view.set]{v.q} v.fT) ∗ semVal (c, SemLoc.dma P.gsem) 0
    ∗ ∃ W', ⌜∀ p ∈ W', p ∈ W ∨ p.2 = ι⌝ ∗ owes c O W')

variable (O : CellTallies nD τ sig Ix) (W : Waits sig Ix)

/-- Between two trips. -/
def Inv (t : ℕ) : sProp 𝕄 :=
  iprop(P.com ι v O W ∗ (P.slotI EC ι v t ∗ P.freeI (slot (t + 1)) ∗ P.restI v (· = t))
    ∗ (P.freeO (slot t) ∗ P.slotO EC ι v t ∗ P.todos t ∗ P.dones v (t - 1)))
/-- The next block's fetch issued. -/
def St1 (t : ℕ) : sProp 𝕄 :=
  iprop(P.com ι v O W ∗ (P.slotI EC ι v t ∗ P.slotI EC ι v (t + 1) ∗ P.restI v (fun u => u = t ∨ u = t + 1))
    ∗ (P.freeO (slot t) ∗ P.slotO EC ι v t ∗ P.todos t ∗ P.dones v (t - 1)))
/-- This block's list landed. -/
def St2 (t : Fin 16) : sProp 𝕄 :=
  iprop(P.com ι v O W ∗ (P.hasI v (slot t) t ∗ semVal (c, SemLoc.dma (P.isem (slot t))) 0 ∗ P.slotI EC ι v (t + 1) ∗ P.restI v (· = t.val + 1))
    ∗ (P.freeO (slot t) ∗ P.slotO EC ι v t ∗ P.todos t ∗ P.dones v (t - 1)))
/-- The gather in flight. -/
def St3 (t : Fin 16) : sProp 𝕄 :=
  iprop((Transfers.MayWaits c ι O ∗ ∃ W', ⌜∀ p ∈ W', p ∈ W ∨ p.2 = ι⌝ ∗ owes c O W')
    ∗ Transfers.Flight EC c (.dma P.gsem) ι (P.SO (slot t)).view.dmaCredit
        iprop(P.hasO v (slot t) t ∗ (P.T.view.loc c ↦[P.T.view.set]{v.q} v.fT) ∗ P.anyI (slot t))
    ∗ (semVal (c, SemLoc.dma (P.isem (slot t))) 0 ∗ P.slotI EC ι v (t + 1) ∗ P.restI v (· = t.val + 1))
    ∗ (semVal (c, SemLoc.dma (P.osem (slot t))) 0 ∗ P.slotO EC ι v t ∗ P.todos t ∗ P.dones v (t - 1)))
/-- The rows landed. -/
def St4 (t : Fin 16) : sProp 𝕄 :=
  iprop(P.com ι v O W ∗ (P.freeI (slot t) ∗ P.slotI EC ι v (t + 1) ∗ P.restI v (· = t.val + 1))
    ∗ (P.hasO v (slot t) t ∗ semVal (c, SemLoc.dma (P.osem (slot t))) 0 ∗ P.slotO EC ι v t ∗ P.todos t ∗ P.dones v (t - 1)))
/-- The write-out issued. -/
def St5 (t : Fin 16) : sProp 𝕄 :=
  iprop(P.com ι v O W ∗ (P.freeI (slot t) ∗ P.slotI EC ι v (t + 1) ∗ P.restI v (· = t.val + 1))
    ∗ (P.flyO EC ι v (slot t) t ∗ P.slotO EC ι v t ∗ P.todos (t + 1) ∗ P.dones v (t - 1)))

/-! ## The sets of blocks -/

theorem restI_take {t : ℕ} (h : t + 1 < 16) :
    (P.restI v (· = t) : sProp 𝕄) = iprop(P.inI v ⟨t + 1, h⟩ ∗ P.restI v (fun u => u = t ∨ u = t + 1)) := by
  unfold restI
  refine Eq.trans ?_ (bigSep_insert (by simp))
  congr 1; ext u; simp [Fin.ext_iff]; omega

theorem restI_put (t : Fin 16) :
    (P.restI v (· = t.val + 1) : sProp 𝕄) = iprop(P.inI v t ∗ P.restI v (fun u => u = t.val ∨ u = t.val + 1)) := by
  unfold restI
  refine Eq.trans ?_ (bigSep_insert (by simp))
  congr 1; ext u; simp [Fin.ext_iff]; omega

theorem restI_last : (P.restI v (fun u => u = 15 ∨ u = 15 + 1) : sProp 𝕄) = P.restI v (· = 15) := by
  unfold restI
  refine congrArg (fun s => bigSep s (P.inI v)) (Finset.ext fun u => ?_)
  have := u.isLt
  simp only [Finset.mem_filter, Finset.mem_univ, true_and]; omega

theorem todos_take (t : Fin 16) : (P.todos t : sProp 𝕄) = iprop(P.todo t ∗ P.todos (t + 1)) := by
  unfold todos
  refine Eq.trans ?_ (bigSep_insert (by simp))
  congr 1; ext u; simp [Fin.ext_iff]; omega

theorem dones_put (t : Fin 16) : (P.dones v (t + 1) : sProp 𝕄) = iprop(P.done v t ∗ P.dones v t) := by
  unfold dones
  refine Eq.trans ?_ (bigSep_insert (by simp))
  congr 1; ext u; simp [Fin.ext_iff]; omega

/-! ## The operations -/

variable {Λ : Labels} {defs : Defs nD τ sig (Elt F) Λ} (𝒱 : Variants) (bd : Option 𝒱.V)
variable {α : Type} {Q : α → sProp (MT nD τ sig Ix (Elt F) Name U Lvl)} {k : PUnit → Prog (TpuEff nD τ sig (Elt F) Λ c.2) α}

omit [DecidableEq Name] [Infinite Name] [URA U] [Preorder Lvl] in
theorem recorded_mem (s : SemLoc sig) (W' : Waits sig Ix) (hW : ∀ p ∈ W', p ∈ W ∨ p.2 = ι) : ∀ p ∈ insert (s, ι) W', p ∈ W ∨ p.2 = ι := by
  intro p hp
  rcases Finset.mem_insert.mp hp with h | h
  · exact .inr (by rw [h])
  · exact hW p h

theorem recorded (s : SemLoc sig) (W' : Waits sig Ix) (hW : ∀ p ∈ W', p ∈ W ∨ p.2 = ι) :
    (owes c O (insert (s, ι) W') : sProp 𝕄) ⊢ iprop(∃ W', ⌜∀ p ∈ W', p ∈ W ∨ p.2 = ι⌝ ∗ owes c O W') := by
  iintro HO
  iexists (insert (s, ι) W')
  isplitr
  · ipureintro; exact recorded_mem ι W s W' hW
  · iexact HO

theorem landI (j : Fin 2) (u : Fin 16) (f : Buf (Elt F) ((P.SI j).view.loc c)) :
    (iprop(((P.SI j).view.loc c ↦[(P.SI j).view.set]{fullShare}
          ((P.SI j).view.write (Elt F) f (ReadAs.same.apply ((P.I u).view.read (Elt F) (v.fI u))) Finset.univ))
        ∗ ((P.I u).view.loc c ↦[(P.I u).view.set]{v.qi} v.fI u)) : sProp 𝕄) ⊢ iprop(P.hasI v j u ∗ P.inI v u) := by
  unfold hasI inI
  iintro ⟨Hd, Hs⟩
  isplitl [Hd]
  · iexists ((P.SI j).view.write (Elt F) f ((P.I u).view.read (Elt F) (v.fI u)) Finset.univ)
    isplitr
    · ipureintro; exact View.read_write_univ _ _
    · iexact Hd
  iexact Hs

/-- A fetch of block `u` into a free slot. -/
theorem issueI (j : Fin 2) (u : Fin 16) {src : Memref sig c.2.kind .hbm si .i32} {dst : Memref sig c.2.kind .vmem si .i32} {sm : SemLoc sig}
    {hsrc : src.view.WordExact} {hdst : dst.view.WordExact} {hsem : DmaTarget.Typed (nD := nD) .hbm sm (.here dst)}
    (hs : src = P.I u) (hd : dst = P.SI j) (hsm : sm = .dma (P.isem j)) :
    iprop(P.inI v u ∗ P.freeI j)
      ⊢ iprop((P.flyI EC ι v j u -∗ wp frame (wpE defs 𝒱 c bd) Set.univ (k ⟨⟩) Q)
          -∗ wp frame (wpE defs 𝒱 c bd) Set.univ (.op (.enqueueDma src (.here dst) sm hsrc hdst hsem) k) Q) := by
  subst hs hd hsm
  unfold freeI anyI inI flyI
  iintro ⟨Hs, ⟨%f, Hd⟩, Hv⟩ Hk
  iapply (Transfers.wp_dmaLocal EC 𝒱 c bd (src := P.I u) (dst := P.SI j) ι (P.SI j).view.dmaCredit rfl (View.dmaCredit_pos _ P.pi) (Finset.Subset.refl _)) $$ [Hs Hd Hv]
  · isplitl [Hs]; · iexact Hs
    isplitl [Hd]; · iexact Hd
    iexact Hv
  iintro HF
  iapply Hk
  iapply (Transfers.Flight_mono EC c (P.landI v j u f)) $$ HF

theorem landO (j : Fin 2) (u : Fin 16) (f : Buf (Elt F) ((P.O u).view.loc c)) (g : Buf (Elt F) ((P.SO j).view.loc c))
    (h : (P.SO j).view.read (Elt F) g = (P.O u).view.read (Elt F) (v.G u)) :
    (iprop(((P.O u).view.loc c ↦[(P.O u).view.set]{fullShare}
          ((P.O u).view.write (Elt F) f (ReadAs.same.apply ((P.SO j).view.read (Elt F) g)) Finset.univ))
        ∗ ((P.SO j).view.loc c ↦[(P.SO j).view.set]{fullShare} g)) : sProp 𝕄) ⊢ iprop(P.done v u ∗ P.anyO j) := by
  unfold done anyO
  rw [pointsTo_congr (g := v.G u)]
  · iintro ⟨Hd, Hs⟩
    isplitl [Hd]; · iexact Hd
    iexists g
    iexact Hs
  · intro i hi
    obtain ⟨x, -, rfl⟩ := Finset.mem_map.mp hi
    rw [View.write_emb_of_mem _ _ (Finset.mem_univ x)]
    have hx := congrFun h x
    show _root_.cast _ ((P.SO j).view.read (Elt F) g x) = _
    rw [hx, View.read_apply, cast_cast, cast_eq]

/-- The write-out of block `u` from the slot holding its rows. -/
theorem issueO (j : Fin 2) (u : Fin 16) {src : Memref sig c.2.kind .vmem so .f32} {dst : Memref sig c.2.kind .hbm so .f32} {sm : SemLoc sig}
    {hsrc : src.view.WordExact} {hdst : dst.view.WordExact} {hsem : DmaTarget.Typed (nD := nD) .vmem sm (.here dst)}
    (hs : src = P.SO j) (hd : dst = P.O u) (hsm : sm = .dma (P.osem j)) :
    iprop(P.hasO v j u ∗ P.todo u ∗ semVal (c, SemLoc.dma (P.osem j)) 0)
      ⊢ iprop((P.flyO EC ι v j u -∗ wp frame (wpE defs 𝒱 c bd) Set.univ (k ⟨⟩) Q)
          -∗ wp frame (wpE defs 𝒱 c bd) Set.univ (.op (.enqueueDma src (.here dst) sm hsrc hdst hsem) k) Q) := by
  subst hs hd hsm
  unfold hasO todo flyO
  iintro ⟨⟨%g, %hg, Hs⟩, ⟨%f, Hd⟩, Hv⟩ Hk
  iapply (Transfers.wp_dmaLocal EC 𝒱 c bd (src := P.SO j) (dst := P.O u) ι (P.O u).view.dmaCredit rfl (View.dmaCredit_pos _ P.po) (Finset.Subset.refl _)) $$ [Hs Hd Hv]
  · isplitl [Hs]; · iexact Hs
    isplitl [Hd]; · iexact Hd
    iexact Hv
  iintro HF
  iapply Hk
  iapply (Transfers.Flight_mono EC c (P.landO v j u f g hg)) $$ HF

/-- A wait for the fetch of block `u`. -/
theorem waitI (j : Fin 2) (u : Fin 16) {src : Memref sig c.2.kind .hbm si .i32} {dst : Memref sig c.2.kind .vmem si .i32} {sm : DmaSem sig}
    {hsrc : src.view.WordExact} {hdst : dst.view.WordExact} (hd : dst = P.SI j) (hsm : sm = P.isem j) :
    iprop(P.flyI EC ι v j u ∗ P.com ι v O W)
      ⊢ iprop((iprop(P.hasI v j u ∗ P.inI v u ∗ semVal (c, SemLoc.dma (P.isem j)) 0 ∗ P.com ι v O W)
            -∗ wp frame (wpE defs 𝒱 c bd) Set.univ (k ⟨⟩) Q)
          -∗ wp frame (wpE defs 𝒱 c bd) Set.univ (.op (.waitDma2 sm src dst hsrc hdst) k) Q) := by
  subst hd hsm
  unfold flyI com
  iintro ⟨HF, #Hmw, HT, Hg, ⟨%W', %hW, HO⟩⟩ Hk
  iapply (Transfers.wp_waitLocalO EC 𝒱 c bd ι (rfl : (P.SI j).view.dmaCredit = _)) $$ [HF HO]
  · isplitl [HF]; · iexact HF
    isplitl [HO]; · iexact HO
    iapply (Transfers.MayWaits.elim _) $$ Hmw
  iintro ⟨⟨Hs, Hi⟩, Hv, HO⟩
  iapply Hk
  isplitl [Hs]; · iexact Hs
  isplitl [Hi]; · iexact Hi
  isplitl [Hv]; · iexact Hv
  isplitr; · iexact Hmw
  isplitl [HT]; · iexact HT
  isplitl [Hg]; · iexact Hg
  iapply (recorded ι O W _ W' hW) $$ HO

/-- A wait for the write-out of block `u`. -/
theorem waitO (j : Fin 2) (u : Fin 16) {src : Memref sig c.2.kind .vmem so .f32} {dst : Memref sig c.2.kind .hbm so .f32} {sm : DmaSem sig}
    {hsrc : src.view.WordExact} {hdst : dst.view.WordExact} (hd : dst = P.O u) (hsm : sm = P.osem j) :
    iprop(P.flyO EC ι v j u ∗ P.com ι v O W)
      ⊢ iprop((iprop(P.done v u ∗ P.freeO j ∗ P.com ι v O W)
            -∗ wp frame (wpE defs 𝒱 c bd) Set.univ (k ⟨⟩) Q)
          -∗ wp frame (wpE defs 𝒱 c bd) Set.univ (.op (.waitDma2 sm src dst hsrc hdst) k) Q) := by
  subst hd hsm
  unfold flyO com freeO
  iintro ⟨HF, #Hmw, HT, Hg, ⟨%W', %hW, HO⟩⟩ Hk
  iapply (Transfers.wp_waitLocalO EC 𝒱 c bd ι (rfl : (P.O u).view.dmaCredit = _)) $$ [HF HO]
  · isplitl [HF]; · iexact HF
    isplitl [HO]; · iexact HO
    iapply (Transfers.MayWaits.elim _) $$ Hmw
  iintro ⟨⟨Hs, Hi⟩, Hv, HO⟩
  iapply Hk
  isplitl [Hs]; · iexact Hs
  isplitl [Hi Hv]
  · isplitl [Hi]; · iexact Hi
    iexact Hv
  isplitr; · iexact Hmw
  isplitl [HT]; · iexact HT
  isplitl [Hg]; · iexact Hg
  iapply (recorded ι O W _ W' hW) $$ HO

/-! ## A trip, operation by operation -/

/-- The next block's fetch, in every trip but the last. -/
theorem step1 {t : ℕ} (ht : t + 1 < 16) {src : Memref sig c.2.kind .hbm si .i32} {dst : Memref sig c.2.kind .vmem si .i32} {sm : SemLoc sig}
    {hsrc : src.view.WordExact} {hdst : dst.view.WordExact} {hsem : DmaTarget.Typed (nD := nD) .hbm sm (.here dst)}
    (hs : src = P.I ⟨t + 1, ht⟩) (hd : dst = P.SI (slot (t + 1))) (hsm : sm = .dma (P.isem (slot (t + 1)))) :
    P.Inv EC ι v O W t
      ⊢ iprop((P.St1 EC ι v O W t -∗ wp frame (wpE defs 𝒱 c bd) Set.univ (k ⟨⟩) Q)
          -∗ wp frame (wpE defs 𝒱 c bd) Set.univ (.op (.enqueueDma src (.here dst) sm hsrc hdst hsem) k) Q) := by
  unfold Inv St1
  rw [P.restI_take v ht, show (P.slotI EC ι v (t + 1) : sProp 𝕄) = P.flyI EC ι v (slot (t + 1)) ⟨t + 1, ht⟩ from dif_pos ht]
  iintro ⟨Hc, ⟨HI, HF, Hi, Hr⟩, HO⟩ Hk
  iapply (P.issueI EC ι v 𝒱 bd (slot (t + 1)) ⟨t + 1, ht⟩ hs hd hsm) $$ [Hi HF]
  · isplitl [Hi]; · iexact Hi
    iexact HF
  iintro HF
  iapply Hk
  isplitl [Hc]; · iexact Hc
  isplitr [HO]
  · isplitl [HI]; · iexact HI
    isplitl [HF]; · iexact HF
    iexact Hr
  iexact HO

/-- In the last trip there is no next block. -/
theorem skip1 : (P.Inv EC ι v O W 15 : sProp 𝕄) ⊢ P.St1 EC ι v O W 15 := by
  unfold Inv St1
  rw [P.restI_last v, show (P.slotI EC ι v (15 + 1) : sProp 𝕄) = P.freeI (slot (15 + 1)) from dif_neg (by decide)]

/-- The wait for this block's list. -/
theorem step2 (t : Fin 16) {src : Memref sig c.2.kind .hbm si .i32} {dst : Memref sig c.2.kind .vmem si .i32} {sm : DmaSem sig}
    {hsrc : src.view.WordExact} {hdst : dst.view.WordExact} (hd : dst = P.SI (slot t)) (hsm : sm = P.isem (slot t)) :
    P.St1 EC ι v O W t
      ⊢ iprop((P.St2 EC ι v O W t -∗ wp frame (wpE defs 𝒱 c bd) Set.univ (k ⟨⟩) Q)
          -∗ wp frame (wpE defs 𝒱 c bd) Set.univ (.op (.waitDma2 sm src dst hsrc hdst) k) Q) := by
  unfold St1 St2
  rw [P.restI_put v t, show (P.slotI EC ι v t : sProp 𝕄) = P.flyI EC ι v (slot t) t from dif_pos t.isLt]
  iintro ⟨Hc, ⟨HI, HI', Hr⟩, HO⟩ Hk
  iapply (P.waitI EC ι v O W 𝒱 bd (slot t) t hd hsm) $$ [HI Hc]
  · isplitl [HI]; · iexact HI
    iexact Hc
  iintro ⟨Hh, Hi, Hv, Hc⟩
  iapply Hk
  isplitl [Hc]; · iexact Hc
  isplitr [HO]
  · isplitl [Hh]; · iexact Hh
    isplitl [Hv]; · iexact Hv
    isplitl [HI']; · iexact HI'
    isplitl [Hi]; · iexact Hi
    iexact Hr
  iexact HO

theorem rows_congr {w w' : sl.Idx → Elt F .i32} (h : w = w') (hin : ∀ x, (w x).toNat < s₀.size P.hg.axis)
    (hin' : ∀ x, (w' x).toNat < s₀.size P.hg.axis) :
    SparseCore.rows w P.hn hin = SparseCore.rows w' P.hn hin' := by
  subst h; rfl

theorem landG (j : Fin 2) (u : Fin 16) (g : Buf (Elt F) ((P.SO j).view.loc c)) (f : Buf (Elt F) ((P.SI j).view.loc c))
    (h : (P.SI j).view.read (Elt F) f = (P.I u).view.read (Elt F) (v.fI u))
    (hin : ∀ x, ((P.SL j).view.read (Elt F) f x).toNat < s₀.size P.hg.axis) :
    (iprop(((P.SO j).view.loc c ↦[(P.SO j).view.set]{fullShare}
          ((P.SO j).view.write (Elt F) g (SparseCore.gatherPayload P.hg (P.T.view.read (Elt F) v.fT)
            (SparseCore.rows ((P.SL j).view.read (Elt F) f) P.hn hin)) Finset.univ))
        ∗ (P.T.view.loc c ↦[P.T.view.set]{v.q} v.fT) ∗ ((P.SL j).view.loc c ↦[(P.SL j).view.set]{fullShare} f)) : sProp 𝕄)
      ⊢ iprop(P.hasO v j u ∗ (P.T.view.loc c ↦[P.T.view.set]{v.q} v.fT) ∗ P.anyI j) := by
  unfold hasO anyI
  rw [P.set_SL]
  iintro ⟨Hd, HT, Hs⟩
  isplitl [Hd]
  · iexists ((P.SO j).view.write (Elt F) g (SparseCore.gatherPayload P.hg (P.T.view.read (Elt F) v.fT)
            (SparseCore.rows ((P.SL j).view.read (Elt F) f) P.hn hin)) Finset.univ)
    isplitr
    · ipureintro
      refine (View.read_write_univ _ _).trans ((v.hG u).trans ?_).symm
      have e : P.lst ((P.I u).view.read (Elt F) (v.fI u)) = (P.SL j).view.read (Elt F) f := by rw [P.read_SL, h]
      rw [P.rows_congr e (v.inb u) hin]
    · iexact Hd
  isplitl [HT]; · iexact HT
  iexists f
  iexact Hs

/-- The gather of this block's rows. -/
theorem step3 (t : Fin 16) {src : Memref sig c.2.kind .hbm s₀ .f32} {dst : Memref sig c.2.kind .vmem so .f32}
    {offs : Memref sig c.2.kind .vmem sl .i32} {sm : DmaSem sig} {hg : s₀.Gathers a so} {hn : sl.numel = so.size hg.axis'}
    {hp : c.2.kind = .scVector} {hsrc : src.view.WordExact} {he : EltTy.f32.bits = 32} {hsp : Space.hbm = .hbm ∨ Space.hbm = .shared}
    {hst : s₀.StreamRows a}
    (hs : src = P.T) (hd : dst = P.SO (slot t)) (ho : offs = P.SL (slot t)) (hsm : sm = P.gsem) :
    P.St2 EC ι v O W t
      ⊢ iprop((P.St3 EC ι v O W t -∗ wp frame (wpE defs 𝒱 c bd) Set.univ (k ⟨⟩) Q)
          -∗ wp frame (wpE defs 𝒱 c bd) Set.univ
            (SparseCore.enqueueIndirectGather hp src dst hg offs hn sm hsrc he hsp hst >>= k) Q) := by
  subst hs hd ho hsm
  unfold St2 St3 com freeO anyO hasI
  iintro ⟨⟨#Hmw, HT, Hg, Hw⟩, ⟨⟨%f, %hf, Hs⟩, Hv, HI, Hr⟩, ⟨⟨%g, Hd⟩, Hov⟩, HO⟩ Hk
  have hin : ∀ x, ((P.SL (slot t)).view.read (Elt F) f x).toNat < s₀.size P.hg.axis := by
    intro x
    rw [P.read_SL, hf]
    exact v.inb t x
  iapply (SparseCore.wp_indirectGatherLocal EC 𝒱 c bd (hg := P.hg) (hn := P.hn) ι (P.SO (slot t)).view.dmaCredit (P.hN _) P.po hin) $$ [HT Hd Hs Hg]
  · isplitl [HT]; · iexact HT
    isplitl [Hd]; · iexact Hd
    isplitl [Hs]
    · rw [P.set_SL]; iexact Hs
    iexact Hg
  iintro HF
  iapply Hk
  isplitl [Hw]
  · isplitr; · iexact Hmw
    iexact Hw
  isplitl [HF]
  · iapply (Transfers.Flight_mono EC c (P.landG v (slot t) t g f hf hin)) $$ HF
  isplitr [Hov HO]
  · isplitl [Hv]; · iexact Hv
    isplitl [HI]; · iexact HI
    iexact Hr
  isplitl [Hov]; · iexact Hov
  iexact HO

/-- The wait for this block's rows. -/
theorem step4 (t : Fin 16) {src : Memref sig c.2.kind .hbm s₀ .f32} {dst : Memref sig c.2.kind .vmem so .f32} {sm : DmaSem sig}
    {hsrc : src.view.WordExact} {hdst : dst.view.WordExact} (hd : dst = P.SO (slot t)) (hsm : sm = P.gsem) :
    P.St3 EC ι v O W t
      ⊢ iprop((P.St4 EC ι v O W t -∗ wp frame (wpE defs 𝒱 c bd) Set.univ (k ⟨⟩) Q)
          -∗ wp frame (wpE defs 𝒱 c bd) Set.univ (.op (.waitDma2 sm src dst hsrc hdst) k) Q) := by
  subst hd hsm
  unfold St3 St4 com freeI
  iintro ⟨⟨#Hmw, ⟨%W', %hW, Hw⟩⟩, HF, ⟨Hv, HI, Hr⟩, ⟨Hov, HO⟩⟩ Hk
  iapply (Transfers.wp_waitLocalO EC 𝒱 c bd ι (rfl : (P.SO (slot t)).view.dmaCredit = _)) $$ [HF Hw]
  · isplitl [HF]; · iexact HF
    isplitl [Hw]; · iexact Hw
    iapply (Transfers.MayWaits.elim _) $$ Hmw
  iintro ⟨⟨Hh, HT, Hs⟩, Hg, Hw⟩
  iapply Hk
  isplitl [HT Hg Hw]
  · isplitr; · iexact Hmw
    isplitl [HT]; · iexact HT
    isplitl [Hg]; · iexact Hg
    iapply (recorded ι O W _ W' hW) $$ Hw
  isplitr [Hh Hov HO]
  · isplitl [Hs Hv]
    · isplitl [Hs]; · iexact Hs
      iexact Hv
    isplitl [HI]; · iexact HI
    iexact Hr
  isplitl [Hh]; · iexact Hh
  isplitl [Hov]; · iexact Hov
  iexact HO

/-- The write-out of this block. -/
theorem step5 (t : Fin 16) {src : Memref sig c.2.kind .vmem so .f32} {dst : Memref sig c.2.kind .hbm so .f32} {sm : SemLoc sig}
    {hsrc : src.view.WordExact} {hdst : dst.view.WordExact} {hsem : DmaTarget.Typed (nD := nD) .vmem sm (.here dst)}
    (hs : src = P.SO (slot t)) (hd : dst = P.O t) (hsm : sm = .dma (P.osem (slot t))) :
    P.St4 EC ι v O W t
      ⊢ iprop((P.St5 EC ι v O W t -∗ wp frame (wpE defs 𝒱 c bd) Set.univ (k ⟨⟩) Q)
          -∗ wp frame (wpE defs 𝒱 c bd) Set.univ (.op (.enqueueDma src (.here dst) sm hsrc hdst hsem) k) Q) := by
  unfold St4 St5
  rw [P.todos_take t]
  iintro ⟨Hc, HI, Hh, Hv, HO, ⟨Ht, Hts⟩, Hds⟩ Hk
  iapply (P.issueO EC ι v 𝒱 bd (slot t) t hs hd hsm) $$ [Hh Ht Hv]
  · isplitl [Hh]; · iexact Hh
    isplitl [Ht]; · iexact Ht
    iexact Hv
  iintro HF
  iapply Hk
  isplitl [Hc]; · iexact Hc
  isplitl [HI]; · iexact HI
  isplitl [HF]; · iexact HF
  isplitl [HO]; · iexact HO
  isplitl [Hts]; · iexact Hts
  iexact Hds

theorem slotO_succ (t : Fin 16) : (P.slotO EC ι v (t + 1) : sProp 𝕄) = P.flyO EC ι v (slot t) t := by
  unfold slotO
  rw [dif_pos ⟨by omega, by omega⟩, show (t.val + 1 + 1) = t.val + 2 from rfl, slot_two]
  rfl

/-- The wait for the block before this one, in every trip but the first. -/
theorem step6 (t : Fin 16) (ht : 0 < t.val) {src : Memref sig c.2.kind .vmem so .f32} {dst : Memref sig c.2.kind .hbm so .f32} {sm : DmaSem sig}
    {hsrc : src.view.WordExact} {hdst : dst.view.WordExact} (hd : dst = P.O ⟨t.val - 1, by omega⟩) (hsm : sm = P.osem (slot (t + 1))) :
    P.St5 EC ι v O W t
      ⊢ iprop((P.Inv EC ι v O W (t + 1) -∗ wp frame (wpE defs 𝒱 c bd) Set.univ (k ⟨⟩) Q)
          -∗ wp frame (wpE defs 𝒱 c bd) Set.univ (.op (.waitDma2 sm src dst hsrc hdst) k) Q) := by
  unfold St5 Inv
  rw [P.slotO_succ EC ι v t, show (t.val + 1 + 1) = t.val + 2 from rfl, slot_two,
    show (P.slotO EC ι v t : sProp 𝕄) = P.flyO EC ι v (slot (t + 1)) ⟨t.val - 1, by omega⟩ from dif_pos ⟨ht, by omega⟩,
    show (P.dones v (t.val + 1 - 1) : sProp 𝕄) = iprop(P.done v ⟨t.val - 1, by omega⟩ ∗ P.dones v (t.val - 1)) by
      rw [← P.dones_put v ⟨t.val - 1, by omega⟩]; congr 1; show t.val + 1 - 1 = t.val - 1 + 1; omega]
  iintro ⟨Hc, ⟨Hf, HI, Hr⟩, HF, HO, Hts, Hds⟩ Hk
  iapply (P.waitO EC ι v O W 𝒱 bd (slot (t + 1)) ⟨t.val - 1, by omega⟩ hd hsm) $$ [HO Hc]
  · isplitl [HO]; · iexact HO
    iexact Hc
  iintro ⟨Hd, HO, Hc⟩
  iapply Hk
  isplitl [Hc]; · iexact Hc
  isplitl [Hf HI Hr]
  · isplitl [HI]; · iexact HI
    isplitl [Hf]; · iexact Hf
    iexact Hr
  isplitl [HO]; · iexact HO
  isplitl [HF]; · iexact HF
  isplitl [Hts]; · iexact Hts
  isplitl [Hd]; · iexact Hd
  iexact Hds

/-- In the first trip there is no block before. -/
theorem skip6 : (P.St5 EC ι v O W 0 : sProp 𝕄) ⊢ P.Inv EC ι v O W (0 + 1) := by
  unfold St5 Inv
  rw [show (P.slotO EC ι v (0 + 1) : sProp 𝕄) = P.flyO EC ι v (slot (0 : Fin 16).val) 0 from P.slotO_succ EC ι v 0,
    show (P.slotO EC ι v (0 : Fin 16).val : sProp 𝕄) = P.freeO (slot (0 + 1)) from dif_neg (by decide), show slot (0 + 1 + 1) = slot (0 : Fin 16).val from slot_two 0]
  iintro ⟨Hc, ⟨Hf, HI, Hr⟩, HF, HO, Hts, Hds⟩
  isplitl [Hc]; · iexact Hc
  isplitl [Hf HI Hr]
  · isplitl [HI]; · iexact HI
    isplitl [Hf]; · iexact Hf
    iexact Hr
  isplitl [HO]; · iexact HO
  isplitl [HF]; · iexact HF
  isplitl [Hts]; · iexact Hts
  iexact Hds

/-! ## Before the first trip and after the last -/

/-- The pipeline at rest: the table, the index blocks, both list slots, both row slots and the semaphores at zero. -/
def Rest : sProp 𝕄 :=
  iprop(P.com ι v O W ∗ bigSep Finset.univ (P.inI v) ∗ (P.freeI 0 ∗ P.freeI 1) ∗ (P.freeO 0 ∗ P.freeO 1))

theorem restI_zero : (bigSep Finset.univ (P.inI v) : sProp 𝕄) = iprop(P.inI v 0 ∗ P.restI v (· = 0)) := by
  unfold restI
  refine Eq.trans ?_ (bigSep_insert (by simp))
  refine congrArg (fun s => bigSep s (P.inI v)) (Finset.ext fun u => ?_)
  simp only [Finset.mem_insert, Finset.mem_filter, Finset.mem_univ, true_and, Fin.ext_iff, true_iff]
  show u.val = 0 ∨ ¬ u.val = 0
  omega

theorem restI_sixteen : (P.restI v (· = 16) : sProp 𝕄) = bigSep Finset.univ (P.inI v) := by
  unfold restI
  refine congrArg (fun s => bigSep s (P.inI v)) (Finset.ext fun u => ?_)
  have := u.isLt
  simp only [Finset.mem_filter, Finset.mem_univ, true_and, iff_true]; omega

/-- The first fetch. -/
theorem enter {src : Memref sig c.2.kind .hbm si .i32} {dst : Memref sig c.2.kind .vmem si .i32} {sm : SemLoc sig}
    {hsrc : src.view.WordExact} {hdst : dst.view.WordExact} {hsem : DmaTarget.Typed (nD := nD) .hbm sm (.here dst)}
    (hs : src = P.I 0) (hd : dst = P.SI 0) (hsm : sm = .dma (P.isem 0)) :
    iprop(P.Rest ι v O W ∗ bigSep Finset.univ P.todo)
      ⊢ iprop((P.Inv EC ι v O W 0 -∗ wp frame (wpE defs 𝒱 c bd) Set.univ (k ⟨⟩) Q)
          -∗ wp frame (wpE defs 𝒱 c bd) Set.univ (.op (.enqueueDma src (.here dst) sm hsrc hdst hsem) k) Q) := by
  unfold Rest Inv
  rw [P.restI_zero v, show (P.slotI EC ι v 0 : sProp 𝕄) = P.flyI EC ι v 0 0 from dif_pos (by decide),
    show (P.slotO EC ι v 0 : sProp 𝕄) = P.freeO 1 from dif_neg (by decide),
    show (P.todos 0 : sProp 𝕄) = bigSep Finset.univ P.todo from congrArg (fun s => bigSep s P.todo) (by ext u; simp),
    show (P.dones v (0 - 1) : sProp 𝕄) = BI.emp from (congrArg (fun s => bigSep s (P.done v)) (show _ = ∅ by ext u; simp)).trans bigSep_empty]
  iintro ⟨⟨Hc, ⟨Hi, Hr⟩, ⟨HA, HB⟩, HC, HD⟩, Ht⟩ Hk
  iapply (P.issueI EC ι v 𝒱 bd 0 0 hs hd hsm) $$ [Hi HA]
  · isplitl [Hi]; · iexact Hi
    iexact HA
  iintro HF
  iapply Hk
  isplitl [Hc]; · iexact Hc
  isplitl [HF HB Hr]
  · isplitl [HF]; · iexact HF
    isplitl [HB]; · iexact HB
    iexact Hr
  isplitl [HC]; · iexact HC
  isplitl [HD]; · iexact HD
  isplitl [Ht]; · iexact Ht
  iempintro

/-- The last write-out's wait. -/
theorem leave {src : Memref sig c.2.kind .vmem so .f32} {dst : Memref sig c.2.kind .hbm so .f32} {sm : DmaSem sig}
    {hsrc : src.view.WordExact} {hdst : dst.view.WordExact} (hd : dst = P.O 15) (hsm : sm = P.osem 1) :
    P.Inv EC ι v O W 16
      ⊢ iprop((iprop(P.Rest ι v O W ∗ bigSep Finset.univ (P.done v)) -∗ wp frame (wpE defs 𝒱 c bd) Set.univ (k ⟨⟩) Q)
          -∗ wp frame (wpE defs 𝒱 c bd) Set.univ (.op (.waitDma2 sm src dst hsrc hdst) k) Q) := by
  unfold Inv Rest
  rw [P.restI_sixteen v, show (P.slotI EC ι v 16 : sProp 𝕄) = P.freeI 0 from dif_neg (by decide),
    show (P.slotO EC ι v 16 : sProp 𝕄) = P.flyO EC ι v 1 15 from P.slotO_succ EC ι v 15,
    show (bigSep Finset.univ (P.done v) : sProp 𝕄) = iprop(P.done v 15 ∗ P.dones v 15) from
      (congrArg (fun s => bigSep s (P.done v)) (show _ = _ by ext u; have := u.isLt; simp only [Finset.mem_univ, Finset.mem_filter, true_and, true_iff]; exact this)).trans (P.dones_put v 15)]
  iintro ⟨Hc, ⟨HA, HB, Hr⟩, HC, HF, Ht, Hd⟩ Hk
  iapply (P.waitO EC ι v O W 𝒱 bd 1 15 hd hsm) $$ [HF Hc]
  · isplitl [HF]; · iexact HF
    iexact Hc
  iintro ⟨Hl, HD, Hc⟩
  iapply Hk
  isplitr [Hd Hl]
  · isplitl [Hc]; · iexact Hc
    isplitl [Hr]; · iexact Hr
    isplitl [HA HB]
    · isplitl [HA]; · iexact HA
      iexact HB
    isplitl [HC]; · iexact HC
    iexact HD
  isplitl [Hl]; · iexact Hl
  iexact Hd

end Dat

end Cert.Proof.Pipe
-- ==== Proof.Trip.lean ====
/-
  The gather pipelines as instances of the double-buffered pipeline, and one trip, one loop and one whole pipeline of them.
-/
module

public import proofs.«01_k».proof.Proof.Text
public import proofs.«01_k».proof.Proof.Pipe

@[expose] public section

noncomputable section

namespace Cert.Proof.Trip

open Cert.Proof.Words Cert.Proof.Pipe Cert.Proof.Text
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic

theorem whole_set : (Rect.unit (s := S1x256) ![0, 0] S1x256.size inbL).set = Finset.univ :=
  Finset.eq_univ_of_forall fun x => Rect.mem_set_unit.mpr fun a => by
    have h := (x a).isLt
    refine ⟨?_, ?_⟩ <;> fin_cases a <;> simp at h ⊢ <;> omega

variable {nD : ℕ} {τ : Topo} {sig : RefSig}

/-- A transfer into a subcore's own memory pays what it moves. -/
class Pays (sig : RefSig) : Prop where
  eq : ∀ b (s : Shape), sig.dmaCredit Kind.scVector (Kind.scVector.table .vmem) b s .f32 = s.numel * EltTy.f32.bits

/-- A vector subcore. -/
abbrev sub (d : Dev nD) (x : Fin τ.nSC) (y : Fin τ.nSub) : Thread nD τ := (d, .scVector x y)

variable (q : Fin 8) (p : Fin 3) (d : Dev nD) (x : Fin τ.nSC) (y : Fin τ.nSub) (i : G.Coords)
variable (T : Memref sig .scVector .hbm S153600x128 .f32) (X : Memref sig .scVector .hbm S3x1048576 .i32) (Y : Memref sig .scVector .hbm S393216x128 .f32)
variable (A : Memref sig .scVector .vmem S2x1x256 .i32) (a : DmaSems sig S2) (B : Memref sig .scVector .vmem S2x256x128 .f32) (b : DmaSems sig S2) (g : DmaSems sig S_)
variable [Pays sig]

/-- Pipeline `p` of a subcore in call `q`. -/
def dat : Dat sig (sub d x y) S1x256 S256 S256x128 S153600x128 0 where
  hg := gath
  hn := rfl
  r := Rect.unit (s := S1x256) ![0, 0] S1x256.size inbL
  hr := fun _ => rfl
  hru := whole_set
  hsq := sqL
  T := tbl T
  I u := blkI X (offI q.val p.val i u.val) (offI_inb q p i u)
  O u := blkO Y (offO p.val i u.val) (offO_inb p i u)
  SI j := sltI A (offS j.val) (offS_inbI j.val)
  SO j := sltO B (offS j.val) (offS_inbO j.val)
  isem j := (smr a (offD j.val) (offD_inb j.val)).sem
  osem j := (smr b (offD j.val) (offD_inb j.val)).sem
  gsem := g.sem
  pi := by decide
  po := by decide
  hN := fun j => SparseCore.sum_rowCredit_eq_dmaCredit _ _ (fun _ => Pays.eq _ _)

theorem offS_slot (t : ℕ) : offS (slot t).val = offS t := by simp [offS, slot]
theorem offD_slot (t : ℕ) : offD (slot t).val = offD t := by simp [offD, slot]

section Eqs
variable {q p d x y i T X Y A a B b g}

theorem eq_I (u : Fin 16) {o : Fin 2 → ℕ} (h : o = offI q.val p.val i u.val) (k) : blkI X o k = (dat q p d x y i T X Y A a B b g).I u := by
  subst h; rfl
theorem eq_O (u : Fin 16) {o : Fin 2 → ℕ} (h : o = offO p.val i u.val) (k) : blkO Y o k = (dat q p d x y i T X Y A a B b g).O u := by
  subst h; rfl
theorem eq_SI (t : ℕ) {o : Fin 3 → ℕ} (h : o = offS t) (k) : sltI A o k = (dat q p d x y i T X Y A a B b g).SI (slot t) := by
  rw [← offS_slot] at h; subst h; rfl
theorem eq_SO (t : ℕ) {o : Fin 3 → ℕ} (h : o = offS t) (k) : sltO B o k = (dat q p d x y i T X Y A a B b g).SO (slot t) := by
  rw [← offS_slot] at h; subst h; rfl
theorem eq_isem (t : ℕ) {o : Fin 1 → ℕ} (h : o = offD t) (k) : (smr a o k).sem = (dat q p d x y i T X Y A a B b g).isem (slot t) := by
  rw [← offD_slot] at h; subst h; rfl
theorem eq_osem (t : ℕ) {o : Fin 1 → ℕ} (h : o = offD t) (k) : (smr b o k).sem = (dat q p d x y i T X Y A a B b g).osem (slot t) := by
  rw [← offD_slot] at h; subst h; rfl
theorem eq_SL (t : ℕ) {o : Fin 3 → ℕ} (h : o = offS t) (k) :
    ((sltI A o k).slice (Rect.unit (s := S1x256) ![0, 0] S1x256.size inbL) (fun _ => rfl)).squeeze S256 sqL
      = (dat q p d x y i T X Y A a B b g).SL (slot t) := by
  rw [← offS_slot] at h; subst h; rfl

end Eqs

variable {F : FTy → Type} [FloatOps F] {Λ : Labels} {defs : Defs nD τ sig (Elt F) Λ}
variable {Ix : Type} [DecidableEq Ix] {Name : Type} [DecidableEq Name] [Infinite Name] {U : Type} [URA U] {Lvl : Type} [Preorder Lvl]
variable (EC : UEmb Counters (MT nD τ sig Ix (Elt F) Name U Lvl)) [EC.LandsIn (upEmb : UEmb _ (MT nD τ sig Ix (Elt F) Name U Lvl))]
variable (ι : Ix) (𝒱 : Variants) (bd : Option 𝒱.V) (O : CellTallies nD τ sig Ix) (W : Waits sig Ix)

omit [FloatOps F] in
theorem lift_bind.{u} {ε : Type → Type u} {α β : Type} (e : ε α) (k : α → Prog ε β) : (Prog.lift e >>= k) = .op e k := rfl

theorem seq {S S' A B : sProp (MT nD τ sig Ix (Elt F) Name U Lvl)} (h : S ⊢ iprop((S' -∗ A) -∗ B)) (h' : S' ⊢ A) : S ⊢ B := by
  iintro HS
  iapply h $$ HS
  iintro HS
  iapply h' $$ HS

theorem seqF {S S' A B R : sProp (MT nD τ sig Ix (Elt F) Name U Lvl)} (h : S ⊢ iprop((S' -∗ A) -∗ B)) (h' : iprop(S' ∗ R) ⊢ A) : iprop(S ∗ R) ⊢ B := by
  iintro ⟨HS, HR⟩
  iapply h $$ HS
  iintro HS
  iapply h' $$ [HS HR]
  isplitl [HS]; · iexact HS
  iexact HR

/-- A conditional operation in mid-program: run where its condition holds, and nothing where it fails. -/
theorem wp_when {c : Thread nD τ} {β : Type} {P : Prop} [Decidable P]
    {S S' : sProp (MT nD τ sig Ix (Elt F) Name U Lvl)} {Q : β → sProp (MT nD τ sig Ix (Elt F) Name U Lvl)}
    {e : P → TpuEff nD τ sig (Elt F) Λ c.2 PUnit} {kk : PUnit → Prog (TpuEff nD τ sig (Elt F) Λ c.2) β}
    (hp : ∀ (h : P) (k : PUnit → Prog (TpuEff nD τ sig (Elt F) Λ c.2) β),
      S ⊢ iprop((S' -∗ wp frame (wpE defs 𝒱 c bd) Set.univ (k ⟨⟩) Q) -∗ wp frame (wpE defs 𝒱 c bd) Set.univ (.op (e h) k) Q))
    (hn : ¬ P → S ⊢ S') :
    S ⊢ iprop((S' -∗ wp frame (wpE defs 𝒱 c bd) Set.univ (kk ⟨⟩) Q) -∗ wp frame (wpE defs 𝒱 c bd) Set.univ (when_ P e >>= kk) Q) := by
  unfold when_
  by_cases h : P
  · rw [dif_pos h]; exact hp h kk
  · rw [dif_neg h]
    iintro HS Hk
    iapply Hk
    iapply (hn h) $$ HS

theorem trip_wp (k : Fin gloop.trips) (v : (dat q p d x y i T X Y A a B b g).Vals F) :
    (dat q p d x y i T X Y A a B b g).Inv EC ι v O W k.val
      ⊢ wp frame (wpE defs 𝒱 (sub d x y) bd) Set.univ (trip q p i T X Y A a B b g k (words k.val))
          (fun acc => (iprop((dat q p d x y i T X Y A a B b g).Inv EC ι v O W (k.val + 1) ∗ ⌜acc = words (k.val + 1)⌝) : sProp (MT nD τ sig Ix (Elt F) Name U Lvl))) := by
  unfold trip words
  simp only [lift_bind, wp_assume_of _ _ _ _ (chk1_holds q p i k), wp_assume_of _ _ _ _ (chk2_holds k), wp_assume_of _ _ _ _ (chk3_holds k)]
  refine seq (wp_when 𝒱 bd (S' := (dat q p d x y i T X Y A a B b g).St1 EC ι v O W k.val) (fun h kk => ?_) (fun h => ?_)) ?_
  · have hk := (c1_iff q.val i k).mp h
    exact Dat.step1 (dat q p d x y i T X Y A a B b g) EC ι v O W 𝒱 bd hk (eq_I ⟨k.val + 1, hk⟩ (off5 q p.val i k hk) _) (eq_SI _ (off4 k) _) (congrArg SemLoc.dma (eq_isem _ (off6 k) _))
  · have hk : k.val = 15 := by have := k.isLt; have := mt (c1_iff q.val i k).mpr h; change k.val < 16 at *; omega
    rw [hk]; exact Dat.skip1 (dat q p d x y i T X Y A a B b g) EC ι v O W
  refine seq (wp_when 𝒱 bd (S' := (dat q p d x y i T X Y A a B b g).St2 EC ι v O W k) (fun h kk => ?_) (fun h => absurd (c2_true q.val i k) h)) ?_
  · exact Dat.step2 (dat q p d x y i T X Y A a B b g) EC ι v O W 𝒱 bd k (eq_SI _ (off7 k) _) (eq_isem _ (off9 k) _)
  refine seq (Dat.step3 (dat q p d x y i T X Y A a B b g) EC ι v O W 𝒱 bd k rfl (eq_SO _ (off7 k) _) (eq_SL _ (off7 k) _) rfl) ?_
  refine seq (Dat.step4 (dat q p d x y i T X Y A a B b g) EC ι v O W 𝒱 bd k (eq_SO _ (off7 k) _) rfl) ?_
  refine seq (wp_when 𝒱 bd (S' := (dat q p d x y i T X Y A a B b g).St5 EC ι v O W k) (fun h kk => ?_) (fun h => absurd (c5_true p.val i k) h)) ?_
  · exact Dat.step5 (dat q p d x y i T X Y A a B b g) EC ι v O W 𝒱 bd k (eq_SO _ (off7 k) _) (eq_O k (off13 p i k) _) (congrArg SemLoc.dma (eq_osem _ (off9 k) _))
  refine seq (wp_when 𝒱 bd (S' := (dat q p d x y i T X Y A a B b g).Inv EC ι v O W (k.val + 1)) (fun h kk => ?_) (fun h => ?_)) ?_
  · have hk := (c7_iff p.val i k).mp h
    exact Dat.step6 (dat q p d x y i T X Y A a B b g) EC ι v O W 𝒱 bd k hk (eq_O ⟨k.val - 1, _⟩ (off16 p i k hk) _) (eq_osem _ (off17 k hk) _)
  · have hk : k = ⟨0, by decide⟩ := Fin.ext (by have := mt (c7_iff p.val i k).mpr h; show k.val = 0; omega)
    subst hk; exact Dat.skip6 (dat q p d x y i T X Y A a B b g) EC ι v O W
  rw [wp_pure]
  iintro H
  imodintro
  isplitl [H]; · iexact H
  ipureintro
  exact yields_eq q.val p.val i k

theorem loop_wp (v : (dat q p d x y i T X Y A a B b g).Vals F) {β : Type}
    {kk : _ → Prog (TpuEff nD τ sig (Elt F) Λ (sub d x y).2) β} {Q : β → sProp (MT nD τ sig Ix (Elt F) Name U Lvl)} :
    (dat q p d x y i T X Y A a B b g).Inv EC ι v O W 0
      ⊢ iprop(((dat q p d x y i T X Y A a B b g).Inv EC ι v O W 16 -∗ wp frame (wpE defs 𝒱 (sub d x y) bd) Set.univ (kk (words 16)) Q)
          -∗ wp frame (wpE defs 𝒱 (sub d x y) bd) Set.univ
              (Scf.Loop.for gloop gok (Scalar.addi 0#32 1#32, 0#32, 0#32, 0#32, 0#32) (trip q p i T X Y A a B b g) >>= kk) Q) := by
  have h := Scf.wp_for_bind frame (wpE defs 𝒱 (sub d x y) bd) Set.univ _ _ _ gok (Scalar.addi 0#32 1#32, 0#32, 0#32, 0#32, 0#32)
    (trip q p i T X Y A a B b g) (fun t acc => iprop((dat q p d x y i T X Y A a B b g).Inv EC ι v O W t ∗ ⌜acc = words t⌝)) (kk := kk) (Q := Q)
    (fun k acc => by
      iintro ⟨HI, %ha⟩
      subst ha
      iapply (trip_wp q p d x y i T X Y A a B b g EC ι 𝒱 bd O W k v) $$ HI)
  rw [show Scf.trips gloop.lb gloop.ub gloop.st = 16 by decide] at h
  iintro HI Hk
  iapply h $$ [HI]
  · isplitl [HI]; · iexact HI
    ipureintro; decide
  iintro %acc ⟨HI, %ha⟩
  subst ha
  iapply Hk $$ HI

include EC in
/-- A whole pipeline, from its resources and its output blocks at any contents to the blocks at their final contents. -/
theorem pipe_wp (v : (dat q p d x y i T X Y A a B b g).Vals F) {β : Type}
    {kk : Prog (TpuEff nD τ sig (Elt F) Λ (sub d x y).2) β} {Q : β → sProp (MT nD τ sig Ix (Elt F) Name U Lvl)} :
    iprop((dat q p d x y i T X Y A a B b g).Rest ι v O W ∗ bigSep Finset.univ (dat q p d x y i T X Y A a B b g).todo)
      ⊢ iprop((iprop((dat q p d x y i T X Y A a B b g).Rest ι v O W ∗ bigSep Finset.univ ((dat q p d x y i T X Y A a B b g).done v))
            -∗ wp frame (wpE defs 𝒱 (sub d x y) bd) Set.univ kk Q)
          -∗ wp frame (wpE defs 𝒱 (sub d x y) bd) Set.univ (pipe q p i T X Y A a B b g kk) Q) := by
  unfold pipe
  simp only [lift_bind]
  iintro HS Hk
  iapply (Dat.enter (dat q p d x y i T X Y A a B b g) EC ι v O W 𝒱 bd (eq_I 0 (off2 q p.val i) _) (eq_SI 0 rfl _) (congrArg SemLoc.dma (eq_isem 0 rfl _))) $$ HS
  iintro HS
  iapply (loop_wp q p d x y i T X Y A a B b g EC ι 𝒱 bd O W v) $$ HS
  iintro HS
  simp only [words]
  simp only [wp_assume_of _ _ _ _ (chk5_holds p i), wp_assume_of _ _ _ _ chk4_holds]
  iapply (Dat.leave (dat q p d x y i T X Y A a B b g) EC ι v O W 𝒱 bd (eq_O 15 (off19 p i) _) (eq_osem 1 off20 _)) $$ HS
  iexact Hk

end Cert.Proof.Trip

end
-- ==== Proof.Body.lean ====
/-
  The body of a vector subcore: its three pipelines one after the other.
-/
module

public import proofs.«01_k».proof.Proof.Trip

@[expose] public section

noncomputable section

namespace Cert.Proof.Body

open Cert.Proof.Words Cert.Proof.Pipe Cert.Proof.Text Cert.Proof.Trip
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic

variable {nD : ℕ} {τ : Topo} {sig : RefSig} [Pays sig]
variable {F : FTy → Type} [FloatOps F] {Λ : Labels} {defs : Defs nD τ sig (Elt F) Λ}
variable {Ix : Type} [DecidableEq Ix] {Name : Type} [DecidableEq Name] [Infinite Name] {U : Type} [URA U] {Lvl : Type} [Preorder Lvl]
variable (EC : UEmb Counters (MT nD τ sig Ix (Elt F) Name U Lvl)) [EC.LandsIn (upEmb : UEmb _ (MT nD τ sig Ix (Elt F) Name U Lvl))]
variable (ι : Ix) (𝒱 : Variants) (bd : Option 𝒱.V) (O : CellTallies nD τ sig Ix) (W : Waits sig Ix)

/-- What the thread owes and what it may wait for. -/
def tok (c : Thread nD τ) : sProp (MT nD τ sig Ix (Elt F) Name U Lvl) :=
  iprop(Transfers.MayWaits c ι O ∗ ∃ W', ⌜∀ p ∈ W', p ∈ W ∨ p.2 = ι⌝ ∗ owes c O W')

/-- A pipeline's own resources: its table's share, its index blocks, its slots and its semaphores. -/
def own {c : Thread nD τ} (P : Dat sig c S1x256 S256 S256x128 S153600x128 0) (v : P.Vals F) : sProp (MT nD τ sig Ix (Elt F) Name U Lvl) :=
  iprop((P.T.view.loc c ↦[P.T.view.set]{v.q} v.fT) ∗ semVal (c, SemLoc.dma P.gsem) 0
    ∗ bigSep Finset.univ (P.inI v) ∗ (P.freeI 0 ∗ P.freeI 1) ∗ (P.freeO 0 ∗ P.freeO 1))

theorem rest_eq {c : Thread nD τ} (P : Dat sig c S1x256 S256 S256x128 S153600x128 0) (v : P.Vals F) (X R : sProp (MT nD τ sig Ix (Elt F) Name U Lvl)) :
    iprop((P.Rest ι v O W ∗ X) ∗ R) ⊣⊢ iprop(tok ι O W c ∗ (own P v ∗ X) ∗ R) := by
  unfold Dat.Rest Dat.com tok own
  constructor
  · iintro ⟨⟨⟨⟨Hm, HT, Hs, Ho⟩, Hr⟩, HX⟩, HR⟩
    isplitl [Hm Ho]
    · isplitl [Hm]; · iexact Hm
      iexact Ho
    isplitr [HR]
    · isplitr [HX]
      · isplitl [HT]; · iexact HT
        isplitl [Hs]; · iexact Hs
        iexact Hr
      iexact HX
    iexact HR
  · iintro ⟨⟨Hm, Ho⟩, ⟨⟨HT, Hs, Hr⟩, HX⟩, HR⟩
    isplitr [HR]
    · isplitr [HX]
      · isplitr [Hr]
        · isplitl [Hm]; · iexact Hm
          isplitl [HT]; · iexact HT
          isplitl [Hs]; · iexact Hs
          iexact Ho
        iexact Hr
      iexact HX
    iexact HR

theorem rot {a x y r : sProp (MT nD τ sig Ix (Elt F) Name U Lvl)} : iprop(a ∗ x ∗ y ∗ r) ⊢ iprop(a ∗ y ∗ r ∗ x) := by
  iintro ⟨Ha, Hx, Hy, Hr⟩
  isplitl [Ha]; · iexact Ha
  isplitl [Hy]; · iexact Hy
  isplitl [Hr]; · iexact Hr
  iexact Hx

variable (q : Fin 8) (d : Dev nD) (x : Fin τ.nSC) (y : Fin τ.nSub) (i : G.Coords)
variable (X : Memref sig .scVector .hbm S3x1048576 .i32) (Y : Memref sig .scVector .hbm S393216x128 .f32)
variable (T0 : Memref sig .scVector .hbm S153600x128 .f32) (A0 : Memref sig .scVector .vmem S2x1x256 .i32) (a0 : DmaSems sig S2) (B0 : Memref sig .scVector .vmem S2x256x128 .f32) (b0 : DmaSems sig S2) (g0 : DmaSems sig S_)
variable (T1 : Memref sig .scVector .hbm S153600x128 .f32) (A1 : Memref sig .scVector .vmem S2x1x256 .i32) (a1 : DmaSems sig S2) (B1 : Memref sig .scVector .vmem S2x256x128 .f32) (b1 : DmaSems sig S2) (g1 : DmaSems sig S_)
variable (T2 : Memref sig .scVector .hbm S153600x128 .f32) (A2 : Memref sig .scVector .vmem S2x1x256 .i32) (a2 : DmaSems sig S2) (B2 : Memref sig .scVector .vmem S2x256x128 .f32) (b2 : DmaSems sig S2) (g2 : DmaSems sig S_)

include EC in
/-- The whole body of a subcore, from its three pipelines' resources and their output blocks at any contents to the blocks at their final contents. -/
theorem body (v0 : (dat q 0 d x y i T0 X Y A0 a0 B0 b0 g0).Vals F) (v1 : (dat q 1 d x y i T1 X Y A1 a1 B1 b1 g1).Vals F) (v2 : (dat q 2 d x y i T2 X Y A2 a2 B2 b2 g2).Vals F) :
    (iprop(tok ι O W (sub d x y) ∗ (own (dat q 0 d x y i T0 X Y A0 a0 B0 b0 g0) v0 ∗ bigSep Finset.univ (dat q 0 d x y i T0 X Y A0 a0 B0 b0 g0).todo) ∗ (own (dat q 1 d x y i T1 X Y A1 a1 B1 b1 g1) v1 ∗ bigSep Finset.univ (dat q 1 d x y i T1 X Y A1 a1 B1 b1 g1).todo) ∗ (own (dat q 2 d x y i T2 X Y A2 a2 B2 b2 g2) v2 ∗ bigSep Finset.univ (dat q 2 d x y i T2 X Y A2 a2 B2 b2 g2).todo)) : sProp (MT nD τ sig Ix (Elt F) Name U Lvl))
      ⊢ wp frame (wpE defs 𝒱 (sub d x y) bd) Set.univ (pipe q 0 i T0 X Y A0 a0 B0 b0 g0 (pipe q 1 i T1 X Y A1 a1 B1 b1 g1 (pipe q 2 i T2 X Y A2 a2 B2 b2 g2 (pure (⟨⟩ : PUnit)))))
          (fun _ => iprop(tok ι O W (sub d x y) ∗ (own (dat q 0 d x y i T0 X Y A0 a0 B0 b0 g0) v0 ∗ bigSep Finset.univ ((dat q 0 d x y i T0 X Y A0 a0 B0 b0 g0).done v0)) ∗ (own (dat q 1 d x y i T1 X Y A1 a1 B1 b1 g1) v1 ∗ bigSep Finset.univ ((dat q 1 d x y i T1 X Y A1 a1 B1 b1 g1).done v1)) ∗ (own (dat q 2 d x y i T2 X Y A2 a2 B2 b2 g2) v2 ∗ bigSep Finset.univ ((dat q 2 d x y i T2 X Y A2 a2 B2 b2 g2).done v2)))) := by
  refine (rest_eq ι O W (dat q 0 d x y i T0 X Y A0 a0 B0 b0 g0) v0 _ _).2.trans ?_
  refine seqF (pipe_wp q 0 d x y i T0 X Y A0 a0 B0 b0 g0 EC ι 𝒱 bd O W v0) ?_
  refine (rest_eq ι O W (dat q 0 d x y i T0 X Y A0 a0 B0 b0 g0) v0 _ _).1.trans ?_
  refine rot.trans ?_
  refine (rest_eq ι O W (dat q 1 d x y i T1 X Y A1 a1 B1 b1 g1) v1 _ _).2.trans ?_
  refine seqF (pipe_wp q 1 d x y i T1 X Y A1 a1 B1 b1 g1 EC ι 𝒱 bd O W v1) ?_
  refine (rest_eq ι O W (dat q 1 d x y i T1 X Y A1 a1 B1 b1 g1) v1 _ _).1.trans ?_
  refine rot.trans ?_
  refine (rest_eq ι O W (dat q 2 d x y i T2 X Y A2 a2 B2 b2 g2) v2 _ _).2.trans ?_
  refine seqF (pipe_wp q 2 d x y i T2 X Y A2 a2 B2 b2 g2 EC ι 𝒱 bd O W v2) ?_
  refine (rest_eq ι O W (dat q 2 d x y i T2 X Y A2 a2 B2 b2 g2) v2 _ _).1.trans ?_
  refine rot.trans ?_
  rw [wp_pure]
  iintro ⟨Ht, H0, H1, H2⟩
  imodintro
  isplitl [Ht]; · iexact Ht
  isplitl [H0]; · iexact H0
  isplitl [H1]; · iexact H1
  iexact H2

end Cert.Proof.Body

end
-- ==== Proof.Same.lean ====
/-
  The printed calls are one text: what each of the eight runs on a vector subcore is three pipelines over its own
  buffers.
-/
module

public import proofs.«01_k».proof.Proof.Text
public import proofs.«01_k».proof.Proof.Gen.KernelIdeal.Skeleton

@[expose] public section

set_option maxRecDepth 65536

noncomputable section

namespace Cert.Proof.Same

open Cert.KernelIdeal Cert.KernelIdeal.Gen
open Cert.Proof
open Idealize.ShloMosaic Idealize.SL.Sem

variable {F : FTy → Type} [FloatOps F]

/-! ## The calls' buffers -/

/-- The tables, and the calls' outputs. -/
abbrev tbV : Fin 3 → Memref sig .scVector .hbm S153600x128 .f32
  | 0 => .whole main_arg0_scv | 1 => .whole main_arg1_scv | 2 => .whole main_arg2_scv
abbrev xV : Memref sig .scVector .hbm S3x1048576 .i32 := .whole main_arg3_scv
abbrev yV : Fin 8 → Memref sig .scVector .hbm S393216x128 .f32
  | 0 => .whole main_v0_scv | 1 => .whole main_v3_scv | 2 => .whole main_v6_scv | 3 => .whole main_v9_scv | 4 => .whole main_v12_scv | 5 => .whole main_v15_scv | 6 => .whole main_v18_scv | 7 => .whole main_v21_scv
/-- The two index slots of pipeline `p` of call `q`. -/
abbrev ibV : Fin 8 → Fin 3 → Memref sig .scVector .vmem S2x1x256 .i32
  | 0, 0 => .whole cc0_scoped0 | 0, 1 => .whole cc0_scoped5 | 0, 2 => .whole cc0_scoped10
  | 1, 0 => .whole cc2_scoped0 | 1, 1 => .whole cc2_scoped5 | 1, 2 => .whole cc2_scoped10
  | 2, 0 => .whole cc4_scoped0 | 2, 1 => .whole cc4_scoped5 | 2, 2 => .whole cc4_scoped10
  | 3, 0 => .whole cc6_scoped0 | 3, 1 => .whole cc6_scoped5 | 3, 2 => .whole cc6_scoped10
  | 4, 0 => .whole cc8_scoped0 | 4, 1 => .whole cc8_scoped5 | 4, 2 => .whole cc8_scoped10
  | 5, 0 => .whole cc10_scoped0 | 5, 1 => .whole cc10_scoped5 | 5, 2 => .whole cc10_scoped10
  | 6, 0 => .whole cc12_scoped0 | 6, 1 => .whole cc12_scoped5 | 6, 2 => .whole cc12_scoped10
  | 7, 0 => .whole cc14_scoped0 | 7, 1 => .whole cc14_scoped5 | 7, 2 => .whole cc14_scoped10
/-- Its two row slots. -/
abbrev obV : Fin 8 → Fin 3 → Memref sig .scVector .vmem S2x256x128 .f32
  | 0, 0 => .whole cc0_scoped2 | 0, 1 => .whole cc0_scoped7 | 0, 2 => .whole cc0_scoped12
  | 1, 0 => .whole cc2_scoped2 | 1, 1 => .whole cc2_scoped7 | 1, 2 => .whole cc2_scoped12
  | 2, 0 => .whole cc4_scoped2 | 2, 1 => .whole cc4_scoped7 | 2, 2 => .whole cc4_scoped12
  | 3, 0 => .whole cc6_scoped2 | 3, 1 => .whole cc6_scoped7 | 3, 2 => .whole cc6_scoped12
  | 4, 0 => .whole cc8_scoped2 | 4, 1 => .whole cc8_scoped7 | 4, 2 => .whole cc8_scoped12
  | 5, 0 => .whole cc10_scoped2 | 5, 1 => .whole cc10_scoped7 | 5, 2 => .whole cc10_scoped12
  | 6, 0 => .whole cc12_scoped2 | 6, 1 => .whole cc12_scoped7 | 6, 2 => .whole cc12_scoped12
  | 7, 0 => .whole cc14_scoped2 | 7, 1 => .whole cc14_scoped7 | 7, 2 => .whole cc14_scoped12
/-- The five semaphores of pipeline `p` of call `q`, by their numbers. -/
def sm (q : Fin 8) (p : Fin 3) (j : Fin 5) : DmaSem sig := ⟨23 * q.val + 5 * p.val + j.val, by show _ < 184; omega⟩
/-- The semaphores of its index slots, of its row slots, and of its gathers. -/
abbrev isV : Fin 8 → Fin 3 → DmaSems sig S2
  | 0, 0 => cc0_scoped1 | 0, 1 => cc0_scoped6 | 0, 2 => cc0_scoped11
  | 1, 0 => cc2_scoped1 | 1, 1 => cc2_scoped6 | 1, 2 => cc2_scoped11
  | 2, 0 => cc4_scoped1 | 2, 1 => cc4_scoped6 | 2, 2 => cc4_scoped11
  | 3, 0 => cc6_scoped1 | 3, 1 => cc6_scoped6 | 3, 2 => cc6_scoped11
  | 4, 0 => cc8_scoped1 | 4, 1 => cc8_scoped6 | 4, 2 => cc8_scoped11
  | 5, 0 => cc10_scoped1 | 5, 1 => cc10_scoped6 | 5, 2 => cc10_scoped11
  | 6, 0 => cc12_scoped1 | 6, 1 => cc12_scoped6 | 6, 2 => cc12_scoped11
  | 7, 0 => cc14_scoped1 | 7, 1 => cc14_scoped6 | 7, 2 => cc14_scoped11
/-- See `isV`. -/
abbrev osV : Fin 8 → Fin 3 → DmaSems sig S2
  | 0, 0 => cc0_scoped3 | 0, 1 => cc0_scoped8 | 0, 2 => cc0_scoped13
  | 1, 0 => cc2_scoped3 | 1, 1 => cc2_scoped8 | 1, 2 => cc2_scoped13
  | 2, 0 => cc4_scoped3 | 2, 1 => cc4_scoped8 | 2, 2 => cc4_scoped13
  | 3, 0 => cc6_scoped3 | 3, 1 => cc6_scoped8 | 3, 2 => cc6_scoped13
  | 4, 0 => cc8_scoped3 | 4, 1 => cc8_scoped8 | 4, 2 => cc8_scoped13
  | 5, 0 => cc10_scoped3 | 5, 1 => cc10_scoped8 | 5, 2 => cc10_scoped13
  | 6, 0 => cc12_scoped3 | 6, 1 => cc12_scoped8 | 6, 2 => cc12_scoped13
  | 7, 0 => cc14_scoped3 | 7, 1 => cc14_scoped8 | 7, 2 => cc14_scoped13
/-- See `isV`. -/
abbrev gsV : Fin 8 → Fin 3 → DmaSems sig S_
  | 0, 0 => cc0_scoped4 | 0, 1 => cc0_scoped9 | 0, 2 => cc0_scoped14
  | 1, 0 => cc2_scoped4 | 1, 1 => cc2_scoped9 | 1, 2 => cc2_scoped14
  | 2, 0 => cc4_scoped4 | 2, 1 => cc4_scoped9 | 2, 2 => cc4_scoped14
  | 3, 0 => cc6_scoped4 | 3, 1 => cc6_scoped9 | 3, 2 => cc6_scoped14
  | 4, 0 => cc8_scoped4 | 4, 1 => cc8_scoped9 | 4, 2 => cc8_scoped14
  | 5, 0 => cc10_scoped4 | 5, 1 => cc10_scoped9 | 5, 2 => cc10_scoped14
  | 6, 0 => cc12_scoped4 | 6, 1 => cc12_scoped9 | 6, 2 => cc12_scoped14
  | 7, 0 => cc14_scoped4 | 7, 1 => cc14_scoped9 | 7, 2 => cc14_scoped14

/-- The grid point of core `c`, subcore `s`. -/
def at' (c : Fin 2) (s : Fin 16) : Words.G.Coords :=
  fun | 0 => c | 1 => s | ⟨_ + 2, h⟩ => absurd h (Nat.not_lt.2 (Nat.le_add_left _ _))

/-- What call `q` runs at grid point `i` of the mesh. -/
abbrev prog (q : Fin 8) {x : Fin τ.nSC} {y : Fin τ.nSub} (i : Words.G.Coords) : Prog (TpuEff nD τ sig (Elt F) Λ₀ (.scVector x y)) PUnit :=
  Text.pipe q 0 i (tbV 0) xV (yV q) (ibV q 0) (isV q 0) (obV q 0) (osV q 0) (gsV q 0) (Text.pipe q 1 i (tbV 1) xV (yV q) (ibV q 1) (isV q 1) (obV q 1) (osV q 1) (gsV q 1) (Text.pipe q 2 i (tbV 2) xV (yV q) (ibV q 2) (isV q 2) (obV q 2) (osV q 2) (gsV q 2) (pure (⟨⟩ : PUnit))))

/-- The base of a subcore's steps, as the calls spell it. -/
theorem base_eq (i : Words.G.Coords) : Scalar.muli (Scalar.addi (Scalar.addi 0#32 (Scalar.muli (BitVec.ofNat 32 (i 1).val) 1#32)) (Scalar.muli (BitVec.ofNat 32 (i 0).val) 16#32)) 16#32
    = Words.base i := rfl

/-- A loop that carries five words, its trip as a function of the five. -/
def loop5 {E : Type → Type} (l : Scf.Loop 32) (h : l.OK) (z : BitVec 32 × BitVec 32 × BitVec 32 × BitVec 32 × BitVec 32)
    (f : Fin l.trips → BitVec 32 → BitVec 32 → BitVec 32 → BitVec 32 → BitVec 32 → Prog E (BitVec 32 × BitVec 32 × BitVec 32 × BitVec 32 × BitVec 32)) :
    Prog E (BitVec 32 × BitVec 32 × BitVec 32 × BitVec 32 × BitVec 32) := l.for h z fun k z => f k z.1 z.2.1 z.2.2.1 z.2.2.2.1 z.2.2.2.2

theorem loop_eq {E : Type → Type} (l : Scf.Loop 32) (h : l.OK) (z : BitVec 32 × BitVec 32 × BitVec 32 × BitVec 32 × BitVec 32)
    (f : Fin l.trips → BitVec 32 × BitVec 32 × BitVec 32 × BitVec 32 × BitVec 32 → Prog E (BitVec 32 × BitVec 32 × BitVec 32 × BitVec 32 × BitVec 32)) :
    l.for h z f = loop5 l h z fun k a b c d e => f k (a, b, c, d, e) := rfl

/-! ## The printed calls -/

theorem call0 (c : Fin τ.nSC) (s : Fin τ.nSub) : defs₀ (F := F) (.scVector c s) 0 ()
    = SparseCore.onTile hcore0 hsub0 (fun c s => prog 0 (at' c s)) ⟨⟩ c s := by
  simp only [defs₀, cc0_gather_kernel_eq_skeleton, cc0_gather_kernel_skel, k0_t1_body, k0_t2_body, k0_t3_body,
    k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel,
    bind_assoc, pure_bind, ite_self, Text.when_seq, base_eq, loop_eq, Text.pipe, Text.trip]
  rfl

theorem call1 (c : Fin τ.nSC) (s : Fin τ.nSub) : defs₀ (F := F) (.scVector c s) 2 ()
    = SparseCore.onTile hcore2 hsub2 (fun c s => prog 1 (at' c s)) ⟨⟩ c s := by
  simp only [defs₀, cc2_gather_kernel_eq_skeleton, cc2_gather_kernel_skel, k2_t1_body, k2_t2_body, k2_t3_body,
    k2_part1_eq_skeleton, k2_part1_skel, k2_part2_eq_skeleton, k2_part2_skel, k2_part3_eq_skeleton, k2_part3_skel, k2_part4_eq_skeleton, k2_part4_skel, k2_part5_eq_skeleton, k2_part5_skel, k2_part6_eq_skeleton, k2_part6_skel, k2_part7_eq_skeleton, k2_part7_skel, k2_part8_eq_skeleton, k2_part8_skel, k2_part9_eq_skeleton, k2_part9_skel, k2_part10_eq_skeleton, k2_part10_skel, k2_part11_eq_skeleton, k2_part11_skel, k2_part12_eq_skeleton, k2_part12_skel, k2_part13_eq_skeleton, k2_part13_skel, k2_part14_eq_skeleton, k2_part14_skel, k2_part15_eq_skeleton, k2_part15_skel,
    bind_assoc, pure_bind, ite_self, Text.when_seq, base_eq, loop_eq, Text.pipe, Text.trip]
  rfl

theorem call2 (c : Fin τ.nSC) (s : Fin τ.nSub) : defs₀ (F := F) (.scVector c s) 4 ()
    = SparseCore.onTile hcore4 hsub4 (fun c s => prog 2 (at' c s)) ⟨⟩ c s := by
  simp only [defs₀, cc4_gather_kernel_eq_skeleton, cc4_gather_kernel_skel, k4_t1_body, k4_t2_body, k4_t3_body,
    k4_part1_eq_skeleton, k4_part1_skel, k4_part2_eq_skeleton, k4_part2_skel, k4_part3_eq_skeleton, k4_part3_skel, k4_part4_eq_skeleton, k4_part4_skel, k4_part5_eq_skeleton, k4_part5_skel, k4_part6_eq_skeleton, k4_part6_skel, k4_part7_eq_skeleton, k4_part7_skel, k4_part8_eq_skeleton, k4_part8_skel, k4_part9_eq_skeleton, k4_part9_skel, k4_part10_eq_skeleton, k4_part10_skel, k4_part11_eq_skeleton, k4_part11_skel, k4_part12_eq_skeleton, k4_part12_skel, k4_part13_eq_skeleton, k4_part13_skel, k4_part14_eq_skeleton, k4_part14_skel, k4_part15_eq_skeleton, k4_part15_skel,
    bind_assoc, pure_bind, ite_self, Text.when_seq, base_eq, loop_eq, Text.pipe, Text.trip]
  rfl

theorem call3 (c : Fin τ.nSC) (s : Fin τ.nSub) : defs₀ (F := F) (.scVector c s) 6 ()
    = SparseCore.onTile hcore6 hsub6 (fun c s => prog 3 (at' c s)) ⟨⟩ c s := by
  simp only [defs₀, cc6_gather_kernel_eq_skeleton, cc6_gather_kernel_skel, k6_t1_body, k6_t2_body, k6_t3_body,
    k6_part1_eq_skeleton, k6_part1_skel, k6_part2_eq_skeleton, k6_part2_skel, k6_part3_eq_skeleton, k6_part3_skel, k6_part4_eq_skeleton, k6_part4_skel, k6_part5_eq_skeleton, k6_part5_skel, k6_part6_eq_skeleton, k6_part6_skel, k6_part7_eq_skeleton, k6_part7_skel, k6_part8_eq_skeleton, k6_part8_skel, k6_part9_eq_skeleton, k6_part9_skel, k6_part10_eq_skeleton, k6_part10_skel, k6_part11_eq_skeleton, k6_part11_skel, k6_part12_eq_skeleton, k6_part12_skel, k6_part13_eq_skeleton, k6_part13_skel, k6_part14_eq_skeleton, k6_part14_skel, k6_part15_eq_skeleton, k6_part15_skel,
    bind_assoc, pure_bind, ite_self, Text.when_seq, base_eq, loop_eq, Text.pipe, Text.trip]
  rfl

theorem call4 (c : Fin τ.nSC) (s : Fin τ.nSub) : defs₀ (F := F) (.scVector c s) 8 ()
    = SparseCore.onTile hcore8 hsub8 (fun c s => prog 4 (at' c s)) ⟨⟩ c s := by
  simp only [defs₀, cc8_gather_kernel_eq_skeleton, cc8_gather_kernel_skel, k8_t1_body, k8_t2_body, k8_t3_body,
    k8_part1_eq_skeleton, k8_part1_skel, k8_part2_eq_skeleton, k8_part2_skel, k8_part3_eq_skeleton, k8_part3_skel, k8_part4_eq_skeleton, k8_part4_skel, k8_part5_eq_skeleton, k8_part5_skel, k8_part6_eq_skeleton, k8_part6_skel, k8_part7_eq_skeleton, k8_part7_skel, k8_part8_eq_skeleton, k8_part8_skel, k8_part9_eq_skeleton, k8_part9_skel, k8_part10_eq_skeleton, k8_part10_skel, k8_part11_eq_skeleton, k8_part11_skel, k8_part12_eq_skeleton, k8_part12_skel, k8_part13_eq_skeleton, k8_part13_skel, k8_part14_eq_skeleton, k8_part14_skel, k8_part15_eq_skeleton, k8_part15_skel,
    bind_assoc, pure_bind, ite_self, Text.when_seq, base_eq, loop_eq, Text.pipe, Text.trip]
  rfl

theorem call5 (c : Fin τ.nSC) (s : Fin τ.nSub) : defs₀ (F := F) (.scVector c s) 10 ()
    = SparseCore.onTile hcore10 hsub10 (fun c s => prog 5 (at' c s)) ⟨⟩ c s := by
  simp only [defs₀, cc10_gather_kernel_eq_skeleton, cc10_gather_kernel_skel, k10_t1_body, k10_t2_body, k10_t3_body,
    k10_part1_eq_skeleton, k10_part1_skel, k10_part2_eq_skeleton, k10_part2_skel, k10_part3_eq_skeleton, k10_part3_skel, k10_part4_eq_skeleton, k10_part4_skel, k10_part5_eq_skeleton, k10_part5_skel, k10_part6_eq_skeleton, k10_part6_skel, k10_part7_eq_skeleton, k10_part7_skel, k10_part8_eq_skeleton, k10_part8_skel, k10_part9_eq_skeleton, k10_part9_skel, k10_part10_eq_skeleton, k10_part10_skel, k10_part11_eq_skeleton, k10_part11_skel, k10_part12_eq_skeleton, k10_part12_skel, k10_part13_eq_skeleton, k10_part13_skel, k10_part14_eq_skeleton, k10_part14_skel, k10_part15_eq_skeleton, k10_part15_skel,
    bind_assoc, pure_bind, ite_self, Text.when_seq, base_eq, loop_eq, Text.pipe, Text.trip]
  rfl

theorem call6 (c : Fin τ.nSC) (s : Fin τ.nSub) : defs₀ (F := F) (.scVector c s) 12 ()
    = SparseCore.onTile hcore12 hsub12 (fun c s => prog 6 (at' c s)) ⟨⟩ c s := by
  simp only [defs₀, cc12_gather_kernel_eq_skeleton, cc12_gather_kernel_skel, k12_t1_body, k12_t2_body, k12_t3_body,
    k12_part1_eq_skeleton, k12_part1_skel, k12_part2_eq_skeleton, k12_part2_skel, k12_part3_eq_skeleton, k12_part3_skel, k12_part4_eq_skeleton, k12_part4_skel, k12_part5_eq_skeleton, k12_part5_skel, k12_part6_eq_skeleton, k12_part6_skel, k12_part7_eq_skeleton, k12_part7_skel, k12_part8_eq_skeleton, k12_part8_skel, k12_part9_eq_skeleton, k12_part9_skel, k12_part10_eq_skeleton, k12_part10_skel, k12_part11_eq_skeleton, k12_part11_skel, k12_part12_eq_skeleton, k12_part12_skel, k12_part13_eq_skeleton, k12_part13_skel, k12_part14_eq_skeleton, k12_part14_skel, k12_part15_eq_skeleton, k12_part15_skel,
    bind_assoc, pure_bind, ite_self, Text.when_seq, base_eq, loop_eq, Text.pipe, Text.trip]
  rfl

theorem call7 (c : Fin τ.nSC) (s : Fin τ.nSub) : defs₀ (F := F) (.scVector c s) 14 ()
    = SparseCore.onTile hcore14 hsub14 (fun c s => prog 7 (at' c s)) ⟨⟩ c s := by
  simp only [defs₀, cc14_gather_kernel_eq_skeleton, cc14_gather_kernel_skel, k14_t1_body, k14_t2_body, k14_t3_body,
    k14_part1_eq_skeleton, k14_part1_skel, k14_part2_eq_skeleton, k14_part2_skel, k14_part3_eq_skeleton, k14_part3_skel, k14_part4_eq_skeleton, k14_part4_skel, k14_part5_eq_skeleton, k14_part5_skel, k14_part6_eq_skeleton, k14_part6_skel, k14_part7_eq_skeleton, k14_part7_skel, k14_part8_eq_skeleton, k14_part8_skel, k14_part9_eq_skeleton, k14_part9_skel, k14_part10_eq_skeleton, k14_part10_skel, k14_part11_eq_skeleton, k14_part11_skel, k14_part12_eq_skeleton, k14_part12_skel, k14_part13_eq_skeleton, k14_part13_skel, k14_part14_eq_skeleton, k14_part14_skel, k14_part15_eq_skeleton, k14_part15_skel,
    bind_assoc, pure_bind, ite_self, Text.when_seq, base_eq, loop_eq, Text.pipe, Text.trip]
  rfl

/-- The body label of call `q`. -/
abbrev lb : Fin 8 → Fin 16
  | 0 => 0 | 1 => 2 | 2 => 4 | 3 => 6 | 4 => 8 | 5 => 10 | 6 => 12 | 7 => 14

theorem call (q : Fin 8) (a : Λ₀.Args (lb q)) (c : Fin τ.nSC) (s : Fin τ.nSub) : defs₀ (F := F) (.scVector c s) (lb q) a
    = SparseCore.onTile hcore0 hsub0 (fun c s => prog q (at' c s)) ⟨⟩ c s :=
  match q, a with
  | 0, () => call0 c s | 1, () => call1 c s | 2, () => call2 c s | 3, () => call3 c s | 4, () => call4 c s | 5, () => call5 c s | 6, () => call6 c s | 7, () => call7 c s

end Cert.Proof.Same

end
-- ==== Proof.Vals.lean ====
/-
  What a call computes, and the values its three pipelines run at: every output row is the table row its index word
  names, the output's three blocks of 131072 rows being the three tables'.
-/
module

public import proofs.«01_k».proof.Proof.Body
public import proofs.«01_k».proof.Proof.Same
public import Idealize.ShloMosaic.Lib.VecWindow

@[expose] public section

set_option maxRecDepth 65536

noncomputable section

namespace Cert.Proof.Vals

open Cert.KernelIdeal Cert.KernelIdeal.Gen
open Cert.Proof.Words (offI offO offI_inb offO_inb)
open Cert.Proof.Pipe Cert.Proof.Trip Cert.Proof.Same
open Idealize.ShloMosaic
open Idealize.SL Idealize.SL.RA Idealize.SL.BI

variable {F : FTy → Type}

/-- Entry `(r, c)` of a table. -/
def tIx (r : ℕ) (hr : r < 153600) (c : Fin 128) : S153600x128.Idx := fun | 0 => ⟨r, hr⟩ | 1 => c
/-- Entry `(p, k)` of the index array. -/
def iIx (p k : ℕ) (hp : p < 3) (hk : k < 1048576) : S3x1048576.Idx := fun | 0 => ⟨p, hp⟩ | 1 => ⟨k, hk⟩

/-- The rows gathered by call `q`: row `131072 p + k` is table `p`'s row at the word of index `(p, 131072 q + k)`. -/
def gat {α : Type} (q : Fin 8) (tab : Fin 3 → S153600x128.Idx → α) (ix : S3x1048576.Idx → BitVec 32) (x : S393216x128.Idx) : α :=
  tab ⟨(x 0).val / 131072, by have h : (x 0).val < 393216 := (x 0).isLt; omega⟩
    (tIx ((ix (iIx ((x 0).val / 131072) (131072 * q.val + (x 0).val % 131072) (by have h : (x 0).val < 393216 := (x 0).isLt; omega) (by omega))).toNat % 153600)
      (Nat.mod_lt _ (by decide)) (x 1))

theorem gat_at {α : Type} (q : Fin 8) (tab : Fin 3 → S153600x128.Idx → α) (ix : S3x1048576.Idx → BitVec 32) (x : S393216x128.Idx) (p : Fin 3) (k : ℕ)
    (hk : k < 131072) (h0 : (x 0).val = 131072 * p.val + k) (h : (ix (iIx p.val (131072 * q.val + k) p.isLt (by omega))).toNat < 153600) :
    gat q tab ix x = tab p (tIx (ix (iIx p.val (131072 * q.val + k) p.isLt (by omega))).toNat h (x 1)) := by
  obtain rfl : k = (x 0).val % 131072 := by omega
  obtain ⟨p, hp⟩ := p
  obtain rfl : p = (x 0).val / 131072 := by change (x 0).val = 131072 * p + _ at h0; omega
  unfold gat
  refine congrArg (tab _) (funext fun (a : Fin 2) => ?_)
  match a with
  | 0 => exact Fin.ext (Nat.mod_eq_of_lt h)
  | 1 => rfl

/-- The subcore at grid point `i`. -/
abbrev thr (d : Dev nD) (i : Words.G.Coords) : Thread nD τ := (d, .scVector ((i 0).castLE hcore0) ((i 1).castLE hsub0))

/-- A transfer into a subcore's own memory pays what it moves. -/
instance pays : Pays sig := ⟨fun _ _ => rfl⟩

/-- Pipeline `p` of call `q` on the subcore at `i`. -/
abbrev dt (q : Fin 8) (p : Fin 3) (d : Dev nD) (i : Words.G.Coords) : Dat sig (thr d i) S1x256 S256 S256x128 S153600x128 0 :=
  dat q p d ((i 0).castLE hcore0) ((i 1).castLE hsub0) i (tbV p) xV (yV q) (ibV q p) (isV q p) (obV q p) (osV q p) (gsV q p)

variable (q : Fin 8) (tab : Fin 3 → S153600x128.Idx → Elt F .f32) (ix : S3x1048576.Idx → BitVec 32)

/-- Index block `u` of pipeline `p`, read as a list. -/
theorem lst_eq (p : Fin 3) (d : Dev nD) (i : Words.G.Coords) (u : Fin 16) (x : S256.Idx) :
    (dt q p d i).lst (((dt q p d i).I u).view.read (Elt F) ix) x
      = ix (iIx p.val ((offI q.val p.val i u.val) 1 + (x 0).val) p.isLt (by
          have h := offI_inb q p i u 1; have hx : (x 0).val < 256 := (x 0).isLt
          change offI q.val p.val i u.val 1 + 256 ≤ 1048576 at h; omega)) := by
  show ix _ = _
  refine congrArg _ (funext fun (a : Fin 2) => Fin.ext ?_)
  have e := Shape.reshapeEquiv_cons_one (d := ![256]) (show S256.numel = (⟨2, Matrix.vecCons 1 ![256]⟩ : Shape).numel by decide) x
  show offI q.val p.val i u.val a + 1 * ((![0, 0] : Fin 2 → ℕ) a + 1 * (Shape.reshapeEquiv (s := ⟨2, Matrix.vecCons 1 ![256]⟩) (s' := S256) _ x a).val) = _
  rw [e]
  match a with
  | 0 => show p.val + 1 * (0 + 1 * 0) = p.val; omega
  | 1 => show offI q.val p.val i u.val 1 + 1 * (0 + 1 * (x 0).val) = offI q.val p.val i u.val 1 + (x 0).val; omega

/-- The contents of table `p`. -/
def tbuf (d : Dev nD) (i : Words.G.Coords) : (p : Fin 3) → Buf (Elt F) ((dt q p d i).T.view.loc (thr d i))
  | 0 => tab 0 | 1 => tab 1 | 2 => tab 2

/-- The table as pipeline `p` reads it. -/
theorem read_T (p : Fin 3) (d : Dev nD) (i : Words.G.Coords) : (dt q p d i).T.view.read (Elt F) (tbuf q tab d i p) = tab p := by
  funext x
  match p with
  | 0 => exact congrArg (tab 0) (Rect.emb_unit_full _ _)
  | 1 => exact congrArg (tab 1) (Rect.emb_unit_full _ _)
  | 2 => exact congrArg (tab 2) (Rect.emb_unit_full _ _)

/-- The contents of call `q`'s output. -/
def ybuf (f : S393216x128.Idx → Elt F .f32) (d : Dev nD) (i : Words.G.Coords) (p : Fin 3) (u : Fin 16) : Buf (Elt F) (((dt q p d i).O u).view.loc (thr d i)) :=
  match q with
  | 0 => f | 1 => f | 2 => f | 3 => f | 4 => f | 5 => f | 6 => f | 7 => f

theorem read_O (f : S393216x128.Idx → Elt F .f32) (d : Dev nD) (i : Words.G.Coords) (p : Fin 3) (u : Fin 16) (y : S256x128.Idx) :
    ((dt q p d i).O u).view.read (Elt F) (ybuf q f d i p u) y = f ((Rect.unit (s := S393216x128) (offO p.val i u.val) S256x128.size (offO_inb p i u)).emb y) := by
  match q with
  | 0 => rfl | 1 => rfl | 2 => rfl | 3 => rfl | 4 => rfl | 5 => rfl | 6 => rfl | 7 => rfl

/-- The values pipeline `p` of call `q` runs at on the subcore at `i`, its share of the table being `sh`. -/
def vls (hix : ∀ j, (ix j).toNat < 153600) (sh : PosShare TreeShare) (p : Fin 3) (d : Dev nD) (i : Words.G.Coords) : (dt q p d i).Vals F where
  q := sh
  qi := fullShare
  fT := tbuf q tab d i p
  fI _ := ix
  G u := ybuf q (gat q tab ix) d i p u
  inb u x := by rw [lst_eq]; exact hix _
  hG u := by
    rw [read_T]
    funext y
    refine (read_O q _ d i p u y).trans ?_
    have h0 : (i 0).val < 2 := (i 0).isLt
    have h1 : (i 1).val < 16 := (i 1).isLt
    have hu := u.isLt
    have hy : (y 0).val < 256 := (y 0).isLt
    have e1 : offI q.val p.val i u.val 1 + (y 0).val = 131072 * q.val + (4096 * (i 1).val + 65536 * (i 0).val + 256 * u.val + (y 0).val) := by
      show 131072 * q.val + 4096 * (i 1).val + 65536 * (i 0).val + 256 * u.val + (y 0).val = _; omega
    refine (gat_at q _ _ _ p (4096 * (i 1).val + 65536 * (i 0).val + 256 * u.val + (y 0).val) (by omega)
      (by show 131072 * p.val + 4096 * (i 1).val + 65536 * (i 0).val + 256 * u.val + 1 * (y 0).val
            = 131072 * p.val + (4096 * (i 1).val + 65536 * (i 0).val + 256 * u.val + (y 0).val); omega) (hix _)).trans ?_
    refine congrArg _ (funext fun (a : Fin 2) => Fin.ext ?_)
    match a with
    | 0 =>
      refine Eq.trans ?_ (congrArg Fin.val (Shape.Gathers.idx_axis (dt q p d i).hg _ y)).symm
      refine Eq.trans ?_ (congrArg BitVec.toNat (lst_eq q ix p d i u (S256.rowMajor.symm ((y 0).cast rfl)))).symm
      refine congrArg (fun z => (ix z).toNat) (funext fun (b : Fin 2) => Fin.ext ?_)
      match b with
      | 0 => rfl
      | 1 =>
        refine e1.symm.trans (congrArg (offI q.val p.val i u.val 1 + ·) ?_)
        have e := Shape.rowMajor_val_one (d := ![256]) ((⟨1, ![256]⟩ : Shape).rowMajor.symm ((y 0).cast rfl))
        rw [Equiv.apply_symm_apply] at e
        exact e
    | 1 =>
      refine Eq.trans ?_ (Shape.Gathers.idx_of_ne (dt q p d i).hg _ y 1 (by decide)).symm
      show 0 + 1 * (y 1).val = (y 1).val; omega

end Cert.Proof.Vals

end
-- ==== Proof.Tile.lean ====
/-
  A vector subcore's own scratch, cut into the slots and semaphores of its three pipelines, and the task it runs.
-/
module

public import proofs.«01_k».proof.Proof.Vals

@[expose] public section

set_option maxRecDepth 65536

noncomputable section

namespace Cert.Proof.Tile

open Cert.KernelIdeal Cert.KernelIdeal.Gen
open Cert.Proof.Words (offS offS_inbI offS_inbO)
open Cert.Proof.Pipe Cert.Proof.Trip Cert.Proof.Same Cert.Proof.Vals Cert.Proof.Body
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev UH : Type := URounds (GSem nD τ sig) ℕ
abbrev UU : Type := UH × (URounds (GSem nD τ sig) Unit × Counters)

local notation "𝕄" => MT nD τ sig (HIx 8) (Elt F) ℕ UU ℕ

/-! ## Two slots of a buffer -/

/-- The two halves of a buffer of two slots, cut along axis 0, are disjoint and cover it. -/
theorem slots {s : Shape} (a₀ : Fin s.rank) (h2 : s.size a₀ = 2) {o0 o1 sz : Fin s.rank → ℕ} (q0 q1) (h0 : o0 a₀ = 0) (h1 : o1 a₀ = 1) (hs : sz a₀ = 1)
    (hr : ∀ a, a ≠ a₀ → o0 a = 0 ∧ o1 a = 0 ∧ sz a = s.size a) :
    Disjoint (Rect.unit o0 sz q0).set (Rect.unit o1 sz q1).set ∧ (Rect.unit o0 sz q0).set ∪ (Rect.unit o1 sz q1).set = Finset.univ := by
  constructor
  · refine Finset.disjoint_left.mpr fun x hx hy => ?_
    have hx := Rect.mem_set_unit.mp hx a₀
    have hy := Rect.mem_set_unit.mp hy a₀
    omega
  · refine Finset.eq_univ_of_forall fun x => Finset.mem_union.mpr ?_
    have hx := (x a₀).isLt
    by_cases e : (x a₀).val = 0
    · refine .inl (Rect.mem_set_unit.mpr fun a => ?_)
      by_cases ha : a = a₀
      · subst ha; omega
      · have := hr a ha; have := (x a).isLt; omega
    · refine .inr (Rect.mem_set_unit.mpr fun a => ?_)
      by_cases ha : a = a₀
      · subst ha; omega
      · have := hr a ha; have := (x a).isLt; omega

/-- A buffer at some contents is its two disjoint halves at some contents each. -/
theorem halves {ℓ : Loc nD τ sig} {I J : Finset (Idx ℓ)} (hd : Disjoint I J) (hu : I ∪ J = Finset.univ) :
    (iprop(∃ f, ℓ ↦{fullShare} f) : sProp 𝕄) ⊣⊢ iprop((∃ f, ℓ ↦[I]{fullShare} f) ∗ (∃ f, ℓ ↦[J]{fullShare} f)) := by
  classical
  have hJ : Finset.univ \ I = J := by rw [← hu, Finset.union_sdiff_left]; exact Finset.sdiff_eq_self_of_disjoint hd.symm
  constructor
  · iintro ⟨%f, H⟩
    ihave H := (pointsTo_split_subset (q := fullShare) (f := f) (S := Finset.univ) (Finset.subset_univ I)).1 $$ H
    rw [hJ]
    icases H with ⟨H0, H1⟩
    isplitl [H0]
    · iexists f; iexact H0
    · iexists f; iexact H1
  · iintro ⟨⟨%f, H0⟩, %g, H1⟩
    let h : Buf (Elt F) ℓ := fun x => if x ∈ I then f x else g x
    iexists h
    iapply (pointsTo_split_subset (q := fullShare) (f := h) (S := Finset.univ) (Finset.subset_univ I)).2
    rw [hJ, pointsTo_congr (f := h) (g := f) (I := I) fun x hx => if_pos hx,
      pointsTo_congr (f := h) (g := g) (I := J) fun x hx => if_neg fun hi => Finset.disjoint_left.mp hd hi hx]
    isplitl [H0] <;> iassumption

theorem ib_whole (q : Fin 8) (p : Fin 3) : (ibV q p).view.set = Finset.univ := by fin_cases q <;> fin_cases p <;> exact View.set_whole _
theorem ob_whole (q : Fin 8) (p : Fin 3) : (obV q p).view.set = Finset.univ := by fin_cases q <;> fin_cases p <;> exact View.set_whole _

variable (q : Fin 8) (d : Dev nD) (i : Words.G.Coords)

/-- The list buffer of a pipeline is its two list slots. -/
theorem ib_slots (p : Fin 3) : (iprop(∃ f, (ibV q p).view.loc (thr d i) ↦{fullShare} f) : sProp 𝕄) ⊣⊢ iprop((dt q p d i).anyI 0 ∗ (dt q p d i).anyI 1) := by
  have h := slots (s := S2x1x256) 0 rfl (offS_inbI 0) (offS_inbI 1) rfl rfl rfl (by decide)
  have e (j : Fin 2) : ((dt q p d i).SI j).view.set = (Rect.unit (s := S2x1x256) (offS j.val) S1x1x256.size (offS_inbI j.val)).set.map (ibV q p).view.emb :=
    (View.set_reshape _ _).trans (View.set_slice _ _)
  unfold Dat.anyI
  rw [e, e]
  refine halves ?_ ?_
  · exact (Finset.disjoint_map _).mpr h.1
  · refine (Finset.map_union _ _).symm.trans ?_
    exact (congrArg _ h.2).trans (ib_whole q p)

/-- The row buffer of a pipeline is its two row slots. -/
theorem ob_slots (p : Fin 3) : (iprop(∃ f, (obV q p).view.loc (thr d i) ↦{fullShare} f) : sProp 𝕄) ⊣⊢ iprop((dt q p d i).anyO 0 ∗ (dt q p d i).anyO 1) := by
  have h := slots (s := S2x256x128) 0 rfl (offS_inbO 0) (offS_inbO 1) rfl rfl rfl (by decide)
  have e (j : Fin 2) : ((dt q p d i).SO j).view.set = (Rect.unit (s := S2x256x128) (offS j.val) S1x256x128.size (offS_inbO j.val)).set.map (obV q p).view.emb :=
    (View.set_reshape _ _).trans (View.set_slice _ _)
  unfold Dat.anyO
  rw [e, e]
  refine halves ?_ ?_
  · exact (Finset.disjoint_map _).mpr h.1
  · refine (Finset.map_union _ _).symm.trans ?_
    exact (congrArg _ h.2).trans (ob_whole q p)

/-! ## The subcore's buffers and semaphores -/

/-- A separating conjunction over a set, cut into the members a one-to-one family names and the rest. -/
theorem cut {I J : Type*} [DecidableEq I] [DecidableEq J] {s : Finset I} {t : Finset J} {f : J → I} (inj : Set.InjOn f t) (sub : ∀ j ∈ t, f j ∈ s)
    {Φ : I → sProp 𝕄} : bigSep s Φ = iprop(bigSep t (fun j => Φ (f j)) ∗ bigSep (s \ t.image f) Φ) := by
  have h := bigSep_sdiff_split (Φ := Φ) (t := t.image f) (s := s) fun x hx => by obtain ⟨j, hj, rfl⟩ := Finset.mem_image.mp hx; exact sub j hj
  rw [bigSep_image_of_injOn inj] at h
  exact h

/-- The two buffers of pipeline `p`. -/
abbrev bref (x : Fin 3 × Fin 2) : Ref sig .scVector := if x.2 = 0 then (ibV q x.1).view.ref else (obV q x.1).view.ref

theorem bref_inj : Function.Injective (bref q) := by revert q; decide
theorem bref_owner (x : Fin 3 × Fin 2) : ((thr d i).2.devRef (bref q x)).owner = .proc (thr d i).2 := by
  obtain ⟨p, b⟩ := x
  fin_cases q <;> fin_cases p <;> fin_cases b <;> rfl

/-- What the subcore holds besides the pipelines' buffers. -/
def bufsRest : sProp 𝕄 :=
  bigSep (ownRefs (thr d i).2 \ Finset.univ.image fun x => (thr d i).2.devRef (bref q x)) fun b => iprop(∃ f, (((thr d i).1, b) : Loc nD τ sig) ↦{fullShare} f)

theorem bufs_eq : (ownBufs (thr d i) : sProp 𝕄)
    = iprop((bigSep Finset.univ fun x => iprop(∃ f, ((thr d i).loc (bref q x)) ↦{fullShare} f)) ∗ bufsRest q d i) := by
  unfold SparseCore.Cfg.ownBufs bufsRest
  exact cut (f := fun x => (thr d i).2.devRef (bref q x)) (t := Finset.univ)
    (fun x _ y _ e => bref_inj q (Proc.devRef_injective _ e)) (fun x _ => SparseCore.Cfg.mem_ownRefs_of_owner (bref_owner q d i x))

/-- The five semaphores of each pipeline. -/
abbrev smx (x : Fin 3 × Fin 5) : DmaSem sig := sm q x.1 x.2
theorem smx_inj : Function.Injective (smx q) := by
  intro x y e
  have e : 23 * q.val + 5 * x.1.val + x.2.val = 23 * q.val + 5 * y.1.val + y.2.val := congrArg Fin.val e
  have := x.2.isLt; have := y.2.isLt
  exact Prod.ext (Fin.ext (by omega)) (Fin.ext (by omega))

theorem sm_eq (p : Fin 3) : (dt q p d i).isem 0 = sm q p 0 ∧ (dt q p d i).isem 1 = sm q p 1 ∧ (dt q p d i).osem 0 = sm q p 2 ∧ (dt q p d i).osem 1 = sm q p 3
    ∧ (dt q p d i).gsem = sm q p 4 := by
  fin_cases q <;> fin_cases p <;> exact ⟨rfl, rfl, rfl, rfl, rfl⟩

/-- The subcore's semaphores besides the pipelines'. -/
def semsRest : sProp 𝕄 :=
  bigSep (ownCells (thr d i) \ Finset.univ.image fun x => (thr d i, SemLoc.dma (smx q x))) fun g => semVal g 0

theorem sems_eq : (ownSems0 (thr d i) : sProp 𝕄) = iprop((bigSep Finset.univ fun x => semVal (thr d i, SemLoc.dma (smx q x)) 0) ∗ semsRest q d i) := by
  unfold SparseCore.Cfg.ownSems0 semsRest
  refine cut (f := fun x => ((thr d i, SemLoc.dma (smx q x)) : GSem nD τ sig)) (t := Finset.univ) (fun x _ y _ e => smx_inj q ?_)
    (fun x _ => mem_ownCells.mpr ⟨rfl, ?_⟩)
  · exact SemLoc.dma.inj (Prod.mk.inj e).2
  · rfl

theorem three (Φ : Fin 3 → sProp 𝕄) : bigSep Finset.univ Φ = iprop(Φ 0 ∗ Φ 1 ∗ Φ 2) := by
  rw [show (Finset.univ : Finset (Fin 3)) = {0, 1, 2} by decide, bigSep_insert (by decide), bigSep_insert (by decide), bigSep_singleton]
  rfl
theorem five (Φ : Fin 5 → sProp 𝕄) : bigSep Finset.univ Φ = iprop(Φ 0 ∗ Φ 1 ∗ Φ 2 ∗ Φ 3 ∗ Φ 4) := by
  rw [show (Finset.univ : Finset (Fin 5)) = {0, 1, 2, 3, 4} by decide, bigSep_insert (by decide), bigSep_insert (by decide), bigSep_insert (by decide),
    bigSep_insert (by decide), bigSep_singleton]
  rfl

/-- The slots of pipeline `p`, at any contents. -/
def mem (p : Fin 3) : sProp 𝕄 :=
  iprop(((dt q p d i).anyI 0 ∗ (dt q p d i).anyI 1) ∗ ((dt q p d i).anyO 0 ∗ (dt q p d i).anyO 1))
/-- The semaphores of pipeline `p`, at zero. -/
def sems (p : Fin 3) : sProp 𝕄 :=
  iprop(semVal (thr d i, .dma ((dt q p d i).isem 0)) 0 ∗ semVal (thr d i, .dma ((dt q p d i).isem 1)) 0
    ∗ semVal (thr d i, .dma ((dt q p d i).osem 0)) 0 ∗ semVal (thr d i, .dma ((dt q p d i).osem 1)) 0 ∗ semVal (thr d i, .dma (dt q p d i).gsem) 0)

theorem bufs_parts : (ownBufs (thr d i) : sProp 𝕄) ⊣⊢ iprop(bigSep Finset.univ (mem q d i) ∗ bufsRest q d i) := by
  rw [bufs_eq q]
  have h : (bigSep Finset.univ (fun x : Fin 3 × Fin 2 => iprop(∃ f, ((thr d i).loc (bref q x)) ↦{fullShare} f)) : sProp 𝕄)
      ⊣⊢ bigSep Finset.univ (mem q d i) := by
    rw [bigSep_univ_prod]
    simp only [bigSep_fin_two]
    constructor
    · exact bigSep_mono fun p _ => BI.sep_mono (ib_slots q d i p).1 (ob_slots q d i p).1
    · exact bigSep_mono fun p _ => BI.sep_mono (ib_slots q d i p).2 (ob_slots q d i p).2
  exact ⟨sep_mono_left h.1, sep_mono_left h.2⟩

theorem sems_parts : (ownSems0 (thr d i) : sProp 𝕄) = iprop(bigSep Finset.univ (sems q d i) ∗ semsRest q d i) := by
  rw [sems_eq q, bigSep_univ_prod]
  simp only [five]
  refine congrArg (fun X => BI.sep X _) ?_
  refine bigSep_congr fun p _ => ?_
  unfold sems
  obtain ⟨h0, h1, h2, h3, h4⟩ := sm_eq q d i p
  rw [h0, h1, h2, h3, h4]

/-! ## The task -/

/-- What the task takes for pipeline `p`: a share of its table, its index blocks and its output blocks. -/
def takes (p : Fin 3) (v : (dt q p d i).Vals F) : sProp 𝕄 :=
  iprop(((dt q p d i).T.view.loc (thr d i) ↦[(dt q p d i).T.view.set]{v.q} v.fT) ∗ bigSep Finset.univ ((dt q p d i).inI v) ∗ bigSep Finset.univ (dt q p d i).todo)
/-- What it brings back. -/
def brings (p : Fin 3) (v : (dt q p d i).Vals F) : sProp 𝕄 :=
  iprop(((dt q p d i).T.view.loc (thr d i) ↦[(dt q p d i).T.view.set]{v.q} v.fT) ∗ bigSep Finset.univ ((dt q p d i).inI v) ∗ bigSep Finset.univ ((dt q p d i).done v))

variable [FloatOps F]

theorem gather_in (v : ∀ p, (dt q p d i).Vals F) (p : Fin 3) :
    iprop(takes q d i p (v p) ∗ mem q d i p ∗ sems q d i p) ⊢ iprop(own (dt q p d i) (v p) ∗ bigSep Finset.univ (dt q p d i).todo) := by
  unfold takes mem sems Body.own Dat.freeI Dat.freeO
  iintro ⟨⟨HT, HI, Hd⟩, ⟨⟨HI0, HI1⟩, HO0, HO1⟩, Hs0, Hs1, Hs2, Hs3, Hs4⟩
  isplitr [Hd]; swap; · iexact Hd
  isplitl [HT]; · iexact HT
  isplitl [Hs4]; · iexact Hs4
  isplitl [HI]; · iexact HI
  isplitl [HI0 HI1 Hs0 Hs1]
  · isplitl [HI0 Hs0]
    · isplitl [HI0] <;> iassumption
    · isplitl [HI1] <;> iassumption
  · isplitl [HO0 Hs2]
    · isplitl [HO0] <;> iassumption
    · isplitl [HO1] <;> iassumption

theorem gather_out (v : ∀ p, (dt q p d i).Vals F) (p : Fin 3) :
    iprop(own (dt q p d i) (v p) ∗ bigSep Finset.univ ((dt q p d i).done (v p))) ⊢ iprop(brings q d i p (v p) ∗ mem q d i p ∗ sems q d i p) := by
  unfold brings mem sems Body.own Dat.freeI Dat.freeO
  iintro ⟨⟨HT, Hs4, HI, ⟨⟨HI0, Hs0⟩, HI1, Hs1⟩, ⟨HO0, Hs2⟩, HO1, Hs3⟩, Hd⟩
  isplitl [HT HI Hd]
  · isplitl [HT]; · iexact HT
    isplitl [HI] <;> iassumption
  isplitl [HI0 HI1 HO0 HO1]
  · isplitl [HI0 HI1]
    · isplitl [HI0] <;> iassumption
    · isplitl [HO0] <;> iassumption
  isplitl [Hs0]; · iexact Hs0
  isplitl [Hs1]; · iexact Hs1
  isplitl [Hs2]; · iexact Hs2
  isplitl [Hs3] <;> iassumption

abbrev ΛP : Labels := Pipeline.Sig Λ₀ (Fin 8) fun p => (pcfgs (F := F) p).Adm
abbrev K : SparseCore.Cfg τ sig (ΛP (F := F)) 8 := sc (F := F)

/-- The task of a vector subcore: from its shares and blocks and its own scratch, everything back, the output blocks at the
    gathered rows. -/
theorem task (hF : (K (F := F)).Facts) (v : ∀ p, (dt q p d i).Vals F) (O : CellTallies nD τ sig (HIx 8)) (W : Waits sig (HIx 8)) (hO : ∀ g, O g none = 0) :
    iprop(levAts (K (F := F)).L (K (F := F)).lev ∗ emp ∗ (bigSep Finset.univ fun p => takes q d i p (v p))
        ∗ scopedBufs (thr d i) ∗ scopedSems0 (thr d i) ∗ owes (thr d i) O W)
      ⊢ wp frame (wpE (defs₀ (F := F)) Variants.none (thr d i) none) Set.univ
          (prog q i)
          fun _ => iprop((bigSep Finset.univ fun p => brings q d i p (v p)) ∗ scopedBufs (thr d i) ∗ scopedSems0 (thr d i)
            ∗ ∃ W', ⌜∀ p ∈ W', p ∈ W ∨ p.2 = none⌝ ∗ owes (thr d i) O W') := by
  rw [(K (F := F)).scopedBufs_V hF d _ _, SparseCore.Cfg.scopedSems0_V (Val := Elt F) d _ _, sems_parts q]
  have hin : iprop((bigSep Finset.univ fun p => takes q d i p (v p)) ∗ bigSep Finset.univ (mem q d i) ∗ bigSep Finset.univ (sems q d i))
      ⊢ (iprop((own (dt q 0 d i) (v 0) ∗ bigSep Finset.univ (dt q 0 d i).todo) ∗ (own (dt q 1 d i) (v 1) ∗ bigSep Finset.univ (dt q 1 d i).todo)
        ∗ (own (dt q 2 d i) (v 2) ∗ bigSep Finset.univ (dt q 2 d i).todo)) : sProp 𝕄) := by
    rw [← bigSep_sep', ← bigSep_sep', ← three fun p => iprop(own (dt q p d i) (v p) ∗ bigSep Finset.univ (dt q p d i).todo)]
    exact bigSep_mono fun p _ => gather_in q d i v p
  have hout : (iprop((own (dt q 0 d i) (v 0) ∗ bigSep Finset.univ ((dt q 0 d i).done (v 0))) ∗ (own (dt q 1 d i) (v 1) ∗ bigSep Finset.univ ((dt q 1 d i).done (v 1)))
        ∗ (own (dt q 2 d i) (v 2) ∗ bigSep Finset.univ ((dt q 2 d i).done (v 2)))) : sProp 𝕄)
      ⊢ iprop((bigSep Finset.univ fun p => brings q d i p (v p)) ∗ bigSep Finset.univ (mem q d i) ∗ bigSep Finset.univ (sems q d i)) := by
    rw [← bigSep_sep', ← bigSep_sep', ← three fun p => iprop(own (dt q p d i) (v p) ∗ bigSep Finset.univ ((dt q p d i).done (v p)))]
    exact bigSep_mono fun p _ => gather_out q d i v p
  iintro ⟨#Hlv, -, Ht, Hb, ⟨Hs, Hsr⟩, HO⟩
  ihave Hb := (bufs_parts q d i).1 $$ Hb
  icases Hb with ⟨Hb, Hbr⟩
  ihave Hmw := (show levAts (K (F := F)).L (K (F := F)).lev ⊢ Transfers.MayWaits (thr d i) (default : HIx 8) O from
    (K (F := F)).mayWaits_none (thr := thr d i) hO) $$ Hlv
  ihave H := hin $$ [Ht Hb Hs]
  · isplitl [Ht]; · iexact Ht
    isplitl [Hb] <;> iassumption
  iapply (wp_wand frame _ _) $$ [H HO Hmw]
  · iapply (Body.body countersEmb (default : HIx 8) Variants.none none O W q d _ _ i _ _ _ _ _ _ _ _ _ _ _ _ _ _ _ _ _ _ _ _ (v 0) (v 1) (v 2))
    isplitl [HO Hmw]
    · unfold tok
      isplitl [Hmw]; · iexact Hmw
      iexists W
      isplitr; · ipureintro; exact fun p hp => .inl hp
      iexact HO
    iexact H
  iintro %a ⟨Htok, H⟩
  ihave H := hout $$ H
  icases H with ⟨Ht, Hb, Hs⟩
  isplitl [Ht]; · iexact Ht
  isplitl [Hb Hbr]
  · iapply (bufs_parts q d i).2
    isplitl [Hb] <;> iassumption
  isplitl [Hs Hsr]
  · isplitl [Hs] <;> iassumption
  unfold tok
  icases Htok with ⟨-, HO⟩
  iexact HO

end Cert.Proof.Tile

end
-- ==== Proof.Split.lean ====
/-
  The arrays cut into what the thirty-two subcores take, and put together again from what they bring back.
-/
module

public import proofs.«01_k».proof.Proof.Tile

@[expose] public section

set_option maxRecDepth 65536

noncomputable section

namespace Cert.Proof.Split

open Cert.KernelIdeal Cert.KernelIdeal.Gen
open Cert.Proof.Words (offI offO offI_inb offO_inb inbT)
open Cert.Proof.Pipe Cert.Proof.Trip Cert.Proof.Same Cert.Proof.Vals Cert.Proof.Tile
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 8) (Elt F) ℕ UU ℕ

/-- The share of the tables that subcore `s` of core `c` reads through. -/
def shr (x : Fin 2 × Fin 16) : PosShare TreeShare := pieceOf fullShare 32 (by decide) (finProdFinEquiv x)

abbrev tLoc (d : Dev nD) : Fin 3 → Loc nD τ sig | 0 => (SparseCore.T d).loc main_arg0 | 1 => (SparseCore.T d).loc main_arg1 | 2 => (SparseCore.T d).loc main_arg2
abbrev iLoc (d : Dev nD) : Loc nD τ sig := (SparseCore.T d).loc main_arg3
abbrev oLoc (q : Fin 8) (d : Dev nD) : Loc nD τ sig :=
  (SparseCore.T d).loc (match q with | 0 => main_v0 | 1 => main_v3 | 2 => main_v6 | 3 => main_v9 | 4 => main_v12 | 5 => main_v15 | 6 => main_v18 | 7 => main_v21)

/-- Contents of the tables and of call `q`'s output. -/
def tcon (tab : Fin 3 → S153600x128.Idx → Elt F .f32) (d : Dev nD) : (p : Fin 3) → Buf (Elt F) (tLoc d p)
  | 0 => tab 0 | 1 => tab 1 | 2 => tab 2
def ycon (f : S393216x128.Idx → Elt F .f32) (d : Dev nD) : (q : Fin 8) → Buf (Elt F) (oLoc q d)
  | 0 => f | 1 => f | 2 => f | 3 => f | 4 => f | 5 => f | 6 => f | 7 => f

/-- Who takes which block: core, subcore, pipeline, step. -/
abbrev Bl : Type := ((Fin 2 × Fin 16) × Fin 3) × Fin 16

/-- The index block and the output block of `b`. -/
def iSet (q : Fin 8) (b : Bl) : Finset S3x1048576.Idx :=
  (Rect.unit (s := S3x1048576) (offI q.val b.1.2.val (at' b.1.1.1 b.1.1.2) b.2.val) S1x256.size (offI_inb q b.1.2 _ b.2)).set
def oSet (b : Bl) : Finset S393216x128.Idx := (Rect.unit (s := S393216x128) (offO b.1.2.val (at' b.1.1.1 b.1.1.2) b.2.val) S256x128.size (offO_inb b.1.2 _ b.2)).set

theorem mem_iSet {q : Fin 8} {b : Bl} {x : S3x1048576.Idx} : x ∈ iSet q b ↔ (x 0).val = b.1.2.val
    ∧ 131072 * q.val + 4096 * b.1.1.2.val + 65536 * b.1.1.1.val + 256 * b.2.val ≤ (x 1).val ∧ (x 1).val < 131072 * q.val + 4096 * b.1.1.2.val + 65536 * b.1.1.1.val + 256 * b.2.val + 256 := by
  refine Rect.mem_set_unit.trans ⟨fun h => ?_, fun h => ?_⟩
  · have h0 := h 0
    have h1 := h 1
    change b.1.2.val ≤ (x 0).val ∧ (x 0).val < b.1.2.val + 1 at h0
    exact ⟨by omega, h1⟩
  · intro (a : Fin 2)
    match a with
    | 0 => show b.1.2.val ≤ (x 0).val ∧ (x 0).val < b.1.2.val + 1; omega
    | 1 => exact h.2
theorem mem_oSet {b : Bl} {x : S393216x128.Idx} : x ∈ oSet b ↔
    131072 * b.1.2.val + 4096 * b.1.1.2.val + 65536 * b.1.1.1.val + 256 * b.2.val ≤ (x 0).val
    ∧ (x 0).val < 131072 * b.1.2.val + 4096 * b.1.1.2.val + 65536 * b.1.1.1.val + 256 * b.2.val + 256 := by
  refine Rect.mem_set_unit.trans ⟨fun h => h 0, fun h => ?_⟩
  intro (a : Fin 2)
  match a with
  | 0 => exact h
  | 1 =>
    have hx : (x 1).val < 128 := (x 1).isLt
    show 0 ≤ (x 1).val ∧ (x 1).val < 0 + 128; omega

theorem bl_ext {b b' : Bl} (h : b.1.2.val = b'.1.2.val)
    (h' : 16 * (b.1.1.2.val + 16 * b.1.1.1.val) + b.2.val = 16 * (b'.1.1.2.val + 16 * b'.1.1.1.val) + b'.2.val) : b = b' := by
  obtain ⟨⟨⟨c, s⟩, p⟩, u⟩ := b
  obtain ⟨⟨⟨c', s'⟩, p'⟩, u'⟩ := b'
  have := c.isLt; have := s.isLt; have := u.isLt; have := c'.isLt; have := s'.isLt; have := u'.isLt
  simp only at h h'
  obtain rfl : c = c' := Fin.ext (by omega)
  obtain rfl : s = s' := Fin.ext (by omega)
  obtain rfl : u = u' := Fin.ext (by omega)
  obtain rfl : p = p' := Fin.ext (by omega)
  rfl

theorem iSets_disjoint (q : Fin 8) : ∀ b ∈ (Finset.univ : Finset Bl), ∀ b' ∈ (Finset.univ : Finset Bl), b ≠ b' → Disjoint (iSet q b) (iSet q b') := by
  intro b _ b' _ hne
  refine Finset.disjoint_left.mpr fun x hx hx' => hne (bl_ext ?_ ?_)
  · rw [mem_iSet] at hx hx'; omega
  · rw [mem_iSet] at hx hx'; omega
theorem oSets_disjoint : ∀ b ∈ (Finset.univ : Finset Bl), ∀ b' ∈ (Finset.univ : Finset Bl), b ≠ b' → Disjoint (oSet b) (oSet b') := by
  intro b _ b' _ hne
  have := b.1.1.1.isLt; have := b.1.1.2.isLt; have := b.2.isLt; have := b'.1.1.1.isLt; have := b'.1.1.2.isLt; have := b'.2.isLt
  refine Finset.disjoint_left.mpr fun x hx hx' => hne (bl_ext ?_ ?_)
  · rw [mem_oSet] at hx hx'; omega
  · rw [mem_oSet] at hx hx'; omega
theorem oSets_cover : (Finset.univ : Finset Bl).biUnion oSet = Finset.univ := by
  refine Finset.eq_univ_of_forall fun x => Finset.mem_biUnion.mpr ?_
  have hx : (x 0).val < 393216 := (x 0).isLt
  refine ⟨(((⟨(x 0).val % 131072 / 65536, by omega⟩, ⟨(x 0).val % 65536 / 4096, by omega⟩), ⟨(x 0).val / 131072, by omega⟩), ⟨(x 0).val % 4096 / 256, by omega⟩),
    Finset.mem_univ _, mem_oSet.mpr ?_⟩
  simp only
  omega

/-- The output blocks of call `q`, in its own output. -/
def yset (q : Fin 8) (d : Dev nD) (b : Bl) : Finset (Idx (oLoc q d)) :=
  match q with | 0 => oSet b | 1 => oSet b | 2 => oSet b | 3 => oSet b | 4 => oSet b | 5 => oSet b | 6 => oSet b | 7 => oSet b

theorem ysets_disjoint (q : Fin 8) (d : Dev nD) : ∀ b ∈ (Finset.univ : Finset Bl), ∀ b' ∈ (Finset.univ : Finset Bl), b ≠ b' → Disjoint (yset q d b) (yset q d b') := by
  fin_cases q <;> exact oSets_disjoint
theorem ysets_cover (q : Fin 8) (d : Dev nD) : (Finset.univ : Finset Bl).biUnion (yset q d) = Finset.univ := by
  fin_cases q <;> exact oSets_cover

/-- A conjunction over all blocks, by subcore, pipeline and step. -/
theorem bl_eq (Φ : Bl → sProp 𝕄) : bigSep Finset.univ Φ
    = bigSep Finset.univ fun x : Fin 2 × Fin 16 => bigSep Finset.univ fun p : Fin 3 => bigSep Finset.univ fun u : Fin 16 => Φ ((x, p), u) := by
  rw [bigSep_univ_prod, bigSep_univ_prod]

/-- The order of two conjunctions. -/
theorem swap {I J : Type} [Fintype I] [Fintype J] (Φ : I → J → sProp 𝕄) :
    (bigSep Finset.univ fun a => bigSep Finset.univ fun b => Φ a b) = bigSep Finset.univ fun b => bigSep Finset.univ fun a => Φ a b := by
  rw [← bigSep_univ_prod fun x : I × J => Φ x.1 x.2, ← bigSep_univ_prod fun x : J × I => Φ x.2 x.1]
  exact bigSep_univ_equiv (Equiv.prodComm J I) _

theorem table_set : (Rect.unit (s := S153600x128) ![0, 0] S153600x128.size inbT).set = Finset.univ :=
  Finset.eq_univ_of_forall fun x => Rect.mem_set_unit.mpr fun (a : Fin 2) => by
    have h := (x a).isLt
    match a with
    | 0 => exact ⟨Nat.zero_le _, (Nat.zero_add _).symm ▸ h⟩
    | 1 => exact ⟨Nat.zero_le _, (Nat.zero_add _).symm ▸ h⟩

variable (q : Fin 8) (tab : Fin 3 → S153600x128.Idx → Elt F .f32) (ix : S3x1048576.Idx → BitVec 32) (hix : ∀ j, (ix j).toNat < 153600) (d : Dev nD)

/-- The values of pipeline `p` of call `q` on subcore `x`. -/
abbrev vl (x : Fin 2 × Fin 16) (p : Fin 3) : (dt q p d (at' x.1 x.2)).Vals F := vls q tab ix hix (shr x) p d (at' x.1 x.2)

theorem t_eq (x : Fin 2 × Fin 16) (p : Fin 3) :
    ((dt q p d (at' x.1 x.2)).T.view.loc (thr d (at' x.1 x.2)) ↦[(dt q p d (at' x.1 x.2)).T.view.set]{(vl q tab ix hix d x p).q} (vl q tab ix hix d x p).fT : sProp 𝕄)
      = tLoc d p ↦{shr x} tcon tab d p := by
  have e := table_set
  match p with
  | 0 => exact congrArg (fun S => (tLoc d 0 ↦[S]{shr x} tcon tab d 0 : sProp 𝕄)) ((View.set_slice_whole _ _).trans e)
  | 1 => exact congrArg (fun S => (tLoc d 1 ↦[S]{shr x} tcon tab d 1 : sProp 𝕄)) ((View.set_slice_whole _ _).trans e)
  | 2 => exact congrArg (fun S => (tLoc d 2 ↦[S]{shr x} tcon tab d 2 : sProp 𝕄)) ((View.set_slice_whole _ _).trans e)

theorem i_eq (x : Fin 2 × Fin 16) (p : Fin 3) (u : Fin 16) :
    ((dt q p d (at' x.1 x.2)).inI (vl q tab ix hix d x p) u : sProp 𝕄) = iLoc d ↦[iSet q ((x, p), u)]{fullShare} ix :=
  congrArg (fun S => (iLoc d ↦[S]{fullShare} ix : sProp 𝕄)) (View.set_slice_whole _ _)

theorem o_todo (b : Bl) (g : Buf (Elt F) (oLoc q d)) :
    (oLoc q d ↦[yset q d b]{fullShare} g : sProp 𝕄) ⊢ (dt q b.1.2 d (at' b.1.1.1 b.1.1.2)).todo b.2 := by
  fin_cases q <;> exact (Entails.of_eq (congrArg (fun S => pointsTo _ S fullShare g) (View.set_slice_whole _ _).symm)).trans (sProp.exists_intro g)

theorem o_done (b : Bl) : ((dt q b.1.2 d (at' b.1.1.1 b.1.1.2)).done (vl q tab ix hix d b.1.1 b.1.2) b.2 : sProp 𝕄)
      ⊢ oLoc q d ↦[yset q d b]{fullShare} ycon (gat q tab ix) d q := by
  fin_cases q <;> exact Entails.of_eq (congrArg (fun S => pointsTo _ S fullShare _) (View.set_slice_whole _ _))

/-- A table is its thirty-two shares. -/
theorem t_shares (p : Fin 3) : (tLoc d p ↦{fullShare} tcon tab d p : sProp 𝕄) = bigSep Finset.univ fun x : Fin 2 × Fin 16 => tLoc d p ↦{shr x} tcon tab d p :=
  (pointsTo_piecesOf Finset.univ _ (by decide) fullShare).trans (bigSep_univ_equiv finProdFinEquiv _)

/-- The index words no subcore takes in call `q`. -/
def iRest : sProp 𝕄 := iLoc d ↦[Finset.univ \ (Finset.univ : Finset Bl).biUnion (iSet q)]{fullShare} (ix : Buf (Elt F) (iLoc d))

/-- The index array is the blocks and the rest. -/
theorem i_blocks : (iLoc d ↦{fullShare} (ix : Buf (Elt F) (iLoc d)) : sProp 𝕄)
    ⊣⊢ iprop((bigSep Finset.univ fun b : Bl => iLoc d ↦[iSet q b]{fullShare} (ix : Buf (Elt F) (iLoc d))) ∗ iRest q ix d) := by
  rw [← pointsTo_biUnion Finset.univ (ℓ := iLoc d) (iSet q) (iSets_disjoint q)]
  exact pointsTo_split_subset (Finset.subset_univ _)

/-- The output array is the blocks. -/
theorem o_blocks (f : Buf (Elt F) (oLoc q d)) : (oLoc q d ↦{fullShare} f : sProp 𝕄) = bigSep Finset.univ fun b : Bl => oLoc q d ↦[yset q d b]{fullShare} f := by
  rw [← pointsTo_biUnion Finset.univ (ℓ := oLoc q d) (yset q d) (ysets_disjoint q d), ysets_cover]

/-- The tables' shares, the index blocks and one proposition per output block, sorted. -/
theorem sorted (Φ : Fin 2 × Fin 16 → Fin 3 → Fin 16 → sProp 𝕄) :
    (bigSep Finset.univ fun x : Fin 2 × Fin 16 => bigSep Finset.univ fun p : Fin 3 =>
      iprop(((dt q p d (at' x.1 x.2)).T.view.loc (thr d (at' x.1 x.2)) ↦[(dt q p d (at' x.1 x.2)).T.view.set]{(vl q tab ix hix d x p).q} (vl q tab ix hix d x p).fT)
        ∗ bigSep Finset.univ ((dt q p d (at' x.1 x.2)).inI (vl q tab ix hix d x p)) ∗ bigSep Finset.univ (Φ x p)))
      = iprop((bigSep Finset.univ fun p => tLoc d p ↦{fullShare} tcon tab d p) ∗ (bigSep Finset.univ fun b : Bl => iLoc d ↦[iSet q b]{fullShare} (ix : Buf (Elt F) (iLoc d)))
          ∗ bigSep Finset.univ fun b : Bl => Φ b.1.1 b.1.2 b.2) := by
  rw [bl_eq, bl_eq, bigSep_congr fun p _ => t_shares tab d p,
    swap fun (p : Fin 3) (x : Fin 2 × Fin 16) => (tLoc d p ↦{shr x} tcon tab d p : sProp 𝕄), ← bigSep_sep', ← bigSep_sep']
  refine bigSep_congr fun x _ => ?_
  rw [← bigSep_sep', ← bigSep_sep']
  refine bigSep_congr fun p _ => ?_
  rw [t_eq]
  refine congrArg (fun X => iprop(_ ∗ X ∗ _)) ?_
  exact bigSep_congr fun u _ => i_eq q tab ix hix d x p u

/-- The arrays before call `q`, cut for the subcores. -/
theorem deal (g : Buf (Elt F) (oLoc q d)) :
    iprop((bigSep Finset.univ fun p => tLoc d p ↦{fullShare} tcon tab d p) ∗ (iLoc d ↦{fullShare} (ix : Buf (Elt F) (iLoc d))) ∗ oLoc q d ↦{fullShare} g)
      ⊢ (iprop((bigSep Finset.univ fun x : Fin 2 × Fin 16 => bigSep Finset.univ fun p => takes q d (at' x.1 x.2) p (vl q tab ix hix d x p)) ∗ iRest q ix d) : sProp 𝕄) := by
  unfold takes
  rw [sorted q tab ix hix d fun x p u => (dt q p d (at' x.1 x.2)).todo u, o_blocks]
  have h : (bigSep Finset.univ fun b : Bl => oLoc q d ↦[yset q d b]{fullShare} g)
      ⊢ (bigSep Finset.univ fun b : Bl => (dt q b.1.2 d (at' b.1.1.1 b.1.1.2)).todo b.2 : sProp 𝕄) := bigSep_mono fun b _ => o_todo q d b g
  iintro ⟨HT, HI, HO⟩
  ihave HI := (i_blocks q ix d).1 $$ HI
  icases HI with ⟨HI, HR⟩
  isplitr [HR]; swap; · iexact HR
  isplitl [HT]; · iexact HT
  isplitl [HI]; · iexact HI
  iapply h
  iexact HO

/-- What the subcores bring back, put together: the tables and the index array as they were, the output at the gathered rows. -/
theorem collect :
    (iprop((bigSep Finset.univ fun x : Fin 2 × Fin 16 => bigSep Finset.univ fun p => brings q d (at' x.1 x.2) p (vl q tab ix hix d x p)) ∗ iRest q ix d) : sProp 𝕄)
      ⊢ iprop((bigSep Finset.univ fun p => tLoc d p ↦{fullShare} tcon tab d p) ∗ (iLoc d ↦{fullShare} (ix : Buf (Elt F) (iLoc d)))
          ∗ oLoc q d ↦{fullShare} ycon (gat q tab ix) d q) := by
  unfold brings
  rw [sorted q tab ix hix d fun x p u => (dt q p d (at' x.1 x.2)).done (vl q tab ix hix d x p) u, o_blocks]
  have h : (bigSep Finset.univ fun b : Bl => (dt q b.1.2 d (at' b.1.1.1 b.1.1.2)).done (vl q tab ix hix d b.1.1 b.1.2) b.2 : sProp 𝕄)
      ⊢ bigSep Finset.univ fun b : Bl => oLoc q d ↦[yset q d b]{fullShare} ycon (gat q tab ix) d q :=
    bigSep_mono fun b _ => o_done q tab ix hix d b
  iintro ⟨⟨HT, HI, HO⟩, HR⟩
  isplitl [HT]; · iexact HT
  isplitl [HI HR]
  · iapply (i_blocks q ix d).2
    isplitl [HI]; · iexact HI
    iexact HR
  iapply h
  iexact HO

end Cert.Proof.Split

end
-- ==== Proof.Body1.lean ====
/-
  The combination kernel on one block: from the block of weights, the block of gathered rows and the two constant
  matrices, the block of the output.
-/
module

public import proofs.«01_k».proof.Proof.Split
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.ValueKit
public import Idealize.ShloMosaic.Lib.Tactic

@[expose] public section

set_option maxRecDepth 16384

noncomputable section

namespace Cert.Proof.Body1

open Cert.KernelIdeal Cert.KernelIdeal.Gen Cert.Proof.Tile
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 8) (Elt F) ℕ UU ℕ

/-! ## The accesses -/

abbrev rw' : Rect S16x2048 := Rect.unit (s := S16x2048) ![0, 0] S16x2048.size inb_S16x2048_S16x2048_0_0
abbrev re : Rect S16x384 := Rect.unit (s := S16x384) ![0, 0] S16x384.size inb_S16x384_S16x384_0_0
abbrev rg0 : Rect S3x2048x128 := Rect.unit (s := S3x2048x128) ![0, 0, 0] S1x2048x128.size inb_S3x2048x128_S1x2048x128_0_0_0
abbrev rg1 : Rect S3x2048x128 := Rect.unit (s := S3x2048x128) ![1, 0, 0] S1x2048x128.size inb_S3x2048x128_S1x2048x128_1_0_0
abbrev rg2 : Rect S3x2048x128 := Rect.unit (s := S3x2048x128) ![2, 0, 0] S1x2048x128.size inb_S3x2048x128_S1x2048x128_2_0_0
abbrev rs : Rect S128x32 := Rect.unit (s := S128x32) ![0, 0] S128x32.size inb_S128x32_S128x32_0_0
abbrev ro : Rect S32x2048 := Rect.unit (s := S32x2048) ![0, 0] S32x2048.size inb_S32x2048_S32x2048_0_0

/-- The block of the output, from the block of weights `x0`, the block of rows `x1` and the matrices `x2`, `x3`. -/
def blkOut (x0 : Vec F S16x2048 .bf16) (x1 : Vec F S3x2048x128 .f32) (x2 : Vec F S16x384 .bf16) (x3 : Vec F S128x32 .bf16) : Vec F S32x2048 .f32 :=
  View.canon [⟨ro, k1_pay1 (View.ld x0 rw') (View.ld x2 re) (View.ld x1 rg0) (View.ld x1 rg1) (View.ld x1 rg2) (View.ld x3 rs)⟩]

theorem cover (p0 : Vec F S32x2048 .f32) (y : S32x2048.Idx) :
    ∃ pc ∈ ([⟨ro, p0⟩] : List (View.Piece (Elt F) S32x2048 .f32)), y ∈ pc.1.set :=
  View.cover_of_tiled [⟨ro, p0⟩] S32x2048.size (by rfl) y

set_option maxHeartbeats 1000000 in
/-- The kernel on whole buffers: the inputs stay, the output ends at `blkOut` of them. -/
theorem sound_kernel (c : Dev nD) (E : Set ℕ) (i : grid1.Coords) (arg1 : Memref sig .tc .vmem S16x2048 .bf16) (harg1 : arg1.IsWhole) (arg2 : Memref sig .tc .vmem S3x2048x128 .f32) (harg2 : arg2.IsWhole) (arg3 : Memref sig .tc .vmem S16x384 .bf16) (harg3 : arg3.IsWhole) (arg4 : Memref sig .tc .vmem S128x32 .bf16) (harg4 : arg4.IsWhole) (arg5 : Memref sig .tc .vmem S32x2048 .f32) (harg5 : arg5.IsWhole)
    (x0 : Vec F S16x2048 .bf16) (x1 : Vec F S3x2048x128 .f32) (x2 : Vec F S16x384 .bf16) (x3 : Vec F S128x32 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (blkOut x0 x1 x2 x3)) -∗ K ⟨⟩))
      ⊢ wp frame (wpE (defs₀ (F := F)) Variants.none c none) E (cc1_body i arg1 harg1 arg2 harg2 arg3 harg3 arg4 harg4 arg5 harg5) K := by
  simp only [cc1_body_eq_skeleton]; unfold cc1_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover _)

/-! ## The eight kernels are one text -/

theorem same3 : cc3_body (F := F) = fun i _ _ => cc1_body i := rfl
theorem same5 : cc5_body (F := F) = fun i _ _ => cc1_body i := rfl
theorem same7 : cc7_body (F := F) = fun i _ _ => cc1_body i := rfl
theorem same9 : cc9_body (F := F) = fun i _ _ => cc1_body i := rfl
theorem same11 : cc11_body (F := F) = fun i _ _ => cc1_body i := rfl
theorem same13 : cc13_body (F := F) = fun i _ _ => cc1_body i := rfl
theorem same15 : cc15_body (F := F) = fun i _ _ => cc1_body i := rfl

end Cert.Proof.Body1

end
-- ==== Proof.Combine.lean ====
/-
  The eight combination calls: each reads the weights and the rows of its chunk and writes the chunk's columns of the
  output.
-/
module

public import proofs.«01_k».proof.Proof.Body1

@[expose] public section

set_option maxRecDepth 16384

noncomputable section

namespace Cert.Proof.Combine

open Cert.KernelIdeal Cert.KernelIdeal.Gen Cert.Proof.Tile Cert.Proof.Body1
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type}

local notation "𝕄" => MT nD τ sig (HIx 8) (Elt F) ℕ UU ℕ

/-! ## The calls' buffers -/

/-- The rows call `p` reads, and its output. -/
abbrev gRef : Fin 8 → Ref sig .tc
  | 0 => main_v1 | 1 => main_v4 | 2 => main_v7 | 3 => main_v10 | 4 => main_v13 | 5 => main_v16 | 6 => main_v19 | 7 => main_v22
abbrev oRef : Fin 8 → Ref sig .tc
  | 0 => main_v2 | 1 => main_v5 | 2 => main_v8 | 3 => main_v11 | 4 => main_v14 | 5 => main_v17 | 6 => main_v20 | 7 => main_v23

/-- A reference of the TensorCore as the device names it. -/
abbrev dv (b : Ref sig .tc) : DevRef τ sig := Proc.devRef .tc b

/-- What contents `W` give the rows and the output of call `p`; the output of call `p` at `f`. -/
def gOf (W : Valuation τ sig (Elt F)) : Fin 8 → S3x131072x128.Idx → Elt F .f32
  | 0 => W (dv main_v1) | 1 => W (dv main_v4) | 2 => W (dv main_v7) | 3 => W (dv main_v10) | 4 => W (dv main_v13) | 5 => W (dv main_v16) | 6 => W (dv main_v19) | 7 => W (dv main_v22)
def oOf (W : Valuation τ sig (Elt F)) : Fin 8 → S32x1048576.Idx → Elt F .f32
  | 0 => W (dv main_v2) | 1 => W (dv main_v5) | 2 => W (dv main_v8) | 3 => W (dv main_v11) | 4 => W (dv main_v14) | 5 => W (dv main_v17) | 6 => W (dv main_v20) | 7 => W (dv main_v23)
def ocon (f : S32x1048576.Idx → Elt F .f32) : (p : Fin 8) → (dv (oRef p)).ty.Contents (Elt F)
  | 0 => f | 1 => f | 2 => f | 3 => f | 4 => f | 5 => f | 6 => f | 7 => f

/-! ## The blocks -/

/-- The position in the weights of position `y` of block `n`. -/
def wix (n : ℕ) (y : S16x2048.Idx) : S16x1048576.Idx :=
  fun a => ⟨![(y 0).val, (2048 * n + (y 1).val) % 1048576] a, by
    have := (y 0).isLt; have := Nat.mod_lt (2048 * n + (y 1).val) (show 0 < 1048576 by omega)
    fin_cases a <;> assumption⟩
/-- The position in the rows of position `y` of block `n`. -/
def gix (n : ℕ) (y : S3x2048x128.Idx) : S3x131072x128.Idx :=
  fun a => ⟨![(y 0).val, (2048 * n + (y 1).val) % 131072, (y 2).val] a, by
    have := (y 0).isLt; have := (y 2).isLt; have := Nat.mod_lt (2048 * n + (y 1).val) (show 0 < 131072 by omega)
    fin_cases a <;> assumption⟩
/-- The position in its block of position `i` of the output. -/
def oix (i : S32x1048576.Idx) : S32x2048.Idx :=
  fun a => ⟨![(i 0).val, (i 1).val % 2048] a, by
    have := (i 0).isLt; have := Nat.mod_lt (i 1).val (show 0 < 2048 by omega)
    fin_cases a <;> assumption⟩

def wblk (w : S16x1048576.Idx → Elt F .bf16) (n : ℕ) : Vec F S16x2048 .bf16 := fun y => w (wix n y)
def gblk (g : S3x131072x128.Idx → Elt F .f32) (n : ℕ) : Vec F S3x2048x128 .f32 := fun y => g (gix n y)

variable [FloatOps F]

/-- The output after call `p`: the chunk's columns computed, the others as they were. -/
def comb (p : ℕ) (w : S16x1048576.Idx → Elt F .bf16) (g : S3x131072x128.Idx → Elt F .f32) (e : Vec F S16x384 .bf16) (s : Vec F S128x32 .bf16)
    (prev : S32x1048576.Idx → Elt F .f32) : S32x1048576.Idx → Elt F .f32 := fun i =>
  if 64 * p ≤ (i 1).val / 2048 ∧ (i 1).val / 2048 < 64 * (p + 1) then
    blkOut (wblk w ((i 1).val / 2048)) (gblk g ((i 1).val / 2048 - 64 * p)) e s (oix i)
  else prev i

theorem comb_at (p : ℕ) (w : S16x1048576.Idx → Elt F .bf16) (g : S3x131072x128.Idx → Elt F .f32) (e : Vec F S16x384 .bf16) (s : Vec F S128x32 .bf16)
    (prev : S32x1048576.Idx → Elt F .f32) (t : ℕ) (ht : t < 64) (i : S32x1048576.Idx) (y : S32x2048.Idx) (h0 : (i 0).val = (y 0).val)
    (h1 : (i 1).val = (64 * p + t) * 2048 + (y 1).val) : comb p w g e s prev i = blkOut (wblk w (64 * p + t)) (gblk g t) e s y := by
  have hy : (y 1).val < 2048 := (y 1).isLt
  have e1 : (i 1).val / 2048 = 64 * p + t := by omega
  unfold comb
  rw [e1, if_pos (by omega), show 64 * p + t - 64 * p = t by omega]
  refine congrArg _ (funext fun a => Fin.ext ?_)
  fin_cases a
  · exact h0
  · show (i 1).val % 2048 = (y 1).val; omega

/-- The contents after call `p` from contents `W`. -/
def step (W : Valuation τ sig (Elt F)) (p : Fin 8) : Valuation τ sig (Elt F) :=
  Function.update W (dv (oRef p)) (ocon (comb p.val (W (dv main_arg4)) (gOf W p) (W (dv main_cst)) (W (dv main_cst_0)) (oOf W p)) p)

theorem step_of (W : Valuation τ sig (Elt F)) (p : Fin 8) (b : Ref sig .tc) (h : b ≠ oRef p) : step W p (dv b) = W (dv b) :=
  Function.update_of_ne (fun e => h (Proc.devRef_injective _ e)) _ _
theorem step_out (W : Valuation τ sig (Elt F)) (p : Fin 8) :
    step W p (dv (oRef p)) = ocon (comb p.val (W (dv main_arg4)) (gOf W p) (W (dv main_cst)) (W (dv main_cst_0)) (oOf W p)) p := Function.update_self _ _ _

/-! ## The pipelines' proof data -/

abbrev adm : (p : Fin 8) → (pcfgs (F := F) p).Adm := fun p => (cfgs p).toPCfg_adm
abbrev spec (p : Fin 8) := (cfgs p).spec

variable [∀ e, Nonempty (Elt F e)]

/-- The data of pipeline `p` on core `c`: the arrays at `W` before and at `W'` after, the core owing `O` throughout with
    its waits recorded within `B`. -/
def dats (W W' : Valuation τ sig (Elt F)) (O : CellTallies nD τ sig (HIx 8)) (B : Set (SemLoc sig × HIx 8)) :
    (p : Fin 8) → (c : Dev nD) → Dat τ (Elt F) (HIx 8) ℕ UU ℕ (Pipeline.pin (pcfgs (F := F)) adm p) c := fun p c =>
  { A := fun w => W (dv (Pipeline.arrRef (spec p) w))
    after := fun w t => ((cfgs p).win w).fill ((cfgs p).grid.coords t) (fun _ => Classical.arbitrary _)
      ((((cfgs p).win w).blk t).view.read (Elt F) (W' (dv (Pipeline.arrRef (spec p) w))))
    Φ := fun _ => Pipeline.scopedRest (spec p) c
    q := fun _ => fullShare
    owed := fun _ => O
    recorded := fun _ => B }

theorem launch : ∀ p : Fin 8, Pipeline.LaunchFacts (nD := nD) (τ := τ) cfgs p
  | 0 => launch1 | 1 => launch3 | 2 => launch5 | 3 => launch7 | 4 => launch9 | 5 => launch11 | 6 => launch13 | 7 => launch15

/-- A window other than the output's is on a buffer the call does not write. -/
theorem in_ne : ∀ (p : Fin 8) (w : Fin (cfgs p).W), w.val ≠ 4 → Pipeline.arrRef (spec p) w ≠ oRef p := by decide
theorem out_eq : ∀ (p : Fin 8) (w : Fin (cfgs p).W), w.val = 4 → Pipeline.arrRef (spec p) w = oRef p := by decide

theorem in_out : ∀ (p : Fin 8) (w : Fin (cfgs p).W), w.val ≠ 4 → ((cfgs p).win w).isOut = false := by decide

variable (W : Valuation τ sig (Elt F)) (O : CellTallies nD τ sig (HIx 8)) (B : Set (SemLoc sig × HIx 8)) (c : Dev nD)

theorem before_in (p : Fin 8) (w : Fin (cfgs p).W) (hw : w.val ≠ 4) (t : Fin (cfgs p).N) (d) :
    (dats W (step W p) O B p c).before w t d = (dats W (step W p) O B p c).after w t := by
  have hA : step W p (dv (Pipeline.arrRef (spec p) w)) = W (dv (Pipeline.arrRef (spec p) w)) := step_of W p _ (in_ne p w hw)
  have key : ∀ (t : Fin (cfgs p).N) , (dats W (step W p) O B p c).after w t = ((cfgs p).win w).fill ((cfgs p).grid.coords t) (fun _ => Classical.arbitrary _)
      ((((cfgs p).win w).blk t).view.read (Elt F) (W (dv (Pipeline.arrRef (spec p) w)))) := fun t => by
    rw [← hA]; rfl
  refine ((dats W (step W p) O B p c).before_in_eq_fetched w ?_ ?_ ?_ ?_ t d).trans ?_
  · exact in_out p w hw
  · fin_cases p <;> exact fun _ => rfl
  · fin_cases p <;> fin_cases w <;> exact fun _ _ _ => rfl
  · intro t; rw [key]; fin_cases p <;> fin_cases w <;> rfl
  · rw [key]; fin_cases p <;> fin_cases w <;> rfl

/-! ## The blocks in their arrays -/

/-- The block index of window `w` of call `p` at point `t` along axis `a`. -/
def bix (p : ℕ) (t : ℕ) : ℕ → ℕ → ℕ
  | 0, a => if a = 0 then 0 else 64 * p + t
  | 1, a => if a = 1 then t else 0
  | 4, a => if a = 0 then 0 else 64 * p + t
  | _, _ => 0

theorem index_eq : ∀ (p : Fin 8) (w : Fin (cfgs p).W) (t : Fin (cfgs p).N) (a : Fin ((cfgs p).win w).shape.rank),
    ((cfgs p).win w).index t a = bix p.val t.val w.val a.val := by decide +kernel

theorem kind_eq : ∀ (p : Fin 8) (w : Fin (cfgs p).W), ((cfgs p).win w).kind = .blocked := by decide

theorem emb_eq (p : Fin 8) (w : Fin (cfgs p).W) (t : Fin (cfgs p).N) (y : (((cfgs p).win w).xblock ((cfgs p).grid.coords t)).Idx)
    (a : Fin ((cfgs p).win w).shape.rank) :
    ((((cfgs p).win w).rect t).emb y a : ℕ) = bix p.val t.val w.val a.val * ((cfgs p).win w).size a + y a := by
  rw [Pipeline.Window.rect_emb_val _ _ _ _ (kind_eq p w), index_eq]

/-! ## The body at a point -/

theorem body_step (A R : sProp 𝕄) (i : grid1.Coords) (arg1 : Memref sig .tc .vmem S16x2048 .bf16) (harg1 : arg1.IsWhole) (arg2 : Memref sig .tc .vmem S3x2048x128 .f32) (harg2 : arg2.IsWhole) (arg3 : Memref sig .tc .vmem S16x384 .bf16) (harg3 : arg3.IsWhole) (arg4 : Memref sig .tc .vmem S128x32 .bf16) (harg4 : arg4.IsWhole) (arg5 : Memref sig .tc .vmem S32x2048 .f32) (harg5 : arg5.IsWhole)
    (x0 : Vec F S16x2048 .bf16) (x1 : Vec F S3x2048x128 .f32) (x2 : Vec F S16x384 .bf16) (x3 : Vec F S128x32 .bf16) (o : Vec F S32x2048 .f32)
    (b0 : Vec F S16x2048 .bf16 → Vec F S16x2048 .bf16) (b1 : Vec F S3x2048x128 .f32 → Vec F S3x2048x128 .f32) (b2 : Vec F S16x384 .bf16 → Vec F S16x384 .bf16)
    (b3 : Vec F S128x32 .bf16 → Vec F S128x32 .bf16) (b4 : Vec F S32x2048 .f32 → Vec F S32x2048 .f32) (h0 : ∀ d : Vec F S16x2048 .bf16, b0 d = x0) (h1 : ∀ d : Vec F S3x2048x128 .f32, b1 d = x1) (h2 : ∀ d : Vec F S16x384 .bf16, b2 d = x2)
    (h3 : ∀ d : Vec F S128x32 .bf16, b3 d = x3) (ho : blkOut x0 x1 x2 x3 = o) :
    iprop(A ∗ R ∗ (∃ d, owns (c : Thread nD τ) arg1 fullShare (b0 d)) ∗ (∃ d, owns (c : Thread nD τ) arg2 fullShare (b1 d)) ∗ (∃ d, owns (c : Thread nD τ) arg3 fullShare (b2 d))
        ∗ (∃ d, owns (c : Thread nD τ) arg4 fullShare (b3 d)) ∗ (∃ d : Vec F S32x2048 .f32, owns (c : Thread nD τ) arg5 fullShare (b4 d)))
      ⊢ wp frame (wpE (defs₀ (F := F)) Variants.none c none) Set.univ (cc1_body i arg1 harg1 arg2 harg2 arg3 harg3 arg4 harg4 arg5 harg5) fun _ =>
        iprop(A ∗ R ∗ owns (c : Thread nD τ) arg1 fullShare x0 ∗ owns (c : Thread nD τ) arg2 fullShare x1 ∗ owns (c : Thread nD τ) arg3 fullShare x2
          ∗ owns (c : Thread nD τ) arg4 fullShare x3 ∗ owns (c : Thread nD τ) arg5 fullShare o) := by
  simp only [h0, h1, h2, h3]
  subst ho
  iintro ⟨HA, HR, ⟨%d0, H0⟩, ⟨%d1, H1⟩, ⟨%d2, H2⟩, ⟨%d3, H3⟩, ⟨%d4, H4⟩⟩
  iapply sound_kernel c Set.univ i arg1 harg1 arg2 harg2 arg3 harg3 arg4 harg4 arg5 harg5 x0 x1 x2 x3
  isplitl [H0]; · iexact H0
  isplitl [H1]; · iexact H1
  isplitl [H2]; · iexact H2
  isplitl [H3]; · iexact H3
  isplitl [H4]; · iexists _; iexact H4
  iintro ⟨H0, H1, H2, H3, H4⟩
  isplitl [HA]; · iexact HA
  isplitl [HR]; · iexact HR
  isplitl [H0]; · iexact H0
  isplitl [H1]; · iexact H1
  isplitl [H2]; · iexact H2
  isplitl [H3]; · iexact H3
  iexact H4

/-- What the body computes of its blocks is the output's block. -/
theorem out_of (p : ℕ) (hp : p < 8) (t : ℕ) (ht : t < 64) (w : S16x1048576.Idx → Elt F .bf16) (g : S3x131072x128.Idx → Elt F .f32) (e : Vec F S16x384 .bf16) (s : Vec F S128x32 .bf16)
    (prev : S32x1048576.Idx → Elt F .f32) (x0 : Vec F S16x2048 .bf16) (x1 : Vec F S3x2048x128 .f32) (x2 : Vec F S16x384 .bf16) (x3 : Vec F S128x32 .bf16) (o : Vec F S32x2048 .f32)
    (i0 : S16x2048.Idx → S16x1048576.Idx) (i1 : S3x2048x128.Idx → S3x131072x128.Idx) (i2 : S16x384.Idx → S16x384.Idx) (i3 : S128x32.Idx → S128x32.Idx) (i4 : S32x2048.Idx → S32x1048576.Idx)
    (h0 : ∀ y, x0 y = w (i0 y)) (h1 : ∀ y, x1 y = g (i1 y)) (h2 : ∀ y, x2 y = e (i2 y)) (h3 : ∀ y, x3 y = s (i3 y)) (h4 : ∀ y, o y = comb p w g e s prev (i4 y))
    (j0 : ∀ y a, (i0 y a).val = bix p t 0 a.val * S16x2048.size a + (y a).val) (j1 : ∀ y a, (i1 y a).val = bix p t 1 a.val * S3x2048x128.size a + (y a).val)
    (j2 : ∀ y a, (i2 y a).val = bix p t 2 a.val * S16x384.size a + (y a).val) (j3 : ∀ y a, (i3 y a).val = bix p t 3 a.val * S128x32.size a + (y a).val)
    (j4 : ∀ y a, (i4 y a).val = bix p t 4 a.val * S32x2048.size a + (y a).val) : blkOut x0 x1 x2 x3 = o := by
  have e0 : x0 = wblk w (64 * p + t) := funext fun y => (h0 y).trans (congrArg w (funext fun a => Fin.ext ((j0 y a).trans (by
    have h := (y 1).isLt; change (y 1).val < 2048 at h
    fin_cases a
    · show 0 * 16 + (y 0).val = (y 0).val; omega
    · show (64 * p + t) * 2048 + (y 1).val = (2048 * (64 * p + t) + (y 1).val) % 1048576; omega))))
  have e1 : x1 = gblk g t := funext fun y => (h1 y).trans (congrArg g (funext fun a => Fin.ext ((j1 y a).trans (by
    have h := (y 1).isLt; change (y 1).val < 2048 at h
    fin_cases a
    · show 0 * 3 + (y 0).val = (y 0).val; omega
    · show t * 2048 + (y 1).val = (2048 * t + (y 1).val) % 131072; omega
    · show 0 * 128 + (y 2).val = (y 2).val; omega))))
  have e2 : x2 = e := funext fun y => (h2 y).trans (congrArg e (funext fun a => Fin.ext ((j2 y a).trans (by
    fin_cases a
    · show 0 * 16 + (y 0).val = (y 0).val; omega
    · show 0 * 384 + (y 1).val = (y 1).val; omega))))
  have e3 : x3 = s := funext fun y => (h3 y).trans (congrArg s (funext fun a => Fin.ext ((j3 y a).trans (by
    fin_cases a
    · show 0 * 128 + (y 0).val = (y 0).val; omega
    · show 0 * 32 + (y 1).val = (y 1).val; omega))))
  subst e0 e1 e2 e3
  refine funext fun y => ((h4 y).trans (comb_at p w g _ _ prev t ht _ y ((j4 y 0).trans ?_) ((j4 y 1).trans ?_))).symm
  · show 0 * 32 + (y 0).val = (y 0).val; omega
  · rfl

theorem g_ne : ∀ p : Fin 8, gRef p ≠ oRef p := by decide

set_option maxHeartbeats 1600000 in
theorem body_obligation (ι : HIx 8) (p : Fin 8) : BodyObligation (dats W (step W p) O B p c) (defs₀ (F := F)) Variants.none ι Set.univ := fun t => by
  have hb := before_in W O B c p
  have he := emb_eq p
  have hw := (launch p).stage_whole
  have hs := step_of W p
  have hg := step_of W p (gRef p) (g_ne p)
  have ho := step_out W p
  fin_cases p <;> exact triple_restated
      (body_step c _ _ (grid1.coords t) _ (hw 0 _) _ (hw 1 _) _ (hw 2 _) _ (hw 3 _) _ (hw 4 _) _ _ _ _ _
        _ _ _ _ _ (hb 0 (by decide) t) (hb 1 (by decide) t) (hb 2 (by decide) t) (hb 3 (by decide) t)
        (out_of _ (by decide) t.val t.isLt _ _ _ _ _ _ _ _ _ _ _ _ _ _ _ (fun y => congrFun (hs main_arg4 (by decide)) _) (fun y => congrFun hg _)
          (fun y => congrFun (hs main_cst (by decide)) _) (fun y => congrFun (hs main_cst_0 (by decide)) _) (fun y => congrFun ho _)
          (he 0 t) (he 1 t) (he 2 t) (he 3 t) (he 4 t)))
      rfl (sep_mono .rfl (sep_mono .rfl (Entails.of_eq (bigSep_W1 _)))) fun _ => (sep_mono .rfl (sep_mono .rfl (Entails.of_eq (Eq.symm (by exact bigSep_W1 _)))))

/-! ## The arrays at the end -/

/-- The blocks call `p` writes: those of its chunk's columns. -/
def Wr (p : ℕ) {r : ℕ} (β : Fin r → ℕ) : Prop := ∀ a : Fin r, a.val = 1 → 64 * p ≤ β a ∧ β a < 64 * (p + 1)

instance (p r : ℕ) : DecidablePred (Wr p (r := r)) := fun _ => by unfold Wr; infer_instance

theorem covers : ∀ (p : Fin 8) (w : Fin (cfgs p).W), w.val = 4 → ((cfgs p).win w).CoversWhere (Wr p.val) := by decide +kernel

theorem comb_prev (p : ℕ) (w : S16x1048576.Idx → Elt F .bf16) (g : S3x131072x128.Idx → Elt F .f32) (e : Vec F S16x384 .bf16) (s : Vec F S128x32 .bf16)
    (prev : S32x1048576.Idx → Elt F .f32) (i : S32x1048576.Idx) (h : ¬(64 * p ≤ (i 1).val / 2048 ∧ (i 1).val / 2048 < 64 * (p + 1))) :
    prev i = comb p w g e s prev i := (if_neg h).symm

set_option maxHeartbeats 1600000 in
theorem final (p : Fin 8) (w : Fin (cfgs p).W) :
    (dats W (step W p) O B p c).arrAt w (cfgs p).N = step W p (dv (Pipeline.arrRef (spec p) w)) := by
  by_cases hw : w.val = 4
  · have hc := covers p w hw
    have ho := step_out W p
    refine (dats W (step W p) O B p c).arrAt_eq_of_coversWhere_of_agree w _ (Wr p.val) hc ?_ ?_ ((launch p).arr_whole w)
    · fin_cases p <;> obtain rfl := Fin.ext (b := ⟨4, by decide⟩) hw <;> exact fun t _ y => rfl
    · fin_cases p <;> obtain rfl := Fin.ext (b := ⟨4, by decide⟩) hw <;>
        exact fun j hj => (comb_prev _ _ _ _ _ _ _ fun h => hj fun a ha => by
          obtain rfl := Fin.ext (b := ⟨1, Nat.one_lt_two⟩) ha; exact h).trans (congrFun ho _).symm
  · exact ((dats W (step W p) O B p c).arrAt_in w (in_out p w hw) _).trans (step_of W p _ (in_ne p w hw)).symm

/-! ## The region -/

/-- The core's debts: `O`, its waits recorded within `B`. -/
abbrev ow : sProp 𝕄 := iprop(∃ S : Finset (SemLoc sig × HIx 8), ⌜(S : Set (SemLoc sig × HIx 8)) ⊆ B⌝ ∗ owes (c : Thread nD τ) O S)

/-- The buffers of the core outside the pipelines' scopes, at contents `W`. -/
abbrev hb : sProp 𝕄 := StableHlo.held (c : Thread nD τ) (Pipeline.ucRefs τ sig) W

set_option backward.isDefEq.respectTransparency.types false in
/-- Call `p` from contents `W` to `step W p`, the core owing `O` throughout. -/
def region (p : Fin 8) {L : GSem nD τ sig → Finset (HIx 8)} {lv : GSem nD τ sig → HIx 8 → ℕ} (ι : HIx 8)
    (hwt : ∀ c, (levAts L lv : sProp 𝕄) ⊢ Pipeline.cellsWaits (Pipeline.pin (pcfgs (F := F)) adm) (dats W (step W p) O B) ι p c)
    (hB : ((cfgs p).waitPairs ι : Set (SemLoc sig × HIx 8)) ⊆ B) :
    Pipeline.RegionSeg (pcfgs (F := F)) adm (dats W (step W p) O B) ι defs₀ Variants.none L lv p where
  win := (launch p).win.to₀
  block_pos := (launch p).block_pos
  stage_whole := (launch p).stage_whole
  K := PEmpty
  osem k := k.elim
  ho := Pipeline.OwnSemFacts.none _
  hbody c := (body_obligation W O B c ι p).loose
  hwaits := hwt
  pre c := iprop(hb W c ∗ ow O B c)
  post c := iprop(hb (step W p) c ∗ ow O B c)
  X c := iprop(emp)
  Y c := iprop(emp)
  Z c := Pipeline.unscopedRest (Ix := HIx 8) (Name := ℕ) (U := UU) (Lvl := ℕ) (spec p) c fun b => W (dv b)
  hentry c := by
    rw [Pipeline.ownSems0_none]
    have hsplit := Pipeline.arrays_of_unscopedBufs (p := p) (pcfgs (F := F)) adm (dats W (step W p) O B) (launch p).win (launch p).arr_whole c
      ((dats W (step W p) O B p c).share_full fun _ => rfl) (fun b => W (dv b)) (fun _ => rfl)
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%S, %hS, HO⟩; iexists S; isplitr; · ipureintro; exact hS.trans Set.subset_union_left
      iexact HO
    isplitr; · iempintro
    iexact Hrest
  hin c := by
    rw [show (dats W (step W p) O B p c).Φ 0 = Pipeline.scopedRest (spec p) c from rfl]
    iintro ⟨-, -, Hr⟩
    iexact Hr
  hout c := by
    rw [Pipeline.ownSems0_none, show (dats W (step W p) O B p c).Φ (Fin.last _) = Pipeline.scopedRest (spec p) c from rfl]
    iintro Hr
    isplitr; · iempintro
    isplitr; · iempintro
    iexact Hr
  hexit c := by
    have hjoin := Pipeline.unscopedBufs_of_arrays (p := p) (pcfgs (F := F)) adm (Ix := HIx 8) (Name := ℕ) (U := UU) (Lvl := ℕ)
      (launch p).win (launch p).arr_whole c (dats W (step W p) O B) ((dats W (step W p) O B p c).share_full fun _ => rfl)
      (fun b => W (dv b)) (fun b => step W p (dv b)) ((dats W (step W p) O B p c).arrAt · (cfgs p).N) (final W O B c p)
      (fun b hb => step_of W p b fun e => hb (by
        subst e
        have h4 : ∃ w : Fin (cfgs p).W, w.val = 4 := by fin_cases p <;> exact ⟨4, rfl⟩
        obtain ⟨w, hw⟩ := h4
        exact Finset.mem_image.mpr ⟨w, Finset.mem_univ _, out_eq p w hw⟩))
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%S, %hS, HO⟩; iexists S; isplitr; · ipureintro; exact hS.trans (Set.union_subset subset_rfl hB)
    iexact HO

end Cert.Proof.Combine

end
-- ==== Proof.Launch.lean ====
/-
  The launch: every execution of the program ends with the arguments unchanged, the output at the value of its last
  step and every semaphore at zero.
-/
module

public import proofs.«01_k».proof.Proof.Combine

@[expose] public section

set_option maxRecDepth 65536

noncomputable section

namespace Cert.Proof.Launch

open Cert.KernelIdeal Cert.KernelIdeal.Gen
open Cert.Proof.Pipe Cert.Proof.Trip Cert.Proof.Same Cert.Proof.Vals Cert.Proof.Tile Cert.Proof.Split
open Cert.Proof.Combine (dv step step_of step_out gRef oRef hb ow region)
open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 8) (Elt F) ℕ UU ℕ

abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none
abbrev EH : Emb UH (MT nD τ sig (HIx 8) (Elt F) ℕ UU ℕ) := embL

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-- The launch contents of the tables and of the index array, and that every index word names a table row. -/
abbrev tab (m : (ℓ : Loc nD τ sig) → Buf (Elt F) ℓ) (d : Dev nD) : Fin 3 → S153600x128.Idx → Elt F .f32
  | 0 => m (tLoc d 0) | 1 => m (tLoc d 1) | 2 => m (tLoc d 2)
abbrev ixs (m : (ℓ : Loc nD τ sig) → Buf (Elt F) ℓ) (d : Dev nD) : S3x1048576.Idx → BitVec 32 := m (iLoc d)
def PreOK (m : (ℓ : Loc nD τ sig) → Buf (Elt F) ℓ) : Prop := ∀ (d : Dev nD) (j : S3x1048576.Idx), (ixs m d j).toNat < 153600

theorem tcon_eq (m : (ℓ : Loc nD τ sig) → Buf (Elt F) ℓ) (d : Dev nD) (p : Fin 3) : tcon (tab m d) d p = m (tLoc d p) := by
  match p with | 0 => rfl | 1 => rfl | 2 => rfl

variable (m : (ℓ : Loc nD τ sig) → Buf (Elt F) ℓ) (ρ : Dev nD → PrngReg) (hpre : PreOK m)

/-! ## What the handshakes carry -/

/-- What subcore `x` takes and brings back in call `q`, over the three pipelines. -/
def goes (q : Fin 8) (d : Dev nD) (x : Fin 2 × Fin 16) : sProp 𝕄 := bigSep Finset.univ fun p => takes q d (at' x.1 x.2) p (vl q (tab m d) (ixs m d) (hpre d) d x p)
def comes (q : Fin 8) (d : Dev nD) (x : Fin 2 × Fin 16) : sProp 𝕄 := bigSep Finset.univ fun p => brings q d (at' x.1 x.2) p (vl q (tab m d) (ixs m d) (hpre d) d x p)

instance goes_storable (q : Fin 8) (d : Dev nD) (x : Fin 2 × Fin 16) : BI.Storable (upEmb : UEmb _ 𝕄) (goes m hpre q d x) := by
  unfold goes takes Dat.inI Dat.todo; infer_instance
instance comes_storable (q : Fin 8) (d : Dev nD) (x : Fin 2 × Fin 16) : BI.Storable (upEmb : UEmb _ 𝕄) (comes m hpre q d x) := by
  unfold comes brings Dat.inI Dat.done; infer_instance

/-- What core `c` takes and brings back: its subcores'. -/
def goesC (q : Fin 8) (d : Dev nD) (c : Fin 2) : sProp 𝕄 := bigSep Finset.univ fun s : Fin 16 => goes m hpre q d (c, s)
def comesC (q : Fin 8) (d : Dev nD) (c : Fin 2) : sProp 𝕄 := bigSep Finset.univ fun s : Fin 16 => comes m hpre q d (c, s)

instance goesC_storable (q : Fin 8) (d : Dev nD) (c : Fin 2) : BI.Storable (upEmb : UEmb _ 𝕄) (goesC m hpre q d c) := by unfold goesC; infer_instance
instance comesC_storable (q : Fin 8) (d : Dev nD) (c : Fin 2) : BI.Storable (upEmb : UEmb _ 𝕄) (comesC m hpre q d c) := by unfold comesC; infer_instance

theorem goesC_eq (q : Fin 8) (d : Dev nD) (c : Fin 2) : goesC m hpre q d c = bigSep Finset.univ fun s : Fin 16 => goes m hpre q d (c, s) := rfl
theorem comesC_eq (q : Fin 8) (d : Dev nD) (c : Fin 2) : comesC m hpre q d c = bigSep Finset.univ fun s : Fin 16 => comes m hpre q d (c, s) := rfl
theorem goes_eq (q : Fin 8) (d : Dev nD) (x : Fin 2 × Fin 16) : goes m hpre q d x = bigSep Finset.univ fun p => takes q d (at' x.1 x.2) p (vl q (tab m d) (ixs m d) (hpre d) d x p) := rfl
theorem comes_eq (q : Fin 8) (d : Dev nD) (x : Fin 2 × Fin 16) : comes m hpre q d x = bigSep Finset.univ fun p => brings q d (at' x.1 x.2) p (vl q (tab m d) (ixs m d) (hpre d) d x p) := rfl
theorem goesC_all (q : Fin 8) (d : Dev nD) : (bigSep Finset.univ fun x : Fin 2 × Fin 16 => goes m hpre q d x) = bigSep Finset.univ fun c => goesC m hpre q d c := bigSep_univ_prod _
theorem comesC_all (q : Fin 8) (d : Dev nD) : (bigSep Finset.univ fun x : Fin 2 × Fin 16 => comes m hpre q d x) = bigSep Finset.univ fun c => comesC m hpre q d c := bigSep_univ_prod _

attribute [irreducible] goes comes goesC comesC

def P : (K (F := F)).Pay (nD := nD) (Val := Elt F) (Name := ℕ) (U := UU) where
  st := fun | 0 => fun d c => goesC m hpre 0 d c | 1 => fun d c => goesC m hpre 1 d c | 2 => fun d c => goesC m hpre 2 d c | 3 => fun d c => goesC m hpre 3 d c | 4 => fun d c => goesC m hpre 4 d c | 5 => fun d c => goesC m hpre 5 d c | 6 => fun d c => goesC m hpre 6 d c | 7 => fun d c => goesC m hpre 7 d c
  dn := fun | 0 => fun d c => comesC m hpre 0 d c | 1 => fun d c => comesC m hpre 1 d c | 2 => fun d c => comesC m hpre 2 d c | 3 => fun d c => comesC m hpre 3 d c | 4 => fun d c => comesC m hpre 4 d c | 5 => fun d c => comesC m hpre 5 d c | 6 => fun d c => comesC m hpre 6 d c | 7 => fun d c => comesC m hpre 7 d c
  go := fun | 0 => fun d c s => goes m hpre 0 d (c, s) | 1 => fun d c s => goes m hpre 1 d (c, s) | 2 => fun d c s => goes m hpre 2 d (c, s) | 3 => fun d c s => goes m hpre 3 d (c, s) | 4 => fun d c s => goes m hpre 4 d (c, s) | 5 => fun d c s => goes m hpre 5 d (c, s) | 6 => fun d c s => goes m hpre 6 d (c, s) | 7 => fun d c s => goes m hpre 7 d (c, s)
  td := fun | 0 => fun d c s => comes m hpre 0 d (c, s) | 1 => fun d c s => comes m hpre 1 d (c, s) | 2 => fun d c s => comes m hpre 2 d (c, s) | 3 => fun d c s => comes m hpre 3 d (c, s) | 4 => fun d c s => comes m hpre 4 d (c, s) | 5 => fun d c s => comes m hpre 5 d (c, s) | 6 => fun d c s => comes m hpre 6 d (c, s) | 7 => fun d c s => comes m hpre 7 d (c, s)
  x := fun _ _ => iprop(emp)

instance P_storable : (P m hpre).IsStorable where
  st q d c := by fin_cases q <;> exact goesC_storable m hpre _ d _
  dn q d c := by fin_cases q <;> exact comesC_storable m hpre _ d _
  go q d c s := by fin_cases q <;> exact goes_storable m hpre _ d _
  td q d c s := by fin_cases q <;> exact comes_storable m hpre _ d _

/-! ## The obligations -/

section Obl

variable [FloatOps F]

theorem obl_post {thr : Thread nD τ} {A B C : sProp 𝕄} {O : CellTallies nD τ sig (HIx 8)} {W : Waits sig (HIx 8)} {q : Fin 8} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tile_wp (q : Fin 8) (a : Λ₀.Args (lb q)) (d : Dev nD) (c : Fin 2) (i : Fin 16) (O : CellTallies nD τ sig (HIx 8)) (W : Waits sig (HIx 8)) (hO : ∀ g, O g none = 0) :
    iprop(levAts (K (F := F)).L (K (F := F)).lev ∗ emp ∗ goes m hpre q d (c, i) ∗ scopedBufs (thr d (at' c i)) ∗ scopedSems0 (thr d (at' c i)) ∗ owes (thr d (at' c i)) (O + 0) W)
      ⊢ wp frame (wpE (D (F := F)) 𝒱 (thr d (at' c i)) (some v₀)) Set.univ
          (Pipeline.liftProg (defs₀ (F := F) (.scVector (c.castLE hcore0) (i.castLE hsub0)) (lb q) a))
          fun _ => iprop(comes m hpre q d (c, i) ∗ scopedBufs (thr d (at' c i)) ∗ scopedSems0 (thr d (at' c i))
            ∗ ∃ W', ⌜∀ p ∈ W', p ∈ W ∨ p.2 = none ∨ p.2 = some q⌝ ∗ owes (thr d (at' c i)) O W') := by
  rw [add_zero]
  refine BI.Entails.trans ?_ (Pipeline.wp_liftProg (D (F := F)) (Pipeline.defs_kernel pcfgs defs₀) 𝒱₀ _ Set.univ none _ _)
  rw [call]
  have hci : ((c.castLE hcore0 : Fin τ.nSC)).val < grid0.bound 0 ∧ ((i.castLE hsub0 : Fin τ.nSub)).val < grid0.bound 1 := ⟨c.isLt, i.isLt⟩
  simp only [SparseCore.onTile, hci, and_self, ↓reduceDIte]
  rw [goes_eq, comes_eq]
  exact (task q d (at' c i) facts (vl q (tab m d) (ixs m d) (hpre d) d (c, i)) O W hO).trans (wp_mono frame _ _ fun _ => obl_post)

theorem tileObl (q : Fin 8) : (K (F := F)).TileObl (D (F := F)) 𝒱 (P m hpre) v₀ q := by
  intro d c i O W hO _ _
  fin_cases q <;> exact tile_wp m hpre _ _ d c i O W hO

theorem splitC (q : Fin 8) (d : Dev nD) (c : Fin 2) : goesC m hpre q d c ⊢ |={Set.univ}=> iprop(
      (bigSep Finset.univ fun i : Fin 16 => goes m hpre q d (c, i)) ∗ ((bigSep Finset.univ fun i : Fin 16 => comes m hpre q d (c, i)) -∗ comesC m hpre q d c)) := by
  rw [goesC_eq, comesC_eq]
  iintro H; imodintro
  isplitl [H]; · iexact H
  iintro H; iexact H

theorem vecSplit (q : Fin 8) : (K (F := F)).VecSplit' (P m hpre) q := by
  intro d c
  fin_cases q <;> exact splitC m hpre _ d c

/-! ## The launch element of the certificate's ghost state -/

abbrev EP : Emb (URounds (GSem nD τ sig) Unit) (MT nD τ sig (HIx 8) (Elt F) ℕ UU ℕ) := (Emb.inl : Emb (URounds (GSem nD τ sig) Unit) (URounds (GSem nD τ sig) Unit × Counters)).trans embR

theorem pin_inj : Function.Injective (Pipeline.cellOf (nD := nD) (τ := τ) (Pipeline.pin (pcfgs (F := F)) Combine.adm)) := cellOf_inj

def u₀ : UU := (initOf (K (F := F)).hsCells (K (F := F)).hsToks,
  (initOf (Pipeline.cells (nD := nD) (τ := τ) (Pipeline.pin (pcfgs (F := F)) Combine.adm) pin_inj) (Pipeline.launchToks (Pipeline.pin (pcfgs (F := F)) Combine.adm) pin_inj), 1))

/-- What pipeline `p` of core `d` is dealt at the launch. -/
abbrev gh (d : Dev nD) (p : Fin 8) : sProp 𝕄 := iprop(Pipeline.cellsGhost (Pipeline.pin (pcfgs (F := F)) Combine.adm) EP p d ∗ Pipeline.toksInit (Pipeline.pin (pcfgs (F := F)) Combine.adm) EP p d)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => bigSep Finset.univ fun p => gh d p)
        ∗ bigSep Finset.univ fun thr : Thread nD τ => bigSep Finset.univ fun q : Fin 8 => (P m hpre).x q thr) := by
  unfold u₀
  iintro Hu
  ihave H := (ownU_pair (initOf (K (F := F)).hsCells (K (F := F)).hsToks) _) $$ Hu
  icases H with ⟨HH, HR⟩
  ihave HR := (own_pair_emb embR _ _) $$ HR
  icases HR with ⟨HR, -⟩
  imod (Pipeline.fund_ghost (Pipeline.pin (pcfgs (F := F)) Combine.adm) EP pin_inj) $$ HR with ⟨HC, HT⟩
  imodintro
  isplitl [HH]; · iexact HH
  isplitl [HC HT]
  · rw [bigSep_congr fun d _ => bigSep_sep' _ _ _, bigSep_sep']
    isplitl [HC]; · iexact HC
    iexact HT
  rw [show (bigSep Finset.univ fun thr : Thread nD τ => bigSep Finset.univ fun q : Fin 8 => (P m hpre).x q thr) = bigSep Finset.univ fun _ => iprop(emp) from
    bigSep_congr fun _ _ => bigSep_emp' _, bigSep_emp']
  iempintro

/-! ## @main on the TensorCore -/

/-- The arguments: the tables and the index array, as they were at the launch. -/
def args (d : Dev nD) : sProp 𝕄 := iprop((bigSep Finset.univ fun p => tLoc d p ↦{fullShare} m (tLoc d p)) ∗ iLoc d ↦{fullShare} m (iLoc d))

theorem st_eq (q : Fin 8) (d : Dev nD) : (bigSep Finset.univ fun c : Fin ((K (F := F)).nCore q) => (P m hpre).st q d c)
    = bigSep Finset.univ fun x : Fin 2 × Fin 16 => goes m hpre q d x := by
  rw [goesC_all]
  fin_cases q <;> rfl
theorem dn_eq (q : Fin 8) (d : Dev nD) : (bigSep Finset.univ fun c : Fin ((K (F := F)).nCore q) => (P m hpre).dn q d c)
    = bigSep Finset.univ fun x : Fin 2 × Fin 16 => comes m hpre q d x := by
  rw [comesC_all]
  fin_cases q <;> rfl

/-- One call: its output, at any contents before, holds its gathered rows after. -/
theorem run_call (κ : GSem nD τ sig → ℕ) (d : Dev nD) (q : Fin 8) (g : Buf (Elt F) (oLoc q d)) {Φ : PUnit → sProp 𝕄} :
    iprop((K (F := F)).ctx EH (P m hpre) κ ∗ (K (F := F)).tcSt EH d q.val ∗ args m d ∗ (oLoc q d ↦{fullShare} g)
        ∗ (iprop((K (F := F)).tcSt EH d (q.val + 1) ∗ args m d ∗ (oLoc q d ↦{fullShare} ycon (gat q (tab m d) (ixs m d)) d q)) -∗ Φ ⟨⟩))
      ⊢ wp frame (wpE ((K (F := F)).defs (D (F := F))) 𝒱 (SparseCore.T d) none) Set.univ (sc.run d q) Φ := by
  unfold args
  iintro ⟨#Hctx, Hst, ⟨HT, HI⟩, HO, Hk⟩
  ihave H := (deal q (tab m d) (ixs m d) (hpre d) d g) $$ [HT HI HO]
  · isplitl [HT]; · rw [bigSep_congr fun p _ => congrArg (fun f => (tLoc d p ↦{fullShare} f : sProp 𝕄)) (tcon_eq m d p)]; iexact HT
    isplitl [HI] <;> iassumption
  icases H with ⟨Hgo, HR⟩
  iapply ((K (F := F)).wp_run (D (F := F)) 𝒱 (EH := EH) (P := P m hpre) κ d q) $$ [Hst Hgo HR Hk]
  isplitr; · iexact Hctx
  isplitl [Hst]; · iexact Hst
  isplitl [Hgo]; · rw [st_eq, bigSep_congr fun x _ => goes_eq m hpre q d x]; iexact Hgo
  iintro ⟨Hst, Hdn⟩
  ihave Hdn := (Entails.of_eq ((dn_eq m hpre q d).trans (bigSep_congr fun x _ => comes_eq m hpre q d x))) $$ Hdn
  ihave H := (collect q (tab m d) (ixs m d) (hpre d) d) $$ [Hdn HR]
  · isplitl [Hdn]; · iexact Hdn
    iexact HR
  icases H with ⟨HT, HI, HO⟩
  iapply Hk
  isplitl [Hst]; · iexact Hst
  isplitl [HT HI]
  · isplitl [HT]; · rw [← bigSep_congr fun p _ => congrArg (fun f => (tLoc d p ↦{fullShare} f : sProp 𝕄)) (tcon_eq m d p)]; iexact HT
    iexact HI
  iexact HO

/-! ## The contents along @main -/

/-- The output of SparseCore call `q`. -/
abbrev yRef : Fin 8 → Ref sig .tc
  | 0 => main_v0 | 1 => main_v3 | 2 => main_v6 | 3 => main_v9 | 4 => main_v12 | 5 => main_v15 | 6 => main_v18 | 7 => main_v21
def ycv (f : S393216x128.Idx → Elt F .f32) : (q : Fin 8) → (dv (yRef q)).ty.Contents (Elt F)
  | 0 => f | 1 => f | 2 => f | 3 => f | 4 => f | 5 => f | 6 => f | 7 => f
def ycur (W : Valuation τ sig (Elt F)) (d : Dev nD) : (q : Fin 8) → Buf (Elt F) (oLoc q d)
  | 0 => W (dv main_v0) | 1 => W (dv main_v3) | 2 => W (dv main_v6) | 3 => W (dv main_v9)
  | 4 => W (dv main_v12) | 5 => W (dv main_v15) | 6 => W (dv main_v18) | 7 => W (dv main_v21)

/-- The contents after SparseCore call `q` from contents `W`. -/
def scat (d : Dev nD) (q : Fin 8) (W : Valuation τ sig (Elt F)) : Valuation τ sig (Elt F) := Function.update W (dv (yRef q)) (ycv (gat q (tab m d) (ixs m d)) q)

/-- The arguments that the calls read are as they were at the launch. -/
def Args (d : Dev nD) (W : Valuation τ sig (Elt F)) : Prop :=
  (W (dv main_arg0) = m (tLoc d 0) ∧ W (dv main_arg1) = m (tLoc d 1) ∧ W (dv main_arg2) = m (tLoc d 2)) ∧ W (dv main_arg3) = m (iLoc d)

abbrev argRefs : List (Ref sig .tc) := [main_arg0, main_arg1, main_arg2, main_arg3]

theorem Args.of {d : Dev nD} {W W' : Valuation τ sig (Elt F)} (h : Args m d W) (e : ∀ b ∈ argRefs, W' (dv b) = W (dv b)) : Args m d W' :=
  ⟨⟨(e _ (by decide)).trans h.1.1, (e _ (by decide)).trans h.1.2.1, (e _ (by decide)).trans h.1.2.2⟩, (e _ (by decide)).trans h.2⟩

/-- The buffers SparseCore call `q` is on. -/
def scs (q : Fin 8) : Finset (DevRef τ sig) := {dv main_arg0, dv main_arg1, dv main_arg2, dv main_arg3, dv (yRef q)}

theorem mem_uc (b : Ref sig .tc) (h : ¬ (dv b).isScoped) : dv b ∈ Pipeline.ucRefs τ sig := Finset.mem_filter.mpr ⟨StableHlo.devRef_mem_tcRefs b, h⟩

theorem y_ns : ∀ q : Fin 8, ¬ (dv (yRef q)).isScoped := by decide
theorem y_ne : ∀ (q : Fin 8) (b : Ref sig .tc), b ∈ argRefs → b ≠ yRef q := by decide
theorem o_ne : ∀ (q : Fin 8) (b : Ref sig .tc), b ∈ argRefs → b ≠ oRef q := by decide

theorem scs_sub (q : Fin 8) : scs q ⊆ Pipeline.ucRefs τ sig := by
  unfold scs
  intro b hb
  simp only [Finset.mem_insert, Finset.mem_singleton] at hb
  rcases hb with rfl | rfl | rfl | rfl | rfl
  · exact mem_uc _ (by decide)
  · exact mem_uc _ (by decide)
  · exact mem_uc _ (by decide)
  · exact mem_uc _ (by decide)
  · exact mem_uc _ (y_ns q)

theorem scat_of (d : Dev nD) (q : Fin 8) (W : Valuation τ sig (Elt F)) (b : DevRef τ sig) (h : b ≠ dv (yRef q)) : scat m d q W b = W b :=
  Function.update_of_ne h _ _

theorem y_pt (d : Dev nD) (q : Fin 8) (W : Valuation τ sig (Elt F)) :
    (((d, dv (yRef q)) : Loc nD τ sig) ↦{fullShare} W (dv (yRef q)) : sProp 𝕄) = (oLoc q d ↦{fullShare} ycur W d q) := by
  fin_cases q <;> rfl
theorem ycur_scat (d : Dev nD) (q : Fin 8) (W : Valuation τ sig (Elt F)) : ycur (scat m d q W) d q = ycon (gat q (tab m d) (ixs m d)) d q := by
  have h : ∀ q : Fin 8, scat m d q W (dv (yRef q)) = ycv (gat q (tab m d) (ixs m d)) q := fun q => Function.update_self _ _ _
  exact match q with
    | 0 => h 0 | 1 => h 1 | 2 => h 2 | 3 => h 3 | 4 => h 4 | 5 => h 5 | 6 => h 6 | 7 => h 7

theorem held_scs (d : Dev nD) (q : Fin 8) (W : Valuation τ sig (Elt F)) (hW : Args m d W) :
    (StableHlo.held (d.tc : Thread nD τ) (scs q) W : sProp 𝕄) = iprop((tLoc d 0 ↦{fullShare} m (tLoc d 0)) ∗ (tLoc d 1 ↦{fullShare} m (tLoc d 1))
      ∗ (tLoc d 2 ↦{fullShare} m (tLoc d 2)) ∗ (iLoc d ↦{fullShare} m (iLoc d)) ∗ (oLoc q d ↦{fullShare} ycur W d q)) := by
  obtain ⟨⟨h0, h1, h2⟩, h3⟩ := hW
  have e : ∀ {a b : Ref sig .tc}, a ≠ b → dv a ≠ dv b := fun h => StableHlo.devRef_ne_of_ne h
  have ne := y_ne q
  unfold scs StableHlo.held
  rw [SparseCore.bigSep_insert' (by simp only [Finset.mem_insert, Finset.mem_singleton, not_or]; exact ⟨e (by decide), e (by decide), e (by decide), e (ne _ (by decide))⟩),
    SparseCore.bigSep_insert' (by simp only [Finset.mem_insert, Finset.mem_singleton, not_or]; exact ⟨e (by decide), e (by decide), e (ne _ (by decide))⟩),
    SparseCore.bigSep_insert' (by simp only [Finset.mem_insert, Finset.mem_singleton, not_or]; exact ⟨e (by decide), e (ne _ (by decide))⟩),
    SparseCore.bigSep_insert' (by simp only [Finset.mem_singleton]; exact e (ne _ (by decide))), bigSep_singleton, h0, h1, h2, h3]
  rw [← y_pt]

theorem held_args (d : Dev nD) (q : Fin 8) (W : Valuation τ sig (Elt F)) (hW : Args m d W) :
    (StableHlo.held (d.tc : Thread nD τ) (scs q) W : sProp 𝕄) ⊢ iprop(args m d ∗ (oLoc q d ↦{fullShare} ycur W d q)) := by
  rw [held_scs m d q W hW, args, three]
  iintro ⟨H0, H1, H2, HI, HO⟩
  isplitr [HO]; swap; · iexact HO
  isplitr [HI]; swap; · iexact HI
  isplitl [H0]; · iexact H0
  isplitl [H1] <;> iassumption
theorem args_held (d : Dev nD) (q : Fin 8) (W : Valuation τ sig (Elt F)) (hW : Args m d W) :
    iprop(args m d ∗ (oLoc q d ↦{fullShare} ycur W d q)) ⊢ (StableHlo.held (d.tc : Thread nD τ) (scs q) W : sProp 𝕄) := by
  rw [held_scs m d q W hW, args, three]
  iintro ⟨⟨⟨H0, H1, H2⟩, HI⟩, HO⟩
  isplitl [H0]; · iexact H0
  isplitl [H1]; · iexact H1
  isplitl [H2]; · iexact H2
  isplitl [HI] <;> iassumption

theorem args_scat {d : Dev nD} {q : Fin 8} {W : Valuation τ sig (Elt F)} (hW : Args m d W) : Args m d (scat m d q W) :=
  hW.of m fun b hb => scat_of m d q W _ (StableHlo.devRef_ne_of_ne (y_ne q b hb))
theorem args_step {d : Dev nD} {q : Fin 8} {W : Valuation τ sig (Elt F)} (hW : Args m d W) : Args m d (step W q) :=
  hW.of m fun b hb => step_of W q b (o_ne q b hb)

/-! ## The state between two operations of @main -/

variable [∀ e, Nonempty (Elt F e)]

/-- After `n` SparseCore calls and `p` pipeline calls, the buffers at `W`. -/
def St (κ : GSem nD τ sig → ℕ) (d : Dev nD) (n p : ℕ) (W : Valuation τ sig (Elt F)) : sProp 𝕄 :=
  iprop((K (F := F)).ctx EH (P m hpre) κ ∗ (K (F := F)).tcSt EH d n ∗ boundary (SparseCore.T d) ∗ hb W d
    ∗ (bigSep (SparseCore.Cfg.callsFrom p) fun p => gh d p) ∗ (K (F := F)).tcSems0 d)

abbrev wpm (d : Dev nD) {A : Type} (e : Prog (TpuEff nD τ sig (Elt F) (SparseCore.Sig (ΛP (F := F)) 8) .tc) A) (Φ : A → sProp 𝕄) : sProp 𝕄 :=
  wp frame (wpE ((K (F := F)).defs (D (F := F))) 𝒱 (SparseCore.T d) none) Set.univ e Φ

theorem sc_step (κ : GSem nD τ sig → ℕ) (d : Dev nD) (q : Fin 8) (p : ℕ) (W : Valuation τ sig (Elt F)) (hW : Args m d W) {Φ : PUnit → sProp 𝕄}
    (h : St m hpre κ d (q.val + 1) p (scat m d q W) ⊢ Φ ⟨⟩) : St m hpre κ d q.val p W ⊢ wpm d (sc.run d q) Φ := by
  refine BIBase.Entails.trans ?_ (run_call m hpre κ d q (ycur W d q))
  have e1 : (hb W d : sProp 𝕄) = iprop(StableHlo.held (d.tc : Thread nD τ) (scs q) W ∗ StableHlo.held (d.tc : Thread nD τ) (Pipeline.ucRefs τ sig \ scs q) W) :=
    StableHlo.held_sub_split _ (scs_sub q) W
  have e2 : (hb (scat m d q W) d : sProp 𝕄) = iprop(StableHlo.held (d.tc : Thread nD τ) (scs q) (scat m d q W) ∗ StableHlo.held (d.tc : Thread nD τ) (Pipeline.ucRefs τ sig \ scs q) W) :=
    (StableHlo.held_sub_split _ (scs_sub q) _).trans (congrArg (fun X => iprop(_ ∗ X)) (StableHlo.held_congr _ fun b hb => scat_of m d q W b fun e => (Finset.mem_sdiff.mp hb).2 (by
      rw [e, scs]; simp only [Finset.mem_insert, Finset.mem_singleton, or_true])))
  have h' := h
  unfold St at h' ⊢
  rw [e2] at h'
  rw [e1, ← ycur_scat m d q W]
  iintro ⟨#Hctx, Hst, Hbd, ⟨Hh, Hrest⟩, Hg, Hs⟩
  ihave Hh := (held_args m d q W hW) $$ Hh
  icases Hh with ⟨Ha, Hy⟩
  isplitr; · iexact Hctx
  isplitl [Hst]; · iexact Hst
  isplitl [Ha]; · iexact Ha
  isplitl [Hy]; · iexact Hy
  iintro ⟨Hst, Ha, Hy⟩
  ihave Hh := (args_held m d q (scat m d q W) (args_scat m hW)) $$ [Ha Hy]
  · isplitl [Ha] <;> iassumption
  iapply h'
  isplitr; · iexact Hctx
  isplitl [Hst]; · iexact Hst
  isplitl [Hbd]; · iexact Hbd
  isplitl [Hh Hrest]; · isplitl [Hh] <;> iassumption
  isplitl [Hg] <;> iassumption

theorem hlo_step (κ : GSem nD τ sig → ℕ) (d : Dev nD) (n p : ℕ) (W : Valuation τ sig (Elt F)) (op : HloOp τ sig (Elt F)) (hp : (Proc.tc : Proc τ).kind.runsHlo = true)
    (hs : op.bufs ⊆ StableHlo.tcRefs τ sig) (hf : op.fresh = ∅) {Φ : PUnit → sProp 𝕄}
    (h : St m hpre κ d n p (op.result W) ⊢ Φ ⟨⟩) : St m hpre κ d n p W ⊢ wpm d (hlo hp op fun _ => .ret ⟨⟩) Φ := by
  unfold St at h ⊢
  iintro ⟨#Hctx, Hst, Hbd, Hh, Hg, Hs⟩
  iapply (StableHlo.wp_hlo_within 𝒱 (SparseCore.T d) none Set.univ (Pipeline.sub_ucRefs op hs) hf) $$ [Hbd Hh]
  · isplitl [Hbd]; · iexact Hbd
    iexact Hh
  iintro ⟨Hbd, Hh⟩
  simp only [wp_ret]
  imodintro
  iapply h
  isplitr; · iexact Hctx
  isplitl [Hst]; · iexact Hst
  isplitl [Hbd]; · iexact Hbd
  isplitl [Hh]; · iexact Hh
  isplitl [Hg] <;> iassumption

theorem Otc_none (d : Dev nD) (n : ℕ) (g : GSem nD τ sig) : (K (F := F)).Otc d n g none = 0 := by
  by_contra h
  have h1 := (K (F := F)).lev_of_Otc_pos (Nat.pos_of_ne_zero h)
  rw [SparseCore.Cfg.lev_none] at h1
  omega

/-- The waits recorded on the core before its SparseCore call `n`. -/
abbrev Bn (d : Dev nD) (n : ℕ) : Set (SemLoc sig × HIx 8) := {x | (K (F := F)).lev (SparseCore.T d, x.1) x.2 ≤ 8 * n}

/-- The region of pipeline `p`, entered from contents `W` between SparseCore calls. -/
def reg (d : Dev nD) (n : ℕ) (p : Fin 8) (W : Valuation τ sig (Elt F)) :=
  region W ((K (F := F)).Otc d n) (Bn (F := F) d n) p (L := (K (F := F)).L) (lv := (K (F := F)).lev) none
    (fun c => Pipeline.cellsWaits_intro _ _ _ _ _ fun w s t => (K (F := F)).mayWait_none _ fun g => Otc_none d n g)
    (by
      rintro x ⟨w, s, rfl⟩
      simp only [Set.mem_setOf_eq, SparseCore.Cfg.lev_none]
      exact Nat.zero_le _)

/-- Entering pipeline `p`, in the pipelines' own signature. -/
abbrev ent (p : Fin 8) : Prog (TpuEff nD τ sig (Elt F) (ΛP (F := F)) .tc) PUnit := .op (.customCall (Pipeline.entry p) ()) fun _ => .ret ⟨⟩

theorem lift_ent (p : Fin 8) : SparseCore.liftProg (Q := 8) (ent (F := F) p)
    = (Prog.lift (.customCall (SparseCore.inner (Pipeline.entry p)) ()) : Prog (TpuEff nD τ sig (Elt F) (SparseCore.Sig (ΛP (F := F)) 8) .tc) PUnit) := rfl

theorem wp_ent (d : Dev nD) (p : Fin 8) {Φ : PUnit → sProp 𝕄} :
    wp frame (wpE (D (F := F)) 𝒱 (SparseCore.T d) none) Set.univ (ent (F := F) p) Φ ⊢ wpm d (Prog.lift (.customCall (SparseCore.inner (Pipeline.entry p)) ())) Φ := by
  rw [← lift_ent p]
  exact (K (F := F)).wp_liftProg (D (F := F)) 𝒱 (SparseCore.T d) Set.univ none (ent (F := F) p) Φ

abbrev dts (d : Dev nD) (n : ℕ) (p : Fin 8) (W : Valuation τ sig (Elt F)) := Combine.dats W (step W p) ((K (F := F)).Otc d n) (Bn (F := F) d n)

theorem reg_pre (d : Dev nD) (n : ℕ) (p : Fin 8) (W : Valuation τ sig (Elt F)) (c : Dev nD) :
    (reg d n p W).pre c = iprop(hb W c ∗ Combine.ow ((K (F := F)).Otc d n) (Bn (F := F) d n) c) := rfl
theorem reg_post (d : Dev nD) (n : ℕ) (p : Fin 8) (W : Valuation τ sig (Elt F)) (c : Dev nD) :
    (reg d n p W).post c = iprop(hb (step W p) c ∗ Combine.ow ((K (F := F)).Otc d n) (Bn (F := F) d n) c) := rfl

theorem lands : (EP (F := F)).LandsIn (upEmb : UEmb _ 𝕄) := by infer_instance

theorem reg_wp (d : Dev nD) (n : ℕ) (p : Fin 8) (W : Valuation τ sig (Elt F)) {Φ : PUnit → sProp 𝕄} :
    iprop((iprop(boundary (d.tc : Thread nD τ) ∗ (reg d n p W).post d) -∗ wp frame (wpE (D (F := F)) 𝒱 (d.tc : Thread nD τ) none) Set.univ (.ret ⟨⟩) Φ)
        ∗ boundary (d.tc : Thread nD τ) ∗ (reg d n p W).pre d ∗ levAts (K (F := F)).L (K (F := F)).lev ∗ gh d p)
      ⊢ wp frame (wpE (D (F := F)) 𝒱 (d.tc : Thread nD τ) none) Set.univ (ent (F := F) p) Φ := by
  haveI := lands (F := F)
  have := Pipeline.RegionSeg.wp (pcfgs (F := F)) Combine.adm (dts d n p W) none pin_inj EP defs₀ Variants.none (K (F := F)).L (K (F := F)).lev (reg d n p W) d none (fun u h => nomatch h) (fun _ => .ret ⟨⟩) Φ
  exact this

theorem region_step (κ : GSem nD τ sig → ℕ) (d : Dev nD) (n : ℕ) (p : Fin 8) (W : Valuation τ sig (Elt F)) {Φ : PUnit → sProp 𝕄}
    (h : St m hpre κ d n (p.val + 1) (step W p) ⊢ Φ ⟨⟩) :
    St m hpre κ d n p.val W ⊢ wpm d (Prog.lift (.customCall (SparseCore.inner (Pipeline.entry p)) ())) Φ := by
  refine BIBase.Entails.trans ?_ (wp_ent d p)
  refine BIBase.Entails.trans ?_ (reg_wp d n p W)
  unfold St at h ⊢
  rw [reg_pre, reg_post, SparseCore.Cfg.callsFrom_step, SparseCore.bigSep_insert' (SparseCore.Cfg.notMem_callsFrom_succ p)]
  unfold SparseCore.Cfg.tcSt at h ⊢
  iintro ⟨#Hctx, ⟨⟨%S, %hS, HO⟩, Hst⟩, Hbd, Hh, ⟨⟨Hg1, Hg2⟩, Hg⟩, Hs⟩
  isplitl [Hst Hg Hs]
  · simp only [wp_ret]
    iintro ⟨Hbd, Hh, ⟨%S', %hS', HO⟩⟩
    imodintro
    iapply h
    isplitr; · iexact Hctx
    isplitl [HO Hst]
    · isplitl [HO]
      · iexists S'; isplitr; · ipureintro; exact fun x hx => hS' hx
        iexact HO
      iexact Hst
    isplitl [Hbd]; · iexact Hbd
    isplitl [Hh]; · iexact Hh
    isplitl [Hg] <;> iassumption
  isplitl [Hbd]; · iexact Hbd
  isplitl [Hh HO]
  · isplitl [Hh]; · iexact Hh
    iexists S; isplitr; · ipureintro; exact fun x hx => hS x hx
    iexact HO
  isplitr; · iapply ((K (F := F)).ctx_levAts κ); iexact Hctx
  isplitl [Hg1] <;> iassumption

/-! ## The operations of @main -/

/-- The reshape after SparseCore call `q`. -/
def rop : Fin 8 → HloOp τ sig (Elt F)
  | 0 => StableHlo.reshape main_v0 main_v1 (rfl : (.f32 : EltTy) = .f32) shapeCasts_S393216x128_S3x131072x128
  | 1 => StableHlo.reshape main_v3 main_v4 (rfl : (.f32 : EltTy) = .f32) shapeCasts_S393216x128_S3x131072x128
  | 2 => StableHlo.reshape main_v6 main_v7 (rfl : (.f32 : EltTy) = .f32) shapeCasts_S393216x128_S3x131072x128
  | 3 => StableHlo.reshape main_v9 main_v10 (rfl : (.f32 : EltTy) = .f32) shapeCasts_S393216x128_S3x131072x128
  | 4 => StableHlo.reshape main_v12 main_v13 (rfl : (.f32 : EltTy) = .f32) shapeCasts_S393216x128_S3x131072x128
  | 5 => StableHlo.reshape main_v15 main_v16 (rfl : (.f32 : EltTy) = .f32) shapeCasts_S393216x128_S3x131072x128
  | 6 => StableHlo.reshape main_v18 main_v19 (rfl : (.f32 : EltTy) = .f32) shapeCasts_S393216x128_S3x131072x128
  | 7 => StableHlo.reshape main_v21 main_v22 (rfl : (.f32 : EltTy) = .f32) shapeCasts_S393216x128_S3x131072x128

/-- The copy of an output into the next one. -/
def cop : Fin 7 → HloOp τ sig (Elt F)
  | 0 => StableHlo.unary main_v2 main_v5 id
  | 1 => StableHlo.unary main_v5 main_v8 id
  | 2 => StableHlo.unary main_v8 main_v11 id
  | 3 => StableHlo.unary main_v11 main_v14 id
  | 4 => StableHlo.unary main_v14 main_v17 id
  | 5 => StableHlo.unary main_v17 main_v20 id
  | 6 => StableHlo.unary main_v20 main_v23 id

theorem two (x y : Ref sig .tc) : ({dv x, dv y} : Finset (DevRef τ sig)) ⊆ StableHlo.tcRefs τ sig :=
  Finset.insert_subset (StableHlo.devRef_mem_tcRefs x) (Finset.singleton_subset_iff.mpr (StableHlo.devRef_mem_tcRefs y))

theorem rop_sub : ∀ q : Fin 8, (rop (F := F) q).bufs ⊆ StableHlo.tcRefs τ sig
  | 0 => two _ _ | 1 => two _ _ | 2 => two _ _ | 3 => two _ _
  | 4 => two _ _ | 5 => two _ _ | 6 => two _ _ | 7 => two _ _
theorem rop_fresh : ∀ q : Fin 8, (rop (F := F) q).fresh = ∅
  | 0 => rfl | 1 => rfl | 2 => rfl | 3 => rfl | 4 => rfl | 5 => rfl | 6 => rfl | 7 => rfl
theorem rop_writes : ∀ q : Fin 8, (rop (F := F) q).writes = {dv (gRef q)}
  | 0 => rfl | 1 => rfl | 2 => rfl | 3 => rfl | 4 => rfl | 5 => rfl | 6 => rfl | 7 => rfl
theorem cop_sub : ∀ r : Fin 7, (cop (F := F) r).bufs ⊆ StableHlo.tcRefs τ sig
  | 0 => two _ _ | 1 => two _ _ | 2 => two _ _ | 3 => two _ _
  | 4 => two _ _ | 5 => two _ _ | 6 => two _ _
theorem cop_fresh : ∀ r : Fin 7, (cop (F := F) r).fresh = ∅
  | 0 => rfl | 1 => rfl | 2 => rfl | 3 => rfl | 4 => rfl | 5 => rfl | 6 => rfl
theorem cop_writes : ∀ r : Fin 7, (cop (F := F) r).writes = {dv (oRef r.succ)}
  | 0 => rfl | 1 => rfl | 2 => rfl | 3 => rfl | 4 => rfl | 5 => rfl | 6 => rfl

theorem g_args : ∀ (q : Fin 8) (b : Ref sig .tc), b ∈ argRefs → b ≠ gRef q := by decide

theorem args_rop {d : Dev nD} {q : Fin 8} {W : Valuation τ sig (Elt F)} (hW : Args m d W) : Args m d ((rop q).result W) :=
  hW.of m fun b hb => StableHlo.result_of_writes_ne _ _ _ _ (rop_writes q) (g_args q b hb)
theorem args_cop {d : Dev nD} {r : Fin 7} {W : Valuation τ sig (Elt F)} (hW : Args m d W) : Args m d ((cop r).result W) :=
  hW.of m fun b hb => StableHlo.result_of_writes_ne _ _ _ _ (cop_writes r) (o_ne r.succ b hb)

/-- The contents after the first call and its combination, and after each next one. -/
def chz (d : Dev nD) (W : Valuation τ sig (Elt F)) : Valuation τ sig (Elt F) := step ((rop 0).result (scat m d 0 W)) 0
def chs (d : Dev nD) (r : Fin 7) (W : Valuation τ sig (Elt F)) : Valuation τ sig (Elt F) :=
  step ((cop r).result ((rop r.succ).result (scat m d r.succ W))) r.succ

theorem args_chz {d : Dev nD} {W : Valuation τ sig (Elt F)} (hW : Args m d W) : Args m d (chz m d W) := args_step m (args_rop m (args_scat m hW))
theorem args_chs {d : Dev nD} {r : Fin 7} {W : Valuation τ sig (Elt F)} (hW : Args m d W) : Args m d (chs m d r W) := args_step m (args_cop m (args_rop m (args_scat m hW)))

/-- One operation of @main, and one pipeline entered. -/
abbrev hl (op : HloOp τ sig (Elt F)) : Prog (TpuEff nD τ sig (Elt F) (SparseCore.Sig (ΛP (F := F)) 8) .tc) PUnit := hlo rfl op fun _ => .ret ⟨⟩
abbrev en (p : Fin 8) : Prog (TpuEff nD τ sig (Elt F) (SparseCore.Sig (ΛP (F := F)) 8) .tc) PUnit := Prog.lift (.customCall (SparseCore.inner (Pipeline.entry p)) ())

theorem chz_step (κ : GSem nD τ sig → ℕ) (d : Dev nD) (W : Valuation τ sig (Elt F)) (hW : Args m d W) {Φ : PUnit → sProp 𝕄}
    (h : St m hpre κ d 1 1 (chz m d W) ⊢ Φ ⟨⟩) :
    St m hpre κ d 0 0 W ⊢ wpm d (sc.run d 0) fun _ => wpm d (hl (rop 0)) fun _ => wpm d (en 0) Φ := by
  refine sc_step m hpre κ d 0 0 W hW ?_
  refine hlo_step m hpre κ d _ _ _ (rop 0) rfl (rop_sub 0) (rop_fresh 0) ?_
  exact region_step m hpre κ d _ 0 _ h

theorem chs_step (κ : GSem nD τ sig → ℕ) (d : Dev nD) (r : Fin 7) (W : Valuation τ sig (Elt F)) (hW : Args m d W) {Φ : PUnit → sProp 𝕄}
    (h : St m hpre κ d (r.succ.val + 1) (r.succ.val + 1) (chs m d r W) ⊢ Φ ⟨⟩) :
    St m hpre κ d r.succ.val r.succ.val W ⊢ wpm d (sc.run d r.succ) fun _ => wpm d (hl (rop r.succ)) fun _ => wpm d (hl (cop r)) fun _ => wpm d (en r.succ) Φ := by
  refine sc_step m hpre κ d _ _ W hW ?_
  refine hlo_step m hpre κ d _ _ _ (rop r.succ) rfl (rop_sub _) (rop_fresh _) ?_
  refine hlo_step m hpre κ d _ _ _ (cop r) rfl (cop_sub r) (cop_fresh r) ?_
  exact region_step m hpre κ d _ r.succ _ h

/-- The constants and the last transpose. -/
def kop : HloOp τ sig (Elt F) := StableHlo.nullary main_cst (fun i => FloatOps.ofBits .bf16 (lit0 (S16x384.rowMajor i)))
def kop' : HloOp τ sig (Elt F) := StableHlo.nullary main_cst_0 (fun i => FloatOps.ofBits .bf16 (lit1 (S128x32.rowMajor i)))
def top : HloOp τ sig (Elt F) := StableHlo.unary main_v23 main_v24 ((transpose S1048576x32 [1, 0] · transposes_S32x1048576_S1048576x32_1_0) : (S32x1048576.Idx → Elt F .f32) → S1048576x32.Idx → Elt F .f32)

def W₀ (d : Dev nD) : Valuation τ sig (Elt F) := fun b => m (d, b)
def Wk (d : Dev nD) : Valuation τ sig (Elt F) := kop'.result (kop.result (W₀ m d))
def Wo (d : Dev nD) : Valuation τ sig (Elt F) :=
  chs m d 6 (chs m d 5 (chs m d 4 (chs m d 3 (chs m d 2 (chs m d 1 (chs m d 0 (chz m d (Wk m d))))))))
/-- The contents at @main's end. -/
def Wf (d : Dev nD) : Valuation τ sig (Elt F) := top.result (Wo m d)

theorem k_args : ∀ b : Ref sig .tc, b ∈ argRefs → b ≠ main_cst ∧ b ≠ main_cst_0 ∧ b ≠ main_v24 := by decide

theorem args_Wk (d : Dev nD) : Args m d (Wk m d) :=
  Args.of m (W := W₀ m d) ⟨⟨rfl, rfl, rfl⟩, rfl⟩ fun b hb => (StableHlo.result_of_writes_ne kop' _ main_cst_0 b rfl (k_args b hb).2.1).trans
    (StableHlo.result_of_writes_ne kop _ main_cst b rfl (k_args b hb).1)

abbrev FIN (d : Dev nD) : sProp 𝕄 := hb (Wf m d) d

theorem hmain (κ : GSem nD τ sig → ℕ) (d : Dev nD) :
    iprop((K (F := F)).ctx EH (P m hpre) κ ∗ (K (F := F)).tcSt EH d 0 ∗ (K (F := F)).tcRes m ρ d ∗ bigSep Finset.univ fun p => gh d p)
      ⊢ wp frame (wpE ((K (F := F)).defs (D (F := F))) 𝒱 (SparseCore.T d) none) Set.univ (main d)
          fun _ => iprop((K (F := F)).tcSt EH d 8 ∗ FIN m d ∗ (K (F := F)).tcEnd d) := by
  unfold SparseCore.Cfg.tcRes SparseCore.Cfg.tcEnd
  simp only [main, wp_bind, wp_pure]
  refine BIBase.Entails.trans (Q := St m hpre κ d 0 0 (W₀ m d)) ?_ ?_
  · have e : (hb (W₀ m d) d : sProp 𝕄) = unscopedBufs d (fun b => m ((SparseCore.T d).loc b)) := (Pipeline.unscopedBufs_held d (W₀ m d)).symm
    unfold St
    rw [e]
    iintro ⟨#Hctx, Hst, ⟨Hb, Hu, Hts, -⟩, Hg⟩
    isplitr; · iexact Hctx
    isplitl [Hst]; · iexact Hst
    isplitl [Hb]; · iexact Hb
    isplitl [Hu]; · iexact Hu
    isplitl [Hg]; · rw [show SparseCore.Cfg.callsFrom (Q := 8) 0 = Finset.univ by decide]; iexact Hg
    iexact Hts
  have A0 := args_Wk m d
  have B0 := args_chz m A0
  have B1 := args_chs m (r := 0) B0
  have B2 := args_chs m (r := 1) B1
  have B3 := args_chs m (r := 2) B2
  have B4 := args_chs m (r := 3) B3
  have B5 := args_chs m (r := 4) B4
  have B6 := args_chs m (r := 5) B5
  refine hlo_step m hpre κ d _ _ _ kop rfl (StableHlo.nullary_bufs_sub _ _ _) rfl ?_
  refine hlo_step m hpre κ d _ _ _ kop' rfl (StableHlo.nullary_bufs_sub _ _ _) rfl ?_
  refine chz_step m hpre κ d _ A0 ?_
  refine chs_step m hpre κ d 0 _ B0 ?_
  refine chs_step m hpre κ d 1 _ B1 ?_
  refine chs_step m hpre κ d 2 _ B2 ?_
  refine chs_step m hpre κ d 3 _ B3 ?_
  refine chs_step m hpre κ d 4 _ B4 ?_
  refine chs_step m hpre κ d 5 _ B5 ?_
  refine chs_step m hpre κ d 6 _ B6 ?_
  refine hlo_step m hpre κ d _ _ _ top rfl (two _ _) rfl ?_
  unfold St
  iintro ⟨-, Hst, Hb, Hh, -, Hts⟩
  imodintro
  isplitl [Hst]; · iexact Hst
  isplitl [Hh]; · iexact Hh
  isplitl [Hb] <;> iassumption

/-- A location owned whole is what the memory holds there. -/
theorem agree {s' : Phys nD τ sig (Elt F)} {ℓ : Loc nD τ sig} {f : Buf (Elt F) ℓ} {R : sProp 𝕄} {φ : Prop} (h : iprop(R ∗ SI s') ⊢ ⌜φ⌝) :
    iprop(((ℓ ↦{fullShare} f) ∗ R) ∗ SI s') ⊢ ⌜s'.mem.mem ℓ = f ∧ φ⌝ := by
  iintro ⟨⟨H, HR⟩, HSI⟩
  ihave H := (persistent_entails_right (SI_pointsTo_agree (st := s') (ℓ := ℓ) (I := Finset.univ) (q := fullShare) (f := f))) $$ [HSI H]
  · isplitl [HSI] <;> iassumption
  icases H with ⟨%h1, HSI, -⟩
  ihave H := h $$ [HR HSI]
  · isplitl [HR] <;> iassumption
  icases H with %h2
  ipureintro; exact ⟨funext fun i => h1 i (Finset.mem_univ i), h2⟩

/-- At the end every buffer of the core outside the pipelines' scopes is at its final contents. -/
def fq (d : Dev nD) (s' : Phys nD τ sig (Elt F)) : Prop := ∀ b ∈ Pipeline.ucRefs τ sig, s'.mem.mem (d, b) = Wf m d b

theorem hfin (d : Dev nD) (s' : Phys nD τ sig (Elt F)) : iprop(FIN m d ∗ SI s') ⊢ (⌜fq m d s'⌝ : sProp 𝕄) := by
  refine (forall_intro fun b => forall_intro fun hm => ?_).trans ((forall_mono fun b => pure_forall.2).trans pure_forall.2)
  unfold FIN hb StableHlo.held
  rw [← Finset.insert_erase hm, bigSep_insert (Finset.notMem_erase _ _)]
  refine (agree (φ := True) ?_).trans (BI.pure_mono fun h => h.1)
  iintro -; ipureintro; trivial

/-! ## The program's run -/

def QC : PUnit × MemSt nD τ sig (Elt F) → Prop := fun r =>
  (∀ d : Dev nD, ∀ b ∈ Pipeline.ucRefs τ sig, r.2.mem (d, b) = Wf m d b) ∧ r.2.sem = fun _ => 0

include hpre in
/-- From any memory whose index words name table rows, every execution ends with the buffers at their final contents. -/
theorem run_main :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m hpre) (A := ∅) facts v₀
    (fun q hq => absurd hq (by fin_cases q <;> exact nofun))
    (fun q _ => tileObl m hpre q)
    (fun q _ => SparseCore.Cfg.VecSplit.of_plain (vecSplit m hpre q))
    m ρ main (fun d => bigSep Finset.univ fun p => gh d p) (FIN m) (u₀ (F := F)) (sep_elim_left.trans (hu₀ m hpre)) (hmain m ρ hpre) (fq m) (hfin m) (QC m) (fun _ h hz => ⟨h, hz⟩)

end Obl

end Cert.Proof.Launch

end
-- ==== Proof.Points.lean ====
/-
  The points' weights and table cells over the extended reals: what the preparation call computes of one block of
  points, and what the plain reference computes of all of them, both as one function of a point's four coordinates.
-/
module

public import proofs.«01_k».proof.Defs
public import proofs.«01_k».proof.Proof.Gen.PrepIdeal.Value
public import proofs.«01_k».proof.Proof.Gen.PrepReferenceIdeal.Run
public import Idealize.ShloMosaic.Lib.Pointwise
public import Idealize.ShloMosaic.Lib.IdealHost
public import Idealize.ShloMosaic.Lib.StableHlo.Predicate

@[expose] public section

set_option maxRecDepth 65536

noncomputable section

namespace Cert.Proof.Points

open Idealize.ShloMosaic Idealize.SL.Sem

/-! ## One point -/

def one : EReal := Ideal.ofBits .f32 0x3F800000#32
def nil : EReal := Ideal.ofBits .f32 0x00000000#32

/-- A value clipped to lie between 0 and `n`. -/
def clip (n : BitVec 32) (v : EReal) : EReal := min ((n.toInt : ℝ) : EReal) (max nil v)
/-- The pixel position of a coordinate along a plane's width, and along its height. -/
def px (v : EReal) : EReal := clip 511#32 ((v + one) * Ideal.ofBits .f32 0x437F8000#32)
def py (v : EReal) : EReal := clip 299#32 ((v + one) * Ideal.ofBits .f32 0x43158000#32)
def fl (v : EReal) : EReal := Ideal.liftRound Int.floor v
def frac (v : EReal) : EReal := v - fl v

/-- The table cell of a pixel position. -/
def cell (x y : EReal) : BitVec 32 := IntOp.addi (IntOp.muli (Ideal.fptosi 32 (fl y)) 512#32) (Ideal.fptosi 32 (fl x))

/-- The weight of corner `c` of a cell. -/
def corner (c : ℕ) (x y : EReal) : EReal :=
  if c = 0 then (one - x) * (one - y) else if c = 1 then x * (one - y) else if c = 2 then (one - x) * y else x * y

/-- The sixteen weights of a point: four for each plane, and four zeros. -/
def wts (x : ℕ → EReal) (y : EReal) (k : ℕ) : EReal := if k < 12 then corner (k % 4) (x (k / 4)) y else nil

/-- Of three values the one of a number. -/
def pick3 {α : Type} (a b c : α) (n : ℕ) : α := if n = 0 then a else if n = 1 then b else c

/-- The weights and the cells of all points. -/
def wOf (P : (⟨2, ![1048576, 4]⟩ : Shape).Idx → EReal) : (⟨2, ![16, 1048576]⟩ : Shape).Idx → EReal := fun j =>
  wts (pick3 (frac (px (P (ix2 (j 1) 0)))) (frac (px (P (ix2 (j 1) 1)))) (frac (px (P (ix2 (j 1) 2))))) (frac (py (P (ix2 (j 1) 3)))) (j 0).val
def cOf (P : (⟨2, ![1048576, 4]⟩ : Shape).Idx → EReal) : (⟨2, ![3, 1048576]⟩ : Shape).Idx → BitVec 32 := fun j =>
  cell (pick3 (px (P (ix2 (j 1) 0))) (px (P (ix2 (j 1) 1))) (px (P (ix2 (j 1) 2))) (j 0).val) (py (P (ix2 (j 1) 3)))

/-! ## A block of points -/

section Block

open Cert.PrepIdeal Cert.PrepIdeal.Gen Cert.PrepIdeal.Value

theorem pay3 (v : Vec Ideal S1x16384 .f32) (j : S1x16384.Idx) : k0_pay3 v j = px (v j) := by
  unfold k0_pay3
  rw [shapeCast_self]; rfl
theorem pay4 (v : Vec Ideal S1x16384 .f32) (j : S1x16384.Idx) : k0_pay4 v j = py (v j) := by
  unfold k0_pay4
  rw [shapeCast_self]; rfl

theorem pay8 (v : Vec Ideal S1x16384 .f32) (j : S1x16384.Idx) : k0_pay8 v j = frac (px (v j)) :=
  congrArg frac (pay3 v j)
theorem pay9 (v : Vec Ideal S1x16384 .f32) (j : S1x16384.Idx) : k0_pay9 v j = frac (py (v j)) :=
  congrArg frac (pay4 v j)

theorem pay10 (v w : Vec Ideal S1x16384 .f32) (j : S1x16384.Idx) : k0_pay10 v w j = corner 0 (frac (px (v j))) (frac (py (w j))) :=
  congrArg₂ (corner 0) (pay8 v j) (pay9 w j)
theorem pay11 (v w : Vec Ideal S1x16384 .f32) (j : S1x16384.Idx) : k0_pay11 v w j = corner 1 (frac (px (v j))) (frac (py (w j))) :=
  congrArg₂ (corner 1) (pay8 v j) (pay9 w j)
theorem pay12 (v w : Vec Ideal S1x16384 .f32) (j : S1x16384.Idx) : k0_pay12 v w j = corner 2 (frac (px (v j))) (frac (py (w j))) :=
  congrArg₂ (corner 2) (pay8 v j) (pay9 w j)
theorem pay13 (v w : Vec Ideal S1x16384 .f32) (j : S1x16384.Idx) :
    k0_pay13 (k0_pay8 v) (k0_pay9 w) j = corner 3 (frac (px (v j))) (frac (py (w j))) :=
  congrArg₂ (corner 3) (pay8 v j) (pay9 w j)

/-- The weights' payload at a position: the other planes' rows are the first plane's at their own coordinate. -/
theorem wpay_apply (P0 P1 P2 P3 : Vec Ideal S1x16384 .f32) (k : Fin 16) (i : Fin 16384) :
    k0_pay1 (k0_pay10 P1 P0) (k0_pay11 P1 P0) (k0_pay12 P1 P0) (k0_pay13 (k0_pay8 P1) (k0_pay9 P0)) (k0_pay10 P2 P0) (k0_pay11 P2 P0) (k0_pay12 P2 P0)
        (k0_pay13 (k0_pay8 P2) (k0_pay9 P0)) (k0_pay8 P3) (k0_pay9 P0) (k0_pay10 P3 P0) (k0_pay11 P3 P0) (k0_pay12 P3 P0) (ix2 k i)
      = wts (pick3 (frac (px (P1 (ix2 0 i)))) (frac (px (P2 (ix2 0 i)))) (frac (px (P3 (ix2 0 i))))) (frac (py (P0 (ix2 0 i)))) k.val := by
  pointwise [k0_pay1]
  simp only [pay8, pay9, pay10, pay11, pay12, pay13]
  fin_cases k
  all_goals first | rfl | exact Ideal.ofBits_zero_f32.symm

/-- The cells' payload at a position. -/
theorem cpay_apply (P0 P1 P2 P3 : Vec Ideal S1x16384 .f32) (k : Fin 3) (i : Fin 16384) :
    k0_pay2 (k0_pay7 P1 P0) (k0_pay7 P2 P0) (k0_pay7 P3 P0) (ix2 k i)
      = cell (pick3 (px (P1 (ix2 0 i))) (px (P2 (ix2 0 i))) (px (P3 (ix2 0 i))) k.val) (py (P0 (ix2 0 i))) := by
  have e : ∀ (v w : Vec Ideal S1x16384 .f32) (j : S1x16384.Idx), k0_pay7 v w j = cell (px (v j)) (py (w j)) := fun v w j =>
    congrArg₂ cell (pay3 v j) (pay4 w j)
  pointwise [k0_pay2]
  simp only [e]
  fin_cases k
  all_goals rfl

theorem ld_row (p : ℕ) (hp : p < 4) (inb : ∀ a, (![p, 0] : Fin 2 → ℕ) a + S1x16384.size a ≤ S4x16384.size a) (x : Vec Ideal S4x16384 .f32) (i : Fin 16384) :
    View.ld (Val := Elt Ideal) (e' := .f32) x (Rect.unit (s := S4x16384) ![p, 0] S1x16384.size inb) (ix2 0 i) = x (ix2 ⟨p, hp⟩ i) := by
  refine congrArg x (funext fun (a : Fin 2) => Fin.ext ?_)
  match a with
  | 0 => rfl
  | 1 => show 0 + 1 * i.val = i.val; omega

/-- What a block of points gives: its weights and its cells. -/
theorem out1_apply (x : Vec Ideal S4x16384 .f32) (k : Fin 16) (i : Fin 16384) :
    out0_1 x (ix2 k i) = wts (pick3 (frac (px (x (ix2 0 i)))) (frac (px (x (ix2 1 i)))) (frac (px (x (ix2 2 i))))) (frac (py (x (ix2 3 i)))) k.val := by
  have z : (![0, 0] : Fin 2 → ℕ) = fun _ => 0 := by funext a; match a with | 0 => rfl | 1 => rfl
  unfold out0_1
  refine (congrFun (View.canon_unit_zero (Val := Elt Ideal) (e := .bf16) z _ _) _).trans ?_
  refine (wpay_apply (View.ld x r0_1) (View.ld x r0_0) (View.ld x r0_2) (View.ld x r0_3) k i).trans ?_
  rw [show View.ld (Val := Elt Ideal) (e' := .f32) x r0_0 (ix2 0 i) = x (ix2 0 i) from ld_row 0 (by decide) _ x i,
    show View.ld (Val := Elt Ideal) (e' := .f32) x r0_1 (ix2 0 i) = x (ix2 3 i) from ld_row 3 (by decide) _ x i,
    show View.ld (Val := Elt Ideal) (e' := .f32) x r0_2 (ix2 0 i) = x (ix2 1 i) from ld_row 1 (by decide) _ x i,
    show View.ld (Val := Elt Ideal) (e' := .f32) x r0_3 (ix2 0 i) = x (ix2 2 i) from ld_row 2 (by decide) _ x i]

theorem out2_apply (x : Vec Ideal S4x16384 .f32) (k : Fin 3) (i : Fin 16384) :
    out0_2 x (ix2 k i) = cell (pick3 (px (x (ix2 0 i))) (px (x (ix2 1 i))) (px (x (ix2 2 i))) k.val) (py (x (ix2 3 i))) := by
  have z : (![0, 0] : Fin 2 → ℕ) = fun _ => 0 := by funext a; match a with | 0 => rfl | 1 => rfl
  unfold out0_2
  refine (congrFun (View.canon_unit_zero (Val := Elt Ideal) (e := .i32) z _ _) _).trans ?_
  refine (cpay_apply (View.ld x r0_1) (View.ld x r0_0) (View.ld x r0_2) (View.ld x r0_3) k i).trans ?_
  rw [show View.ld (Val := Elt Ideal) (e' := .f32) x r0_0 (ix2 0 i) = x (ix2 0 i) from ld_row 0 (by decide) _ x i,
    show View.ld (Val := Elt Ideal) (e' := .f32) x r0_1 (ix2 0 i) = x (ix2 3 i) from ld_row 3 (by decide) _ x i,
    show View.ld (Val := Elt Ideal) (e' := .f32) x r0_2 (ix2 0 i) = x (ix2 1 i) from ld_row 1 (by decide) _ x i,
    show View.ld (Val := Elt Ideal) (e' := .f32) x r0_3 (ix2 0 i) = x (ix2 2 i) from ld_row 2 (by decide) _ x i]

/-! ## All points -/

variable (m : (ℓ : Loc nD τ sig) → Buf (Elt Ideal) ℓ) (c : Dev nD)

/-- The points as launched, and the columns the preparation call reads. -/
def pts : S1048576x4.Idx → EReal := m ((c.tc : Thread nD τ).loc main_arg0)

theorem columns (a : Fin 4) (i : Fin 1048576) : (V m c main_v0 : S4x1048576.Idx → EReal) (ix2 a i) = pts m c (ix2 i a) := by
  refine (congrFun (StableHlo.unary_result main_arg0 main_v0 (transpose S4x1048576 [1, 0] · transposes_S1048576x4_S4x1048576_1_0)
    ⟨by decide, rfl⟩ ⟨by decide, rfl⟩ (fun b => m (c, b))) (ix2 a i)).trans ?_
  pointwise
  rfl

/-- The block index of each window at point `t` of the grid. -/
theorem index_eq : ∀ (w : Fin cfg0.W) (t : Fin cfg0.N) (a : Fin (cfg0.win w).shape.rank), (cfg0.win w).index t a = if a.val = 0 then 0 else t.val := by
  decide +kernel

theorem kind_eq : ∀ w : Fin cfg0.W, (cfg0.win w).kind = .blocked := by decide

theorem flush_eq : ∀ w : Fin cfg0.W, w.val ≠ 0 → ∀ t : Fin cfg0.N, (cfg0.win w).flush t = true := by decide +kernel

theorem emb_eq (w : Fin cfg0.W) (t : Fin cfg0.N) (y : ((cfg0.win w).xblock (cfg0.grid.coords t)).Idx) (a : Fin (cfg0.win w).shape.rank) :
    (((cfg0.win w).rect t).emb y a : ℕ) = (if a.val = 0 then 0 else t.val) * (cfg0.win w).size a + y a := by
  rw [Pipeline.Window.rect_emb_val _ _ _ _ (kind_eq w), index_eq]

/-- The weights and the cells of all points. -/
def wval : S16x1048576.Idx → EReal := wOf (pts m c)
def cval : S3x1048576.Idx → BitVec 32 := cOf (pts m c)

theorem N_eq : cfg0.N = 64 := by decide

/-- The point at position `i` of block `t`. -/
def at' (t : Fin cfg0.N) (i : Fin 16384) : Fin 1048576 :=
  ⟨t.val * 16384 + i.val, by have := t.isLt; have := N_eq; omega⟩

/-- A block of the columns holds the points at its positions. -/
theorem iblk_apply (t : Fin cfg0.N) (a : Fin 4) (i : Fin 16384) :
    (iblk m c 0 t : S4x16384.Idx → EReal) (ix2 a i) = pts m c (ix2 (at' t i) a) := by
  refine Eq.trans ?_ (columns m c a (at' t i))
  refine congrArg (V m c main_v0 : S4x1048576.Idx → EReal) (funext fun (b : Fin 2) => Fin.ext ((emb_eq 0 t (ix2 a i) b).trans ?_))
  match b with
  | 0 => show 0 * 4 + a.val = a.val; omega
  | 1 => rfl

/-- The weights at the end. -/
theorem weights : ((dats m 0 c).arrAt 1 cfg0.N : S16x1048576.Idx → EReal) = wval m c := by
  funext j
  have h1 : (j 1).val < 1048576 := (j 1).isLt
  have hN := N_eq
  let t : Fin cfg0.N := ⟨(j 1).val / 16384, by omega⟩
  let i : Fin 16384 := ⟨(j 1).val % 16384, by omega⟩
  let k : Fin 16 := j 0
  have hi : at' t i = j 1 := Fin.ext (by show (j 1).val / 16384 * 16384 + (j 1).val % 16384 = (j 1).val; omega)
  have e := congrFun (blocks1 m c t (flush_eq 1 (by decide) t)) (ix2 k i)
  rw [flushed1] at e
  have e2 : (((cfg0.win 1).blk t).view.read (Elt Ideal) ((dats m 0 c).arrAt 1 cfg0.N)) (ix2 k i) = (dats m 0 c).arrAt 1 cfg0.N j := by
    refine congrArg ((dats m 0 c).arrAt 1 cfg0.N : S16x1048576.Idx → EReal) (funext fun (b : Fin 2) => Fin.ext ((emb_eq 1 t (ix2 k i) b).trans ?_))
    match b with
    | 0 => show 0 * 16 + (j 0).val = (j 0).val; omega
    | 1 => exact congrArg Fin.val hi
  refine e2.symm.trans (e.trans ((out1_apply (iblk m c 0 t) k i).trans ?_))
  rw [iblk_apply, iblk_apply, iblk_apply, iblk_apply, hi]
  rfl

/-- The cells at the end. -/
theorem cells : ((dats m 0 c).arrAt 2 cfg0.N : S3x1048576.Idx → BitVec 32) = cval m c := by
  funext j
  have h1 : (j 1).val < 1048576 := (j 1).isLt
  have hN := N_eq
  let t : Fin cfg0.N := ⟨(j 1).val / 16384, by omega⟩
  let i : Fin 16384 := ⟨(j 1).val % 16384, by omega⟩
  let k : Fin 3 := j 0
  have hi : at' t i = j 1 := Fin.ext (by show (j 1).val / 16384 * 16384 + (j 1).val % 16384 = (j 1).val; omega)
  have e := congrFun (blocks2 m c t (flush_eq 2 (by decide) t)) (ix2 k i)
  rw [flushed2] at e
  have e2 : (((cfg0.win 2).blk t).view.read (Elt Ideal) ((dats m 0 c).arrAt 2 cfg0.N)) (ix2 k i) = (dats m 0 c).arrAt 2 cfg0.N j := by
    refine congrArg ((dats m 0 c).arrAt 2 cfg0.N : S3x1048576.Idx → BitVec 32) (funext fun (b : Fin 2) => Fin.ext ((emb_eq 2 t (ix2 k i) b).trans ?_))
    match b with
    | 0 => show 0 * 3 + (j 0).val = (j 0).val; omega
    | 1 => exact congrArg Fin.val hi
  refine e2.symm.trans (e.trans ((out2_apply (iblk m c 0 t) k i).trans ?_))
  rw [iblk_apply, iblk_apply, iblk_apply, iblk_apply, hi]
  rfl

end Block

/-! ## The reference's points -/

theorem half_width : Ideal.ofBits .f32 0x3F000000#32 * Ideal.ofBits .f32 0x43FF8000#32 = Ideal.ofBits .f32 0x437F8000#32 := by
  simp [Ideal.ofBits, Ideal.ieee, -EReal.coe_mul]
  norm_cast
  norm_num
theorem half_height : Ideal.ofBits .f32 0x3F000000#32 * Ideal.ofBits .f32 0x43958000#32 = Ideal.ofBits .f32 0x43158000#32 := by
  simp [Ideal.ofBits, Ideal.ieee, -EReal.coe_mul]
  norm_cast
  norm_num

/-- The whole part of a clipped value is a number from 0 to the clip's end. -/
theorem word_clip (n : BitVec 32) (hn : n.toNat < 1024) (v : EReal) :
    ∃ z : ℕ, z ≤ n.toNat ∧ Ideal.fptosi 32 (fl (clip n v)) = BitVec.ofNat 32 z := by
  have hz : nil = ((0 : ℝ) : EReal) := Ideal.ofBits_zero_f32
  have hi : n.toInt = (n.toNat : ℤ) := StableHlo.Predicate.toInt_eq_toNat_of_lt (by omega)
  have hb : clip n v = ⊥ → False := by
    intro h
    have h0 : ((0 : ℝ) : EReal) ≤ clip n v := le_min (EReal.coe_le_coe_iff.2 (by rw [hi]; positivity)) (hz ▸ le_max_left _ _)
    rw [h] at h0
    exact absurd h0 (not_le.2 (EReal.bot_lt_coe 0))
  have h0 : ((0 : ℝ) : EReal) ≤ clip n v := le_min (EReal.coe_le_coe_iff.2 (by rw [hi]; positivity)) (hz ▸ le_max_left _ _)
  have h1 : clip n v ≤ ((n.toInt : ℝ) : EReal) := min_le_left _ _
  generalize clip n v = x at h0 h1
  induction x with
  | bot => exact absurd h0 (not_le.2 (EReal.bot_lt_coe 0))
  | top => exact absurd h1 (not_le.2 (EReal.coe_lt_top _))
  | coe r =>
    have h0 : (0 : ℝ) ≤ r := EReal.coe_le_coe_iff.1 h0
    have h1 : r ≤ ((n.toNat : ℤ) : ℝ) := hi ▸ EReal.coe_le_coe_iff.1 h1
    have f0 : 0 ≤ ⌊r⌋ := Int.floor_nonneg.2 h0
    have f1 : ⌊r⌋ ≤ (n.toNat : ℤ) := by
      have := Int.floor_mono h1
      rwa [Int.floor_intCast] at this
    refine ⟨⌊r⌋.toNat, by omega, ?_⟩
    show BitVec.ofInt 32 (max (-(2 ^ 31 : ℕ)) (min ((2 ^ 31 : ℕ) - 1) (if (0 : ℝ) ≤ ((⌊r⌋ : ℤ) : ℝ) then ⌊((⌊r⌋ : ℤ) : ℝ)⌋ else _))) = _
    rw [if_pos (by exact_mod_cast f0), Int.floor_intCast, show max (-((2 ^ 31 : ℕ) : ℤ)) (min (((2 ^ 31 : ℕ) : ℤ) - 1) ⌊r⌋) = ((⌊r⌋.toNat : ℕ) : ℤ) by omega,
      BitVec.ofInt_natCast]

/-- So clipping it again as a word changes nothing. -/
theorem clip_word (n : BitVec 32) (hn : n.toNat < 1024) (v : EReal) :
    IntOp.minsi n (IntOp.maxsi 0#32 (Ideal.fptosi 32 (fl (clip n v)))) = Ideal.fptosi 32 (fl (clip n v)) := by
  obtain ⟨z, hz, e⟩ := word_clip n hn v
  rw [e]
  have hzv : (BitVec.ofNat 32 z).toNat = z := by rw [BitVec.toNat_ofNat]; omega
  have hzi : (BitVec.ofNat 32 z).toInt = (z : ℤ) := by
    rw [StableHlo.Predicate.toInt_eq_toNat_of_lt (by omega), hzv]
  have hni : n.toInt = (n.toNat : ℤ) := StableHlo.Predicate.toInt_eq_toNat_of_lt (by omega)
  have e1 : IntOp.maxsi 0#32 (BitVec.ofNat 32 z) = BitVec.ofNat 32 z := by
    unfold IntOp.maxsi
    rw [BitVec.slt_eq_decide, hzi]
    split
    · rename_i h
      exact absurd (of_decide_eq_true h) (by show ¬ ((z : ℤ) < 0); omega)
    · rfl
  rw [e1]
  unfold IntOp.minsi
  rw [BitVec.slt_eq_decide, hzi, hni]
  split
  · rename_i h
    exact absurd (of_decide_eq_true h) (by omega)
  · rfl

section Reference

open Cert.PrepReferenceIdeal Cert.PrepReferenceIdeal.Value

variable (V : Valuation τ sig (Elt Ideal))

def rpts : S1048576x4.Idx → EReal := V (Proc.devRef .tc main_arg0)

theorem wide (x : EReal) :
    min (((511#32).toInt : ℝ) : EReal) (max nil ((x + 1) * Ideal.ofBits .f32 0x3F000000#32 * Ideal.ofBits .f32 0x43FF8000#32)) = px x := by
  rw [mul_assoc, half_width, px, one, Ideal.ofBits_one_f32]; rfl
theorem high (x : EReal) :
    min (((299#32).toInt : ℝ) : EReal) (max nil ((x + 1) * Ideal.ofBits .f32 0x3F000000#32 * Ideal.ofBits .f32 0x43958000#32)) = py x := by
  rw [mul_assoc, half_height, py, one, Ideal.ofBits_one_f32]; rfl

theorem v16 (i : Fin 1048576) : res_main_v16 (F := Ideal) V (ix1 i) = px (rpts V (ix2 i 0)) := by
  pointwise [res_main_v16]
  exact wide _
theorem v57 (i : Fin 1048576) : res_main_v57 (F := Ideal) V (ix1 i) = px (rpts V (ix2 i 1)) := by
  pointwise [res_main_v57]
  exact wide _
theorem v98 (i : Fin 1048576) : res_main_v98 (F := Ideal) V (ix1 i) = px (rpts V (ix2 i 2)) := by
  pointwise [res_main_v98]
  exact wide _
theorem v17 (i : Fin 1048576) : res_main_v17 (F := Ideal) V (ix1 i) = py (rpts V (ix2 i 3)) := by
  pointwise [res_main_v17]
  exact high _

/-- The fractions of the pixel positions. -/
theorem v20 (i : Fin 1048576) : res_main_v20 (F := Ideal) V (ix1 i) = frac (px (rpts V (ix2 i 0))) := congrArg frac (v16 V i)
theorem v61 (i : Fin 1048576) : res_main_v61 (F := Ideal) V (ix1 i) = frac (px (rpts V (ix2 i 1))) := congrArg frac (v57 V i)
theorem v102 (i : Fin 1048576) : res_main_v102 (F := Ideal) V (ix1 i) = frac (px (rpts V (ix2 i 2))) := congrArg frac (v98 V i)
theorem v21 (i : Fin 1048576) : res_main_v21 (F := Ideal) V (ix1 i) = frac (py (rpts V (ix2 i 3))) := congrArg frac (v17 V i)
theorem v62 (i : Fin 1048576) : res_main_v62 (F := Ideal) V (ix1 i) = frac (py (rpts V (ix2 i 3))) := v21 V i
theorem v103 (i : Fin 1048576) : res_main_v103 (F := Ideal) V (ix1 i) = frac (py (rpts V (ix2 i 3))) := v21 V i

/-- The whole parts of the pixel positions. -/
theorem v18 (i : Fin 1048576) : res_main_v18 (F := Ideal) V (ix1 i) = fl (px (rpts V (ix2 i 0))) := congrArg fl (v16 V i)
theorem v59 (i : Fin 1048576) : res_main_v59 (F := Ideal) V (ix1 i) = fl (px (rpts V (ix2 i 1))) := congrArg fl (v57 V i)
theorem v100 (i : Fin 1048576) : res_main_v100 (F := Ideal) V (ix1 i) = fl (px (rpts V (ix2 i 2))) := congrArg fl (v98 V i)
theorem v19 (i : Fin 1048576) : res_main_v19 (F := Ideal) V (ix1 i) = fl (py (rpts V (ix2 i 3))) := congrArg fl (v17 V i)
theorem v60 (i : Fin 1048576) : res_main_v60 (F := Ideal) V (ix1 i) = fl (py (rpts V (ix2 i 3))) := v19 V i
theorem v101 (i : Fin 1048576) : res_main_v101 (F := Ideal) V (ix1 i) = fl (py (rpts V (ix2 i 3))) := v19 V i

/-- The reference's clipping of the cells changes nothing. -/
theorem across (x : EReal) :
    IntOp.minsi 511#32 (IntOp.maxsi 0#32 (Ideal.fptosi 32 (fl (px x)))) = Ideal.fptosi 32 (fl (px x)) := by
  unfold px; exact clip_word 511#32 (by decide) _
theorem down (x : EReal) :
    IntOp.minsi 299#32 (IntOp.maxsi 0#32 (Ideal.fptosi 32 (fl (py x)))) = Ideal.fptosi 32 (fl (py x)) := by
  unfold py; exact clip_word 299#32 (by decide) _

/-- A cell of the reference. -/
theorem cell_eq (x y : EReal) :
    IntOp.addi (IntOp.muli (IntOp.minsi (id (constantI S_ 32 299#32) ix0) (IntOp.maxsi (id (constantI S_ 32 0#32) ix0) (FloatOps.fptosi (F := Ideal) (φ := .f32) 32 (fl (py y))))) 512#32)
        (IntOp.minsi (id (constantI S_ 32 511#32) ix0) (IntOp.maxsi (id (constantI S_ 32 0#32) ix0) (FloatOps.fptosi (F := Ideal) (φ := .f32) 32 (fl (px x)))))
      = cell (px x) (py y) :=
  congrArg₂ (fun a b => IntOp.addi (IntOp.muli a 512#32) b) (down y) (across x)

/-- The reference's run ends with the weights and the cells of its points. -/
theorem reference_run (m' : (ℓ : Loc nD τ sig) → Buf (Elt Ideal) ℓ) (ρ : Dev nD → PrngReg) :
    θ_run (defs (F := Ideal)) (onTc (τ := τ) (main (F := Ideal))) ⟨m', fun _ => 0, ρ⟩ fun r => ∀ c : Dev nD,
      r.2.mem ((c.tc : Thread nD τ).loc main_v143) = wOf (m' ((c.tc : Thread nD τ).loc main_arg0))
      ∧ r.2.mem ((c.tc : Thread nD τ).loc main_v147) = cOf (m' ((c.tc : Thread nD τ).loc main_arg0))
      ∧ r.2.mem ((c.tc : Thread nD τ).loc main_arg0) = m' ((c.tc : Thread nD τ).loc main_arg0) := by
  refine (θ_run defs _ _).mono (fun r hr c => ?_) (run m' ρ)
  refine ⟨(hr c).1.trans (funext fun j => ?_), (hr c).2.1.trans (funext fun j => ?_), (hr c).2.2⟩
  · obtain ⟨k, i, rfl⟩ : ∃ (k : Fin 16) (i : Fin 1048576), j = ix2 k i := ⟨j 0, j 1, eq_ix2 j⟩
    clear hr
    pointwise
    simp only [v20, v21, v61, v62, v102, v103]
    rw [← Ideal.ofBits_one_f32]
    change _ = wts (pick3 (frac (px (rpts (StableHlo.launchContents m' c) (ix2 i 0)))) (frac (px (rpts (StableHlo.launchContents m' c) (ix2 i 1))))
      (frac (px (rpts (StableHlo.launchContents m' c) (ix2 i 2))))) (frac (py (rpts (StableHlo.launchContents m' c) (ix2 i 3)))) k.val
    generalize rpts (StableHlo.launchContents m' c) = P
    fin_cases k
    · rfl
    · rfl
    all_goals first | rfl | exact Ideal.ofBits_zero_f32
  · obtain ⟨k, i, rfl⟩ : ∃ (k : Fin 3) (i : Fin 1048576), j = ix2 k i := ⟨j 0, j 1, eq_ix2 j⟩
    clear hr
    pointwise
    simp only [v18, v19, v59, v60, v100, v101, cell_eq]
    fin_cases k
    all_goals rfl

end Reference

end Cert.Proof.Points

end
-- ==== Proof.Lits.lean ====
/-
  The two constant matrices: which of their entries are one.
-/
module

public import proofs.«01_k».proof.Proof.Body1

@[expose] public section

set_option maxRecDepth 65536

noncomputable section

namespace Cert.Proof.Lits

open Cert.KernelIdeal
open Idealize.ShloMosaic

theorem lit0_all : (List.range 6144).all (fun i => lit0t i ==
    if i / 384 = 4 * (i % 384 / 128) + i % 128 / 32 then 0x3F80#16 else 0#16) = true := by
  decide +kernel

theorem lit1_all : (List.range 4096).all (fun i => lit1t i ==
    if i / 32 % 32 = i % 32 then 0x3F80#16 else 0#16) = true := by
  decide +kernel

end Cert.Proof.Lits

end
-- ==== Proof.Sum.lean ====
/-
  The combination kernel's block over the extended reals: the first product picks each lane's weight, the second adds
  the four lanes of a channel.
-/
module

public import proofs.«01_k».proof.Proof.Lits
public import Idealize.ShloMosaic.Lib.Pointwise
public import Idealize.ShloMosaic.Lib.IdealHost

@[expose] public section

set_option maxRecDepth 65536

noncomputable section

namespace Cert.Proof.Sum

open Cert.KernelIdeal Cert.KernelIdeal.Gen Cert.Proof.Body1 Cert.Proof.Lits
open Idealize.ShloMosaic

/-- The two constant matrices. -/
def matE {F : FTy → Type} [FloatOps F] : Vec F S16x384 .bf16 := fun i => FloatOps.ofBits .bf16 (lit0 (S16x384.rowMajor i))
def matS {F : FTy → Type} [FloatOps F] : Vec F S128x32 .bf16 := fun i => FloatOps.ofBits .bf16 (lit1 (S128x32.rowMajor i))

theorem lit0_at (i : Fin 6144) : lit0 i = if i.val / 384 = 4 * (i.val % 384 / 128) + i.val % 128 / 32 then 0x3F80#16 else 0#16 := by
  have h := List.all_eq_true.1 lit0_all i.val (List.mem_range.2 i.isLt)
  exact eq_of_beq h

theorem lit1_at (i : Fin 4096) : lit1 i = if i.val / 32 % 32 = i.val % 32 then 0x3F80#16 else 0#16 := by
  have h := List.all_eq_true.1 lit1_all i.val (List.mem_range.2 i.isLt)
  exact eq_of_beq h

theorem matE_at (k : Fin 16) (l : Fin 384) : matE (F := Ideal) (ix2 k l) = if k.val = 4 * (l.val / 128) + l.val % 128 / 32 then (1 : EReal) else 0 := by
  have hv : (S16x384.rowMajor (ix2 k l)).val = k.val * 384 + l.val := Shape.rowMajor_val_two (d := ![16, 384]) (ix2 k l)
  show Ideal.ofBits .bf16 (lit0 (S16x384.rowMajor (ix2 k l))) = _
  rw [show lit0 (S16x384.rowMajor (ix2 k l)) = _ from lit0_at _, hv]
  have hl := l.isLt
  have e1 : (k.val * 384 + l.val) / 384 = k.val := by omega
  have e2 : (k.val * 384 + l.val) % 384 = l.val := by omega
  have e3 : (k.val * 384 + l.val) % 128 = l.val % 128 := by omega
  rw [e1, e2, e3]
  split
  · exact Ideal.ofBits_one_bf16
  · exact Ideal.ofBits_zero_bf16

theorem matS_at (l : Fin 128) (r : Fin 32) : matS (F := Ideal) (ix2 l r) = if l.val % 32 = r.val then (1 : EReal) else 0 := by
  have hv : (S128x32.rowMajor (ix2 l r)).val = l.val * 32 + r.val := Shape.rowMajor_val_two (d := ![128, 32]) (ix2 l r)
  show Ideal.ofBits .bf16 (lit1 (S128x32.rowMajor (ix2 l r))) = _
  rw [show lit1 (S128x32.rowMajor (ix2 l r)) = _ from lit1_at _, hv]
  have hl := r.isLt
  have e1 : (l.val * 32 + r.val) / 32 % 32 = l.val % 32 := by omega
  have e2 : (l.val * 32 + r.val) % 32 = r.val := by omega
  rw [e1, e2]
  split
  · exact Ideal.ofBits_one_bf16
  · exact Ideal.ofBits_zero_bf16

/-- Lane `c` of channel `r`. -/
def lane (c : Fin 4) (r : Fin 32) : Fin 128 := ⟨32 * c.val + r.val, by omega⟩
/-- The weight of lane `c` for plane `p`. -/
def wrow (p : Fin 3) (c : Fin 4) : Fin 16 := ⟨4 * p.val + c.val, by omega⟩

theorem pick (f : Fin 16 → EReal) (l : Fin 384) (p : Fin 3) (c : Fin 4) (r : Fin 32) (h : l.val = 128 * p.val + (lane c r).val) :
    (∑ k : Fin 16, f k * matE (F := Ideal) (ix2 k l)) = f (wrow p c) := by
  have hl : (lane c r).val = 32 * c.val + r.val := rfl
  have e : 4 * (l.val / 128) + l.val % 128 / 32 = 4 * p.val + c.val := by omega
  refine (Finset.sum_eq_single (wrow p c) (fun k _ hk => ?_) fun h => absurd (Finset.mem_univ _) h).trans ?_
  · rw [matE_at, if_neg, mul_zero]
    rw [e]; exact fun h => hk (Fin.ext h)
  · rw [matE_at, if_pos (e.symm ▸ rfl), mul_one]

theorem four (f : Fin 128 → EReal) (r : Fin 32) :
    (∑ x : Fin 128, matS (F := Ideal) (ix2 x r) * f x) = ((f (lane 0 r) + f (lane 1 r)) + f (lane 2 r)) + f (lane 3 r) := by
  have e : (∑ x : Fin 128, matS (F := Ideal) (ix2 x r) * f x) = ∑ c : Fin 4, f (lane c r) := by
    rw [← (finProdFinEquiv (m := 4) (n := 32)).sum_comp, Fintype.sum_prod_type]
    refine Finset.sum_congr rfl fun c _ => ?_
    have hv : ∀ r' : Fin 32, (finProdFinEquiv (m := 4) (n := 32) (c, r')).val = r'.val + 32 * c.val := fun _ => rfl
    refine (Finset.sum_eq_single r (fun k _ hk => ?_) fun h => absurd (Finset.mem_univ _) h).trans ?_
    · have hk' : k.val ≠ r.val := fun h => hk (Fin.ext h)
      rw [matS_at, if_neg (by rw [hv]; omega), zero_mul]
    · rw [matS_at, if_pos (by rw [hv]; omega), one_mul]
      exact congrArg f (Fin.ext ((hv r).trans (Nat.add_comm _ _)))
  rw [e, Fin.sum_univ_four]

/-- The weighted row of lane `c`, added over the planes. -/
def acc (w : Fin 16 → EReal) (g : Fin 3 → Fin 128 → EReal) (r : Fin 32) (c : Fin 4) : EReal :=
  (g 0 (lane c r) * w (wrow 0 c) + g 1 (lane c r) * w (wrow 1 c)) + g 2 (lane c r) * w (wrow 2 c)

/-- The kernel's sum of a point's weighted rows. -/
def total (w : Fin 16 → EReal) (g : Fin 3 → Fin 128 → EReal) (r : Fin 32) : EReal :=
  ((acc w g r 0 + acc w g r 1) + acc w g r 2) + acc w g r 3

theorem pay_apply (v0 : Vec Ideal S16x2048 .bf16) (v4 v8 v13 : Vec Ideal S1x2048x128 .f32) (r : Fin 32) (i : Fin 2048) :
    k1_pay1 v0 matE v4 v8 v13 matS (ix2 r i)
      = total (fun k => v0 (ix2 k i)) (fun | 0 => fun l => v4 (ix3 0 i l) | 1 => fun l => v8 (ix3 0 i l) | 2 => fun l => v13 (ix3 0 i l)) r := by
  pointwise [k1_pay1]
  rw [four]
  rw [pick _ _ 0 0 r, pick _ _ 1 0 r, pick _ _ 2 0 r, pick _ _ 0 1 r, pick _ _ 1 1 r, pick _ _ 2 1 r, pick _ _ 0 2 r, pick _ _ 1 2 r, pick _ _ 2 2 r, pick _ _ 0 3 r, pick _ _ 1 3 r, pick _ _ 2 3 r]
  · rfl
  all_goals first | rfl | exact (Nat.zero_add _).symm

theorem ld_plane (p : ℕ) (hp : p < 3) (inb : ∀ a, (![p, 0, 0] : Fin 3 → ℕ) a + S1x2048x128.size a ≤ S3x2048x128.size a) (x : Vec Ideal S3x2048x128 .f32)
    (i : Fin 2048) (l : Fin 128) :
    View.ld (Val := Elt Ideal) (e' := .f32) x (Rect.unit (s := S3x2048x128) ![p, 0, 0] S1x2048x128.size inb) (ix3 0 i l) = x (ix3 ⟨p, hp⟩ i l) := by
  refine congrArg x (funext fun (a : Fin 3) => Fin.ext ?_)
  match a with
  | 0 => rfl
  | 1 => show 0 + 1 * i.val = i.val; omega
  | 2 => show 0 + 1 * l.val = l.val; omega

/-- The block of the output at a position. -/
theorem blk_apply (x0 : Vec Ideal S16x2048 .bf16) (x1 : Vec Ideal S3x2048x128 .f32) (r : Fin 32) (i : Fin 2048) :
    blkOut x0 x1 matE matS (ix2 r i) = total (fun k => x0 (ix2 k i)) (fun p l => x1 (ix3 p i l)) r := by
  have z : (![0, 0] : Fin 2 → ℕ) = fun _ => 0 := by funext a; match a with | 0 => rfl | 1 => rfl
  have e0 : View.ld (Val := Elt Ideal) (e' := .bf16) x0 rw' = x0 := View.ld_unit_zero z _ _
  have e2 : View.ld (Val := Elt Ideal) (e' := .bf16) (matE (F := Ideal)) re = matE := View.ld_unit_zero z _ _
  have e3 : View.ld (Val := Elt Ideal) (e' := .bf16) (matS (F := Ideal)) rs = matS := View.ld_unit_zero z _ _
  unfold blkOut
  rw [e0, e2, e3]
  refine (congrFun (View.canon_unit_zero (Val := Elt Ideal) (e := .f32) z _ _) _).trans ?_
  refine (pay_apply x0 _ _ _ r i).trans (congrArg (total _ · r) (funext fun p => funext fun l => ?_))
  match p with
  | 0 => exact ld_plane 0 (by decide) _ x1 i l
  | 1 => exact ld_plane 1 (by decide) _ x1 i l
  | 2 => exact ld_plane 2 (by decide) _ x1 i l

/-- The reference's order of the same sum. -/
theorem total_eq (w : Fin 16 → EReal) (g : Fin 3 → Fin 128 → EReal) (r : Fin 32) (t : Fin 3 → Fin 4 → EReal)
    (h : ∀ p c, t p c = g p (lane c r) * w (wrow p c)) :
    0 + t 0 0 + t 0 1 + t 0 2 + t 0 3 + t 1 0 + t 1 1 + t 1 2 + t 1 3 + t 2 0 + t 2 1 + t 2 2 + t 2 3 = total w g r := by
  unfold total acc
  simp only [← h]
  rw [zero_add]
  ac_rfl

end Cert.Proof.Sum

end
-- ==== Proof.Value.lean ====
/-
  The contents at the program's end: the arguments as they were, and the output transposed, each of its positions the
  combination kernel's value on the block that holds the position.
-/
module

public import proofs.«01_k».proof.Proof.Launch
public import proofs.«01_k».proof.Proof.Sum

@[expose] public section

set_option maxRecDepth 65536

noncomputable section

namespace Cert.Proof.Value

open Cert.KernelIdeal Cert.KernelIdeal.Gen Cert.Proof.Body1 Cert.Proof.Combine Cert.Proof.Launch Cert.Proof.Vals
open Cert.Proof.Sum (matE matS)
open Idealize.ShloMosaic Idealize.ShloMosaic.TcCoe

variable {F : FTy → Type} [FloatOps F]
variable (m : (ℓ : Loc nD τ sig) → Buf (Elt F) ℓ) (d : Dev nD)

/-! ## The buffers that stay -/

abbrev keep : List (Ref sig .tc) := [main_arg0, main_arg1, main_arg2, main_arg3, main_arg4, main_cst, main_cst_0]

theorem keep_y : ∀ (q : Fin 8) (b : Ref sig .tc), b ∈ keep → b ≠ yRef q := by decide
theorem keep_g : ∀ (q : Fin 8) (b : Ref sig .tc), b ∈ keep → b ≠ gRef q := by decide
theorem keep_o : ∀ (q : Fin 8) (b : Ref sig .tc), b ∈ keep → b ≠ oRef q := by decide
theorem keep_t : ∀ (b : Ref sig .tc), b ∈ keep → b ≠ main_v24 := by decide

theorem keep_scat (q : Fin 8) (W : Valuation τ sig (Elt F)) (b : Ref sig .tc) (hb : b ∈ keep) : scat m d q W (dv b) = W (dv b) :=
  scat_of m d q W _ (StableHlo.devRef_ne_of_ne (keep_y q b hb))
theorem keep_rop (q : Fin 8) (W : Valuation τ sig (Elt F)) (b : Ref sig .tc) (hb : b ∈ keep) : (rop q).result W (dv b) = W (dv b) :=
  StableHlo.result_of_writes_ne _ _ _ _ (rop_writes q) (keep_g q b hb)
theorem keep_cop (r : Fin 7) (W : Valuation τ sig (Elt F)) (b : Ref sig .tc) (hb : b ∈ keep) : (cop r).result W (dv b) = W (dv b) :=
  StableHlo.result_of_writes_ne _ _ _ _ (cop_writes r) (keep_o r.succ b hb)

/-- The contents SparseCore call `q` and its reshape leave. -/
def mid (q : Fin 8) (W : Valuation τ sig (Elt F)) : Valuation τ sig (Elt F) := (rop q).result (scat m d q W)

theorem keep_mid (q : Fin 8) (W : Valuation τ sig (Elt F)) (b : Ref sig .tc) (hb : b ∈ keep) : mid m d q W (dv b) = W (dv b) :=
  (keep_rop q _ b hb).trans (keep_scat m d q W b hb)
theorem keep_chz (W : Valuation τ sig (Elt F)) (b : Ref sig .tc) (hb : b ∈ keep) : chz m d W (dv b) = W (dv b) :=
  (step_of _ 0 b (keep_o 0 b hb)).trans (keep_mid m d 0 W b hb)
theorem keep_chs (r : Fin 7) (W : Valuation τ sig (Elt F)) (b : Ref sig .tc) (hb : b ∈ keep) : chs m d r W (dv b) = W (dv b) :=
  (step_of _ r.succ b (keep_o r.succ b hb)).trans ((keep_cop r _ b hb).trans (keep_mid m d r.succ W b hb))

/-! ## One call's rows and outputs -/

theorem gOf_congr (W W' : Valuation τ sig (Elt F)) : ∀ q : Fin 8, W (dv (gRef q)) = W' (dv (gRef q)) → gOf W q = gOf W' q
  | 0, h => h | 1, h => h | 2, h => h | 3, h => h | 4, h => h | 5, h => h | 6, h => h | 7, h => h
theorem oOf_congr (W W' : Valuation τ sig (Elt F)) : ∀ q : Fin 8, W (dv (oRef q)) = W' (dv (oRef q)) → oOf W q = oOf W' q
  | 0, h => h | 1, h => h | 2, h => h | 3, h => h | 4, h => h | 5, h => h | 6, h => h | 7, h => h
theorem oOf_ocon (W : Valuation τ sig (Elt F)) (f : S32x1048576.Idx → Elt F .f32) : ∀ q : Fin 8, W (dv (oRef q)) = ocon f q → oOf W q = f
  | 0, h => h | 1, h => h | 2, h => h | 3, h => h | 4, h => h | 5, h => h | 6, h => h | 7, h => h

theorem oOf_step (W : Valuation τ sig (Elt F)) (p : Fin 8) :
    oOf (step W p) p = comb p.val (W (dv main_arg4)) (gOf W p) (W (dv main_cst)) (W (dv main_cst_0)) (oOf W p) :=
  oOf_ocon _ _ p (step_out W p)

/-- The rows of call `q`, as its combination reads them. -/
abbrev grid (q : Fin 8) : S3x131072x128.Idx → Elt F .f32 :=
  shapeCast S3x131072x128 (gat q (tab m d) (ixs m d)) shapeCasts_S393216x128_S3x131072x128

theorem reshaped (x y : Ref sig .tc) (he hn hx hy) (W : Valuation τ sig (Elt F)) (f : x.ty.Contents (Elt F)) (h : W (dv x) = f) :
    (StableHlo.reshape (τ := τ) x y he hn hx hy).result W (dv y) = fun i => he ▸ shapeCast y.ty.shape f hn i := by
  rw [StableHlo.reshape_result, h]

theorem gOf_rop (W : Valuation τ sig (Elt F)) (f : S393216x128.Idx → Elt F .f32) :
    ∀ q : Fin 8, W (dv (yRef q)) = ycv f q → gOf ((rop q).result W) q = shapeCast S3x131072x128 f shapeCasts_S393216x128_S3x131072x128
  | 0, h => reshaped main_v0 main_v1 rfl shapeCasts_S393216x128_S3x131072x128 ⟨by decide, rfl⟩ ⟨by decide, rfl⟩ W f h
  | 1, h => reshaped main_v3 main_v4 rfl shapeCasts_S393216x128_S3x131072x128 ⟨by decide, rfl⟩ ⟨by decide, rfl⟩ W f h
  | 2, h => reshaped main_v6 main_v7 rfl shapeCasts_S393216x128_S3x131072x128 ⟨by decide, rfl⟩ ⟨by decide, rfl⟩ W f h
  | 3, h => reshaped main_v9 main_v10 rfl shapeCasts_S393216x128_S3x131072x128 ⟨by decide, rfl⟩ ⟨by decide, rfl⟩ W f h
  | 4, h => reshaped main_v12 main_v13 rfl shapeCasts_S393216x128_S3x131072x128 ⟨by decide, rfl⟩ ⟨by decide, rfl⟩ W f h
  | 5, h => reshaped main_v15 main_v16 rfl shapeCasts_S393216x128_S3x131072x128 ⟨by decide, rfl⟩ ⟨by decide, rfl⟩ W f h
  | 6, h => reshaped main_v18 main_v19 rfl shapeCasts_S393216x128_S3x131072x128 ⟨by decide, rfl⟩ ⟨by decide, rfl⟩ W f h
  | 7, h => reshaped main_v21 main_v22 rfl shapeCasts_S393216x128_S3x131072x128 ⟨by decide, rfl⟩ ⟨by decide, rfl⟩ W f h

theorem gOf_mid (q : Fin 8) (W : Valuation τ sig (Elt F)) : gOf (mid m d q W) q = grid m d q :=
  gOf_rop _ _ q (Function.update_self _ _ _)

theorem g_o : ∀ (q : Fin 8) (r : Fin 7), gRef q ≠ oRef r.succ := by decide

theorem gOf_cop (r : Fin 7) (W : Valuation τ sig (Elt F)) (q : Fin 8) : gOf ((cop r).result W) q = gOf W q :=
  gOf_congr _ _ q (StableHlo.result_of_writes_ne _ _ _ _ (cop_writes r) (g_o q r))

theorem oOf_cop (W : Valuation τ sig (Elt F)) : ∀ r : Fin 7, oOf ((cop r).result W) r.succ = oOf W r.castSucc
  | 0 => StableHlo.unary_result main_v2 main_v5 id ⟨by decide, rfl⟩ ⟨by decide, rfl⟩ W
  | 1 => StableHlo.unary_result main_v5 main_v8 id ⟨by decide, rfl⟩ ⟨by decide, rfl⟩ W
  | 2 => StableHlo.unary_result main_v8 main_v11 id ⟨by decide, rfl⟩ ⟨by decide, rfl⟩ W
  | 3 => StableHlo.unary_result main_v11 main_v14 id ⟨by decide, rfl⟩ ⟨by decide, rfl⟩ W
  | 4 => StableHlo.unary_result main_v14 main_v17 id ⟨by decide, rfl⟩ ⟨by decide, rfl⟩ W
  | 5 => StableHlo.unary_result main_v17 main_v20 id ⟨by decide, rfl⟩ ⟨by decide, rfl⟩ W
  | 6 => StableHlo.unary_result main_v20 main_v23 id ⟨by decide, rfl⟩ ⟨by decide, rfl⟩ W

theorem o_y : ∀ (q p : Fin 8), oRef q ≠ yRef p := by decide
theorem o_g : ∀ (q p : Fin 8), oRef q ≠ gRef p := by decide

theorem oOf_mid (q p : Fin 8) (W : Valuation τ sig (Elt F)) : oOf (mid m d q W) p = oOf W p :=
  oOf_congr _ _ p ((StableHlo.result_of_writes_ne _ _ _ _ (rop_writes q) (o_g p q)).trans (scat_of m d q W _ (StableHlo.devRef_ne_of_ne (o_y p q))))

/-! ## The output's value -/

/-- Lane `l` of the table row the index word of plane `p` and point `k` names. -/
def rowAt (p : Fin 3) (k : ℕ) (hk : k < 1048576) (l : Fin 128) : Elt F .f32 :=
  tab m d p (tIx ((ixs m d (iIx p.val k p.isLt hk)).toNat % 153600) (Nat.mod_lt _ (by decide)) l)

/-- The rows of the points of block `n`. -/
def rows (n : ℕ) : Vec F S3x2048x128 .f32 := fun y => rowAt m d (y 0) ((2048 * n + (y 1).val) % 1048576) (Nat.mod_lt _ (by decide)) (y 2)

/-- The output at a position. -/
def val (i : S32x1048576.Idx) : Elt F .f32 :=
  blkOut (wblk (m (d, dv main_arg4)) ((i 1).val / 2048)) (rows m d ((i 1).val / 2048)) matE matS (oix i)

theorem grid_apply (q : Fin 8) (y : S3x131072x128.Idx) (h : 131072 * q.val + (y 1).val < 1048576) :
    grid m d q y = rowAt m d (y 0) (131072 * q.val + (y 1).val) h (y 2) := by
  have h0 : (y 0).val < 3 := (y 0).isLt
  have h1 : (y 1).val < 131072 := (y 1).isLt
  let x : S393216x128.Idx := fun | 0 => (⟨131072 * (y 0).val + (y 1).val, by omega⟩ : Fin 393216) | 1 => y 2
  have ex : (x 0).val = 131072 * (y 0).val + (y 1).val := rfl
  refine (shapeCast_apply _ _ y x ?_).trans ?_
  · refine (Shape.rowMajor_val_two (d := ![393216, 128]) x).trans (Eq.trans ?_ (Shape.rowMajor_val_three (d := ![3, 131072, 128]) y).symm)
    show (131072 * (y 0).val + (y 1).val) * 128 + (y 2).val = ((y 0).val * 131072 + (y 1).val) * 128 + (y 2).val
    omega
  · have e1 : (x 0).val / 131072 = (y 0).val := by omega
    have e2 : (x 0).val % 131072 = (y 1).val := by omega
    have key : ∀ (a b : ℕ) (ha : a < 3) (hb : 131072 * q.val + b < 1048576), a = (y 0).val → b = (y 1).val →
        tab m d ⟨a, ha⟩ (tIx ((ixs m d (iIx a (131072 * q.val + b) ha hb)).toNat % 153600) (Nat.mod_lt _ (by decide)) (y 2))
          = rowAt m d (y 0) (131072 * q.val + (y 1).val) h (y 2) := by
      rintro _ _ _ _ rfl rfl; rfl
    exact key _ _ _ _ e1 e2

theorem gblk_eq (q : Fin 8) (n : ℕ) (h0 : 64 * q.val ≤ n) (h1 : n < 64 * (q.val + 1)) : gblk (grid m d q) (n - 64 * q.val) = rows m d n := by
  funext y
  have hy : (y 1).val < 2048 := (y 1).isLt
  have hq := q.isLt
  have e : ((gix (n - 64 * q.val) y) 1).val = (2048 * (n - 64 * q.val) + (y 1).val) % 131072 := rfl
  have hk : 131072 * q.val + ((gix (n - 64 * q.val) y) 1).val = (2048 * n + (y 1).val) % 1048576 := by rw [e]; omega
  refine (grid_apply m d q (gix (n - 64 * q.val) y) (hk ▸ Nat.mod_lt _ (by decide))).trans ?_
  have key : ∀ (k : ℕ) (h : k < 1048576), k = (2048 * n + (y 1).val) % 1048576 →
      rowAt m d (y 0) k h (y 2) = rows m d n y := by rintro _ _ rfl; rfl
  exact key _ _ hk

/-- What the contents are once the calls up to `k` have run. -/
def Inv (k : Fin 8) (W : Valuation τ sig (Elt F)) : Prop :=
  (W (dv main_arg4) = m (d, dv main_arg4) ∧ W (dv main_cst) = (matE : Vec F S16x384 .bf16) ∧ W (dv main_cst_0) = (matS : Vec F S128x32 .bf16))
  ∧ ∀ i : S32x1048576.Idx, (i 1).val < 131072 * (k.val + 1) → oOf W k i = val m d i

theorem comb_val (q : Fin 8) (prev : S32x1048576.Idx → Elt F .f32) (i : S32x1048576.Idx) (h : (i 1).val < 131072 * (q.val + 1))
    (hp : (i 1).val < 131072 * q.val → prev i = val m d i) :
    comb q.val (m (d, dv main_arg4)) (grid m d q) matE matS prev i = val m d i := by
  unfold comb
  by_cases hc : 64 * q.val ≤ (i 1).val / 2048 ∧ (i 1).val / 2048 < 64 * (q.val + 1)
  · rw [if_pos hc, gblk_eq m d q _ hc.1 hc.2]; rfl
  · rw [if_neg hc]; exact hp (by omega)

theorem inv_step (q : Fin 8) (W : Valuation τ sig (Elt F))
    (hW : W (dv main_arg4) = m (d, dv main_arg4) ∧ W (dv main_cst) = (matE : Vec F S16x384 .bf16) ∧ W (dv main_cst_0) = (matS : Vec F S128x32 .bf16))
    (hg : gOf W q = grid m d q) (ho : ∀ i : S32x1048576.Idx, (i 1).val < 131072 * q.val → oOf W q i = val m d i) : Inv m d q (step W q) := by
  refine ⟨⟨(step_of W q _ (keep_o q _ (by decide))).trans hW.1, (step_of W q _ (keep_o q _ (by decide))).trans hW.2.1,
    (step_of W q _ (keep_o q _ (by decide))).trans hW.2.2⟩, fun i hi => ?_⟩
  rw [oOf_step, hW.1, hW.2.1, hW.2.2, hg]
  exact comb_val m d q _ i hi (ho i)

theorem inv_chz (W : Valuation τ sig (Elt F))
    (hW : W (dv main_arg4) = m (d, dv main_arg4) ∧ W (dv main_cst) = (matE : Vec F S16x384 .bf16) ∧ W (dv main_cst_0) = (matS : Vec F S128x32 .bf16)) :
    Inv m d 0 (chz m d W) :=
  inv_step m d 0 (mid m d 0 W) ⟨(keep_mid m d 0 W _ (by decide)).trans hW.1, (keep_mid m d 0 W _ (by decide)).trans hW.2.1,
    (keep_mid m d 0 W _ (by decide)).trans hW.2.2⟩ (gOf_mid m d 0 W) fun _ h => absurd h (Nat.not_lt_zero _)

theorem inv_chs (r : Fin 7) (W : Valuation τ sig (Elt F)) (hW : Inv m d r.castSucc W) : Inv m d r.succ (chs m d r W) := by
  have hk : ∀ b ∈ keep, (cop r).result (mid m d r.succ W) (dv b) = W (dv b) := fun b hb =>
    (keep_cop r _ b hb).trans (keep_mid m d r.succ W b hb)
  refine inv_step m d r.succ ((cop r).result (mid m d r.succ W)) ⟨(hk _ (by decide)).trans hW.1.1, (hk _ (by decide)).trans hW.1.2.1,
    (hk _ (by decide)).trans hW.1.2.2⟩ ((gOf_cop r _ _).trans (gOf_mid m d r.succ W)) fun i hi => ?_
  rw [oOf_cop, oOf_mid]
  exact hW.2 i hi

theorem Wk_cst : Wk m d (dv main_cst) = (matE : Vec F S16x384 .bf16) :=
  (StableHlo.result_of_writes_ne kop' _ main_cst_0 main_cst rfl (by decide)).trans (StableHlo.nullary_result main_cst _ ⟨by decide, rfl⟩ _)
theorem Wk_cst' : Wk m d (dv main_cst_0) = (matS : Vec F S128x32 .bf16) := StableHlo.nullary_result main_cst_0 _ ⟨by decide, rfl⟩ _

theorem k_keep : ∀ b : Ref sig .tc, b ∈ keep → b ≠ main_cst → b ≠ main_cst_0 → (Wk m d) (dv b) = m (d, dv b) := fun b _ h h' =>
  (StableHlo.result_of_writes_ne kop' _ main_cst_0 b rfl h').trans (StableHlo.result_of_writes_ne kop _ main_cst b rfl h)

theorem inv_Wo : Inv m d 7 (Wo m d) :=
  inv_chs m d 6 _ (inv_chs m d 5 _ (inv_chs m d 4 _ (inv_chs m d 3 _ (inv_chs m d 2 _ (inv_chs m d 1 _ (inv_chs m d 0 _
    (inv_chz m d _ ⟨k_keep m d main_arg4 (by decide) (by decide) (by decide), Wk_cst m d, Wk_cst' m d⟩)))))))

/-- The position in the output of position `j` of the result. -/
def swap (j : S1048576x32.Idx) : S32x1048576.Idx := ix2 (show Fin 32 from j 1) (show Fin 1048576 from j 0)

/-- The result at the program's end. -/
def out : S1048576x32.Idx → Elt F .f32 := fun j => val m d (swap j)

theorem Wo_out : Wo m d (dv main_v23) = val m d := funext fun i =>
  (inv_Wo m d).2 i (have h : (i 1).val < 1048576 := (i 1).isLt; show (i 1).val < 131072 * (7 + 1) by omega)

theorem transposed (f : S32x1048576.Idx → Elt F .f32) (j : S1048576x32.Idx) :
    transpose S1048576x32 [1, 0] f transposes_S32x1048576_S1048576x32_1_0 j = f (swap j) := by
  refine congrArg f (funext fun (a : Fin 2) => ?_)
  match a with
  | 0 => rfl
  | 1 => rfl

theorem top_result (W : Valuation τ sig (Elt F)) :
    (top (F := F)).result W (dv main_v24) = transpose S1048576x32 [1, 0] (W (dv main_v23) : S32x1048576.Idx → Elt F .f32) transposes_S32x1048576_S1048576x32_1_0 :=
  StableHlo.unary_result main_v23 main_v24 _ ⟨by decide, rfl⟩ ⟨by decide, rfl⟩ W

theorem Wf_out : Wf m d (dv main_v24) = out m d := by
  unfold Wf
  rw [top_result, Wo_out]
  exact funext fun j => transposed (val m d) j

theorem Wf_arg (b : Ref sig .tc) (hb : b ∈ keep) (h : b ≠ main_cst) (h' : b ≠ main_cst_0) : Wf m d (dv b) = m (d, dv b) := by
  refine (StableHlo.result_of_writes_ne top _ main_v24 b rfl (keep_t b hb)).trans ?_
  unfold Wo
  rw [keep_chs m d 6 _ b hb, keep_chs m d 5 _ b hb, keep_chs m d 4 _ b hb, keep_chs m d 3 _ b hb, keep_chs m d 2 _ b hb, keep_chs m d 1 _ b hb,
    keep_chs m d 0 _ b hb, keep_chz m d _ b hb]
  exact k_keep m d b hb h h'

/-! ## The result over the extended reals -/

/-- Position `n` of a block of 2048 points. -/
def pos (n : Fin 1048576) : Fin 2048 := ⟨n.val % 2048, Nat.mod_lt _ (by decide)⟩

theorem val_apply (m : (ℓ : Loc nD τ sig) → Buf (Elt Ideal) ℓ) (d : Dev nD) (w : FVec Ideal S16x1048576 .bf16) (hw : m (d, dv main_arg4) = w)
    (r : Fin 32) (n : Fin 1048576) :
    val m d (ix2 r n) = Sum.total (fun k => w (ix2 k n)) (fun p l => rowAt m d p n.val n.isLt l) r := by
  have hn := n.isLt
  have e : oix (ix2 r n) = ix2 r (pos n) := funext fun (a : Fin 2) => match a with | 0 => rfl | 1 => rfl
  have ek : (2048 * (n.val / 2048) + n.val % 2048) % 1048576 = n.val := by omega
  show blkOut (wblk (m (d, dv main_arg4)) (n.val / 2048)) (rows m d (n.val / 2048)) matE matS (oix (ix2 r n)) = _
  rw [e, hw]
  refine (Sum.blk_apply _ _ r (pos n)).trans (congrArg₂ (fun a b => Sum.total a b r) (funext fun k => ?_) (funext fun p => funext fun l => ?_))
  · refine congrArg w (funext fun (a : Fin 2) => Fin.ext ?_)
    match a with
    | 0 => rfl
    | 1 => exact ek
  · have key : ∀ (k : ℕ) (h : k < 1048576), k = n.val → rowAt m d p k h l = rowAt m d p n.val n.isLt l := by rintro _ _ rfl; rfl
    exact key _ _ ek

end Cert.Proof.Value

end
-- ==== Proof.Ref.lean ====
/-
  The reference's value: of each table the rows at its row of the index array, each row's four parts of 32 channels
  times the point's weight for the part, all added up; and that the stated precondition says every index word names a
  table row.
-/
module

public import proofs.«01_k».proof.Defs
public import proofs.«01_k».proof.Proof.Gen.ReferenceIdeal.Run
public import proofs.«01_k».proof.Proof.Gen.Pre_indices_in_range
public import proofs.«01_k».proof.Proof.Value
public import Idealize.ShloMosaic.Lib.ReduceAll
public import Idealize.ShloMosaic.Lib.Pipeline.Value
public import Idealize.ShloMosaic.Lib.StableHlo.Predicate

@[expose] public section

set_option maxRecDepth 65536

noncomputable section

namespace Cert.Proof.Ref

open Cert.ReferenceIdeal Cert.ReferenceIdeal.Gen
open Cert.Proof.Vals Cert.Proof.Value
open Idealize.ShloMosaic

variable {F : FTy → Type} [FloatOps F]

/-! ## The precondition -/

/-- A word that is at least 0 and below 153600 as a signed word is below 153600. -/
theorem word_lt (v : BitVec 32) (e : IntOp.andi (IntOp.cmpi .sge v 0#32) (IntOp.cmpi .slt v 153600#32) = 1#1) : v.toNat < 153600 := by
  obtain ⟨h0, h1⟩ := IntOp.andi_eq_one.1 e
  have h0 := (StableHlo.Predicate.ofBool_eq_one_iff _).1 h0
  have h1 := (StableHlo.Predicate.ofBool_eq_one_iff _).1 h1
  simp only [BitVec.sle_eq_decide, BitVec.slt_eq_decide, decide_eq_true_eq, BitVec.toInt_eq_toNat_cond, BitVec.toNat_ofNat,
    Nat.reducePow, Nat.reduceMod] at h0 h1
  omega

/-- The precondition's one word being 1, every index word names a table row. -/
theorem lt_of_pre (x0 x1 x2 : FVec F S153600x128 .f32) (I : IVec S3x1048576 32) (w : FVec F S16x1048576 .bf16)
    (h : Cert.Pre_indices_in_range.fn (F := F) x0 x1 x2 I w = fun _ => 1#1) (j : S3x1048576.Idx) : (I j).toNat < 153600 := by
  have : Subsingleton Cert.Pre_indices_in_range.S_.Idx := ⟨fun a b => funext fun i => i.elim0⟩
  exact word_lt _ (Host.reduce_andi_all _ _ _ _ (fun i => i.elim0) (congrFun h _) j)

/-! ## The reference's value -/

/-- Row `p` of the index array, as a list of words. -/
def row (p : ℕ) (h : S3x1048576.Slices ![p, 0] S1x1048576) (I : IVec S3x1048576 32) : IVec S1048576 32 :=
  shapeCast S1048576 (extractStridedSlice S1x1048576 ![p, 0] I h) shapeCasts_S1x1048576_S1048576

/-- The start indices the reference reads table `p` at: a negative word moved up by the table's length. -/
def starts (p : ℕ) (h : S3x1048576.Slices ![p, 0] S1x1048576) (I : IVec S3x1048576 32) : IVec S1048576x1 32 :=
  broadcastInDim S1048576x1 ![0] bcast_S1048576_S1048576x1_0
    (select (cmpi .slt (row p h I) (broadcastInDim S1048576 ![] bcast_S_S1048576 (constantI S_ 32 0#32)))
      (addi (row p h I) (broadcastInDim S1048576 ![] bcast_S_S1048576 (constantI S_ 32 153600#32))) (row p h I))

/-- Position `k` of a list of 1048576 words, and of one laid as a column. -/
def vIx (k : Fin 1048576) : S1048576.Idx := fun | 0 => k
def cIx (k : Fin 1048576) : S1048576x1.Idx := fun | 0 => k | 1 => (⟨0, Nat.one_pos⟩ : Fin 1)

theorem row_apply (p : ℕ) (hp : p < 3) (h : S3x1048576.Slices ![p, 0] S1x1048576) (I : IVec S3x1048576 32) (k : Fin 1048576) :
    row p h I (vIx k) = I (iIx p k.val hp k.isLt) := by
  refine congrArg I (funext fun (a : Fin 2) => Fin.ext ?_)
  have e := Shape.reshapeEquiv_cons_one (d := ![1048576]) (show S1048576.numel = (⟨2, Matrix.vecCons 1 ![1048576]⟩ : Shape).numel by decide) (vIx k)
  show (![p, 0] : Fin 2 → ℕ) a + (Shape.reshapeEquiv (s := ⟨2, Matrix.vecCons 1 ![1048576]⟩) (s' := S1048576) _ (vIx k) a).val = _
  rw [e]
  match a with
  | 0 => rfl
  | 1 => exact Nat.zero_add _

theorem column_apply (v : IVec S1048576 32) (k : Fin 1048576) :
    broadcastInDim S1048576x1 ![0] bcast_S1048576_S1048576x1_0 v (cIx k) = v (vIx k) := by
  refine congrArg v (funext fun (a : Fin 1) => ?_)
  match a with
  | 0 => exact dif_neg (show ¬ (1048576 : ℕ) = 1 by decide)

/-- A word in range is not negative, so it is the start index. -/
theorem starts_apply (p : ℕ) (hp : p < 3) (h : S3x1048576.Slices ![p, 0] S1x1048576) (I : IVec S3x1048576 32) (k : Fin 1048576)
    (hI : ∀ j, (I j).toNat < 153600) : starts p h I (cIx k) = I (iIx p k.val hp k.isLt) := by
  refine (column_apply _ k).trans ?_
  refine Eq.trans (if_neg ?_) (row_apply p hp h I k)
  show ¬ IntOp.cmpi .slt (row p h I (vIx k)) 0#32 = 1#1
  rw [row_apply p hp h I k]
  intro c
  have c := (StableHlo.Predicate.ofBool_eq_one_iff _).1 c
  have := hI (iIx p k.val hp k.isLt)
  simp only [BitVec.slt_eq_decide, decide_eq_true_eq, BitVec.toInt_eq_toNat_cond, BitVec.toNat_ofNat,
    Nat.reducePow, Nat.reduceMod] at c
  omega

/-- The rows of a table at a list of start indices that name rows of it. -/
theorem rows_apply {α : Type} (x : S153600x128.Idx → α) (s : IVec S1048576x1 32) (y : S1048576x128.Idx)
    (hs : (s (cIx (y 0))).toNat < 153600) :
    Host.gather gather_S153600x128_S1048576x1_S1048576x128_1_0_n_n_0_1_1128 x s y = x (tIx (s (cIx (y 0))).toNat hs (y 1)) := by
  refine congrArg x (funext fun (a : Fin 2) => Fin.ext ?_)
  match a with
  | 0 =>
    show min (s _).toInt.toNat 153599 + 0 + 0 = _
    have e : ∀ j : S1048576x1.Idx, j = cIx (y 0) → min (s j).toInt.toNat 153599 + 0 + 0 = (s (cIx (y 0))).toNat := by
      rintro _ rfl
      rw [StableHlo.Predicate.toInt_eq_toNat_of_lt (by omega)]; omega
    refine e _ (funext fun (b : Fin 2) => ?_)
    match b with
    | 0 => rfl
    | 1 => rfl
  | 1 =>
    show 0 + 0 + (y 1).val = _
    rw [Nat.zero_add]; rfl

/-- One part of 32 lanes of a table's rows, from lane `o` on, times row `k` of the weights. -/
def part (p o k : ℕ) (h : S3x1048576.Slices ![p, 0] S1x1048576) (ho : S1048576x128.Slices ![0, o] S1048576x32) (hk : S16x1048576.Slices ![k, 0] S1x1048576)
    (T : FVec F S153600x128 .f32) (I : IVec S3x1048576 32) (w : FVec F S16x1048576 .bf16) : FVec F S1048576x32 .f32 :=
  mulf (extractStridedSlice S1048576x32 ![0, o] (Host.gather gather_S153600x128_S1048576x1_S1048576x128_1_0_n_n_0_1_1128 T (starts p h I)) ho)
    (broadcastInDim S1048576x32 ![0, 1] bcast_S1048576x1_S1048576x32_0_1 (broadcastInDim S1048576x1 ![0] bcast_S1048576_S1048576x1_0
      (shapeCast S1048576 (extractStridedSlice S1x1048576 ![k, 0] (extf .f32 w bitsLt_bf16_f32) hk) shapeCasts_S1x1048576_S1048576)))

/-- A row of the weights, as a list, at a point. -/
theorem wrow_apply {α : Type} (k : Fin 16) (hk : S16x1048576.Slices ![k.val, 0] S1x1048576) (W : S16x1048576.Idx → α) (n : Fin 1048576) :
    shapeCast S1048576 (extractStridedSlice S1x1048576 ![k.val, 0] W hk) shapeCasts_S1x1048576_S1048576 (vIx n) = W (ix2 k n) := by
  refine congrArg W (funext fun (a : Fin 2) => Fin.ext ?_)
  have e := Shape.reshapeEquiv_cons_one (d := ![1048576]) (show S1048576.numel = (⟨2, Matrix.vecCons 1 ![1048576]⟩ : Shape).numel by decide) (vIx n)
  show (![k.val, 0] : Fin 2 → ℕ) a + (Shape.reshapeEquiv (s := ⟨2, Matrix.vecCons 1 ![1048576]⟩) (s' := S1048576) _ (vIx n) a).val = _
  rw [e]
  match a with
  | 0 => rfl
  | 1 => exact Nat.zero_add _

/-- A list laid along the rows of 32 channels. -/
theorem along_apply {α : Type} (v : S1048576.Idx → α) (n : Fin 1048576) (r : Fin 32) :
    broadcastInDim S1048576x32 ![0, 1] bcast_S1048576x1_S1048576x32_0_1 (broadcastInDim S1048576x1 ![0] bcast_S1048576_S1048576x1_0 v) (ix2 n r) = v (vIx n) := by
  refine congrArg v (funext fun (a : Fin 1) => Fin.ext ?_)
  match a with
  | 0 => rfl

theorem part_apply (p : Fin 3) (c : Fin 4) (o k : ℕ) (eo : o = 32 * c.val) (ek : k = 4 * p.val + c.val)
    (h : S3x1048576.Slices ![p.val, 0] S1x1048576) (ho : S1048576x128.Slices ![0, o] S1048576x32) (hk : S16x1048576.Slices ![k, 0] S1x1048576)
    (T : FVec Ideal S153600x128 .f32) (I : IVec S3x1048576 32) (w : FVec Ideal S16x1048576 .bf16) (hI : ∀ j, (I j).toNat < 153600)
    (n : Fin 1048576) (r : Fin 32) :
    part p.val o k h ho hk T I w (ix2 n r)
      = T (tIx (I (iIx p.val n.val p.isLt n.isLt)).toNat (hI _) (Sum.lane c r)) * w (ix2 (Sum.wrow p c) n) := by
  subst eo ek
  have e := starts_apply p.val p.isLt h I n hI
  have hs : (starts p.val h I (cIx n)).toNat < 153600 := by rw [e]; exact hI _
  refine congrArg₂ (fun a b : EReal => a * b) ?_ ?_
  · refine Eq.trans ?_ ((rows_apply T (starts p.val h I) (ix2 n (Sum.lane c r)) hs).trans ?_)
    · refine congrArg (Host.gather gather_S153600x128_S1048576x1_S1048576x128_1_0_n_n_0_1_1128 T (starts p.val h I)) (funext fun (a : Fin 2) => Fin.ext ?_)
      match a with
      | 0 => exact Nat.zero_add _
      | 1 => rfl
    · refine congrArg T (funext fun (a : Fin 2) => ?_)
      match a with
      | 0 =>
        refine Fin.ext ?_
        show (starts p.val h I (cIx n)).toNat = _
        rw [e]; rfl
      | 1 => rfl
  · refine (along_apply _ n r).trans ?_
    exact wrow_apply (Sum.wrow p c) hk w n

/-- The reference's result as a term of its arguments. -/
def value (T : Fin 3 → FVec F S153600x128 .f32) (I : IVec S3x1048576 32) (w : FVec F S16x1048576 .bf16) : FVec F S1048576x32 .f32 :=
  (addf (addf (addf (addf (addf (addf (addf (addf (addf (addf (addf (addf (broadcastInDim S1048576x32 ![] bcast_S_S1048576x32 (constant S_ .f32 0x00000000#32))
    (part 0 0 0 slices_S3x1048576_S1x1048576_0_0 slices_S1048576x128_S1048576x32_0_0 slices_S16x1048576_S1x1048576_0_0 (T 0) I w))
    (part 0 32 1 slices_S3x1048576_S1x1048576_0_0 slices_S1048576x128_S1048576x32_0_32 slices_S16x1048576_S1x1048576_1_0 (T 0) I w))
    (part 0 64 2 slices_S3x1048576_S1x1048576_0_0 slices_S1048576x128_S1048576x32_0_64 slices_S16x1048576_S1x1048576_2_0 (T 0) I w))
    (part 0 96 3 slices_S3x1048576_S1x1048576_0_0 slices_S1048576x128_S1048576x32_0_96 slices_S16x1048576_S1x1048576_3_0 (T 0) I w))
    (part 1 0 4 slices_S3x1048576_S1x1048576_1_0 slices_S1048576x128_S1048576x32_0_0 slices_S16x1048576_S1x1048576_4_0 (T 1) I w))
    (part 1 32 5 slices_S3x1048576_S1x1048576_1_0 slices_S1048576x128_S1048576x32_0_32 slices_S16x1048576_S1x1048576_5_0 (T 1) I w))
    (part 1 64 6 slices_S3x1048576_S1x1048576_1_0 slices_S1048576x128_S1048576x32_0_64 slices_S16x1048576_S1x1048576_6_0 (T 1) I w))
    (part 1 96 7 slices_S3x1048576_S1x1048576_1_0 slices_S1048576x128_S1048576x32_0_96 slices_S16x1048576_S1x1048576_7_0 (T 1) I w))
    (part 2 0 8 slices_S3x1048576_S1x1048576_2_0 slices_S1048576x128_S1048576x32_0_0 slices_S16x1048576_S1x1048576_8_0 (T 2) I w))
    (part 2 32 9 slices_S3x1048576_S1x1048576_2_0 slices_S1048576x128_S1048576x32_0_32 slices_S16x1048576_S1x1048576_9_0 (T 2) I w))
    (part 2 64 10 slices_S3x1048576_S1x1048576_2_0 slices_S1048576x128_S1048576x32_0_64 slices_S16x1048576_S1x1048576_10_0 (T 2) I w))
    (part 2 96 11 slices_S3x1048576_S1x1048576_2_0 slices_S1048576x128_S1048576x32_0_96 slices_S16x1048576_S1x1048576_11_0 (T 2) I w))

theorem value_apply (T : Fin 3 → FVec Ideal S153600x128 .f32) (I : IVec S3x1048576 32) (w : FVec Ideal S16x1048576 .bf16) (hI : ∀ j, (I j).toNat < 153600)
    (n : Fin 1048576) (r : Fin 32) :
    value T I w (ix2 n r) = Sum.total (fun k => w (ix2 k n)) (fun p l => T p (tIx (I (iIx p.val n.val p.isLt n.isLt)).toNat (hI _) l)) r := by
  refine Eq.trans ?_ (Sum.total_eq _ _ r (fun p c => T p (tIx (I (iIx p.val n.val p.isLt n.isLt)).toNat (hI _) (Sum.lane c r)) * w (ix2 (Sum.wrow p c) n)) fun _ _ => rfl)
  have q := fun (p : Fin 3) (c : Fin 4) (o k : ℕ) (eo : o = 32 * c.val) (ek : k = 4 * p.val + c.val) h ho hk =>
    part_apply p c o k eo ek h ho hk (T p) I w hI n r
  have z : (broadcastInDim S1048576x32 ![] bcast_S_S1048576x32 (constant (F := Ideal) S_ .f32 0x00000000#32)) (ix2 n r) = (0 : EReal) := Ideal.ofBits_zero_f32
  have a : ∀ (x y : FVec Ideal S1048576x32 .f32) (j), addf x y j = (x j + y j : EReal) := fun _ _ _ => rfl
  unfold value
  simp only [a, z]
  rw [show part 0 0 0 _ _ _ (T 0) I w (ix2 n r) = _ from q 0 0 0 0 rfl rfl _ _ _, show part 0 32 1 _ _ _ (T 0) I w (ix2 n r) = _ from q 0 1 32 1 rfl rfl _ _ _, show part 0 64 2 _ _ _ (T 0) I w (ix2 n r) = _ from q 0 2 64 2 rfl rfl _ _ _, show part 0 96 3 _ _ _ (T 0) I w (ix2 n r) = _ from q 0 3 96 3 rfl rfl _ _ _, show part 1 0 4 _ _ _ (T 1) I w (ix2 n r) = _ from q 1 0 0 4 rfl rfl _ _ _, show part 1 32 5 _ _ _ (T 1) I w (ix2 n r) = _ from q 1 1 32 5 rfl rfl _ _ _, show part 1 64 6 _ _ _ (T 1) I w (ix2 n r) = _ from q 1 2 64 6 rfl rfl _ _ _, show part 1 96 7 _ _ _ (T 1) I w (ix2 n r) = _ from q 1 3 96 7 rfl rfl _ _ _, show part 2 0 8 _ _ _ (T 2) I w (ix2 n r) = _ from q 2 0 0 8 rfl rfl _ _ _, show part 2 32 9 _ _ _ (T 2) I w (ix2 n r) = _ from q 2 1 32 9 rfl rfl _ _ _, show part 2 64 10 _ _ _ (T 2) I w (ix2 n r) = _ from q 2 2 64 10 rfl rfl _ _ _, show part 2 96 11 _ _ _ (T 2) I w (ix2 n r) = _ from q 2 3 96 11 rfl rfl _ _ _]

end Cert.Proof.Ref

end
-- ==== Proof.Twin.lean ====
/- The two prints of the kernel are the same program: what is proved over the bits of the one is proved of the other. -/
module

public import proofs.«01_k».proof.Defs
public import proofs.«01_k».proof.Proof.Gen.Kernel
public import proofs.«01_k».proof.Proof.Gen.KernelIdeal
public import proofs.«01_k».proof.Proof.Gen.Pre_indices_in_range

@[expose] public section

set_option maxRecDepth 65536
set_option maxHeartbeats 40000000

noncomputable section

namespace Cert.Proof.Twin

open Idealize.ShloMosaic Idealize.SL.Sem

/-- What `quiescent_Kernel` says of the kernel, said over the bits of the print that is read over the extended reals. -/
def Ends : Prop :=
  ∀ (m : (ℓ : Loc Cert.KernelIdeal.nD Cert.KernelIdeal.τ Cert.KernelIdeal.sig) → Buf (Elt Bits) ℓ) (ρ : Dev Cert.KernelIdeal.nD → PrngReg),
    (∀ c : Dev Cert.KernelIdeal.nD, Cert.Pre_indices_in_range.fn (F := Bits) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) = fun _ => 1#1) →
    θ_run (Cert.KernelIdeal.defs (F := Bits)) (Cert.KernelIdeal.threads (F := Bits)) ⟨m, fun _ => 0, ρ⟩ fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0

/-- The two tables of bodies agree on the TensorCore, label by label, -/
theorem tc_eq (l : Fin 16) : ∀ a, Cert.Kernel.defs₀ (F := Bits) .tc l a = Cert.KernelIdeal.defs₀ (F := Bits) .tc l a := by
  fin_cases l <;> intro a <;> eq_refl

/-- on a SparseCore's sequencer, -/
theorem seq_eq (c : Fin Cert.Kernel.τ.nSC) (l : Fin 16) :
    ∀ a, Cert.Kernel.defs₀ (F := Bits) (.scScalar c) l a = Cert.KernelIdeal.defs₀ (F := Bits) (.scScalar c) l a := by
  fin_cases l <;> intro a <;> eq_refl

/-- and on a tile. -/
theorem tile_eq (c : Fin Cert.Kernel.τ.nSC) (s : Fin Cert.Kernel.τ.nSub) (l : Fin 16) :
    ∀ a, Cert.Kernel.defs₀ (F := Bits) (.scVector c s) l a = Cert.KernelIdeal.defs₀ (F := Bits) (.scVector c s) l a := by
  fin_cases l <;> intro a <;> eq_refl

theorem defs₀_eq : Cert.Kernel.defs₀ (F := Bits) = Cert.KernelIdeal.defs₀ (F := Bits) := by
  funext p l a
  cases p with
  | tc => exact tc_eq l a
  | scScalar c => exact seq_eq c l a
  | scVector c s => exact tile_eq c s l a

theorem defs_eq : Cert.Kernel.defs (F := Bits) = Cert.KernelIdeal.defs (F := Bits) := by
  unfold Cert.Kernel.defs
  rw [defs₀_eq]
  eq_refl

theorem main_eq : Cert.Kernel.main (F := Bits) = Cert.KernelIdeal.main (F := Bits) := by
  eq_refl

theorem threads_eq : Cert.Kernel.threads (F := Bits) = Cert.KernelIdeal.threads (F := Bits) := by
  unfold Cert.Kernel.threads
  rw [main_eq]
  eq_refl

/-- So what is proved of the one is proved of the other. -/
theorem frame (h : Ends) : Cert.quiescent_Kernel := by
  intro m ρ hpre
  rw [defs_eq, threads_eq]
  exact h m ρ hpre

end Cert.Proof.Twin

end
-- ==== Proof.lean ====
module

public import proofs.«01_k».proof.Defs
public import proofs.«01_k».proof.Proof.Gen.Kernel
public import proofs.«01_k».proof.Proof.Gen.ReferenceIdeal
public import proofs.«01_k».proof.Proof.Gen.Prep.Frame
public import proofs.«01_k».proof.Proof.Gen.PrepIdeal.Frame
public import proofs.«01_k».proof.Proof.Gen.PrepIdeal.Value
public import proofs.«01_k».proof.Proof.Gen.PrepReferenceIdeal.Run
public import proofs.«01_k».proof.Proof.Launch
public import proofs.«01_k».proof.Proof.Points
public import proofs.«01_k».proof.Proof.Ref
public import proofs.«01_k».proof.Proof.Twin
public import Idealize.ShloMosaic.Adequacy
public import Idealize.ShloMosaic.Init

@[expose] public section

noncomputable section

namespace Cert.Proof

open Idealize.ShloMosaic Idealize.SL.Sem
open Cert.Proof.Vals Cert.Proof.Split Cert.Proof.Launch Cert.Proof.Value

variable {F : FTy → Type} [FloatOps F]

/-- A memory that ends as the run does has at an argument what the memory at the launch has. -/
theorem kept (m : (ℓ : Loc Cert.KernelIdeal.nD Cert.KernelIdeal.τ Cert.KernelIdeal.sig) → Buf (Elt F) ℓ) (c : Dev Cert.KernelIdeal.nD)
    {m' : (ℓ : Loc Cert.KernelIdeal.nD Cert.KernelIdeal.τ Cert.KernelIdeal.sig) → Buf (Elt F) ℓ}
    (h : ∀ b ∈ Pipeline.ucRefs Cert.KernelIdeal.τ Cert.KernelIdeal.sig, m' (c, b) = Wf m c b) (b : Ref Cert.KernelIdeal.sig .tc) (hb : b ∈ keep)
    (h1 : b ≠ Cert.KernelIdeal.main_cst) (h2 : b ≠ Cert.KernelIdeal.main_cst_0) (hs : ¬ (Combine.dv b).isScoped) :
    m' ((c.tc : Thread Cert.KernelIdeal.nD Cert.KernelIdeal.τ).loc b) = m ((c.tc : Thread Cert.KernelIdeal.nD Cert.KernelIdeal.τ).loc b) :=
  (h _ (mem_uc b hs)).trans (Wf_arg m c b hb h1 h2)

/-- The kernel's run, its arguments and its result read by name. -/
theorem kernel_run [∀ e, Nonempty (Elt F e)] (m : (ℓ : Loc Cert.KernelIdeal.nD Cert.KernelIdeal.τ Cert.KernelIdeal.sig) → Buf (Elt F) ℓ)
    (ρ : Dev Cert.KernelIdeal.nD → PrngReg) (hpre : PreOK m) :
    θ_run (Cert.KernelIdeal.defs (F := F)) (Cert.KernelIdeal.threads (F := F)) ⟨m, fun _ => 0, ρ⟩ fun r =>
      (∀ c : Dev Cert.KernelIdeal.nD,
        r.2.mem ((c.tc : Thread Cert.KernelIdeal.nD Cert.KernelIdeal.τ).loc Cert.KernelIdeal.main_v24) = out m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0 :=
  (θ_run Cert.KernelIdeal.defs _ _).mono
    (fun _ h => ⟨fun c =>
      have w := kept m c (h.1 c)
      ⟨(h.1 c _ (mem_uc Cert.KernelIdeal.main_v24 (by decide))).trans (Wf_out m c),
        w Cert.KernelIdeal.main_arg0 (by decide) (by decide) (by decide) (by decide), w Cert.KernelIdeal.main_arg1 (by decide) (by decide) (by decide) (by decide),
        w Cert.KernelIdeal.main_arg2 (by decide) (by decide) (by decide) (by decide), w Cert.KernelIdeal.main_arg3 (by decide) (by decide) (by decide) (by decide),
        w Cert.KernelIdeal.main_arg4 (by decide) (by decide) (by decide) (by decide)⟩, h.2⟩)
    (run_main m ρ hpre)

/-- The kernel's result is the reference's value of the kernel's arguments. -/
theorem out_eq (m : (ℓ : Loc Cert.KernelIdeal.nD Cert.KernelIdeal.τ Cert.KernelIdeal.sig) → Buf (Elt Ideal) ℓ) (hpre : PreOK m) (c : Dev Cert.KernelIdeal.nD) :
    Ref.value (F := Ideal) (tab m c) (ixs m c) (m (c, Combine.dv Cert.KernelIdeal.main_arg4)) = out m c := by
  funext j
  have ej : j = ix2 (show Fin 1048576 from j 0) (show Fin 32 from j 1) := funext fun (a : Fin 2) => match a with | 0 => rfl | 1 => rfl
  refine (congrArg _ ej).trans ((Ref.value_apply (tab m c) (ixs m c) _ (hpre c) (j 0) (j 1)).trans (Eq.symm ((val_apply m c _ rfl (j 1) (j 0)).trans ?_)))
  refine congrArg (fun a => Sum.total _ a _) (funext fun p => funext fun l => ?_)
  refine congrArg (tab m c p) (funext fun (a : Fin 2) => ?_)
  match a with
  | 0 => exact Fin.ext (Nat.mod_eq_of_lt (hpre c _))
  | 1 => rfl

/-- The reference's run from a memory `m'` whose arguments are those of the kernel's memory `m`: it ends with the
    kernel's result. -/
theorem reference_run (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (ρ : Dev Cert.ReferenceIdeal.nD → PrngReg) (hpre : PreOK m)
    (h : ∀ c : Dev Cert.KernelIdeal.nD,
      m' ((c.tc : Thread Cert.ReferenceIdeal.nD Cert.ReferenceIdeal.τ).loc Cert.ReferenceIdeal.main_arg0) = tab m c 0
      ∧ m' ((c.tc : Thread Cert.ReferenceIdeal.nD Cert.ReferenceIdeal.τ).loc Cert.ReferenceIdeal.main_arg1) = tab m c 1
      ∧ m' ((c.tc : Thread Cert.ReferenceIdeal.nD Cert.ReferenceIdeal.τ).loc Cert.ReferenceIdeal.main_arg2) = tab m c 2
      ∧ m' ((c.tc : Thread Cert.ReferenceIdeal.nD Cert.ReferenceIdeal.τ).loc Cert.ReferenceIdeal.main_arg3) = ixs m c
      ∧ m' ((c.tc : Thread Cert.ReferenceIdeal.nD Cert.ReferenceIdeal.τ).loc Cert.ReferenceIdeal.main_arg4) = m (c, Combine.dv Cert.KernelIdeal.main_arg4)) :
    θ_run (Cert.ReferenceIdeal.defs (F := Ideal)) (onTc (τ := Cert.ReferenceIdeal.τ) (Cert.ReferenceIdeal.main (F := Ideal))) ⟨m', fun _ => 0, ρ⟩ fun r =>
      ∀ c : Dev Cert.ReferenceIdeal.nD,
        r.2.mem ((c.tc : Thread Cert.ReferenceIdeal.nD Cert.ReferenceIdeal.τ).loc Cert.ReferenceIdeal.main_v112) = out m c
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4) := by
  refine (θ_run Cert.ReferenceIdeal.defs _ _).mono (fun r hr c => ?_) (Cert.ReferenceIdeal.Value.run m' ρ)
  obtain ⟨h0, h1, h2, h3, h4⟩ := h c
  refine ⟨(hr c).1.trans (Eq.trans ?_ (out_eq m hpre c)), (hr c).2⟩
  unfold Cert.ReferenceIdeal.Value.res_main_v112
  rw [h0, h1, h2, h3, h4]
  rfl

/-- The reference runs, its arguments end unchanged and, having no semaphore, it ends with every counter at zero. -/
theorem reference_ends (m' : (ℓ : Loc Cert.ReferenceIdeal.nD Cert.ReferenceIdeal.τ Cert.ReferenceIdeal.sig) → Buf (Elt F) ℓ)
    (ρ : Dev Cert.ReferenceIdeal.nD → PrngReg) :
    θ_run (Cert.ReferenceIdeal.defs (F := F)) (onTc (τ := Cert.ReferenceIdeal.τ) (Cert.ReferenceIdeal.main (F := F))) ⟨m', fun _ => 0, ρ⟩ fun r =>
      (∀ c : Dev Cert.ReferenceIdeal.nD,
        r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))
      ∧ r.2.sem = fun _ => 0 :=
  (θ_run Cert.ReferenceIdeal.defs _ _).mono (fun r h => ⟨fun c => (h c).2, sem_eq_zero_of_no_sems (by decide) r.2⟩)
    (Cert.ReferenceIdeal.Value.run m' ρ)

theorem frame_kernel : Cert.quiescent_Kernel :=
  Twin.frame fun m ρ h =>
    (θ_run Cert.KernelIdeal.defs _ _).mono (fun _ h => ⟨fun c => (h.1 c).2, h.2⟩)
      (kernel_run (F := Bits) m ρ fun d => Ref.lt_of_pre (F := Bits) _ _ _ _ _ (h d))

theorem frame_kernelIdeal : Cert.quiescent_KernelIdeal := fun m ρ h =>
  (θ_run Cert.KernelIdeal.defs _ _).mono (fun _ h => ⟨fun c => (h.1 c).2, h.2⟩)
    (kernel_run (F := Ideal) m ρ fun d => Ref.lt_of_pre (F := Ideal) _ _ _ _ _ (h d))

theorem algebraic : Cert.algebraic_KernelIdeal_ReferenceIdeal := fun m ρ m' ρ' h hargs =>
  have hpre : PreOK m := fun d => Ref.lt_of_pre (F := Ideal) _ _ _ _ _ (h d)
  ⟨fun c => out m c, (θ_run Cert.KernelIdeal.defs _ _).mono (fun _ h => h.1) (kernel_run m ρ hpre),
    reference_run m m' ρ' hpre hargs⟩

/-- The reference of the preparation runs, its argument ends unchanged and every counter is at zero. -/
theorem prep_reference_ends (m' : (ℓ : Loc Cert.PrepReferenceIdeal.nD Cert.PrepReferenceIdeal.τ Cert.PrepReferenceIdeal.sig) → Buf (Elt F) ℓ)
    (ρ : Dev Cert.PrepReferenceIdeal.nD → PrngReg) :
    θ_run (Cert.PrepReferenceIdeal.defs (F := F)) (onTc (τ := Cert.PrepReferenceIdeal.τ) (Cert.PrepReferenceIdeal.main (F := F))) ⟨m', fun _ => 0, ρ⟩ fun r =>
      (∀ c : Dev Cert.PrepReferenceIdeal.nD,
        r.2.mem ((c.tc : Thread Cert.PrepReferenceIdeal.nD Cert.PrepReferenceIdeal.τ).loc Cert.PrepReferenceIdeal.main_arg0) = m' ((c.tc : Thread Cert.PrepReferenceIdeal.nD Cert.PrepReferenceIdeal.τ).loc Cert.PrepReferenceIdeal.main_arg0))
      ∧ r.2.sem = fun _ => 0 :=
  (θ_run Cert.PrepReferenceIdeal.defs _ _).mono (fun r h => ⟨fun c => (h c).2.2, sem_eq_zero_of_no_sems (by decide) r.2⟩)
    (Cert.PrepReferenceIdeal.Value.run m' ρ)

/-- The preparation and its reference end with the same weights and the same cells. -/
theorem algebraic_prep : Cert.algebraic_PrepIdeal_PrepReferenceIdeal := fun m ρ m' ρ' _ hargs =>
  ⟨fun c => Points.wval m c, fun c => Points.cval m c,
    (θ_run Cert.PrepIdeal.defs _ _).mono (fun _ h c => ⟨(h c).1.trans (Points.weights m c), (h c).2.1.trans (Points.cells m c), (h c).2.2⟩)
      (Cert.PrepIdeal.Value.run_blocks m ρ),
    (θ_run Cert.PrepReferenceIdeal.defs _ _).mono
      (fun _ h c => ⟨(h c).1.trans (congrArg Points.wOf (hargs c)), (h c).2.1.trans (congrArg Points.cOf (hargs c)), (h c).2.2⟩)
      (Points.reference_run m' ρ')⟩

theorem claim : Cert.Claim :=
  ⟨Cert.Kernel.Gen.facts, Cert.KernelIdeal.Gen.facts, Cert.ReferenceIdeal.Gen.facts, Cert.Prep.Gen.facts, Cert.PrepIdeal.Gen.facts,
    Cert.PrepReferenceIdeal.Gen.facts, Cert.Pre_indices_in_range.Gen.facts,
    frame_kernel, frame_kernelIdeal, fun m ρ _ => reference_ends (F := Ideal) m ρ, fun m ρ _ => reference_ends (F := Ideal) m ρ,
    fun m ρ _ => Cert.Prep.Gen.frame m ρ, fun m ρ _ => Cert.PrepIdeal.Gen.frame m ρ, fun m ρ _ => prep_reference_ends (F := Ideal) m ρ,
    trivial, algebraic, trivial, algebraic_prep⟩

end Cert.Proof

end
